-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_BranchDx (m : (ℓ : Loc Cert.BranchDx.nD Cert.BranchDx.τ Cert.BranchDx.sig) → Buf (Elt Bits) ℓ) : Prop :=
  True

def Pre_BranchDxIdeal (m : (ℓ : Loc Cert.BranchDxIdeal.nD Cert.BranchDxIdeal.τ Cert.BranchDxIdeal.sig) → Buf (Elt Ideal) ℓ) : Prop :=
  True

def Pre_BranchDxRefIdeal (m : (ℓ : Loc Cert.BranchDxRefIdeal.nD Cert.BranchDxRefIdeal.τ Cert.BranchDxRefIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwRefIdeal (m : (ℓ : Loc Cert.BranchDwRefIdeal.nD Cert.BranchDwRefIdeal.τ Cert.BranchDwRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_StepIn (m : (ℓ : Loc Cert.StepIn.nD Cert.StepIn.τ Cert.StepIn.sig) → Buf (Elt Bits) ℓ) : Prop :=
  True

def Pre_StepInIdeal (m : (ℓ : Loc Cert.StepInIdeal.nD Cert.StepInIdeal.τ Cert.StepInIdeal.sig) → Buf (Elt Ideal) ℓ) : Prop :=
  True

def Pre_StepInRefIdeal (m : (ℓ : Loc Cert.StepInRefIdeal.nD Cert.StepInRefIdeal.τ Cert.StepInRefIdeal.sig) → Buf (Elt Ideal) ℓ) : Prop :=
  True

def Pre_StepAda (m : (ℓ : Loc Cert.StepAda.nD Cert.StepAda.τ Cert.StepAda.sig) → Buf (Elt Bits) ℓ) : Prop :=
  True

def Pre_StepAdaIdeal (m : (ℓ : Loc Cert.StepAdaIdeal.nD Cert.StepAdaIdeal.τ Cert.StepAdaIdeal.sig) → Buf (Elt Ideal) ℓ) : Prop :=
  True

def Pre_StepAdaRefIdeal (m : (ℓ : Loc Cert.StepAdaRefIdeal.nD Cert.StepAdaRefIdeal.τ Cert.StepAdaRefIdeal.sig) → Buf (Elt Ideal) ℓ) : Prop :=
  True

def Pre_StepBranch (m : (ℓ : Loc Cert.StepBranch.nD Cert.StepBranch.τ Cert.StepBranch.sig) → Buf (Elt Bits) ℓ) : Prop :=
  True

def Pre_StepBranchIdeal (m : (ℓ : Loc Cert.StepBranchIdeal.nD Cert.StepBranchIdeal.τ Cert.StepBranchIdeal.sig) → Buf (Elt Ideal) ℓ) : Prop :=
  True

def Pre_StepBranchRefIdeal (m : (ℓ : Loc Cert.StepBranchRefIdeal.nD Cert.StepBranchRefIdeal.τ Cert.StepBranchRefIdeal.sig) → Buf (Elt Ideal) ℓ) : Prop :=
  True

def Pre_StepOut (m : (ℓ : Loc Cert.StepOut.nD Cert.StepOut.τ Cert.StepOut.sig) → Buf (Elt Bits) ℓ) : Prop :=
  True

def Pre_StepOutIdeal (m : (ℓ : Loc Cert.StepOutIdeal.nD Cert.StepOutIdeal.τ Cert.StepOutIdeal.sig) → Buf (Elt Ideal) ℓ) : Prop :=
  True

def Pre_StepOutRefIdeal (m : (ℓ : Loc Cert.StepOutRefIdeal.nD Cert.StepOutRefIdeal.τ Cert.StepOutRefIdeal.sig) → Buf (Elt Ideal) ℓ) : Prop :=
  True

def Pre_StepUp (m : (ℓ : Loc Cert.StepUp.nD Cert.StepUp.τ Cert.StepUp.sig) → Buf (Elt Bits) ℓ) : Prop :=
  True

def Pre_StepUpIdeal (m : (ℓ : Loc Cert.StepUpIdeal.nD Cert.StepUpIdeal.τ Cert.StepUpIdeal.sig) → Buf (Elt Ideal) ℓ) : Prop :=
  True

def Pre_StepUpRefIdeal (m : (ℓ : Loc Cert.StepUpRefIdeal.nD Cert.StepUpRefIdeal.τ Cert.StepUpRefIdeal.sig) → Buf (Elt Ideal) ℓ) : Prop :=
  True

def Pre_StepDown (m : (ℓ : Loc Cert.StepDown.nD Cert.StepDown.τ Cert.StepDown.sig) → Buf (Elt Bits) ℓ) : Prop :=
  True

def Pre_StepDownIdeal (m : (ℓ : Loc Cert.StepDownIdeal.nD Cert.StepDownIdeal.τ Cert.StepDownIdeal.sig) → Buf (Elt Ideal) ℓ) : Prop :=
  True

def Pre_StepDownRefIdeal (m : (ℓ : Loc Cert.StepDownRefIdeal.nD Cert.StepDownRefIdeal.τ Cert.StepDownRefIdeal.sig) → Buf (Elt Ideal) ℓ) : Prop :=
  True

def Pre_StepSmall (m : (ℓ : Loc Cert.StepSmall.nD Cert.StepSmall.τ Cert.StepSmall.sig) → Buf (Elt Bits) ℓ) : Prop :=
  True

def Pre_StepSmallIdeal (m : (ℓ : Loc Cert.StepSmallIdeal.nD Cert.StepSmallIdeal.τ Cert.StepSmallIdeal.sig) → Buf (Elt Ideal) ℓ) : Prop :=
  True

def Pre_StepSmallRefIdeal (m : (ℓ : Loc Cert.StepSmallRefIdeal.nD Cert.StepSmallRefIdeal.τ Cert.StepSmallRefIdeal.sig) → Buf (Elt Ideal) ℓ) : Prop :=
  True

def Pre_Norm1Bwd (m : (ℓ : Loc Cert.Norm1Bwd.nD Cert.Norm1Bwd.τ Cert.Norm1Bwd.sig) → Buf (Elt Bits) ℓ) : Prop :=
  True

def Pre_Norm1BwdIdeal (m : (ℓ : Loc Cert.Norm1BwdIdeal.nD Cert.Norm1BwdIdeal.τ Cert.Norm1BwdIdeal.sig) → Buf (Elt Ideal) ℓ) : Prop :=
  True

def Pre_Norm1BwdRefIdeal (m : (ℓ : Loc Cert.Norm1BwdRefIdeal.nD Cert.Norm1BwdRefIdeal.τ Cert.Norm1BwdRefIdeal.sig) → Buf (Elt Ideal) ℓ) : Prop :=
  True

def Pre_Norm2Bwd (m : (ℓ : Loc Cert.Norm2Bwd.nD Cert.Norm2Bwd.τ Cert.Norm2Bwd.sig) → Buf (Elt Bits) ℓ) : Prop :=
  True

def Pre_Norm2BwdIdeal (m : (ℓ : Loc Cert.Norm2BwdIdeal.nD Cert.Norm2BwdIdeal.τ Cert.Norm2BwdIdeal.sig) → Buf (Elt Ideal) ℓ) : Prop :=
  True

def Pre_Norm2BwdRefIdeal (m : (ℓ : Loc Cert.Norm2BwdRefIdeal.nD Cert.Norm2BwdRefIdeal.τ Cert.Norm2BwdRefIdeal.sig) → Buf (Elt Ideal) ℓ) : Prop :=
  True

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdRefIdeal (m : (ℓ : Loc Cert.LossBwdRefIdeal.nD Cert.LossBwdRefIdeal.τ Cert.LossBwdRefIdeal.sig) → Buf (Elt Ideal) ℓ) : Prop :=
  True

def Pre_CfLnBwd (m : (ℓ : Loc Cert.CfLnBwd.nD Cert.CfLnBwd.τ Cert.CfLnBwd.sig) → Buf (Elt Bits) ℓ) : Prop :=
  True

def Pre_CfLnBwdIdeal (m : (ℓ : Loc Cert.CfLnBwdIdeal.nD Cert.CfLnBwdIdeal.τ Cert.CfLnBwdIdeal.sig) → Buf (Elt Ideal) ℓ) : Prop :=
  True

def Pre_CfLnBwdRefIdeal (m : (ℓ : Loc Cert.CfLnBwdRefIdeal.nD Cert.CfLnBwdRefIdeal.τ Cert.CfLnBwdRefIdeal.sig) → Buf (Elt Ideal) ℓ) : Prop :=
  True

def Pre_AdaDw (m : (ℓ : Loc Cert.AdaDw.nD Cert.AdaDw.τ Cert.AdaDw.sig) → Buf (Elt Bits) ℓ) : Prop :=
  True

def Pre_AdaDwIdeal (m : (ℓ : Loc Cert.AdaDwIdeal.nD Cert.AdaDwIdeal.τ Cert.AdaDwIdeal.sig) → Buf (Elt Ideal) ℓ) : Prop :=
  True

def Pre_AdaDwRefIdeal (m : (ℓ : Loc Cert.AdaDwRefIdeal.nD Cert.AdaDwRefIdeal.τ Cert.AdaDwRefIdeal.sig) → Buf (Elt Ideal) ℓ) : Prop :=
  True

def Pre_SmallSum (m : (ℓ : Loc Cert.SmallSum.nD Cert.SmallSum.τ Cert.SmallSum.sig) → Buf (Elt Bits) ℓ) : Prop :=
  True

def Pre_SmallSumIdeal (m : (ℓ : Loc Cert.SmallSumIdeal.nD Cert.SmallSumIdeal.τ Cert.SmallSumIdeal.sig) → Buf (Elt Ideal) ℓ) : Prop :=
  True

def Pre_SmallSumRefIdeal (m : (ℓ : Loc Cert.SmallSumRefIdeal.nD Cert.SmallSumRefIdeal.τ Cert.SmallSumRefIdeal.sig) → Buf (Elt Ideal) ℓ) : Prop :=
  True

def Pre_Norm1Fwd (m : (ℓ : Loc Cert.Norm1Fwd.nD Cert.Norm1Fwd.τ Cert.Norm1Fwd.sig) → Buf (Elt Bits) ℓ) : Prop :=
  True

def Pre_Norm1FwdIdeal (m : (ℓ : Loc Cert.Norm1FwdIdeal.nD Cert.Norm1FwdIdeal.τ Cert.Norm1FwdIdeal.sig) → Buf (Elt Ideal) ℓ) : Prop :=
  True

def Pre_Norm1FwdRefIdeal (m : (ℓ : Loc Cert.Norm1FwdRefIdeal.nD Cert.Norm1FwdRefIdeal.τ Cert.Norm1FwdRefIdeal.sig) → Buf (Elt Ideal) ℓ) : Prop :=
  True

def Pre_Norm2Fwd (m : (ℓ : Loc Cert.Norm2Fwd.nD Cert.Norm2Fwd.τ Cert.Norm2Fwd.sig) → Buf (Elt Bits) ℓ) : Prop :=
  True

def Pre_Norm2FwdIdeal (m : (ℓ : Loc Cert.Norm2FwdIdeal.nD Cert.Norm2FwdIdeal.τ Cert.Norm2FwdIdeal.sig) → Buf (Elt Ideal) ℓ) : Prop :=
  True

def Pre_Norm2FwdRefIdeal (m : (ℓ : Loc Cert.Norm2FwdRefIdeal.nD Cert.Norm2FwdRefIdeal.τ Cert.Norm2FwdRefIdeal.sig) → Buf (Elt Ideal) ℓ) : Prop :=
  True

def Pre_CfLnFwd (m : (ℓ : Loc Cert.CfLnFwd.nD Cert.CfLnFwd.τ Cert.CfLnFwd.sig) → Buf (Elt Bits) ℓ) : Prop :=
  True

def Pre_CfLnFwdIdeal (m : (ℓ : Loc Cert.CfLnFwdIdeal.nD Cert.CfLnFwdIdeal.τ Cert.CfLnFwdIdeal.sig) → Buf (Elt Ideal) ℓ) : Prop :=
  True

def Pre_CfLnFwdRefIdeal (m : (ℓ : Loc Cert.CfLnFwdRefIdeal.nD Cert.CfLnFwdRefIdeal.τ Cert.CfLnFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_DnPostFwd (m : (ℓ : Loc Cert.DnPostFwd.nD Cert.DnPostFwd.τ Cert.DnPostFwd.sig) → Buf (Elt Bits) ℓ) : Prop :=
  True

def Pre_DnPostFwdIdeal (m : (ℓ : Loc Cert.DnPostFwdIdeal.nD Cert.DnPostFwdIdeal.τ Cert.DnPostFwdIdeal.sig) → Buf (Elt Ideal) ℓ) : Prop :=
  True

def Pre_DnPostFwdRefIdeal (m : (ℓ : Loc Cert.DnPostFwdRefIdeal.nD Cert.DnPostFwdRefIdeal.τ Cert.DnPostFwdRefIdeal.sig) → Buf (Elt Ideal) ℓ) : Prop :=
  True

def Pre_AdaMod (m : (ℓ : Loc Cert.AdaMod.nD Cert.AdaMod.τ Cert.AdaMod.sig) → Buf (Elt Bits) ℓ) : Prop :=
  True

def Pre_AdaModIdeal (m : (ℓ : Loc Cert.AdaModIdeal.nD Cert.AdaModIdeal.τ Cert.AdaModIdeal.sig) → Buf (Elt Ideal) ℓ) : Prop :=
  True

def Pre_AdaModRefIdeal (m : (ℓ : Loc Cert.AdaModRefIdeal.nD Cert.AdaModRefIdeal.τ Cert.AdaModRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_BranchDx [hBranchDx : Cert.BranchDx.Facts] : Prop :=
  ∀ (m : (ℓ : Loc Cert.BranchDx.nD Cert.BranchDx.τ Cert.BranchDx.sig) → Buf (Elt Bits) ℓ) (g : Dev Cert.BranchDx.nD → PrngReg), Pre_BranchDx m →
    θ_run (Cert.BranchDx.defs (F := Bits)) (onTc (τ := Cert.BranchDx.τ) (Cert.BranchDx.main (F := Bits))) ⟨m, fun _ => 0, g⟩ (fun r => (∀ c : Dev Cert.BranchDx.nD,
      r.2.mem ((c.tc : Thread Cert.BranchDx.nD Cert.BranchDx.τ).loc Cert.BranchDx.main_arg0) = m ((c.tc : Thread Cert.BranchDx.nD Cert.BranchDx.τ).loc Cert.BranchDx.main_arg0)
      ∧ r.2.mem ((c.tc : Thread Cert.BranchDx.nD Cert.BranchDx.τ).loc Cert.BranchDx.main_arg1) = m ((c.tc : Thread Cert.BranchDx.nD Cert.BranchDx.τ).loc Cert.BranchDx.main_arg1))
      ∧ r.2.sem = fun _ => 0)

def quiescent_BranchDxIdeal [hBranchDxIdeal : Cert.BranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg), Pre_BranchDxIdeal m →
    θ_run (Cert.BranchDxIdeal.defs (F := Ideal)) (onTc (τ := Cert.BranchDxIdeal.τ) (Cert.BranchDxIdeal.main (F := Ideal))) ⟨m, fun _ => 0, g⟩ (fun r => (∀ c : Dev Cert.BranchDxIdeal.nD,
      r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
      ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ r.2.sem = fun _ => 0)

def quiescent_BranchDxRefIdeal [hBranchDxRefIdeal : Cert.BranchDxRefIdeal.Facts] : Prop :=
  ∀ (m : (ℓ : Loc Cert.BranchDxRefIdeal.nD Cert.BranchDxRefIdeal.τ Cert.BranchDxRefIdeal.sig) → Buf (Elt Ideal) ℓ) (g : Dev Cert.BranchDxRefIdeal.nD → PrngReg), Pre_BranchDxRefIdeal m →
    θ_run (Cert.BranchDxRefIdeal.defs (F := Ideal)) (onTc (τ := Cert.BranchDxRefIdeal.τ) (Cert.BranchDxRefIdeal.main (F := Ideal))) ⟨m, fun _ => 0, g⟩ (fun r => (∀ c : Dev Cert.BranchDxRefIdeal.nD,
      r.2.mem ((c.tc : Thread Cert.BranchDxRefIdeal.nD Cert.BranchDxRefIdeal.τ).loc Cert.BranchDxRefIdeal.main_arg0) = m ((c.tc : Thread Cert.BranchDxRefIdeal.nD Cert.BranchDxRefIdeal.τ).loc Cert.BranchDxRefIdeal.main_arg0)
      ∧ r.2.mem ((c.tc : Thread Cert.BranchDxRefIdeal.nD Cert.BranchDxRefIdeal.τ).loc Cert.BranchDxRefIdeal.main_arg1) = m ((c.tc : Thread Cert.BranchDxRefIdeal.nD Cert.BranchDxRefIdeal.τ).loc Cert.BranchDxRefIdeal.main_arg1))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ r.2.sem = fun _ => 0)

def quiescent_BranchDwRefIdeal [hBranchDwRefIdeal : Cert.BranchDwRefIdeal.Facts] : Prop :=
  ∀ (m : (ℓ : Loc Cert.BranchDwRefIdeal.nD Cert.BranchDwRefIdeal.τ Cert.BranchDwRefIdeal.sig) → Buf (Elt Ideal) ℓ) (g : Dev Cert.BranchDwRefIdeal.nD → PrngReg), Pre_BranchDwRefIdeal m →
    θ_run (Cert.BranchDwRefIdeal.defs (F := Ideal)) (onTc (τ := Cert.BranchDwRefIdeal.τ) (Cert.BranchDwRefIdeal.main (F := Ideal))) ⟨m, fun _ => 0, g⟩ (fun r => (∀ c : Dev Cert.BranchDwRefIdeal.nD,
      r.2.mem ((c.tc : Thread Cert.BranchDwRefIdeal.nD Cert.BranchDwRefIdeal.τ).loc Cert.BranchDwRefIdeal.main_arg0) = m ((c.tc : Thread Cert.BranchDwRefIdeal.nD Cert.BranchDwRefIdeal.τ).loc Cert.BranchDwRefIdeal.main_arg0)
      ∧ r.2.mem ((c.tc : Thread Cert.BranchDwRefIdeal.nD Cert.BranchDwRefIdeal.τ).loc Cert.BranchDwRefIdeal.main_arg1) = m ((c.tc : Thread Cert.BranchDwRefIdeal.nD Cert.BranchDwRefIdeal.τ).loc Cert.BranchDwRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0)

def quiescent_StepIn [hStepIn : Cert.StepIn.Facts] : Prop :=
  ∀ (m : (ℓ : Loc Cert.StepIn.nD Cert.StepIn.τ Cert.StepIn.sig) → Buf (Elt Bits) ℓ) (g : Dev Cert.StepIn.nD → PrngReg), Pre_StepIn m →
    θ_run (Cert.StepIn.defs (F := Bits)) (onTc (τ := Cert.StepIn.τ) (Cert.StepIn.main (F := Bits))) ⟨m, fun _ => 0, g⟩ (fun r => (∀ c : Dev Cert.StepIn.nD,
      r.2.mem ((c.tc : Thread Cert.StepIn.nD Cert.StepIn.τ).loc Cert.StepIn.main_arg0) = m ((c.tc : Thread Cert.StepIn.nD Cert.StepIn.τ).loc Cert.StepIn.main_arg0)
      ∧ r.2.mem ((c.tc : Thread Cert.StepIn.nD Cert.StepIn.τ).loc Cert.StepIn.main_arg1) = m ((c.tc : Thread Cert.StepIn.nD Cert.StepIn.τ).loc Cert.StepIn.main_arg1)
      ∧ r.2.mem ((c.tc : Thread Cert.StepIn.nD Cert.StepIn.τ).loc Cert.StepIn.main_arg2) = m ((c.tc : Thread Cert.StepIn.nD Cert.StepIn.τ).loc Cert.StepIn.main_arg2)
      ∧ r.2.mem ((c.tc : Thread Cert.StepIn.nD Cert.StepIn.τ).loc Cert.StepIn.main_arg3) = m ((c.tc : Thread Cert.StepIn.nD Cert.StepIn.τ).loc Cert.StepIn.main_arg3))
      ∧ r.2.sem = fun _ => 0)

def quiescent_StepInIdeal [hStepInIdeal : Cert.StepInIdeal.Facts] : Prop :=
  ∀ (m : (ℓ : Loc Cert.StepInIdeal.nD Cert.StepInIdeal.τ Cert.StepInIdeal.sig) → Buf (Elt Ideal) ℓ) (g : Dev Cert.StepInIdeal.nD → PrngReg), Pre_StepInIdeal m →
    θ_run (Cert.StepInIdeal.defs (F := Ideal)) (onTc (τ := Cert.StepInIdeal.τ) (Cert.StepInIdeal.main (F := Ideal))) ⟨m, fun _ => 0, g⟩ (fun r => (∀ c : Dev Cert.StepInIdeal.nD,
      r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
      ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
      ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
      ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ r.2.sem = fun _ => 0)

def quiescent_StepInRefIdeal [hStepInRefIdeal : Cert.StepInRefIdeal.Facts] : Prop :=
  ∀ (m : (ℓ : Loc Cert.StepInRefIdeal.nD Cert.StepInRefIdeal.τ Cert.StepInRefIdeal.sig) → Buf (Elt Ideal) ℓ) (g : Dev Cert.StepInRefIdeal.nD → PrngReg), Pre_StepInRefIdeal m →
    θ_run (Cert.StepInRefIdeal.defs (F := Ideal)) (onTc (τ := Cert.StepInRefIdeal.τ) (Cert.StepInRefIdeal.main (F := Ideal))) ⟨m, fun _ => 0, g⟩ (fun r => (∀ c : Dev Cert.StepInRefIdeal.nD,
      r.2.mem ((c.tc : Thread Cert.StepInRefIdeal.nD Cert.StepInRefIdeal.τ).loc Cert.StepInRefIdeal.main_arg0) = m ((c.tc : Thread Cert.StepInRefIdeal.nD Cert.StepInRefIdeal.τ).loc Cert.StepInRefIdeal.main_arg0)
      ∧ r.2.mem ((c.tc : Thread Cert.StepInRefIdeal.nD Cert.StepInRefIdeal.τ).loc Cert.StepInRefIdeal.main_arg1) = m ((c.tc : Thread Cert.StepInRefIdeal.nD Cert.StepInRefIdeal.τ).loc Cert.StepInRefIdeal.main_arg1)
      ∧ r.2.mem ((c.tc : Thread Cert.StepInRefIdeal.nD Cert.StepInRefIdeal.τ).loc Cert.StepInRefIdeal.main_arg2) = m ((c.tc : Thread Cert.StepInRefIdeal.nD Cert.StepInRefIdeal.τ).loc Cert.StepInRefIdeal.main_arg2)
      ∧ r.2.mem ((c.tc : Thread Cert.StepInRefIdeal.nD Cert.StepInRefIdeal.τ).loc Cert.StepInRefIdeal.main_arg3) = m ((c.tc : Thread Cert.StepInRefIdeal.nD Cert.StepInRefIdeal.τ).loc Cert.StepInRefIdeal.main_arg3))
      ∧ r.2.sem = fun _ => 0)

def quiescent_StepAda [hStepAda : Cert.StepAda.Facts] : Prop :=
  ∀ (m : (ℓ : Loc Cert.StepAda.nD Cert.StepAda.τ Cert.StepAda.sig) → Buf (Elt Bits) ℓ) (g : Dev Cert.StepAda.nD → PrngReg), Pre_StepAda m →
    θ_run (Cert.StepAda.defs (F := Bits)) (onTc (τ := Cert.StepAda.τ) (Cert.StepAda.main (F := Bits))) ⟨m, fun _ => 0, g⟩ (fun r => (∀ c : Dev Cert.StepAda.nD,
      r.2.mem ((c.tc : Thread Cert.StepAda.nD Cert.StepAda.τ).loc Cert.StepAda.main_arg0) = m ((c.tc : Thread Cert.StepAda.nD Cert.StepAda.τ).loc Cert.StepAda.main_arg0)
      ∧ r.2.mem ((c.tc : Thread Cert.StepAda.nD Cert.StepAda.τ).loc Cert.StepAda.main_arg1) = m ((c.tc : Thread Cert.StepAda.nD Cert.StepAda.τ).loc Cert.StepAda.main_arg1)
      ∧ r.2.mem ((c.tc : Thread Cert.StepAda.nD Cert.StepAda.τ).loc Cert.StepAda.main_arg2) = m ((c.tc : Thread Cert.StepAda.nD Cert.StepAda.τ).loc Cert.StepAda.main_arg2)
      ∧ r.2.mem ((c.tc : Thread Cert.StepAda.nD Cert.StepAda.τ).loc Cert.StepAda.main_arg3) = m ((c.tc : Thread Cert.StepAda.nD Cert.StepAda.τ).loc Cert.StepAda.main_arg3))
      ∧ r.2.sem = fun _ => 0)

def quiescent_StepAdaIdeal [hStepAdaIdeal : Cert.StepAdaIdeal.Facts] : Prop :=
  ∀ (m : (ℓ : Loc Cert.StepAdaIdeal.nD Cert.StepAdaIdeal.τ Cert.StepAdaIdeal.sig) → Buf (Elt Ideal) ℓ) (g : Dev Cert.StepAdaIdeal.nD → PrngReg), Pre_StepAdaIdeal m →
    θ_run (Cert.StepAdaIdeal.defs (F := Ideal)) (onTc (τ := Cert.StepAdaIdeal.τ) (Cert.StepAdaIdeal.main (F := Ideal))) ⟨m, fun _ => 0, g⟩ (fun r => (∀ c : Dev Cert.StepAdaIdeal.nD,
      r.2.mem ((c.tc : Thread Cert.StepAdaIdeal.nD Cert.StepAdaIdeal.τ).loc Cert.StepAdaIdeal.main_arg0) = m ((c.tc : Thread Cert.StepAdaIdeal.nD Cert.StepAdaIdeal.τ).loc Cert.StepAdaIdeal.main_arg0)
      ∧ r.2.mem ((c.tc : Thread Cert.StepAdaIdeal.nD Cert.StepAdaIdeal.τ).loc Cert.StepAdaIdeal.main_arg1) = m ((c.tc : Thread Cert.StepAdaIdeal.nD Cert.StepAdaIdeal.τ).loc Cert.StepAdaIdeal.main_arg1)
      ∧ r.2.mem ((c.tc : Thread Cert.StepAdaIdeal.nD Cert.StepAdaIdeal.τ).loc Cert.StepAdaIdeal.main_arg2) = m ((c.tc : Thread Cert.StepAdaIdeal.nD Cert.StepAdaIdeal.τ).loc Cert.StepAdaIdeal.main_arg2)
      ∧ r.2.mem ((c.tc : Thread Cert.StepAdaIdeal.nD Cert.StepAdaIdeal.τ).loc Cert.StepAdaIdeal.main_arg3) = m ((c.tc : Thread Cert.StepAdaIdeal.nD Cert.StepAdaIdeal.τ).loc Cert.StepAdaIdeal.main_arg3))
      ∧ r.2.sem = fun _ => 0)

def quiescent_StepAdaRefIdeal [hStepAdaRefIdeal : Cert.StepAdaRefIdeal.Facts] : Prop :=
  ∀ (m : (ℓ : Loc Cert.StepAdaRefIdeal.nD Cert.StepAdaRefIdeal.τ Cert.StepAdaRefIdeal.sig) → Buf (Elt Ideal) ℓ) (g : Dev Cert.StepAdaRefIdeal.nD → PrngReg), Pre_StepAdaRefIdeal m →
    θ_run (Cert.StepAdaRefIdeal.defs (F := Ideal)) (onTc (τ := Cert.StepAdaRefIdeal.τ) (Cert.StepAdaRefIdeal.main (F := Ideal))) ⟨m, fun _ => 0, g⟩ (fun r => (∀ c : Dev Cert.StepAdaRefIdeal.nD,
      r.2.mem ((c.tc : Thread Cert.StepAdaRefIdeal.nD Cert.StepAdaRefIdeal.τ).loc Cert.StepAdaRefIdeal.main_arg0) = m ((c.tc : Thread Cert.StepAdaRefIdeal.nD Cert.StepAdaRefIdeal.τ).loc Cert.StepAdaRefIdeal.main_arg0)
      ∧ r.2.mem ((c.tc : Thread Cert.StepAdaRefIdeal.nD Cert.StepAdaRefIdeal.τ).loc Cert.StepAdaRefIdeal.main_arg1) = m ((c.tc : Thread Cert.StepAdaRefIdeal.nD Cert.StepAdaRefIdeal.τ).loc Cert.StepAdaRefIdeal.main_arg1)
      ∧ r.2.mem ((c.tc : Thread Cert.StepAdaRefIdeal.nD Cert.StepAdaRefIdeal.τ).loc Cert.StepAdaRefIdeal.main_arg2) = m ((c.tc : Thread Cert.StepAdaRefIdeal.nD Cert.StepAdaRefIdeal.τ).loc Cert.StepAdaRefIdeal.main_arg2)
      ∧ r.2.mem ((c.tc : Thread Cert.StepAdaRefIdeal.nD Cert.StepAdaRefIdeal.τ).loc Cert.StepAdaRefIdeal.main_arg3) = m ((c.tc : Thread Cert.StepAdaRefIdeal.nD Cert.StepAdaRefIdeal.τ).loc Cert.StepAdaRefIdeal.main_arg3))
      ∧ r.2.sem = fun _ => 0)

def quiescent_StepBranch [hStepBranch : Cert.StepBranch.Facts] : Prop :=
  ∀ (m : (ℓ : Loc Cert.StepBranch.nD Cert.StepBranch.τ Cert.StepBranch.sig) → Buf (Elt Bits) ℓ) (g : Dev Cert.StepBranch.nD → PrngReg), Pre_StepBranch m →
    θ_run (Cert.StepBranch.defs (F := Bits)) (onTc (τ := Cert.StepBranch.τ) (Cert.StepBranch.main (F := Bits))) ⟨m, fun _ => 0, g⟩ (fun r => (∀ c : Dev Cert.StepBranch.nD,
      r.2.mem ((c.tc : Thread Cert.StepBranch.nD Cert.StepBranch.τ).loc Cert.StepBranch.main_arg0) = m ((c.tc : Thread Cert.StepBranch.nD Cert.StepBranch.τ).loc Cert.StepBranch.main_arg0)
      ∧ r.2.mem ((c.tc : Thread Cert.StepBranch.nD Cert.StepBranch.τ).loc Cert.StepBranch.main_arg1) = m ((c.tc : Thread Cert.StepBranch.nD Cert.StepBranch.τ).loc Cert.StepBranch.main_arg1)
      ∧ r.2.mem ((c.tc : Thread Cert.StepBranch.nD Cert.StepBranch.τ).loc Cert.StepBranch.main_arg2) = m ((c.tc : Thread Cert.StepBranch.nD Cert.StepBranch.τ).loc Cert.StepBranch.main_arg2)
      ∧ r.2.mem ((c.tc : Thread Cert.StepBranch.nD Cert.StepBranch.τ).loc Cert.StepBranch.main_arg3) = m ((c.tc : Thread Cert.StepBranch.nD Cert.StepBranch.τ).loc Cert.StepBranch.main_arg3))
      ∧ r.2.sem = fun _ => 0)

def quiescent_StepBranchIdeal [hStepBranchIdeal : Cert.StepBranchIdeal.Facts] : Prop :=
  ∀ (m : (ℓ : Loc Cert.StepBranchIdeal.nD Cert.StepBranchIdeal.τ Cert.StepBranchIdeal.sig) → Buf (Elt Ideal) ℓ) (g : Dev Cert.StepBranchIdeal.nD → PrngReg), Pre_StepBranchIdeal m →
    θ_run (Cert.StepBranchIdeal.defs (F := Ideal)) (onTc (τ := Cert.StepBranchIdeal.τ) (Cert.StepBranchIdeal.main (F := Ideal))) ⟨m, fun _ => 0, g⟩ (fun r => (∀ c : Dev Cert.StepBranchIdeal.nD,
      r.2.mem ((c.tc : Thread Cert.StepBranchIdeal.nD Cert.StepBranchIdeal.τ).loc Cert.StepBranchIdeal.main_arg0) = m ((c.tc : Thread Cert.StepBranchIdeal.nD Cert.StepBranchIdeal.τ).loc Cert.StepBranchIdeal.main_arg0)
      ∧ r.2.mem ((c.tc : Thread Cert.StepBranchIdeal.nD Cert.StepBranchIdeal.τ).loc Cert.StepBranchIdeal.main_arg1) = m ((c.tc : Thread Cert.StepBranchIdeal.nD Cert.StepBranchIdeal.τ).loc Cert.StepBranchIdeal.main_arg1)
      ∧ r.2.mem ((c.tc : Thread Cert.StepBranchIdeal.nD Cert.StepBranchIdeal.τ).loc Cert.StepBranchIdeal.main_arg2) = m ((c.tc : Thread Cert.StepBranchIdeal.nD Cert.StepBranchIdeal.τ).loc Cert.StepBranchIdeal.main_arg2)
      ∧ r.2.mem ((c.tc : Thread Cert.StepBranchIdeal.nD Cert.StepBranchIdeal.τ).loc Cert.StepBranchIdeal.main_arg3) = m ((c.tc : Thread Cert.StepBranchIdeal.nD Cert.StepBranchIdeal.τ).loc Cert.StepBranchIdeal.main_arg3))
      ∧ r.2.sem = fun _ => 0)

def quiescent_StepBranchRefIdeal [hStepBranchRefIdeal : Cert.StepBranchRefIdeal.Facts] : Prop :=
  ∀ (m : (ℓ : Loc Cert.StepBranchRefIdeal.nD Cert.StepBranchRefIdeal.τ Cert.StepBranchRefIdeal.sig) → Buf (Elt Ideal) ℓ) (g : Dev Cert.StepBranchRefIdeal.nD → PrngReg), Pre_StepBranchRefIdeal m →
    θ_run (Cert.StepBranchRefIdeal.defs (F := Ideal)) (onTc (τ := Cert.StepBranchRefIdeal.τ) (Cert.StepBranchRefIdeal.main (F := Ideal))) ⟨m, fun _ => 0, g⟩ (fun r => (∀ c : Dev Cert.StepBranchRefIdeal.nD,
      r.2.mem ((c.tc : Thread Cert.StepBranchRefIdeal.nD Cert.StepBranchRefIdeal.τ).loc Cert.StepBranchRefIdeal.main_arg0) = m ((c.tc : Thread Cert.StepBranchRefIdeal.nD Cert.StepBranchRefIdeal.τ).loc Cert.StepBranchRefIdeal.main_arg0)
      ∧ r.2.mem ((c.tc : Thread Cert.StepBranchRefIdeal.nD Cert.StepBranchRefIdeal.τ).loc Cert.StepBranchRefIdeal.main_arg1) = m ((c.tc : Thread Cert.StepBranchRefIdeal.nD Cert.StepBranchRefIdeal.τ).loc Cert.StepBranchRefIdeal.main_arg1)
      ∧ r.2.mem ((c.tc : Thread Cert.StepBranchRefIdeal.nD Cert.StepBranchRefIdeal.τ).loc Cert.StepBranchRefIdeal.main_arg2) = m ((c.tc : Thread Cert.StepBranchRefIdeal.nD Cert.StepBranchRefIdeal.τ).loc Cert.StepBranchRefIdeal.main_arg2)
      ∧ r.2.mem ((c.tc : Thread Cert.StepBranchRefIdeal.nD Cert.StepBranchRefIdeal.τ).loc Cert.StepBranchRefIdeal.main_arg3) = m ((c.tc : Thread Cert.StepBranchRefIdeal.nD Cert.StepBranchRefIdeal.τ).loc Cert.StepBranchRefIdeal.main_arg3))
      ∧ r.2.sem = fun _ => 0)

def quiescent_StepOut [hStepOut : Cert.StepOut.Facts] : Prop :=
  ∀ (m : (ℓ : Loc Cert.StepOut.nD Cert.StepOut.τ Cert.StepOut.sig) → Buf (Elt Bits) ℓ) (g : Dev Cert.StepOut.nD → PrngReg), Pre_StepOut m →
    θ_run (Cert.StepOut.defs (F := Bits)) (onTc (τ := Cert.StepOut.τ) (Cert.StepOut.main (F := Bits))) ⟨m, fun _ => 0, g⟩ (fun r => (∀ c : Dev Cert.StepOut.nD,
      r.2.mem ((c.tc : Thread Cert.StepOut.nD Cert.StepOut.τ).loc Cert.StepOut.main_arg0) = m ((c.tc : Thread Cert.StepOut.nD Cert.StepOut.τ).loc Cert.StepOut.main_arg0)
      ∧ r.2.mem ((c.tc : Thread Cert.StepOut.nD Cert.StepOut.τ).loc Cert.StepOut.main_arg1) = m ((c.tc : Thread Cert.StepOut.nD Cert.StepOut.τ).loc Cert.StepOut.main_arg1)
      ∧ r.2.mem ((c.tc : Thread Cert.StepOut.nD Cert.StepOut.τ).loc Cert.StepOut.main_arg2) = m ((c.tc : Thread Cert.StepOut.nD Cert.StepOut.τ).loc Cert.StepOut.main_arg2)
      ∧ r.2.mem ((c.tc : Thread Cert.StepOut.nD Cert.StepOut.τ).loc Cert.StepOut.main_arg3) = m ((c.tc : Thread Cert.StepOut.nD Cert.StepOut.τ).loc Cert.StepOut.main_arg3))
      ∧ r.2.sem = fun _ => 0)

def quiescent_StepOutIdeal [hStepOutIdeal : Cert.StepOutIdeal.Facts] : Prop :=
  ∀ (m : (ℓ : Loc Cert.StepOutIdeal.nD Cert.StepOutIdeal.τ Cert.StepOutIdeal.sig) → Buf (Elt Ideal) ℓ) (g : Dev Cert.StepOutIdeal.nD → PrngReg), Pre_StepOutIdeal m →
    θ_run (Cert.StepOutIdeal.defs (F := Ideal)) (onTc (τ := Cert.StepOutIdeal.τ) (Cert.StepOutIdeal.main (F := Ideal))) ⟨m, fun _ => 0, g⟩ (fun r => (∀ c : Dev Cert.StepOutIdeal.nD,
      r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
      ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
      ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
      ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ r.2.sem = fun _ => 0)

def quiescent_StepOutRefIdeal [hStepOutRefIdeal : Cert.StepOutRefIdeal.Facts] : Prop :=
  ∀ (m : (ℓ : Loc Cert.StepOutRefIdeal.nD Cert.StepOutRefIdeal.τ Cert.StepOutRefIdeal.sig) → Buf (Elt Ideal) ℓ) (g : Dev Cert.StepOutRefIdeal.nD → PrngReg), Pre_StepOutRefIdeal m →
    θ_run (Cert.StepOutRefIdeal.defs (F := Ideal)) (onTc (τ := Cert.StepOutRefIdeal.τ) (Cert.StepOutRefIdeal.main (F := Ideal))) ⟨m, fun _ => 0, g⟩ (fun r => (∀ c : Dev Cert.StepOutRefIdeal.nD,
      r.2.mem ((c.tc : Thread Cert.StepOutRefIdeal.nD Cert.StepOutRefIdeal.τ).loc Cert.StepOutRefIdeal.main_arg0) = m ((c.tc : Thread Cert.StepOutRefIdeal.nD Cert.StepOutRefIdeal.τ).loc Cert.StepOutRefIdeal.main_arg0)
      ∧ r.2.mem ((c.tc : Thread Cert.StepOutRefIdeal.nD Cert.StepOutRefIdeal.τ).loc Cert.StepOutRefIdeal.main_arg1) = m ((c.tc : Thread Cert.StepOutRefIdeal.nD Cert.StepOutRefIdeal.τ).loc Cert.StepOutRefIdeal.main_arg1)
      ∧ r.2.mem ((c.tc : Thread Cert.StepOutRefIdeal.nD Cert.StepOutRefIdeal.τ).loc Cert.StepOutRefIdeal.main_arg2) = m ((c.tc : Thread Cert.StepOutRefIdeal.nD Cert.StepOutRefIdeal.τ).loc Cert.StepOutRefIdeal.main_arg2)
      ∧ r.2.mem ((c.tc : Thread Cert.StepOutRefIdeal.nD Cert.StepOutRefIdeal.τ).loc Cert.StepOutRefIdeal.main_arg3) = m ((c.tc : Thread Cert.StepOutRefIdeal.nD Cert.StepOutRefIdeal.τ).loc Cert.StepOutRefIdeal.main_arg3))
      ∧ r.2.sem = fun _ => 0)

def quiescent_StepUp [hStepUp : Cert.StepUp.Facts] : Prop :=
  ∀ (m : (ℓ : Loc Cert.StepUp.nD Cert.StepUp.τ Cert.StepUp.sig) → Buf (Elt Bits) ℓ) (g : Dev Cert.StepUp.nD → PrngReg), Pre_StepUp m →
    θ_run (Cert.StepUp.defs (F := Bits)) (onTc (τ := Cert.StepUp.τ) (Cert.StepUp.main (F := Bits))) ⟨m, fun _ => 0, g⟩ (fun r => (∀ c : Dev Cert.StepUp.nD,
      r.2.mem ((c.tc : Thread Cert.StepUp.nD Cert.StepUp.τ).loc Cert.StepUp.main_arg0) = m ((c.tc : Thread Cert.StepUp.nD Cert.StepUp.τ).loc Cert.StepUp.main_arg0)
      ∧ r.2.mem ((c.tc : Thread Cert.StepUp.nD Cert.StepUp.τ).loc Cert.StepUp.main_arg1) = m ((c.tc : Thread Cert.StepUp.nD Cert.StepUp.τ).loc Cert.StepUp.main_arg1)
      ∧ r.2.mem ((c.tc : Thread Cert.StepUp.nD Cert.StepUp.τ).loc Cert.StepUp.main_arg2) = m ((c.tc : Thread Cert.StepUp.nD Cert.StepUp.τ).loc Cert.StepUp.main_arg2)
      ∧ r.2.mem ((c.tc : Thread Cert.StepUp.nD Cert.StepUp.τ).loc Cert.StepUp.main_arg3) = m ((c.tc : Thread Cert.StepUp.nD Cert.StepUp.τ).loc Cert.StepUp.main_arg3))
      ∧ r.2.sem = fun _ => 0)

def quiescent_StepUpIdeal [hStepUpIdeal : Cert.StepUpIdeal.Facts] : Prop :=
  ∀ (m : (ℓ : Loc Cert.StepUpIdeal.nD Cert.StepUpIdeal.τ Cert.StepUpIdeal.sig) → Buf (Elt Ideal) ℓ) (g : Dev Cert.StepUpIdeal.nD → PrngReg), Pre_StepUpIdeal m →
    θ_run (Cert.StepUpIdeal.defs (F := Ideal)) (onTc (τ := Cert.StepUpIdeal.τ) (Cert.StepUpIdeal.main (F := Ideal))) ⟨m, fun _ => 0, g⟩ (fun r => (∀ c : Dev Cert.StepUpIdeal.nD,
      r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
      ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
      ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
      ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3))
      ∧ r.2.sem = fun _ => 0)

def quiescent_StepUpRefIdeal [hStepUpRefIdeal : Cert.StepUpRefIdeal.Facts] : Prop :=
  ∀ (m : (ℓ : Loc Cert.StepUpRefIdeal.nD Cert.StepUpRefIdeal.τ Cert.StepUpRefIdeal.sig) → Buf (Elt Ideal) ℓ) (g : Dev Cert.StepUpRefIdeal.nD → PrngReg), Pre_StepUpRefIdeal m →
    θ_run (Cert.StepUpRefIdeal.defs (F := Ideal)) (onTc (τ := Cert.StepUpRefIdeal.τ) (Cert.StepUpRefIdeal.main (F := Ideal))) ⟨m, fun _ => 0, g⟩ (fun r => (∀ c : Dev Cert.StepUpRefIdeal.nD,
      r.2.mem ((c.tc : Thread Cert.StepUpRefIdeal.nD Cert.StepUpRefIdeal.τ).loc Cert.StepUpRefIdeal.main_arg0) = m ((c.tc : Thread Cert.StepUpRefIdeal.nD Cert.StepUpRefIdeal.τ).loc Cert.StepUpRefIdeal.main_arg0)
      ∧ r.2.mem ((c.tc : Thread Cert.StepUpRefIdeal.nD Cert.StepUpRefIdeal.τ).loc Cert.StepUpRefIdeal.main_arg1) = m ((c.tc : Thread Cert.StepUpRefIdeal.nD Cert.StepUpRefIdeal.τ).loc Cert.StepUpRefIdeal.main_arg1)
      ∧ r.2.mem ((c.tc : Thread Cert.StepUpRefIdeal.nD Cert.StepUpRefIdeal.τ).loc Cert.StepUpRefIdeal.main_arg2) = m ((c.tc : Thread Cert.StepUpRefIdeal.nD Cert.StepUpRefIdeal.τ).loc Cert.StepUpRefIdeal.main_arg2)
      ∧ r.2.mem ((c.tc : Thread Cert.StepUpRefIdeal.nD Cert.StepUpRefIdeal.τ).loc Cert.StepUpRefIdeal.main_arg3) = m ((c.tc : Thread Cert.StepUpRefIdeal.nD Cert.StepUpRefIdeal.τ).loc Cert.StepUpRefIdeal.main_arg3))
      ∧ r.2.sem = fun _ => 0)

def quiescent_StepDown [hStepDown : Cert.StepDown.Facts] : Prop :=
  ∀ (m : (ℓ : Loc Cert.StepDown.nD Cert.StepDown.τ Cert.StepDown.sig) → Buf (Elt Bits) ℓ) (g : Dev Cert.StepDown.nD → PrngReg), Pre_StepDown m →
    θ_run (Cert.StepDown.defs (F := Bits)) (onTc (τ := Cert.StepDown.τ) (Cert.StepDown.main (F := Bits))) ⟨m, fun _ => 0, g⟩ (fun r => (∀ c : Dev Cert.StepDown.nD,
      r.2.mem ((c.tc : Thread Cert.StepDown.nD Cert.StepDown.τ).loc Cert.StepDown.main_arg0) = m ((c.tc : Thread Cert.StepDown.nD Cert.StepDown.τ).loc Cert.StepDown.main_arg0)
      ∧ r.2.mem ((c.tc : Thread Cert.StepDown.nD Cert.StepDown.τ).loc Cert.StepDown.main_arg1) = m ((c.tc : Thread Cert.StepDown.nD Cert.StepDown.τ).loc Cert.StepDown.main_arg1)
      ∧ r.2.mem ((c.tc : Thread Cert.StepDown.nD Cert.StepDown.τ).loc Cert.StepDown.main_arg2) = m ((c.tc : Thread Cert.StepDown.nD Cert.StepDown.τ).loc Cert.StepDown.main_arg2)
      ∧ r.2.mem ((c.tc : Thread Cert.StepDown.nD Cert.StepDown.τ).loc Cert.StepDown.main_arg3) = m ((c.tc : Thread Cert.StepDown.nD Cert.StepDown.τ).loc Cert.StepDown.main_arg3))
      ∧ r.2.sem = fun _ => 0)

def quiescent_StepDownIdeal [hStepDownIdeal : Cert.StepDownIdeal.Facts] : Prop :=
  ∀ (m : (ℓ : Loc Cert.StepDownIdeal.nD Cert.StepDownIdeal.τ Cert.StepDownIdeal.sig) → Buf (Elt Ideal) ℓ) (g : Dev Cert.StepDownIdeal.nD → PrngReg), Pre_StepDownIdeal m →
    θ_run (Cert.StepDownIdeal.defs (F := Ideal)) (onTc (τ := Cert.StepDownIdeal.τ) (Cert.StepDownIdeal.main (F := Ideal))) ⟨m, fun _ => 0, g⟩ (fun r => (∀ c : Dev Cert.StepDownIdeal.nD,
      r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
      ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
      ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
      ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3))
      ∧ r.2.sem = fun _ => 0)

def quiescent_StepDownRefIdeal [hStepDownRefIdeal : Cert.StepDownRefIdeal.Facts] : Prop :=
  ∀ (m : (ℓ : Loc Cert.StepDownRefIdeal.nD Cert.StepDownRefIdeal.τ Cert.StepDownRefIdeal.sig) → Buf (Elt Ideal) ℓ) (g : Dev Cert.StepDownRefIdeal.nD → PrngReg), Pre_StepDownRefIdeal m →
    θ_run (Cert.StepDownRefIdeal.defs (F := Ideal)) (onTc (τ := Cert.StepDownRefIdeal.τ) (Cert.StepDownRefIdeal.main (F := Ideal))) ⟨m, fun _ => 0, g⟩ (fun r => (∀ c : Dev Cert.StepDownRefIdeal.nD,
      r.2.mem ((c.tc : Thread Cert.StepDownRefIdeal.nD Cert.StepDownRefIdeal.τ).loc Cert.StepDownRefIdeal.main_arg0) = m ((c.tc : Thread Cert.StepDownRefIdeal.nD Cert.StepDownRefIdeal.τ).loc Cert.StepDownRefIdeal.main_arg0)
      ∧ r.2.mem ((c.tc : Thread Cert.StepDownRefIdeal.nD Cert.StepDownRefIdeal.τ).loc Cert.StepDownRefIdeal.main_arg1) = m ((c.tc : Thread Cert.StepDownRefIdeal.nD Cert.StepDownRefIdeal.τ).loc Cert.StepDownRefIdeal.main_arg1)
      ∧ r.2.mem ((c.tc : Thread Cert.StepDownRefIdeal.nD Cert.StepDownRefIdeal.τ).loc Cert.StepDownRefIdeal.main_arg2) = m ((c.tc : Thread Cert.StepDownRefIdeal.nD Cert.StepDownRefIdeal.τ).loc Cert.StepDownRefIdeal.main_arg2)
      ∧ r.2.mem ((c.tc : Thread Cert.StepDownRefIdeal.nD Cert.StepDownRefIdeal.τ).loc Cert.StepDownRefIdeal.main_arg3) = m ((c.tc : Thread Cert.StepDownRefIdeal.nD Cert.StepDownRefIdeal.τ).loc Cert.StepDownRefIdeal.main_arg3))
      ∧ r.2.sem = fun _ => 0)

def quiescent_StepSmall [hStepSmall : Cert.StepSmall.Facts] : Prop :=
  ∀ (m : (ℓ : Loc Cert.StepSmall.nD Cert.StepSmall.τ Cert.StepSmall.sig) → Buf (Elt Bits) ℓ) (g : Dev Cert.StepSmall.nD → PrngReg), Pre_StepSmall m →
    θ_run (Cert.StepSmall.defs (F := Bits)) (onTc (τ := Cert.StepSmall.τ) (Cert.StepSmall.main (F := Bits))) ⟨m, fun _ => 0, g⟩ (fun r => (∀ c : Dev Cert.StepSmall.nD,
      r.2.mem ((c.tc : Thread Cert.StepSmall.nD Cert.StepSmall.τ).loc Cert.StepSmall.main_arg0) = m ((c.tc : Thread Cert.StepSmall.nD Cert.StepSmall.τ).loc Cert.StepSmall.main_arg0)
      ∧ r.2.mem ((c.tc : Thread Cert.StepSmall.nD Cert.StepSmall.τ).loc Cert.StepSmall.main_arg1) = m ((c.tc : Thread Cert.StepSmall.nD Cert.StepSmall.τ).loc Cert.StepSmall.main_arg1)
      ∧ r.2.mem ((c.tc : Thread Cert.StepSmall.nD Cert.StepSmall.τ).loc Cert.StepSmall.main_arg2) = m ((c.tc : Thread Cert.StepSmall.nD Cert.StepSmall.τ).loc Cert.StepSmall.main_arg2)
      ∧ r.2.mem ((c.tc : Thread Cert.StepSmall.nD Cert.StepSmall.τ).loc Cert.StepSmall.main_arg3) = m ((c.tc : Thread Cert.StepSmall.nD Cert.StepSmall.τ).loc Cert.StepSmall.main_arg3)
      ∧ r.2.mem ((c.tc : Thread Cert.StepSmall.nD Cert.StepSmall.τ).loc Cert.StepSmall.main_arg4) = m ((c.tc : Thread Cert.StepSmall.nD Cert.StepSmall.τ).loc Cert.StepSmall.main_arg4)
      ∧ r.2.mem ((c.tc : Thread Cert.StepSmall.nD Cert.StepSmall.τ).loc Cert.StepSmall.main_arg5) = m ((c.tc : Thread Cert.StepSmall.nD Cert.StepSmall.τ).loc Cert.StepSmall.main_arg5)
      ∧ r.2.mem ((c.tc : Thread Cert.StepSmall.nD Cert.StepSmall.τ).loc Cert.StepSmall.main_arg6) = m ((c.tc : Thread Cert.StepSmall.nD Cert.StepSmall.τ).loc Cert.StepSmall.main_arg6)
      ∧ r.2.mem ((c.tc : Thread Cert.StepSmall.nD Cert.StepSmall.τ).loc Cert.StepSmall.main_arg7) = m ((c.tc : Thread Cert.StepSmall.nD Cert.StepSmall.τ).loc Cert.StepSmall.main_arg7)
      ∧ r.2.mem ((c.tc : Thread Cert.StepSmall.nD Cert.StepSmall.τ).loc Cert.StepSmall.main_arg8) = m ((c.tc : Thread Cert.StepSmall.nD Cert.StepSmall.τ).loc Cert.StepSmall.main_arg8)
      ∧ r.2.mem ((c.tc : Thread Cert.StepSmall.nD Cert.StepSmall.τ).loc Cert.StepSmall.main_arg9) = m ((c.tc : Thread Cert.StepSmall.nD Cert.StepSmall.τ).loc Cert.StepSmall.main_arg9)
      ∧ r.2.mem ((c.tc : Thread Cert.StepSmall.nD Cert.StepSmall.τ).loc Cert.StepSmall.main_arg10) = m ((c.tc : Thread Cert.StepSmall.nD Cert.StepSmall.τ).loc Cert.StepSmall.main_arg10)
      ∧ r.2.mem ((c.tc : Thread Cert.StepSmall.nD Cert.StepSmall.τ).loc Cert.StepSmall.main_arg11) = m ((c.tc : Thread Cert.StepSmall.nD Cert.StepSmall.τ).loc Cert.StepSmall.main_arg11)
      ∧ r.2.mem ((c.tc : Thread Cert.StepSmall.nD Cert.StepSmall.τ).loc Cert.StepSmall.main_arg12) = m ((c.tc : Thread Cert.StepSmall.nD Cert.StepSmall.τ).loc Cert.StepSmall.main_arg12)
      ∧ r.2.mem ((c.tc : Thread Cert.StepSmall.nD Cert.StepSmall.τ).loc Cert.StepSmall.main_arg13) = m ((c.tc : Thread Cert.StepSmall.nD Cert.StepSmall.τ).loc Cert.StepSmall.main_arg13)
      ∧ r.2.mem ((c.tc : Thread Cert.StepSmall.nD Cert.StepSmall.τ).loc Cert.StepSmall.main_arg14) = m ((c.tc : Thread Cert.StepSmall.nD Cert.StepSmall.τ).loc Cert.StepSmall.main_arg14)
      ∧ r.2.mem ((c.tc : Thread Cert.StepSmall.nD Cert.StepSmall.τ).loc Cert.StepSmall.main_arg15) = m ((c.tc : Thread Cert.StepSmall.nD Cert.StepSmall.τ).loc Cert.StepSmall.main_arg15)
      ∧ r.2.mem ((c.tc : Thread Cert.StepSmall.nD Cert.StepSmall.τ).loc Cert.StepSmall.main_arg16) = m ((c.tc : Thread Cert.StepSmall.nD Cert.StepSmall.τ).loc Cert.StepSmall.main_arg16)
      ∧ r.2.mem ((c.tc : Thread Cert.StepSmall.nD Cert.StepSmall.τ).loc Cert.StepSmall.main_arg17) = m ((c.tc : Thread Cert.StepSmall.nD Cert.StepSmall.τ).loc Cert.StepSmall.main_arg17)
      ∧ r.2.mem ((c.tc : Thread Cert.StepSmall.nD Cert.StepSmall.τ).loc Cert.StepSmall.main_arg18) = m ((c.tc : Thread Cert.StepSmall.nD Cert.StepSmall.τ).loc Cert.StepSmall.main_arg18)
      ∧ r.2.mem ((c.tc : Thread Cert.StepSmall.nD Cert.StepSmall.τ).loc Cert.StepSmall.main_arg19) = m ((c.tc : Thread Cert.StepSmall.nD Cert.StepSmall.τ).loc Cert.StepSmall.main_arg19)
      ∧ r.2.mem ((c.tc : Thread Cert.StepSmall.nD Cert.StepSmall.τ).loc Cert.StepSmall.main_arg20) = m ((c.tc : Thread Cert.StepSmall.nD Cert.StepSmall.τ).loc Cert.StepSmall.main_arg20)
      ∧ r.2.mem ((c.tc : Thread Cert.StepSmall.nD Cert.StepSmall.τ).loc Cert.StepSmall.main_arg21) = m ((c.tc : Thread Cert.StepSmall.nD Cert.StepSmall.τ).loc Cert.StepSmall.main_arg21)
      ∧ r.2.mem ((c.tc : Thread Cert.StepSmall.nD Cert.StepSmall.τ).loc Cert.StepSmall.main_arg22) = m ((c.tc : Thread Cert.StepSmall.nD Cert.StepSmall.τ).loc Cert.StepSmall.main_arg22)
      ∧ r.2.mem ((c.tc : Thread Cert.StepSmall.nD Cert.StepSmall.τ).loc Cert.StepSmall.main_arg23) = m ((c.tc : Thread Cert.StepSmall.nD Cert.StepSmall.τ).loc Cert.StepSmall.main_arg23)
      ∧ r.2.mem ((c.tc : Thread Cert.StepSmall.nD Cert.StepSmall.τ).loc Cert.StepSmall.main_arg24) = m ((c.tc : Thread Cert.StepSmall.nD Cert.StepSmall.τ).loc Cert.StepSmall.main_arg24)
      ∧ r.2.mem ((c.tc : Thread Cert.StepSmall.nD Cert.StepSmall.τ).loc Cert.StepSmall.main_arg25) = m ((c.tc : Thread Cert.StepSmall.nD Cert.StepSmall.τ).loc Cert.StepSmall.main_arg25)
      ∧ r.2.mem ((c.tc : Thread Cert.StepSmall.nD Cert.StepSmall.τ).loc Cert.StepSmall.main_arg26) = m ((c.tc : Thread Cert.StepSmall.nD Cert.StepSmall.τ).loc Cert.StepSmall.main_arg26)
      ∧ r.2.mem ((c.tc : Thread Cert.StepSmall.nD Cert.StepSmall.τ).loc Cert.StepSmall.main_arg27) = m ((c.tc : Thread Cert.StepSmall.nD Cert.StepSmall.τ).loc Cert.StepSmall.main_arg27)
      ∧ r.2.mem ((c.tc : Thread Cert.StepSmall.nD Cert.StepSmall.τ).loc Cert.StepSmall.main_arg28) = m ((c.tc : Thread Cert.StepSmall.nD Cert.StepSmall.τ).loc Cert.StepSmall.main_arg28)
      ∧ r.2.mem ((c.tc : Thread Cert.StepSmall.nD Cert.StepSmall.τ).loc Cert.StepSmall.main_arg29) = m ((c.tc : Thread Cert.StepSmall.nD Cert.StepSmall.τ).loc Cert.StepSmall.main_arg29)
      ∧ r.2.mem ((c.tc : Thread Cert.StepSmall.nD Cert.StepSmall.τ).loc Cert.StepSmall.main_arg30) = m ((c.tc : Thread Cert.StepSmall.nD Cert.StepSmall.τ).loc Cert.StepSmall.main_arg30)
      ∧ r.2.mem ((c.tc : Thread Cert.StepSmall.nD Cert.StepSmall.τ).loc Cert.StepSmall.main_arg31) = m ((c.tc : Thread Cert.StepSmall.nD Cert.StepSmall.τ).loc Cert.StepSmall.main_arg31)
      ∧ r.2.mem ((c.tc : Thread Cert.StepSmall.nD Cert.StepSmall.τ).loc Cert.StepSmall.main_arg32) = m ((c.tc : Thread Cert.StepSmall.nD Cert.StepSmall.τ).loc Cert.StepSmall.main_arg32)
      ∧ r.2.mem ((c.tc : Thread Cert.StepSmall.nD Cert.StepSmall.τ).loc Cert.StepSmall.main_arg33) = m ((c.tc : Thread Cert.StepSmall.nD Cert.StepSmall.τ).loc Cert.StepSmall.main_arg33)
      ∧ r.2.mem ((c.tc : Thread Cert.StepSmall.nD Cert.StepSmall.τ).loc Cert.StepSmall.main_arg34) = m ((c.tc : Thread Cert.StepSmall.nD Cert.StepSmall.τ).loc Cert.StepSmall.main_arg34)
      ∧ r.2.mem ((c.tc : Thread Cert.StepSmall.nD Cert.StepSmall.τ).loc Cert.StepSmall.main_arg35) = m ((c.tc : Thread Cert.StepSmall.nD Cert.StepSmall.τ).loc Cert.StepSmall.main_arg35)
      ∧ r.2.mem ((c.tc : Thread Cert.StepSmall.nD Cert.StepSmall.τ).loc Cert.StepSmall.main_arg36) = m ((c.tc : Thread Cert.StepSmall.nD Cert.StepSmall.τ).loc Cert.StepSmall.main_arg36)
      ∧ r.2.mem ((c.tc : Thread Cert.StepSmall.nD Cert.StepSmall.τ).loc Cert.StepSmall.main_arg37) = m ((c.tc : Thread Cert.StepSmall.nD Cert.StepSmall.τ).loc Cert.StepSmall.main_arg37)
      ∧ r.2.mem ((c.tc : Thread Cert.StepSmall.nD Cert.StepSmall.τ).loc Cert.StepSmall.main_arg38) = m ((c.tc : Thread Cert.StepSmall.nD Cert.StepSmall.τ).loc Cert.StepSmall.main_arg38)
      ∧ r.2.mem ((c.tc : Thread Cert.StepSmall.nD Cert.StepSmall.τ).loc Cert.StepSmall.main_arg39) = m ((c.tc : Thread Cert.StepSmall.nD Cert.StepSmall.τ).loc Cert.StepSmall.main_arg39)
      ∧ r.2.mem ((c.tc : Thread Cert.StepSmall.nD Cert.StepSmall.τ).loc Cert.StepSmall.main_arg40) = m ((c.tc : Thread Cert.StepSmall.nD Cert.StepSmall.τ).loc Cert.StepSmall.main_arg40)
      ∧ r.2.mem ((c.tc : Thread Cert.StepSmall.nD Cert.StepSmall.τ).loc Cert.StepSmall.main_arg41) = m ((c.tc : Thread Cert.StepSmall.nD Cert.StepSmall.τ).loc Cert.StepSmall.main_arg41)
      ∧ r.2.mem ((c.tc : Thread Cert.StepSmall.nD Cert.StepSmall.τ).loc Cert.StepSmall.main_arg42) = m ((c.tc : Thread Cert.StepSmall.nD Cert.StepSmall.τ).loc Cert.StepSmall.main_arg42)
      ∧ r.2.mem ((c.tc : Thread Cert.StepSmall.nD Cert.StepSmall.τ).loc Cert.StepSmall.main_arg43) = m ((c.tc : Thread Cert.StepSmall.nD Cert.StepSmall.τ).loc Cert.StepSmall.main_arg43)
      ∧ r.2.mem ((c.tc : Thread Cert.StepSmall.nD Cert.StepSmall.τ).loc Cert.StepSmall.main_arg44) = m ((c.tc : Thread Cert.StepSmall.nD Cert.StepSmall.τ).loc Cert.StepSmall.main_arg44)
      ∧ r.2.mem ((c.tc : Thread Cert.StepSmall.nD Cert.StepSmall.τ).loc Cert.StepSmall.main_arg45) = m ((c.tc : Thread Cert.StepSmall.nD Cert.StepSmall.τ).loc Cert.StepSmall.main_arg45)
      ∧ r.2.mem ((c.tc : Thread Cert.StepSmall.nD Cert.StepSmall.τ).loc Cert.StepSmall.main_arg46) = m ((c.tc : Thread Cert.StepSmall.nD Cert.StepSmall.τ).loc Cert.StepSmall.main_arg46)
      ∧ r.2.mem ((c.tc : Thread Cert.StepSmall.nD Cert.StepSmall.τ).loc Cert.StepSmall.main_arg47) = m ((c.tc : Thread Cert.StepSmall.nD Cert.StepSmall.τ).loc Cert.StepSmall.main_arg47))
      ∧ r.2.sem = fun _ => 0)

def quiescent_StepSmallIdeal [hStepSmallIdeal : Cert.StepSmallIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg), Pre_StepSmallIdeal m →
    θ_run (Cert.StepSmallIdeal.defs (F := Ideal)) (onTc (τ := Cert.StepSmallIdeal.τ) (Cert.StepSmallIdeal.main (F := Ideal))) ⟨m, fun _ => 0, g⟩ (fun r => (∀ c : Dev Cert.StepSmallIdeal.nD,
      r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
      ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
      ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
      ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3)
      ∧ r.2.mem ((c.tc : Thread Cert.StepSmallIdeal.nD Cert.StepSmallIdeal.τ).loc Cert.StepSmallIdeal.main_arg4) = m ((c.tc : Thread Cert.StepSmallIdeal.nD Cert.StepSmallIdeal.τ).loc Cert.StepSmallIdeal.main_arg4)
      ∧ r.2.mem ((c.tc : Thread Cert.StepSmallIdeal.nD Cert.StepSmallIdeal.τ).loc Cert.StepSmallIdeal.main_arg5) = m ((c.tc : Thread Cert.StepSmallIdeal.nD Cert.StepSmallIdeal.τ).loc Cert.StepSmallIdeal.main_arg5)
      ∧ r.2.mem ((c.tc : Thread Cert.StepSmallIdeal.nD Cert.StepSmallIdeal.τ).loc Cert.StepSmallIdeal.main_arg6) = m ((c.tc : Thread Cert.StepSmallIdeal.nD Cert.StepSmallIdeal.τ).loc Cert.StepSmallIdeal.main_arg6)
      ∧ r.2.mem ((c.tc : Thread Cert.StepSmallIdeal.nD Cert.StepSmallIdeal.τ).loc Cert.StepSmallIdeal.main_arg7) = m ((c.tc : Thread Cert.StepSmallIdeal.nD Cert.StepSmallIdeal.τ).loc Cert.StepSmallIdeal.main_arg7)
      ∧ r.2.mem ((c.tc : Thread Cert.StepSmallIdeal.nD Cert.StepSmallIdeal.τ).loc Cert.StepSmallIdeal.main_arg8) = m ((c.tc : Thread Cert.StepSmallIdeal.nD Cert.StepSmallIdeal.τ).loc Cert.StepSmallIdeal.main_arg8)
      ∧ r.2.mem ((c.tc : Thread Cert.StepSmallIdeal.nD Cert.StepSmallIdeal.τ).loc Cert.StepSmallIdeal.main_arg9) = m ((c.tc : Thread Cert.StepSmallIdeal.nD Cert.StepSmallIdeal.τ).loc Cert.StepSmallIdeal.main_arg9)
      ∧ r.2.mem ((c.tc : Thread Cert.StepSmallIdeal.nD Cert.StepSmallIdeal.τ).loc Cert.StepSmallIdeal.main_arg10) = m ((c.tc : Thread Cert.StepSmallIdeal.nD Cert.StepSmallIdeal.τ).loc Cert.StepSmallIdeal.main_arg10)
      ∧ r.2.mem ((c.tc : Thread Cert.StepSmallIdeal.nD Cert.StepSmallIdeal.τ).loc Cert.StepSmallIdeal.main_arg11) = m ((c.tc : Thread Cert.StepSmallIdeal.nD Cert.StepSmallIdeal.τ).loc Cert.StepSmallIdeal.main_arg11)
      ∧ r.2.mem ((c.tc : Thread Cert.StepSmallIdeal.nD Cert.StepSmallIdeal.τ).loc Cert.StepSmallIdeal.main_arg12) = m ((c.tc : Thread Cert.StepSmallIdeal.nD Cert.StepSmallIdeal.τ).loc Cert.StepSmallIdeal.main_arg12)
      ∧ r.2.mem ((c.tc : Thread Cert.StepSmallIdeal.nD Cert.StepSmallIdeal.τ).loc Cert.StepSmallIdeal.main_arg13) = m ((c.tc : Thread Cert.StepSmallIdeal.nD Cert.StepSmallIdeal.τ).loc Cert.StepSmallIdeal.main_arg13)
      ∧ r.2.mem ((c.tc : Thread Cert.StepSmallIdeal.nD Cert.StepSmallIdeal.τ).loc Cert.StepSmallIdeal.main_arg14) = m ((c.tc : Thread Cert.StepSmallIdeal.nD Cert.StepSmallIdeal.τ).loc Cert.StepSmallIdeal.main_arg14)
      ∧ r.2.mem ((c.tc : Thread Cert.StepSmallIdeal.nD Cert.StepSmallIdeal.τ).loc Cert.StepSmallIdeal.main_arg15) = m ((c.tc : Thread Cert.StepSmallIdeal.nD Cert.StepSmallIdeal.τ).loc Cert.StepSmallIdeal.main_arg15)
      ∧ r.2.mem ((c.tc : Thread Cert.StepSmallIdeal.nD Cert.StepSmallIdeal.τ).loc Cert.StepSmallIdeal.main_arg16) = m ((c.tc : Thread Cert.StepSmallIdeal.nD Cert.StepSmallIdeal.τ).loc Cert.StepSmallIdeal.main_arg16)
      ∧ r.2.mem ((c.tc : Thread Cert.StepSmallIdeal.nD Cert.StepSmallIdeal.τ).loc Cert.StepSmallIdeal.main_arg17) = m ((c.tc : Thread Cert.StepSmallIdeal.nD Cert.StepSmallIdeal.τ).loc Cert.StepSmallIdeal.main_arg17)
      ∧ r.2.mem ((c.tc : Thread Cert.StepSmallIdeal.nD Cert.StepSmallIdeal.τ).loc Cert.StepSmallIdeal.main_arg18) = m ((c.tc : Thread Cert.StepSmallIdeal.nD Cert.StepSmallIdeal.τ).loc Cert.StepSmallIdeal.main_arg18)
      ∧ r.2.mem ((c.tc : Thread Cert.StepSmallIdeal.nD Cert.StepSmallIdeal.τ).loc Cert.StepSmallIdeal.main_arg19) = m ((c.tc : Thread Cert.StepSmallIdeal.nD Cert.StepSmallIdeal.τ).loc Cert.StepSmallIdeal.main_arg19)
      ∧ r.2.mem ((c.tc : Thread Cert.StepSmallIdeal.nD Cert.StepSmallIdeal.τ).loc Cert.StepSmallIdeal.main_arg20) = m ((c.tc : Thread Cert.StepSmallIdeal.nD Cert.StepSmallIdeal.τ).loc Cert.StepSmallIdeal.main_arg20)
      ∧ r.2.mem ((c.tc : Thread Cert.StepSmallIdeal.nD Cert.StepSmallIdeal.τ).loc Cert.StepSmallIdeal.main_arg21) = m ((c.tc : Thread Cert.StepSmallIdeal.nD Cert.StepSmallIdeal.τ).loc Cert.StepSmallIdeal.main_arg21)
      ∧ r.2.mem ((c.tc : Thread Cert.StepSmallIdeal.nD Cert.StepSmallIdeal.τ).loc Cert.StepSmallIdeal.main_arg22) = m ((c.tc : Thread Cert.StepSmallIdeal.nD Cert.StepSmallIdeal.τ).loc Cert.StepSmallIdeal.main_arg22)
      ∧ r.2.mem ((c.tc : Thread Cert.StepSmallIdeal.nD Cert.StepSmallIdeal.τ).loc Cert.StepSmallIdeal.main_arg23) = m ((c.tc : Thread Cert.StepSmallIdeal.nD Cert.StepSmallIdeal.τ).loc Cert.StepSmallIdeal.main_arg23)
      ∧ r.2.mem ((c.tc : Thread Cert.StepSmallIdeal.nD Cert.StepSmallIdeal.τ).loc Cert.StepSmallIdeal.main_arg24) = m ((c.tc : Thread Cert.StepSmallIdeal.nD Cert.StepSmallIdeal.τ).loc Cert.StepSmallIdeal.main_arg24)
      ∧ r.2.mem ((c.tc : Thread Cert.StepSmallIdeal.nD Cert.StepSmallIdeal.τ).loc Cert.StepSmallIdeal.main_arg25) = m ((c.tc : Thread Cert.StepSmallIdeal.nD Cert.StepSmallIdeal.τ).loc Cert.StepSmallIdeal.main_arg25)
      ∧ r.2.mem ((c.tc : Thread Cert.StepSmallIdeal.nD Cert.StepSmallIdeal.τ).loc Cert.StepSmallIdeal.main_arg26) = m ((c.tc : Thread Cert.StepSmallIdeal.nD Cert.StepSmallIdeal.τ).loc Cert.StepSmallIdeal.main_arg26)
      ∧ r.2.mem ((c.tc : Thread Cert.StepSmallIdeal.nD Cert.StepSmallIdeal.τ).loc Cert.StepSmallIdeal.main_arg27) = m ((c.tc : Thread Cert.StepSmallIdeal.nD Cert.StepSmallIdeal.τ).loc Cert.StepSmallIdeal.main_arg27)
      ∧ r.2.mem ((c.tc : Thread Cert.StepSmallIdeal.nD Cert.StepSmallIdeal.τ).loc Cert.StepSmallIdeal.main_arg28) = m ((c.tc : Thread Cert.StepSmallIdeal.nD Cert.StepSmallIdeal.τ).loc Cert.StepSmallIdeal.main_arg28)
      ∧ r.2.mem ((c.tc : Thread Cert.StepSmallIdeal.nD Cert.StepSmallIdeal.τ).loc Cert.StepSmallIdeal.main_arg29) = m ((c.tc : Thread Cert.StepSmallIdeal.nD Cert.StepSmallIdeal.τ).loc Cert.StepSmallIdeal.main_arg29)
      ∧ r.2.mem ((c.tc : Thread Cert.StepSmallIdeal.nD Cert.StepSmallIdeal.τ).loc Cert.StepSmallIdeal.main_arg30) = m ((c.tc : Thread Cert.StepSmallIdeal.nD Cert.StepSmallIdeal.τ).loc Cert.StepSmallIdeal.main_arg30)
      ∧ r.2.mem ((c.tc : Thread Cert.StepSmallIdeal.nD Cert.StepSmallIdeal.τ).loc Cert.StepSmallIdeal.main_arg31) = m ((c.tc : Thread Cert.StepSmallIdeal.nD Cert.StepSmallIdeal.τ).loc Cert.StepSmallIdeal.main_arg31)
      ∧ r.2.mem ((c.tc : Thread Cert.StepSmallIdeal.nD Cert.StepSmallIdeal.τ).loc Cert.StepSmallIdeal.main_arg32) = m ((c.tc : Thread Cert.StepSmallIdeal.nD Cert.StepSmallIdeal.τ).loc Cert.StepSmallIdeal.main_arg32)
      ∧ r.2.mem ((c.tc : Thread Cert.StepSmallIdeal.nD Cert.StepSmallIdeal.τ).loc Cert.StepSmallIdeal.main_arg33) = m ((c.tc : Thread Cert.StepSmallIdeal.nD Cert.StepSmallIdeal.τ).loc Cert.StepSmallIdeal.main_arg33)
      ∧ r.2.mem ((c.tc : Thread Cert.StepSmallIdeal.nD Cert.StepSmallIdeal.τ).loc Cert.StepSmallIdeal.main_arg34) = m ((c.tc : Thread Cert.StepSmallIdeal.nD Cert.StepSmallIdeal.τ).loc Cert.StepSmallIdeal.main_arg34)
      ∧ r.2.mem ((c.tc : Thread Cert.StepSmallIdeal.nD Cert.StepSmallIdeal.τ).loc Cert.StepSmallIdeal.main_arg35) = m ((c.tc : Thread Cert.StepSmallIdeal.nD Cert.StepSmallIdeal.τ).loc Cert.StepSmallIdeal.main_arg35)
      ∧ r.2.mem ((c.tc : Thread Cert.StepSmallIdeal.nD Cert.StepSmallIdeal.τ).loc Cert.StepSmallIdeal.main_arg36) = m ((c.tc : Thread Cert.StepSmallIdeal.nD Cert.StepSmallIdeal.τ).loc Cert.StepSmallIdeal.main_arg36)
      ∧ r.2.mem ((c.tc : Thread Cert.StepSmallIdeal.nD Cert.StepSmallIdeal.τ).loc Cert.StepSmallIdeal.main_arg37) = m ((c.tc : Thread Cert.StepSmallIdeal.nD Cert.StepSmallIdeal.τ).loc Cert.StepSmallIdeal.main_arg37)
      ∧ r.2.mem ((c.tc : Thread Cert.StepSmallIdeal.nD Cert.StepSmallIdeal.τ).loc Cert.StepSmallIdeal.main_arg38) = m ((c.tc : Thread Cert.StepSmallIdeal.nD Cert.StepSmallIdeal.τ).loc Cert.StepSmallIdeal.main_arg38)
      ∧ r.2.mem ((c.tc : Thread Cert.StepSmallIdeal.nD Cert.StepSmallIdeal.τ).loc Cert.StepSmallIdeal.main_arg39) = m ((c.tc : Thread Cert.StepSmallIdeal.nD Cert.StepSmallIdeal.τ).loc Cert.StepSmallIdeal.main_arg39)
      ∧ r.2.mem ((c.tc : Thread Cert.StepSmallIdeal.nD Cert.StepSmallIdeal.τ).loc Cert.StepSmallIdeal.main_arg40) = m ((c.tc : Thread Cert.StepSmallIdeal.nD Cert.StepSmallIdeal.τ).loc Cert.StepSmallIdeal.main_arg40)
      ∧ r.2.mem ((c.tc : Thread Cert.StepSmallIdeal.nD Cert.StepSmallIdeal.τ).loc Cert.StepSmallIdeal.main_arg41) = m ((c.tc : Thread Cert.StepSmallIdeal.nD Cert.StepSmallIdeal.τ).loc Cert.StepSmallIdeal.main_arg41)
      ∧ r.2.mem ((c.tc : Thread Cert.StepSmallIdeal.nD Cert.StepSmallIdeal.τ).loc Cert.StepSmallIdeal.main_arg42) = m ((c.tc : Thread Cert.StepSmallIdeal.nD Cert.StepSmallIdeal.τ).loc Cert.StepSmallIdeal.main_arg42)
      ∧ r.2.mem ((c.tc : Thread Cert.StepSmallIdeal.nD Cert.StepSmallIdeal.τ).loc Cert.StepSmallIdeal.main_arg43) = m ((c.tc : Thread Cert.StepSmallIdeal.nD Cert.StepSmallIdeal.τ).loc Cert.StepSmallIdeal.main_arg43)
      ∧ r.2.mem ((c.tc : Thread Cert.StepSmallIdeal.nD Cert.StepSmallIdeal.τ).loc Cert.StepSmallIdeal.main_arg44) = m ((c.tc : Thread Cert.StepSmallIdeal.nD Cert.StepSmallIdeal.τ).loc Cert.StepSmallIdeal.main_arg44)
      ∧ r.2.mem ((c.tc : Thread Cert.StepSmallIdeal.nD Cert.StepSmallIdeal.τ).loc Cert.StepSmallIdeal.main_arg45) = m ((c.tc : Thread Cert.StepSmallIdeal.nD Cert.StepSmallIdeal.τ).loc Cert.StepSmallIdeal.main_arg45)
      ∧ r.2.mem ((c.tc : Thread Cert.StepSmallIdeal.nD Cert.StepSmallIdeal.τ).loc Cert.StepSmallIdeal.main_arg46) = m ((c.tc : Thread Cert.StepSmallIdeal.nD Cert.StepSmallIdeal.τ).loc Cert.StepSmallIdeal.main_arg46)
      ∧ r.2.mem ((c.tc : Thread Cert.StepSmallIdeal.nD Cert.StepSmallIdeal.τ).loc Cert.StepSmallIdeal.main_arg47) = m ((c.tc : Thread Cert.StepSmallIdeal.nD Cert.StepSmallIdeal.τ).loc Cert.StepSmallIdeal.main_arg47))
      ∧ r.2.sem = fun _ => 0)

def quiescent_StepSmallRefIdeal [hStepSmallRefIdeal : Cert.StepSmallRefIdeal.Facts] : Prop :=
  ∀ (m : (ℓ : Loc Cert.StepSmallRefIdeal.nD Cert.StepSmallRefIdeal.τ Cert.StepSmallRefIdeal.sig) → Buf (Elt Ideal) ℓ) (g : Dev Cert.StepSmallRefIdeal.nD → PrngReg), Pre_StepSmallRefIdeal m →
    θ_run (Cert.StepSmallRefIdeal.defs (F := Ideal)) (onTc (τ := Cert.StepSmallRefIdeal.τ) (Cert.StepSmallRefIdeal.main (F := Ideal))) ⟨m, fun _ => 0, g⟩ (fun r => (∀ c : Dev Cert.StepSmallRefIdeal.nD,
      r.2.mem ((c.tc : Thread Cert.StepSmallRefIdeal.nD Cert.StepSmallRefIdeal.τ).loc Cert.StepSmallRefIdeal.main_arg0) = m ((c.tc : Thread Cert.StepSmallRefIdeal.nD Cert.StepSmallRefIdeal.τ).loc Cert.StepSmallRefIdeal.main_arg0)
      ∧ r.2.mem ((c.tc : Thread Cert.StepSmallRefIdeal.nD Cert.StepSmallRefIdeal.τ).loc Cert.StepSmallRefIdeal.main_arg1) = m ((c.tc : Thread Cert.StepSmallRefIdeal.nD Cert.StepSmallRefIdeal.τ).loc Cert.StepSmallRefIdeal.main_arg1)
      ∧ r.2.mem ((c.tc : Thread Cert.StepSmallRefIdeal.nD Cert.StepSmallRefIdeal.τ).loc Cert.StepSmallRefIdeal.main_arg2) = m ((c.tc : Thread Cert.StepSmallRefIdeal.nD Cert.StepSmallRefIdeal.τ).loc Cert.StepSmallRefIdeal.main_arg2)
      ∧ r.2.mem ((c.tc : Thread Cert.StepSmallRefIdeal.nD Cert.StepSmallRefIdeal.τ).loc Cert.StepSmallRefIdeal.main_arg3) = m ((c.tc : Thread Cert.StepSmallRefIdeal.nD Cert.StepSmallRefIdeal.τ).loc Cert.StepSmallRefIdeal.main_arg3)
      ∧ r.2.mem ((c.tc : Thread Cert.StepSmallRefIdeal.nD Cert.StepSmallRefIdeal.τ).loc Cert.StepSmallRefIdeal.main_arg4) = m ((c.tc : Thread Cert.StepSmallRefIdeal.nD Cert.StepSmallRefIdeal.τ).loc Cert.StepSmallRefIdeal.main_arg4)
      ∧ r.2.mem ((c.tc : Thread Cert.StepSmallRefIdeal.nD Cert.StepSmallRefIdeal.τ).loc Cert.StepSmallRefIdeal.main_arg5) = m ((c.tc : Thread Cert.StepSmallRefIdeal.nD Cert.StepSmallRefIdeal.τ).loc Cert.StepSmallRefIdeal.main_arg5)
      ∧ r.2.mem ((c.tc : Thread Cert.StepSmallRefIdeal.nD Cert.StepSmallRefIdeal.τ).loc Cert.StepSmallRefIdeal.main_arg6) = m ((c.tc : Thread Cert.StepSmallRefIdeal.nD Cert.StepSmallRefIdeal.τ).loc Cert.StepSmallRefIdeal.main_arg6)
      ∧ r.2.mem ((c.tc : Thread Cert.StepSmallRefIdeal.nD Cert.StepSmallRefIdeal.τ).loc Cert.StepSmallRefIdeal.main_arg7) = m ((c.tc : Thread Cert.StepSmallRefIdeal.nD Cert.StepSmallRefIdeal.τ).loc Cert.StepSmallRefIdeal.main_arg7)
      ∧ r.2.mem ((c.tc : Thread Cert.StepSmallRefIdeal.nD Cert.StepSmallRefIdeal.τ).loc Cert.StepSmallRefIdeal.main_arg8) = m ((c.tc : Thread Cert.StepSmallRefIdeal.nD Cert.StepSmallRefIdeal.τ).loc Cert.StepSmallRefIdeal.main_arg8)
      ∧ r.2.mem ((c.tc : Thread Cert.StepSmallRefIdeal.nD Cert.StepSmallRefIdeal.τ).loc Cert.StepSmallRefIdeal.main_arg9) = m ((c.tc : Thread Cert.StepSmallRefIdeal.nD Cert.StepSmallRefIdeal.τ).loc Cert.StepSmallRefIdeal.main_arg9)
      ∧ r.2.mem ((c.tc : Thread Cert.StepSmallRefIdeal.nD Cert.StepSmallRefIdeal.τ).loc Cert.StepSmallRefIdeal.main_arg10) = m ((c.tc : Thread Cert.StepSmallRefIdeal.nD Cert.StepSmallRefIdeal.τ).loc Cert.StepSmallRefIdeal.main_arg10)
      ∧ r.2.mem ((c.tc : Thread Cert.StepSmallRefIdeal.nD Cert.StepSmallRefIdeal.τ).loc Cert.StepSmallRefIdeal.main_arg11) = m ((c.tc : Thread Cert.StepSmallRefIdeal.nD Cert.StepSmallRefIdeal.τ).loc Cert.StepSmallRefIdeal.main_arg11)
      ∧ r.2.mem ((c.tc : Thread Cert.StepSmallRefIdeal.nD Cert.StepSmallRefIdeal.τ).loc Cert.StepSmallRefIdeal.main_arg12) = m ((c.tc : Thread Cert.StepSmallRefIdeal.nD Cert.StepSmallRefIdeal.τ).loc Cert.StepSmallRefIdeal.main_arg12)
      ∧ r.2.mem ((c.tc : Thread Cert.StepSmallRefIdeal.nD Cert.StepSmallRefIdeal.τ).loc Cert.StepSmallRefIdeal.main_arg13) = m ((c.tc : Thread Cert.StepSmallRefIdeal.nD Cert.StepSmallRefIdeal.τ).loc Cert.StepSmallRefIdeal.main_arg13)
      ∧ r.2.mem ((c.tc : Thread Cert.StepSmallRefIdeal.nD Cert.StepSmallRefIdeal.τ).loc Cert.StepSmallRefIdeal.main_arg14) = m ((c.tc : Thread Cert.StepSmallRefIdeal.nD Cert.StepSmallRefIdeal.τ).loc Cert.StepSmallRefIdeal.main_arg14)
      ∧ r.2.mem ((c.tc : Thread Cert.StepSmallRefIdeal.nD Cert.StepSmallRefIdeal.τ).loc Cert.StepSmallRefIdeal.main_arg15) = m ((c.tc : Thread Cert.StepSmallRefIdeal.nD Cert.StepSmallRefIdeal.τ).loc Cert.StepSmallRefIdeal.main_arg15)
      ∧ r.2.mem ((c.tc : Thread Cert.StepSmallRefIdeal.nD Cert.StepSmallRefIdeal.τ).loc Cert.StepSmallRefIdeal.main_arg16) = m ((c.tc : Thread Cert.StepSmallRefIdeal.nD Cert.StepSmallRefIdeal.τ).loc Cert.StepSmallRefIdeal.main_arg16)
      ∧ r.2.mem ((c.tc : Thread Cert.StepSmallRefIdeal.nD Cert.StepSmallRefIdeal.τ).loc Cert.StepSmallRefIdeal.main_arg17) = m ((c.tc : Thread Cert.StepSmallRefIdeal.nD Cert.StepSmallRefIdeal.τ).loc Cert.StepSmallRefIdeal.main_arg17)
      ∧ r.2.mem ((c.tc : Thread Cert.StepSmallRefIdeal.nD Cert.StepSmallRefIdeal.τ).loc Cert.StepSmallRefIdeal.main_arg18) = m ((c.tc : Thread Cert.StepSmallRefIdeal.nD Cert.StepSmallRefIdeal.τ).loc Cert.StepSmallRefIdeal.main_arg18)
      ∧ r.2.mem ((c.tc : Thread Cert.StepSmallRefIdeal.nD Cert.StepSmallRefIdeal.τ).loc Cert.StepSmallRefIdeal.main_arg19) = m ((c.tc : Thread Cert.StepSmallRefIdeal.nD Cert.StepSmallRefIdeal.τ).loc Cert.StepSmallRefIdeal.main_arg19)
      ∧ r.2.mem ((c.tc : Thread Cert.StepSmallRefIdeal.nD Cert.StepSmallRefIdeal.τ).loc Cert.StepSmallRefIdeal.main_arg20) = m ((c.tc : Thread Cert.StepSmallRefIdeal.nD Cert.StepSmallRefIdeal.τ).loc Cert.StepSmallRefIdeal.main_arg20)
      ∧ r.2.mem ((c.tc : Thread Cert.StepSmallRefIdeal.nD Cert.StepSmallRefIdeal.τ).loc Cert.StepSmallRefIdeal.main_arg21) = m ((c.tc : Thread Cert.StepSmallRefIdeal.nD Cert.StepSmallRefIdeal.τ).loc Cert.StepSmallRefIdeal.main_arg21)
      ∧ r.2.mem ((c.tc : Thread Cert.StepSmallRefIdeal.nD Cert.StepSmallRefIdeal.τ).loc Cert.StepSmallRefIdeal.main_arg22) = m ((c.tc : Thread Cert.StepSmallRefIdeal.nD Cert.StepSmallRefIdeal.τ).loc Cert.StepSmallRefIdeal.main_arg22)
      ∧ r.2.mem ((c.tc : Thread Cert.StepSmallRefIdeal.nD Cert.StepSmallRefIdeal.τ).loc Cert.StepSmallRefIdeal.main_arg23) = m ((c.tc : Thread Cert.StepSmallRefIdeal.nD Cert.StepSmallRefIdeal.τ).loc Cert.StepSmallRefIdeal.main_arg23)
      ∧ r.2.mem ((c.tc : Thread Cert.StepSmallRefIdeal.nD Cert.StepSmallRefIdeal.τ).loc Cert.StepSmallRefIdeal.main_arg24) = m ((c.tc : Thread Cert.StepSmallRefIdeal.nD Cert.StepSmallRefIdeal.τ).loc Cert.StepSmallRefIdeal.main_arg24)
      ∧ r.2.mem ((c.tc : Thread Cert.StepSmallRefIdeal.nD Cert.StepSmallRefIdeal.τ).loc Cert.StepSmallRefIdeal.main_arg25) = m ((c.tc : Thread Cert.StepSmallRefIdeal.nD Cert.StepSmallRefIdeal.τ).loc Cert.StepSmallRefIdeal.main_arg25)
      ∧ r.2.mem ((c.tc : Thread Cert.StepSmallRefIdeal.nD Cert.StepSmallRefIdeal.τ).loc Cert.StepSmallRefIdeal.main_arg26) = m ((c.tc : Thread Cert.StepSmallRefIdeal.nD Cert.StepSmallRefIdeal.τ).loc Cert.StepSmallRefIdeal.main_arg26)
      ∧ r.2.mem ((c.tc : Thread Cert.StepSmallRefIdeal.nD Cert.StepSmallRefIdeal.τ).loc Cert.StepSmallRefIdeal.main_arg27) = m ((c.tc : Thread Cert.StepSmallRefIdeal.nD Cert.StepSmallRefIdeal.τ).loc Cert.StepSmallRefIdeal.main_arg27)
      ∧ r.2.mem ((c.tc : Thread Cert.StepSmallRefIdeal.nD Cert.StepSmallRefIdeal.τ).loc Cert.StepSmallRefIdeal.main_arg28) = m ((c.tc : Thread Cert.StepSmallRefIdeal.nD Cert.StepSmallRefIdeal.τ).loc Cert.StepSmallRefIdeal.main_arg28)
      ∧ r.2.mem ((c.tc : Thread Cert.StepSmallRefIdeal.nD Cert.StepSmallRefIdeal.τ).loc Cert.StepSmallRefIdeal.main_arg29) = m ((c.tc : Thread Cert.StepSmallRefIdeal.nD Cert.StepSmallRefIdeal.τ).loc Cert.StepSmallRefIdeal.main_arg29)
      ∧ r.2.mem ((c.tc : Thread Cert.StepSmallRefIdeal.nD Cert.StepSmallRefIdeal.τ).loc Cert.StepSmallRefIdeal.main_arg30) = m ((c.tc : Thread Cert.StepSmallRefIdeal.nD Cert.StepSmallRefIdeal.τ).loc Cert.StepSmallRefIdeal.main_arg30)
      ∧ r.2.mem ((c.tc : Thread Cert.StepSmallRefIdeal.nD Cert.StepSmallRefIdeal.τ).loc Cert.StepSmallRefIdeal.main_arg31) = m ((c.tc : Thread Cert.StepSmallRefIdeal.nD Cert.StepSmallRefIdeal.τ).loc Cert.StepSmallRefIdeal.main_arg31)
      ∧ r.2.mem ((c.tc : Thread Cert.StepSmallRefIdeal.nD Cert.StepSmallRefIdeal.τ).loc Cert.StepSmallRefIdeal.main_arg32) = m ((c.tc : Thread Cert.StepSmallRefIdeal.nD Cert.StepSmallRefIdeal.τ).loc Cert.StepSmallRefIdeal.main_arg32)
      ∧ r.2.mem ((c.tc : Thread Cert.StepSmallRefIdeal.nD Cert.StepSmallRefIdeal.τ).loc Cert.StepSmallRefIdeal.main_arg33) = m ((c.tc : Thread Cert.StepSmallRefIdeal.nD Cert.StepSmallRefIdeal.τ).loc Cert.StepSmallRefIdeal.main_arg33)
      ∧ r.2.mem ((c.tc : Thread Cert.StepSmallRefIdeal.nD Cert.StepSmallRefIdeal.τ).loc Cert.StepSmallRefIdeal.main_arg34) = m ((c.tc : Thread Cert.StepSmallRefIdeal.nD Cert.StepSmallRefIdeal.τ).loc Cert.StepSmallRefIdeal.main_arg34)
      ∧ r.2.mem ((c.tc : Thread Cert.StepSmallRefIdeal.nD Cert.StepSmallRefIdeal.τ).loc Cert.StepSmallRefIdeal.main_arg35) = m ((c.tc : Thread Cert.StepSmallRefIdeal.nD Cert.StepSmallRefIdeal.τ).loc Cert.StepSmallRefIdeal.main_arg35)
      ∧ r.2.mem ((c.tc : Thread Cert.StepSmallRefIdeal.nD Cert.StepSmallRefIdeal.τ).loc Cert.StepSmallRefIdeal.main_arg36) = m ((c.tc : Thread Cert.StepSmallRefIdeal.nD Cert.StepSmallRefIdeal.τ).loc Cert.StepSmallRefIdeal.main_arg36)
      ∧ r.2.mem ((c.tc : Thread Cert.StepSmallRefIdeal.nD Cert.StepSmallRefIdeal.τ).loc Cert.StepSmallRefIdeal.main_arg37) = m ((c.tc : Thread Cert.StepSmallRefIdeal.nD Cert.StepSmallRefIdeal.τ).loc Cert.StepSmallRefIdeal.main_arg37)
      ∧ r.2.mem ((c.tc : Thread Cert.StepSmallRefIdeal.nD Cert.StepSmallRefIdeal.τ).loc Cert.StepSmallRefIdeal.main_arg38) = m ((c.tc : Thread Cert.StepSmallRefIdeal.nD Cert.StepSmallRefIdeal.τ).loc Cert.StepSmallRefIdeal.main_arg38)
      ∧ r.2.mem ((c.tc : Thread Cert.StepSmallRefIdeal.nD Cert.StepSmallRefIdeal.τ).loc Cert.StepSmallRefIdeal.main_arg39) = m ((c.tc : Thread Cert.StepSmallRefIdeal.nD Cert.StepSmallRefIdeal.τ).loc Cert.StepSmallRefIdeal.main_arg39)
      ∧ r.2.mem ((c.tc : Thread Cert.StepSmallRefIdeal.nD Cert.StepSmallRefIdeal.τ).loc Cert.StepSmallRefIdeal.main_arg40) = m ((c.tc : Thread Cert.StepSmallRefIdeal.nD Cert.StepSmallRefIdeal.τ).loc Cert.StepSmallRefIdeal.main_arg40)
      ∧ r.2.mem ((c.tc : Thread Cert.StepSmallRefIdeal.nD Cert.StepSmallRefIdeal.τ).loc Cert.StepSmallRefIdeal.main_arg41) = m ((c.tc : Thread Cert.StepSmallRefIdeal.nD Cert.StepSmallRefIdeal.τ).loc Cert.StepSmallRefIdeal.main_arg41)
      ∧ r.2.mem ((c.tc : Thread Cert.StepSmallRefIdeal.nD Cert.StepSmallRefIdeal.τ).loc Cert.StepSmallRefIdeal.main_arg42) = m ((c.tc : Thread Cert.StepSmallRefIdeal.nD Cert.StepSmallRefIdeal.τ).loc Cert.StepSmallRefIdeal.main_arg42)
      ∧ r.2.mem ((c.tc : Thread Cert.StepSmallRefIdeal.nD Cert.StepSmallRefIdeal.τ).loc Cert.StepSmallRefIdeal.main_arg43) = m ((c.tc : Thread Cert.StepSmallRefIdeal.nD Cert.StepSmallRefIdeal.τ).loc Cert.StepSmallRefIdeal.main_arg43)
      ∧ r.2.mem ((c.tc : Thread Cert.StepSmallRefIdeal.nD Cert.StepSmallRefIdeal.τ).loc Cert.StepSmallRefIdeal.main_arg44) = m ((c.tc : Thread Cert.StepSmallRefIdeal.nD Cert.StepSmallRefIdeal.τ).loc Cert.StepSmallRefIdeal.main_arg44)
      ∧ r.2.mem ((c.tc : Thread Cert.StepSmallRefIdeal.nD Cert.StepSmallRefIdeal.τ).loc Cert.StepSmallRefIdeal.main_arg45) = m ((c.tc : Thread Cert.StepSmallRefIdeal.nD Cert.StepSmallRefIdeal.τ).loc Cert.StepSmallRefIdeal.main_arg45)
      ∧ r.2.mem ((c.tc : Thread Cert.StepSmallRefIdeal.nD Cert.StepSmallRefIdeal.τ).loc Cert.StepSmallRefIdeal.main_arg46) = m ((c.tc : Thread Cert.StepSmallRefIdeal.nD Cert.StepSmallRefIdeal.τ).loc Cert.StepSmallRefIdeal.main_arg46)
      ∧ r.2.mem ((c.tc : Thread Cert.StepSmallRefIdeal.nD Cert.StepSmallRefIdeal.τ).loc Cert.StepSmallRefIdeal.main_arg47) = m ((c.tc : Thread Cert.StepSmallRefIdeal.nD Cert.StepSmallRefIdeal.τ).loc Cert.StepSmallRefIdeal.main_arg47))
      ∧ r.2.sem = fun _ => 0)

def quiescent_Norm1Bwd [hNorm1Bwd : Cert.Norm1Bwd.Facts] : Prop :=
  ∀ (m : (ℓ : Loc Cert.Norm1Bwd.nD Cert.Norm1Bwd.τ Cert.Norm1Bwd.sig) → Buf (Elt Bits) ℓ) (g : Dev Cert.Norm1Bwd.nD → PrngReg), Pre_Norm1Bwd m →
    θ_run (Cert.Norm1Bwd.defs (F := Bits)) (onTc (τ := Cert.Norm1Bwd.τ) (Cert.Norm1Bwd.main (F := Bits))) ⟨m, fun _ => 0, g⟩ (fun r => (∀ c : Dev Cert.Norm1Bwd.nD,
      r.2.mem ((c.tc : Thread Cert.Norm1Bwd.nD Cert.Norm1Bwd.τ).loc Cert.Norm1Bwd.main_arg0) = m ((c.tc : Thread Cert.Norm1Bwd.nD Cert.Norm1Bwd.τ).loc Cert.Norm1Bwd.main_arg0)
      ∧ r.2.mem ((c.tc : Thread Cert.Norm1Bwd.nD Cert.Norm1Bwd.τ).loc Cert.Norm1Bwd.main_arg1) = m ((c.tc : Thread Cert.Norm1Bwd.nD Cert.Norm1Bwd.τ).loc Cert.Norm1Bwd.main_arg1)
      ∧ r.2.mem ((c.tc : Thread Cert.Norm1Bwd.nD Cert.Norm1Bwd.τ).loc Cert.Norm1Bwd.main_arg2) = m ((c.tc : Thread Cert.Norm1Bwd.nD Cert.Norm1Bwd.τ).loc Cert.Norm1Bwd.main_arg2)
      ∧ r.2.mem ((c.tc : Thread Cert.Norm1Bwd.nD Cert.Norm1Bwd.τ).loc Cert.Norm1Bwd.main_arg3) = m ((c.tc : Thread Cert.Norm1Bwd.nD Cert.Norm1Bwd.τ).loc Cert.Norm1Bwd.main_arg3)
      ∧ r.2.mem ((c.tc : Thread Cert.Norm1Bwd.nD Cert.Norm1Bwd.τ).loc Cert.Norm1Bwd.main_arg4) = m ((c.tc : Thread Cert.Norm1Bwd.nD Cert.Norm1Bwd.τ).loc Cert.Norm1Bwd.main_arg4)
      ∧ r.2.mem ((c.tc : Thread Cert.Norm1Bwd.nD Cert.Norm1Bwd.τ).loc Cert.Norm1Bwd.main_arg5) = m ((c.tc : Thread Cert.Norm1Bwd.nD Cert.Norm1Bwd.τ).loc Cert.Norm1Bwd.main_arg5))
      ∧ r.2.sem = fun _ => 0)

def quiescent_Norm1BwdIdeal [hNorm1BwdIdeal : Cert.Norm1BwdIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg), Pre_Norm1BwdIdeal m →
    θ_run (Cert.Norm1BwdIdeal.defs (F := Ideal)) (onTc (τ := Cert.Norm1BwdIdeal.τ) (Cert.Norm1BwdIdeal.main (F := Ideal))) ⟨m, fun _ => 0, g⟩ (fun r => (∀ c : Dev Cert.Norm1BwdIdeal.nD,
      r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
      ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
      ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
      ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
      ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4)
      ∧ r.2.mem ((c.tc : Thread Cert.Norm1BwdIdeal.nD Cert.Norm1BwdIdeal.τ).loc Cert.Norm1BwdIdeal.main_arg5) = m ((c.tc : Thread Cert.Norm1BwdIdeal.nD Cert.Norm1BwdIdeal.τ).loc Cert.Norm1BwdIdeal.main_arg5))
      ∧ r.2.sem = fun _ => 0)

def quiescent_Norm1BwdRefIdeal [hNorm1BwdRefIdeal : Cert.Norm1BwdRefIdeal.Facts] : Prop :=
  ∀ (m : (ℓ : Loc Cert.Norm1BwdRefIdeal.nD Cert.Norm1BwdRefIdeal.τ Cert.Norm1BwdRefIdeal.sig) → Buf (Elt Ideal) ℓ) (g : Dev Cert.Norm1BwdRefIdeal.nD → PrngReg), Pre_Norm1BwdRefIdeal m →
    θ_run (Cert.Norm1BwdRefIdeal.defs (F := Ideal)) (onTc (τ := Cert.Norm1BwdRefIdeal.τ) (Cert.Norm1BwdRefIdeal.main (F := Ideal))) ⟨m, fun _ => 0, g⟩ (fun r => (∀ c : Dev Cert.Norm1BwdRefIdeal.nD,
      r.2.mem ((c.tc : Thread Cert.Norm1BwdRefIdeal.nD Cert.Norm1BwdRefIdeal.τ).loc Cert.Norm1BwdRefIdeal.main_arg0) = m ((c.tc : Thread Cert.Norm1BwdRefIdeal.nD Cert.Norm1BwdRefIdeal.τ).loc Cert.Norm1BwdRefIdeal.main_arg0)
      ∧ r.2.mem ((c.tc : Thread Cert.Norm1BwdRefIdeal.nD Cert.Norm1BwdRefIdeal.τ).loc Cert.Norm1BwdRefIdeal.main_arg1) = m ((c.tc : Thread Cert.Norm1BwdRefIdeal.nD Cert.Norm1BwdRefIdeal.τ).loc Cert.Norm1BwdRefIdeal.main_arg1)
      ∧ r.2.mem ((c.tc : Thread Cert.Norm1BwdRefIdeal.nD Cert.Norm1BwdRefIdeal.τ).loc Cert.Norm1BwdRefIdeal.main_arg2) = m ((c.tc : Thread Cert.Norm1BwdRefIdeal.nD Cert.Norm1BwdRefIdeal.τ).loc Cert.Norm1BwdRefIdeal.main_arg2)
      ∧ r.2.mem ((c.tc : Thread Cert.Norm1BwdRefIdeal.nD Cert.Norm1BwdRefIdeal.τ).loc Cert.Norm1BwdRefIdeal.main_arg3) = m ((c.tc : Thread Cert.Norm1BwdRefIdeal.nD Cert.Norm1BwdRefIdeal.τ).loc Cert.Norm1BwdRefIdeal.main_arg3)
      ∧ r.2.mem ((c.tc : Thread Cert.Norm1BwdRefIdeal.nD Cert.Norm1BwdRefIdeal.τ).loc Cert.Norm1BwdRefIdeal.main_arg4) = m ((c.tc : Thread Cert.Norm1BwdRefIdeal.nD Cert.Norm1BwdRefIdeal.τ).loc Cert.Norm1BwdRefIdeal.main_arg4)
      ∧ r.2.mem ((c.tc : Thread Cert.Norm1BwdRefIdeal.nD Cert.Norm1BwdRefIdeal.τ).loc Cert.Norm1BwdRefIdeal.main_arg5) = m ((c.tc : Thread Cert.Norm1BwdRefIdeal.nD Cert.Norm1BwdRefIdeal.τ).loc Cert.Norm1BwdRefIdeal.main_arg5))
      ∧ r.2.sem = fun _ => 0)

def quiescent_Norm2Bwd [hNorm2Bwd : Cert.Norm2Bwd.Facts] : Prop :=
  ∀ (m : (ℓ : Loc Cert.Norm2Bwd.nD Cert.Norm2Bwd.τ Cert.Norm2Bwd.sig) → Buf (Elt Bits) ℓ) (g : Dev Cert.Norm2Bwd.nD → PrngReg), Pre_Norm2Bwd m →
    θ_run (Cert.Norm2Bwd.defs (F := Bits)) (onTc (τ := Cert.Norm2Bwd.τ) (Cert.Norm2Bwd.main (F := Bits))) ⟨m, fun _ => 0, g⟩ (fun r => (∀ c : Dev Cert.Norm2Bwd.nD,
      r.2.mem ((c.tc : Thread Cert.Norm2Bwd.nD Cert.Norm2Bwd.τ).loc Cert.Norm2Bwd.main_arg0) = m ((c.tc : Thread Cert.Norm2Bwd.nD Cert.Norm2Bwd.τ).loc Cert.Norm2Bwd.main_arg0)
      ∧ r.2.mem ((c.tc : Thread Cert.Norm2Bwd.nD Cert.Norm2Bwd.τ).loc Cert.Norm2Bwd.main_arg1) = m ((c.tc : Thread Cert.Norm2Bwd.nD Cert.Norm2Bwd.τ).loc Cert.Norm2Bwd.main_arg1)
      ∧ r.2.mem ((c.tc : Thread Cert.Norm2Bwd.nD Cert.Norm2Bwd.τ).loc Cert.Norm2Bwd.main_arg2) = m ((c.tc : Thread Cert.Norm2Bwd.nD Cert.Norm2Bwd.τ).loc Cert.Norm2Bwd.main_arg2)
      ∧ r.2.mem ((c.tc : Thread Cert.Norm2Bwd.nD Cert.Norm2Bwd.τ).loc Cert.Norm2Bwd.main_arg3) = m ((c.tc : Thread Cert.Norm2Bwd.nD Cert.Norm2Bwd.τ).loc Cert.Norm2Bwd.main_arg3)
      ∧ r.2.mem ((c.tc : Thread Cert.Norm2Bwd.nD Cert.Norm2Bwd.τ).loc Cert.Norm2Bwd.main_arg4) = m ((c.tc : Thread Cert.Norm2Bwd.nD Cert.Norm2Bwd.τ).loc Cert.Norm2Bwd.main_arg4)
      ∧ r.2.mem ((c.tc : Thread Cert.Norm2Bwd.nD Cert.Norm2Bwd.τ).loc Cert.Norm2Bwd.main_arg5) = m ((c.tc : Thread Cert.Norm2Bwd.nD Cert.Norm2Bwd.τ).loc Cert.Norm2Bwd.main_arg5)
      ∧ r.2.mem ((c.tc : Thread Cert.Norm2Bwd.nD Cert.Norm2Bwd.τ).loc Cert.Norm2Bwd.main_arg6) = m ((c.tc : Thread Cert.Norm2Bwd.nD Cert.Norm2Bwd.τ).loc Cert.Norm2Bwd.main_arg6)
      ∧ r.2.mem ((c.tc : Thread Cert.Norm2Bwd.nD Cert.Norm2Bwd.τ).loc Cert.Norm2Bwd.main_arg7) = m ((c.tc : Thread Cert.Norm2Bwd.nD Cert.Norm2Bwd.τ).loc Cert.Norm2Bwd.main_arg7))
      ∧ r.2.sem = fun _ => 0)

def quiescent_Norm2BwdIdeal [hNorm2BwdIdeal : Cert.Norm2BwdIdeal.Facts] : Prop :=
  ∀ (m : (ℓ : Loc Cert.Norm2BwdIdeal.nD Cert.Norm2BwdIdeal.τ Cert.Norm2BwdIdeal.sig) → Buf (Elt Ideal) ℓ) (g : Dev Cert.Norm2BwdIdeal.nD → PrngReg), Pre_Norm2BwdIdeal m →
    θ_run (Cert.Norm2BwdIdeal.defs (F := Ideal)) (onTc (τ := Cert.Norm2BwdIdeal.τ) (Cert.Norm2BwdIdeal.main (F := Ideal))) ⟨m, fun _ => 0, g⟩ (fun r => (∀ c : Dev Cert.Norm2BwdIdeal.nD,
      r.2.mem ((c.tc : Thread Cert.Norm2BwdIdeal.nD Cert.Norm2BwdIdeal.τ).loc Cert.Norm2BwdIdeal.main_arg0) = m ((c.tc : Thread Cert.Norm2BwdIdeal.nD Cert.Norm2BwdIdeal.τ).loc Cert.Norm2BwdIdeal.main_arg0)
      ∧ r.2.mem ((c.tc : Thread Cert.Norm2BwdIdeal.nD Cert.Norm2BwdIdeal.τ).loc Cert.Norm2BwdIdeal.main_arg1) = m ((c.tc : Thread Cert.Norm2BwdIdeal.nD Cert.Norm2BwdIdeal.τ).loc Cert.Norm2BwdIdeal.main_arg1)
      ∧ r.2.mem ((c.tc : Thread Cert.Norm2BwdIdeal.nD Cert.Norm2BwdIdeal.τ).loc Cert.Norm2BwdIdeal.main_arg2) = m ((c.tc : Thread Cert.Norm2BwdIdeal.nD Cert.Norm2BwdIdeal.τ).loc Cert.Norm2BwdIdeal.main_arg2)
      ∧ r.2.mem ((c.tc : Thread Cert.Norm2BwdIdeal.nD Cert.Norm2BwdIdeal.τ).loc Cert.Norm2BwdIdeal.main_arg3) = m ((c.tc : Thread Cert.Norm2BwdIdeal.nD Cert.Norm2BwdIdeal.τ).loc Cert.Norm2BwdIdeal.main_arg3)
      ∧ r.2.mem ((c.tc : Thread Cert.Norm2BwdIdeal.nD Cert.Norm2BwdIdeal.τ).loc Cert.Norm2BwdIdeal.main_arg4) = m ((c.tc : Thread Cert.Norm2BwdIdeal.nD Cert.Norm2BwdIdeal.τ).loc Cert.Norm2BwdIdeal.main_arg4)
      ∧ r.2.mem ((c.tc : Thread Cert.Norm2BwdIdeal.nD Cert.Norm2BwdIdeal.τ).loc Cert.Norm2BwdIdeal.main_arg5) = m ((c.tc : Thread Cert.Norm2BwdIdeal.nD Cert.Norm2BwdIdeal.τ).loc Cert.Norm2BwdIdeal.main_arg5)
      ∧ r.2.mem ((c.tc : Thread Cert.Norm2BwdIdeal.nD Cert.Norm2BwdIdeal.τ).loc Cert.Norm2BwdIdeal.main_arg6) = m ((c.tc : Thread Cert.Norm2BwdIdeal.nD Cert.Norm2BwdIdeal.τ).loc Cert.Norm2BwdIdeal.main_arg6)
      ∧ r.2.mem ((c.tc : Thread Cert.Norm2BwdIdeal.nD Cert.Norm2BwdIdeal.τ).loc Cert.Norm2BwdIdeal.main_arg7) = m ((c.tc : Thread Cert.Norm2BwdIdeal.nD Cert.Norm2BwdIdeal.τ).loc Cert.Norm2BwdIdeal.main_arg7))
      ∧ r.2.sem = fun _ => 0)

def quiescent_Norm2BwdRefIdeal [hNorm2BwdRefIdeal : Cert.Norm2BwdRefIdeal.Facts] : Prop :=
  ∀ (m : (ℓ : Loc Cert.Norm2BwdRefIdeal.nD Cert.Norm2BwdRefIdeal.τ Cert.Norm2BwdRefIdeal.sig) → Buf (Elt Ideal) ℓ) (g : Dev Cert.Norm2BwdRefIdeal.nD → PrngReg), Pre_Norm2BwdRefIdeal m →
    θ_run (Cert.Norm2BwdRefIdeal.defs (F := Ideal)) (onTc (τ := Cert.Norm2BwdRefIdeal.τ) (Cert.Norm2BwdRefIdeal.main (F := Ideal))) ⟨m, fun _ => 0, g⟩ (fun r => (∀ c : Dev Cert.Norm2BwdRefIdeal.nD,
      r.2.mem ((c.tc : Thread Cert.Norm2BwdRefIdeal.nD Cert.Norm2BwdRefIdeal.τ).loc Cert.Norm2BwdRefIdeal.main_arg0) = m ((c.tc : Thread Cert.Norm2BwdRefIdeal.nD Cert.Norm2BwdRefIdeal.τ).loc Cert.Norm2BwdRefIdeal.main_arg0)
      ∧ r.2.mem ((c.tc : Thread Cert.Norm2BwdRefIdeal.nD Cert.Norm2BwdRefIdeal.τ).loc Cert.Norm2BwdRefIdeal.main_arg1) = m ((c.tc : Thread Cert.Norm2BwdRefIdeal.nD Cert.Norm2BwdRefIdeal.τ).loc Cert.Norm2BwdRefIdeal.main_arg1)
      ∧ r.2.mem ((c.tc : Thread Cert.Norm2BwdRefIdeal.nD Cert.Norm2BwdRefIdeal.τ).loc Cert.Norm2BwdRefIdeal.main_arg2) = m ((c.tc : Thread Cert.Norm2BwdRefIdeal.nD Cert.Norm2BwdRefIdeal.τ).loc Cert.Norm2BwdRefIdeal.main_arg2)
      ∧ r.2.mem ((c.tc : Thread Cert.Norm2BwdRefIdeal.nD Cert.Norm2BwdRefIdeal.τ).loc Cert.Norm2BwdRefIdeal.main_arg3) = m ((c.tc : Thread Cert.Norm2BwdRefIdeal.nD Cert.Norm2BwdRefIdeal.τ).loc Cert.Norm2BwdRefIdeal.main_arg3)
      ∧ r.2.mem ((c.tc : Thread Cert.Norm2BwdRefIdeal.nD Cert.Norm2BwdRefIdeal.τ).loc Cert.Norm2BwdRefIdeal.main_arg4) = m ((c.tc : Thread Cert.Norm2BwdRefIdeal.nD Cert.Norm2BwdRefIdeal.τ).loc Cert.Norm2BwdRefIdeal.main_arg4)
      ∧ r.2.mem ((c.tc : Thread Cert.Norm2BwdRefIdeal.nD Cert.Norm2BwdRefIdeal.τ).loc Cert.Norm2BwdRefIdeal.main_arg5) = m ((c.tc : Thread Cert.Norm2BwdRefIdeal.nD Cert.Norm2BwdRefIdeal.τ).loc Cert.Norm2BwdRefIdeal.main_arg5)
      ∧ r.2.mem ((c.tc : Thread Cert.Norm2BwdRefIdeal.nD Cert.Norm2BwdRefIdeal.τ).loc Cert.Norm2BwdRefIdeal.main_arg6) = m ((c.tc : Thread Cert.Norm2BwdRefIdeal.nD Cert.Norm2BwdRefIdeal.τ).loc Cert.Norm2BwdRefIdeal.main_arg6)
      ∧ r.2.mem ((c.tc : Thread Cert.Norm2BwdRefIdeal.nD Cert.Norm2BwdRefIdeal.τ).loc Cert.Norm2BwdRefIdeal.main_arg7) = m ((c.tc : Thread Cert.Norm2BwdRefIdeal.nD Cert.Norm2BwdRefIdeal.τ).loc Cert.Norm2BwdRefIdeal.main_arg7))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2)
      ∧ r.2.mem ((c.tc : Thread Cert.LossBwd.nD Cert.LossBwd.τ).loc Cert.LossBwd.main_arg3) = m ((c.tc : Thread Cert.LossBwd.nD Cert.LossBwd.τ).loc Cert.LossBwd.main_arg3)
      ∧ r.2.mem ((c.tc : Thread Cert.LossBwd.nD Cert.LossBwd.τ).loc Cert.LossBwd.main_arg4) = m ((c.tc : Thread Cert.LossBwd.nD Cert.LossBwd.τ).loc Cert.LossBwd.main_arg4))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4))
      ∧ r.2.sem = fun _ => 0)

def quiescent_LossBwdRefIdeal [hLossBwdRefIdeal : Cert.LossBwdRefIdeal.Facts] : Prop :=
  ∀ (m : (ℓ : Loc Cert.LossBwdRefIdeal.nD Cert.LossBwdRefIdeal.τ Cert.LossBwdRefIdeal.sig) → Buf (Elt Ideal) ℓ) (g : Dev Cert.LossBwdRefIdeal.nD → PrngReg), Pre_LossBwdRefIdeal m →
    θ_run (Cert.LossBwdRefIdeal.defs (F := Ideal)) (onTc (τ := Cert.LossBwdRefIdeal.τ) (Cert.LossBwdRefIdeal.main (F := Ideal))) ⟨m, fun _ => 0, g⟩ (fun r => (∀ c : Dev Cert.LossBwdRefIdeal.nD,
      r.2.mem ((c.tc : Thread Cert.LossBwdRefIdeal.nD Cert.LossBwdRefIdeal.τ).loc Cert.LossBwdRefIdeal.main_arg0) = m ((c.tc : Thread Cert.LossBwdRefIdeal.nD Cert.LossBwdRefIdeal.τ).loc Cert.LossBwdRefIdeal.main_arg0)
      ∧ r.2.mem ((c.tc : Thread Cert.LossBwdRefIdeal.nD Cert.LossBwdRefIdeal.τ).loc Cert.LossBwdRefIdeal.main_arg1) = m ((c.tc : Thread Cert.LossBwdRefIdeal.nD Cert.LossBwdRefIdeal.τ).loc Cert.LossBwdRefIdeal.main_arg1)
      ∧ r.2.mem ((c.tc : Thread Cert.LossBwdRefIdeal.nD Cert.LossBwdRefIdeal.τ).loc Cert.LossBwdRefIdeal.main_arg2) = m ((c.tc : Thread Cert.LossBwdRefIdeal.nD Cert.LossBwdRefIdeal.τ).loc Cert.LossBwdRefIdeal.main_arg2)
      ∧ r.2.mem ((c.tc : Thread Cert.LossBwdRefIdeal.nD Cert.LossBwdRefIdeal.τ).loc Cert.LossBwdRefIdeal.main_arg3) = m ((c.tc : Thread Cert.LossBwdRefIdeal.nD Cert.LossBwdRefIdeal.τ).loc Cert.LossBwdRefIdeal.main_arg3)
      ∧ r.2.mem ((c.tc : Thread Cert.LossBwdRefIdeal.nD Cert.LossBwdRefIdeal.τ).loc Cert.LossBwdRefIdeal.main_arg4) = m ((c.tc : Thread Cert.LossBwdRefIdeal.nD Cert.LossBwdRefIdeal.τ).loc Cert.LossBwdRefIdeal.main_arg4))
      ∧ r.2.sem = fun _ => 0)

def quiescent_CfLnBwd [hCfLnBwd : Cert.CfLnBwd.Facts] : Prop :=
  ∀ (m : (ℓ : Loc Cert.CfLnBwd.nD Cert.CfLnBwd.τ Cert.CfLnBwd.sig) → Buf (Elt Bits) ℓ) (g : Dev Cert.CfLnBwd.nD → PrngReg), Pre_CfLnBwd m →
    θ_run (Cert.CfLnBwd.defs (F := Bits)) (onTc (τ := Cert.CfLnBwd.τ) (Cert.CfLnBwd.main (F := Bits))) ⟨m, fun _ => 0, g⟩ (fun r => (∀ c : Dev Cert.CfLnBwd.nD,
      r.2.mem ((c.tc : Thread Cert.CfLnBwd.nD Cert.CfLnBwd.τ).loc Cert.CfLnBwd.main_arg0) = m ((c.tc : Thread Cert.CfLnBwd.nD Cert.CfLnBwd.τ).loc Cert.CfLnBwd.main_arg0)
      ∧ r.2.mem ((c.tc : Thread Cert.CfLnBwd.nD Cert.CfLnBwd.τ).loc Cert.CfLnBwd.main_arg1) = m ((c.tc : Thread Cert.CfLnBwd.nD Cert.CfLnBwd.τ).loc Cert.CfLnBwd.main_arg1)
      ∧ r.2.mem ((c.tc : Thread Cert.CfLnBwd.nD Cert.CfLnBwd.τ).loc Cert.CfLnBwd.main_arg2) = m ((c.tc : Thread Cert.CfLnBwd.nD Cert.CfLnBwd.τ).loc Cert.CfLnBwd.main_arg2)
      ∧ r.2.mem ((c.tc : Thread Cert.CfLnBwd.nD Cert.CfLnBwd.τ).loc Cert.CfLnBwd.main_arg3) = m ((c.tc : Thread Cert.CfLnBwd.nD Cert.CfLnBwd.τ).loc Cert.CfLnBwd.main_arg3))
      ∧ r.2.sem = fun _ => 0)

def quiescent_CfLnBwdIdeal [hCfLnBwdIdeal : Cert.CfLnBwdIdeal.Facts] : Prop :=
  ∀ (m : (ℓ : Loc Cert.CfLnBwdIdeal.nD Cert.CfLnBwdIdeal.τ Cert.CfLnBwdIdeal.sig) → Buf (Elt Ideal) ℓ) (g : Dev Cert.CfLnBwdIdeal.nD → PrngReg), Pre_CfLnBwdIdeal m →
    θ_run (Cert.CfLnBwdIdeal.defs (F := Ideal)) (onTc (τ := Cert.CfLnBwdIdeal.τ) (Cert.CfLnBwdIdeal.main (F := Ideal))) ⟨m, fun _ => 0, g⟩ (fun r => (∀ c : Dev Cert.CfLnBwdIdeal.nD,
      r.2.mem ((c.tc : Thread Cert.CfLnBwdIdeal.nD Cert.CfLnBwdIdeal.τ).loc Cert.CfLnBwdIdeal.main_arg0) = m ((c.tc : Thread Cert.CfLnBwdIdeal.nD Cert.CfLnBwdIdeal.τ).loc Cert.CfLnBwdIdeal.main_arg0)
      ∧ r.2.mem ((c.tc : Thread Cert.CfLnBwdIdeal.nD Cert.CfLnBwdIdeal.τ).loc Cert.CfLnBwdIdeal.main_arg1) = m ((c.tc : Thread Cert.CfLnBwdIdeal.nD Cert.CfLnBwdIdeal.τ).loc Cert.CfLnBwdIdeal.main_arg1)
      ∧ r.2.mem ((c.tc : Thread Cert.CfLnBwdIdeal.nD Cert.CfLnBwdIdeal.τ).loc Cert.CfLnBwdIdeal.main_arg2) = m ((c.tc : Thread Cert.CfLnBwdIdeal.nD Cert.CfLnBwdIdeal.τ).loc Cert.CfLnBwdIdeal.main_arg2)
      ∧ r.2.mem ((c.tc : Thread Cert.CfLnBwdIdeal.nD Cert.CfLnBwdIdeal.τ).loc Cert.CfLnBwdIdeal.main_arg3) = m ((c.tc : Thread Cert.CfLnBwdIdeal.nD Cert.CfLnBwdIdeal.τ).loc Cert.CfLnBwdIdeal.main_arg3))
      ∧ r.2.sem = fun _ => 0)

def quiescent_CfLnBwdRefIdeal [hCfLnBwdRefIdeal : Cert.CfLnBwdRefIdeal.Facts] : Prop :=
  ∀ (m : (ℓ : Loc Cert.CfLnBwdRefIdeal.nD Cert.CfLnBwdRefIdeal.τ Cert.CfLnBwdRefIdeal.sig) → Buf (Elt Ideal) ℓ) (g : Dev Cert.CfLnBwdRefIdeal.nD → PrngReg), Pre_CfLnBwdRefIdeal m →
    θ_run (Cert.CfLnBwdRefIdeal.defs (F := Ideal)) (onTc (τ := Cert.CfLnBwdRefIdeal.τ) (Cert.CfLnBwdRefIdeal.main (F := Ideal))) ⟨m, fun _ => 0, g⟩ (fun r => (∀ c : Dev Cert.CfLnBwdRefIdeal.nD,
      r.2.mem ((c.tc : Thread Cert.CfLnBwdRefIdeal.nD Cert.CfLnBwdRefIdeal.τ).loc Cert.CfLnBwdRefIdeal.main_arg0) = m ((c.tc : Thread Cert.CfLnBwdRefIdeal.nD Cert.CfLnBwdRefIdeal.τ).loc Cert.CfLnBwdRefIdeal.main_arg0)
      ∧ r.2.mem ((c.tc : Thread Cert.CfLnBwdRefIdeal.nD Cert.CfLnBwdRefIdeal.τ).loc Cert.CfLnBwdRefIdeal.main_arg1) = m ((c.tc : Thread Cert.CfLnBwdRefIdeal.nD Cert.CfLnBwdRefIdeal.τ).loc Cert.CfLnBwdRefIdeal.main_arg1)
      ∧ r.2.mem ((c.tc : Thread Cert.CfLnBwdRefIdeal.nD Cert.CfLnBwdRefIdeal.τ).loc Cert.CfLnBwdRefIdeal.main_arg2) = m ((c.tc : Thread Cert.CfLnBwdRefIdeal.nD Cert.CfLnBwdRefIdeal.τ).loc Cert.CfLnBwdRefIdeal.main_arg2)
      ∧ r.2.mem ((c.tc : Thread Cert.CfLnBwdRefIdeal.nD Cert.CfLnBwdRefIdeal.τ).loc Cert.CfLnBwdRefIdeal.main_arg3) = m ((c.tc : Thread Cert.CfLnBwdRefIdeal.nD Cert.CfLnBwdRefIdeal.τ).loc Cert.CfLnBwdRefIdeal.main_arg3))
      ∧ r.2.sem = fun _ => 0)

def quiescent_AdaDw [hAdaDw : Cert.AdaDw.Facts] : Prop :=
  ∀ (m : (ℓ : Loc Cert.AdaDw.nD Cert.AdaDw.τ Cert.AdaDw.sig) → Buf (Elt Bits) ℓ) (g : Dev Cert.AdaDw.nD → PrngReg), Pre_AdaDw m →
    θ_run (Cert.AdaDw.defs (F := Bits)) (onTc (τ := Cert.AdaDw.τ) (Cert.AdaDw.main (F := Bits))) ⟨m, fun _ => 0, g⟩ (fun r => (∀ c : Dev Cert.AdaDw.nD,
      r.2.mem ((c.tc : Thread Cert.AdaDw.nD Cert.AdaDw.τ).loc Cert.AdaDw.main_arg0) = m ((c.tc : Thread Cert.AdaDw.nD Cert.AdaDw.τ).loc Cert.AdaDw.main_arg0)
      ∧ r.2.mem ((c.tc : Thread Cert.AdaDw.nD Cert.AdaDw.τ).loc Cert.AdaDw.main_arg1) = m ((c.tc : Thread Cert.AdaDw.nD Cert.AdaDw.τ).loc Cert.AdaDw.main_arg1))
      ∧ r.2.sem = fun _ => 0)

def quiescent_AdaDwIdeal [hAdaDwIdeal : Cert.AdaDwIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg), Pre_AdaDwIdeal m →
    θ_run (Cert.AdaDwIdeal.defs (F := Ideal)) (onTc (τ := Cert.AdaDwIdeal.τ) (Cert.AdaDwIdeal.main (F := Ideal))) ⟨m, fun _ => 0, g⟩ (fun r => (∀ c : Dev Cert.AdaDwIdeal.nD,
      r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
      ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ r.2.sem = fun _ => 0)

def quiescent_AdaDwRefIdeal [hAdaDwRefIdeal : Cert.AdaDwRefIdeal.Facts] : Prop :=
  ∀ (m : (ℓ : Loc Cert.AdaDwRefIdeal.nD Cert.AdaDwRefIdeal.τ Cert.AdaDwRefIdeal.sig) → Buf (Elt Ideal) ℓ) (g : Dev Cert.AdaDwRefIdeal.nD → PrngReg), Pre_AdaDwRefIdeal m →
    θ_run (Cert.AdaDwRefIdeal.defs (F := Ideal)) (onTc (τ := Cert.AdaDwRefIdeal.τ) (Cert.AdaDwRefIdeal.main (F := Ideal))) ⟨m, fun _ => 0, g⟩ (fun r => (∀ c : Dev Cert.AdaDwRefIdeal.nD,
      r.2.mem ((c.tc : Thread Cert.AdaDwRefIdeal.nD Cert.AdaDwRefIdeal.τ).loc Cert.AdaDwRefIdeal.main_arg0) = m ((c.tc : Thread Cert.AdaDwRefIdeal.nD Cert.AdaDwRefIdeal.τ).loc Cert.AdaDwRefIdeal.main_arg0)
      ∧ r.2.mem ((c.tc : Thread Cert.AdaDwRefIdeal.nD Cert.AdaDwRefIdeal.τ).loc Cert.AdaDwRefIdeal.main_arg1) = m ((c.tc : Thread Cert.AdaDwRefIdeal.nD Cert.AdaDwRefIdeal.τ).loc Cert.AdaDwRefIdeal.main_arg1))
      ∧ r.2.sem = fun _ => 0)

def quiescent_SmallSum [hSmallSum : Cert.SmallSum.Facts] : Prop :=
  ∀ (m : (ℓ : Loc Cert.SmallSum.nD Cert.SmallSum.τ Cert.SmallSum.sig) → Buf (Elt Bits) ℓ) (g : Dev Cert.SmallSum.nD → PrngReg), Pre_SmallSum m →
    θ_run (Cert.SmallSum.defs (F := Bits)) (onTc (τ := Cert.SmallSum.τ) (Cert.SmallSum.main (F := Bits))) ⟨m, fun _ => 0, g⟩ (fun r => (∀ c : Dev Cert.SmallSum.nD,
      r.2.mem ((c.tc : Thread Cert.SmallSum.nD Cert.SmallSum.τ).loc Cert.SmallSum.main_arg0) = m ((c.tc : Thread Cert.SmallSum.nD Cert.SmallSum.τ).loc Cert.SmallSum.main_arg0))
      ∧ r.2.sem = fun _ => 0)

def quiescent_SmallSumIdeal [hSmallSumIdeal : Cert.SmallSumIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg), Pre_SmallSumIdeal m →
    θ_run (Cert.SmallSumIdeal.defs (F := Ideal)) (onTc (τ := Cert.SmallSumIdeal.τ) (Cert.SmallSumIdeal.main (F := Ideal))) ⟨m, fun _ => 0, g⟩ (fun r => (∀ c : Dev Cert.SmallSumIdeal.nD,
      r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ r.2.sem = fun _ => 0)

def quiescent_SmallSumRefIdeal [hSmallSumRefIdeal : Cert.SmallSumRefIdeal.Facts] : Prop :=
  ∀ (m : (ℓ : Loc Cert.SmallSumRefIdeal.nD Cert.SmallSumRefIdeal.τ Cert.SmallSumRefIdeal.sig) → Buf (Elt Ideal) ℓ) (g : Dev Cert.SmallSumRefIdeal.nD → PrngReg), Pre_SmallSumRefIdeal m →
    θ_run (Cert.SmallSumRefIdeal.defs (F := Ideal)) (onTc (τ := Cert.SmallSumRefIdeal.τ) (Cert.SmallSumRefIdeal.main (F := Ideal))) ⟨m, fun _ => 0, g⟩ (fun r => (∀ c : Dev Cert.SmallSumRefIdeal.nD,
      r.2.mem ((c.tc : Thread Cert.SmallSumRefIdeal.nD Cert.SmallSumRefIdeal.τ).loc Cert.SmallSumRefIdeal.main_arg0) = m ((c.tc : Thread Cert.SmallSumRefIdeal.nD Cert.SmallSumRefIdeal.τ).loc Cert.SmallSumRefIdeal.main_arg0))
      ∧ r.2.sem = fun _ => 0)

def quiescent_Norm1Fwd [hNorm1Fwd : Cert.Norm1Fwd.Facts] : Prop :=
  ∀ (m : (ℓ : Loc Cert.Norm1Fwd.nD Cert.Norm1Fwd.τ Cert.Norm1Fwd.sig) → Buf (Elt Bits) ℓ) (g : Dev Cert.Norm1Fwd.nD → PrngReg), Pre_Norm1Fwd m →
    θ_run (Cert.Norm1Fwd.defs (F := Bits)) (onTc (τ := Cert.Norm1Fwd.τ) (Cert.Norm1Fwd.main (F := Bits))) ⟨m, fun _ => 0, g⟩ (fun r => (∀ c : Dev Cert.Norm1Fwd.nD,
      r.2.mem ((c.tc : Thread Cert.Norm1Fwd.nD Cert.Norm1Fwd.τ).loc Cert.Norm1Fwd.main_arg0) = m ((c.tc : Thread Cert.Norm1Fwd.nD Cert.Norm1Fwd.τ).loc Cert.Norm1Fwd.main_arg0)
      ∧ r.2.mem ((c.tc : Thread Cert.Norm1Fwd.nD Cert.Norm1Fwd.τ).loc Cert.Norm1Fwd.main_arg1) = m ((c.tc : Thread Cert.Norm1Fwd.nD Cert.Norm1Fwd.τ).loc Cert.Norm1Fwd.main_arg1)
      ∧ r.2.mem ((c.tc : Thread Cert.Norm1Fwd.nD Cert.Norm1Fwd.τ).loc Cert.Norm1Fwd.main_arg2) = m ((c.tc : Thread Cert.Norm1Fwd.nD Cert.Norm1Fwd.τ).loc Cert.Norm1Fwd.main_arg2)
      ∧ r.2.mem ((c.tc : Thread Cert.Norm1Fwd.nD Cert.Norm1Fwd.τ).loc Cert.Norm1Fwd.main_arg3) = m ((c.tc : Thread Cert.Norm1Fwd.nD Cert.Norm1Fwd.τ).loc Cert.Norm1Fwd.main_arg3))
      ∧ r.2.sem = fun _ => 0)

def quiescent_Norm1FwdIdeal [hNorm1FwdIdeal : Cert.Norm1FwdIdeal.Facts] : Prop :=
  ∀ (m : (ℓ : Loc Cert.Norm1FwdIdeal.nD Cert.Norm1FwdIdeal.τ Cert.Norm1FwdIdeal.sig) → Buf (Elt Ideal) ℓ) (g : Dev Cert.Norm1FwdIdeal.nD → PrngReg), Pre_Norm1FwdIdeal m →
    θ_run (Cert.Norm1FwdIdeal.defs (F := Ideal)) (onTc (τ := Cert.Norm1FwdIdeal.τ) (Cert.Norm1FwdIdeal.main (F := Ideal))) ⟨m, fun _ => 0, g⟩ (fun r => (∀ c : Dev Cert.Norm1FwdIdeal.nD,
      r.2.mem ((c.tc : Thread Cert.Norm1FwdIdeal.nD Cert.Norm1FwdIdeal.τ).loc Cert.Norm1FwdIdeal.main_arg0) = m ((c.tc : Thread Cert.Norm1FwdIdeal.nD Cert.Norm1FwdIdeal.τ).loc Cert.Norm1FwdIdeal.main_arg0)
      ∧ r.2.mem ((c.tc : Thread Cert.Norm1FwdIdeal.nD Cert.Norm1FwdIdeal.τ).loc Cert.Norm1FwdIdeal.main_arg1) = m ((c.tc : Thread Cert.Norm1FwdIdeal.nD Cert.Norm1FwdIdeal.τ).loc Cert.Norm1FwdIdeal.main_arg1)
      ∧ r.2.mem ((c.tc : Thread Cert.Norm1FwdIdeal.nD Cert.Norm1FwdIdeal.τ).loc Cert.Norm1FwdIdeal.main_arg2) = m ((c.tc : Thread Cert.Norm1FwdIdeal.nD Cert.Norm1FwdIdeal.τ).loc Cert.Norm1FwdIdeal.main_arg2)
      ∧ r.2.mem ((c.tc : Thread Cert.Norm1FwdIdeal.nD Cert.Norm1FwdIdeal.τ).loc Cert.Norm1FwdIdeal.main_arg3) = m ((c.tc : Thread Cert.Norm1FwdIdeal.nD Cert.Norm1FwdIdeal.τ).loc Cert.Norm1FwdIdeal.main_arg3))
      ∧ r.2.sem = fun _ => 0)

def quiescent_Norm1FwdRefIdeal [hNorm1FwdRefIdeal : Cert.Norm1FwdRefIdeal.Facts] : Prop :=
  ∀ (m : (ℓ : Loc Cert.Norm1FwdRefIdeal.nD Cert.Norm1FwdRefIdeal.τ Cert.Norm1FwdRefIdeal.sig) → Buf (Elt Ideal) ℓ) (g : Dev Cert.Norm1FwdRefIdeal.nD → PrngReg), Pre_Norm1FwdRefIdeal m →
    θ_run (Cert.Norm1FwdRefIdeal.defs (F := Ideal)) (onTc (τ := Cert.Norm1FwdRefIdeal.τ) (Cert.Norm1FwdRefIdeal.main (F := Ideal))) ⟨m, fun _ => 0, g⟩ (fun r => (∀ c : Dev Cert.Norm1FwdRefIdeal.nD,
      r.2.mem ((c.tc : Thread Cert.Norm1FwdRefIdeal.nD Cert.Norm1FwdRefIdeal.τ).loc Cert.Norm1FwdRefIdeal.main_arg0) = m ((c.tc : Thread Cert.Norm1FwdRefIdeal.nD Cert.Norm1FwdRefIdeal.τ).loc Cert.Norm1FwdRefIdeal.main_arg0)
      ∧ r.2.mem ((c.tc : Thread Cert.Norm1FwdRefIdeal.nD Cert.Norm1FwdRefIdeal.τ).loc Cert.Norm1FwdRefIdeal.main_arg1) = m ((c.tc : Thread Cert.Norm1FwdRefIdeal.nD Cert.Norm1FwdRefIdeal.τ).loc Cert.Norm1FwdRefIdeal.main_arg1)
      ∧ r.2.mem ((c.tc : Thread Cert.Norm1FwdRefIdeal.nD Cert.Norm1FwdRefIdeal.τ).loc Cert.Norm1FwdRefIdeal.main_arg2) = m ((c.tc : Thread Cert.Norm1FwdRefIdeal.nD Cert.Norm1FwdRefIdeal.τ).loc Cert.Norm1FwdRefIdeal.main_arg2)
      ∧ r.2.mem ((c.tc : Thread Cert.Norm1FwdRefIdeal.nD Cert.Norm1FwdRefIdeal.τ).loc Cert.Norm1FwdRefIdeal.main_arg3) = m ((c.tc : Thread Cert.Norm1FwdRefIdeal.nD Cert.Norm1FwdRefIdeal.τ).loc Cert.Norm1FwdRefIdeal.main_arg3))
      ∧ r.2.sem = fun _ => 0)

def quiescent_Norm2Fwd [hNorm2Fwd : Cert.Norm2Fwd.Facts] : Prop :=
  ∀ (m : (ℓ : Loc Cert.Norm2Fwd.nD Cert.Norm2Fwd.τ Cert.Norm2Fwd.sig) → Buf (Elt Bits) ℓ) (g : Dev Cert.Norm2Fwd.nD → PrngReg), Pre_Norm2Fwd m →
    θ_run (Cert.Norm2Fwd.defs (F := Bits)) (onTc (τ := Cert.Norm2Fwd.τ) (Cert.Norm2Fwd.main (F := Bits))) ⟨m, fun _ => 0, g⟩ (fun r => (∀ c : Dev Cert.Norm2Fwd.nD,
      r.2.mem ((c.tc : Thread Cert.Norm2Fwd.nD Cert.Norm2Fwd.τ).loc Cert.Norm2Fwd.main_arg0) = m ((c.tc : Thread Cert.Norm2Fwd.nD Cert.Norm2Fwd.τ).loc Cert.Norm2Fwd.main_arg0)
      ∧ r.2.mem ((c.tc : Thread Cert.Norm2Fwd.nD Cert.Norm2Fwd.τ).loc Cert.Norm2Fwd.main_arg1) = m ((c.tc : Thread Cert.Norm2Fwd.nD Cert.Norm2Fwd.τ).loc Cert.Norm2Fwd.main_arg1)
      ∧ r.2.mem ((c.tc : Thread Cert.Norm2Fwd.nD Cert.Norm2Fwd.τ).loc Cert.Norm2Fwd.main_arg2) = m ((c.tc : Thread Cert.Norm2Fwd.nD Cert.Norm2Fwd.τ).loc Cert.Norm2Fwd.main_arg2)
      ∧ r.2.mem ((c.tc : Thread Cert.Norm2Fwd.nD Cert.Norm2Fwd.τ).loc Cert.Norm2Fwd.main_arg3) = m ((c.tc : Thread Cert.Norm2Fwd.nD Cert.Norm2Fwd.τ).loc Cert.Norm2Fwd.main_arg3)
      ∧ r.2.mem ((c.tc : Thread Cert.Norm2Fwd.nD Cert.Norm2Fwd.τ).loc Cert.Norm2Fwd.main_arg4) = m ((c.tc : Thread Cert.Norm2Fwd.nD Cert.Norm2Fwd.τ).loc Cert.Norm2Fwd.main_arg4)
      ∧ r.2.mem ((c.tc : Thread Cert.Norm2Fwd.nD Cert.Norm2Fwd.τ).loc Cert.Norm2Fwd.main_arg5) = m ((c.tc : Thread Cert.Norm2Fwd.nD Cert.Norm2Fwd.τ).loc Cert.Norm2Fwd.main_arg5))
      ∧ r.2.sem = fun _ => 0)

def quiescent_Norm2FwdIdeal [hNorm2FwdIdeal : Cert.Norm2FwdIdeal.Facts] : Prop :=
  ∀ (m : (ℓ : Loc Cert.Norm2FwdIdeal.nD Cert.Norm2FwdIdeal.τ Cert.Norm2FwdIdeal.sig) → Buf (Elt Ideal) ℓ) (g : Dev Cert.Norm2FwdIdeal.nD → PrngReg), Pre_Norm2FwdIdeal m →
    θ_run (Cert.Norm2FwdIdeal.defs (F := Ideal)) (onTc (τ := Cert.Norm2FwdIdeal.τ) (Cert.Norm2FwdIdeal.main (F := Ideal))) ⟨m, fun _ => 0, g⟩ (fun r => (∀ c : Dev Cert.Norm2FwdIdeal.nD,
      r.2.mem ((c.tc : Thread Cert.Norm2FwdIdeal.nD Cert.Norm2FwdIdeal.τ).loc Cert.Norm2FwdIdeal.main_arg0) = m ((c.tc : Thread Cert.Norm2FwdIdeal.nD Cert.Norm2FwdIdeal.τ).loc Cert.Norm2FwdIdeal.main_arg0)
      ∧ r.2.mem ((c.tc : Thread Cert.Norm2FwdIdeal.nD Cert.Norm2FwdIdeal.τ).loc Cert.Norm2FwdIdeal.main_arg1) = m ((c.tc : Thread Cert.Norm2FwdIdeal.nD Cert.Norm2FwdIdeal.τ).loc Cert.Norm2FwdIdeal.main_arg1)
      ∧ r.2.mem ((c.tc : Thread Cert.Norm2FwdIdeal.nD Cert.Norm2FwdIdeal.τ).loc Cert.Norm2FwdIdeal.main_arg2) = m ((c.tc : Thread Cert.Norm2FwdIdeal.nD Cert.Norm2FwdIdeal.τ).loc Cert.Norm2FwdIdeal.main_arg2)
      ∧ r.2.mem ((c.tc : Thread Cert.Norm2FwdIdeal.nD Cert.Norm2FwdIdeal.τ).loc Cert.Norm2FwdIdeal.main_arg3) = m ((c.tc : Thread Cert.Norm2FwdIdeal.nD Cert.Norm2FwdIdeal.τ).loc Cert.Norm2FwdIdeal.main_arg3)
      ∧ r.2.mem ((c.tc : Thread Cert.Norm2FwdIdeal.nD Cert.Norm2FwdIdeal.τ).loc Cert.Norm2FwdIdeal.main_arg4) = m ((c.tc : Thread Cert.Norm2FwdIdeal.nD Cert.Norm2FwdIdeal.τ).loc Cert.Norm2FwdIdeal.main_arg4)
      ∧ r.2.mem ((c.tc : Thread Cert.Norm2FwdIdeal.nD Cert.Norm2FwdIdeal.τ).loc Cert.Norm2FwdIdeal.main_arg5) = m ((c.tc : Thread Cert.Norm2FwdIdeal.nD Cert.Norm2FwdIdeal.τ).loc Cert.Norm2FwdIdeal.main_arg5))
      ∧ r.2.sem = fun _ => 0)

def quiescent_Norm2FwdRefIdeal [hNorm2FwdRefIdeal : Cert.Norm2FwdRefIdeal.Facts] : Prop :=
  ∀ (m : (ℓ : Loc Cert.Norm2FwdRefIdeal.nD Cert.Norm2FwdRefIdeal.τ Cert.Norm2FwdRefIdeal.sig) → Buf (Elt Ideal) ℓ) (g : Dev Cert.Norm2FwdRefIdeal.nD → PrngReg), Pre_Norm2FwdRefIdeal m →
    θ_run (Cert.Norm2FwdRefIdeal.defs (F := Ideal)) (onTc (τ := Cert.Norm2FwdRefIdeal.τ) (Cert.Norm2FwdRefIdeal.main (F := Ideal))) ⟨m, fun _ => 0, g⟩ (fun r => (∀ c : Dev Cert.Norm2FwdRefIdeal.nD,
      r.2.mem ((c.tc : Thread Cert.Norm2FwdRefIdeal.nD Cert.Norm2FwdRefIdeal.τ).loc Cert.Norm2FwdRefIdeal.main_arg0) = m ((c.tc : Thread Cert.Norm2FwdRefIdeal.nD Cert.Norm2FwdRefIdeal.τ).loc Cert.Norm2FwdRefIdeal.main_arg0)
      ∧ r.2.mem ((c.tc : Thread Cert.Norm2FwdRefIdeal.nD Cert.Norm2FwdRefIdeal.τ).loc Cert.Norm2FwdRefIdeal.main_arg1) = m ((c.tc : Thread Cert.Norm2FwdRefIdeal.nD Cert.Norm2FwdRefIdeal.τ).loc Cert.Norm2FwdRefIdeal.main_arg1)
      ∧ r.2.mem ((c.tc : Thread Cert.Norm2FwdRefIdeal.nD Cert.Norm2FwdRefIdeal.τ).loc Cert.Norm2FwdRefIdeal.main_arg2) = m ((c.tc : Thread Cert.Norm2FwdRefIdeal.nD Cert.Norm2FwdRefIdeal.τ).loc Cert.Norm2FwdRefIdeal.main_arg2)
      ∧ r.2.mem ((c.tc : Thread Cert.Norm2FwdRefIdeal.nD Cert.Norm2FwdRefIdeal.τ).loc Cert.Norm2FwdRefIdeal.main_arg3) = m ((c.tc : Thread Cert.Norm2FwdRefIdeal.nD Cert.Norm2FwdRefIdeal.τ).loc Cert.Norm2FwdRefIdeal.main_arg3)
      ∧ r.2.mem ((c.tc : Thread Cert.Norm2FwdRefIdeal.nD Cert.Norm2FwdRefIdeal.τ).loc Cert.Norm2FwdRefIdeal.main_arg4) = m ((c.tc : Thread Cert.Norm2FwdRefIdeal.nD Cert.Norm2FwdRefIdeal.τ).loc Cert.Norm2FwdRefIdeal.main_arg4)
      ∧ r.2.mem ((c.tc : Thread Cert.Norm2FwdRefIdeal.nD Cert.Norm2FwdRefIdeal.τ).loc Cert.Norm2FwdRefIdeal.main_arg5) = m ((c.tc : Thread Cert.Norm2FwdRefIdeal.nD Cert.Norm2FwdRefIdeal.τ).loc Cert.Norm2FwdRefIdeal.main_arg5))
      ∧ r.2.sem = fun _ => 0)

def quiescent_CfLnFwd [hCfLnFwd : Cert.CfLnFwd.Facts] : Prop :=
  ∀ (m : (ℓ : Loc Cert.CfLnFwd.nD Cert.CfLnFwd.τ Cert.CfLnFwd.sig) → Buf (Elt Bits) ℓ) (g : Dev Cert.CfLnFwd.nD → PrngReg), Pre_CfLnFwd m →
    θ_run (Cert.CfLnFwd.defs (F := Bits)) (onTc (τ := Cert.CfLnFwd.τ) (Cert.CfLnFwd.main (F := Bits))) ⟨m, fun _ => 0, g⟩ (fun r => (∀ c : Dev Cert.CfLnFwd.nD,
      r.2.mem ((c.tc : Thread Cert.CfLnFwd.nD Cert.CfLnFwd.τ).loc Cert.CfLnFwd.main_arg0) = m ((c.tc : Thread Cert.CfLnFwd.nD Cert.CfLnFwd.τ).loc Cert.CfLnFwd.main_arg0)
      ∧ r.2.mem ((c.tc : Thread Cert.CfLnFwd.nD Cert.CfLnFwd.τ).loc Cert.CfLnFwd.main_arg1) = m ((c.tc : Thread Cert.CfLnFwd.nD Cert.CfLnFwd.τ).loc Cert.CfLnFwd.main_arg1)
      ∧ r.2.mem ((c.tc : Thread Cert.CfLnFwd.nD Cert.CfLnFwd.τ).loc Cert.CfLnFwd.main_arg2) = m ((c.tc : Thread Cert.CfLnFwd.nD Cert.CfLnFwd.τ).loc Cert.CfLnFwd.main_arg2))
      ∧ r.2.sem = fun _ => 0)

def quiescent_CfLnFwdIdeal [hCfLnFwdIdeal : Cert.CfLnFwdIdeal.Facts] : Prop :=
  ∀ (m : (ℓ : Loc Cert.CfLnFwdIdeal.nD Cert.CfLnFwdIdeal.τ Cert.CfLnFwdIdeal.sig) → Buf (Elt Ideal) ℓ) (g : Dev Cert.CfLnFwdIdeal.nD → PrngReg), Pre_CfLnFwdIdeal m →
    θ_run (Cert.CfLnFwdIdeal.defs (F := Ideal)) (onTc (τ := Cert.CfLnFwdIdeal.τ) (Cert.CfLnFwdIdeal.main (F := Ideal))) ⟨m, fun _ => 0, g⟩ (fun r => (∀ c : Dev Cert.CfLnFwdIdeal.nD,
      r.2.mem ((c.tc : Thread Cert.CfLnFwdIdeal.nD Cert.CfLnFwdIdeal.τ).loc Cert.CfLnFwdIdeal.main_arg0) = m ((c.tc : Thread Cert.CfLnFwdIdeal.nD Cert.CfLnFwdIdeal.τ).loc Cert.CfLnFwdIdeal.main_arg0)
      ∧ r.2.mem ((c.tc : Thread Cert.CfLnFwdIdeal.nD Cert.CfLnFwdIdeal.τ).loc Cert.CfLnFwdIdeal.main_arg1) = m ((c.tc : Thread Cert.CfLnFwdIdeal.nD Cert.CfLnFwdIdeal.τ).loc Cert.CfLnFwdIdeal.main_arg1)
      ∧ r.2.mem ((c.tc : Thread Cert.CfLnFwdIdeal.nD Cert.CfLnFwdIdeal.τ).loc Cert.CfLnFwdIdeal.main_arg2) = m ((c.tc : Thread Cert.CfLnFwdIdeal.nD Cert.CfLnFwdIdeal.τ).loc Cert.CfLnFwdIdeal.main_arg2))
      ∧ r.2.sem = fun _ => 0)

def quiescent_CfLnFwdRefIdeal [hCfLnFwdRefIdeal : Cert.CfLnFwdRefIdeal.Facts] : Prop :=
  ∀ (m : (ℓ : Loc Cert.CfLnFwdRefIdeal.nD Cert.CfLnFwdRefIdeal.τ Cert.CfLnFwdRefIdeal.sig) → Buf (Elt Ideal) ℓ) (g : Dev Cert.CfLnFwdRefIdeal.nD → PrngReg), Pre_CfLnFwdRefIdeal m →
    θ_run (Cert.CfLnFwdRefIdeal.defs (F := Ideal)) (onTc (τ := Cert.CfLnFwdRefIdeal.τ) (Cert.CfLnFwdRefIdeal.main (F := Ideal))) ⟨m, fun _ => 0, g⟩ (fun r => (∀ c : Dev Cert.CfLnFwdRefIdeal.nD,
      r.2.mem ((c.tc : Thread Cert.CfLnFwdRefIdeal.nD Cert.CfLnFwdRefIdeal.τ).loc Cert.CfLnFwdRefIdeal.main_arg0) = m ((c.tc : Thread Cert.CfLnFwdRefIdeal.nD Cert.CfLnFwdRefIdeal.τ).loc Cert.CfLnFwdRefIdeal.main_arg0)
      ∧ r.2.mem ((c.tc : Thread Cert.CfLnFwdRefIdeal.nD Cert.CfLnFwdRefIdeal.τ).loc Cert.CfLnFwdRefIdeal.main_arg1) = m ((c.tc : Thread Cert.CfLnFwdRefIdeal.nD Cert.CfLnFwdRefIdeal.τ).loc Cert.CfLnFwdRefIdeal.main_arg1)
      ∧ r.2.mem ((c.tc : Thread Cert.CfLnFwdRefIdeal.nD Cert.CfLnFwdRefIdeal.τ).loc Cert.CfLnFwdRefIdeal.main_arg2) = m ((c.tc : Thread Cert.CfLnFwdRefIdeal.nD Cert.CfLnFwdRefIdeal.τ).loc Cert.CfLnFwdRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2))
      ∧ r.2.sem = fun _ => 0)

def quiescent_DnPostFwd [hDnPostFwd : Cert.DnPostFwd.Facts] : Prop :=
  ∀ (m : (ℓ : Loc Cert.DnPostFwd.nD Cert.DnPostFwd.τ Cert.DnPostFwd.sig) → Buf (Elt Bits) ℓ) (g : Dev Cert.DnPostFwd.nD → PrngReg), Pre_DnPostFwd m →
    θ_run (Cert.DnPostFwd.defs (F := Bits)) (onTc (τ := Cert.DnPostFwd.τ) (Cert.DnPostFwd.main (F := Bits))) ⟨m, fun _ => 0, g⟩ (fun r => (∀ c : Dev Cert.DnPostFwd.nD,
      r.2.mem ((c.tc : Thread Cert.DnPostFwd.nD Cert.DnPostFwd.τ).loc Cert.DnPostFwd.main_arg0) = m ((c.tc : Thread Cert.DnPostFwd.nD Cert.DnPostFwd.τ).loc Cert.DnPostFwd.main_arg0)
      ∧ r.2.mem ((c.tc : Thread Cert.DnPostFwd.nD Cert.DnPostFwd.τ).loc Cert.DnPostFwd.main_arg1) = m ((c.tc : Thread Cert.DnPostFwd.nD Cert.DnPostFwd.τ).loc Cert.DnPostFwd.main_arg1)
      ∧ r.2.mem ((c.tc : Thread Cert.DnPostFwd.nD Cert.DnPostFwd.τ).loc Cert.DnPostFwd.main_arg2) = m ((c.tc : Thread Cert.DnPostFwd.nD Cert.DnPostFwd.τ).loc Cert.DnPostFwd.main_arg2))
      ∧ r.2.sem = fun _ => 0)

def quiescent_DnPostFwdIdeal [hDnPostFwdIdeal : Cert.DnPostFwdIdeal.Facts] : Prop :=
  ∀ (m : (ℓ : Loc Cert.DnPostFwdIdeal.nD Cert.DnPostFwdIdeal.τ Cert.DnPostFwdIdeal.sig) → Buf (Elt Ideal) ℓ) (g : Dev Cert.DnPostFwdIdeal.nD → PrngReg), Pre_DnPostFwdIdeal m →
    θ_run (Cert.DnPostFwdIdeal.defs (F := Ideal)) (onTc (τ := Cert.DnPostFwdIdeal.τ) (Cert.DnPostFwdIdeal.main (F := Ideal))) ⟨m, fun _ => 0, g⟩ (fun r => (∀ c : Dev Cert.DnPostFwdIdeal.nD,
      r.2.mem ((c.tc : Thread Cert.DnPostFwdIdeal.nD Cert.DnPostFwdIdeal.τ).loc Cert.DnPostFwdIdeal.main_arg0) = m ((c.tc : Thread Cert.DnPostFwdIdeal.nD Cert.DnPostFwdIdeal.τ).loc Cert.DnPostFwdIdeal.main_arg0)
      ∧ r.2.mem ((c.tc : Thread Cert.DnPostFwdIdeal.nD Cert.DnPostFwdIdeal.τ).loc Cert.DnPostFwdIdeal.main_arg1) = m ((c.tc : Thread Cert.DnPostFwdIdeal.nD Cert.DnPostFwdIdeal.τ).loc Cert.DnPostFwdIdeal.main_arg1)
      ∧ r.2.mem ((c.tc : Thread Cert.DnPostFwdIdeal.nD Cert.DnPostFwdIdeal.τ).loc Cert.DnPostFwdIdeal.main_arg2) = m ((c.tc : Thread Cert.DnPostFwdIdeal.nD Cert.DnPostFwdIdeal.τ).loc Cert.DnPostFwdIdeal.main_arg2))
      ∧ r.2.sem = fun _ => 0)

def quiescent_DnPostFwdRefIdeal [hDnPostFwdRefIdeal : Cert.DnPostFwdRefIdeal.Facts] : Prop :=
  ∀ (m : (ℓ : Loc Cert.DnPostFwdRefIdeal.nD Cert.DnPostFwdRefIdeal.τ Cert.DnPostFwdRefIdeal.sig) → Buf (Elt Ideal) ℓ) (g : Dev Cert.DnPostFwdRefIdeal.nD → PrngReg), Pre_DnPostFwdRefIdeal m →
    θ_run (Cert.DnPostFwdRefIdeal.defs (F := Ideal)) (onTc (τ := Cert.DnPostFwdRefIdeal.τ) (Cert.DnPostFwdRefIdeal.main (F := Ideal))) ⟨m, fun _ => 0, g⟩ (fun r => (∀ c : Dev Cert.DnPostFwdRefIdeal.nD,
      r.2.mem ((c.tc : Thread Cert.DnPostFwdRefIdeal.nD Cert.DnPostFwdRefIdeal.τ).loc Cert.DnPostFwdRefIdeal.main_arg0) = m ((c.tc : Thread Cert.DnPostFwdRefIdeal.nD Cert.DnPostFwdRefIdeal.τ).loc Cert.DnPostFwdRefIdeal.main_arg0)
      ∧ r.2.mem ((c.tc : Thread Cert.DnPostFwdRefIdeal.nD Cert.DnPostFwdRefIdeal.τ).loc Cert.DnPostFwdRefIdeal.main_arg1) = m ((c.tc : Thread Cert.DnPostFwdRefIdeal.nD Cert.DnPostFwdRefIdeal.τ).loc Cert.DnPostFwdRefIdeal.main_arg1)
      ∧ r.2.mem ((c.tc : Thread Cert.DnPostFwdRefIdeal.nD Cert.DnPostFwdRefIdeal.τ).loc Cert.DnPostFwdRefIdeal.main_arg2) = m ((c.tc : Thread Cert.DnPostFwdRefIdeal.nD Cert.DnPostFwdRefIdeal.τ).loc Cert.DnPostFwdRefIdeal.main_arg2))
      ∧ r.2.sem = fun _ => 0)

def quiescent_AdaMod [hAdaMod : Cert.AdaMod.Facts] : Prop :=
  ∀ (m : (ℓ : Loc Cert.AdaMod.nD Cert.AdaMod.τ Cert.AdaMod.sig) → Buf (Elt Bits) ℓ) (g : Dev Cert.AdaMod.nD → PrngReg), Pre_AdaMod m →
    θ_run (Cert.AdaMod.defs (F := Bits)) (onTc (τ := Cert.AdaMod.τ) (Cert.AdaMod.main (F := Bits))) ⟨m, fun _ => 0, g⟩ (fun r => (∀ c : Dev Cert.AdaMod.nD,
      r.2.mem ((c.tc : Thread Cert.AdaMod.nD Cert.AdaMod.τ).loc Cert.AdaMod.main_arg0) = m ((c.tc : Thread Cert.AdaMod.nD Cert.AdaMod.τ).loc Cert.AdaMod.main_arg0)
      ∧ r.2.mem ((c.tc : Thread Cert.AdaMod.nD Cert.AdaMod.τ).loc Cert.AdaMod.main_arg1) = m ((c.tc : Thread Cert.AdaMod.nD Cert.AdaMod.τ).loc Cert.AdaMod.main_arg1)
      ∧ r.2.mem ((c.tc : Thread Cert.AdaMod.nD Cert.AdaMod.τ).loc Cert.AdaMod.main_arg2) = m ((c.tc : Thread Cert.AdaMod.nD Cert.AdaMod.τ).loc Cert.AdaMod.main_arg2))
      ∧ r.2.sem = fun _ => 0)

def quiescent_AdaModIdeal [hAdaModIdeal : Cert.AdaModIdeal.Facts] : Prop :=
  ∀ (m : (ℓ : Loc Cert.AdaModIdeal.nD Cert.AdaModIdeal.τ Cert.AdaModIdeal.sig) → Buf (Elt Ideal) ℓ) (g : Dev Cert.AdaModIdeal.nD → PrngReg), Pre_AdaModIdeal m →
    θ_run (Cert.AdaModIdeal.defs (F := Ideal)) (onTc (τ := Cert.AdaModIdeal.τ) (Cert.AdaModIdeal.main (F := Ideal))) ⟨m, fun _ => 0, g⟩ (fun r => (∀ c : Dev Cert.AdaModIdeal.nD,
      r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
      ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
      ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ r.2.sem = fun _ => 0)

def quiescent_AdaModRefIdeal [hAdaModRefIdeal : Cert.AdaModRefIdeal.Facts] : Prop :=
  ∀ (m : (ℓ : Loc Cert.AdaModRefIdeal.nD Cert.AdaModRefIdeal.τ Cert.AdaModRefIdeal.sig) → Buf (Elt Ideal) ℓ) (g : Dev Cert.AdaModRefIdeal.nD → PrngReg), Pre_AdaModRefIdeal m →
    θ_run (Cert.AdaModRefIdeal.defs (F := Ideal)) (onTc (τ := Cert.AdaModRefIdeal.τ) (Cert.AdaModRefIdeal.main (F := Ideal))) ⟨m, fun _ => 0, g⟩ (fun r => (∀ c : Dev Cert.AdaModRefIdeal.nD,
      r.2.mem ((c.tc : Thread Cert.AdaModRefIdeal.nD Cert.AdaModRefIdeal.τ).loc Cert.AdaModRefIdeal.main_arg0) = m ((c.tc : Thread Cert.AdaModRefIdeal.nD Cert.AdaModRefIdeal.τ).loc Cert.AdaModRefIdeal.main_arg0)
      ∧ r.2.mem ((c.tc : Thread Cert.AdaModRefIdeal.nD Cert.AdaModRefIdeal.τ).loc Cert.AdaModRefIdeal.main_arg1) = m ((c.tc : Thread Cert.AdaModRefIdeal.nD Cert.AdaModRefIdeal.τ).loc Cert.AdaModRefIdeal.main_arg1)
      ∧ r.2.mem ((c.tc : Thread Cert.AdaModRefIdeal.nD Cert.AdaModRefIdeal.τ).loc Cert.AdaModRefIdeal.main_arg2) = m ((c.tc : Thread Cert.AdaModRefIdeal.nD Cert.AdaModRefIdeal.τ).loc Cert.AdaModRefIdeal.main_arg2))
      ∧ r.2.sem = fun _ => 0)

def preserves_Kernel_KernelIdeal : Prop :=
  True

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v18) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v12) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v4) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v5) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_BranchDx_BranchDxIdeal : Prop :=
  True

def algebraic_BranchDxIdeal_BranchDxRefIdeal [hBranchDxIdeal : Cert.BranchDxIdeal.Facts] [hBranchDxRefIdeal : Cert.BranchDxRefIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg)
    (m' : (ℓ : Loc Cert.BranchDxRefIdeal.nD Cert.BranchDxRefIdeal.τ Cert.BranchDxRefIdeal.sig) → Buf (Elt Ideal) ℓ) (g' : Dev Cert.BranchDxRefIdeal.nD → PrngReg), Pre_BranchDxIdeal m →
    (∀ c : Dev Cert.BranchDxIdeal.nD,
      m' ((c.tc : Thread Cert.BranchDxRefIdeal.nD Cert.BranchDxRefIdeal.τ).loc Cert.BranchDxRefIdeal.main_arg0) = m ((c.tc : Thread Cert.BranchDxIdeal.nD Cert.BranchDxIdeal.τ).loc Cert.BranchDxIdeal.main_arg0)
      ∧ m' ((c.tc : Thread Cert.BranchDxRefIdeal.nD Cert.BranchDxRefIdeal.τ).loc Cert.BranchDxRefIdeal.main_arg1) = m ((c.tc : Thread Cert.BranchDxIdeal.nD Cert.BranchDxIdeal.τ).loc Cert.BranchDxIdeal.main_arg1)) →
    ∃ (v0 : (c : Dev Cert.BranchDxIdeal.nD) → Buf (Elt Ideal) ((c.tc : Thread Cert.BranchDxIdeal.nD Cert.BranchDxIdeal.τ).loc Cert.BranchDxIdeal.main_v0)),
      θ_run (Cert.BranchDxIdeal.defs (F := Ideal)) (onTc (τ := Cert.BranchDxIdeal.τ) (Cert.BranchDxIdeal.main (F := Ideal))) ⟨m, fun _ => 0, g⟩ (fun r => ∀ c : Dev Cert.BranchDxIdeal.nD,
          r.2.mem ((c.tc : Thread Cert.BranchDxIdeal.nD Cert.BranchDxIdeal.τ).loc Cert.BranchDxIdeal.main_v0) = v0 c
          ∧ r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
          ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ θ_run (Cert.BranchDxRefIdeal.defs (F := Ideal)) (onTc (τ := Cert.BranchDxRefIdeal.τ) (Cert.BranchDxRefIdeal.main (F := Ideal))) ⟨m', fun _ => 0, g'⟩ (fun r => ∀ c : Dev Cert.BranchDxRefIdeal.nD,
          r.2.mem ((c.tc : Thread Cert.BranchDxRefIdeal.nD Cert.BranchDxRefIdeal.τ).loc Cert.BranchDxRefIdeal.main_v13) = v0 c
          ∧ r.2.mem ((c.tc : Thread Cert.BranchDxRefIdeal.nD Cert.BranchDxRefIdeal.τ).loc Cert.BranchDxRefIdeal.main_arg0) = m' ((c.tc : Thread Cert.BranchDxRefIdeal.nD Cert.BranchDxRefIdeal.τ).loc Cert.BranchDxRefIdeal.main_arg0)
          ∧ r.2.mem ((c.tc : Thread Cert.BranchDxRefIdeal.nD Cert.BranchDxRefIdeal.τ).loc Cert.BranchDxRefIdeal.main_arg1) = m' ((c.tc : Thread Cert.BranchDxRefIdeal.nD Cert.BranchDxRefIdeal.τ).loc Cert.BranchDxRefIdeal.main_arg1))

def preserves_BranchDw_BranchDwIdeal : Prop :=
  True

def algebraic_BranchDwIdeal_BranchDwRefIdeal [hBranchDwIdeal : Cert.BranchDwIdeal.Facts] [hBranchDwRefIdeal : Cert.BranchDwRefIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwRefIdeal.nD Cert.BranchDwRefIdeal.τ Cert.BranchDwRefIdeal.sig) → Buf (Elt Ideal) ℓ) (g' : Dev Cert.BranchDwRefIdeal.nD → PrngReg), Pre_BranchDwIdeal m →
    (∀ c : Dev Cert.BranchDwIdeal.nD,
      m' ((c.tc : Thread Cert.BranchDwRefIdeal.nD Cert.BranchDwRefIdeal.τ).loc Cert.BranchDwRefIdeal.main_arg0) = m ((c.tc : Thread Cert.BranchDwIdeal.nD Cert.BranchDwIdeal.τ).loc Cert.BranchDwIdeal.main_arg0)
      ∧ m' ((c.tc : Thread Cert.BranchDwRefIdeal.nD Cert.BranchDwRefIdeal.τ).loc Cert.BranchDwRefIdeal.main_arg1) = m ((c.tc : Thread Cert.BranchDwIdeal.nD Cert.BranchDwIdeal.τ).loc Cert.BranchDwIdeal.main_arg1)) →
    ∃ (v0 : (c : Dev Cert.BranchDwIdeal.nD) → Buf (Elt Ideal) ((c.tc : Thread Cert.BranchDwIdeal.nD Cert.BranchDwIdeal.τ).loc Cert.BranchDwIdeal.main_v0)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v0) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ θ_run (Cert.BranchDwRefIdeal.defs (F := Ideal)) (onTc (τ := Cert.BranchDwRefIdeal.τ) (Cert.BranchDwRefIdeal.main (F := Ideal))) ⟨m', fun _ => 0, g'⟩ (fun r => ∀ c : Dev Cert.BranchDwRefIdeal.nD,
          r.2.mem ((c.tc : Thread Cert.BranchDwRefIdeal.nD Cert.BranchDwRefIdeal.τ).loc Cert.BranchDwRefIdeal.main_v7) = v0 c
          ∧ r.2.mem ((c.tc : Thread Cert.BranchDwRefIdeal.nD Cert.BranchDwRefIdeal.τ).loc Cert.BranchDwRefIdeal.main_arg0) = m' ((c.tc : Thread Cert.BranchDwRefIdeal.nD Cert.BranchDwRefIdeal.τ).loc Cert.BranchDwRefIdeal.main_arg0)
          ∧ r.2.mem ((c.tc : Thread Cert.BranchDwRefIdeal.nD Cert.BranchDwRefIdeal.τ).loc Cert.BranchDwRefIdeal.main_arg1) = m' ((c.tc : Thread Cert.BranchDwRefIdeal.nD Cert.BranchDwRefIdeal.τ).loc Cert.BranchDwRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v2) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v11) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v11) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1))

def preserves_StepIn_StepInIdeal : Prop :=
  True

def algebraic_StepInIdeal_StepInRefIdeal [hStepInIdeal : Cert.StepInIdeal.Facts] [hStepInRefIdeal : Cert.StepInRefIdeal.Facts] : Prop :=
  ∀ (m : (ℓ : Loc Cert.StepInIdeal.nD Cert.StepInIdeal.τ Cert.StepInIdeal.sig) → Buf (Elt Ideal) ℓ) (g : Dev Cert.StepInIdeal.nD → PrngReg)
    (m' : (ℓ : Loc Cert.StepInRefIdeal.nD Cert.StepInRefIdeal.τ Cert.StepInRefIdeal.sig) → Buf (Elt Ideal) ℓ) (g' : Dev Cert.StepInRefIdeal.nD → PrngReg), Pre_StepInIdeal m →
    (∀ c : Dev Cert.StepInIdeal.nD,
      m' ((c.tc : Thread Cert.StepInRefIdeal.nD Cert.StepInRefIdeal.τ).loc Cert.StepInRefIdeal.main_arg0) = m ((c.tc : Thread Cert.StepInIdeal.nD Cert.StepInIdeal.τ).loc Cert.StepInIdeal.main_arg0)
      ∧ m' ((c.tc : Thread Cert.StepInRefIdeal.nD Cert.StepInRefIdeal.τ).loc Cert.StepInRefIdeal.main_arg1) = m ((c.tc : Thread Cert.StepInIdeal.nD Cert.StepInIdeal.τ).loc Cert.StepInIdeal.main_arg1)
      ∧ m' ((c.tc : Thread Cert.StepInRefIdeal.nD Cert.StepInRefIdeal.τ).loc Cert.StepInRefIdeal.main_arg2) = m ((c.tc : Thread Cert.StepInIdeal.nD Cert.StepInIdeal.τ).loc Cert.StepInIdeal.main_arg2)
      ∧ m' ((c.tc : Thread Cert.StepInRefIdeal.nD Cert.StepInRefIdeal.τ).loc Cert.StepInRefIdeal.main_arg3) = m ((c.tc : Thread Cert.StepInIdeal.nD Cert.StepInIdeal.τ).loc Cert.StepInIdeal.main_arg3)) →
    ∃ (v0 : (c : Dev Cert.StepInIdeal.nD) → Buf (Elt Ideal) ((c.tc : Thread Cert.StepInIdeal.nD Cert.StepInIdeal.τ).loc Cert.StepInIdeal.main_v0_0)) (v1 : (c : Dev Cert.StepInIdeal.nD) → Buf (Elt Ideal) ((c.tc : Thread Cert.StepInIdeal.nD Cert.StepInIdeal.τ).loc Cert.StepInIdeal.main_v0_1)) (v2 : (c : Dev Cert.StepInIdeal.nD) → Buf (Elt Ideal) ((c.tc : Thread Cert.StepInIdeal.nD Cert.StepInIdeal.τ).loc Cert.StepInIdeal.main_v0_2)) (v3 : (c : Dev Cert.StepInIdeal.nD) → Buf (Elt Ideal) ((c.tc : Thread Cert.StepInIdeal.nD Cert.StepInIdeal.τ).loc Cert.StepInIdeal.main_v0_3)),
      θ_run (Cert.StepInIdeal.defs (F := Ideal)) (onTc (τ := Cert.StepInIdeal.τ) (Cert.StepInIdeal.main (F := Ideal))) ⟨m, fun _ => 0, g⟩ (fun r => ∀ c : Dev Cert.StepInIdeal.nD,
          r.2.mem ((c.tc : Thread Cert.StepInIdeal.nD Cert.StepInIdeal.τ).loc Cert.StepInIdeal.main_v0_0) = v0 c
          ∧ r.2.mem ((c.tc : Thread Cert.StepInIdeal.nD Cert.StepInIdeal.τ).loc Cert.StepInIdeal.main_v0_1) = v1 c
          ∧ r.2.mem ((c.tc : Thread Cert.StepInIdeal.nD Cert.StepInIdeal.τ).loc Cert.StepInIdeal.main_v0_2) = v2 c
          ∧ r.2.mem ((c.tc : Thread Cert.StepInIdeal.nD Cert.StepInIdeal.τ).loc Cert.StepInIdeal.main_v0_3) = v3 c
          ∧ r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
          ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
          ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
          ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ θ_run (Cert.StepInRefIdeal.defs (F := Ideal)) (onTc (τ := Cert.StepInRefIdeal.τ) (Cert.StepInRefIdeal.main (F := Ideal))) ⟨m', fun _ => 0, g'⟩ (fun r => ∀ c : Dev Cert.StepInRefIdeal.nD,
          r.2.mem ((c.tc : Thread Cert.StepInRefIdeal.nD Cert.StepInRefIdeal.τ).loc Cert.StepInRefIdeal.main_v23) = v0 c
          ∧ r.2.mem ((c.tc : Thread Cert.StepInRefIdeal.nD Cert.StepInRefIdeal.τ).loc Cert.StepInRefIdeal.main_v4) = v1 c
          ∧ r.2.mem ((c.tc : Thread Cert.StepInRefIdeal.nD Cert.StepInRefIdeal.τ).loc Cert.StepInRefIdeal.main_v10) = v2 c
          ∧ r.2.mem ((c.tc : Thread Cert.StepInRefIdeal.nD Cert.StepInRefIdeal.τ).loc Cert.StepInRefIdeal.main_arg1) = v3 c
          ∧ r.2.mem ((c.tc : Thread Cert.StepInRefIdeal.nD Cert.StepInRefIdeal.τ).loc Cert.StepInRefIdeal.main_arg0) = m' ((c.tc : Thread Cert.StepInRefIdeal.nD Cert.StepInRefIdeal.τ).loc Cert.StepInRefIdeal.main_arg0)
          ∧ r.2.mem ((c.tc : Thread Cert.StepInRefIdeal.nD Cert.StepInRefIdeal.τ).loc Cert.StepInRefIdeal.main_arg1) = m' ((c.tc : Thread Cert.StepInRefIdeal.nD Cert.StepInRefIdeal.τ).loc Cert.StepInRefIdeal.main_arg1)
          ∧ r.2.mem ((c.tc : Thread Cert.StepInRefIdeal.nD Cert.StepInRefIdeal.τ).loc Cert.StepInRefIdeal.main_arg2) = m' ((c.tc : Thread Cert.StepInRefIdeal.nD Cert.StepInRefIdeal.τ).loc Cert.StepInRefIdeal.main_arg2)
          ∧ r.2.mem ((c.tc : Thread Cert.StepInRefIdeal.nD Cert.StepInRefIdeal.τ).loc Cert.StepInRefIdeal.main_arg3) = m' ((c.tc : Thread Cert.StepInRefIdeal.nD Cert.StepInRefIdeal.τ).loc Cert.StepInRefIdeal.main_arg3))

def preserves_StepAda_StepAdaIdeal : Prop :=
  True

def algebraic_StepAdaIdeal_StepAdaRefIdeal [hStepAdaIdeal : Cert.StepAdaIdeal.Facts] [hStepAdaRefIdeal : Cert.StepAdaRefIdeal.Facts] : Prop :=
  ∀ (m : (ℓ : Loc Cert.StepAdaIdeal.nD Cert.StepAdaIdeal.τ Cert.StepAdaIdeal.sig) → Buf (Elt Ideal) ℓ) (g : Dev Cert.StepAdaIdeal.nD → PrngReg)
    (m' : (ℓ : Loc Cert.StepAdaRefIdeal.nD Cert.StepAdaRefIdeal.τ Cert.StepAdaRefIdeal.sig) → Buf (Elt Ideal) ℓ) (g' : Dev Cert.StepAdaRefIdeal.nD → PrngReg), Pre_StepAdaIdeal m →
    (∀ c : Dev Cert.StepAdaIdeal.nD,
      m' ((c.tc : Thread Cert.StepAdaRefIdeal.nD Cert.StepAdaRefIdeal.τ).loc Cert.StepAdaRefIdeal.main_arg0) = m ((c.tc : Thread Cert.StepAdaIdeal.nD Cert.StepAdaIdeal.τ).loc Cert.StepAdaIdeal.main_arg0)
      ∧ m' ((c.tc : Thread Cert.StepAdaRefIdeal.nD Cert.StepAdaRefIdeal.τ).loc Cert.StepAdaRefIdeal.main_arg1) = m ((c.tc : Thread Cert.StepAdaIdeal.nD Cert.StepAdaIdeal.τ).loc Cert.StepAdaIdeal.main_arg1)
      ∧ m' ((c.tc : Thread Cert.StepAdaRefIdeal.nD Cert.StepAdaRefIdeal.τ).loc Cert.StepAdaRefIdeal.main_arg2) = m ((c.tc : Thread Cert.StepAdaIdeal.nD Cert.StepAdaIdeal.τ).loc Cert.StepAdaIdeal.main_arg2)
      ∧ m' ((c.tc : Thread Cert.StepAdaRefIdeal.nD Cert.StepAdaRefIdeal.τ).loc Cert.StepAdaRefIdeal.main_arg3) = m ((c.tc : Thread Cert.StepAdaIdeal.nD Cert.StepAdaIdeal.τ).loc Cert.StepAdaIdeal.main_arg3)) →
    ∃ (v0 : (c : Dev Cert.StepAdaIdeal.nD) → Buf (Elt Ideal) ((c.tc : Thread Cert.StepAdaIdeal.nD Cert.StepAdaIdeal.τ).loc Cert.StepAdaIdeal.main_v0_0)) (v1 : (c : Dev Cert.StepAdaIdeal.nD) → Buf (Elt Ideal) ((c.tc : Thread Cert.StepAdaIdeal.nD Cert.StepAdaIdeal.τ).loc Cert.StepAdaIdeal.main_v0_1)) (v2 : (c : Dev Cert.StepAdaIdeal.nD) → Buf (Elt Ideal) ((c.tc : Thread Cert.StepAdaIdeal.nD Cert.StepAdaIdeal.τ).loc Cert.StepAdaIdeal.main_v0_2)),
      θ_run (Cert.StepAdaIdeal.defs (F := Ideal)) (onTc (τ := Cert.StepAdaIdeal.τ) (Cert.StepAdaIdeal.main (F := Ideal))) ⟨m, fun _ => 0, g⟩ (fun r => ∀ c : Dev Cert.StepAdaIdeal.nD,
          r.2.mem ((c.tc : Thread Cert.StepAdaIdeal.nD Cert.StepAdaIdeal.τ).loc Cert.StepAdaIdeal.main_v0_0) = v0 c
          ∧ r.2.mem ((c.tc : Thread Cert.StepAdaIdeal.nD Cert.StepAdaIdeal.τ).loc Cert.StepAdaIdeal.main_v0_1) = v1 c
          ∧ r.2.mem ((c.tc : Thread Cert.StepAdaIdeal.nD Cert.StepAdaIdeal.τ).loc Cert.StepAdaIdeal.main_v0_2) = v2 c
          ∧ r.2.mem ((c.tc : Thread Cert.StepAdaIdeal.nD Cert.StepAdaIdeal.τ).loc Cert.StepAdaIdeal.main_arg0) = m ((c.tc : Thread Cert.StepAdaIdeal.nD Cert.StepAdaIdeal.τ).loc Cert.StepAdaIdeal.main_arg0)
          ∧ r.2.mem ((c.tc : Thread Cert.StepAdaIdeal.nD Cert.StepAdaIdeal.τ).loc Cert.StepAdaIdeal.main_arg1) = m ((c.tc : Thread Cert.StepAdaIdeal.nD Cert.StepAdaIdeal.τ).loc Cert.StepAdaIdeal.main_arg1)
          ∧ r.2.mem ((c.tc : Thread Cert.StepAdaIdeal.nD Cert.StepAdaIdeal.τ).loc Cert.StepAdaIdeal.main_arg2) = m ((c.tc : Thread Cert.StepAdaIdeal.nD Cert.StepAdaIdeal.τ).loc Cert.StepAdaIdeal.main_arg2)
          ∧ r.2.mem ((c.tc : Thread Cert.StepAdaIdeal.nD Cert.StepAdaIdeal.τ).loc Cert.StepAdaIdeal.main_arg3) = m ((c.tc : Thread Cert.StepAdaIdeal.nD Cert.StepAdaIdeal.τ).loc Cert.StepAdaIdeal.main_arg3))
      ∧ θ_run (Cert.StepAdaRefIdeal.defs (F := Ideal)) (onTc (τ := Cert.StepAdaRefIdeal.τ) (Cert.StepAdaRefIdeal.main (F := Ideal))) ⟨m', fun _ => 0, g'⟩ (fun r => ∀ c : Dev Cert.StepAdaRefIdeal.nD,
          r.2.mem ((c.tc : Thread Cert.StepAdaRefIdeal.nD Cert.StepAdaRefIdeal.τ).loc Cert.StepAdaRefIdeal.main_v23) = v0 c
          ∧ r.2.mem ((c.tc : Thread Cert.StepAdaRefIdeal.nD Cert.StepAdaRefIdeal.τ).loc Cert.StepAdaRefIdeal.main_v4) = v1 c
          ∧ r.2.mem ((c.tc : Thread Cert.StepAdaRefIdeal.nD Cert.StepAdaRefIdeal.τ).loc Cert.StepAdaRefIdeal.main_v10) = v2 c
          ∧ r.2.mem ((c.tc : Thread Cert.StepAdaRefIdeal.nD Cert.StepAdaRefIdeal.τ).loc Cert.StepAdaRefIdeal.main_arg0) = m' ((c.tc : Thread Cert.StepAdaRefIdeal.nD Cert.StepAdaRefIdeal.τ).loc Cert.StepAdaRefIdeal.main_arg0)
          ∧ r.2.mem ((c.tc : Thread Cert.StepAdaRefIdeal.nD Cert.StepAdaRefIdeal.τ).loc Cert.StepAdaRefIdeal.main_arg1) = m' ((c.tc : Thread Cert.StepAdaRefIdeal.nD Cert.StepAdaRefIdeal.τ).loc Cert.StepAdaRefIdeal.main_arg1)
          ∧ r.2.mem ((c.tc : Thread Cert.StepAdaRefIdeal.nD Cert.StepAdaRefIdeal.τ).loc Cert.StepAdaRefIdeal.main_arg2) = m' ((c.tc : Thread Cert.StepAdaRefIdeal.nD Cert.StepAdaRefIdeal.τ).loc Cert.StepAdaRefIdeal.main_arg2)
          ∧ r.2.mem ((c.tc : Thread Cert.StepAdaRefIdeal.nD Cert.StepAdaRefIdeal.τ).loc Cert.StepAdaRefIdeal.main_arg3) = m' ((c.tc : Thread Cert.StepAdaRefIdeal.nD Cert.StepAdaRefIdeal.τ).loc Cert.StepAdaRefIdeal.main_arg3))

def preserves_StepBranch_StepBranchIdeal : Prop :=
  True

def algebraic_StepBranchIdeal_StepBranchRefIdeal [hStepBranchIdeal : Cert.StepBranchIdeal.Facts] [hStepBranchRefIdeal : Cert.StepBranchRefIdeal.Facts] : Prop :=
  ∀ (m : (ℓ : Loc Cert.StepBranchIdeal.nD Cert.StepBranchIdeal.τ Cert.StepBranchIdeal.sig) → Buf (Elt Ideal) ℓ) (g : Dev Cert.StepBranchIdeal.nD → PrngReg)
    (m' : (ℓ : Loc Cert.StepBranchRefIdeal.nD Cert.StepBranchRefIdeal.τ Cert.StepBranchRefIdeal.sig) → Buf (Elt Ideal) ℓ) (g' : Dev Cert.StepBranchRefIdeal.nD → PrngReg), Pre_StepBranchIdeal m →
    (∀ c : Dev Cert.StepBranchIdeal.nD,
      m' ((c.tc : Thread Cert.StepBranchRefIdeal.nD Cert.StepBranchRefIdeal.τ).loc Cert.StepBranchRefIdeal.main_arg0) = m ((c.tc : Thread Cert.StepBranchIdeal.nD Cert.StepBranchIdeal.τ).loc Cert.StepBranchIdeal.main_arg0)
      ∧ m' ((c.tc : Thread Cert.StepBranchRefIdeal.nD Cert.StepBranchRefIdeal.τ).loc Cert.StepBranchRefIdeal.main_arg1) = m ((c.tc : Thread Cert.StepBranchIdeal.nD Cert.StepBranchIdeal.τ).loc Cert.StepBranchIdeal.main_arg1)
      ∧ m' ((c.tc : Thread Cert.StepBranchRefIdeal.nD Cert.StepBranchRefIdeal.τ).loc Cert.StepBranchRefIdeal.main_arg2) = m ((c.tc : Thread Cert.StepBranchIdeal.nD Cert.StepBranchIdeal.τ).loc Cert.StepBranchIdeal.main_arg2)
      ∧ m' ((c.tc : Thread Cert.StepBranchRefIdeal.nD Cert.StepBranchRefIdeal.τ).loc Cert.StepBranchRefIdeal.main_arg3) = m ((c.tc : Thread Cert.StepBranchIdeal.nD Cert.StepBranchIdeal.τ).loc Cert.StepBranchIdeal.main_arg3)) →
    ∃ (v0 : (c : Dev Cert.StepBranchIdeal.nD) → Buf (Elt Ideal) ((c.tc : Thread Cert.StepBranchIdeal.nD Cert.StepBranchIdeal.τ).loc Cert.StepBranchIdeal.main_v0_0)) (v1 : (c : Dev Cert.StepBranchIdeal.nD) → Buf (Elt Ideal) ((c.tc : Thread Cert.StepBranchIdeal.nD Cert.StepBranchIdeal.τ).loc Cert.StepBranchIdeal.main_v0_1)) (v2 : (c : Dev Cert.StepBranchIdeal.nD) → Buf (Elt Ideal) ((c.tc : Thread Cert.StepBranchIdeal.nD Cert.StepBranchIdeal.τ).loc Cert.StepBranchIdeal.main_v0_2)) (v3 : (c : Dev Cert.StepBranchIdeal.nD) → Buf (Elt Ideal) ((c.tc : Thread Cert.StepBranchIdeal.nD Cert.StepBranchIdeal.τ).loc Cert.StepBranchIdeal.main_v0_3)),
      θ_run (Cert.StepBranchIdeal.defs (F := Ideal)) (onTc (τ := Cert.StepBranchIdeal.τ) (Cert.StepBranchIdeal.main (F := Ideal))) ⟨m, fun _ => 0, g⟩ (fun r => ∀ c : Dev Cert.StepBranchIdeal.nD,
          r.2.mem ((c.tc : Thread Cert.StepBranchIdeal.nD Cert.StepBranchIdeal.τ).loc Cert.StepBranchIdeal.main_v0_0) = v0 c
          ∧ r.2.mem ((c.tc : Thread Cert.StepBranchIdeal.nD Cert.StepBranchIdeal.τ).loc Cert.StepBranchIdeal.main_v0_1) = v1 c
          ∧ r.2.mem ((c.tc : Thread Cert.StepBranchIdeal.nD Cert.StepBranchIdeal.τ).loc Cert.StepBranchIdeal.main_v0_2) = v2 c
          ∧ r.2.mem ((c.tc : Thread Cert.StepBranchIdeal.nD Cert.StepBranchIdeal.τ).loc Cert.StepBranchIdeal.main_v0_3) = v3 c
          ∧ r.2.mem ((c.tc : Thread Cert.StepBranchIdeal.nD Cert.StepBranchIdeal.τ).loc Cert.StepBranchIdeal.main_arg0) = m ((c.tc : Thread Cert.StepBranchIdeal.nD Cert.StepBranchIdeal.τ).loc Cert.StepBranchIdeal.main_arg0)
          ∧ r.2.mem ((c.tc : Thread Cert.StepBranchIdeal.nD Cert.StepBranchIdeal.τ).loc Cert.StepBranchIdeal.main_arg1) = m ((c.tc : Thread Cert.StepBranchIdeal.nD Cert.StepBranchIdeal.τ).loc Cert.StepBranchIdeal.main_arg1)
          ∧ r.2.mem ((c.tc : Thread Cert.StepBranchIdeal.nD Cert.StepBranchIdeal.τ).loc Cert.StepBranchIdeal.main_arg2) = m ((c.tc : Thread Cert.StepBranchIdeal.nD Cert.StepBranchIdeal.τ).loc Cert.StepBranchIdeal.main_arg2)
          ∧ r.2.mem ((c.tc : Thread Cert.StepBranchIdeal.nD Cert.StepBranchIdeal.τ).loc Cert.StepBranchIdeal.main_arg3) = m ((c.tc : Thread Cert.StepBranchIdeal.nD Cert.StepBranchIdeal.τ).loc Cert.StepBranchIdeal.main_arg3))
      ∧ θ_run (Cert.StepBranchRefIdeal.defs (F := Ideal)) (onTc (τ := Cert.StepBranchRefIdeal.τ) (Cert.StepBranchRefIdeal.main (F := Ideal))) ⟨m', fun _ => 0, g'⟩ (fun r => ∀ c : Dev Cert.StepBranchRefIdeal.nD,
          r.2.mem ((c.tc : Thread Cert.StepBranchRefIdeal.nD Cert.StepBranchRefIdeal.τ).loc Cert.StepBranchRefIdeal.main_v23) = v0 c
          ∧ r.2.mem ((c.tc : Thread Cert.StepBranchRefIdeal.nD Cert.StepBranchRefIdeal.τ).loc Cert.StepBranchRefIdeal.main_v4) = v1 c
          ∧ r.2.mem ((c.tc : Thread Cert.StepBranchRefIdeal.nD Cert.StepBranchRefIdeal.τ).loc Cert.StepBranchRefIdeal.main_v10) = v2 c
          ∧ r.2.mem ((c.tc : Thread Cert.StepBranchRefIdeal.nD Cert.StepBranchRefIdeal.τ).loc Cert.StepBranchRefIdeal.main_arg1) = v3 c
          ∧ r.2.mem ((c.tc : Thread Cert.StepBranchRefIdeal.nD Cert.StepBranchRefIdeal.τ).loc Cert.StepBranchRefIdeal.main_arg0) = m' ((c.tc : Thread Cert.StepBranchRefIdeal.nD Cert.StepBranchRefIdeal.τ).loc Cert.StepBranchRefIdeal.main_arg0)
          ∧ r.2.mem ((c.tc : Thread Cert.StepBranchRefIdeal.nD Cert.StepBranchRefIdeal.τ).loc Cert.StepBranchRefIdeal.main_arg1) = m' ((c.tc : Thread Cert.StepBranchRefIdeal.nD Cert.StepBranchRefIdeal.τ).loc Cert.StepBranchRefIdeal.main_arg1)
          ∧ r.2.mem ((c.tc : Thread Cert.StepBranchRefIdeal.nD Cert.StepBranchRefIdeal.τ).loc Cert.StepBranchRefIdeal.main_arg2) = m' ((c.tc : Thread Cert.StepBranchRefIdeal.nD Cert.StepBranchRefIdeal.τ).loc Cert.StepBranchRefIdeal.main_arg2)
          ∧ r.2.mem ((c.tc : Thread Cert.StepBranchRefIdeal.nD Cert.StepBranchRefIdeal.τ).loc Cert.StepBranchRefIdeal.main_arg3) = m' ((c.tc : Thread Cert.StepBranchRefIdeal.nD Cert.StepBranchRefIdeal.τ).loc Cert.StepBranchRefIdeal.main_arg3))

def preserves_StepOut_StepOutIdeal : Prop :=
  True

def algebraic_StepOutIdeal_StepOutRefIdeal [hStepOutIdeal : Cert.StepOutIdeal.Facts] [hStepOutRefIdeal : Cert.StepOutRefIdeal.Facts] : Prop :=
  ∀ (m : (ℓ : Loc Cert.StepOutIdeal.nD Cert.StepOutIdeal.τ Cert.StepOutIdeal.sig) → Buf (Elt Ideal) ℓ) (g : Dev Cert.StepOutIdeal.nD → PrngReg)
    (m' : (ℓ : Loc Cert.StepOutRefIdeal.nD Cert.StepOutRefIdeal.τ Cert.StepOutRefIdeal.sig) → Buf (Elt Ideal) ℓ) (g' : Dev Cert.StepOutRefIdeal.nD → PrngReg), Pre_StepOutIdeal m →
    (∀ c : Dev Cert.StepOutIdeal.nD,
      m' ((c.tc : Thread Cert.StepOutRefIdeal.nD Cert.StepOutRefIdeal.τ).loc Cert.StepOutRefIdeal.main_arg0) = m ((c.tc : Thread Cert.StepOutIdeal.nD Cert.StepOutIdeal.τ).loc Cert.StepOutIdeal.main_arg0)
      ∧ m' ((c.tc : Thread Cert.StepOutRefIdeal.nD Cert.StepOutRefIdeal.τ).loc Cert.StepOutRefIdeal.main_arg1) = m ((c.tc : Thread Cert.StepOutIdeal.nD Cert.StepOutIdeal.τ).loc Cert.StepOutIdeal.main_arg1)
      ∧ m' ((c.tc : Thread Cert.StepOutRefIdeal.nD Cert.StepOutRefIdeal.τ).loc Cert.StepOutRefIdeal.main_arg2) = m ((c.tc : Thread Cert.StepOutIdeal.nD Cert.StepOutIdeal.τ).loc Cert.StepOutIdeal.main_arg2)
      ∧ m' ((c.tc : Thread Cert.StepOutRefIdeal.nD Cert.StepOutRefIdeal.τ).loc Cert.StepOutRefIdeal.main_arg3) = m ((c.tc : Thread Cert.StepOutIdeal.nD Cert.StepOutIdeal.τ).loc Cert.StepOutIdeal.main_arg3)) →
    ∃ (v0 : (c : Dev Cert.StepOutIdeal.nD) → Buf (Elt Ideal) ((c.tc : Thread Cert.StepOutIdeal.nD Cert.StepOutIdeal.τ).loc Cert.StepOutIdeal.main_v0_0)) (v1 : (c : Dev Cert.StepOutIdeal.nD) → Buf (Elt Ideal) ((c.tc : Thread Cert.StepOutIdeal.nD Cert.StepOutIdeal.τ).loc Cert.StepOutIdeal.main_v0_1)) (v2 : (c : Dev Cert.StepOutIdeal.nD) → Buf (Elt Ideal) ((c.tc : Thread Cert.StepOutIdeal.nD Cert.StepOutIdeal.τ).loc Cert.StepOutIdeal.main_v0_2)) (v3 : (c : Dev Cert.StepOutIdeal.nD) → Buf (Elt Ideal) ((c.tc : Thread Cert.StepOutIdeal.nD Cert.StepOutIdeal.τ).loc Cert.StepOutIdeal.main_v0_3)),
      θ_run (Cert.StepOutIdeal.defs (F := Ideal)) (onTc (τ := Cert.StepOutIdeal.τ) (Cert.StepOutIdeal.main (F := Ideal))) ⟨m, fun _ => 0, g⟩ (fun r => ∀ c : Dev Cert.StepOutIdeal.nD,
          r.2.mem ((c.tc : Thread Cert.StepOutIdeal.nD Cert.StepOutIdeal.τ).loc Cert.StepOutIdeal.main_v0_0) = v0 c
          ∧ r.2.mem ((c.tc : Thread Cert.StepOutIdeal.nD Cert.StepOutIdeal.τ).loc Cert.StepOutIdeal.main_v0_1) = v1 c
          ∧ r.2.mem ((c.tc : Thread Cert.StepOutIdeal.nD Cert.StepOutIdeal.τ).loc Cert.StepOutIdeal.main_v0_2) = v2 c
          ∧ r.2.mem ((c.tc : Thread Cert.StepOutIdeal.nD Cert.StepOutIdeal.τ).loc Cert.StepOutIdeal.main_v0_3) = v3 c
          ∧ r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
          ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
          ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
          ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ θ_run (Cert.StepOutRefIdeal.defs (F := Ideal)) (onTc (τ := Cert.StepOutRefIdeal.τ) (Cert.StepOutRefIdeal.main (F := Ideal))) ⟨m', fun _ => 0, g'⟩ (fun r => ∀ c : Dev Cert.StepOutRefIdeal.nD,
          r.2.mem ((c.tc : Thread Cert.StepOutRefIdeal.nD Cert.StepOutRefIdeal.τ).loc Cert.StepOutRefIdeal.main_v23) = v0 c
          ∧ r.2.mem ((c.tc : Thread Cert.StepOutRefIdeal.nD Cert.StepOutRefIdeal.τ).loc Cert.StepOutRefIdeal.main_v4) = v1 c
          ∧ r.2.mem ((c.tc : Thread Cert.StepOutRefIdeal.nD Cert.StepOutRefIdeal.τ).loc Cert.StepOutRefIdeal.main_v10) = v2 c
          ∧ r.2.mem ((c.tc : Thread Cert.StepOutRefIdeal.nD Cert.StepOutRefIdeal.τ).loc Cert.StepOutRefIdeal.main_arg1) = v3 c
          ∧ r.2.mem ((c.tc : Thread Cert.StepOutRefIdeal.nD Cert.StepOutRefIdeal.τ).loc Cert.StepOutRefIdeal.main_arg0) = m' ((c.tc : Thread Cert.StepOutRefIdeal.nD Cert.StepOutRefIdeal.τ).loc Cert.StepOutRefIdeal.main_arg0)
          ∧ r.2.mem ((c.tc : Thread Cert.StepOutRefIdeal.nD Cert.StepOutRefIdeal.τ).loc Cert.StepOutRefIdeal.main_arg1) = m' ((c.tc : Thread Cert.StepOutRefIdeal.nD Cert.StepOutRefIdeal.τ).loc Cert.StepOutRefIdeal.main_arg1)
          ∧ r.2.mem ((c.tc : Thread Cert.StepOutRefIdeal.nD Cert.StepOutRefIdeal.τ).loc Cert.StepOutRefIdeal.main_arg2) = m' ((c.tc : Thread Cert.StepOutRefIdeal.nD Cert.StepOutRefIdeal.τ).loc Cert.StepOutRefIdeal.main_arg2)
          ∧ r.2.mem ((c.tc : Thread Cert.StepOutRefIdeal.nD Cert.StepOutRefIdeal.τ).loc Cert.StepOutRefIdeal.main_arg3) = m' ((c.tc : Thread Cert.StepOutRefIdeal.nD Cert.StepOutRefIdeal.τ).loc Cert.StepOutRefIdeal.main_arg3))

def preserves_StepUp_StepUpIdeal : Prop :=
  True

def algebraic_StepUpIdeal_StepUpRefIdeal [hStepUpIdeal : Cert.StepUpIdeal.Facts] [hStepUpRefIdeal : Cert.StepUpRefIdeal.Facts] : Prop :=
  ∀ (m : (ℓ : Loc Cert.StepUpIdeal.nD Cert.StepUpIdeal.τ Cert.StepUpIdeal.sig) → Buf (Elt Ideal) ℓ) (g : Dev Cert.StepUpIdeal.nD → PrngReg)
    (m' : (ℓ : Loc Cert.StepUpRefIdeal.nD Cert.StepUpRefIdeal.τ Cert.StepUpRefIdeal.sig) → Buf (Elt Ideal) ℓ) (g' : Dev Cert.StepUpRefIdeal.nD → PrngReg), Pre_StepUpIdeal m →
    (∀ c : Dev Cert.StepUpIdeal.nD,
      m' ((c.tc : Thread Cert.StepUpRefIdeal.nD Cert.StepUpRefIdeal.τ).loc Cert.StepUpRefIdeal.main_arg0) = m ((c.tc : Thread Cert.StepUpIdeal.nD Cert.StepUpIdeal.τ).loc Cert.StepUpIdeal.main_arg0)
      ∧ m' ((c.tc : Thread Cert.StepUpRefIdeal.nD Cert.StepUpRefIdeal.τ).loc Cert.StepUpRefIdeal.main_arg1) = m ((c.tc : Thread Cert.StepUpIdeal.nD Cert.StepUpIdeal.τ).loc Cert.StepUpIdeal.main_arg1)
      ∧ m' ((c.tc : Thread Cert.StepUpRefIdeal.nD Cert.StepUpRefIdeal.τ).loc Cert.StepUpRefIdeal.main_arg2) = m ((c.tc : Thread Cert.StepUpIdeal.nD Cert.StepUpIdeal.τ).loc Cert.StepUpIdeal.main_arg2)
      ∧ m' ((c.tc : Thread Cert.StepUpRefIdeal.nD Cert.StepUpRefIdeal.τ).loc Cert.StepUpRefIdeal.main_arg3) = m ((c.tc : Thread Cert.StepUpIdeal.nD Cert.StepUpIdeal.τ).loc Cert.StepUpIdeal.main_arg3)) →
    ∃ (v0 : (c : Dev Cert.StepUpIdeal.nD) → Buf (Elt Ideal) ((c.tc : Thread Cert.StepUpIdeal.nD Cert.StepUpIdeal.τ).loc Cert.StepUpIdeal.main_v0_0)) (v1 : (c : Dev Cert.StepUpIdeal.nD) → Buf (Elt Ideal) ((c.tc : Thread Cert.StepUpIdeal.nD Cert.StepUpIdeal.τ).loc Cert.StepUpIdeal.main_v0_1)) (v2 : (c : Dev Cert.StepUpIdeal.nD) → Buf (Elt Ideal) ((c.tc : Thread Cert.StepUpIdeal.nD Cert.StepUpIdeal.τ).loc Cert.StepUpIdeal.main_v0_2)) (v3 : (c : Dev Cert.StepUpIdeal.nD) → Buf (Elt Ideal) ((c.tc : Thread Cert.StepUpIdeal.nD Cert.StepUpIdeal.τ).loc Cert.StepUpIdeal.main_v0_3)),
      θ_run (Cert.StepUpIdeal.defs (F := Ideal)) (onTc (τ := Cert.StepUpIdeal.τ) (Cert.StepUpIdeal.main (F := Ideal))) ⟨m, fun _ => 0, g⟩ (fun r => ∀ c : Dev Cert.StepUpIdeal.nD,
          r.2.mem ((c.tc : Thread Cert.StepUpIdeal.nD Cert.StepUpIdeal.τ).loc Cert.StepUpIdeal.main_v0_0) = v0 c
          ∧ r.2.mem ((c.tc : Thread Cert.StepUpIdeal.nD Cert.StepUpIdeal.τ).loc Cert.StepUpIdeal.main_v0_1) = v1 c
          ∧ r.2.mem ((c.tc : Thread Cert.StepUpIdeal.nD Cert.StepUpIdeal.τ).loc Cert.StepUpIdeal.main_v0_2) = v2 c
          ∧ r.2.mem ((c.tc : Thread Cert.StepUpIdeal.nD Cert.StepUpIdeal.τ).loc Cert.StepUpIdeal.main_v0_3) = v3 c
          ∧ r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
          ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
          ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
          ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3))
      ∧ θ_run (Cert.StepUpRefIdeal.defs (F := Ideal)) (onTc (τ := Cert.StepUpRefIdeal.τ) (Cert.StepUpRefIdeal.main (F := Ideal))) ⟨m', fun _ => 0, g'⟩ (fun r => ∀ c : Dev Cert.StepUpRefIdeal.nD,
          r.2.mem ((c.tc : Thread Cert.StepUpRefIdeal.nD Cert.StepUpRefIdeal.τ).loc Cert.StepUpRefIdeal.main_v23) = v0 c
          ∧ r.2.mem ((c.tc : Thread Cert.StepUpRefIdeal.nD Cert.StepUpRefIdeal.τ).loc Cert.StepUpRefIdeal.main_v4) = v1 c
          ∧ r.2.mem ((c.tc : Thread Cert.StepUpRefIdeal.nD Cert.StepUpRefIdeal.τ).loc Cert.StepUpRefIdeal.main_v10) = v2 c
          ∧ r.2.mem ((c.tc : Thread Cert.StepUpRefIdeal.nD Cert.StepUpRefIdeal.τ).loc Cert.StepUpRefIdeal.main_arg1) = v3 c
          ∧ r.2.mem ((c.tc : Thread Cert.StepUpRefIdeal.nD Cert.StepUpRefIdeal.τ).loc Cert.StepUpRefIdeal.main_arg0) = m' ((c.tc : Thread Cert.StepUpRefIdeal.nD Cert.StepUpRefIdeal.τ).loc Cert.StepUpRefIdeal.main_arg0)
          ∧ r.2.mem ((c.tc : Thread Cert.StepUpRefIdeal.nD Cert.StepUpRefIdeal.τ).loc Cert.StepUpRefIdeal.main_arg1) = m' ((c.tc : Thread Cert.StepUpRefIdeal.nD Cert.StepUpRefIdeal.τ).loc Cert.StepUpRefIdeal.main_arg1)
          ∧ r.2.mem ((c.tc : Thread Cert.StepUpRefIdeal.nD Cert.StepUpRefIdeal.τ).loc Cert.StepUpRefIdeal.main_arg2) = m' ((c.tc : Thread Cert.StepUpRefIdeal.nD Cert.StepUpRefIdeal.τ).loc Cert.StepUpRefIdeal.main_arg2)
          ∧ r.2.mem ((c.tc : Thread Cert.StepUpRefIdeal.nD Cert.StepUpRefIdeal.τ).loc Cert.StepUpRefIdeal.main_arg3) = m' ((c.tc : Thread Cert.StepUpRefIdeal.nD Cert.StepUpRefIdeal.τ).loc Cert.StepUpRefIdeal.main_arg3))

def preserves_StepDown_StepDownIdeal : Prop :=
  True

def algebraic_StepDownIdeal_StepDownRefIdeal [hStepDownIdeal : Cert.StepDownIdeal.Facts] [hStepDownRefIdeal : Cert.StepDownRefIdeal.Facts] : Prop :=
  ∀ (m : (ℓ : Loc Cert.StepDownIdeal.nD Cert.StepDownIdeal.τ Cert.StepDownIdeal.sig) → Buf (Elt Ideal) ℓ) (g : Dev Cert.StepDownIdeal.nD → PrngReg)
    (m' : (ℓ : Loc Cert.StepDownRefIdeal.nD Cert.StepDownRefIdeal.τ Cert.StepDownRefIdeal.sig) → Buf (Elt Ideal) ℓ) (g' : Dev Cert.StepDownRefIdeal.nD → PrngReg), Pre_StepDownIdeal m →
    (∀ c : Dev Cert.StepDownIdeal.nD,
      m' ((c.tc : Thread Cert.StepDownRefIdeal.nD Cert.StepDownRefIdeal.τ).loc Cert.StepDownRefIdeal.main_arg0) = m ((c.tc : Thread Cert.StepDownIdeal.nD Cert.StepDownIdeal.τ).loc Cert.StepDownIdeal.main_arg0)
      ∧ m' ((c.tc : Thread Cert.StepDownRefIdeal.nD Cert.StepDownRefIdeal.τ).loc Cert.StepDownRefIdeal.main_arg1) = m ((c.tc : Thread Cert.StepDownIdeal.nD Cert.StepDownIdeal.τ).loc Cert.StepDownIdeal.main_arg1)
      ∧ m' ((c.tc : Thread Cert.StepDownRefIdeal.nD Cert.StepDownRefIdeal.τ).loc Cert.StepDownRefIdeal.main_arg2) = m ((c.tc : Thread Cert.StepDownIdeal.nD Cert.StepDownIdeal.τ).loc Cert.StepDownIdeal.main_arg2)
      ∧ m' ((c.tc : Thread Cert.StepDownRefIdeal.nD Cert.StepDownRefIdeal.τ).loc Cert.StepDownRefIdeal.main_arg3) = m ((c.tc : Thread Cert.StepDownIdeal.nD Cert.StepDownIdeal.τ).loc Cert.StepDownIdeal.main_arg3)) →
    ∃ (v0 : (c : Dev Cert.StepDownIdeal.nD) → Buf (Elt Ideal) ((c.tc : Thread Cert.StepDownIdeal.nD Cert.StepDownIdeal.τ).loc Cert.StepDownIdeal.main_v0_0)) (v1 : (c : Dev Cert.StepDownIdeal.nD) → Buf (Elt Ideal) ((c.tc : Thread Cert.StepDownIdeal.nD Cert.StepDownIdeal.τ).loc Cert.StepDownIdeal.main_v0_1)) (v2 : (c : Dev Cert.StepDownIdeal.nD) → Buf (Elt Ideal) ((c.tc : Thread Cert.StepDownIdeal.nD Cert.StepDownIdeal.τ).loc Cert.StepDownIdeal.main_v0_2)) (v3 : (c : Dev Cert.StepDownIdeal.nD) → Buf (Elt Ideal) ((c.tc : Thread Cert.StepDownIdeal.nD Cert.StepDownIdeal.τ).loc Cert.StepDownIdeal.main_v0_3)),
      θ_run (Cert.StepDownIdeal.defs (F := Ideal)) (onTc (τ := Cert.StepDownIdeal.τ) (Cert.StepDownIdeal.main (F := Ideal))) ⟨m, fun _ => 0, g⟩ (fun r => ∀ c : Dev Cert.StepDownIdeal.nD,
          r.2.mem ((c.tc : Thread Cert.StepDownIdeal.nD Cert.StepDownIdeal.τ).loc Cert.StepDownIdeal.main_v0_0) = v0 c
          ∧ r.2.mem ((c.tc : Thread Cert.StepDownIdeal.nD Cert.StepDownIdeal.τ).loc Cert.StepDownIdeal.main_v0_1) = v1 c
          ∧ r.2.mem ((c.tc : Thread Cert.StepDownIdeal.nD Cert.StepDownIdeal.τ).loc Cert.StepDownIdeal.main_v0_2) = v2 c
          ∧ r.2.mem ((c.tc : Thread Cert.StepDownIdeal.nD Cert.StepDownIdeal.τ).loc Cert.StepDownIdeal.main_v0_3) = v3 c
          ∧ r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
          ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
          ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
          ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3))
      ∧ θ_run (Cert.StepDownRefIdeal.defs (F := Ideal)) (onTc (τ := Cert.StepDownRefIdeal.τ) (Cert.StepDownRefIdeal.main (F := Ideal))) ⟨m', fun _ => 0, g'⟩ (fun r => ∀ c : Dev Cert.StepDownRefIdeal.nD,
          r.2.mem ((c.tc : Thread Cert.StepDownRefIdeal.nD Cert.StepDownRefIdeal.τ).loc Cert.StepDownRefIdeal.main_v23) = v0 c
          ∧ r.2.mem ((c.tc : Thread Cert.StepDownRefIdeal.nD Cert.StepDownRefIdeal.τ).loc Cert.StepDownRefIdeal.main_v4) = v1 c
          ∧ r.2.mem ((c.tc : Thread Cert.StepDownRefIdeal.nD Cert.StepDownRefIdeal.τ).loc Cert.StepDownRefIdeal.main_v10) = v2 c
          ∧ r.2.mem ((c.tc : Thread Cert.StepDownRefIdeal.nD Cert.StepDownRefIdeal.τ).loc Cert.StepDownRefIdeal.main_arg1) = v3 c
          ∧ r.2.mem ((c.tc : Thread Cert.StepDownRefIdeal.nD Cert.StepDownRefIdeal.τ).loc Cert.StepDownRefIdeal.main_arg0) = m' ((c.tc : Thread Cert.StepDownRefIdeal.nD Cert.StepDownRefIdeal.τ).loc Cert.StepDownRefIdeal.main_arg0)
          ∧ r.2.mem ((c.tc : Thread Cert.StepDownRefIdeal.nD Cert.StepDownRefIdeal.τ).loc Cert.StepDownRefIdeal.main_arg1) = m' ((c.tc : Thread Cert.StepDownRefIdeal.nD Cert.StepDownRefIdeal.τ).loc Cert.StepDownRefIdeal.main_arg1)
          ∧ r.2.mem ((c.tc : Thread Cert.StepDownRefIdeal.nD Cert.StepDownRefIdeal.τ).loc Cert.StepDownRefIdeal.main_arg2) = m' ((c.tc : Thread Cert.StepDownRefIdeal.nD Cert.StepDownRefIdeal.τ).loc Cert.StepDownRefIdeal.main_arg2)
          ∧ r.2.mem ((c.tc : Thread Cert.StepDownRefIdeal.nD Cert.StepDownRefIdeal.τ).loc Cert.StepDownRefIdeal.main_arg3) = m' ((c.tc : Thread Cert.StepDownRefIdeal.nD Cert.StepDownRefIdeal.τ).loc Cert.StepDownRefIdeal.main_arg3))

def preserves_StepSmall_StepSmallIdeal : Prop :=
  True

def algebraic_StepSmallIdeal_StepSmallRefIdeal [hStepSmallIdeal : Cert.StepSmallIdeal.Facts] [hStepSmallRefIdeal : Cert.StepSmallRefIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg)
    (m' : (ℓ : Loc Cert.StepSmallRefIdeal.nD Cert.StepSmallRefIdeal.τ Cert.StepSmallRefIdeal.sig) → Buf (Elt Ideal) ℓ) (g' : Dev Cert.StepSmallRefIdeal.nD → PrngReg), Pre_StepSmallIdeal m →
    (∀ c : Dev Cert.StepSmallIdeal.nD,
      m' ((c.tc : Thread Cert.StepSmallRefIdeal.nD Cert.StepSmallRefIdeal.τ).loc Cert.StepSmallRefIdeal.main_arg0) = m ((c.tc : Thread Cert.StepSmallIdeal.nD Cert.StepSmallIdeal.τ).loc Cert.StepSmallIdeal.main_arg0)
      ∧ m' ((c.tc : Thread Cert.StepSmallRefIdeal.nD Cert.StepSmallRefIdeal.τ).loc Cert.StepSmallRefIdeal.main_arg1) = m ((c.tc : Thread Cert.StepSmallIdeal.nD Cert.StepSmallIdeal.τ).loc Cert.StepSmallIdeal.main_arg1)
      ∧ m' ((c.tc : Thread Cert.StepSmallRefIdeal.nD Cert.StepSmallRefIdeal.τ).loc Cert.StepSmallRefIdeal.main_arg2) = m ((c.tc : Thread Cert.StepSmallIdeal.nD Cert.StepSmallIdeal.τ).loc Cert.StepSmallIdeal.main_arg2)
      ∧ m' ((c.tc : Thread Cert.StepSmallRefIdeal.nD Cert.StepSmallRefIdeal.τ).loc Cert.StepSmallRefIdeal.main_arg3) = m ((c.tc : Thread Cert.StepSmallIdeal.nD Cert.StepSmallIdeal.τ).loc Cert.StepSmallIdeal.main_arg3)
      ∧ m' ((c.tc : Thread Cert.StepSmallRefIdeal.nD Cert.StepSmallRefIdeal.τ).loc Cert.StepSmallRefIdeal.main_arg4) = m ((c.tc : Thread Cert.StepSmallIdeal.nD Cert.StepSmallIdeal.τ).loc Cert.StepSmallIdeal.main_arg4)
      ∧ m' ((c.tc : Thread Cert.StepSmallRefIdeal.nD Cert.StepSmallRefIdeal.τ).loc Cert.StepSmallRefIdeal.main_arg5) = m ((c.tc : Thread Cert.StepSmallIdeal.nD Cert.StepSmallIdeal.τ).loc Cert.StepSmallIdeal.main_arg5)
      ∧ m' ((c.tc : Thread Cert.StepSmallRefIdeal.nD Cert.StepSmallRefIdeal.τ).loc Cert.StepSmallRefIdeal.main_arg6) = m ((c.tc : Thread Cert.StepSmallIdeal.nD Cert.StepSmallIdeal.τ).loc Cert.StepSmallIdeal.main_arg6)
      ∧ m' ((c.tc : Thread Cert.StepSmallRefIdeal.nD Cert.StepSmallRefIdeal.τ).loc Cert.StepSmallRefIdeal.main_arg7) = m ((c.tc : Thread Cert.StepSmallIdeal.nD Cert.StepSmallIdeal.τ).loc Cert.StepSmallIdeal.main_arg7)
      ∧ m' ((c.tc : Thread Cert.StepSmallRefIdeal.nD Cert.StepSmallRefIdeal.τ).loc Cert.StepSmallRefIdeal.main_arg8) = m ((c.tc : Thread Cert.StepSmallIdeal.nD Cert.StepSmallIdeal.τ).loc Cert.StepSmallIdeal.main_arg8)
      ∧ m' ((c.tc : Thread Cert.StepSmallRefIdeal.nD Cert.StepSmallRefIdeal.τ).loc Cert.StepSmallRefIdeal.main_arg9) = m ((c.tc : Thread Cert.StepSmallIdeal.nD Cert.StepSmallIdeal.τ).loc Cert.StepSmallIdeal.main_arg9)
      ∧ m' ((c.tc : Thread Cert.StepSmallRefIdeal.nD Cert.StepSmallRefIdeal.τ).loc Cert.StepSmallRefIdeal.main_arg10) = m ((c.tc : Thread Cert.StepSmallIdeal.nD Cert.StepSmallIdeal.τ).loc Cert.StepSmallIdeal.main_arg10)
      ∧ m' ((c.tc : Thread Cert.StepSmallRefIdeal.nD Cert.StepSmallRefIdeal.τ).loc Cert.StepSmallRefIdeal.main_arg11) = m ((c.tc : Thread Cert.StepSmallIdeal.nD Cert.StepSmallIdeal.τ).loc Cert.StepSmallIdeal.main_arg11)
      ∧ m' ((c.tc : Thread Cert.StepSmallRefIdeal.nD Cert.StepSmallRefIdeal.τ).loc Cert.StepSmallRefIdeal.main_arg12) = m ((c.tc : Thread Cert.StepSmallIdeal.nD Cert.StepSmallIdeal.τ).loc Cert.StepSmallIdeal.main_arg12)
      ∧ m' ((c.tc : Thread Cert.StepSmallRefIdeal.nD Cert.StepSmallRefIdeal.τ).loc Cert.StepSmallRefIdeal.main_arg13) = m ((c.tc : Thread Cert.StepSmallIdeal.nD Cert.StepSmallIdeal.τ).loc Cert.StepSmallIdeal.main_arg13)
      ∧ m' ((c.tc : Thread Cert.StepSmallRefIdeal.nD Cert.StepSmallRefIdeal.τ).loc Cert.StepSmallRefIdeal.main_arg14) = m ((c.tc : Thread Cert.StepSmallIdeal.nD Cert.StepSmallIdeal.τ).loc Cert.StepSmallIdeal.main_arg14)
      ∧ m' ((c.tc : Thread Cert.StepSmallRefIdeal.nD Cert.StepSmallRefIdeal.τ).loc Cert.StepSmallRefIdeal.main_arg15) = m ((c.tc : Thread Cert.StepSmallIdeal.nD Cert.StepSmallIdeal.τ).loc Cert.StepSmallIdeal.main_arg15)
      ∧ m' ((c.tc : Thread Cert.StepSmallRefIdeal.nD Cert.StepSmallRefIdeal.τ).loc Cert.StepSmallRefIdeal.main_arg16) = m ((c.tc : Thread Cert.StepSmallIdeal.nD Cert.StepSmallIdeal.τ).loc Cert.StepSmallIdeal.main_arg16)
      ∧ m' ((c.tc : Thread Cert.StepSmallRefIdeal.nD Cert.StepSmallRefIdeal.τ).loc Cert.StepSmallRefIdeal.main_arg17) = m ((c.tc : Thread Cert.StepSmallIdeal.nD Cert.StepSmallIdeal.τ).loc Cert.StepSmallIdeal.main_arg17)
      ∧ m' ((c.tc : Thread Cert.StepSmallRefIdeal.nD Cert.StepSmallRefIdeal.τ).loc Cert.StepSmallRefIdeal.main_arg18) = m ((c.tc : Thread Cert.StepSmallIdeal.nD Cert.StepSmallIdeal.τ).loc Cert.StepSmallIdeal.main_arg18)
      ∧ m' ((c.tc : Thread Cert.StepSmallRefIdeal.nD Cert.StepSmallRefIdeal.τ).loc Cert.StepSmallRefIdeal.main_arg19) = m ((c.tc : Thread Cert.StepSmallIdeal.nD Cert.StepSmallIdeal.τ).loc Cert.StepSmallIdeal.main_arg19)
      ∧ m' ((c.tc : Thread Cert.StepSmallRefIdeal.nD Cert.StepSmallRefIdeal.τ).loc Cert.StepSmallRefIdeal.main_arg20) = m ((c.tc : Thread Cert.StepSmallIdeal.nD Cert.StepSmallIdeal.τ).loc Cert.StepSmallIdeal.main_arg20)
      ∧ m' ((c.tc : Thread Cert.StepSmallRefIdeal.nD Cert.StepSmallRefIdeal.τ).loc Cert.StepSmallRefIdeal.main_arg21) = m ((c.tc : Thread Cert.StepSmallIdeal.nD Cert.StepSmallIdeal.τ).loc Cert.StepSmallIdeal.main_arg21)
      ∧ m' ((c.tc : Thread Cert.StepSmallRefIdeal.nD Cert.StepSmallRefIdeal.τ).loc Cert.StepSmallRefIdeal.main_arg22) = m ((c.tc : Thread Cert.StepSmallIdeal.nD Cert.StepSmallIdeal.τ).loc Cert.StepSmallIdeal.main_arg22)
      ∧ m' ((c.tc : Thread Cert.StepSmallRefIdeal.nD Cert.StepSmallRefIdeal.τ).loc Cert.StepSmallRefIdeal.main_arg23) = m ((c.tc : Thread Cert.StepSmallIdeal.nD Cert.StepSmallIdeal.τ).loc Cert.StepSmallIdeal.main_arg23)
      ∧ m' ((c.tc : Thread Cert.StepSmallRefIdeal.nD Cert.StepSmallRefIdeal.τ).loc Cert.StepSmallRefIdeal.main_arg24) = m ((c.tc : Thread Cert.StepSmallIdeal.nD Cert.StepSmallIdeal.τ).loc Cert.StepSmallIdeal.main_arg24)
      ∧ m' ((c.tc : Thread Cert.StepSmallRefIdeal.nD Cert.StepSmallRefIdeal.τ).loc Cert.StepSmallRefIdeal.main_arg25) = m ((c.tc : Thread Cert.StepSmallIdeal.nD Cert.StepSmallIdeal.τ).loc Cert.StepSmallIdeal.main_arg25)
      ∧ m' ((c.tc : Thread Cert.StepSmallRefIdeal.nD Cert.StepSmallRefIdeal.τ).loc Cert.StepSmallRefIdeal.main_arg26) = m ((c.tc : Thread Cert.StepSmallIdeal.nD Cert.StepSmallIdeal.τ).loc Cert.StepSmallIdeal.main_arg26)
      ∧ m' ((c.tc : Thread Cert.StepSmallRefIdeal.nD Cert.StepSmallRefIdeal.τ).loc Cert.StepSmallRefIdeal.main_arg27) = m ((c.tc : Thread Cert.StepSmallIdeal.nD Cert.StepSmallIdeal.τ).loc Cert.StepSmallIdeal.main_arg27)
      ∧ m' ((c.tc : Thread Cert.StepSmallRefIdeal.nD Cert.StepSmallRefIdeal.τ).loc Cert.StepSmallRefIdeal.main_arg28) = m ((c.tc : Thread Cert.StepSmallIdeal.nD Cert.StepSmallIdeal.τ).loc Cert.StepSmallIdeal.main_arg28)
      ∧ m' ((c.tc : Thread Cert.StepSmallRefIdeal.nD Cert.StepSmallRefIdeal.τ).loc Cert.StepSmallRefIdeal.main_arg29) = m ((c.tc : Thread Cert.StepSmallIdeal.nD Cert.StepSmallIdeal.τ).loc Cert.StepSmallIdeal.main_arg29)
      ∧ m' ((c.tc : Thread Cert.StepSmallRefIdeal.nD Cert.StepSmallRefIdeal.τ).loc Cert.StepSmallRefIdeal.main_arg30) = m ((c.tc : Thread Cert.StepSmallIdeal.nD Cert.StepSmallIdeal.τ).loc Cert.StepSmallIdeal.main_arg30)
      ∧ m' ((c.tc : Thread Cert.StepSmallRefIdeal.nD Cert.StepSmallRefIdeal.τ).loc Cert.StepSmallRefIdeal.main_arg31) = m ((c.tc : Thread Cert.StepSmallIdeal.nD Cert.StepSmallIdeal.τ).loc Cert.StepSmallIdeal.main_arg31)
      ∧ m' ((c.tc : Thread Cert.StepSmallRefIdeal.nD Cert.StepSmallRefIdeal.τ).loc Cert.StepSmallRefIdeal.main_arg32) = m ((c.tc : Thread Cert.StepSmallIdeal.nD Cert.StepSmallIdeal.τ).loc Cert.StepSmallIdeal.main_arg32)
      ∧ m' ((c.tc : Thread Cert.StepSmallRefIdeal.nD Cert.StepSmallRefIdeal.τ).loc Cert.StepSmallRefIdeal.main_arg33) = m ((c.tc : Thread Cert.StepSmallIdeal.nD Cert.StepSmallIdeal.τ).loc Cert.StepSmallIdeal.main_arg33)
      ∧ m' ((c.tc : Thread Cert.StepSmallRefIdeal.nD Cert.StepSmallRefIdeal.τ).loc Cert.StepSmallRefIdeal.main_arg34) = m ((c.tc : Thread Cert.StepSmallIdeal.nD Cert.StepSmallIdeal.τ).loc Cert.StepSmallIdeal.main_arg34)
      ∧ m' ((c.tc : Thread Cert.StepSmallRefIdeal.nD Cert.StepSmallRefIdeal.τ).loc Cert.StepSmallRefIdeal.main_arg35) = m ((c.tc : Thread Cert.StepSmallIdeal.nD Cert.StepSmallIdeal.τ).loc Cert.StepSmallIdeal.main_arg35)
      ∧ m' ((c.tc : Thread Cert.StepSmallRefIdeal.nD Cert.StepSmallRefIdeal.τ).loc Cert.StepSmallRefIdeal.main_arg36) = m ((c.tc : Thread Cert.StepSmallIdeal.nD Cert.StepSmallIdeal.τ).loc Cert.StepSmallIdeal.main_arg36)
      ∧ m' ((c.tc : Thread Cert.StepSmallRefIdeal.nD Cert.StepSmallRefIdeal.τ).loc Cert.StepSmallRefIdeal.main_arg37) = m ((c.tc : Thread Cert.StepSmallIdeal.nD Cert.StepSmallIdeal.τ).loc Cert.StepSmallIdeal.main_arg37)
      ∧ m' ((c.tc : Thread Cert.StepSmallRefIdeal.nD Cert.StepSmallRefIdeal.τ).loc Cert.StepSmallRefIdeal.main_arg38) = m ((c.tc : Thread Cert.StepSmallIdeal.nD Cert.StepSmallIdeal.τ).loc Cert.StepSmallIdeal.main_arg38)
      ∧ m' ((c.tc : Thread Cert.StepSmallRefIdeal.nD Cert.StepSmallRefIdeal.τ).loc Cert.StepSmallRefIdeal.main_arg39) = m ((c.tc : Thread Cert.StepSmallIdeal.nD Cert.StepSmallIdeal.τ).loc Cert.StepSmallIdeal.main_arg39)
      ∧ m' ((c.tc : Thread Cert.StepSmallRefIdeal.nD Cert.StepSmallRefIdeal.τ).loc Cert.StepSmallRefIdeal.main_arg40) = m ((c.tc : Thread Cert.StepSmallIdeal.nD Cert.StepSmallIdeal.τ).loc Cert.StepSmallIdeal.main_arg40)
      ∧ m' ((c.tc : Thread Cert.StepSmallRefIdeal.nD Cert.StepSmallRefIdeal.τ).loc Cert.StepSmallRefIdeal.main_arg41) = m ((c.tc : Thread Cert.StepSmallIdeal.nD Cert.StepSmallIdeal.τ).loc Cert.StepSmallIdeal.main_arg41)
      ∧ m' ((c.tc : Thread Cert.StepSmallRefIdeal.nD Cert.StepSmallRefIdeal.τ).loc Cert.StepSmallRefIdeal.main_arg42) = m ((c.tc : Thread Cert.StepSmallIdeal.nD Cert.StepSmallIdeal.τ).loc Cert.StepSmallIdeal.main_arg42)
      ∧ m' ((c.tc : Thread Cert.StepSmallRefIdeal.nD Cert.StepSmallRefIdeal.τ).loc Cert.StepSmallRefIdeal.main_arg43) = m ((c.tc : Thread Cert.StepSmallIdeal.nD Cert.StepSmallIdeal.τ).loc Cert.StepSmallIdeal.main_arg43)
      ∧ m' ((c.tc : Thread Cert.StepSmallRefIdeal.nD Cert.StepSmallRefIdeal.τ).loc Cert.StepSmallRefIdeal.main_arg44) = m ((c.tc : Thread Cert.StepSmallIdeal.nD Cert.StepSmallIdeal.τ).loc Cert.StepSmallIdeal.main_arg44)
      ∧ m' ((c.tc : Thread Cert.StepSmallRefIdeal.nD Cert.StepSmallRefIdeal.τ).loc Cert.StepSmallRefIdeal.main_arg45) = m ((c.tc : Thread Cert.StepSmallIdeal.nD Cert.StepSmallIdeal.τ).loc Cert.StepSmallIdeal.main_arg45)
      ∧ m' ((c.tc : Thread Cert.StepSmallRefIdeal.nD Cert.StepSmallRefIdeal.τ).loc Cert.StepSmallRefIdeal.main_arg46) = m ((c.tc : Thread Cert.StepSmallIdeal.nD Cert.StepSmallIdeal.τ).loc Cert.StepSmallIdeal.main_arg46)
      ∧ m' ((c.tc : Thread Cert.StepSmallRefIdeal.nD Cert.StepSmallRefIdeal.τ).loc Cert.StepSmallRefIdeal.main_arg47) = m ((c.tc : Thread Cert.StepSmallIdeal.nD Cert.StepSmallIdeal.τ).loc Cert.StepSmallIdeal.main_arg47)) →
    ∃ (v0 : (c : Dev Cert.StepSmallIdeal.nD) → Buf (Elt Ideal) ((c.tc : Thread Cert.StepSmallIdeal.nD Cert.StepSmallIdeal.τ).loc Cert.StepSmallIdeal.main_v56_0)) (v1 : (c : Dev Cert.StepSmallIdeal.nD) → Buf (Elt Ideal) ((c.tc : Thread Cert.StepSmallIdeal.nD Cert.StepSmallIdeal.τ).loc Cert.StepSmallIdeal.main_v56_1)) (v2 : (c : Dev Cert.StepSmallIdeal.nD) → Buf (Elt Ideal) ((c.tc : Thread Cert.StepSmallIdeal.nD Cert.StepSmallIdeal.τ).loc Cert.StepSmallIdeal.main_v56_2)),
      θ_run (Cert.StepSmallIdeal.defs (F := Ideal)) (onTc (τ := Cert.StepSmallIdeal.τ) (Cert.StepSmallIdeal.main (F := Ideal))) ⟨m, fun _ => 0, g⟩ (fun r => ∀ c : Dev Cert.StepSmallIdeal.nD,
          r.2.mem ((c.tc : Thread Cert.StepSmallIdeal.nD Cert.StepSmallIdeal.τ).loc Cert.StepSmallIdeal.main_v56_0) = v0 c
          ∧ r.2.mem ((c.tc : Thread Cert.StepSmallIdeal.nD Cert.StepSmallIdeal.τ).loc Cert.StepSmallIdeal.main_v56_1) = v1 c
          ∧ r.2.mem ((c.tc : Thread Cert.StepSmallIdeal.nD Cert.StepSmallIdeal.τ).loc Cert.StepSmallIdeal.main_v56_2) = v2 c
          ∧ r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
          ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
          ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
          ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3)
          ∧ r.2.mem ((c.tc : Thread Cert.StepSmallIdeal.nD Cert.StepSmallIdeal.τ).loc Cert.StepSmallIdeal.main_arg4) = m ((c.tc : Thread Cert.StepSmallIdeal.nD Cert.StepSmallIdeal.τ).loc Cert.StepSmallIdeal.main_arg4)
          ∧ r.2.mem ((c.tc : Thread Cert.StepSmallIdeal.nD Cert.StepSmallIdeal.τ).loc Cert.StepSmallIdeal.main_arg5) = m ((c.tc : Thread Cert.StepSmallIdeal.nD Cert.StepSmallIdeal.τ).loc Cert.StepSmallIdeal.main_arg5)
          ∧ r.2.mem ((c.tc : Thread Cert.StepSmallIdeal.nD Cert.StepSmallIdeal.τ).loc Cert.StepSmallIdeal.main_arg6) = m ((c.tc : Thread Cert.StepSmallIdeal.nD Cert.StepSmallIdeal.τ).loc Cert.StepSmallIdeal.main_arg6)
          ∧ r.2.mem ((c.tc : Thread Cert.StepSmallIdeal.nD Cert.StepSmallIdeal.τ).loc Cert.StepSmallIdeal.main_arg7) = m ((c.tc : Thread Cert.StepSmallIdeal.nD Cert.StepSmallIdeal.τ).loc Cert.StepSmallIdeal.main_arg7)
          ∧ r.2.mem ((c.tc : Thread Cert.StepSmallIdeal.nD Cert.StepSmallIdeal.τ).loc Cert.StepSmallIdeal.main_arg8) = m ((c.tc : Thread Cert.StepSmallIdeal.nD Cert.StepSmallIdeal.τ).loc Cert.StepSmallIdeal.main_arg8)
          ∧ r.2.mem ((c.tc : Thread Cert.StepSmallIdeal.nD Cert.StepSmallIdeal.τ).loc Cert.StepSmallIdeal.main_arg9) = m ((c.tc : Thread Cert.StepSmallIdeal.nD Cert.StepSmallIdeal.τ).loc Cert.StepSmallIdeal.main_arg9)
          ∧ r.2.mem ((c.tc : Thread Cert.StepSmallIdeal.nD Cert.StepSmallIdeal.τ).loc Cert.StepSmallIdeal.main_arg10) = m ((c.tc : Thread Cert.StepSmallIdeal.nD Cert.StepSmallIdeal.τ).loc Cert.StepSmallIdeal.main_arg10)
          ∧ r.2.mem ((c.tc : Thread Cert.StepSmallIdeal.nD Cert.StepSmallIdeal.τ).loc Cert.StepSmallIdeal.main_arg11) = m ((c.tc : Thread Cert.StepSmallIdeal.nD Cert.StepSmallIdeal.τ).loc Cert.StepSmallIdeal.main_arg11)
          ∧ r.2.mem ((c.tc : Thread Cert.StepSmallIdeal.nD Cert.StepSmallIdeal.τ).loc Cert.StepSmallIdeal.main_arg12) = m ((c.tc : Thread Cert.StepSmallIdeal.nD Cert.StepSmallIdeal.τ).loc Cert.StepSmallIdeal.main_arg12)
          ∧ r.2.mem ((c.tc : Thread Cert.StepSmallIdeal.nD Cert.StepSmallIdeal.τ).loc Cert.StepSmallIdeal.main_arg13) = m ((c.tc : Thread Cert.StepSmallIdeal.nD Cert.StepSmallIdeal.τ).loc Cert.StepSmallIdeal.main_arg13)
          ∧ r.2.mem ((c.tc : Thread Cert.StepSmallIdeal.nD Cert.StepSmallIdeal.τ).loc Cert.StepSmallIdeal.main_arg14) = m ((c.tc : Thread Cert.StepSmallIdeal.nD Cert.StepSmallIdeal.τ).loc Cert.StepSmallIdeal.main_arg14)
          ∧ r.2.mem ((c.tc : Thread Cert.StepSmallIdeal.nD Cert.StepSmallIdeal.τ).loc Cert.StepSmallIdeal.main_arg15) = m ((c.tc : Thread Cert.StepSmallIdeal.nD Cert.StepSmallIdeal.τ).loc Cert.StepSmallIdeal.main_arg15)
          ∧ r.2.mem ((c.tc : Thread Cert.StepSmallIdeal.nD Cert.StepSmallIdeal.τ).loc Cert.StepSmallIdeal.main_arg16) = m ((c.tc : Thread Cert.StepSmallIdeal.nD Cert.StepSmallIdeal.τ).loc Cert.StepSmallIdeal.main_arg16)
          ∧ r.2.mem ((c.tc : Thread Cert.StepSmallIdeal.nD Cert.StepSmallIdeal.τ).loc Cert.StepSmallIdeal.main_arg17) = m ((c.tc : Thread Cert.StepSmallIdeal.nD Cert.StepSmallIdeal.τ).loc Cert.StepSmallIdeal.main_arg17)
          ∧ r.2.mem ((c.tc : Thread Cert.StepSmallIdeal.nD Cert.StepSmallIdeal.τ).loc Cert.StepSmallIdeal.main_arg18) = m ((c.tc : Thread Cert.StepSmallIdeal.nD Cert.StepSmallIdeal.τ).loc Cert.StepSmallIdeal.main_arg18)
          ∧ r.2.mem ((c.tc : Thread Cert.StepSmallIdeal.nD Cert.StepSmallIdeal.τ).loc Cert.StepSmallIdeal.main_arg19) = m ((c.tc : Thread Cert.StepSmallIdeal.nD Cert.StepSmallIdeal.τ).loc Cert.StepSmallIdeal.main_arg19)
          ∧ r.2.mem ((c.tc : Thread Cert.StepSmallIdeal.nD Cert.StepSmallIdeal.τ).loc Cert.StepSmallIdeal.main_arg20) = m ((c.tc : Thread Cert.StepSmallIdeal.nD Cert.StepSmallIdeal.τ).loc Cert.StepSmallIdeal.main_arg20)
          ∧ r.2.mem ((c.tc : Thread Cert.StepSmallIdeal.nD Cert.StepSmallIdeal.τ).loc Cert.StepSmallIdeal.main_arg21) = m ((c.tc : Thread Cert.StepSmallIdeal.nD Cert.StepSmallIdeal.τ).loc Cert.StepSmallIdeal.main_arg21)
          ∧ r.2.mem ((c.tc : Thread Cert.StepSmallIdeal.nD Cert.StepSmallIdeal.τ).loc Cert.StepSmallIdeal.main_arg22) = m ((c.tc : Thread Cert.StepSmallIdeal.nD Cert.StepSmallIdeal.τ).loc Cert.StepSmallIdeal.main_arg22)
          ∧ r.2.mem ((c.tc : Thread Cert.StepSmallIdeal.nD Cert.StepSmallIdeal.τ).loc Cert.StepSmallIdeal.main_arg23) = m ((c.tc : Thread Cert.StepSmallIdeal.nD Cert.StepSmallIdeal.τ).loc Cert.StepSmallIdeal.main_arg23)
          ∧ r.2.mem ((c.tc : Thread Cert.StepSmallIdeal.nD Cert.StepSmallIdeal.τ).loc Cert.StepSmallIdeal.main_arg24) = m ((c.tc : Thread Cert.StepSmallIdeal.nD Cert.StepSmallIdeal.τ).loc Cert.StepSmallIdeal.main_arg24)
          ∧ r.2.mem ((c.tc : Thread Cert.StepSmallIdeal.nD Cert.StepSmallIdeal.τ).loc Cert.StepSmallIdeal.main_arg25) = m ((c.tc : Thread Cert.StepSmallIdeal.nD Cert.StepSmallIdeal.τ).loc Cert.StepSmallIdeal.main_arg25)
          ∧ r.2.mem ((c.tc : Thread Cert.StepSmallIdeal.nD Cert.StepSmallIdeal.τ).loc Cert.StepSmallIdeal.main_arg26) = m ((c.tc : Thread Cert.StepSmallIdeal.nD Cert.StepSmallIdeal.τ).loc Cert.StepSmallIdeal.main_arg26)
          ∧ r.2.mem ((c.tc : Thread Cert.StepSmallIdeal.nD Cert.StepSmallIdeal.τ).loc Cert.StepSmallIdeal.main_arg27) = m ((c.tc : Thread Cert.StepSmallIdeal.nD Cert.StepSmallIdeal.τ).loc Cert.StepSmallIdeal.main_arg27)
          ∧ r.2.mem ((c.tc : Thread Cert.StepSmallIdeal.nD Cert.StepSmallIdeal.τ).loc Cert.StepSmallIdeal.main_arg28) = m ((c.tc : Thread Cert.StepSmallIdeal.nD Cert.StepSmallIdeal.τ).loc Cert.StepSmallIdeal.main_arg28)
          ∧ r.2.mem ((c.tc : Thread Cert.StepSmallIdeal.nD Cert.StepSmallIdeal.τ).loc Cert.StepSmallIdeal.main_arg29) = m ((c.tc : Thread Cert.StepSmallIdeal.nD Cert.StepSmallIdeal.τ).loc Cert.StepSmallIdeal.main_arg29)
          ∧ r.2.mem ((c.tc : Thread Cert.StepSmallIdeal.nD Cert.StepSmallIdeal.τ).loc Cert.StepSmallIdeal.main_arg30) = m ((c.tc : Thread Cert.StepSmallIdeal.nD Cert.StepSmallIdeal.τ).loc Cert.StepSmallIdeal.main_arg30)
          ∧ r.2.mem ((c.tc : Thread Cert.StepSmallIdeal.nD Cert.StepSmallIdeal.τ).loc Cert.StepSmallIdeal.main_arg31) = m ((c.tc : Thread Cert.StepSmallIdeal.nD Cert.StepSmallIdeal.τ).loc Cert.StepSmallIdeal.main_arg31)
          ∧ r.2.mem ((c.tc : Thread Cert.StepSmallIdeal.nD Cert.StepSmallIdeal.τ).loc Cert.StepSmallIdeal.main_arg32) = m ((c.tc : Thread Cert.StepSmallIdeal.nD Cert.StepSmallIdeal.τ).loc Cert.StepSmallIdeal.main_arg32)
          ∧ r.2.mem ((c.tc : Thread Cert.StepSmallIdeal.nD Cert.StepSmallIdeal.τ).loc Cert.StepSmallIdeal.main_arg33) = m ((c.tc : Thread Cert.StepSmallIdeal.nD Cert.StepSmallIdeal.τ).loc Cert.StepSmallIdeal.main_arg33)
          ∧ r.2.mem ((c.tc : Thread Cert.StepSmallIdeal.nD Cert.StepSmallIdeal.τ).loc Cert.StepSmallIdeal.main_arg34) = m ((c.tc : Thread Cert.StepSmallIdeal.nD Cert.StepSmallIdeal.τ).loc Cert.StepSmallIdeal.main_arg34)
          ∧ r.2.mem ((c.tc : Thread Cert.StepSmallIdeal.nD Cert.StepSmallIdeal.τ).loc Cert.StepSmallIdeal.main_arg35) = m ((c.tc : Thread Cert.StepSmallIdeal.nD Cert.StepSmallIdeal.τ).loc Cert.StepSmallIdeal.main_arg35)
          ∧ r.2.mem ((c.tc : Thread Cert.StepSmallIdeal.nD Cert.StepSmallIdeal.τ).loc Cert.StepSmallIdeal.main_arg36) = m ((c.tc : Thread Cert.StepSmallIdeal.nD Cert.StepSmallIdeal.τ).loc Cert.StepSmallIdeal.main_arg36)
          ∧ r.2.mem ((c.tc : Thread Cert.StepSmallIdeal.nD Cert.StepSmallIdeal.τ).loc Cert.StepSmallIdeal.main_arg37) = m ((c.tc : Thread Cert.StepSmallIdeal.nD Cert.StepSmallIdeal.τ).loc Cert.StepSmallIdeal.main_arg37)
          ∧ r.2.mem ((c.tc : Thread Cert.StepSmallIdeal.nD Cert.StepSmallIdeal.τ).loc Cert.StepSmallIdeal.main_arg38) = m ((c.tc : Thread Cert.StepSmallIdeal.nD Cert.StepSmallIdeal.τ).loc Cert.StepSmallIdeal.main_arg38)
          ∧ r.2.mem ((c.tc : Thread Cert.StepSmallIdeal.nD Cert.StepSmallIdeal.τ).loc Cert.StepSmallIdeal.main_arg39) = m ((c.tc : Thread Cert.StepSmallIdeal.nD Cert.StepSmallIdeal.τ).loc Cert.StepSmallIdeal.main_arg39)
          ∧ r.2.mem ((c.tc : Thread Cert.StepSmallIdeal.nD Cert.StepSmallIdeal.τ).loc Cert.StepSmallIdeal.main_arg40) = m ((c.tc : Thread Cert.StepSmallIdeal.nD Cert.StepSmallIdeal.τ).loc Cert.StepSmallIdeal.main_arg40)
          ∧ r.2.mem ((c.tc : Thread Cert.StepSmallIdeal.nD Cert.StepSmallIdeal.τ).loc Cert.StepSmallIdeal.main_arg41) = m ((c.tc : Thread Cert.StepSmallIdeal.nD Cert.StepSmallIdeal.τ).loc Cert.StepSmallIdeal.main_arg41)
          ∧ r.2.mem ((c.tc : Thread Cert.StepSmallIdeal.nD Cert.StepSmallIdeal.τ).loc Cert.StepSmallIdeal.main_arg42) = m ((c.tc : Thread Cert.StepSmallIdeal.nD Cert.StepSmallIdeal.τ).loc Cert.StepSmallIdeal.main_arg42)
          ∧ r.2.mem ((c.tc : Thread Cert.StepSmallIdeal.nD Cert.StepSmallIdeal.τ).loc Cert.StepSmallIdeal.main_arg43) = m ((c.tc : Thread Cert.StepSmallIdeal.nD Cert.StepSmallIdeal.τ).loc Cert.StepSmallIdeal.main_arg43)
          ∧ r.2.mem ((c.tc : Thread Cert.StepSmallIdeal.nD Cert.StepSmallIdeal.τ).loc Cert.StepSmallIdeal.main_arg44) = m ((c.tc : Thread Cert.StepSmallIdeal.nD Cert.StepSmallIdeal.τ).loc Cert.StepSmallIdeal.main_arg44)
          ∧ r.2.mem ((c.tc : Thread Cert.StepSmallIdeal.nD Cert.StepSmallIdeal.τ).loc Cert.StepSmallIdeal.main_arg45) = m ((c.tc : Thread Cert.StepSmallIdeal.nD Cert.StepSmallIdeal.τ).loc Cert.StepSmallIdeal.main_arg45)
          ∧ r.2.mem ((c.tc : Thread Cert.StepSmallIdeal.nD Cert.StepSmallIdeal.τ).loc Cert.StepSmallIdeal.main_arg46) = m ((c.tc : Thread Cert.StepSmallIdeal.nD Cert.StepSmallIdeal.τ).loc Cert.StepSmallIdeal.main_arg46)
          ∧ r.2.mem ((c.tc : Thread Cert.StepSmallIdeal.nD Cert.StepSmallIdeal.τ).loc Cert.StepSmallIdeal.main_arg47) = m ((c.tc : Thread Cert.StepSmallIdeal.nD Cert.StepSmallIdeal.τ).loc Cert.StepSmallIdeal.main_arg47))
      ∧ θ_run (Cert.StepSmallRefIdeal.defs (F := Ideal)) (onTc (τ := Cert.StepSmallRefIdeal.τ) (Cert.StepSmallRefIdeal.main (F := Ideal))) ⟨m', fun _ => 0, g'⟩ (fun r => ∀ c : Dev Cert.StepSmallRefIdeal.nD,
          r.2.mem ((c.tc : Thread Cert.StepSmallRefIdeal.nD Cert.StepSmallRefIdeal.τ).loc Cert.StepSmallRefIdeal.main_v301) = v0 c
          ∧ r.2.mem ((c.tc : Thread Cert.StepSmallRefIdeal.nD Cert.StepSmallRefIdeal.τ).loc Cert.StepSmallRefIdeal.main_v315) = v1 c
          ∧ r.2.mem ((c.tc : Thread Cert.StepSmallRefIdeal.nD Cert.StepSmallRefIdeal.τ).loc Cert.StepSmallRefIdeal.main_v329) = v2 c
          ∧ r.2.mem ((c.tc : Thread Cert.StepSmallRefIdeal.nD Cert.StepSmallRefIdeal.τ).loc Cert.StepSmallRefIdeal.main_arg0) = m' ((c.tc : Thread Cert.StepSmallRefIdeal.nD Cert.StepSmallRefIdeal.τ).loc Cert.StepSmallRefIdeal.main_arg0)
          ∧ r.2.mem ((c.tc : Thread Cert.StepSmallRefIdeal.nD Cert.StepSmallRefIdeal.τ).loc Cert.StepSmallRefIdeal.main_arg1) = m' ((c.tc : Thread Cert.StepSmallRefIdeal.nD Cert.StepSmallRefIdeal.τ).loc Cert.StepSmallRefIdeal.main_arg1)
          ∧ r.2.mem ((c.tc : Thread Cert.StepSmallRefIdeal.nD Cert.StepSmallRefIdeal.τ).loc Cert.StepSmallRefIdeal.main_arg2) = m' ((c.tc : Thread Cert.StepSmallRefIdeal.nD Cert.StepSmallRefIdeal.τ).loc Cert.StepSmallRefIdeal.main_arg2)
          ∧ r.2.mem ((c.tc : Thread Cert.StepSmallRefIdeal.nD Cert.StepSmallRefIdeal.τ).loc Cert.StepSmallRefIdeal.main_arg3) = m' ((c.tc : Thread Cert.StepSmallRefIdeal.nD Cert.StepSmallRefIdeal.τ).loc Cert.StepSmallRefIdeal.main_arg3)
          ∧ r.2.mem ((c.tc : Thread Cert.StepSmallRefIdeal.nD Cert.StepSmallRefIdeal.τ).loc Cert.StepSmallRefIdeal.main_arg4) = m' ((c.tc : Thread Cert.StepSmallRefIdeal.nD Cert.StepSmallRefIdeal.τ).loc Cert.StepSmallRefIdeal.main_arg4)
          ∧ r.2.mem ((c.tc : Thread Cert.StepSmallRefIdeal.nD Cert.StepSmallRefIdeal.τ).loc Cert.StepSmallRefIdeal.main_arg5) = m' ((c.tc : Thread Cert.StepSmallRefIdeal.nD Cert.StepSmallRefIdeal.τ).loc Cert.StepSmallRefIdeal.main_arg5)
          ∧ r.2.mem ((c.tc : Thread Cert.StepSmallRefIdeal.nD Cert.StepSmallRefIdeal.τ).loc Cert.StepSmallRefIdeal.main_arg6) = m' ((c.tc : Thread Cert.StepSmallRefIdeal.nD Cert.StepSmallRefIdeal.τ).loc Cert.StepSmallRefIdeal.main_arg6)
          ∧ r.2.mem ((c.tc : Thread Cert.StepSmallRefIdeal.nD Cert.StepSmallRefIdeal.τ).loc Cert.StepSmallRefIdeal.main_arg7) = m' ((c.tc : Thread Cert.StepSmallRefIdeal.nD Cert.StepSmallRefIdeal.τ).loc Cert.StepSmallRefIdeal.main_arg7)
          ∧ r.2.mem ((c.tc : Thread Cert.StepSmallRefIdeal.nD Cert.StepSmallRefIdeal.τ).loc Cert.StepSmallRefIdeal.main_arg8) = m' ((c.tc : Thread Cert.StepSmallRefIdeal.nD Cert.StepSmallRefIdeal.τ).loc Cert.StepSmallRefIdeal.main_arg8)
          ∧ r.2.mem ((c.tc : Thread Cert.StepSmallRefIdeal.nD Cert.StepSmallRefIdeal.τ).loc Cert.StepSmallRefIdeal.main_arg9) = m' ((c.tc : Thread Cert.StepSmallRefIdeal.nD Cert.StepSmallRefIdeal.τ).loc Cert.StepSmallRefIdeal.main_arg9)
          ∧ r.2.mem ((c.tc : Thread Cert.StepSmallRefIdeal.nD Cert.StepSmallRefIdeal.τ).loc Cert.StepSmallRefIdeal.main_arg10) = m' ((c.tc : Thread Cert.StepSmallRefIdeal.nD Cert.StepSmallRefIdeal.τ).loc Cert.StepSmallRefIdeal.main_arg10)
          ∧ r.2.mem ((c.tc : Thread Cert.StepSmallRefIdeal.nD Cert.StepSmallRefIdeal.τ).loc Cert.StepSmallRefIdeal.main_arg11) = m' ((c.tc : Thread Cert.StepSmallRefIdeal.nD Cert.StepSmallRefIdeal.τ).loc Cert.StepSmallRefIdeal.main_arg11)
          ∧ r.2.mem ((c.tc : Thread Cert.StepSmallRefIdeal.nD Cert.StepSmallRefIdeal.τ).loc Cert.StepSmallRefIdeal.main_arg12) = m' ((c.tc : Thread Cert.StepSmallRefIdeal.nD Cert.StepSmallRefIdeal.τ).loc Cert.StepSmallRefIdeal.main_arg12)
          ∧ r.2.mem ((c.tc : Thread Cert.StepSmallRefIdeal.nD Cert.StepSmallRefIdeal.τ).loc Cert.StepSmallRefIdeal.main_arg13) = m' ((c.tc : Thread Cert.StepSmallRefIdeal.nD Cert.StepSmallRefIdeal.τ).loc Cert.StepSmallRefIdeal.main_arg13)
          ∧ r.2.mem ((c.tc : Thread Cert.StepSmallRefIdeal.nD Cert.StepSmallRefIdeal.τ).loc Cert.StepSmallRefIdeal.main_arg14) = m' ((c.tc : Thread Cert.StepSmallRefIdeal.nD Cert.StepSmallRefIdeal.τ).loc Cert.StepSmallRefIdeal.main_arg14)
          ∧ r.2.mem ((c.tc : Thread Cert.StepSmallRefIdeal.nD Cert.StepSmallRefIdeal.τ).loc Cert.StepSmallRefIdeal.main_arg15) = m' ((c.tc : Thread Cert.StepSmallRefIdeal.nD Cert.StepSmallRefIdeal.τ).loc Cert.StepSmallRefIdeal.main_arg15)
          ∧ r.2.mem ((c.tc : Thread Cert.StepSmallRefIdeal.nD Cert.StepSmallRefIdeal.τ).loc Cert.StepSmallRefIdeal.main_arg16) = m' ((c.tc : Thread Cert.StepSmallRefIdeal.nD Cert.StepSmallRefIdeal.τ).loc Cert.StepSmallRefIdeal.main_arg16)
          ∧ r.2.mem ((c.tc : Thread Cert.StepSmallRefIdeal.nD Cert.StepSmallRefIdeal.τ).loc Cert.StepSmallRefIdeal.main_arg17) = m' ((c.tc : Thread Cert.StepSmallRefIdeal.nD Cert.StepSmallRefIdeal.τ).loc Cert.StepSmallRefIdeal.main_arg17)
          ∧ r.2.mem ((c.tc : Thread Cert.StepSmallRefIdeal.nD Cert.StepSmallRefIdeal.τ).loc Cert.StepSmallRefIdeal.main_arg18) = m' ((c.tc : Thread Cert.StepSmallRefIdeal.nD Cert.StepSmallRefIdeal.τ).loc Cert.StepSmallRefIdeal.main_arg18)
          ∧ r.2.mem ((c.tc : Thread Cert.StepSmallRefIdeal.nD Cert.StepSmallRefIdeal.τ).loc Cert.StepSmallRefIdeal.main_arg19) = m' ((c.tc : Thread Cert.StepSmallRefIdeal.nD Cert.StepSmallRefIdeal.τ).loc Cert.StepSmallRefIdeal.main_arg19)
          ∧ r.2.mem ((c.tc : Thread Cert.StepSmallRefIdeal.nD Cert.StepSmallRefIdeal.τ).loc Cert.StepSmallRefIdeal.main_arg20) = m' ((c.tc : Thread Cert.StepSmallRefIdeal.nD Cert.StepSmallRefIdeal.τ).loc Cert.StepSmallRefIdeal.main_arg20)
          ∧ r.2.mem ((c.tc : Thread Cert.StepSmallRefIdeal.nD Cert.StepSmallRefIdeal.τ).loc Cert.StepSmallRefIdeal.main_arg21) = m' ((c.tc : Thread Cert.StepSmallRefIdeal.nD Cert.StepSmallRefIdeal.τ).loc Cert.StepSmallRefIdeal.main_arg21)
          ∧ r.2.mem ((c.tc : Thread Cert.StepSmallRefIdeal.nD Cert.StepSmallRefIdeal.τ).loc Cert.StepSmallRefIdeal.main_arg22) = m' ((c.tc : Thread Cert.StepSmallRefIdeal.nD Cert.StepSmallRefIdeal.τ).loc Cert.StepSmallRefIdeal.main_arg22)
          ∧ r.2.mem ((c.tc : Thread Cert.StepSmallRefIdeal.nD Cert.StepSmallRefIdeal.τ).loc Cert.StepSmallRefIdeal.main_arg23) = m' ((c.tc : Thread Cert.StepSmallRefIdeal.nD Cert.StepSmallRefIdeal.τ).loc Cert.StepSmallRefIdeal.main_arg23)
          ∧ r.2.mem ((c.tc : Thread Cert.StepSmallRefIdeal.nD Cert.StepSmallRefIdeal.τ).loc Cert.StepSmallRefIdeal.main_arg24) = m' ((c.tc : Thread Cert.StepSmallRefIdeal.nD Cert.StepSmallRefIdeal.τ).loc Cert.StepSmallRefIdeal.main_arg24)
          ∧ r.2.mem ((c.tc : Thread Cert.StepSmallRefIdeal.nD Cert.StepSmallRefIdeal.τ).loc Cert.StepSmallRefIdeal.main_arg25) = m' ((c.tc : Thread Cert.StepSmallRefIdeal.nD Cert.StepSmallRefIdeal.τ).loc Cert.StepSmallRefIdeal.main_arg25)
          ∧ r.2.mem ((c.tc : Thread Cert.StepSmallRefIdeal.nD Cert.StepSmallRefIdeal.τ).loc Cert.StepSmallRefIdeal.main_arg26) = m' ((c.tc : Thread Cert.StepSmallRefIdeal.nD Cert.StepSmallRefIdeal.τ).loc Cert.StepSmallRefIdeal.main_arg26)
          ∧ r.2.mem ((c.tc : Thread Cert.StepSmallRefIdeal.nD Cert.StepSmallRefIdeal.τ).loc Cert.StepSmallRefIdeal.main_arg27) = m' ((c.tc : Thread Cert.StepSmallRefIdeal.nD Cert.StepSmallRefIdeal.τ).loc Cert.StepSmallRefIdeal.main_arg27)
          ∧ r.2.mem ((c.tc : Thread Cert.StepSmallRefIdeal.nD Cert.StepSmallRefIdeal.τ).loc Cert.StepSmallRefIdeal.main_arg28) = m' ((c.tc : Thread Cert.StepSmallRefIdeal.nD Cert.StepSmallRefIdeal.τ).loc Cert.StepSmallRefIdeal.main_arg28)
          ∧ r.2.mem ((c.tc : Thread Cert.StepSmallRefIdeal.nD Cert.StepSmallRefIdeal.τ).loc Cert.StepSmallRefIdeal.main_arg29) = m' ((c.tc : Thread Cert.StepSmallRefIdeal.nD Cert.StepSmallRefIdeal.τ).loc Cert.StepSmallRefIdeal.main_arg29)
          ∧ r.2.mem ((c.tc : Thread Cert.StepSmallRefIdeal.nD Cert.StepSmallRefIdeal.τ).loc Cert.StepSmallRefIdeal.main_arg30) = m' ((c.tc : Thread Cert.StepSmallRefIdeal.nD Cert.StepSmallRefIdeal.τ).loc Cert.StepSmallRefIdeal.main_arg30)
          ∧ r.2.mem ((c.tc : Thread Cert.StepSmallRefIdeal.nD Cert.StepSmallRefIdeal.τ).loc Cert.StepSmallRefIdeal.main_arg31) = m' ((c.tc : Thread Cert.StepSmallRefIdeal.nD Cert.StepSmallRefIdeal.τ).loc Cert.StepSmallRefIdeal.main_arg31)
          ∧ r.2.mem ((c.tc : Thread Cert.StepSmallRefIdeal.nD Cert.StepSmallRefIdeal.τ).loc Cert.StepSmallRefIdeal.main_arg32) = m' ((c.tc : Thread Cert.StepSmallRefIdeal.nD Cert.StepSmallRefIdeal.τ).loc Cert.StepSmallRefIdeal.main_arg32)
          ∧ r.2.mem ((c.tc : Thread Cert.StepSmallRefIdeal.nD Cert.StepSmallRefIdeal.τ).loc Cert.StepSmallRefIdeal.main_arg33) = m' ((c.tc : Thread Cert.StepSmallRefIdeal.nD Cert.StepSmallRefIdeal.τ).loc Cert.StepSmallRefIdeal.main_arg33)
          ∧ r.2.mem ((c.tc : Thread Cert.StepSmallRefIdeal.nD Cert.StepSmallRefIdeal.τ).loc Cert.StepSmallRefIdeal.main_arg34) = m' ((c.tc : Thread Cert.StepSmallRefIdeal.nD Cert.StepSmallRefIdeal.τ).loc Cert.StepSmallRefIdeal.main_arg34)
          ∧ r.2.mem ((c.tc : Thread Cert.StepSmallRefIdeal.nD Cert.StepSmallRefIdeal.τ).loc Cert.StepSmallRefIdeal.main_arg35) = m' ((c.tc : Thread Cert.StepSmallRefIdeal.nD Cert.StepSmallRefIdeal.τ).loc Cert.StepSmallRefIdeal.main_arg35)
          ∧ r.2.mem ((c.tc : Thread Cert.StepSmallRefIdeal.nD Cert.StepSmallRefIdeal.τ).loc Cert.StepSmallRefIdeal.main_arg36) = m' ((c.tc : Thread Cert.StepSmallRefIdeal.nD Cert.StepSmallRefIdeal.τ).loc Cert.StepSmallRefIdeal.main_arg36)
          ∧ r.2.mem ((c.tc : Thread Cert.StepSmallRefIdeal.nD Cert.StepSmallRefIdeal.τ).loc Cert.StepSmallRefIdeal.main_arg37) = m' ((c.tc : Thread Cert.StepSmallRefIdeal.nD Cert.StepSmallRefIdeal.τ).loc Cert.StepSmallRefIdeal.main_arg37)
          ∧ r.2.mem ((c.tc : Thread Cert.StepSmallRefIdeal.nD Cert.StepSmallRefIdeal.τ).loc Cert.StepSmallRefIdeal.main_arg38) = m' ((c.tc : Thread Cert.StepSmallRefIdeal.nD Cert.StepSmallRefIdeal.τ).loc Cert.StepSmallRefIdeal.main_arg38)
          ∧ r.2.mem ((c.tc : Thread Cert.StepSmallRefIdeal.nD Cert.StepSmallRefIdeal.τ).loc Cert.StepSmallRefIdeal.main_arg39) = m' ((c.tc : Thread Cert.StepSmallRefIdeal.nD Cert.StepSmallRefIdeal.τ).loc Cert.StepSmallRefIdeal.main_arg39)
          ∧ r.2.mem ((c.tc : Thread Cert.StepSmallRefIdeal.nD Cert.StepSmallRefIdeal.τ).loc Cert.StepSmallRefIdeal.main_arg40) = m' ((c.tc : Thread Cert.StepSmallRefIdeal.nD Cert.StepSmallRefIdeal.τ).loc Cert.StepSmallRefIdeal.main_arg40)
          ∧ r.2.mem ((c.tc : Thread Cert.StepSmallRefIdeal.nD Cert.StepSmallRefIdeal.τ).loc Cert.StepSmallRefIdeal.main_arg41) = m' ((c.tc : Thread Cert.StepSmallRefIdeal.nD Cert.StepSmallRefIdeal.τ).loc Cert.StepSmallRefIdeal.main_arg41)
          ∧ r.2.mem ((c.tc : Thread Cert.StepSmallRefIdeal.nD Cert.StepSmallRefIdeal.τ).loc Cert.StepSmallRefIdeal.main_arg42) = m' ((c.tc : Thread Cert.StepSmallRefIdeal.nD Cert.StepSmallRefIdeal.τ).loc Cert.StepSmallRefIdeal.main_arg42)
          ∧ r.2.mem ((c.tc : Thread Cert.StepSmallRefIdeal.nD Cert.StepSmallRefIdeal.τ).loc Cert.StepSmallRefIdeal.main_arg43) = m' ((c.tc : Thread Cert.StepSmallRefIdeal.nD Cert.StepSmallRefIdeal.τ).loc Cert.StepSmallRefIdeal.main_arg43)
          ∧ r.2.mem ((c.tc : Thread Cert.StepSmallRefIdeal.nD Cert.StepSmallRefIdeal.τ).loc Cert.StepSmallRefIdeal.main_arg44) = m' ((c.tc : Thread Cert.StepSmallRefIdeal.nD Cert.StepSmallRefIdeal.τ).loc Cert.StepSmallRefIdeal.main_arg44)
          ∧ r.2.mem ((c.tc : Thread Cert.StepSmallRefIdeal.nD Cert.StepSmallRefIdeal.τ).loc Cert.StepSmallRefIdeal.main_arg45) = m' ((c.tc : Thread Cert.StepSmallRefIdeal.nD Cert.StepSmallRefIdeal.τ).loc Cert.StepSmallRefIdeal.main_arg45)
          ∧ r.2.mem ((c.tc : Thread Cert.StepSmallRefIdeal.nD Cert.StepSmallRefIdeal.τ).loc Cert.StepSmallRefIdeal.main_arg46) = m' ((c.tc : Thread Cert.StepSmallRefIdeal.nD Cert.StepSmallRefIdeal.τ).loc Cert.StepSmallRefIdeal.main_arg46)
          ∧ r.2.mem ((c.tc : Thread Cert.StepSmallRefIdeal.nD Cert.StepSmallRefIdeal.τ).loc Cert.StepSmallRefIdeal.main_arg47) = m' ((c.tc : Thread Cert.StepSmallRefIdeal.nD Cert.StepSmallRefIdeal.τ).loc Cert.StepSmallRefIdeal.main_arg47))

def preserves_Norm1Bwd_Norm1BwdIdeal : Prop :=
  True

def algebraic_Norm1BwdIdeal_Norm1BwdRefIdeal [hNorm1BwdIdeal : Cert.Norm1BwdIdeal.Facts] [hNorm1BwdRefIdeal : Cert.Norm1BwdRefIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg)
    (m' : (ℓ : Loc Cert.Norm1BwdRefIdeal.nD Cert.Norm1BwdRefIdeal.τ Cert.Norm1BwdRefIdeal.sig) → Buf (Elt Ideal) ℓ) (g' : Dev Cert.Norm1BwdRefIdeal.nD → PrngReg), Pre_Norm1BwdIdeal m →
    (∀ c : Dev Cert.Norm1BwdIdeal.nD,
      m' ((c.tc : Thread Cert.Norm1BwdRefIdeal.nD Cert.Norm1BwdRefIdeal.τ).loc Cert.Norm1BwdRefIdeal.main_arg0) = m ((c.tc : Thread Cert.Norm1BwdIdeal.nD Cert.Norm1BwdIdeal.τ).loc Cert.Norm1BwdIdeal.main_arg0)
      ∧ m' ((c.tc : Thread Cert.Norm1BwdRefIdeal.nD Cert.Norm1BwdRefIdeal.τ).loc Cert.Norm1BwdRefIdeal.main_arg1) = m ((c.tc : Thread Cert.Norm1BwdIdeal.nD Cert.Norm1BwdIdeal.τ).loc Cert.Norm1BwdIdeal.main_arg1)
      ∧ m' ((c.tc : Thread Cert.Norm1BwdRefIdeal.nD Cert.Norm1BwdRefIdeal.τ).loc Cert.Norm1BwdRefIdeal.main_arg2) = m ((c.tc : Thread Cert.Norm1BwdIdeal.nD Cert.Norm1BwdIdeal.τ).loc Cert.Norm1BwdIdeal.main_arg2)
      ∧ m' ((c.tc : Thread Cert.Norm1BwdRefIdeal.nD Cert.Norm1BwdRefIdeal.τ).loc Cert.Norm1BwdRefIdeal.main_arg3) = m ((c.tc : Thread Cert.Norm1BwdIdeal.nD Cert.Norm1BwdIdeal.τ).loc Cert.Norm1BwdIdeal.main_arg3)
      ∧ m' ((c.tc : Thread Cert.Norm1BwdRefIdeal.nD Cert.Norm1BwdRefIdeal.τ).loc Cert.Norm1BwdRefIdeal.main_arg4) = m ((c.tc : Thread Cert.Norm1BwdIdeal.nD Cert.Norm1BwdIdeal.τ).loc Cert.Norm1BwdIdeal.main_arg4)
      ∧ m' ((c.tc : Thread Cert.Norm1BwdRefIdeal.nD Cert.Norm1BwdRefIdeal.τ).loc Cert.Norm1BwdRefIdeal.main_arg5) = m ((c.tc : Thread Cert.Norm1BwdIdeal.nD Cert.Norm1BwdIdeal.τ).loc Cert.Norm1BwdIdeal.main_arg5)) →
    ∃ (v0 : (c : Dev Cert.Norm1BwdIdeal.nD) → Buf (Elt Ideal) ((c.tc : Thread Cert.Norm1BwdIdeal.nD Cert.Norm1BwdIdeal.τ).loc Cert.Norm1BwdIdeal.main_v0_0)) (v1 : (c : Dev Cert.Norm1BwdIdeal.nD) → Buf (Elt Ideal) ((c.tc : Thread Cert.Norm1BwdIdeal.nD Cert.Norm1BwdIdeal.τ).loc Cert.Norm1BwdIdeal.main_v0_1)) (v2 : (c : Dev Cert.Norm1BwdIdeal.nD) → Buf (Elt Ideal) ((c.tc : Thread Cert.Norm1BwdIdeal.nD Cert.Norm1BwdIdeal.τ).loc Cert.Norm1BwdIdeal.main_v0_2)) (v3 : (c : Dev Cert.Norm1BwdIdeal.nD) → Buf (Elt Ideal) ((c.tc : Thread Cert.Norm1BwdIdeal.nD Cert.Norm1BwdIdeal.τ).loc Cert.Norm1BwdIdeal.main_v0_3)),
      θ_run (Cert.Norm1BwdIdeal.defs (F := Ideal)) (onTc (τ := Cert.Norm1BwdIdeal.τ) (Cert.Norm1BwdIdeal.main (F := Ideal))) ⟨m, fun _ => 0, g⟩ (fun r => ∀ c : Dev Cert.Norm1BwdIdeal.nD,
          r.2.mem ((c.tc : Thread Cert.Norm1BwdIdeal.nD Cert.Norm1BwdIdeal.τ).loc Cert.Norm1BwdIdeal.main_v0_0) = v0 c
          ∧ r.2.mem ((c.tc : Thread Cert.Norm1BwdIdeal.nD Cert.Norm1BwdIdeal.τ).loc Cert.Norm1BwdIdeal.main_v0_1) = v1 c
          ∧ r.2.mem ((c.tc : Thread Cert.Norm1BwdIdeal.nD Cert.Norm1BwdIdeal.τ).loc Cert.Norm1BwdIdeal.main_v0_2) = v2 c
          ∧ r.2.mem ((c.tc : Thread Cert.Norm1BwdIdeal.nD Cert.Norm1BwdIdeal.τ).loc Cert.Norm1BwdIdeal.main_v0_3) = v3 c
          ∧ r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
          ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
          ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
          ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
          ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4)
          ∧ r.2.mem ((c.tc : Thread Cert.Norm1BwdIdeal.nD Cert.Norm1BwdIdeal.τ).loc Cert.Norm1BwdIdeal.main_arg5) = m ((c.tc : Thread Cert.Norm1BwdIdeal.nD Cert.Norm1BwdIdeal.τ).loc Cert.Norm1BwdIdeal.main_arg5))
      ∧ θ_run (Cert.Norm1BwdRefIdeal.defs (F := Ideal)) (onTc (τ := Cert.Norm1BwdRefIdeal.τ) (Cert.Norm1BwdRefIdeal.main (F := Ideal))) ⟨m', fun _ => 0, g'⟩ (fun r => ∀ c : Dev Cert.Norm1BwdRefIdeal.nD,
          r.2.mem ((c.tc : Thread Cert.Norm1BwdRefIdeal.nD Cert.Norm1BwdRefIdeal.τ).loc Cert.Norm1BwdRefIdeal.main_v48) = v0 c
          ∧ r.2.mem ((c.tc : Thread Cert.Norm1BwdRefIdeal.nD Cert.Norm1BwdRefIdeal.τ).loc Cert.Norm1BwdRefIdeal.main_v31) = v1 c
          ∧ r.2.mem ((c.tc : Thread Cert.Norm1BwdRefIdeal.nD Cert.Norm1BwdRefIdeal.τ).loc Cert.Norm1BwdRefIdeal.main_v26) = v2 c
          ∧ r.2.mem ((c.tc : Thread Cert.Norm1BwdRefIdeal.nD Cert.Norm1BwdRefIdeal.τ).loc Cert.Norm1BwdRefIdeal.main_v23) = v3 c
          ∧ r.2.mem ((c.tc : Thread Cert.Norm1BwdRefIdeal.nD Cert.Norm1BwdRefIdeal.τ).loc Cert.Norm1BwdRefIdeal.main_arg0) = m' ((c.tc : Thread Cert.Norm1BwdRefIdeal.nD Cert.Norm1BwdRefIdeal.τ).loc Cert.Norm1BwdRefIdeal.main_arg0)
          ∧ r.2.mem ((c.tc : Thread Cert.Norm1BwdRefIdeal.nD Cert.Norm1BwdRefIdeal.τ).loc Cert.Norm1BwdRefIdeal.main_arg1) = m' ((c.tc : Thread Cert.Norm1BwdRefIdeal.nD Cert.Norm1BwdRefIdeal.τ).loc Cert.Norm1BwdRefIdeal.main_arg1)
          ∧ r.2.mem ((c.tc : Thread Cert.Norm1BwdRefIdeal.nD Cert.Norm1BwdRefIdeal.τ).loc Cert.Norm1BwdRefIdeal.main_arg2) = m' ((c.tc : Thread Cert.Norm1BwdRefIdeal.nD Cert.Norm1BwdRefIdeal.τ).loc Cert.Norm1BwdRefIdeal.main_arg2)
          ∧ r.2.mem ((c.tc : Thread Cert.Norm1BwdRefIdeal.nD Cert.Norm1BwdRefIdeal.τ).loc Cert.Norm1BwdRefIdeal.main_arg3) = m' ((c.tc : Thread Cert.Norm1BwdRefIdeal.nD Cert.Norm1BwdRefIdeal.τ).loc Cert.Norm1BwdRefIdeal.main_arg3)
          ∧ r.2.mem ((c.tc : Thread Cert.Norm1BwdRefIdeal.nD Cert.Norm1BwdRefIdeal.τ).loc Cert.Norm1BwdRefIdeal.main_arg4) = m' ((c.tc : Thread Cert.Norm1BwdRefIdeal.nD Cert.Norm1BwdRefIdeal.τ).loc Cert.Norm1BwdRefIdeal.main_arg4)
          ∧ r.2.mem ((c.tc : Thread Cert.Norm1BwdRefIdeal.nD Cert.Norm1BwdRefIdeal.τ).loc Cert.Norm1BwdRefIdeal.main_arg5) = m' ((c.tc : Thread Cert.Norm1BwdRefIdeal.nD Cert.Norm1BwdRefIdeal.τ).loc Cert.Norm1BwdRefIdeal.main_arg5))

def preserves_Norm2Bwd_Norm2BwdIdeal : Prop :=
  True

def algebraic_Norm2BwdIdeal_Norm2BwdRefIdeal [hNorm2BwdIdeal : Cert.Norm2BwdIdeal.Facts] [hNorm2BwdRefIdeal : Cert.Norm2BwdRefIdeal.Facts] : Prop :=
  ∀ (m : (ℓ : Loc Cert.Norm2BwdIdeal.nD Cert.Norm2BwdIdeal.τ Cert.Norm2BwdIdeal.sig) → Buf (Elt Ideal) ℓ) (g : Dev Cert.Norm2BwdIdeal.nD → PrngReg)
    (m' : (ℓ : Loc Cert.Norm2BwdRefIdeal.nD Cert.Norm2BwdRefIdeal.τ Cert.Norm2BwdRefIdeal.sig) → Buf (Elt Ideal) ℓ) (g' : Dev Cert.Norm2BwdRefIdeal.nD → PrngReg), Pre_Norm2BwdIdeal m →
    (∀ c : Dev Cert.Norm2BwdIdeal.nD,
      m' ((c.tc : Thread Cert.Norm2BwdRefIdeal.nD Cert.Norm2BwdRefIdeal.τ).loc Cert.Norm2BwdRefIdeal.main_arg0) = m ((c.tc : Thread Cert.Norm2BwdIdeal.nD Cert.Norm2BwdIdeal.τ).loc Cert.Norm2BwdIdeal.main_arg0)
      ∧ m' ((c.tc : Thread Cert.Norm2BwdRefIdeal.nD Cert.Norm2BwdRefIdeal.τ).loc Cert.Norm2BwdRefIdeal.main_arg1) = m ((c.tc : Thread Cert.Norm2BwdIdeal.nD Cert.Norm2BwdIdeal.τ).loc Cert.Norm2BwdIdeal.main_arg1)
      ∧ m' ((c.tc : Thread Cert.Norm2BwdRefIdeal.nD Cert.Norm2BwdRefIdeal.τ).loc Cert.Norm2BwdRefIdeal.main_arg2) = m ((c.tc : Thread Cert.Norm2BwdIdeal.nD Cert.Norm2BwdIdeal.τ).loc Cert.Norm2BwdIdeal.main_arg2)
      ∧ m' ((c.tc : Thread Cert.Norm2BwdRefIdeal.nD Cert.Norm2BwdRefIdeal.τ).loc Cert.Norm2BwdRefIdeal.main_arg3) = m ((c.tc : Thread Cert.Norm2BwdIdeal.nD Cert.Norm2BwdIdeal.τ).loc Cert.Norm2BwdIdeal.main_arg3)
      ∧ m' ((c.tc : Thread Cert.Norm2BwdRefIdeal.nD Cert.Norm2BwdRefIdeal.τ).loc Cert.Norm2BwdRefIdeal.main_arg4) = m ((c.tc : Thread Cert.Norm2BwdIdeal.nD Cert.Norm2BwdIdeal.τ).loc Cert.Norm2BwdIdeal.main_arg4)
      ∧ m' ((c.tc : Thread Cert.Norm2BwdRefIdeal.nD Cert.Norm2BwdRefIdeal.τ).loc Cert.Norm2BwdRefIdeal.main_arg5) = m ((c.tc : Thread Cert.Norm2BwdIdeal.nD Cert.Norm2BwdIdeal.τ).loc Cert.Norm2BwdIdeal.main_arg5)
      ∧ m' ((c.tc : Thread Cert.Norm2BwdRefIdeal.nD Cert.Norm2BwdRefIdeal.τ).loc Cert.Norm2BwdRefIdeal.main_arg6) = m ((c.tc : Thread Cert.Norm2BwdIdeal.nD Cert.Norm2BwdIdeal.τ).loc Cert.Norm2BwdIdeal.main_arg6)
      ∧ m' ((c.tc : Thread Cert.Norm2BwdRefIdeal.nD Cert.Norm2BwdRefIdeal.τ).loc Cert.Norm2BwdRefIdeal.main_arg7) = m ((c.tc : Thread Cert.Norm2BwdIdeal.nD Cert.Norm2BwdIdeal.τ).loc Cert.Norm2BwdIdeal.main_arg7)) →
    ∃ (v0 : (c : Dev Cert.Norm2BwdIdeal.nD) → Buf (Elt Ideal) ((c.tc : Thread Cert.Norm2BwdIdeal.nD Cert.Norm2BwdIdeal.τ).loc Cert.Norm2BwdIdeal.main_v0_0)) (v1 : (c : Dev Cert.Norm2BwdIdeal.nD) → Buf (Elt Ideal) ((c.tc : Thread Cert.Norm2BwdIdeal.nD Cert.Norm2BwdIdeal.τ).loc Cert.Norm2BwdIdeal.main_v0_1)) (v2 : (c : Dev Cert.Norm2BwdIdeal.nD) → Buf (Elt Ideal) ((c.tc : Thread Cert.Norm2BwdIdeal.nD Cert.Norm2BwdIdeal.τ).loc Cert.Norm2BwdIdeal.main_v0_2)) (v3 : (c : Dev Cert.Norm2BwdIdeal.nD) → Buf (Elt Ideal) ((c.tc : Thread Cert.Norm2BwdIdeal.nD Cert.Norm2BwdIdeal.τ).loc Cert.Norm2BwdIdeal.main_v0_3)) (v4 : (c : Dev Cert.Norm2BwdIdeal.nD) → Buf (Elt Ideal) ((c.tc : Thread Cert.Norm2BwdIdeal.nD Cert.Norm2BwdIdeal.τ).loc Cert.Norm2BwdIdeal.main_v0_4)) (v5 : (c : Dev Cert.Norm2BwdIdeal.nD) → Buf (Elt Ideal) ((c.tc : Thread Cert.Norm2BwdIdeal.nD Cert.Norm2BwdIdeal.τ).loc Cert.Norm2BwdIdeal.main_v0_5)),
      θ_run (Cert.Norm2BwdIdeal.defs (F := Ideal)) (onTc (τ := Cert.Norm2BwdIdeal.τ) (Cert.Norm2BwdIdeal.main (F := Ideal))) ⟨m, fun _ => 0, g⟩ (fun r => ∀ c : Dev Cert.Norm2BwdIdeal.nD,
          r.2.mem ((c.tc : Thread Cert.Norm2BwdIdeal.nD Cert.Norm2BwdIdeal.τ).loc Cert.Norm2BwdIdeal.main_v0_0) = v0 c
          ∧ r.2.mem ((c.tc : Thread Cert.Norm2BwdIdeal.nD Cert.Norm2BwdIdeal.τ).loc Cert.Norm2BwdIdeal.main_v0_1) = v1 c
          ∧ r.2.mem ((c.tc : Thread Cert.Norm2BwdIdeal.nD Cert.Norm2BwdIdeal.τ).loc Cert.Norm2BwdIdeal.main_v0_2) = v2 c
          ∧ r.2.mem ((c.tc : Thread Cert.Norm2BwdIdeal.nD Cert.Norm2BwdIdeal.τ).loc Cert.Norm2BwdIdeal.main_v0_3) = v3 c
          ∧ r.2.mem ((c.tc : Thread Cert.Norm2BwdIdeal.nD Cert.Norm2BwdIdeal.τ).loc Cert.Norm2BwdIdeal.main_v0_4) = v4 c
          ∧ r.2.mem ((c.tc : Thread Cert.Norm2BwdIdeal.nD Cert.Norm2BwdIdeal.τ).loc Cert.Norm2BwdIdeal.main_v0_5) = v5 c
          ∧ r.2.mem ((c.tc : Thread Cert.Norm2BwdIdeal.nD Cert.Norm2BwdIdeal.τ).loc Cert.Norm2BwdIdeal.main_arg0) = m ((c.tc : Thread Cert.Norm2BwdIdeal.nD Cert.Norm2BwdIdeal.τ).loc Cert.Norm2BwdIdeal.main_arg0)
          ∧ r.2.mem ((c.tc : Thread Cert.Norm2BwdIdeal.nD Cert.Norm2BwdIdeal.τ).loc Cert.Norm2BwdIdeal.main_arg1) = m ((c.tc : Thread Cert.Norm2BwdIdeal.nD Cert.Norm2BwdIdeal.τ).loc Cert.Norm2BwdIdeal.main_arg1)
          ∧ r.2.mem ((c.tc : Thread Cert.Norm2BwdIdeal.nD Cert.Norm2BwdIdeal.τ).loc Cert.Norm2BwdIdeal.main_arg2) = m ((c.tc : Thread Cert.Norm2BwdIdeal.nD Cert.Norm2BwdIdeal.τ).loc Cert.Norm2BwdIdeal.main_arg2)
          ∧ r.2.mem ((c.tc : Thread Cert.Norm2BwdIdeal.nD Cert.Norm2BwdIdeal.τ).loc Cert.Norm2BwdIdeal.main_arg3) = m ((c.tc : Thread Cert.Norm2BwdIdeal.nD Cert.Norm2BwdIdeal.τ).loc Cert.Norm2BwdIdeal.main_arg3)
          ∧ r.2.mem ((c.tc : Thread Cert.Norm2BwdIdeal.nD Cert.Norm2BwdIdeal.τ).loc Cert.Norm2BwdIdeal.main_arg4) = m ((c.tc : Thread Cert.Norm2BwdIdeal.nD Cert.Norm2BwdIdeal.τ).loc Cert.Norm2BwdIdeal.main_arg4)
          ∧ r.2.mem ((c.tc : Thread Cert.Norm2BwdIdeal.nD Cert.Norm2BwdIdeal.τ).loc Cert.Norm2BwdIdeal.main_arg5) = m ((c.tc : Thread Cert.Norm2BwdIdeal.nD Cert.Norm2BwdIdeal.τ).loc Cert.Norm2BwdIdeal.main_arg5)
          ∧ r.2.mem ((c.tc : Thread Cert.Norm2BwdIdeal.nD Cert.Norm2BwdIdeal.τ).loc Cert.Norm2BwdIdeal.main_arg6) = m ((c.tc : Thread Cert.Norm2BwdIdeal.nD Cert.Norm2BwdIdeal.τ).loc Cert.Norm2BwdIdeal.main_arg6)
          ∧ r.2.mem ((c.tc : Thread Cert.Norm2BwdIdeal.nD Cert.Norm2BwdIdeal.τ).loc Cert.Norm2BwdIdeal.main_arg7) = m ((c.tc : Thread Cert.Norm2BwdIdeal.nD Cert.Norm2BwdIdeal.τ).loc Cert.Norm2BwdIdeal.main_arg7))
      ∧ θ_run (Cert.Norm2BwdRefIdeal.defs (F := Ideal)) (onTc (τ := Cert.Norm2BwdRefIdeal.τ) (Cert.Norm2BwdRefIdeal.main (F := Ideal))) ⟨m', fun _ => 0, g'⟩ (fun r => ∀ c : Dev Cert.Norm2BwdRefIdeal.nD,
          r.2.mem ((c.tc : Thread Cert.Norm2BwdRefIdeal.nD Cert.Norm2BwdRefIdeal.τ).loc Cert.Norm2BwdRefIdeal.main_v51) = v0 c
          ∧ r.2.mem ((c.tc : Thread Cert.Norm2BwdRefIdeal.nD Cert.Norm2BwdRefIdeal.τ).loc Cert.Norm2BwdRefIdeal.main_v58) = v1 c
          ∧ r.2.mem ((c.tc : Thread Cert.Norm2BwdRefIdeal.nD Cert.Norm2BwdRefIdeal.τ).loc Cert.Norm2BwdRefIdeal.main_v57) = v2 c
          ∧ r.2.mem ((c.tc : Thread Cert.Norm2BwdRefIdeal.nD Cert.Norm2BwdRefIdeal.τ).loc Cert.Norm2BwdRefIdeal.main_v34) = v3 c
          ∧ r.2.mem ((c.tc : Thread Cert.Norm2BwdRefIdeal.nD Cert.Norm2BwdRefIdeal.τ).loc Cert.Norm2BwdRefIdeal.main_v29) = v4 c
          ∧ r.2.mem ((c.tc : Thread Cert.Norm2BwdRefIdeal.nD Cert.Norm2BwdRefIdeal.τ).loc Cert.Norm2BwdRefIdeal.main_v26) = v5 c
          ∧ r.2.mem ((c.tc : Thread Cert.Norm2BwdRefIdeal.nD Cert.Norm2BwdRefIdeal.τ).loc Cert.Norm2BwdRefIdeal.main_arg0) = m' ((c.tc : Thread Cert.Norm2BwdRefIdeal.nD Cert.Norm2BwdRefIdeal.τ).loc Cert.Norm2BwdRefIdeal.main_arg0)
          ∧ r.2.mem ((c.tc : Thread Cert.Norm2BwdRefIdeal.nD Cert.Norm2BwdRefIdeal.τ).loc Cert.Norm2BwdRefIdeal.main_arg1) = m' ((c.tc : Thread Cert.Norm2BwdRefIdeal.nD Cert.Norm2BwdRefIdeal.τ).loc Cert.Norm2BwdRefIdeal.main_arg1)
          ∧ r.2.mem ((c.tc : Thread Cert.Norm2BwdRefIdeal.nD Cert.Norm2BwdRefIdeal.τ).loc Cert.Norm2BwdRefIdeal.main_arg2) = m' ((c.tc : Thread Cert.Norm2BwdRefIdeal.nD Cert.Norm2BwdRefIdeal.τ).loc Cert.Norm2BwdRefIdeal.main_arg2)
          ∧ r.2.mem ((c.tc : Thread Cert.Norm2BwdRefIdeal.nD Cert.Norm2BwdRefIdeal.τ).loc Cert.Norm2BwdRefIdeal.main_arg3) = m' ((c.tc : Thread Cert.Norm2BwdRefIdeal.nD Cert.Norm2BwdRefIdeal.τ).loc Cert.Norm2BwdRefIdeal.main_arg3)
          ∧ r.2.mem ((c.tc : Thread Cert.Norm2BwdRefIdeal.nD Cert.Norm2BwdRefIdeal.τ).loc Cert.Norm2BwdRefIdeal.main_arg4) = m' ((c.tc : Thread Cert.Norm2BwdRefIdeal.nD Cert.Norm2BwdRefIdeal.τ).loc Cert.Norm2BwdRefIdeal.main_arg4)
          ∧ r.2.mem ((c.tc : Thread Cert.Norm2BwdRefIdeal.nD Cert.Norm2BwdRefIdeal.τ).loc Cert.Norm2BwdRefIdeal.main_arg5) = m' ((c.tc : Thread Cert.Norm2BwdRefIdeal.nD Cert.Norm2BwdRefIdeal.τ).loc Cert.Norm2BwdRefIdeal.main_arg5)
          ∧ r.2.mem ((c.tc : Thread Cert.Norm2BwdRefIdeal.nD Cert.Norm2BwdRefIdeal.τ).loc Cert.Norm2BwdRefIdeal.main_arg6) = m' ((c.tc : Thread Cert.Norm2BwdRefIdeal.nD Cert.Norm2BwdRefIdeal.τ).loc Cert.Norm2BwdRefIdeal.main_arg6)
          ∧ r.2.mem ((c.tc : Thread Cert.Norm2BwdRefIdeal.nD Cert.Norm2BwdRefIdeal.τ).loc Cert.Norm2BwdRefIdeal.main_arg7) = m' ((c.tc : Thread Cert.Norm2BwdRefIdeal.nD Cert.Norm2BwdRefIdeal.τ).loc Cert.Norm2BwdRefIdeal.main_arg7))

def preserves_LossBwd_LossBwdIdeal : Prop :=
  True

def algebraic_LossBwdIdeal_LossBwdRefIdeal [hLossBwdIdeal : Cert.LossBwdIdeal.Facts] [hLossBwdRefIdeal : Cert.LossBwdRefIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossBwdRefIdeal.nD Cert.LossBwdRefIdeal.τ Cert.LossBwdRefIdeal.sig) → Buf (Elt Ideal) ℓ) (g' : Dev Cert.LossBwdRefIdeal.nD → PrngReg), Pre_LossBwdIdeal m →
    (∀ c : Dev Cert.LossBwdIdeal.nD,
      m' ((c.tc : Thread Cert.LossBwdRefIdeal.nD Cert.LossBwdRefIdeal.τ).loc Cert.LossBwdRefIdeal.main_arg0) = m ((c.tc : Thread Cert.LossBwdIdeal.nD Cert.LossBwdIdeal.τ).loc Cert.LossBwdIdeal.main_arg0)
      ∧ m' ((c.tc : Thread Cert.LossBwdRefIdeal.nD Cert.LossBwdRefIdeal.τ).loc Cert.LossBwdRefIdeal.main_arg1) = m ((c.tc : Thread Cert.LossBwdIdeal.nD Cert.LossBwdIdeal.τ).loc Cert.LossBwdIdeal.main_arg1)
      ∧ m' ((c.tc : Thread Cert.LossBwdRefIdeal.nD Cert.LossBwdRefIdeal.τ).loc Cert.LossBwdRefIdeal.main_arg2) = m ((c.tc : Thread Cert.LossBwdIdeal.nD Cert.LossBwdIdeal.τ).loc Cert.LossBwdIdeal.main_arg2)
      ∧ m' ((c.tc : Thread Cert.LossBwdRefIdeal.nD Cert.LossBwdRefIdeal.τ).loc Cert.LossBwdRefIdeal.main_arg3) = m ((c.tc : Thread Cert.LossBwdIdeal.nD Cert.LossBwdIdeal.τ).loc Cert.LossBwdIdeal.main_arg3)
      ∧ m' ((c.tc : Thread Cert.LossBwdRefIdeal.nD Cert.LossBwdRefIdeal.τ).loc Cert.LossBwdRefIdeal.main_arg4) = m ((c.tc : Thread Cert.LossBwdIdeal.nD Cert.LossBwdIdeal.τ).loc Cert.LossBwdIdeal.main_arg4)) →
    ∃ (v0 : (c : Dev Cert.LossBwdIdeal.nD) → Buf (Elt Ideal) ((c.tc : Thread Cert.LossBwdIdeal.nD Cert.LossBwdIdeal.τ).loc Cert.LossBwdIdeal.main_v0_0)) (v1 : (c : Dev Cert.LossBwdIdeal.nD) → Buf (Elt Ideal) ((c.tc : Thread Cert.LossBwdIdeal.nD Cert.LossBwdIdeal.τ).loc Cert.LossBwdIdeal.main_v0_1)) (v2 : (c : Dev Cert.LossBwdIdeal.nD) → Buf (Elt Ideal) ((c.tc : Thread Cert.LossBwdIdeal.nD Cert.LossBwdIdeal.τ).loc Cert.LossBwdIdeal.main_v0_2)) (v3 : (c : Dev Cert.LossBwdIdeal.nD) → Buf (Elt Ideal) ((c.tc : Thread Cert.LossBwdIdeal.nD Cert.LossBwdIdeal.τ).loc Cert.LossBwdIdeal.main_v0_3)) (v4 : (c : Dev Cert.LossBwdIdeal.nD) → Buf (Elt Ideal) ((c.tc : Thread Cert.LossBwdIdeal.nD Cert.LossBwdIdeal.τ).loc Cert.LossBwdIdeal.main_v0_4)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v0_0) = v0 c
          ∧ r.2.mem ((c.tc : Thread Cert.LossBwdIdeal.nD Cert.LossBwdIdeal.τ).loc Cert.LossBwdIdeal.main_v0_1) = v1 c
          ∧ r.2.mem ((c.tc : Thread Cert.LossBwdIdeal.nD Cert.LossBwdIdeal.τ).loc Cert.LossBwdIdeal.main_v0_2) = v2 c
          ∧ r.2.mem ((c.tc : Thread Cert.LossBwdIdeal.nD Cert.LossBwdIdeal.τ).loc Cert.LossBwdIdeal.main_v0_3) = v3 c
          ∧ r.2.mem ((c.tc : Thread Cert.LossBwdIdeal.nD Cert.LossBwdIdeal.τ).loc Cert.LossBwdIdeal.main_v0_4) = v4 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
          ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
          ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4))
      ∧ θ_run (Cert.LossBwdRefIdeal.defs (F := Ideal)) (onTc (τ := Cert.LossBwdRefIdeal.τ) (Cert.LossBwdRefIdeal.main (F := Ideal))) ⟨m', fun _ => 0, g'⟩ (fun r => ∀ c : Dev Cert.LossBwdRefIdeal.nD,
          r.2.mem ((c.tc : Thread Cert.LossBwdRefIdeal.nD Cert.LossBwdRefIdeal.τ).loc Cert.LossBwdRefIdeal.main_v51) = v0 c
          ∧ r.2.mem ((c.tc : Thread Cert.LossBwdRefIdeal.nD Cert.LossBwdRefIdeal.τ).loc Cert.LossBwdRefIdeal.main_v57) = v1 c
          ∧ r.2.mem ((c.tc : Thread Cert.LossBwdRefIdeal.nD Cert.LossBwdRefIdeal.τ).loc Cert.LossBwdRefIdeal.main_v56) = v2 c
          ∧ r.2.mem ((c.tc : Thread Cert.LossBwdRefIdeal.nD Cert.LossBwdRefIdeal.τ).loc Cert.LossBwdRefIdeal.main_v35) = v3 c
          ∧ r.2.mem ((c.tc : Thread Cert.LossBwdRefIdeal.nD Cert.LossBwdRefIdeal.τ).loc Cert.LossBwdRefIdeal.main_v58) = v4 c
          ∧ r.2.mem ((c.tc : Thread Cert.LossBwdRefIdeal.nD Cert.LossBwdRefIdeal.τ).loc Cert.LossBwdRefIdeal.main_arg0) = m' ((c.tc : Thread Cert.LossBwdRefIdeal.nD Cert.LossBwdRefIdeal.τ).loc Cert.LossBwdRefIdeal.main_arg0)
          ∧ r.2.mem ((c.tc : Thread Cert.LossBwdRefIdeal.nD Cert.LossBwdRefIdeal.τ).loc Cert.LossBwdRefIdeal.main_arg1) = m' ((c.tc : Thread Cert.LossBwdRefIdeal.nD Cert.LossBwdRefIdeal.τ).loc Cert.LossBwdRefIdeal.main_arg1)
          ∧ r.2.mem ((c.tc : Thread Cert.LossBwdRefIdeal.nD Cert.LossBwdRefIdeal.τ).loc Cert.LossBwdRefIdeal.main_arg2) = m' ((c.tc : Thread Cert.LossBwdRefIdeal.nD Cert.LossBwdRefIdeal.τ).loc Cert.LossBwdRefIdeal.main_arg2)
          ∧ r.2.mem ((c.tc : Thread Cert.LossBwdRefIdeal.nD Cert.LossBwdRefIdeal.τ).loc Cert.LossBwdRefIdeal.main_arg3) = m' ((c.tc : Thread Cert.LossBwdRefIdeal.nD Cert.LossBwdRefIdeal.τ).loc Cert.LossBwdRefIdeal.main_arg3)
          ∧ r.2.mem ((c.tc : Thread Cert.LossBwdRefIdeal.nD Cert.LossBwdRefIdeal.τ).loc Cert.LossBwdRefIdeal.main_arg4) = m' ((c.tc : Thread Cert.LossBwdRefIdeal.nD Cert.LossBwdRefIdeal.τ).loc Cert.LossBwdRefIdeal.main_arg4))

def preserves_CfLnBwd_CfLnBwdIdeal : Prop :=
  True

def algebraic_CfLnBwdIdeal_CfLnBwdRefIdeal [hCfLnBwdIdeal : Cert.CfLnBwdIdeal.Facts] [hCfLnBwdRefIdeal : Cert.CfLnBwdRefIdeal.Facts] : Prop :=
  ∀ (m : (ℓ : Loc Cert.CfLnBwdIdeal.nD Cert.CfLnBwdIdeal.τ Cert.CfLnBwdIdeal.sig) → Buf (Elt Ideal) ℓ) (g : Dev Cert.CfLnBwdIdeal.nD → PrngReg)
    (m' : (ℓ : Loc Cert.CfLnBwdRefIdeal.nD Cert.CfLnBwdRefIdeal.τ Cert.CfLnBwdRefIdeal.sig) → Buf (Elt Ideal) ℓ) (g' : Dev Cert.CfLnBwdRefIdeal.nD → PrngReg), Pre_CfLnBwdIdeal m →
    (∀ c : Dev Cert.CfLnBwdIdeal.nD,
      m' ((c.tc : Thread Cert.CfLnBwdRefIdeal.nD Cert.CfLnBwdRefIdeal.τ).loc Cert.CfLnBwdRefIdeal.main_arg0) = m ((c.tc : Thread Cert.CfLnBwdIdeal.nD Cert.CfLnBwdIdeal.τ).loc Cert.CfLnBwdIdeal.main_arg0)
      ∧ m' ((c.tc : Thread Cert.CfLnBwdRefIdeal.nD Cert.CfLnBwdRefIdeal.τ).loc Cert.CfLnBwdRefIdeal.main_arg1) = m ((c.tc : Thread Cert.CfLnBwdIdeal.nD Cert.CfLnBwdIdeal.τ).loc Cert.CfLnBwdIdeal.main_arg1)
      ∧ m' ((c.tc : Thread Cert.CfLnBwdRefIdeal.nD Cert.CfLnBwdRefIdeal.τ).loc Cert.CfLnBwdRefIdeal.main_arg2) = m ((c.tc : Thread Cert.CfLnBwdIdeal.nD Cert.CfLnBwdIdeal.τ).loc Cert.CfLnBwdIdeal.main_arg2)
      ∧ m' ((c.tc : Thread Cert.CfLnBwdRefIdeal.nD Cert.CfLnBwdRefIdeal.τ).loc Cert.CfLnBwdRefIdeal.main_arg3) = m ((c.tc : Thread Cert.CfLnBwdIdeal.nD Cert.CfLnBwdIdeal.τ).loc Cert.CfLnBwdIdeal.main_arg3)) →
    ∃ (v0 : (c : Dev Cert.CfLnBwdIdeal.nD) → Buf (Elt Ideal) ((c.tc : Thread Cert.CfLnBwdIdeal.nD Cert.CfLnBwdIdeal.τ).loc Cert.CfLnBwdIdeal.main_v0_0)) (v1 : (c : Dev Cert.CfLnBwdIdeal.nD) → Buf (Elt Ideal) ((c.tc : Thread Cert.CfLnBwdIdeal.nD Cert.CfLnBwdIdeal.τ).loc Cert.CfLnBwdIdeal.main_v0_1)) (v2 : (c : Dev Cert.CfLnBwdIdeal.nD) → Buf (Elt Ideal) ((c.tc : Thread Cert.CfLnBwdIdeal.nD Cert.CfLnBwdIdeal.τ).loc Cert.CfLnBwdIdeal.main_v0_2)),
      θ_run (Cert.CfLnBwdIdeal.defs (F := Ideal)) (onTc (τ := Cert.CfLnBwdIdeal.τ) (Cert.CfLnBwdIdeal.main (F := Ideal))) ⟨m, fun _ => 0, g⟩ (fun r => ∀ c : Dev Cert.CfLnBwdIdeal.nD,
          r.2.mem ((c.tc : Thread Cert.CfLnBwdIdeal.nD Cert.CfLnBwdIdeal.τ).loc Cert.CfLnBwdIdeal.main_v0_0) = v0 c
          ∧ r.2.mem ((c.tc : Thread Cert.CfLnBwdIdeal.nD Cert.CfLnBwdIdeal.τ).loc Cert.CfLnBwdIdeal.main_v0_1) = v1 c
          ∧ r.2.mem ((c.tc : Thread Cert.CfLnBwdIdeal.nD Cert.CfLnBwdIdeal.τ).loc Cert.CfLnBwdIdeal.main_v0_2) = v2 c
          ∧ r.2.mem ((c.tc : Thread Cert.CfLnBwdIdeal.nD Cert.CfLnBwdIdeal.τ).loc Cert.CfLnBwdIdeal.main_arg0) = m ((c.tc : Thread Cert.CfLnBwdIdeal.nD Cert.CfLnBwdIdeal.τ).loc Cert.CfLnBwdIdeal.main_arg0)
          ∧ r.2.mem ((c.tc : Thread Cert.CfLnBwdIdeal.nD Cert.CfLnBwdIdeal.τ).loc Cert.CfLnBwdIdeal.main_arg1) = m ((c.tc : Thread Cert.CfLnBwdIdeal.nD Cert.CfLnBwdIdeal.τ).loc Cert.CfLnBwdIdeal.main_arg1)
          ∧ r.2.mem ((c.tc : Thread Cert.CfLnBwdIdeal.nD Cert.CfLnBwdIdeal.τ).loc Cert.CfLnBwdIdeal.main_arg2) = m ((c.tc : Thread Cert.CfLnBwdIdeal.nD Cert.CfLnBwdIdeal.τ).loc Cert.CfLnBwdIdeal.main_arg2)
          ∧ r.2.mem ((c.tc : Thread Cert.CfLnBwdIdeal.nD Cert.CfLnBwdIdeal.τ).loc Cert.CfLnBwdIdeal.main_arg3) = m ((c.tc : Thread Cert.CfLnBwdIdeal.nD Cert.CfLnBwdIdeal.τ).loc Cert.CfLnBwdIdeal.main_arg3))
      ∧ θ_run (Cert.CfLnBwdRefIdeal.defs (F := Ideal)) (onTc (τ := Cert.CfLnBwdRefIdeal.τ) (Cert.CfLnBwdRefIdeal.main (F := Ideal))) ⟨m', fun _ => 0, g'⟩ (fun r => ∀ c : Dev Cert.CfLnBwdRefIdeal.nD,
          r.2.mem ((c.tc : Thread Cert.CfLnBwdRefIdeal.nD Cert.CfLnBwdRefIdeal.τ).loc Cert.CfLnBwdRefIdeal.main_v53) = v0 c
          ∧ r.2.mem ((c.tc : Thread Cert.CfLnBwdRefIdeal.nD Cert.CfLnBwdRefIdeal.τ).loc Cert.CfLnBwdRefIdeal.main_v29) = v1 c
          ∧ r.2.mem ((c.tc : Thread Cert.CfLnBwdRefIdeal.nD Cert.CfLnBwdRefIdeal.τ).loc Cert.CfLnBwdRefIdeal.main_v26) = v2 c
          ∧ r.2.mem ((c.tc : Thread Cert.CfLnBwdRefIdeal.nD Cert.CfLnBwdRefIdeal.τ).loc Cert.CfLnBwdRefIdeal.main_arg0) = m' ((c.tc : Thread Cert.CfLnBwdRefIdeal.nD Cert.CfLnBwdRefIdeal.τ).loc Cert.CfLnBwdRefIdeal.main_arg0)
          ∧ r.2.mem ((c.tc : Thread Cert.CfLnBwdRefIdeal.nD Cert.CfLnBwdRefIdeal.τ).loc Cert.CfLnBwdRefIdeal.main_arg1) = m' ((c.tc : Thread Cert.CfLnBwdRefIdeal.nD Cert.CfLnBwdRefIdeal.τ).loc Cert.CfLnBwdRefIdeal.main_arg1)
          ∧ r.2.mem ((c.tc : Thread Cert.CfLnBwdRefIdeal.nD Cert.CfLnBwdRefIdeal.τ).loc Cert.CfLnBwdRefIdeal.main_arg2) = m' ((c.tc : Thread Cert.CfLnBwdRefIdeal.nD Cert.CfLnBwdRefIdeal.τ).loc Cert.CfLnBwdRefIdeal.main_arg2)
          ∧ r.2.mem ((c.tc : Thread Cert.CfLnBwdRefIdeal.nD Cert.CfLnBwdRefIdeal.τ).loc Cert.CfLnBwdRefIdeal.main_arg3) = m' ((c.tc : Thread Cert.CfLnBwdRefIdeal.nD Cert.CfLnBwdRefIdeal.τ).loc Cert.CfLnBwdRefIdeal.main_arg3))

def preserves_AdaDw_AdaDwIdeal : Prop :=
  True

def algebraic_AdaDwIdeal_AdaDwRefIdeal [hAdaDwIdeal : Cert.AdaDwIdeal.Facts] [hAdaDwRefIdeal : Cert.AdaDwRefIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg)
    (m' : (ℓ : Loc Cert.AdaDwRefIdeal.nD Cert.AdaDwRefIdeal.τ Cert.AdaDwRefIdeal.sig) → Buf (Elt Ideal) ℓ) (g' : Dev Cert.AdaDwRefIdeal.nD → PrngReg), Pre_AdaDwIdeal m →
    (∀ c : Dev Cert.AdaDwIdeal.nD,
      m' ((c.tc : Thread Cert.AdaDwRefIdeal.nD Cert.AdaDwRefIdeal.τ).loc Cert.AdaDwRefIdeal.main_arg0) = m ((c.tc : Thread Cert.AdaDwIdeal.nD Cert.AdaDwIdeal.τ).loc Cert.AdaDwIdeal.main_arg0)
      ∧ m' ((c.tc : Thread Cert.AdaDwRefIdeal.nD Cert.AdaDwRefIdeal.τ).loc Cert.AdaDwRefIdeal.main_arg1) = m ((c.tc : Thread Cert.AdaDwIdeal.nD Cert.AdaDwIdeal.τ).loc Cert.AdaDwIdeal.main_arg1)) →
    ∃ (v0 : (c : Dev Cert.AdaDwIdeal.nD) → Buf (Elt Ideal) ((c.tc : Thread Cert.AdaDwIdeal.nD Cert.AdaDwIdeal.τ).loc Cert.AdaDwIdeal.main_v0)),
      θ_run (Cert.AdaDwIdeal.defs (F := Ideal)) (onTc (τ := Cert.AdaDwIdeal.τ) (Cert.AdaDwIdeal.main (F := Ideal))) ⟨m, fun _ => 0, g⟩ (fun r => ∀ c : Dev Cert.AdaDwIdeal.nD,
          r.2.mem ((c.tc : Thread Cert.AdaDwIdeal.nD Cert.AdaDwIdeal.τ).loc Cert.AdaDwIdeal.main_v0) = v0 c
          ∧ r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
          ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ θ_run (Cert.AdaDwRefIdeal.defs (F := Ideal)) (onTc (τ := Cert.AdaDwRefIdeal.τ) (Cert.AdaDwRefIdeal.main (F := Ideal))) ⟨m', fun _ => 0, g'⟩ (fun r => ∀ c : Dev Cert.AdaDwRefIdeal.nD,
          r.2.mem ((c.tc : Thread Cert.AdaDwRefIdeal.nD Cert.AdaDwRefIdeal.τ).loc Cert.AdaDwRefIdeal.main_v4) = v0 c
          ∧ r.2.mem ((c.tc : Thread Cert.AdaDwRefIdeal.nD Cert.AdaDwRefIdeal.τ).loc Cert.AdaDwRefIdeal.main_arg0) = m' ((c.tc : Thread Cert.AdaDwRefIdeal.nD Cert.AdaDwRefIdeal.τ).loc Cert.AdaDwRefIdeal.main_arg0)
          ∧ r.2.mem ((c.tc : Thread Cert.AdaDwRefIdeal.nD Cert.AdaDwRefIdeal.τ).loc Cert.AdaDwRefIdeal.main_arg1) = m' ((c.tc : Thread Cert.AdaDwRefIdeal.nD Cert.AdaDwRefIdeal.τ).loc Cert.AdaDwRefIdeal.main_arg1))

def preserves_SmallSum_SmallSumIdeal : Prop :=
  True

def algebraic_SmallSumIdeal_SmallSumRefIdeal [hSmallSumIdeal : Cert.SmallSumIdeal.Facts] [hSmallSumRefIdeal : Cert.SmallSumRefIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg)
    (m' : (ℓ : Loc Cert.SmallSumRefIdeal.nD Cert.SmallSumRefIdeal.τ Cert.SmallSumRefIdeal.sig) → Buf (Elt Ideal) ℓ) (g' : Dev Cert.SmallSumRefIdeal.nD → PrngReg), Pre_SmallSumIdeal m →
    (∀ c : Dev Cert.SmallSumIdeal.nD,
      m' ((c.tc : Thread Cert.SmallSumRefIdeal.nD Cert.SmallSumRefIdeal.τ).loc Cert.SmallSumRefIdeal.main_arg0) = m ((c.tc : Thread Cert.SmallSumIdeal.nD Cert.SmallSumIdeal.τ).loc Cert.SmallSumIdeal.main_arg0)) →
    ∃ (v0 : (c : Dev Cert.SmallSumIdeal.nD) → Buf (Elt Ideal) ((c.tc : Thread Cert.SmallSumIdeal.nD Cert.SmallSumIdeal.τ).loc Cert.SmallSumIdeal.main_v0)),
      θ_run (Cert.SmallSumIdeal.defs (F := Ideal)) (onTc (τ := Cert.SmallSumIdeal.τ) (Cert.SmallSumIdeal.main (F := Ideal))) ⟨m, fun _ => 0, g⟩ (fun r => ∀ c : Dev Cert.SmallSumIdeal.nD,
          r.2.mem ((c.tc : Thread Cert.SmallSumIdeal.nD Cert.SmallSumIdeal.τ).loc Cert.SmallSumIdeal.main_v0) = v0 c
          ∧ r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ θ_run (Cert.SmallSumRefIdeal.defs (F := Ideal)) (onTc (τ := Cert.SmallSumRefIdeal.τ) (Cert.SmallSumRefIdeal.main (F := Ideal))) ⟨m', fun _ => 0, g'⟩ (fun r => ∀ c : Dev Cert.SmallSumRefIdeal.nD,
          r.2.mem ((c.tc : Thread Cert.SmallSumRefIdeal.nD Cert.SmallSumRefIdeal.τ).loc Cert.SmallSumRefIdeal.main_v0) = v0 c
          ∧ r.2.mem ((c.tc : Thread Cert.SmallSumRefIdeal.nD Cert.SmallSumRefIdeal.τ).loc Cert.SmallSumRefIdeal.main_arg0) = m' ((c.tc : Thread Cert.SmallSumRefIdeal.nD Cert.SmallSumRefIdeal.τ).loc Cert.SmallSumRefIdeal.main_arg0))

def preserves_Norm1Fwd_Norm1FwdIdeal : Prop :=
  True

def algebraic_Norm1FwdIdeal_Norm1FwdRefIdeal [hNorm1FwdIdeal : Cert.Norm1FwdIdeal.Facts] [hNorm1FwdRefIdeal : Cert.Norm1FwdRefIdeal.Facts] : Prop :=
  ∀ (m : (ℓ : Loc Cert.Norm1FwdIdeal.nD Cert.Norm1FwdIdeal.τ Cert.Norm1FwdIdeal.sig) → Buf (Elt Ideal) ℓ) (g : Dev Cert.Norm1FwdIdeal.nD → PrngReg)
    (m' : (ℓ : Loc Cert.Norm1FwdRefIdeal.nD Cert.Norm1FwdRefIdeal.τ Cert.Norm1FwdRefIdeal.sig) → Buf (Elt Ideal) ℓ) (g' : Dev Cert.Norm1FwdRefIdeal.nD → PrngReg), Pre_Norm1FwdIdeal m →
    (∀ c : Dev Cert.Norm1FwdIdeal.nD,
      m' ((c.tc : Thread Cert.Norm1FwdRefIdeal.nD Cert.Norm1FwdRefIdeal.τ).loc Cert.Norm1FwdRefIdeal.main_arg0) = m ((c.tc : Thread Cert.Norm1FwdIdeal.nD Cert.Norm1FwdIdeal.τ).loc Cert.Norm1FwdIdeal.main_arg0)
      ∧ m' ((c.tc : Thread Cert.Norm1FwdRefIdeal.nD Cert.Norm1FwdRefIdeal.τ).loc Cert.Norm1FwdRefIdeal.main_arg1) = m ((c.tc : Thread Cert.Norm1FwdIdeal.nD Cert.Norm1FwdIdeal.τ).loc Cert.Norm1FwdIdeal.main_arg1)
      ∧ m' ((c.tc : Thread Cert.Norm1FwdRefIdeal.nD Cert.Norm1FwdRefIdeal.τ).loc Cert.Norm1FwdRefIdeal.main_arg2) = m ((c.tc : Thread Cert.Norm1FwdIdeal.nD Cert.Norm1FwdIdeal.τ).loc Cert.Norm1FwdIdeal.main_arg2)
      ∧ m' ((c.tc : Thread Cert.Norm1FwdRefIdeal.nD Cert.Norm1FwdRefIdeal.τ).loc Cert.Norm1FwdRefIdeal.main_arg3) = m ((c.tc : Thread Cert.Norm1FwdIdeal.nD Cert.Norm1FwdIdeal.τ).loc Cert.Norm1FwdIdeal.main_arg3)) →
    ∃ (v0 : (c : Dev Cert.Norm1FwdIdeal.nD) → Buf (Elt Ideal) ((c.tc : Thread Cert.Norm1FwdIdeal.nD Cert.Norm1FwdIdeal.τ).loc Cert.Norm1FwdIdeal.main_v0)),
      θ_run (Cert.Norm1FwdIdeal.defs (F := Ideal)) (onTc (τ := Cert.Norm1FwdIdeal.τ) (Cert.Norm1FwdIdeal.main (F := Ideal))) ⟨m, fun _ => 0, g⟩ (fun r => ∀ c : Dev Cert.Norm1FwdIdeal.nD,
          r.2.mem ((c.tc : Thread Cert.Norm1FwdIdeal.nD Cert.Norm1FwdIdeal.τ).loc Cert.Norm1FwdIdeal.main_v0) = v0 c
          ∧ r.2.mem ((c.tc : Thread Cert.Norm1FwdIdeal.nD Cert.Norm1FwdIdeal.τ).loc Cert.Norm1FwdIdeal.main_arg0) = m ((c.tc : Thread Cert.Norm1FwdIdeal.nD Cert.Norm1FwdIdeal.τ).loc Cert.Norm1FwdIdeal.main_arg0)
          ∧ r.2.mem ((c.tc : Thread Cert.Norm1FwdIdeal.nD Cert.Norm1FwdIdeal.τ).loc Cert.Norm1FwdIdeal.main_arg1) = m ((c.tc : Thread Cert.Norm1FwdIdeal.nD Cert.Norm1FwdIdeal.τ).loc Cert.Norm1FwdIdeal.main_arg1)
          ∧ r.2.mem ((c.tc : Thread Cert.Norm1FwdIdeal.nD Cert.Norm1FwdIdeal.τ).loc Cert.Norm1FwdIdeal.main_arg2) = m ((c.tc : Thread Cert.Norm1FwdIdeal.nD Cert.Norm1FwdIdeal.τ).loc Cert.Norm1FwdIdeal.main_arg2)
          ∧ r.2.mem ((c.tc : Thread Cert.Norm1FwdIdeal.nD Cert.Norm1FwdIdeal.τ).loc Cert.Norm1FwdIdeal.main_arg3) = m ((c.tc : Thread Cert.Norm1FwdIdeal.nD Cert.Norm1FwdIdeal.τ).loc Cert.Norm1FwdIdeal.main_arg3))
      ∧ θ_run (Cert.Norm1FwdRefIdeal.defs (F := Ideal)) (onTc (τ := Cert.Norm1FwdRefIdeal.τ) (Cert.Norm1FwdRefIdeal.main (F := Ideal))) ⟨m', fun _ => 0, g'⟩ (fun r => ∀ c : Dev Cert.Norm1FwdRefIdeal.nD,
          r.2.mem ((c.tc : Thread Cert.Norm1FwdRefIdeal.nD Cert.Norm1FwdRefIdeal.τ).loc Cert.Norm1FwdRefIdeal.main_v18) = v0 c
          ∧ r.2.mem ((c.tc : Thread Cert.Norm1FwdRefIdeal.nD Cert.Norm1FwdRefIdeal.τ).loc Cert.Norm1FwdRefIdeal.main_arg0) = m' ((c.tc : Thread Cert.Norm1FwdRefIdeal.nD Cert.Norm1FwdRefIdeal.τ).loc Cert.Norm1FwdRefIdeal.main_arg0)
          ∧ r.2.mem ((c.tc : Thread Cert.Norm1FwdRefIdeal.nD Cert.Norm1FwdRefIdeal.τ).loc Cert.Norm1FwdRefIdeal.main_arg1) = m' ((c.tc : Thread Cert.Norm1FwdRefIdeal.nD Cert.Norm1FwdRefIdeal.τ).loc Cert.Norm1FwdRefIdeal.main_arg1)
          ∧ r.2.mem ((c.tc : Thread Cert.Norm1FwdRefIdeal.nD Cert.Norm1FwdRefIdeal.τ).loc Cert.Norm1FwdRefIdeal.main_arg2) = m' ((c.tc : Thread Cert.Norm1FwdRefIdeal.nD Cert.Norm1FwdRefIdeal.τ).loc Cert.Norm1FwdRefIdeal.main_arg2)
          ∧ r.2.mem ((c.tc : Thread Cert.Norm1FwdRefIdeal.nD Cert.Norm1FwdRefIdeal.τ).loc Cert.Norm1FwdRefIdeal.main_arg3) = m' ((c.tc : Thread Cert.Norm1FwdRefIdeal.nD Cert.Norm1FwdRefIdeal.τ).loc Cert.Norm1FwdRefIdeal.main_arg3))

def preserves_Norm2Fwd_Norm2FwdIdeal : Prop :=
  True

def algebraic_Norm2FwdIdeal_Norm2FwdRefIdeal [hNorm2FwdIdeal : Cert.Norm2FwdIdeal.Facts] [hNorm2FwdRefIdeal : Cert.Norm2FwdRefIdeal.Facts] : Prop :=
  ∀ (m : (ℓ : Loc Cert.Norm2FwdIdeal.nD Cert.Norm2FwdIdeal.τ Cert.Norm2FwdIdeal.sig) → Buf (Elt Ideal) ℓ) (g : Dev Cert.Norm2FwdIdeal.nD → PrngReg)
    (m' : (ℓ : Loc Cert.Norm2FwdRefIdeal.nD Cert.Norm2FwdRefIdeal.τ Cert.Norm2FwdRefIdeal.sig) → Buf (Elt Ideal) ℓ) (g' : Dev Cert.Norm2FwdRefIdeal.nD → PrngReg), Pre_Norm2FwdIdeal m →
    (∀ c : Dev Cert.Norm2FwdIdeal.nD,
      m' ((c.tc : Thread Cert.Norm2FwdRefIdeal.nD Cert.Norm2FwdRefIdeal.τ).loc Cert.Norm2FwdRefIdeal.main_arg0) = m ((c.tc : Thread Cert.Norm2FwdIdeal.nD Cert.Norm2FwdIdeal.τ).loc Cert.Norm2FwdIdeal.main_arg0)
      ∧ m' ((c.tc : Thread Cert.Norm2FwdRefIdeal.nD Cert.Norm2FwdRefIdeal.τ).loc Cert.Norm2FwdRefIdeal.main_arg1) = m ((c.tc : Thread Cert.Norm2FwdIdeal.nD Cert.Norm2FwdIdeal.τ).loc Cert.Norm2FwdIdeal.main_arg1)
      ∧ m' ((c.tc : Thread Cert.Norm2FwdRefIdeal.nD Cert.Norm2FwdRefIdeal.τ).loc Cert.Norm2FwdRefIdeal.main_arg2) = m ((c.tc : Thread Cert.Norm2FwdIdeal.nD Cert.Norm2FwdIdeal.τ).loc Cert.Norm2FwdIdeal.main_arg2)
      ∧ m' ((c.tc : Thread Cert.Norm2FwdRefIdeal.nD Cert.Norm2FwdRefIdeal.τ).loc Cert.Norm2FwdRefIdeal.main_arg3) = m ((c.tc : Thread Cert.Norm2FwdIdeal.nD Cert.Norm2FwdIdeal.τ).loc Cert.Norm2FwdIdeal.main_arg3)
      ∧ m' ((c.tc : Thread Cert.Norm2FwdRefIdeal.nD Cert.Norm2FwdRefIdeal.τ).loc Cert.Norm2FwdRefIdeal.main_arg4) = m ((c.tc : Thread Cert.Norm2FwdIdeal.nD Cert.Norm2FwdIdeal.τ).loc Cert.Norm2FwdIdeal.main_arg4)
      ∧ m' ((c.tc : Thread Cert.Norm2FwdRefIdeal.nD Cert.Norm2FwdRefIdeal.τ).loc Cert.Norm2FwdRefIdeal.main_arg5) = m ((c.tc : Thread Cert.Norm2FwdIdeal.nD Cert.Norm2FwdIdeal.τ).loc Cert.Norm2FwdIdeal.main_arg5)) →
    ∃ (v0 : (c : Dev Cert.Norm2FwdIdeal.nD) → Buf (Elt Ideal) ((c.tc : Thread Cert.Norm2FwdIdeal.nD Cert.Norm2FwdIdeal.τ).loc Cert.Norm2FwdIdeal.main_v0_0)) (v1 : (c : Dev Cert.Norm2FwdIdeal.nD) → Buf (Elt Ideal) ((c.tc : Thread Cert.Norm2FwdIdeal.nD Cert.Norm2FwdIdeal.τ).loc Cert.Norm2FwdIdeal.main_v0_1)),
      θ_run (Cert.Norm2FwdIdeal.defs (F := Ideal)) (onTc (τ := Cert.Norm2FwdIdeal.τ) (Cert.Norm2FwdIdeal.main (F := Ideal))) ⟨m, fun _ => 0, g⟩ (fun r => ∀ c : Dev Cert.Norm2FwdIdeal.nD,
          r.2.mem ((c.tc : Thread Cert.Norm2FwdIdeal.nD Cert.Norm2FwdIdeal.τ).loc Cert.Norm2FwdIdeal.main_v0_0) = v0 c
          ∧ r.2.mem ((c.tc : Thread Cert.Norm2FwdIdeal.nD Cert.Norm2FwdIdeal.τ).loc Cert.Norm2FwdIdeal.main_v0_1) = v1 c
          ∧ r.2.mem ((c.tc : Thread Cert.Norm2FwdIdeal.nD Cert.Norm2FwdIdeal.τ).loc Cert.Norm2FwdIdeal.main_arg0) = m ((c.tc : Thread Cert.Norm2FwdIdeal.nD Cert.Norm2FwdIdeal.τ).loc Cert.Norm2FwdIdeal.main_arg0)
          ∧ r.2.mem ((c.tc : Thread Cert.Norm2FwdIdeal.nD Cert.Norm2FwdIdeal.τ).loc Cert.Norm2FwdIdeal.main_arg1) = m ((c.tc : Thread Cert.Norm2FwdIdeal.nD Cert.Norm2FwdIdeal.τ).loc Cert.Norm2FwdIdeal.main_arg1)
          ∧ r.2.mem ((c.tc : Thread Cert.Norm2FwdIdeal.nD Cert.Norm2FwdIdeal.τ).loc Cert.Norm2FwdIdeal.main_arg2) = m ((c.tc : Thread Cert.Norm2FwdIdeal.nD Cert.Norm2FwdIdeal.τ).loc Cert.Norm2FwdIdeal.main_arg2)
          ∧ r.2.mem ((c.tc : Thread Cert.Norm2FwdIdeal.nD Cert.Norm2FwdIdeal.τ).loc Cert.Norm2FwdIdeal.main_arg3) = m ((c.tc : Thread Cert.Norm2FwdIdeal.nD Cert.Norm2FwdIdeal.τ).loc Cert.Norm2FwdIdeal.main_arg3)
          ∧ r.2.mem ((c.tc : Thread Cert.Norm2FwdIdeal.nD Cert.Norm2FwdIdeal.τ).loc Cert.Norm2FwdIdeal.main_arg4) = m ((c.tc : Thread Cert.Norm2FwdIdeal.nD Cert.Norm2FwdIdeal.τ).loc Cert.Norm2FwdIdeal.main_arg4)
          ∧ r.2.mem ((c.tc : Thread Cert.Norm2FwdIdeal.nD Cert.Norm2FwdIdeal.τ).loc Cert.Norm2FwdIdeal.main_arg5) = m ((c.tc : Thread Cert.Norm2FwdIdeal.nD Cert.Norm2FwdIdeal.τ).loc Cert.Norm2FwdIdeal.main_arg5))
      ∧ θ_run (Cert.Norm2FwdRefIdeal.defs (F := Ideal)) (onTc (τ := Cert.Norm2FwdRefIdeal.τ) (Cert.Norm2FwdRefIdeal.main (F := Ideal))) ⟨m', fun _ => 0, g'⟩ (fun r => ∀ c : Dev Cert.Norm2FwdRefIdeal.nD,
          r.2.mem ((c.tc : Thread Cert.Norm2FwdRefIdeal.nD Cert.Norm2FwdRefIdeal.τ).loc Cert.Norm2FwdRefIdeal.main_v2) = v0 c
          ∧ r.2.mem ((c.tc : Thread Cert.Norm2FwdRefIdeal.nD Cert.Norm2FwdRefIdeal.τ).loc Cert.Norm2FwdRefIdeal.main_v21) = v1 c
          ∧ r.2.mem ((c.tc : Thread Cert.Norm2FwdRefIdeal.nD Cert.Norm2FwdRefIdeal.τ).loc Cert.Norm2FwdRefIdeal.main_arg0) = m' ((c.tc : Thread Cert.Norm2FwdRefIdeal.nD Cert.Norm2FwdRefIdeal.τ).loc Cert.Norm2FwdRefIdeal.main_arg0)
          ∧ r.2.mem ((c.tc : Thread Cert.Norm2FwdRefIdeal.nD Cert.Norm2FwdRefIdeal.τ).loc Cert.Norm2FwdRefIdeal.main_arg1) = m' ((c.tc : Thread Cert.Norm2FwdRefIdeal.nD Cert.Norm2FwdRefIdeal.τ).loc Cert.Norm2FwdRefIdeal.main_arg1)
          ∧ r.2.mem ((c.tc : Thread Cert.Norm2FwdRefIdeal.nD Cert.Norm2FwdRefIdeal.τ).loc Cert.Norm2FwdRefIdeal.main_arg2) = m' ((c.tc : Thread Cert.Norm2FwdRefIdeal.nD Cert.Norm2FwdRefIdeal.τ).loc Cert.Norm2FwdRefIdeal.main_arg2)
          ∧ r.2.mem ((c.tc : Thread Cert.Norm2FwdRefIdeal.nD Cert.Norm2FwdRefIdeal.τ).loc Cert.Norm2FwdRefIdeal.main_arg3) = m' ((c.tc : Thread Cert.Norm2FwdRefIdeal.nD Cert.Norm2FwdRefIdeal.τ).loc Cert.Norm2FwdRefIdeal.main_arg3)
          ∧ r.2.mem ((c.tc : Thread Cert.Norm2FwdRefIdeal.nD Cert.Norm2FwdRefIdeal.τ).loc Cert.Norm2FwdRefIdeal.main_arg4) = m' ((c.tc : Thread Cert.Norm2FwdRefIdeal.nD Cert.Norm2FwdRefIdeal.τ).loc Cert.Norm2FwdRefIdeal.main_arg4)
          ∧ r.2.mem ((c.tc : Thread Cert.Norm2FwdRefIdeal.nD Cert.Norm2FwdRefIdeal.τ).loc Cert.Norm2FwdRefIdeal.main_arg5) = m' ((c.tc : Thread Cert.Norm2FwdRefIdeal.nD Cert.Norm2FwdRefIdeal.τ).loc Cert.Norm2FwdRefIdeal.main_arg5))

def preserves_CfLnFwd_CfLnFwdIdeal : Prop :=
  True

def algebraic_CfLnFwdIdeal_CfLnFwdRefIdeal [hCfLnFwdIdeal : Cert.CfLnFwdIdeal.Facts] [hCfLnFwdRefIdeal : Cert.CfLnFwdRefIdeal.Facts] : Prop :=
  ∀ (m : (ℓ : Loc Cert.CfLnFwdIdeal.nD Cert.CfLnFwdIdeal.τ Cert.CfLnFwdIdeal.sig) → Buf (Elt Ideal) ℓ) (g : Dev Cert.CfLnFwdIdeal.nD → PrngReg)
    (m' : (ℓ : Loc Cert.CfLnFwdRefIdeal.nD Cert.CfLnFwdRefIdeal.τ Cert.CfLnFwdRefIdeal.sig) → Buf (Elt Ideal) ℓ) (g' : Dev Cert.CfLnFwdRefIdeal.nD → PrngReg), Pre_CfLnFwdIdeal m →
    (∀ c : Dev Cert.CfLnFwdIdeal.nD,
      m' ((c.tc : Thread Cert.CfLnFwdRefIdeal.nD Cert.CfLnFwdRefIdeal.τ).loc Cert.CfLnFwdRefIdeal.main_arg0) = m ((c.tc : Thread Cert.CfLnFwdIdeal.nD Cert.CfLnFwdIdeal.τ).loc Cert.CfLnFwdIdeal.main_arg0)
      ∧ m' ((c.tc : Thread Cert.CfLnFwdRefIdeal.nD Cert.CfLnFwdRefIdeal.τ).loc Cert.CfLnFwdRefIdeal.main_arg1) = m ((c.tc : Thread Cert.CfLnFwdIdeal.nD Cert.CfLnFwdIdeal.τ).loc Cert.CfLnFwdIdeal.main_arg1)
      ∧ m' ((c.tc : Thread Cert.CfLnFwdRefIdeal.nD Cert.CfLnFwdRefIdeal.τ).loc Cert.CfLnFwdRefIdeal.main_arg2) = m ((c.tc : Thread Cert.CfLnFwdIdeal.nD Cert.CfLnFwdIdeal.τ).loc Cert.CfLnFwdIdeal.main_arg2)) →
    ∃ (v0 : (c : Dev Cert.CfLnFwdIdeal.nD) → Buf (Elt Ideal) ((c.tc : Thread Cert.CfLnFwdIdeal.nD Cert.CfLnFwdIdeal.τ).loc Cert.CfLnFwdIdeal.main_v0)),
      θ_run (Cert.CfLnFwdIdeal.defs (F := Ideal)) (onTc (τ := Cert.CfLnFwdIdeal.τ) (Cert.CfLnFwdIdeal.main (F := Ideal))) ⟨m, fun _ => 0, g⟩ (fun r => ∀ c : Dev Cert.CfLnFwdIdeal.nD,
          r.2.mem ((c.tc : Thread Cert.CfLnFwdIdeal.nD Cert.CfLnFwdIdeal.τ).loc Cert.CfLnFwdIdeal.main_v0) = v0 c
          ∧ r.2.mem ((c.tc : Thread Cert.CfLnFwdIdeal.nD Cert.CfLnFwdIdeal.τ).loc Cert.CfLnFwdIdeal.main_arg0) = m ((c.tc : Thread Cert.CfLnFwdIdeal.nD Cert.CfLnFwdIdeal.τ).loc Cert.CfLnFwdIdeal.main_arg0)
          ∧ r.2.mem ((c.tc : Thread Cert.CfLnFwdIdeal.nD Cert.CfLnFwdIdeal.τ).loc Cert.CfLnFwdIdeal.main_arg1) = m ((c.tc : Thread Cert.CfLnFwdIdeal.nD Cert.CfLnFwdIdeal.τ).loc Cert.CfLnFwdIdeal.main_arg1)
          ∧ r.2.mem ((c.tc : Thread Cert.CfLnFwdIdeal.nD Cert.CfLnFwdIdeal.τ).loc Cert.CfLnFwdIdeal.main_arg2) = m ((c.tc : Thread Cert.CfLnFwdIdeal.nD Cert.CfLnFwdIdeal.τ).loc Cert.CfLnFwdIdeal.main_arg2))
      ∧ θ_run (Cert.CfLnFwdRefIdeal.defs (F := Ideal)) (onTc (τ := Cert.CfLnFwdRefIdeal.τ) (Cert.CfLnFwdRefIdeal.main (F := Ideal))) ⟨m', fun _ => 0, g'⟩ (fun r => ∀ c : Dev Cert.CfLnFwdRefIdeal.nD,
          r.2.mem ((c.tc : Thread Cert.CfLnFwdRefIdeal.nD Cert.CfLnFwdRefIdeal.τ).loc Cert.CfLnFwdRefIdeal.main_v21) = v0 c
          ∧ r.2.mem ((c.tc : Thread Cert.CfLnFwdRefIdeal.nD Cert.CfLnFwdRefIdeal.τ).loc Cert.CfLnFwdRefIdeal.main_arg0) = m' ((c.tc : Thread Cert.CfLnFwdRefIdeal.nD Cert.CfLnFwdRefIdeal.τ).loc Cert.CfLnFwdRefIdeal.main_arg0)
          ∧ r.2.mem ((c.tc : Thread Cert.CfLnFwdRefIdeal.nD Cert.CfLnFwdRefIdeal.τ).loc Cert.CfLnFwdRefIdeal.main_arg1) = m' ((c.tc : Thread Cert.CfLnFwdRefIdeal.nD Cert.CfLnFwdRefIdeal.τ).loc Cert.CfLnFwdRefIdeal.main_arg1)
          ∧ r.2.mem ((c.tc : Thread Cert.CfLnFwdRefIdeal.nD Cert.CfLnFwdRefIdeal.τ).loc Cert.CfLnFwdRefIdeal.main_arg2) = m' ((c.tc : Thread Cert.CfLnFwdRefIdeal.nD Cert.CfLnFwdRefIdeal.τ).loc Cert.CfLnFwdRefIdeal.main_arg2))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v17) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2))

def preserves_DnPostFwd_DnPostFwdIdeal : Prop :=
  True

def algebraic_DnPostFwdIdeal_DnPostFwdRefIdeal [hDnPostFwdIdeal : Cert.DnPostFwdIdeal.Facts] [hDnPostFwdRefIdeal : Cert.DnPostFwdRefIdeal.Facts] : Prop :=
  ∀ (m : (ℓ : Loc Cert.DnPostFwdIdeal.nD Cert.DnPostFwdIdeal.τ Cert.DnPostFwdIdeal.sig) → Buf (Elt Ideal) ℓ) (g : Dev Cert.DnPostFwdIdeal.nD → PrngReg)
    (m' : (ℓ : Loc Cert.DnPostFwdRefIdeal.nD Cert.DnPostFwdRefIdeal.τ Cert.DnPostFwdRefIdeal.sig) → Buf (Elt Ideal) ℓ) (g' : Dev Cert.DnPostFwdRefIdeal.nD → PrngReg), Pre_DnPostFwdIdeal m →
    (∀ c : Dev Cert.DnPostFwdIdeal.nD,
      m' ((c.tc : Thread Cert.DnPostFwdRefIdeal.nD Cert.DnPostFwdRefIdeal.τ).loc Cert.DnPostFwdRefIdeal.main_arg0) = m ((c.tc : Thread Cert.DnPostFwdIdeal.nD Cert.DnPostFwdIdeal.τ).loc Cert.DnPostFwdIdeal.main_arg0)
      ∧ m' ((c.tc : Thread Cert.DnPostFwdRefIdeal.nD Cert.DnPostFwdRefIdeal.τ).loc Cert.DnPostFwdRefIdeal.main_arg1) = m ((c.tc : Thread Cert.DnPostFwdIdeal.nD Cert.DnPostFwdIdeal.τ).loc Cert.DnPostFwdIdeal.main_arg1)
      ∧ m' ((c.tc : Thread Cert.DnPostFwdRefIdeal.nD Cert.DnPostFwdRefIdeal.τ).loc Cert.DnPostFwdRefIdeal.main_arg2) = m ((c.tc : Thread Cert.DnPostFwdIdeal.nD Cert.DnPostFwdIdeal.τ).loc Cert.DnPostFwdIdeal.main_arg2)) →
    ∃ (v0 : (c : Dev Cert.DnPostFwdIdeal.nD) → Buf (Elt Ideal) ((c.tc : Thread Cert.DnPostFwdIdeal.nD Cert.DnPostFwdIdeal.τ).loc Cert.DnPostFwdIdeal.main_v0)),
      θ_run (Cert.DnPostFwdIdeal.defs (F := Ideal)) (onTc (τ := Cert.DnPostFwdIdeal.τ) (Cert.DnPostFwdIdeal.main (F := Ideal))) ⟨m, fun _ => 0, g⟩ (fun r => ∀ c : Dev Cert.DnPostFwdIdeal.nD,
          r.2.mem ((c.tc : Thread Cert.DnPostFwdIdeal.nD Cert.DnPostFwdIdeal.τ).loc Cert.DnPostFwdIdeal.main_v0) = v0 c
          ∧ r.2.mem ((c.tc : Thread Cert.DnPostFwdIdeal.nD Cert.DnPostFwdIdeal.τ).loc Cert.DnPostFwdIdeal.main_arg0) = m ((c.tc : Thread Cert.DnPostFwdIdeal.nD Cert.DnPostFwdIdeal.τ).loc Cert.DnPostFwdIdeal.main_arg0)
          ∧ r.2.mem ((c.tc : Thread Cert.DnPostFwdIdeal.nD Cert.DnPostFwdIdeal.τ).loc Cert.DnPostFwdIdeal.main_arg1) = m ((c.tc : Thread Cert.DnPostFwdIdeal.nD Cert.DnPostFwdIdeal.τ).loc Cert.DnPostFwdIdeal.main_arg1)
          ∧ r.2.mem ((c.tc : Thread Cert.DnPostFwdIdeal.nD Cert.DnPostFwdIdeal.τ).loc Cert.DnPostFwdIdeal.main_arg2) = m ((c.tc : Thread Cert.DnPostFwdIdeal.nD Cert.DnPostFwdIdeal.τ).loc Cert.DnPostFwdIdeal.main_arg2))
      ∧ θ_run (Cert.DnPostFwdRefIdeal.defs (F := Ideal)) (onTc (τ := Cert.DnPostFwdRefIdeal.τ) (Cert.DnPostFwdRefIdeal.main (F := Ideal))) ⟨m', fun _ => 0, g'⟩ (fun r => ∀ c : Dev Cert.DnPostFwdRefIdeal.nD,
          r.2.mem ((c.tc : Thread Cert.DnPostFwdRefIdeal.nD Cert.DnPostFwdRefIdeal.τ).loc Cert.DnPostFwdRefIdeal.main_v20) = v0 c
          ∧ r.2.mem ((c.tc : Thread Cert.DnPostFwdRefIdeal.nD Cert.DnPostFwdRefIdeal.τ).loc Cert.DnPostFwdRefIdeal.main_arg0) = m' ((c.tc : Thread Cert.DnPostFwdRefIdeal.nD Cert.DnPostFwdRefIdeal.τ).loc Cert.DnPostFwdRefIdeal.main_arg0)
          ∧ r.2.mem ((c.tc : Thread Cert.DnPostFwdRefIdeal.nD Cert.DnPostFwdRefIdeal.τ).loc Cert.DnPostFwdRefIdeal.main_arg1) = m' ((c.tc : Thread Cert.DnPostFwdRefIdeal.nD Cert.DnPostFwdRefIdeal.τ).loc Cert.DnPostFwdRefIdeal.main_arg1)
          ∧ r.2.mem ((c.tc : Thread Cert.DnPostFwdRefIdeal.nD Cert.DnPostFwdRefIdeal.τ).loc Cert.DnPostFwdRefIdeal.main_arg2) = m' ((c.tc : Thread Cert.DnPostFwdRefIdeal.nD Cert.DnPostFwdRefIdeal.τ).loc Cert.DnPostFwdRefIdeal.main_arg2))

def preserves_AdaMod_AdaModIdeal : Prop :=
  True

def algebraic_AdaModIdeal_AdaModRefIdeal [hAdaModIdeal : Cert.AdaModIdeal.Facts] [hAdaModRefIdeal : Cert.AdaModRefIdeal.Facts] : Prop :=
  ∀ (m : (ℓ : Loc Cert.AdaModIdeal.nD Cert.AdaModIdeal.τ Cert.AdaModIdeal.sig) → Buf (Elt Ideal) ℓ) (g : Dev Cert.AdaModIdeal.nD → PrngReg)
    (m' : (ℓ : Loc Cert.AdaModRefIdeal.nD Cert.AdaModRefIdeal.τ Cert.AdaModRefIdeal.sig) → Buf (Elt Ideal) ℓ) (g' : Dev Cert.AdaModRefIdeal.nD → PrngReg), Pre_AdaModIdeal m →
    (∀ c : Dev Cert.AdaModIdeal.nD,
      m' ((c.tc : Thread Cert.AdaModRefIdeal.nD Cert.AdaModRefIdeal.τ).loc Cert.AdaModRefIdeal.main_arg0) = m ((c.tc : Thread Cert.AdaModIdeal.nD Cert.AdaModIdeal.τ).loc Cert.AdaModIdeal.main_arg0)
      ∧ m' ((c.tc : Thread Cert.AdaModRefIdeal.nD Cert.AdaModRefIdeal.τ).loc Cert.AdaModRefIdeal.main_arg1) = m ((c.tc : Thread Cert.AdaModIdeal.nD Cert.AdaModIdeal.τ).loc Cert.AdaModIdeal.main_arg1)
      ∧ m' ((c.tc : Thread Cert.AdaModRefIdeal.nD Cert.AdaModRefIdeal.τ).loc Cert.AdaModRefIdeal.main_arg2) = m ((c.tc : Thread Cert.AdaModIdeal.nD Cert.AdaModIdeal.τ).loc Cert.AdaModIdeal.main_arg2)) →
    ∃ (v0 : (c : Dev Cert.AdaModIdeal.nD) → Buf (Elt Ideal) ((c.tc : Thread Cert.AdaModIdeal.nD Cert.AdaModIdeal.τ).loc Cert.AdaModIdeal.main_v0)),
      θ_run (Cert.AdaModIdeal.defs (F := Ideal)) (onTc (τ := Cert.AdaModIdeal.τ) (Cert.AdaModIdeal.main (F := Ideal))) ⟨m, fun _ => 0, g⟩ (fun r => ∀ c : Dev Cert.AdaModIdeal.nD,
          r.2.mem ((c.tc : Thread Cert.AdaModIdeal.nD Cert.AdaModIdeal.τ).loc Cert.AdaModIdeal.main_v0) = v0 c
          ∧ r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
          ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
          ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ θ_run (Cert.AdaModRefIdeal.defs (F := Ideal)) (onTc (τ := Cert.AdaModRefIdeal.τ) (Cert.AdaModRefIdeal.main (F := Ideal))) ⟨m', fun _ => 0, g'⟩ (fun r => ∀ c : Dev Cert.AdaModRefIdeal.nD,
          r.2.mem ((c.tc : Thread Cert.AdaModRefIdeal.nD Cert.AdaModRefIdeal.τ).loc Cert.AdaModRefIdeal.main_v3) = v0 c
          ∧ r.2.mem ((c.tc : Thread Cert.AdaModRefIdeal.nD Cert.AdaModRefIdeal.τ).loc Cert.AdaModRefIdeal.main_arg0) = m' ((c.tc : Thread Cert.AdaModRefIdeal.nD Cert.AdaModRefIdeal.τ).loc Cert.AdaModRefIdeal.main_arg0)
          ∧ r.2.mem ((c.tc : Thread Cert.AdaModRefIdeal.nD Cert.AdaModRefIdeal.τ).loc Cert.AdaModRefIdeal.main_arg1) = m' ((c.tc : Thread Cert.AdaModRefIdeal.nD Cert.AdaModRefIdeal.τ).loc Cert.AdaModRefIdeal.main_arg1)
          ∧ r.2.mem ((c.tc : Thread Cert.AdaModRefIdeal.nD Cert.AdaModRefIdeal.τ).loc Cert.AdaModRefIdeal.main_arg2) = m' ((c.tc : Thread Cert.AdaModRefIdeal.nD Cert.AdaModRefIdeal.τ).loc Cert.AdaModRefIdeal.main_arg2))

def Claim : Prop :=
  ∃ (hKernel : Cert.Kernel.Facts) (hKernelIdeal : Cert.KernelIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hBranchDx : Cert.BranchDx.Facts) (hBranchDxIdeal : Cert.BranchDxIdeal.Facts) (hBranchDxRefIdeal : Cert.BranchDxRefIdeal.Facts) (hBranchDw : Cert.BranchDw.Facts) (hBranchDwIdeal : Cert.BranchDwIdeal.Facts) (hBranchDwRefIdeal : Cert.BranchDwRefIdeal.Facts) (hIn : Cert.In.Facts) (hInIdeal : Cert.InIdeal.Facts) (hInRefIdeal : Cert.InRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hBranch : Cert.Branch.Facts) (hBranchIdeal : Cert.BranchIdeal.Facts) (hBranchRefIdeal : Cert.BranchRefIdeal.Facts) (hStepIn : Cert.StepIn.Facts) (hStepInIdeal : Cert.StepInIdeal.Facts) (hStepInRefIdeal : Cert.StepInRefIdeal.Facts) (hStepAda : Cert.StepAda.Facts) (hStepAdaIdeal : Cert.StepAdaIdeal.Facts) (hStepAdaRefIdeal : Cert.StepAdaRefIdeal.Facts) (hStepBranch : Cert.StepBranch.Facts) (hStepBranchIdeal : Cert.StepBranchIdeal.Facts) (hStepBranchRefIdeal : Cert.StepBranchRefIdeal.Facts) (hStepOut : Cert.StepOut.Facts) (hStepOutIdeal : Cert.StepOutIdeal.Facts) (hStepOutRefIdeal : Cert.StepOutRefIdeal.Facts) (hStepUp : Cert.StepUp.Facts) (hStepUpIdeal : Cert.StepUpIdeal.Facts) (hStepUpRefIdeal : Cert.StepUpRefIdeal.Facts) (hStepDown : Cert.StepDown.Facts) (hStepDownIdeal : Cert.StepDownIdeal.Facts) (hStepDownRefIdeal : Cert.StepDownRefIdeal.Facts) (hStepSmall : Cert.StepSmall.Facts) (hStepSmallIdeal : Cert.StepSmallIdeal.Facts) (hStepSmallRefIdeal : Cert.StepSmallRefIdeal.Facts) (hNorm1Bwd : Cert.Norm1Bwd.Facts) (hNorm1BwdIdeal : Cert.Norm1BwdIdeal.Facts) (hNorm1BwdRefIdeal : Cert.Norm1BwdRefIdeal.Facts) (hNorm2Bwd : Cert.Norm2Bwd.Facts) (hNorm2BwdIdeal : Cert.Norm2BwdIdeal.Facts) (hNorm2BwdRefIdeal : Cert.Norm2BwdRefIdeal.Facts) (hLossBwd : Cert.LossBwd.Facts) (hLossBwdIdeal : Cert.LossBwdIdeal.Facts) (hLossBwdRefIdeal : Cert.LossBwdRefIdeal.Facts) (hCfLnBwd : Cert.CfLnBwd.Facts) (hCfLnBwdIdeal : Cert.CfLnBwdIdeal.Facts) (hCfLnBwdRefIdeal : Cert.CfLnBwdRefIdeal.Facts) (hAdaDw : Cert.AdaDw.Facts) (hAdaDwIdeal : Cert.AdaDwIdeal.Facts) (hAdaDwRefIdeal : Cert.AdaDwRefIdeal.Facts) (hSmallSum : Cert.SmallSum.Facts) (hSmallSumIdeal : Cert.SmallSumIdeal.Facts) (hSmallSumRefIdeal : Cert.SmallSumRefIdeal.Facts) (hNorm1Fwd : Cert.Norm1Fwd.Facts) (hNorm1FwdIdeal : Cert.Norm1FwdIdeal.Facts) (hNorm1FwdRefIdeal : Cert.Norm1FwdRefIdeal.Facts) (hNorm2Fwd : Cert.Norm2Fwd.Facts) (hNorm2FwdIdeal : Cert.Norm2FwdIdeal.Facts) (hNorm2FwdRefIdeal : Cert.Norm2FwdRefIdeal.Facts) (hCfLnFwd : Cert.CfLnFwd.Facts) (hCfLnFwdIdeal : Cert.CfLnFwdIdeal.Facts) (hCfLnFwdRefIdeal : Cert.CfLnFwdRefIdeal.Facts) (hMergeFwd : Cert.MergeFwd.Facts) (hMergeFwdIdeal : Cert.MergeFwdIdeal.Facts) (hMergeFwdRefIdeal : Cert.MergeFwdRefIdeal.Facts) (hDnPostFwd : Cert.DnPostFwd.Facts) (hDnPostFwdIdeal : Cert.DnPostFwdIdeal.Facts) (hDnPostFwdRefIdeal : Cert.DnPostFwdRefIdeal.Facts) (hAdaMod : Cert.AdaMod.Facts) (hAdaModIdeal : Cert.AdaModIdeal.Facts) (hAdaModRefIdeal : Cert.AdaModRefIdeal.Facts),
    quiescent_Kernel (hKernel := hKernel)
    ∧ quiescent_KernelIdeal (hKernelIdeal := hKernelIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_BranchDx (hBranchDx := hBranchDx)
    ∧ quiescent_BranchDxIdeal (hBranchDxIdeal := hBranchDxIdeal)
    ∧ quiescent_BranchDxRefIdeal (hBranchDxRefIdeal := hBranchDxRefIdeal)
    ∧ quiescent_BranchDw (hBranchDw := hBranchDw)
    ∧ quiescent_BranchDwIdeal (hBranchDwIdeal := hBranchDwIdeal)
    ∧ quiescent_BranchDwRefIdeal (hBranchDwRefIdeal := hBranchDwRefIdeal)
    ∧ quiescent_In (hIn := hIn)
    ∧ quiescent_InIdeal (hInIdeal := hInIdeal)
    ∧ quiescent_InRefIdeal (hInRefIdeal := hInRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Branch (hBranch := hBranch)
    ∧ quiescent_BranchIdeal (hBranchIdeal := hBranchIdeal)
    ∧ quiescent_BranchRefIdeal (hBranchRefIdeal := hBranchRefIdeal)
    ∧ quiescent_StepIn (hStepIn := hStepIn)
    ∧ quiescent_StepInIdeal (hStepInIdeal := hStepInIdeal)
    ∧ quiescent_StepInRefIdeal (hStepInRefIdeal := hStepInRefIdeal)
    ∧ quiescent_StepAda (hStepAda := hStepAda)
    ∧ quiescent_StepAdaIdeal (hStepAdaIdeal := hStepAdaIdeal)
    ∧ quiescent_StepAdaRefIdeal (hStepAdaRefIdeal := hStepAdaRefIdeal)
    ∧ quiescent_StepBranch (hStepBranch := hStepBranch)
    ∧ quiescent_StepBranchIdeal (hStepBranchIdeal := hStepBranchIdeal)
    ∧ quiescent_StepBranchRefIdeal (hStepBranchRefIdeal := hStepBranchRefIdeal)
    ∧ quiescent_StepOut (hStepOut := hStepOut)
    ∧ quiescent_StepOutIdeal (hStepOutIdeal := hStepOutIdeal)
    ∧ quiescent_StepOutRefIdeal (hStepOutRefIdeal := hStepOutRefIdeal)
    ∧ quiescent_StepUp (hStepUp := hStepUp)
    ∧ quiescent_StepUpIdeal (hStepUpIdeal := hStepUpIdeal)
    ∧ quiescent_StepUpRefIdeal (hStepUpRefIdeal := hStepUpRefIdeal)
    ∧ quiescent_StepDown (hStepDown := hStepDown)
    ∧ quiescent_StepDownIdeal (hStepDownIdeal := hStepDownIdeal)
    ∧ quiescent_StepDownRefIdeal (hStepDownRefIdeal := hStepDownRefIdeal)
    ∧ quiescent_StepSmall (hStepSmall := hStepSmall)
    ∧ quiescent_StepSmallIdeal (hStepSmallIdeal := hStepSmallIdeal)
    ∧ quiescent_StepSmallRefIdeal (hStepSmallRefIdeal := hStepSmallRefIdeal)
    ∧ quiescent_Norm1Bwd (hNorm1Bwd := hNorm1Bwd)
    ∧ quiescent_Norm1BwdIdeal (hNorm1BwdIdeal := hNorm1BwdIdeal)
    ∧ quiescent_Norm1BwdRefIdeal (hNorm1BwdRefIdeal := hNorm1BwdRefIdeal)
    ∧ quiescent_Norm2Bwd (hNorm2Bwd := hNorm2Bwd)
    ∧ quiescent_Norm2BwdIdeal (hNorm2BwdIdeal := hNorm2BwdIdeal)
    ∧ quiescent_Norm2BwdRefIdeal (hNorm2BwdRefIdeal := hNorm2BwdRefIdeal)
    ∧ quiescent_LossBwd (hLossBwd := hLossBwd)
    ∧ quiescent_LossBwdIdeal (hLossBwdIdeal := hLossBwdIdeal)
    ∧ quiescent_LossBwdRefIdeal (hLossBwdRefIdeal := hLossBwdRefIdeal)
    ∧ quiescent_CfLnBwd (hCfLnBwd := hCfLnBwd)
    ∧ quiescent_CfLnBwdIdeal (hCfLnBwdIdeal := hCfLnBwdIdeal)
    ∧ quiescent_CfLnBwdRefIdeal (hCfLnBwdRefIdeal := hCfLnBwdRefIdeal)
    ∧ quiescent_AdaDw (hAdaDw := hAdaDw)
    ∧ quiescent_AdaDwIdeal (hAdaDwIdeal := hAdaDwIdeal)
    ∧ quiescent_AdaDwRefIdeal (hAdaDwRefIdeal := hAdaDwRefIdeal)
    ∧ quiescent_SmallSum (hSmallSum := hSmallSum)
    ∧ quiescent_SmallSumIdeal (hSmallSumIdeal := hSmallSumIdeal)
    ∧ quiescent_SmallSumRefIdeal (hSmallSumRefIdeal := hSmallSumRefIdeal)
    ∧ quiescent_Norm1Fwd (hNorm1Fwd := hNorm1Fwd)
    ∧ quiescent_Norm1FwdIdeal (hNorm1FwdIdeal := hNorm1FwdIdeal)
    ∧ quiescent_Norm1FwdRefIdeal (hNorm1FwdRefIdeal := hNorm1FwdRefIdeal)
    ∧ quiescent_Norm2Fwd (hNorm2Fwd := hNorm2Fwd)
    ∧ quiescent_Norm2FwdIdeal (hNorm2FwdIdeal := hNorm2FwdIdeal)
    ∧ quiescent_Norm2FwdRefIdeal (hNorm2FwdRefIdeal := hNorm2FwdRefIdeal)
    ∧ quiescent_CfLnFwd (hCfLnFwd := hCfLnFwd)
    ∧ quiescent_CfLnFwdIdeal (hCfLnFwdIdeal := hCfLnFwdIdeal)
    ∧ quiescent_CfLnFwdRefIdeal (hCfLnFwdRefIdeal := hCfLnFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_DnPostFwd (hDnPostFwd := hDnPostFwd)
    ∧ quiescent_DnPostFwdIdeal (hDnPostFwdIdeal := hDnPostFwdIdeal)
    ∧ quiescent_DnPostFwdRefIdeal (hDnPostFwdRefIdeal := hDnPostFwdRefIdeal)
    ∧ quiescent_AdaMod (hAdaMod := hAdaMod)
    ∧ quiescent_AdaModIdeal (hAdaModIdeal := hAdaModIdeal)
    ∧ quiescent_AdaModRefIdeal (hAdaModRefIdeal := hAdaModRefIdeal)
    ∧ preserves_Kernel_KernelIdeal
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_BranchDx_BranchDxIdeal
    ∧ algebraic_BranchDxIdeal_BranchDxRefIdeal (hBranchDxIdeal := hBranchDxIdeal) (hBranchDxRefIdeal := hBranchDxRefIdeal)
    ∧ preserves_BranchDw_BranchDwIdeal
    ∧ algebraic_BranchDwIdeal_BranchDwRefIdeal (hBranchDwIdeal := hBranchDwIdeal) (hBranchDwRefIdeal := hBranchDwRefIdeal)
    ∧ preserves_In_InIdeal
    ∧ algebraic_InIdeal_InRefIdeal (hInIdeal := hInIdeal) (hInRefIdeal := hInRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Branch_BranchIdeal
    ∧ algebraic_BranchIdeal_BranchRefIdeal (hBranchIdeal := hBranchIdeal) (hBranchRefIdeal := hBranchRefIdeal)
    ∧ preserves_StepIn_StepInIdeal
    ∧ algebraic_StepInIdeal_StepInRefIdeal (hStepInIdeal := hStepInIdeal) (hStepInRefIdeal := hStepInRefIdeal)
    ∧ preserves_StepAda_StepAdaIdeal
    ∧ algebraic_StepAdaIdeal_StepAdaRefIdeal (hStepAdaIdeal := hStepAdaIdeal) (hStepAdaRefIdeal := hStepAdaRefIdeal)
    ∧ preserves_StepBranch_StepBranchIdeal
    ∧ algebraic_StepBranchIdeal_StepBranchRefIdeal (hStepBranchIdeal := hStepBranchIdeal) (hStepBranchRefIdeal := hStepBranchRefIdeal)
    ∧ preserves_StepOut_StepOutIdeal
    ∧ algebraic_StepOutIdeal_StepOutRefIdeal (hStepOutIdeal := hStepOutIdeal) (hStepOutRefIdeal := hStepOutRefIdeal)
    ∧ preserves_StepUp_StepUpIdeal
    ∧ algebraic_StepUpIdeal_StepUpRefIdeal (hStepUpIdeal := hStepUpIdeal) (hStepUpRefIdeal := hStepUpRefIdeal)
    ∧ preserves_StepDown_StepDownIdeal
    ∧ algebraic_StepDownIdeal_StepDownRefIdeal (hStepDownIdeal := hStepDownIdeal) (hStepDownRefIdeal := hStepDownRefIdeal)
    ∧ preserves_StepSmall_StepSmallIdeal
    ∧ algebraic_StepSmallIdeal_StepSmallRefIdeal (hStepSmallIdeal := hStepSmallIdeal) (hStepSmallRefIdeal := hStepSmallRefIdeal)
    ∧ preserves_Norm1Bwd_Norm1BwdIdeal
    ∧ algebraic_Norm1BwdIdeal_Norm1BwdRefIdeal (hNorm1BwdIdeal := hNorm1BwdIdeal) (hNorm1BwdRefIdeal := hNorm1BwdRefIdeal)
    ∧ preserves_Norm2Bwd_Norm2BwdIdeal
    ∧ algebraic_Norm2BwdIdeal_Norm2BwdRefIdeal (hNorm2BwdIdeal := hNorm2BwdIdeal) (hNorm2BwdRefIdeal := hNorm2BwdRefIdeal)
    ∧ preserves_LossBwd_LossBwdIdeal
    ∧ algebraic_LossBwdIdeal_LossBwdRefIdeal (hLossBwdIdeal := hLossBwdIdeal) (hLossBwdRefIdeal := hLossBwdRefIdeal)
    ∧ preserves_CfLnBwd_CfLnBwdIdeal
    ∧ algebraic_CfLnBwdIdeal_CfLnBwdRefIdeal (hCfLnBwdIdeal := hCfLnBwdIdeal) (hCfLnBwdRefIdeal := hCfLnBwdRefIdeal)
    ∧ preserves_AdaDw_AdaDwIdeal
    ∧ algebraic_AdaDwIdeal_AdaDwRefIdeal (hAdaDwIdeal := hAdaDwIdeal) (hAdaDwRefIdeal := hAdaDwRefIdeal)
    ∧ preserves_SmallSum_SmallSumIdeal
    ∧ algebraic_SmallSumIdeal_SmallSumRefIdeal (hSmallSumIdeal := hSmallSumIdeal) (hSmallSumRefIdeal := hSmallSumRefIdeal)
    ∧ preserves_Norm1Fwd_Norm1FwdIdeal
    ∧ algebraic_Norm1FwdIdeal_Norm1FwdRefIdeal (hNorm1FwdIdeal := hNorm1FwdIdeal) (hNorm1FwdRefIdeal := hNorm1FwdRefIdeal)
    ∧ preserves_Norm2Fwd_Norm2FwdIdeal
    ∧ algebraic_Norm2FwdIdeal_Norm2FwdRefIdeal (hNorm2FwdIdeal := hNorm2FwdIdeal) (hNorm2FwdRefIdeal := hNorm2FwdRefIdeal)
    ∧ preserves_CfLnFwd_CfLnFwdIdeal
    ∧ algebraic_CfLnFwdIdeal_CfLnFwdRefIdeal (hCfLnFwdIdeal := hCfLnFwdIdeal) (hCfLnFwdRefIdeal := hCfLnFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_DnPostFwd_DnPostFwdIdeal
    ∧ algebraic_DnPostFwdIdeal_DnPostFwdRefIdeal (hDnPostFwdIdeal := hDnPostFwdIdeal) (hDnPostFwdRefIdeal := hDnPostFwdRefIdeal)
    ∧ preserves_AdaMod_AdaModIdeal
    ∧ algebraic_AdaModIdeal_AdaModRefIdeal (hAdaModIdeal := hAdaModIdeal) (hAdaModRefIdeal := hAdaModRefIdeal)
-- ==== Kernel.lean ====
abbrev S3x8x2048x128 : Shape := ⟨4, ![3, 8, 2048, 128]⟩
abbrev S8x2048x128 : Shape := ⟨3, ![8, 2048, 128]⟩
abbrev S8x16x128x128 : Shape := ⟨4, ![8, 16, 128, 128]⟩
abbrev S1x8x128x128 : Shape := ⟨4, ![1, 8, 128, 128]⟩
abbrev S8x128x128 : Shape := ⟨3, ![8, 128, 128]⟩
abbrev S8x1x128x128 : Shape := ⟨4, ![8, 1, 128, 128]⟩
abbrev S3x8x128x128 : Shape := ⟨4, ![3, 8, 128, 128]⟩
abbrev S1x1x128x128 : Shape := ⟨4, ![1, 1, 128, 128]⟩
abbrev S128x128 : Shape := ⟨2, ![128, 128]⟩
abbrev S1x128x128 : Shape := ⟨3, ![1, 128, 128]⟩
abbrev S128 : Shape := ⟨1, ![128]⟩
abbrev S1x128 : Shape := ⟨2, ![1, 128]⟩
abbrev S128x1 : Shape := ⟨2, ![128, 1]⟩
abbrev S1 : Shape := ⟨1, ![1]⟩
abbrev S1x1 : Shape := ⟨2, ![1, 1]⟩

abbrev nBuf : Space → Nat
  | .hbm => 8
  | .vmem => 21
  | .smem => 0
  | _ => 0

abbrev bufTy : (tb : Table) → Fin (tcTables nBuf tb) → BufTy
  | .hbm, ⟨0, _⟩ => ⟨S3x8x2048x128, .f32⟩
  | .hbm, ⟨1, _⟩ => ⟨S8x2048x128, .f32⟩
  | .hbm, ⟨2, _⟩ => ⟨S8x2048x128, .f32⟩
  | .hbm, ⟨3, _⟩ => ⟨S8x16x128x128, .f32⟩
  | .hbm, ⟨4, _⟩ => ⟨S8x2048x128, .f32⟩
  | .hbm, ⟨5, _⟩ => ⟨S3x8x2048x128, .f32⟩
  | .hbm, ⟨6, _⟩ => ⟨S8x2048x128, .f32⟩
  | .hbm, ⟨7, _⟩ => ⟨S8x2048x128, .f32⟩
  | .local _ .vmem, ⟨0, _⟩ => ⟨S1x8x128x128, .f32⟩
  | .local _ .vmem, ⟨1, _⟩ => ⟨S1x8x128x128, .f32⟩
  | .local _ .vmem, ⟨2, _⟩ => ⟨S1x8x128x128, .f32⟩
  | .local _ .vmem, ⟨3, _⟩ => ⟨S1x8x128x128, .f32⟩
  | .local _ .vmem, ⟨4, _⟩ => ⟨S1x8x128x128, .f32⟩
  | .local _ .vmem, ⟨5, _⟩ => ⟨S1x8x128x128, .f32⟩
  | .local _ .vmem, ⟨6, _⟩ => ⟨S8x128x128, .f32⟩
  | .local _ .vmem, ⟨7, _⟩ => ⟨S8x128x128, .f32⟩
  | .local _ .vmem, ⟨8, _⟩ => ⟨S8x128x128, .f32⟩
  | .local _ .vmem, ⟨9, _⟩ => ⟨S8x128x128, .f32⟩
  | .local _ .vmem, ⟨10, _⟩ => ⟨S8x1x128x128, .f32⟩
  | .local _ .vmem, ⟨11, _⟩ => ⟨S8x1x128x128, .f32⟩
  | .local _ .vmem, ⟨12, _⟩ => ⟨S8x128x128, .f32⟩
  | .local _ .vmem, ⟨13, _⟩ => ⟨S8x128x128, .f32⟩
  | .local _ .vmem, ⟨14, _⟩ => ⟨S3x8x128x128, .f32⟩
  | .local _ .vmem, ⟨15, _⟩ => ⟨S3x8x128x128, .f32⟩
  | .local _ .vmem, ⟨16, _⟩ => ⟨S8x128x128, .f32⟩
  | .local _ .vmem, ⟨17, _⟩ => ⟨S8x128x128, .f32⟩
  | .local _ .vmem, ⟨18, _⟩ => ⟨S8x128x128, .f32⟩
  | .local _ .vmem, ⟨19, _⟩ => ⟨S8x128x128, .f32⟩
  | .local _ .vmem, ⟨20, _⟩ => ⟨S8x128x128, .f32⟩
  | _, _ => ⟨S3x8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![1, 16], ![false, false]⟩

def cc0_transform_0 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![c0_i32.toNat, arg0.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c1_i32 : BitVec 32 := 1#32
  let c0_i32 : BitVec 32 := 0#32
  let c0_i32_0 : BitVec 32 := 0#32
  ![c1_i32.toNat, arg0.toNat, v0.toNat, c0_i32.toNat]

def cc0_transform_2 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c2_i32 : BitVec 32 := 2#32
  let c0_i32 : BitVec 32 := 0#32
  let c0_i32_0 : BitVec 32 := 0#32
  ![c2_i32.toNat, arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_5 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_7 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![c0_i32.toNat, arg0.toNat, v0.toNat, c0_i32_0.toNat]

def cc0_transform_8 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

abbrev stage0_0 : Fin 2 → Memref sig .tc .vmem S1x8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== UpDx.lean ====
abbrev S2x2048x5632 : Shape := ⟨3, ![2, 2048, 5632]⟩
abbrev S4x2048x2816 : Shape := ⟨3, ![4, 2048, 2816]⟩
abbrev S2048x2048 : Shape := ⟨2, ![2048, 2048]⟩
abbrev S1x1024x1408 : Shape := ⟨3, ![1, 1024, 1408]⟩
abbrev S1x2048x1408 : Shape := ⟨3, ![1, 2048, 1408]⟩
abbrev S1024x2048 : Shape := ⟨2, ![1024, 2048]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x2048x5632, .bf16⟩
  | .hbm, ⟨1, _⟩ => ⟨S4x2048x2816, .bf16⟩
  | .hbm, ⟨2, _⟩ => ⟨S2048x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxIdeal.lean ====
abbrev S2x2048x5632 : Shape := ⟨3, ![2, 2048, 5632]⟩
abbrev S4x2048x2816 : Shape := ⟨3, ![4, 2048, 2816]⟩
abbrev S2048x2048 : Shape := ⟨2, ![2048, 2048]⟩
abbrev S1x1024x1408 : Shape := ⟨3, ![1, 1024, 1408]⟩
abbrev S1x2048x1408 : Shape := ⟨3, ![1, 2048, 1408]⟩
abbrev S1024x2048 : Shape := ⟨2, ![1024, 2048]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x2048x5632, .bf16⟩
  | .hbm, ⟨1, _⟩ => ⟨S4x2048x2816, .bf16⟩
  | .hbm, ⟨2, _⟩ => ⟨S2048x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S2x2048x5632 : Shape := ⟨3, ![2, 2048, 5632]⟩
abbrev S4x2048x2816 : Shape := ⟨3, ![4, 2048, 2816]⟩
abbrev S1x2048x2816 : Shape := ⟨3, ![1, 2048, 2816]⟩
abbrev S2048x2816 : Shape := ⟨2, ![2048, 2816]⟩
abbrev S2048x11264 : Shape := ⟨2, ![2048, 11264]⟩
abbrev S1x2048x5632 : Shape := ⟨3, ![1, 2048, 5632]⟩
abbrev S2048x5632 : Shape := ⟨2, ![2048, 5632]⟩
abbrev S_ : Shape := ⟨0, ![]⟩
abbrev S2048x2048 : Shape := ⟨2, ![2048, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S4x2048x2816, .bf16⟩
  | .hbm, ⟨2, _⟩ => ⟨S1x2048x2816, .bf16⟩
  | .hbm, ⟨3, _⟩ => ⟨S2048x2816, .bf16⟩
  | .hbm, ⟨4, _⟩ => ⟨S1x2048x2816, .bf16⟩
  | .hbm, ⟨5, _⟩ => ⟨S2048x2816, .bf16⟩
  | .hbm, ⟨6, _⟩ => ⟨S1x2048x2816, .bf16⟩
  | .hbm, ⟨7, _⟩ => ⟨S2048x2816, .bf16⟩
  | .hbm, ⟨8, _⟩ => ⟨S1x2048x2816, .bf16⟩
  | .hbm, ⟨9, _⟩ => ⟨S2048x2816, .bf16⟩
  | .hbm, ⟨10, _⟩ => ⟨S2048x11264, .bf16⟩
  | .hbm, ⟨11, _⟩ => ⟨S1x2048x5632, .bf16⟩
  | .hbm, ⟨12, _⟩ => ⟨S2048x5632, .bf16⟩
  | .hbm, ⟨13, _⟩ => ⟨S1x2048x5632, .bf16⟩
  | .hbm, ⟨14, _⟩ => ⟨S2048x5632, .bf16⟩
  | .hbm, ⟨15, _⟩ => ⟨S2048x11264, .bf16⟩
  | .hbm, ⟨16, _⟩ => ⟨S_, .f32⟩
  | .hbm, ⟨17, _⟩ => ⟨S2048x2048, .f32⟩
  | .hbm, ⟨18, _⟩ => ⟨S2048x11264, .f32⟩
  | .hbm, ⟨19, _⟩ => ⟨S2048x11264, .f32⟩
  | .hbm, ⟨20, _⟩ => ⟨S2048x11264, .f32⟩
  | .hbm, ⟨21, _⟩ => ⟨S2048x2048, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== UpDw.lean ====
abbrev S2048x2048 : Shape := ⟨2, ![2048, 2048]⟩
abbrev S2x2048x5632 : Shape := ⟨3, ![2, 2048, 5632]⟩
abbrev S4x2048x2816 : Shape := ⟨3, ![4, 2048, 2816]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S4x2048x2816, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwIdeal.lean ====
abbrev S2048x2048 : Shape := ⟨2, ![2048, 2048]⟩
abbrev S2x2048x5632 : Shape := ⟨3, ![2, 2048, 5632]⟩
abbrev S4x2048x2816 : Shape := ⟨3, ![4, 2048, 2816]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S4x2048x2816, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S2048x2048 : Shape := ⟨2, ![2048, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S2048x11264 : Shape := ⟨2, ![2048, 11264]⟩
abbrev S_ : Shape := ⟨0, ![]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 16
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S1x2048x5632, .bf16⟩
  | .hbm, ⟨3, _⟩ => ⟨S2048x5632, .bf16⟩
  | .hbm, ⟨4, _⟩ => ⟨S1x2048x5632, .bf16⟩
  | .hbm, ⟨5, _⟩ => ⟨S2048x5632, .bf16⟩
  | .hbm, ⟨6, _⟩ => ⟨S2048x11264, .bf16⟩
  | .hbm, ⟨7, _⟩ => ⟨S_, .f32⟩
  | .hbm, ⟨8, _⟩ => ⟨S2048x11264, .f32⟩
  | .hbm, ⟨9, _⟩ => ⟨S2048x2048, .f32⟩
  | .hbm, ⟨10, _⟩ => ⟨S2048x11264, .f32⟩
  | .hbm, ⟨11, _⟩ => ⟨S2048x11264, .f32⟩
  | .hbm, ⟨12, _⟩ => ⟨S11264x2048, .f32⟩
  | .hbm, ⟨13, _⟩ => ⟨S2048x11264, .f32⟩
  | .hbm, ⟨14, _⟩ => ⟨S2048x4x2816, .f32⟩
  | .hbm, ⟨15, _⟩ => ⟨S4x2048x2816, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== InDx.lean ====
abbrev S2048x10368 : Shape := ⟨2, ![2048, 10368]⟩
abbrev S2048x2048 : Shape := ⟨2, ![2048, 2048]⟩
abbrev S1024x1152 : Shape := ⟨2, ![1024, 1152]⟩
abbrev S2048x1152 : Shape := ⟨2, ![2048, 1152]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2048x10368, .bf16⟩
  | .hbm, ⟨1, _⟩ => ⟨S2048x10368, .bf16⟩
  | .hbm, ⟨2, _⟩ => ⟨S2048x2048, .f32⟩
  | .local _ .vmem, ⟨0, _⟩ => ⟨S1024x1152, .bf16⟩
  | .local _ .vmem, ⟨1, _⟩ => ⟨S1024x1152, .bf16⟩
  | .local _ .vmem, ⟨2, _⟩ => ⟨S2048x1152, .bf16⟩
  | .local _ .vmem, ⟨3, _⟩ => ⟨S2048x1152, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S2048x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 9], ![false, false, false]⟩

def k0_cond2 (i : grid0.Coords) : BitVec 1 :=
  let arg2 : BitVec 32 := BitVec.ofNat 32 (i 2).val
  let c8_i32 : BitVec 32 := 8#32
  let v11 : BitVec 1 := Scalar.cmpi .eq arg2 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxIdeal.lean ====
abbrev S2048x10368 : Shape := ⟨2, ![2048, 10368]⟩
abbrev S2048x2048 : Shape := ⟨2, ![2048, 2048]⟩
abbrev S1024x1152 : Shape := ⟨2, ![1024, 1152]⟩
abbrev S2048x1152 : Shape := ⟨2, ![2048, 1152]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2048x10368, .bf16⟩
  | .hbm, ⟨1, _⟩ => ⟨S2048x10368, .bf16⟩
  | .hbm, ⟨2, _⟩ => ⟨S2048x2048, .f32⟩
  | .local _ .vmem, ⟨0, _⟩ => ⟨S1024x1152, .bf16⟩
  | .local _ .vmem, ⟨1, _⟩ => ⟨S1024x1152, .bf16⟩
  | .local _ .vmem, ⟨2, _⟩ => ⟨S2048x1152, .bf16⟩
  | .local _ .vmem, ⟨3, _⟩ => ⟨S2048x1152, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S2048x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 9], ![false, false, false]⟩

def k0_cond2 (i : grid0.Coords) : BitVec 1 :=
  let arg2 : BitVec 32 := BitVec.ofNat 32 (i 2).val
  let c8_i32 : BitVec 32 := 8#32
  let v11 : BitVec 1 := Scalar.cmpi .eq arg2 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S2048x10368 : Shape := ⟨2, ![2048, 10368]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x10368, .bf16⟩
  | .hbm, ⟨1, _⟩ => ⟨S2048x10368, .bf16⟩
  | .hbm, ⟨2, _⟩ => ⟨S_, .f32⟩
  | .hbm, ⟨3, _⟩ => ⟨S2048x2048, .f32⟩
  | .hbm, ⟨4, _⟩ => ⟨S2048x10368, .f32⟩
  | .hbm, ⟨5, _⟩ => ⟨S2048x10368, .f32⟩
  | .hbm, ⟨6, _⟩ => ⟨S2048x10368, .f32⟩
  | .hbm, ⟨7, _⟩ => ⟨S2048x2048, .f32⟩
  | _, _ => ⟨S2048x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDw.lean ====
abbrev S2048x2048 : Shape := ⟨2, ![2048, 2048]⟩
abbrev S2048x10368 : Shape := ⟨2, ![2048, 10368]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x10368, .bf16⟩
  | .hbm, ⟨2, _⟩ => ⟨S2048x10368, .f32⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwIdeal.lean ====
abbrev S2048x2048 : Shape := ⟨2, ![2048, 2048]⟩
abbrev S2048x10368 : Shape := ⟨2, ![2048, 10368]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x10368, .bf16⟩
  | .hbm, ⟨2, _⟩ => ⟨S2048x10368, .f32⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S2048x2048 : Shape := ⟨2, ![2048, 2048]⟩
abbrev S2048x10368 : Shape := ⟨2, ![2048, 10368]⟩
abbrev S_ : Shape := ⟨0, ![]⟩
abbrev S10368x2048 : Shape := ⟨2, ![10368, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x10368, .bf16⟩
  | .hbm, ⟨2, _⟩ => ⟨S_, .f32⟩
  | .hbm, ⟨3, _⟩ => ⟨S2048x10368, .f32⟩
  | .hbm, ⟨4, _⟩ => ⟨S2048x2048, .f32⟩
  | .hbm, ⟨5, _⟩ => ⟨S2048x10368, .f32⟩
  | .hbm, ⟨6, _⟩ => ⟨S2048x10368, .f32⟩
  | .hbm, ⟨7, _⟩ => ⟨S10368x2048, .f32⟩
  | .hbm, ⟨8, _⟩ => ⟨S2048x10368, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDx.lean ====
abbrev S2048x2048 : Shape := ⟨2, ![2048, 2048]⟩
abbrev S5632x2048 : Shape := ⟨2, ![5632, 2048]⟩
abbrev S2048x5632 : Shape := ⟨2, ![2048, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxIdeal.lean ====
abbrev S2048x2048 : Shape := ⟨2, ![2048, 2048]⟩
abbrev S5632x2048 : Shape := ⟨2, ![5632, 2048]⟩
abbrev S2048x5632 : Shape := ⟨2, ![2048, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S_, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | .hbm, ⟨7, _⟩ => ⟨S2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S2048x5632 : Shape := ⟨2, ![2048, 5632]⟩
abbrev S2048x2048 : Shape := ⟨2, ![2048, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwIdeal.lean ====
abbrev S2048x5632 : Shape := ⟨2, ![2048, 5632]⟩
abbrev S2048x2048 : Shape := ⟨2, ![2048, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDx.lean ====
abbrev S2048x2048 : Shape := ⟨2, ![2048, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxIdeal.lean ====
abbrev S2048x2048 : Shape := ⟨2, ![2048, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwIdeal.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchDx.lean ====
abbrev S2048x2048 : Shape := ⟨2, ![2048, 2048]⟩
abbrev S4x1024x512 : Shape := ⟨3, ![4, 1024, 512]⟩
abbrev S2048x1024 : Shape := ⟨2, ![2048, 1024]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x1024x512, .bf16⟩
  | .hbm, ⟨2, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxIdeal.lean ====
abbrev S2048x2048 : Shape := ⟨2, ![2048, 2048]⟩
abbrev S4x1024x512 : Shape := ⟨3, ![4, 1024, 512]⟩
abbrev S2048x1024 : Shape := ⟨2, ![2048, 1024]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x1024x512, .bf16⟩
  | .hbm, ⟨2, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxRefIdeal.lean ====
abbrev S2048x2048 : Shape := ⟨2, ![2048, 2048]⟩
abbrev S4x1024x512 : Shape := ⟨3, ![4, 1024, 512]⟩
abbrev S1x1024x512 : Shape := ⟨3, ![1, 1024, 512]⟩
abbrev S1024x512 : Shape := ⟨2, ![1024, 512]⟩
abbrev S1024x2048 : Shape := ⟨2, ![1024, 2048]⟩
abbrev S_ : Shape := ⟨0, ![]⟩
abbrev S2048x1024 : Shape := ⟨2, ![2048, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x1024x512, .bf16⟩
  | .hbm, ⟨2, _⟩ => ⟨S1x1024x512, .bf16⟩
  | .hbm, ⟨3, _⟩ => ⟨S1024x512, .bf16⟩
  | .hbm, ⟨4, _⟩ => ⟨S1x1024x512, .bf16⟩
  | .hbm, ⟨5, _⟩ => ⟨S1024x512, .bf16⟩
  | .hbm, ⟨6, _⟩ => ⟨S1x1024x512, .bf16⟩
  | .hbm, ⟨7, _⟩ => ⟨S1024x512, .bf16⟩
  | .hbm, ⟨8, _⟩ => ⟨S1x1024x512, .bf16⟩
  | .hbm, ⟨9, _⟩ => ⟨S1024x512, .bf16⟩
  | .hbm, ⟨10, _⟩ => ⟨S1024x2048, .bf16⟩
  | .hbm, ⟨11, _⟩ => ⟨S_, .f32⟩
  | .hbm, ⟨12, _⟩ => ⟨S2048x1024, .f32⟩
  | .hbm, ⟨13, _⟩ => ⟨S1024x2048, .f32⟩
  | .hbm, ⟨14, _⟩ => ⟨S2048x2048, .f32⟩
  | .hbm, ⟨15, _⟩ => ⟨S2048x2048, .f32⟩
  | .hbm, ⟨16, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== BranchDw.lean ====
abbrev S2048x1024 : Shape := ⟨2, ![2048, 1024]⟩
abbrev S2048x2048 : Shape := ⟨2, ![2048, 2048]⟩
abbrev S4x1024x512 : Shape := ⟨3, ![4, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S4x1024x512, .f32⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .f32⟩
  | .local _ .vmem, ⟨4, _⟩ => ⟨S1x1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDwIdeal.lean ====
abbrev S2048x1024 : Shape := ⟨2, ![2048, 1024]⟩
abbrev S2048x2048 : Shape := ⟨2, ![2048, 2048]⟩
abbrev S4x1024x512 : Shape := ⟨3, ![4, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S4x1024x512, .f32⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .f32⟩
  | .local _ .vmem, ⟨4, _⟩ => ⟨S1x1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDwRefIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1024x4x512 : Shape := ⟨3, ![1024, 4, 512]⟩
abbrev S4x1024x512 : Shape := ⟨3, ![4, 1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S_, .f32⟩
  | .hbm, ⟨3, _⟩ => ⟨S1024x2048, .f32⟩
  | .hbm, ⟨4, _⟩ => ⟨S2048x1024, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S1024x4x512, .f32⟩
  | .hbm, ⟨10, _⟩ => ⟨S4x1024x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== In.lean ====
abbrev S2048x2048 : Shape := ⟨2, ![2048, 2048]⟩
abbrev S2048x10368 : Shape := ⟨2, ![2048, 10368]⟩
abbrev S1024x2048 : Shape := ⟨2, ![1024, 2048]⟩
abbrev S2048x1152 : Shape := ⟨2, ![2048, 1152]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x10368, .bf16⟩
  | .hbm, ⟨2, _⟩ => ⟨S2048x10368, .f32⟩
  | .local _ .vmem, ⟨0, _⟩ => ⟨S1024x2048, .bf16⟩
  | .local _ .vmem, ⟨1, _⟩ => ⟨S1024x2048, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InIdeal.lean ====
abbrev S2048x2048 : Shape := ⟨2, ![2048, 2048]⟩
abbrev S2048x10368 : Shape := ⟨2, ![2048, 10368]⟩
abbrev S1024x2048 : Shape := ⟨2, ![1024, 2048]⟩
abbrev S2048x1152 : Shape := ⟨2, ![2048, 1152]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x10368, .bf16⟩
  | .hbm, ⟨2, _⟩ => ⟨S2048x10368, .f32⟩
  | .local _ .vmem, ⟨0, _⟩ => ⟨S1024x2048, .bf16⟩
  | .local _ .vmem, ⟨1, _⟩ => ⟨S1024x2048, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S2048x2048 : Shape := ⟨2, ![2048, 2048]⟩
abbrev S2048x10368 : Shape := ⟨2, ![2048, 10368]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x10368, .bf16⟩
  | .hbm, ⟨2, _⟩ => ⟨S2048x2048, .f32⟩
  | .hbm, ⟨3, _⟩ => ⟨S2048x10368, .f32⟩
  | .hbm, ⟨4, _⟩ => ⟨S2048x10368, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Up.lean ====
abbrev S2048x2048 : Shape := ⟨2, ![2048, 2048]⟩
abbrev S4x2048x2816 : Shape := ⟨3, ![4, 2048, 2816]⟩
abbrev S2048x11264 : Shape := ⟨2, ![2048, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S2048x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpIdeal.lean ====
abbrev S2048x2048 : Shape := ⟨2, ![2048, 2048]⟩
abbrev S4x2048x2816 : Shape := ⟨3, ![4, 2048, 2816]⟩
abbrev S2048x11264 : Shape := ⟨2, ![2048, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S2048x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S2048x2048 : Shape := ⟨2, ![2048, 2048]⟩
abbrev S4x2048x2816 : Shape := ⟨3, ![4, 2048, 2816]⟩
abbrev S1x2048x2816 : Shape := ⟨3, ![1, 2048, 2816]⟩
abbrev S2048x2816 : Shape := ⟨2, ![2048, 2816]⟩
abbrev S2048x11264 : Shape := ⟨2, ![2048, 11264]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S1x2048x2816, .bf16⟩
  | .hbm, ⟨3, _⟩ => ⟨S2048x2816, .bf16⟩
  | .hbm, ⟨4, _⟩ => ⟨S1x2048x2816, .bf16⟩
  | .hbm, ⟨5, _⟩ => ⟨S2048x2816, .bf16⟩
  | .hbm, ⟨6, _⟩ => ⟨S1x2048x2816, .bf16⟩
  | .hbm, ⟨7, _⟩ => ⟨S2048x2816, .bf16⟩
  | .hbm, ⟨8, _⟩ => ⟨S1x2048x2816, .bf16⟩
  | .hbm, ⟨9, _⟩ => ⟨S2048x2816, .bf16⟩
  | .hbm, ⟨10, _⟩ => ⟨S2048x11264, .bf16⟩
  | .hbm, ⟨11, _⟩ => ⟨S2048x2048, .f32⟩
  | .hbm, ⟨12, _⟩ => ⟨S2048x11264, .f32⟩
  | .hbm, ⟨13, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Down.lean ====
abbrev S2048x5632 : Shape := ⟨2, ![2048, 5632]⟩
abbrev S5632x2048 : Shape := ⟨2, ![5632, 2048]⟩
abbrev S2048x2048 : Shape := ⟨2, ![2048, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownIdeal.lean ====
abbrev S2048x5632 : Shape := ⟨2, ![2048, 5632]⟩
abbrev S5632x2048 : Shape := ⟨2, ![5632, 2048]⟩
abbrev S2048x2048 : Shape := ⟨2, ![2048, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x5632, .f32⟩
  | .hbm, ⟨3, _⟩ => ⟨S5632x2048, .f32⟩
  | .hbm, ⟨4, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Out.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutIdeal.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Branch.lean ====
abbrev S2048x1024 : Shape := ⟨2, ![2048, 1024]⟩
abbrev S4x1024x512 : Shape := ⟨3, ![4, 1024, 512]⟩
abbrev S2048x2048 : Shape := ⟨2, ![2048, 2048]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S4x1024x512, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .f32⟩
  | .local _ .vmem, ⟨5, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchIdeal.lean ====
abbrev S2048x1024 : Shape := ⟨2, ![2048, 1024]⟩
abbrev S4x1024x512 : Shape := ⟨3, ![4, 1024, 512]⟩
abbrev S2048x2048 : Shape := ⟨2, ![2048, 2048]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S4x1024x512, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .f32⟩
  | .local _ .vmem, ⟨5, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRefIdeal.lean ====
abbrev S2048x1024 : Shape := ⟨2, ![2048, 1024]⟩
abbrev S4x1024x512 : Shape := ⟨3, ![4, 1024, 512]⟩
abbrev S1x1024x512 : Shape := ⟨3, ![1, 1024, 512]⟩
abbrev S1024x512 : Shape := ⟨2, ![1024, 512]⟩
abbrev S1024x2048 : Shape := ⟨2, ![1024, 2048]⟩
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x512, .bf16⟩
  | .hbm, ⟨2, _⟩ => ⟨S1x1024x512, .bf16⟩
  | .hbm, ⟨3, _⟩ => ⟨S1024x512, .bf16⟩
  | .hbm, ⟨4, _⟩ => ⟨S1x1024x512, .bf16⟩
  | .hbm, ⟨5, _⟩ => ⟨S1024x512, .bf16⟩
  | .hbm, ⟨6, _⟩ => ⟨S1x1024x512, .bf16⟩
  | .hbm, ⟨7, _⟩ => ⟨S1024x512, .bf16⟩
  | .hbm, ⟨8, _⟩ => ⟨S1x1024x512, .bf16⟩
  | .hbm, ⟨9, _⟩ => ⟨S1024x512, .bf16⟩
  | .hbm, ⟨10, _⟩ => ⟨S1024x2048, .bf16⟩
  | .hbm, ⟨11, _⟩ => ⟨S2048x1024, .f32⟩
  | .hbm, ⟨12, _⟩ => ⟨S1024x2048, .f32⟩
  | .hbm, ⟨13, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== StepIn.lean ====
abbrev S2048x2564 : Shape := ⟨2, ![2048, 2564]⟩
abbrev S64x2564 : Shape := ⟨2, ![64, 2564]⟩

abbrev nBuf : Space → Nat
  | .hbm => 8
  | .vmem => 16
  | .smem => 0
  | _ => 0

abbrev bufTy : (tb : Table) → Fin (tcTables nBuf tb) → BufTy
  | .hbm, ⟨0, _⟩ => ⟨S2048x2564, .f32⟩
  | .hbm, ⟨1, _⟩ => ⟨S2048x2564, .f32⟩
  | .hbm, ⟨2, _⟩ => ⟨S2048x2564, .f32⟩
  | .hbm, ⟨3, _⟩ => ⟨S2048x2564, .f32⟩
  | .hbm, ⟨4, _⟩ => ⟨S2048x2564, .f32⟩
  | .hbm, ⟨5, _⟩ => ⟨S2048x2564, .f32⟩
  | .hbm, ⟨6, _⟩ => ⟨S2048x2564, .f32⟩
  | .hbm, ⟨7, _⟩ => ⟨S2048x2564, .f32⟩
  | .local _ .vmem, ⟨0, _⟩ => ⟨S64x2564, .f32⟩
  | .local _ .vmem, ⟨1, _⟩ => ⟨S64x2564, .f32⟩
  | .local _ .vmem, ⟨2, _⟩ => ⟨S64x2564, .f32⟩
  | .local _ .vmem, ⟨3, _⟩ => ⟨S64x2564, .f32⟩
  | .local _ .vmem, ⟨4, _⟩ => ⟨S64x2564, .f32⟩
  | .local _ .vmem, ⟨5, _⟩ => ⟨S64x2564, .f32⟩
  | .local _ .vmem, ⟨6, _⟩ => ⟨S64x2564, .f32⟩
  | .local _ .vmem, ⟨7, _⟩ => ⟨S64x2564, .f32⟩
  | .local _ .vmem, ⟨8, _⟩ => ⟨S64x2564, .f32⟩
  | .local _ .vmem, ⟨9, _⟩ => ⟨S64x2564, .f32⟩
  | .local _ .vmem, ⟨10, _⟩ => ⟨S64x2564, .f32⟩
  | .local _ .vmem, ⟨11, _⟩ => ⟨S64x2564, .f32⟩
  | .local _ .vmem, ⟨12, _⟩ => ⟨S64x2564, .f32⟩
  | .local _ .vmem, ⟨13, _⟩ => ⟨S64x2564, .f32⟩
  | .local _ .vmem, ⟨14, _⟩ => ⟨S64x2564, .f32⟩
  | .local _ .vmem, ⟨15, _⟩ => ⟨S64x2564, .f32⟩
  | _, _ => ⟨S2048x2564, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2564 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2564 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2564 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2564 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2564 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2564 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2564 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2564 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepInIdeal.lean ====
abbrev S2048x2564 : Shape := ⟨2, ![2048, 2564]⟩
abbrev S64x2564 : Shape := ⟨2, ![64, 2564]⟩

abbrev nBuf : Space → Nat
  | .hbm => 8
  | .vmem => 16
  | .smem => 0
  | _ => 0

abbrev bufTy : (tb : Table) → Fin (tcTables nBuf tb) → BufTy
  | .hbm, ⟨0, _⟩ => ⟨S2048x2564, .f32⟩
  | .hbm, ⟨1, _⟩ => ⟨S2048x2564, .f32⟩
  | .hbm, ⟨2, _⟩ => ⟨S2048x2564, .f32⟩
  | .hbm, ⟨3, _⟩ => ⟨S2048x2564, .f32⟩
  | .hbm, ⟨4, _⟩ => ⟨S2048x2564, .f32⟩
  | .hbm, ⟨5, _⟩ => ⟨S2048x2564, .f32⟩
  | .hbm, ⟨6, _⟩ => ⟨S2048x2564, .f32⟩
  | .hbm, ⟨7, _⟩ => ⟨S2048x2564, .f32⟩
  | .local _ .vmem, ⟨0, _⟩ => ⟨S64x2564, .f32⟩
  | .local _ .vmem, ⟨1, _⟩ => ⟨S64x2564, .f32⟩
  | .local _ .vmem, ⟨2, _⟩ => ⟨S64x2564, .f32⟩
  | .local _ .vmem, ⟨3, _⟩ => ⟨S64x2564, .f32⟩
  | .local _ .vmem, ⟨4, _⟩ => ⟨S64x2564, .f32⟩
  | .local _ .vmem, ⟨5, _⟩ => ⟨S64x2564, .f32⟩
  | .local _ .vmem, ⟨6, _⟩ => ⟨S64x2564, .f32⟩
  | .local _ .vmem, ⟨7, _⟩ => ⟨S64x2564, .f32⟩
  | .local _ .vmem, ⟨8, _⟩ => ⟨S64x2564, .f32⟩
  | .local _ .vmem, ⟨9, _⟩ => ⟨S64x2564, .f32⟩
  | .local _ .vmem, ⟨10, _⟩ => ⟨S64x2564, .f32⟩
  | .local _ .vmem, ⟨11, _⟩ => ⟨S64x2564, .f32⟩
  | .local _ .vmem, ⟨12, _⟩ => ⟨S64x2564, .f32⟩
  | .local _ .vmem, ⟨13, _⟩ => ⟨S64x2564, .f32⟩
  | .local _ .vmem, ⟨14, _⟩ => ⟨S64x2564, .f32⟩
  | .local _ .vmem, ⟨15, _⟩ => ⟨S64x2564, .f32⟩
  | _, _ => ⟨S2048x2564, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2564 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2564 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2564 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2564 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2564 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2564 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2564 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2564 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepInRefIdeal.lean ====
abbrev S2048x2564 : Shape := ⟨2, ![2048, 2564]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2564, .f32⟩
  | .hbm, ⟨1, _⟩ => ⟨S2048x2564, .f32⟩
  | .hbm, ⟨2, _⟩ => ⟨S2048x2564, .f32⟩
  | .hbm, ⟨3, _⟩ => ⟨S2048x2564, .f32⟩
  | .hbm, ⟨4, _⟩ => ⟨S_, .f32⟩
  | .hbm, ⟨5, _⟩ => ⟨S2048x2564, .f32⟩
  | .hbm, ⟨6, _⟩ => ⟨S2048x2564, .f32⟩
  | .hbm, ⟨7, _⟩ => ⟨S_, .f32⟩
  | .hbm, ⟨8, _⟩ => ⟨S2048x2564, .f32⟩
  | .hbm, ⟨9, _⟩ => ⟨S2048x2564, .f32⟩
  | .hbm, ⟨10, _⟩ => ⟨S2048x2564, .f32⟩
  | .hbm, ⟨11, _⟩ => ⟨S_, .f32⟩
  | .hbm, ⟨12, _⟩ => ⟨S2048x2564, .f32⟩
  | .hbm, ⟨13, _⟩ => ⟨S2048x2564, .f32⟩
  | .hbm, ⟨14, _⟩ => ⟨S2048x2564, .f32⟩
  | .hbm, ⟨15, _⟩ => ⟨S_, .f32⟩
  | .hbm, ⟨16, _⟩ => ⟨S2048x2564, .f32⟩
  | .hbm, ⟨17, _⟩ => ⟨S2048x2564, .f32⟩
  | .hbm, ⟨18, _⟩ => ⟨S2048x2564, .f32⟩
  | .hbm, ⟨19, _⟩ => ⟨S_, .f32⟩
  | .hbm, ⟨20, _⟩ => ⟨S2048x2564, .f32⟩
  | .hbm, ⟨21, _⟩ => ⟨S2048x2564, .f32⟩
  | .hbm, ⟨22, _⟩ => ⟨S_, .f32⟩
  | .hbm, ⟨23, _⟩ => ⟨S2048x2564, .f32⟩
  | .hbm, ⟨24, _⟩ => ⟨S2048x2564, .f32⟩
  | .hbm, ⟨25, _⟩ => ⟨S2048x2564, .f32⟩
  | .hbm, ⟨26, _⟩ => ⟨S_, .f32⟩
  | .hbm, ⟨27, _⟩ => ⟨S2048x2564, .f32⟩
  | .hbm, ⟨28, _⟩ => ⟨S2048x2564, .f32⟩
  | .hbm, ⟨29, _⟩ => ⟨S2048x2564, .f32⟩
  | .hbm, ⟨30, _⟩ => ⟨S_, .f32⟩
  | .hbm, ⟨31, _⟩ => ⟨S2048x2564, .f32⟩
  | .hbm, ⟨32, _⟩ => ⟨S2048x2564, .f32⟩
  | .hbm, ⟨33, _⟩ => ⟨S2048x2564, .f32⟩
  | .hbm, ⟨34, _⟩ => ⟨S_, .f32⟩
  | .hbm, ⟨35, _⟩ => ⟨S2048x2564, .f32⟩
  | .hbm, ⟨36, _⟩ => ⟨S2048x2564, .f32⟩
  | _, _ => ⟨S2048x2564, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepAda.lean ====
abbrev S2048x3072 : Shape := ⟨2, ![2048, 3072]⟩
abbrev S64x3072 : Shape := ⟨2, ![64, 3072]⟩

abbrev nBuf : Space → Nat
  | .hbm => 7
  | .vmem => 14
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S2048x3072, .f32⟩
  | .hbm, ⟨6, _⟩ => ⟨S2048x3072, .f32⟩
  | .local _ .vmem, ⟨0, _⟩ => ⟨S64x3072, .f32⟩
  | .local _ .vmem, ⟨1, _⟩ => ⟨S64x3072, .f32⟩
  | .local _ .vmem, ⟨2, _⟩ => ⟨S64x3072, .f32⟩
  | .local _ .vmem, ⟨3, _⟩ => ⟨S64x3072, .f32⟩
  | .local _ .vmem, ⟨4, _⟩ => ⟨S64x3072, .f32⟩
  | .local _ .vmem, ⟨5, _⟩ => ⟨S64x3072, .f32⟩
  | .local _ .vmem, ⟨6, _⟩ => ⟨S64x3072, .f32⟩
  | .local _ .vmem, ⟨7, _⟩ => ⟨S64x3072, .f32⟩
  | .local _ .vmem, ⟨8, _⟩ => ⟨S64x3072, .f32⟩
  | .local _ .vmem, ⟨9, _⟩ => ⟨S64x3072, .f32⟩
  | .local _ .vmem, ⟨10, _⟩ => ⟨S64x3072, .f32⟩
  | .local _ .vmem, ⟨11, _⟩ => ⟨S64x3072, .f32⟩
  | .local _ .vmem, ⟨12, _⟩ => ⟨S64x3072, .f32⟩
  | .local _ .vmem, ⟨13, _⟩ => ⟨S64x3072, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepAdaIdeal.lean ====
abbrev S2048x3072 : Shape := ⟨2, ![2048, 3072]⟩
abbrev S64x3072 : Shape := ⟨2, ![64, 3072]⟩

abbrev nBuf : Space → Nat
  | .hbm => 7
  | .vmem => 14
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S2048x3072, .f32⟩
  | .hbm, ⟨6, _⟩ => ⟨S2048x3072, .f32⟩
  | .local _ .vmem, ⟨0, _⟩ => ⟨S64x3072, .f32⟩
  | .local _ .vmem, ⟨1, _⟩ => ⟨S64x3072, .f32⟩
  | .local _ .vmem, ⟨2, _⟩ => ⟨S64x3072, .f32⟩
  | .local _ .vmem, ⟨3, _⟩ => ⟨S64x3072, .f32⟩
  | .local _ .vmem, ⟨4, _⟩ => ⟨S64x3072, .f32⟩
  | .local _ .vmem, ⟨5, _⟩ => ⟨S64x3072, .f32⟩
  | .local _ .vmem, ⟨6, _⟩ => ⟨S64x3072, .f32⟩
  | .local _ .vmem, ⟨7, _⟩ => ⟨S64x3072, .f32⟩
  | .local _ .vmem, ⟨8, _⟩ => ⟨S64x3072, .f32⟩
  | .local _ .vmem, ⟨9, _⟩ => ⟨S64x3072, .f32⟩
  | .local _ .vmem, ⟨10, _⟩ => ⟨S64x3072, .f32⟩
  | .local _ .vmem, ⟨11, _⟩ => ⟨S64x3072, .f32⟩
  | .local _ .vmem, ⟨12, _⟩ => ⟨S64x3072, .f32⟩
  | .local _ .vmem, ⟨13, _⟩ => ⟨S64x3072, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepAdaRefIdeal.lean ====
abbrev S2048x3072 : Shape := ⟨2, ![2048, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S_, .f32⟩
  | .hbm, ⟨5, _⟩ => ⟨S2048x3072, .f32⟩
  | .hbm, ⟨6, _⟩ => ⟨S2048x3072, .f32⟩
  | .hbm, ⟨7, _⟩ => ⟨S_, .f32⟩
  | .hbm, ⟨8, _⟩ => ⟨S2048x3072, .f32⟩
  | .hbm, ⟨9, _⟩ => ⟨S2048x3072, .f32⟩
  | .hbm, ⟨10, _⟩ => ⟨S2048x3072, .f32⟩
  | .hbm, ⟨11, _⟩ => ⟨S_, .f32⟩
  | .hbm, ⟨12, _⟩ => ⟨S2048x3072, .f32⟩
  | .hbm, ⟨13, _⟩ => ⟨S2048x3072, .f32⟩
  | .hbm, ⟨14, _⟩ => ⟨S2048x3072, .f32⟩
  | .hbm, ⟨15, _⟩ => ⟨S_, .f32⟩
  | .hbm, ⟨16, _⟩ => ⟨S2048x3072, .f32⟩
  | .hbm, ⟨17, _⟩ => ⟨S2048x3072, .f32⟩
  | .hbm, ⟨18, _⟩ => ⟨S2048x3072, .f32⟩
  | .hbm, ⟨19, _⟩ => ⟨S_, .f32⟩
  | .hbm, ⟨20, _⟩ => ⟨S2048x3072, .f32⟩
  | .hbm, ⟨21, _⟩ => ⟨S2048x3072, .f32⟩
  | .hbm, ⟨22, _⟩ => ⟨S_, .f32⟩
  | .hbm, ⟨23, _⟩ => ⟨S2048x3072, .f32⟩
  | .hbm, ⟨24, _⟩ => ⟨S2048x3072, .f32⟩
  | .hbm, ⟨25, _⟩ => ⟨S2048x3072, .f32⟩
  | .hbm, ⟨26, _⟩ => ⟨S_, .f32⟩
  | .hbm, ⟨27, _⟩ => ⟨S2048x3072, .f32⟩
  | .hbm, ⟨28, _⟩ => ⟨S2048x3072, .f32⟩
  | .hbm, ⟨29, _⟩ => ⟨S2048x3072, .f32⟩
  | .hbm, ⟨30, _⟩ => ⟨S_, .f32⟩
  | .hbm, ⟨31, _⟩ => ⟨S2048x3072, .f32⟩
  | .hbm, ⟨32, _⟩ => ⟨S2048x3072, .f32⟩
  | .hbm, ⟨33, _⟩ => ⟨S2048x3072, .f32⟩
  | .hbm, ⟨34, _⟩ => ⟨S_, .f32⟩
  | .hbm, ⟨35, _⟩ => ⟨S2048x3072, .f32⟩
  | .hbm, ⟨36, _⟩ => ⟨S2048x3072, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepBranch.lean ====
abbrev S1024x512 : Shape := ⟨2, ![1024, 512]⟩
abbrev S512x512 : Shape := ⟨2, ![512, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepBranchIdeal.lean ====
abbrev S1024x512 : Shape := ⟨2, ![1024, 512]⟩
abbrev S512x512 : Shape := ⟨2, ![512, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepBranchRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepOut.lean ====
abbrev S512x2048 : Shape := ⟨2, ![512, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepOutIdeal.lean ====
abbrev S512x2048 : Shape := ⟨2, ![512, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepOutRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepUp.lean ====
abbrev S2048x2816 : Shape := ⟨2, ![2048, 2816]⟩
abbrev S64x2816 : Shape := ⟨2, ![64, 2816]⟩

abbrev nBuf : Space → Nat
  | .hbm => 8
  | .vmem => 16
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .local _ .vmem, ⟨0, _⟩ => ⟨S64x2816, .f32⟩
  | .local _ .vmem, ⟨1, _⟩ => ⟨S64x2816, .f32⟩
  | .local _ .vmem, ⟨2, _⟩ => ⟨S64x2816, .f32⟩
  | .local _ .vmem, ⟨3, _⟩ => ⟨S64x2816, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S64x2816, .f32⟩
  | .local _ .vmem, ⟨9, _⟩ => ⟨S64x2816, .f32⟩
  | .local _ .vmem, ⟨10, _⟩ => ⟨S64x2816, .f32⟩
  | .local _ .vmem, ⟨11, _⟩ => ⟨S64x2816, .f32⟩
  | .local _ .vmem, ⟨12, _⟩ => ⟨S64x2816, .f32⟩
  | .local _ .vmem, ⟨13, _⟩ => ⟨S64x2816, .f32⟩
  | .local _ .vmem, ⟨14, _⟩ => ⟨S64x2816, .f32⟩
  | .local _ .vmem, ⟨15, _⟩ => ⟨S64x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepUpIdeal.lean ====
abbrev S2048x2816 : Shape := ⟨2, ![2048, 2816]⟩
abbrev S64x2816 : Shape := ⟨2, ![64, 2816]⟩

abbrev nBuf : Space → Nat
  | .hbm => 8
  | .vmem => 16
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .local _ .vmem, ⟨0, _⟩ => ⟨S64x2816, .f32⟩
  | .local _ .vmem, ⟨1, _⟩ => ⟨S64x2816, .f32⟩
  | .local _ .vmem, ⟨2, _⟩ => ⟨S64x2816, .f32⟩
  | .local _ .vmem, ⟨3, _⟩ => ⟨S64x2816, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S64x2816, .f32⟩
  | .local _ .vmem, ⟨9, _⟩ => ⟨S64x2816, .f32⟩
  | .local _ .vmem, ⟨10, _⟩ => ⟨S64x2816, .f32⟩
  | .local _ .vmem, ⟨11, _⟩ => ⟨S64x2816, .f32⟩
  | .local _ .vmem, ⟨12, _⟩ => ⟨S64x2816, .f32⟩
  | .local _ .vmem, ⟨13, _⟩ => ⟨S64x2816, .f32⟩
  | .local _ .vmem, ⟨14, _⟩ => ⟨S64x2816, .f32⟩
  | .local _ .vmem, ⟨15, _⟩ => ⟨S64x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepUpRefIdeal.lean ====
abbrev S2048x2816 : Shape := ⟨2, ![2048, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepDown.lean ====
abbrev S1408x2048 : Shape := ⟨2, ![1408, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepDownRefIdeal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepSmall.lean ====
abbrev S1x12288 : Shape := ⟨2, ![1, 12288]⟩
abbrev S1x2048 : Shape := ⟨2, ![1, 2048]⟩
abbrev S1x4x768 : Shape := ⟨3, ![1, 4, 768]⟩
abbrev S1x8 : Shape := ⟨2, ![1, 8]⟩
abbrev S1x128 : Shape := ⟨2, ![1, 128]⟩
abbrev S1x31x256 : Shape := ⟨3, ![1, 31, 256]⟩
abbrev S1x1024 : Shape := ⟨2, ![1, 1024]⟩
abbrev S1x3x1408 : Shape := ⟨3, ![1, 3, 1408]⟩
abbrev S2048 : Shape := ⟨1, ![2048]⟩
abbrev S12288 : Shape := ⟨1, ![12288]⟩
abbrev S3072 : Shape := ⟨1, ![3072]⟩
abbrev S8 : Shape := ⟨1, ![8]⟩
abbrev S128 : Shape := ⟨1, ![128]⟩
abbrev S7936 : Shape := ⟨1, ![7936]⟩
abbrev S1024 : Shape := ⟨1, ![1024]⟩
abbrev S4224 : Shape := ⟨1, ![4224]⟩
abbrev S35856 : Shape := ⟨1, ![35856]⟩
abbrev S_ : Shape := ⟨0, ![]⟩
abbrev S36864 : Shape := ⟨1, ![36864]⟩
abbrev S288x128 : Shape := ⟨2, ![288, 128]⟩

abbrev nBuf : Space → Nat
  | .hbm => 115
  | .vmem => 7
  | .smem => 0
  | _ => 0

abbrev bufTy : (tb : Table) → Fin (tcTables nBuf tb) → BufTy
  | .hbm, ⟨0, _⟩ => ⟨S1x12288, .f32⟩
  | .hbm, ⟨1, _⟩ => ⟨S1x12288, .f32⟩
  | .hbm, ⟨2, _⟩ => ⟨S1x12288, .f32⟩
  | .hbm, ⟨3, _⟩ => ⟨S1x12288, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x4x768, .f32⟩
  | .hbm, ⟨9, _⟩ => ⟨S1x4x768, .f32⟩
  | .hbm, ⟨10, _⟩ => ⟨S1x4x768, .f32⟩
  | .hbm, ⟨11, _⟩ => ⟨S1x4x768, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S1x8, .f32⟩
  | .hbm, ⟨16, _⟩ => ⟨S1x8, .f32⟩
  | .hbm, ⟨17, _⟩ => ⟨S1x8, .f32⟩
  | .hbm, ⟨18, _⟩ => ⟨S1x8, .f32⟩
  | .hbm, ⟨19, _⟩ => ⟨S1x8, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x31x256, .f32⟩
  | .hbm, ⟨25, _⟩ => ⟨S1x31x256, .f32⟩
  | .hbm, ⟨26, _⟩ => ⟨S1x31x256, .f32⟩
  | .hbm, ⟨27, _⟩ => ⟨S1x31x256, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x2048, .f32⟩
  | .hbm, ⟨37, _⟩ => ⟨S1x2048, .f32⟩
  | .hbm, ⟨38, _⟩ => ⟨S1x2048, .f32⟩
  | .hbm, ⟨39, _⟩ => ⟨S1x2048, .f32⟩
  | .hbm, ⟨40, _⟩ => ⟨S1x3x1408, .f32⟩
  | .hbm, ⟨41, _⟩ => ⟨S1x3x1408, .f32⟩
  | .hbm, ⟨42, _⟩ => ⟨S1x3x1408, .f32⟩
  | .hbm, ⟨43, _⟩ => ⟨S1x3x1408, .f32⟩
  | .hbm, ⟨44, _⟩ => ⟨S2048, .f32⟩
  | .hbm, ⟨45, _⟩ => ⟨S2048, .f32⟩
  | .hbm, ⟨46, _⟩ => ⟨S2048, .f32⟩
  | .hbm, ⟨47, _⟩ => ⟨S2048, .f32⟩
  | .hbm, ⟨48, _⟩ => ⟨S12288, .f32⟩
  | .hbm, ⟨49, _⟩ => ⟨S2048, .f32⟩
  | .hbm, ⟨50, _⟩ => ⟨S3072, .f32⟩
  | .hbm, ⟨51, _⟩ => ⟨S8, .f32⟩
  | .hbm, ⟨52, _⟩ => ⟨S8, .f32⟩
  | .hbm, ⟨53, _⟩ => ⟨S128, .f32⟩
  | .hbm, ⟨54, _⟩ => ⟨S7936, .f32⟩
  | .hbm, ⟨55, _⟩ => ⟨S1024, .f32⟩
  | .hbm, ⟨56, _⟩ => ⟨S1024, .f32⟩
  | .hbm, ⟨57, _⟩ => ⟨S2048, .f32⟩
  | .hbm, ⟨58, _⟩ => ⟨S4224, .f32⟩
  | .hbm, ⟨59, _⟩ => ⟨S35856, .f32⟩
  | .hbm, ⟨60, _⟩ => ⟨S_, .i32⟩
  | .hbm, ⟨61, _⟩ => ⟨S_, .f32⟩
  | .hbm, ⟨62, _⟩ => ⟨S36864, .f32⟩
  | .hbm, ⟨63, _⟩ => ⟨S288x128, .f32⟩
  | .hbm, ⟨64, _⟩ => ⟨S12288, .f32⟩
  | .hbm, ⟨65, _⟩ => ⟨S2048, .f32⟩
  | .hbm, ⟨66, _⟩ => ⟨S3072, .f32⟩
  | .hbm, ⟨67, _⟩ => ⟨S8, .f32⟩
  | .hbm, ⟨68, _⟩ => ⟨S8, .f32⟩
  | .hbm, ⟨69, _⟩ => ⟨S128, .f32⟩
  | .hbm, ⟨70, _⟩ => ⟨S7936, .f32⟩
  | .hbm, ⟨71, _⟩ => ⟨S1024, .f32⟩
  | .hbm, ⟨72, _⟩ => ⟨S1024, .f32⟩
  | .hbm, ⟨73, _⟩ => ⟨S2048, .f32⟩
  | .hbm, ⟨74, _⟩ => ⟨S4224, .f32⟩
  | .hbm, ⟨75, _⟩ => ⟨S35856, .f32⟩
  | .hbm, ⟨76, _⟩ => ⟨S_, .i32⟩
  | .hbm, ⟨77, _⟩ => ⟨S_, .f32⟩
  | .hbm, ⟨78, _⟩ => ⟨S36864, .f32⟩
  | .hbm, ⟨79, _⟩ => ⟨S288x128, .f32⟩
  | .hbm, ⟨80, _⟩ => ⟨S12288, .f32⟩
  | .hbm, ⟨81, _⟩ => ⟨S2048, .f32⟩
  | .hbm, ⟨82, _⟩ => ⟨S3072, .f32⟩
  | .hbm, ⟨83, _⟩ => ⟨S8, .f32⟩
  | .hbm, ⟨84, _⟩ => ⟨S8, .f32⟩
  | .hbm, ⟨85, _⟩ => ⟨S128, .f32⟩
  | .hbm, ⟨86, _⟩ => ⟨S7936, .f32⟩
  | .hbm, ⟨87, _⟩ => ⟨S1024, .f32⟩
  | .hbm, ⟨88, _⟩ => ⟨S1024, .f32⟩
  | .hbm, ⟨89, _⟩ => ⟨S2048, .f32⟩
  | .hbm, ⟨90, _⟩ => ⟨S4224, .f32⟩
  | .hbm, ⟨91, _⟩ => ⟨S35856, .f32⟩
  | .hbm, ⟨92, _⟩ => ⟨S_, .i32⟩
  | .hbm, ⟨93, _⟩ => ⟨S_, .f32⟩
  | .hbm, ⟨94, _⟩ => ⟨S36864, .f32⟩
  | .hbm, ⟨95, _⟩ => ⟨S288x128, .f32⟩
  | .hbm, ⟨96, _⟩ => ⟨S12288, .f32⟩
  | .hbm, ⟨97, _⟩ => ⟨S2048, .f32⟩
  | .hbm, ⟨98, _⟩ => ⟨S3072, .f32⟩
  | .hbm, ⟨99, _⟩ => ⟨S8, .f32⟩
  | .hbm, ⟨100, _⟩ => ⟨S8, .f32⟩
  | .hbm, ⟨101, _⟩ => ⟨S128, .f32⟩
  | .hbm, ⟨102, _⟩ => ⟨S7936, .f32⟩
  | .hbm, ⟨103, _⟩ => ⟨S1024, .f32⟩
  | .hbm, ⟨104, _⟩ => ⟨S1024, .f32⟩
  | .hbm, ⟨105, _⟩ => ⟨S2048, .f32⟩
  | .hbm, ⟨106, _⟩ => ⟨S4224, .f32⟩
  | .hbm, ⟨107, _⟩ => ⟨S35856, .f32⟩
  | .hbm, ⟨108, _⟩ => ⟨S_, .i32⟩
  | .hbm, ⟨109, _⟩ => ⟨S_, .f32⟩
  | .hbm, ⟨110, _⟩ => ⟨S36864, .f32⟩
  | .hbm, ⟨111, _⟩ => ⟨S288x128, .f32⟩
  | .hbm, ⟨112, _⟩ => ⟨S288x128, .f32⟩
  | .hbm, ⟨113, _⟩ => ⟨S288x128, .f32⟩
  | .hbm, ⟨114, _⟩ => ⟨S288x128, .f32⟩
  | .local _ .vmem, ⟨0, _⟩ => ⟨S288x128, .f32⟩
  | .local _ .vmem, ⟨1, _⟩ => ⟨S288x128, .f32⟩
  | .local _ .vmem, ⟨2, _⟩ => ⟨S288x128, .f32⟩
  | .local _ .vmem, ⟨3, _⟩ => ⟨S288x128, .f32⟩
  | .local _ .vmem, ⟨4, _⟩ => ⟨S288x128, .f32⟩
  | .local _ .vmem, ⟨5, _⟩ => ⟨S288x128, .f32⟩
  | .local _ .vmem, ⟨6, _⟩ => ⟨S288x128, .f32⟩
  | _, _ => ⟨S1x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_v0 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_c : Ref sig .tc := ⟨.hbm, 60, rfl⟩
abbrev main_call0_v0 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_c_0 : Ref sig .tc := ⟨.hbm, 76, rfl⟩
abbrev main_call1_v0 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_c_1 : Ref sig .tc := ⟨.hbm, 92, rfl⟩
abbrev main_call2_v0 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_c_2 : Ref sig .tc := ⟨.hbm, 108, rfl⟩
abbrev main_call3_v0 : Ref sig .tc := ⟨.hbm, 109, rfl⟩
abbrev main_v54 : Ref sig .tc := ⟨.hbm, 110, rfl⟩
abbrev main_v55 : Ref sig .tc := ⟨.hbm, 111, rfl⟩
abbrev main_v56_0 : Ref sig .tc := ⟨.hbm, 112, rfl⟩
abbrev main_v56_1 : Ref sig .tc := ⟨.hbm, 113, rfl⟩
abbrev main_v56_2 : Ref sig .tc := ⟨.hbm, 114, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S288x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S288x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S288x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S288x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S288x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S288x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S288x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepSmallRefIdeal.lean ====
abbrev S1x12288 : Shape := ⟨2, ![1, 12288]⟩
abbrev S1x2048 : Shape := ⟨2, ![1, 2048]⟩
abbrev S1x4x768 : Shape := ⟨3, ![1, 4, 768]⟩
abbrev S1x8 : Shape := ⟨2, ![1, 8]⟩
abbrev S1x128 : Shape := ⟨2, ![1, 128]⟩
abbrev S1x31x256 : Shape := ⟨3, ![1, 31, 256]⟩
abbrev S1x1024 : Shape := ⟨2, ![1, 1024]⟩
abbrev S1x3x1408 : Shape := ⟨3, ![1, 3, 1408]⟩
abbrev S2048 : Shape := ⟨1, ![2048]⟩
abbrev S_ : Shape := ⟨0, ![]⟩
abbrev S12288 : Shape := ⟨1, ![12288]⟩
abbrev S3072 : Shape := ⟨1, ![3072]⟩
abbrev S8 : Shape := ⟨1, ![8]⟩
abbrev S128 : Shape := ⟨1, ![128]⟩
abbrev S7936 : Shape := ⟨1, ![7936]⟩
abbrev S1024 : Shape := ⟨1, ![1024]⟩
abbrev S4224 : Shape := ⟨1, ![4224]⟩
abbrev S35856 : Shape := ⟨1, ![35856]⟩
abbrev S36864 : Shape := ⟨1, ![36864]⟩
abbrev S288x128 : Shape := ⟨2, ![288, 128]⟩

abbrev nBuf : Space → Nat
  | .hbm => 492
  | .vmem => 0
  | .smem => 0
  | _ => 0

abbrev hbmTy0_0 (i : Nat) : BufTy := match i % 128 with
  | 0 => ⟨S1x12288, .f32⟩
  | 1 => ⟨S1x12288, .f32⟩
  | 2 => ⟨S1x12288, .f32⟩
  | 3 => ⟨S1x12288, .f32⟩
  | 4 => ⟨S1x2048, .f32⟩
  | 5 => ⟨S1x2048, .f32⟩
  | 6 => ⟨S1x2048, .f32⟩
  | 7 => ⟨S1x2048, .f32⟩
  | 8 => ⟨S1x4x768, .f32⟩
  | 9 => ⟨S1x4x768, .f32⟩
  | 10 => ⟨S1x4x768, .f32⟩
  | 11 => ⟨S1x4x768, .f32⟩
  | 12 => ⟨S1x8, .f32⟩
  | 13 => ⟨S1x8, .f32⟩
  | 14 => ⟨S1x8, .f32⟩
  | 15 => ⟨S1x8, .f32⟩
  | 16 => ⟨S1x8, .f32⟩
  | 17 => ⟨S1x8, .f32⟩
  | 18 => ⟨S1x8, .f32⟩
  | 19 => ⟨S1x8, .f32⟩
  | 20 => ⟨S1x128, .f32⟩
  | 21 => ⟨S1x128, .f32⟩
  | 22 => ⟨S1x128, .f32⟩
  | 23 => ⟨S1x128, .f32⟩
  | 24 => ⟨S1x31x256, .f32⟩
  | 25 => ⟨S1x31x256, .f32⟩
  | 26 => ⟨S1x31x256, .f32⟩
  | 27 => ⟨S1x31x256, .f32⟩
  | 28 => ⟨S1x1024, .f32⟩
  | 29 => ⟨S1x1024, .f32⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S1x2048, .f32⟩
  | 37 => ⟨S1x2048, .f32⟩
  | 38 => ⟨S1x2048, .f32⟩
  | 39 => ⟨S1x2048, .f32⟩
  | 40 => ⟨S1x3x1408, .f32⟩
  | 41 => ⟨S1x3x1408, .f32⟩
  | 42 => ⟨S1x3x1408, .f32⟩
  | 43 => ⟨S1x3x1408, .f32⟩
  | 44 => ⟨S2048, .f32⟩
  | 45 => ⟨S2048, .f32⟩
  | 46 => ⟨S2048, .f32⟩
  | 47 => ⟨S2048, .f32⟩
  | 48 => ⟨S_, .f32⟩
  | 49 => ⟨S1x12288, .f32⟩
  | 50 => ⟨S1x12288, .f32⟩
  | 51 => ⟨S_, .f32⟩
  | 52 => ⟨S1x12288, .f32⟩
  | 53 => ⟨S1x12288, .f32⟩
  | 54 => ⟨S1x12288, .f32⟩
  | 55 => ⟨S_, .f32⟩
  | 56 => ⟨S1x12288, .f32⟩
  | 57 => ⟨S1x12288, .f32⟩
  | 58 => ⟨S1x12288, .f32⟩
  | 59 => ⟨S_, .f32⟩
  | 60 => ⟨S1x12288, .f32⟩
  | 61 => ⟨S1x12288, .f32⟩
  | 62 => ⟨S1x12288, .f32⟩
  | 63 => ⟨S_, .f32⟩
  | 64 => ⟨S1x12288, .f32⟩
  | 65 => ⟨S1x12288, .f32⟩
  | 66 => ⟨S_, .f32⟩
  | 67 => ⟨S1x12288, .f32⟩
  | 68 => ⟨S1x12288, .f32⟩
  | 69 => ⟨S1x12288, .f32⟩
  | 70 => ⟨S_, .f32⟩
  | 71 => ⟨S1x12288, .f32⟩
  | 72 => ⟨S1x12288, .f32⟩
  | 73 => ⟨S1x12288, .f32⟩
  | 74 => ⟨S_, .f32⟩
  | 75 => ⟨S1x12288, .f32⟩
  | 76 => ⟨S1x12288, .f32⟩
  | 77 => ⟨S1x12288, .f32⟩
  | 78 => ⟨S_, .f32⟩
  | 79 => ⟨S1x12288, .f32⟩
  | 80 => ⟨S1x12288, .f32⟩
  | 81 => ⟨S_, .f32⟩
  | 82 => ⟨S1x2048, .f32⟩
  | 83 => ⟨S1x2048, .f32⟩
  | 84 => ⟨S_, .f32⟩
  | 85 => ⟨S1x2048, .f32⟩
  | 86 => ⟨S1x2048, .f32⟩
  | 87 => ⟨S1x2048, .f32⟩
  | 88 => ⟨S_, .f32⟩
  | 89 => ⟨S1x2048, .f32⟩
  | 90 => ⟨S1x2048, .f32⟩
  | 91 => ⟨S1x2048, .f32⟩
  | 92 => ⟨S_, .f32⟩
  | 93 => ⟨S1x2048, .f32⟩
  | 94 => ⟨S1x2048, .f32⟩
  | 95 => ⟨S1x2048, .f32⟩
  | 96 => ⟨S_, .f32⟩
  | 97 => ⟨S1x2048, .f32⟩
  | 98 => ⟨S1x2048, .f32⟩
  | 99 => ⟨S_, .f32⟩
  | 100 => ⟨S1x2048, .f32⟩
  | 101 => ⟨S1x2048, .f32⟩
  | 102 => ⟨S1x2048, .f32⟩
  | 103 => ⟨S_, .f32⟩
  | 104 => ⟨S1x2048, .f32⟩
  | 105 => ⟨S1x2048, .f32⟩
  | 106 => ⟨S1x2048, .f32⟩
  | 107 => ⟨S_, .f32⟩
  | 108 => ⟨S1x2048, .f32⟩
  | 109 => ⟨S1x2048, .f32⟩
  | 110 => ⟨S1x2048, .f32⟩
  | 111 => ⟨S_, .f32⟩
  | 112 => ⟨S1x2048, .f32⟩
  | 113 => ⟨S1x2048, .f32⟩
  | 114 => ⟨S_, .f32⟩
  | 115 => ⟨S1x4x768, .f32⟩
  | 116 => ⟨S1x4x768, .f32⟩
  | 117 => ⟨S_, .f32⟩
  | 118 => ⟨S1x4x768, .f32⟩
  | 119 => ⟨S1x4x768, .f32⟩
  | 120 => ⟨S1x4x768, .f32⟩
  | 121 => ⟨S_, .f32⟩
  | 122 => ⟨S1x4x768, .f32⟩
  | 123 => ⟨S1x4x768, .f32⟩
  | 124 => ⟨S1x4x768, .f32⟩
  | 125 => ⟨S_, .f32⟩
  | 126 => ⟨S1x4x768, .f32⟩
  | 127 => ⟨S1x4x768, .f32⟩
  | _ => ⟨S1x12288, .f32⟩

abbrev hbmTy0_1 (i : Nat) : BufTy := match i % 128 with
  | 0 => ⟨S1x4x768, .f32⟩
  | 1 => ⟨S_, .f32⟩
  | 2 => ⟨S1x4x768, .f32⟩
  | 3 => ⟨S1x4x768, .f32⟩
  | 4 => ⟨S_, .f32⟩
  | 5 => ⟨S1x4x768, .f32⟩
  | 6 => ⟨S1x4x768, .f32⟩
  | 7 => ⟨S1x4x768, .f32⟩
  | 8 => ⟨S_, .f32⟩
  | 9 => ⟨S1x4x768, .f32⟩
  | 10 => ⟨S1x4x768, .f32⟩
  | 11 => ⟨S1x4x768, .f32⟩
  | 12 => ⟨S_, .f32⟩
  | 13 => ⟨S1x4x768, .f32⟩
  | 14 => ⟨S1x4x768, .f32⟩
  | 15 => ⟨S1x4x768, .f32⟩
  | 16 => ⟨S_, .f32⟩
  | 17 => ⟨S1x4x768, .f32⟩
  | 18 => ⟨S1x4x768, .f32⟩
  | 19 => ⟨S_, .f32⟩
  | 20 => ⟨S1x8, .f32⟩
  | 21 => ⟨S1x8, .f32⟩
  | 22 => ⟨S_, .f32⟩
  | 23 => ⟨S1x8, .f32⟩
  | 24 => ⟨S1x8, .f32⟩
  | 25 => ⟨S1x8, .f32⟩
  | 26 => ⟨S_, .f32⟩
  | 27 => ⟨S1x8, .f32⟩
  | 28 => ⟨S1x8, .f32⟩
  | 29 => ⟨S1x8, .f32⟩
  | 30 => ⟨S_, .f32⟩
  | 31 => ⟨S1x8, .f32⟩
  | 32 => ⟨S1x8, .f32⟩
  | 33 => ⟨S1x8, .f32⟩
  | 34 => ⟨S_, .f32⟩
  | 35 => ⟨S1x8, .f32⟩
  | 36 => ⟨S1x8, .f32⟩
  | 37 => ⟨S_, .f32⟩
  | 38 => ⟨S1x8, .f32⟩
  | 39 => ⟨S1x8, .f32⟩
  | 40 => ⟨S1x8, .f32⟩
  | 41 => ⟨S_, .f32⟩
  | 42 => ⟨S1x8, .f32⟩
  | 43 => ⟨S1x8, .f32⟩
  | 44 => ⟨S1x8, .f32⟩
  | 45 => ⟨S_, .f32⟩
  | 46 => ⟨S1x8, .f32⟩
  | 47 => ⟨S1x8, .f32⟩
  | 48 => ⟨S1x8, .f32⟩
  | 49 => ⟨S_, .f32⟩
  | 50 => ⟨S1x8, .f32⟩
  | 51 => ⟨S1x8, .f32⟩
  | 52 => ⟨S_, .f32⟩
  | 53 => ⟨S1x8, .f32⟩
  | 54 => ⟨S1x8, .f32⟩
  | 55 => ⟨S_, .f32⟩
  | 56 => ⟨S1x8, .f32⟩
  | 57 => ⟨S1x8, .f32⟩
  | 58 => ⟨S1x8, .f32⟩
  | 59 => ⟨S_, .f32⟩
  | 60 => ⟨S1x8, .f32⟩
  | 61 => ⟨S1x8, .f32⟩
  | 62 => ⟨S1x8, .f32⟩
  | 63 => ⟨S_, .f32⟩
  | 64 => ⟨S1x8, .f32⟩
  | 65 => ⟨S1x8, .f32⟩
  | 66 => ⟨S1x8, .f32⟩
  | 67 => ⟨S_, .f32⟩
  | 68 => ⟨S1x8, .f32⟩
  | 69 => ⟨S1x8, .f32⟩
  | 70 => ⟨S_, .f32⟩
  | 71 => ⟨S1x8, .f32⟩
  | 72 => ⟨S1x8, .f32⟩
  | 73 => ⟨S1x8, .f32⟩
  | 74 => ⟨S_, .f32⟩
  | 75 => ⟨S1x8, .f32⟩
  | 76 => ⟨S1x8, .f32⟩
  | 77 => ⟨S1x8, .f32⟩
  | 78 => ⟨S_, .f32⟩
  | 79 => ⟨S1x8, .f32⟩
  | 80 => ⟨S1x8, .f32⟩
  | 81 => ⟨S1x8, .f32⟩
  | 82 => ⟨S_, .f32⟩
  | 83 => ⟨S1x8, .f32⟩
  | 84 => ⟨S1x8, .f32⟩
  | 85 => ⟨S_, .f32⟩
  | 86 => ⟨S1x128, .f32⟩
  | 87 => ⟨S1x128, .f32⟩
  | 88 => ⟨S_, .f32⟩
  | 89 => ⟨S1x128, .f32⟩
  | 90 => ⟨S1x128, .f32⟩
  | 91 => ⟨S1x128, .f32⟩
  | 92 => ⟨S_, .f32⟩
  | 93 => ⟨S1x128, .f32⟩
  | 94 => ⟨S1x128, .f32⟩
  | 95 => ⟨S1x128, .f32⟩
  | 96 => ⟨S_, .f32⟩
  | 97 => ⟨S1x128, .f32⟩
  | 98 => ⟨S1x128, .f32⟩
  | 99 => ⟨S1x128, .f32⟩
  | 100 => ⟨S_, .f32⟩
  | 101 => ⟨S1x128, .f32⟩
  | 102 => ⟨S1x128, .f32⟩
  | 103 => ⟨S_, .f32⟩
  | 104 => ⟨S1x128, .f32⟩
  | 105 => ⟨S1x128, .f32⟩
  | 106 => ⟨S1x128, .f32⟩
  | 107 => ⟨S_, .f32⟩
  | 108 => ⟨S1x128, .f32⟩
  | 109 => ⟨S1x128, .f32⟩
  | 110 => ⟨S1x128, .f32⟩
  | 111 => ⟨S_, .f32⟩
  | 112 => ⟨S1x128, .f32⟩
  | 113 => ⟨S1x128, .f32⟩
  | 114 => ⟨S1x128, .f32⟩
  | 115 => ⟨S_, .f32⟩
  | 116 => ⟨S1x128, .f32⟩
  | 117 => ⟨S1x128, .f32⟩
  | 118 => ⟨S_, .f32⟩
  | 119 => ⟨S1x31x256, .f32⟩
  | 120 => ⟨S1x31x256, .f32⟩
  | 121 => ⟨S_, .f32⟩
  | 122 => ⟨S1x31x256, .f32⟩
  | 123 => ⟨S1x31x256, .f32⟩
  | 124 => ⟨S1x31x256, .f32⟩
  | 125 => ⟨S_, .f32⟩
  | 126 => ⟨S1x31x256, .f32⟩
  | 127 => ⟨S1x31x256, .f32⟩
  | _ => ⟨S1x12288, .f32⟩

abbrev hbmTy0_2 (i : Nat) : BufTy := match i % 128 with
  | 0 => ⟨S1x31x256, .f32⟩
  | 1 => ⟨S_, .f32⟩
  | 2 => ⟨S1x31x256, .f32⟩
  | 3 => ⟨S1x31x256, .f32⟩
  | 4 => ⟨S1x31x256, .f32⟩
  | 5 => ⟨S_, .f32⟩
  | 6 => ⟨S1x31x256, .f32⟩
  | 7 => ⟨S1x31x256, .f32⟩
  | 8 => ⟨S_, .f32⟩
  | 9 => ⟨S1x31x256, .f32⟩
  | 10 => ⟨S1x31x256, .f32⟩
  | 11 => ⟨S1x31x256, .f32⟩
  | 12 => ⟨S_, .f32⟩
  | 13 => ⟨S1x31x256, .f32⟩
  | 14 => ⟨S1x31x256, .f32⟩
  | 15 => ⟨S1x31x256, .f32⟩
  | 16 => ⟨S_, .f32⟩
  | 17 => ⟨S1x31x256, .f32⟩
  | 18 => ⟨S1x31x256, .f32⟩
  | 19 => ⟨S1x31x256, .f32⟩
  | 20 => ⟨S_, .f32⟩
  | 21 => ⟨S1x31x256, .f32⟩
  | 22 => ⟨S1x31x256, .f32⟩
  | 23 => ⟨S_, .f32⟩
  | 24 => ⟨S1x1024, .f32⟩
  | 25 => ⟨S1x1024, .f32⟩
  | 26 => ⟨S_, .f32⟩
  | 27 => ⟨S1x1024, .f32⟩
  | 28 => ⟨S1x1024, .f32⟩
  | 29 => ⟨S1x1024, .f32⟩
  | 30 => ⟨S_, .f32⟩
  | 31 => ⟨S1x1024, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S_, .f32⟩
  | 42 => ⟨S1x1024, .f32⟩
  | 43 => ⟨S1x1024, .f32⟩
  | 44 => ⟨S1x1024, .f32⟩
  | 45 => ⟨S_, .f32⟩
  | 46 => ⟨S1x1024, .f32⟩
  | 47 => ⟨S1x1024, .f32⟩
  | 48 => ⟨S1x1024, .f32⟩
  | 49 => ⟨S_, .f32⟩
  | 50 => ⟨S1x1024, .f32⟩
  | 51 => ⟨S1x1024, .f32⟩
  | 52 => ⟨S1x1024, .f32⟩
  | 53 => ⟨S_, .f32⟩
  | 54 => ⟨S1x1024, .f32⟩
  | 55 => ⟨S1x1024, .f32⟩
  | 56 => ⟨S_, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S1x1024, .f32⟩
  | 63 => ⟨S_, .f32⟩
  | 64 => ⟨S1x1024, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S1x1024, .f32⟩
  | 78 => ⟨S_, .f32⟩
  | 79 => ⟨S1x1024, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S1x1024, .f32⟩
  | 86 => ⟨S_, .f32⟩
  | 87 => ⟨S1x1024, .f32⟩
  | 88 => ⟨S1x1024, .f32⟩
  | 89 => ⟨S_, .f32⟩
  | 90 => ⟨S1x2048, .f32⟩
  | 91 => ⟨S1x2048, .f32⟩
  | 92 => ⟨S_, .f32⟩
  | 93 => ⟨S1x2048, .f32⟩
  | 94 => ⟨S1x2048, .f32⟩
  | 95 => ⟨S1x2048, .f32⟩
  | 96 => ⟨S_, .f32⟩
  | 97 => ⟨S1x2048, .f32⟩
  | 98 => ⟨S1x2048, .f32⟩
  | 99 => ⟨S1x2048, .f32⟩
  | 100 => ⟨S_, .f32⟩
  | 101 => ⟨S1x2048, .f32⟩
  | 102 => ⟨S1x2048, .f32⟩
  | 103 => ⟨S1x2048, .f32⟩
  | 104 => ⟨S_, .f32⟩
  | 105 => ⟨S1x2048, .f32⟩
  | 106 => ⟨S1x2048, .f32⟩
  | 107 => ⟨S_, .f32⟩
  | 108 => ⟨S1x2048, .f32⟩
  | 109 => ⟨S1x2048, .f32⟩
  | 110 => ⟨S1x2048, .f32⟩
  | 111 => ⟨S_, .f32⟩
  | 112 => ⟨S1x2048, .f32⟩
  | 113 => ⟨S1x2048, .f32⟩
  | 114 => ⟨S1x2048, .f32⟩
  | 115 => ⟨S_, .f32⟩
  | 116 => ⟨S1x2048, .f32⟩
  | 117 => ⟨S1x2048, .f32⟩
  | 118 => ⟨S1x2048, .f32⟩
  | 119 => ⟨S_, .f32⟩
  | 120 => ⟨S1x2048, .f32⟩
  | 121 => ⟨S1x2048, .f32⟩
  | 122 => ⟨S_, .f32⟩
  | 123 => ⟨S1x3x1408, .f32⟩
  | 124 => ⟨S1x3x1408, .f32⟩
  | 125 => ⟨S_, .f32⟩
  | 126 => ⟨S1x3x1408, .f32⟩
  | 127 => ⟨S1x3x1408, .f32⟩
  | _ => ⟨S1x12288, .f32⟩

abbrev hbmTy0_3 (i : Nat) : BufTy := match i % 128 with
  | 0 => ⟨S1x3x1408, .f32⟩
  | 1 => ⟨S_, .f32⟩
  | 2 => ⟨S1x3x1408, .f32⟩
  | 3 => ⟨S1x3x1408, .f32⟩
  | 4 => ⟨S1x3x1408, .f32⟩
  | 5 => ⟨S_, .f32⟩
  | 6 => ⟨S1x3x1408, .f32⟩
  | 7 => ⟨S1x3x1408, .f32⟩
  | 8 => ⟨S1x3x1408, .f32⟩
  | 9 => ⟨S_, .f32⟩
  | 10 => ⟨S1x3x1408, .f32⟩
  | 11 => ⟨S1x3x1408, .f32⟩
  | 12 => ⟨S_, .f32⟩
  | 13 => ⟨S1x3x1408, .f32⟩
  | 14 => ⟨S1x3x1408, .f32⟩
  | 15 => ⟨S1x3x1408, .f32⟩
  | 16 => ⟨S_, .f32⟩
  | 17 => ⟨S1x3x1408, .f32⟩
  | 18 => ⟨S1x3x1408, .f32⟩
  | 19 => ⟨S1x3x1408, .f32⟩
  | 20 => ⟨S_, .f32⟩
  | 21 => ⟨S1x3x1408, .f32⟩
  | 22 => ⟨S1x3x1408, .f32⟩
  | 23 => ⟨S1x3x1408, .f32⟩
  | 24 => ⟨S_, .f32⟩
  | 25 => ⟨S1x3x1408, .f32⟩
  | 26 => ⟨S1x3x1408, .f32⟩
  | 27 => ⟨S_, .f32⟩
  | 28 => ⟨S2048, .f32⟩
  | 29 => ⟨S2048, .f32⟩
  | 30 => ⟨S_, .f32⟩
  | 31 => ⟨S2048, .f32⟩
  | 32 => ⟨S2048, .f32⟩
  | 33 => ⟨S2048, .f32⟩
  | 34 => ⟨S_, .f32⟩
  | 35 => ⟨S2048, .f32⟩
  | 36 => ⟨S2048, .f32⟩
  | 37 => ⟨S2048, .f32⟩
  | 38 => ⟨S_, .f32⟩
  | 39 => ⟨S2048, .f32⟩
  | 40 => ⟨S2048, .f32⟩
  | 41 => ⟨S2048, .f32⟩
  | 42 => ⟨S_, .f32⟩
  | 43 => ⟨S2048, .f32⟩
  | 44 => ⟨S2048, .f32⟩
  | 45 => ⟨S_, .f32⟩
  | 46 => ⟨S2048, .f32⟩
  | 47 => ⟨S2048, .f32⟩
  | 48 => ⟨S2048, .f32⟩
  | 49 => ⟨S_, .f32⟩
  | 50 => ⟨S2048, .f32⟩
  | 51 => ⟨S2048, .f32⟩
  | 52 => ⟨S2048, .f32⟩
  | 53 => ⟨S_, .f32⟩
  | 54 => ⟨S2048, .f32⟩
  | 55 => ⟨S2048, .f32⟩
  | 56 => ⟨S2048, .f32⟩
  | 57 => ⟨S_, .f32⟩
  | 58 => ⟨S2048, .f32⟩
  | 59 => ⟨S2048, .f32⟩
  | 60 => ⟨S12288, .f32⟩
  | 61 => ⟨S2048, .f32⟩
  | 62 => ⟨S3072, .f32⟩
  | 63 => ⟨S8, .f32⟩
  | 64 => ⟨S8, .f32⟩
  | 65 => ⟨S128, .f32⟩
  | 66 => ⟨S7936, .f32⟩
  | 67 => ⟨S1024, .f32⟩
  | 68 => ⟨S1024, .f32⟩
  | 69 => ⟨S2048, .f32⟩
  | 70 => ⟨S4224, .f32⟩
  | 71 => ⟨S35856, .f32⟩
  | 72 => ⟨S_, .i32⟩
  | 73 => ⟨S_, .f32⟩
  | 74 => ⟨S36864, .f32⟩
  | 75 => ⟨S288x128, .f32⟩
  | 76 => ⟨S12288, .f32⟩
  | 77 => ⟨S2048, .f32⟩
  | 78 => ⟨S3072, .f32⟩
  | 79 => ⟨S8, .f32⟩
  | 80 => ⟨S8, .f32⟩
  | 81 => ⟨S128, .f32⟩
  | 82 => ⟨S7936, .f32⟩
  | 83 => ⟨S1024, .f32⟩
  | 84 => ⟨S1024, .f32⟩
  | 85 => ⟨S2048, .f32⟩
  | 86 => ⟨S4224, .f32⟩
  | 87 => ⟨S35856, .f32⟩
  | 88 => ⟨S_, .i32⟩
  | 89 => ⟨S_, .f32⟩
  | 90 => ⟨S36864, .f32⟩
  | 91 => ⟨S288x128, .f32⟩
  | 92 => ⟨S12288, .f32⟩
  | 93 => ⟨S2048, .f32⟩
  | 94 => ⟨S3072, .f32⟩
  | 95 => ⟨S8, .f32⟩
  | 96 => ⟨S8, .f32⟩
  | 97 => ⟨S128, .f32⟩
  | 98 => ⟨S7936, .f32⟩
  | 99 => ⟨S1024, .f32⟩
  | 100 => ⟨S1024, .f32⟩
  | 101 => ⟨S2048, .f32⟩
  | 102 => ⟨S4224, .f32⟩
  | 103 => ⟨S35856, .f32⟩
  | 104 => ⟨S_, .i32⟩
  | 105 => ⟨S_, .f32⟩
  | 106 => ⟨S36864, .f32⟩
  | 107 => ⟨S288x128, .f32⟩
  | _ => ⟨S1x12288, .f32⟩

abbrev hbmTy (i : Nat) : BufTy := match i / 128 with
  | 0 => hbmTy0_0 i
  | 1 => hbmTy0_1 i
  | 2 => hbmTy0_2 i
  | 3 => hbmTy0_3 i
  | _ => ⟨S1x12288, .f32⟩

abbrev bufTy : (tb : Table) → Fin (tcTables nBuf tb) → BufTy
  | .hbm, ⟨i, _⟩ => hbmTy i
  | _, _ => ⟨S1x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_cst : Ref sig .tc := ⟨.hbm, 48, rfl⟩
abbrev main_v0 : Ref sig .tc := ⟨.hbm, 49, rfl⟩
abbrev main_v1 : Ref sig .tc := ⟨.hbm, 50, rfl⟩
abbrev main_cst_0 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_cst_1 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_cst_2 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_cst_3 : Ref sig .tc := ⟨.hbm, 63, rfl⟩
abbrev main_v11 : Ref sig .tc := ⟨.hbm, 64, rfl⟩
abbrev main_v12 : Ref sig .tc := ⟨.hbm, 65, rfl⟩
abbrev main_cst_4 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_cst_5 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_cst_6 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_cst_7 : Ref sig .tc := ⟨.hbm, 78, rfl⟩
abbrev main_v22 : Ref sig .tc := ⟨.hbm, 79, rfl⟩
abbrev main_v23 : Ref sig .tc := ⟨.hbm, 80, rfl⟩
abbrev main_cst_8 : Ref sig .tc := ⟨.hbm, 81, rfl⟩
abbrev main_v24 : Ref sig .tc := ⟨.hbm, 82, rfl⟩
abbrev main_v25 : Ref sig .tc := ⟨.hbm, 83, rfl⟩
abbrev main_cst_9 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_cst_10 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_cst_11 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_cst_12 : Ref sig .tc := ⟨.hbm, 96, rfl⟩
abbrev main_v35 : Ref sig .tc := ⟨.hbm, 97, rfl⟩
abbrev main_v36 : Ref sig .tc := ⟨.hbm, 98, rfl⟩
abbrev main_cst_13 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_cst_14 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_cst_15 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_cst_16 : Ref sig .tc := ⟨.hbm, 111, rfl⟩
abbrev main_v46 : Ref sig .tc := ⟨.hbm, 112, rfl⟩
abbrev main_v47 : Ref sig .tc := ⟨.hbm, 113, rfl⟩
abbrev main_cst_17 : Ref sig .tc := ⟨.hbm, 114, rfl⟩
abbrev main_v48 : Ref sig .tc := ⟨.hbm, 115, rfl⟩
abbrev main_v49 : Ref sig .tc := ⟨.hbm, 116, rfl⟩
abbrev main_cst_18 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_cst_19 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_cst_20 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_cst_21 : Ref sig .tc := ⟨.hbm, 129, rfl⟩
abbrev main_v59 : Ref sig .tc := ⟨.hbm, 130, rfl⟩
abbrev main_v60 : Ref sig .tc := ⟨.hbm, 131, rfl⟩
abbrev main_cst_22 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_cst_23 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_cst_24 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_cst_25 : Ref sig .tc := ⟨.hbm, 144, rfl⟩
abbrev main_v70 : Ref sig .tc := ⟨.hbm, 145, rfl⟩
abbrev main_v71 : Ref sig .tc := ⟨.hbm, 146, rfl⟩
abbrev main_cst_26 : Ref sig .tc := ⟨.hbm, 147, rfl⟩
abbrev main_v72 : Ref sig .tc := ⟨.hbm, 148, rfl⟩
abbrev main_v73 : Ref sig .tc := ⟨.hbm, 149, rfl⟩
abbrev main_cst_27 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_cst_28 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_cst_29 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_cst_30 : Ref sig .tc := ⟨.hbm, 162, rfl⟩
abbrev main_v83 : Ref sig .tc := ⟨.hbm, 163, rfl⟩
abbrev main_v84 : Ref sig .tc := ⟨.hbm, 164, rfl⟩
abbrev main_cst_31 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_cst_32 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_cst_33 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_cst_34 : Ref sig .tc := ⟨.hbm, 177, rfl⟩
abbrev main_v94 : Ref sig .tc := ⟨.hbm, 178, rfl⟩
abbrev main_v95 : Ref sig .tc := ⟨.hbm, 179, rfl⟩
abbrev main_cst_35 : Ref sig .tc := ⟨.hbm, 180, rfl⟩
abbrev main_v96 : Ref sig .tc := ⟨.hbm, 181, rfl⟩
abbrev main_v97 : Ref sig .tc := ⟨.hbm, 182, rfl⟩
abbrev main_cst_36 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_cst_37 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_cst_38 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_cst_39 : Ref sig .tc := ⟨.hbm, 195, rfl⟩
abbrev main_v107 : Ref sig .tc := ⟨.hbm, 196, rfl⟩
abbrev main_v108 : Ref sig .tc := ⟨.hbm, 197, rfl⟩
abbrev main_cst_40 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_cst_41 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_cst_42 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_cst_43 : Ref sig .tc := ⟨.hbm, 210, rfl⟩
abbrev main_v118 : Ref sig .tc := ⟨.hbm, 211, rfl⟩
abbrev main_v119 : Ref sig .tc := ⟨.hbm, 212, rfl⟩
abbrev main_cst_44 : Ref sig .tc := ⟨.hbm, 213, rfl⟩
abbrev main_v120 : Ref sig .tc := ⟨.hbm, 214, rfl⟩
abbrev main_v121 : Ref sig .tc := ⟨.hbm, 215, rfl⟩
abbrev main_cst_45 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_cst_46 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_cst_47 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_cst_48 : Ref sig .tc := ⟨.hbm, 228, rfl⟩
abbrev main_v131 : Ref sig .tc := ⟨.hbm, 229, rfl⟩
abbrev main_v132 : Ref sig .tc := ⟨.hbm, 230, rfl⟩
abbrev main_cst_49 : Ref sig .tc := ⟨.hbm, 231, rfl⟩
abbrev main_v133 : Ref sig .tc := ⟨.hbm, 232, rfl⟩
abbrev main_v134 : Ref sig .tc := ⟨.hbm, 233, rfl⟩
abbrev main_v135 : Ref sig .tc := ⟨.hbm, 234, rfl⟩
abbrev main_cst_50 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_cst_51 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_cst_52 : Ref sig .tc := ⟨.hbm, 243, rfl⟩
abbrev main_v142 : Ref sig .tc := ⟨.hbm, 244, rfl⟩
abbrev main_v143 : Ref sig .tc := ⟨.hbm, 245, rfl⟩
abbrev main_cst_53 : Ref sig .tc := ⟨.hbm, 246, rfl⟩
abbrev main_v144 : Ref sig .tc := ⟨.hbm, 247, rfl⟩
abbrev main_v145 : Ref sig .tc := ⟨.hbm, 248, rfl⟩
abbrev main_cst_54 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_cst_55 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_cst_56 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_cst_57 : Ref sig .tc := ⟨.hbm, 261, rfl⟩
abbrev main_v155 : Ref sig .tc := ⟨.hbm, 262, rfl⟩
abbrev main_v156 : Ref sig .tc := ⟨.hbm, 263, rfl⟩
abbrev main_cst_58 : Ref sig .tc := ⟨.hbm, 264, rfl⟩
abbrev main_v157 : Ref sig .tc := ⟨.hbm, 265, rfl⟩
abbrev main_v158 : Ref sig .tc := ⟨.hbm, 266, rfl⟩
abbrev main_v159 : Ref sig .tc := ⟨.hbm, 267, rfl⟩
abbrev main_cst_59 : Ref sig .tc := ⟨.hbm, 268, rfl⟩
abbrev main_v160 : Ref sig .tc := ⟨.hbm, 269, rfl⟩
abbrev main_v161 : Ref sig .tc := ⟨.hbm, 270, rfl⟩
abbrev main_v162 : Ref sig .tc := ⟨.hbm, 271, rfl⟩
abbrev main_cst_60 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_cst_61 : Ref sig .tc := ⟨.hbm, 276, rfl⟩
abbrev main_v166 : Ref sig .tc := ⟨.hbm, 277, rfl⟩
abbrev main_v167 : Ref sig .tc := ⟨.hbm, 278, rfl⟩
abbrev main_cst_62 : Ref sig .tc := ⟨.hbm, 279, rfl⟩
abbrev main_v168 : Ref sig .tc := ⟨.hbm, 280, rfl⟩
abbrev main_v169 : Ref sig .tc := ⟨.hbm, 281, rfl⟩
abbrev main_cst_63 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_cst_64 : Ref sig .tc := ⟨.hbm, 286, rfl⟩
abbrev main_v173 : Ref sig .tc := ⟨.hbm, 287, rfl⟩
abbrev main_v174 : Ref sig .tc := ⟨.hbm, 288, rfl⟩
abbrev main_v175 : Ref sig .tc := ⟨.hbm, 289, rfl⟩
abbrev main_cst_65 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_cst_66 : Ref sig .tc := ⟨.hbm, 294, rfl⟩
abbrev main_v179 : Ref sig .tc := ⟨.hbm, 295, rfl⟩
abbrev main_v180 : Ref sig .tc := ⟨.hbm, 296, rfl⟩
abbrev main_cst_67 : Ref sig .tc := ⟨.hbm, 297, rfl⟩
abbrev main_v181 : Ref sig .tc := ⟨.hbm, 298, rfl⟩
abbrev main_v182 : Ref sig .tc := ⟨.hbm, 299, rfl⟩
abbrev main_v183 : Ref sig .tc := ⟨.hbm, 300, rfl⟩
abbrev main_cst_68 : Ref sig .tc := ⟨.hbm, 301, rfl⟩
abbrev main_v184 : Ref sig .tc := ⟨.hbm, 302, rfl⟩
abbrev main_v185 : Ref sig .tc := ⟨.hbm, 303, rfl⟩
abbrev main_v186 : Ref sig .tc := ⟨.hbm, 304, rfl⟩
abbrev main_cst_69 : Ref sig .tc := ⟨.hbm, 305, rfl⟩
abbrev main_v187 : Ref sig .tc := ⟨.hbm, 306, rfl⟩
abbrev main_v188 : Ref sig .tc := ⟨.hbm, 307, rfl⟩
abbrev main_v189 : Ref sig .tc := ⟨.hbm, 308, rfl⟩
abbrev main_cst_70 : Ref sig .tc := ⟨.hbm, 309, rfl⟩
abbrev main_v190 : Ref sig .tc := ⟨.hbm, 310, rfl⟩
abbrev main_v191 : Ref sig .tc := ⟨.hbm, 311, rfl⟩
abbrev main_cst_71 : Ref sig .tc := ⟨.hbm, 312, rfl⟩
abbrev main_v192 : Ref sig .tc := ⟨.hbm, 313, rfl⟩
abbrev main_v193 : Ref sig .tc := ⟨.hbm, 314, rfl⟩
abbrev main_cst_72 : Ref sig .tc := ⟨.hbm, 315, rfl⟩
abbrev main_v194 : Ref sig .tc := ⟨.hbm, 316, rfl⟩
abbrev main_v195 : Ref sig .tc := ⟨.hbm, 317, rfl⟩
abbrev main_v196 : Ref sig .tc := ⟨.hbm, 318, rfl⟩
abbrev main_cst_73 : Ref sig .tc := ⟨.hbm, 319, rfl⟩
abbrev main_v197 : Ref sig .tc := ⟨.hbm, 320, rfl⟩
abbrev main_v198 : Ref sig .tc := ⟨.hbm, 321, rfl⟩
abbrev main_v199 : Ref sig .tc := ⟨.hbm, 322, rfl⟩
abbrev main_cst_74 : Ref sig .tc := ⟨.hbm, 323, rfl⟩
abbrev main_v200 : Ref sig .tc := ⟨.hbm, 324, rfl⟩
abbrev main_v201 : Ref sig .tc := ⟨.hbm, 325, rfl⟩
abbrev main_v202 : Ref sig .tc := ⟨.hbm, 326, rfl⟩
abbrev main_cst_75 : Ref sig .tc := ⟨.hbm, 327, rfl⟩
abbrev main_v203 : Ref sig .tc := ⟨.hbm, 328, rfl⟩
abbrev main_v204 : Ref sig .tc := ⟨.hbm, 329, rfl⟩
abbrev main_cst_76 : Ref sig .tc := ⟨.hbm, 330, rfl⟩
abbrev main_v205 : Ref sig .tc := ⟨.hbm, 331, rfl⟩
abbrev main_v206 : Ref sig .tc := ⟨.hbm, 332, rfl⟩
abbrev main_v207 : Ref sig .tc := ⟨.hbm, 333, rfl⟩
abbrev main_cst_77 : Ref sig .tc := ⟨.hbm, 334, rfl⟩
abbrev main_v208 : Ref sig .tc := ⟨.hbm, 335, rfl⟩
abbrev main_v209 : Ref sig .tc := ⟨.hbm, 336, rfl⟩
abbrev main_v210 : Ref sig .tc := ⟨.hbm, 337, rfl⟩
abbrev main_cst_78 : Ref sig .tc := ⟨.hbm, 338, rfl⟩
abbrev main_v211 : Ref sig .tc := ⟨.hbm, 339, rfl⟩
abbrev main_v212 : Ref sig .tc := ⟨.hbm, 340, rfl⟩
abbrev main_v213 : Ref sig .tc := ⟨.hbm, 341, rfl⟩
abbrev main_cst_79 : Ref sig .tc := ⟨.hbm, 342, rfl⟩
abbrev main_v214 : Ref sig .tc := ⟨.hbm, 343, rfl⟩
abbrev main_v215 : Ref sig .tc := ⟨.hbm, 344, rfl⟩
abbrev main_cst_80 : Ref sig .tc := ⟨.hbm, 345, rfl⟩
abbrev main_v216 : Ref sig .tc := ⟨.hbm, 346, rfl⟩
abbrev main_v217 : Ref sig .tc := ⟨.hbm, 347, rfl⟩
abbrev main_cst_81 : Ref sig .tc := ⟨.hbm, 348, rfl⟩
abbrev main_v218 : Ref sig .tc := ⟨.hbm, 349, rfl⟩
abbrev main_v219 : Ref sig .tc := ⟨.hbm, 350, rfl⟩
abbrev main_v220 : Ref sig .tc := ⟨.hbm, 351, rfl⟩
abbrev main_cst_82 : Ref sig .tc := ⟨.hbm, 352, rfl⟩
abbrev main_v221 : Ref sig .tc := ⟨.hbm, 353, rfl⟩
abbrev main_v222 : Ref sig .tc := ⟨.hbm, 354, rfl⟩
abbrev main_v223 : Ref sig .tc := ⟨.hbm, 355, rfl⟩
abbrev main_cst_83 : Ref sig .tc := ⟨.hbm, 356, rfl⟩
abbrev main_v224 : Ref sig .tc := ⟨.hbm, 357, rfl⟩
abbrev main_v225 : Ref sig .tc := ⟨.hbm, 358, rfl⟩
abbrev main_v226 : Ref sig .tc := ⟨.hbm, 359, rfl⟩
abbrev main_cst_84 : Ref sig .tc := ⟨.hbm, 360, rfl⟩
abbrev main_v227 : Ref sig .tc := ⟨.hbm, 361, rfl⟩
abbrev main_v228 : Ref sig .tc := ⟨.hbm, 362, rfl⟩
abbrev main_cst_85 : Ref sig .tc := ⟨.hbm, 363, rfl⟩
abbrev main_v229 : Ref sig .tc := ⟨.hbm, 364, rfl⟩
abbrev main_v230 : Ref sig .tc := ⟨.hbm, 365, rfl⟩
abbrev main_v231 : Ref sig .tc := ⟨.hbm, 366, rfl⟩
abbrev main_cst_86 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_cst_87 : Ref sig .tc := ⟨.hbm, 371, rfl⟩
abbrev main_v235 : Ref sig .tc := ⟨.hbm, 372, rfl⟩
abbrev main_v236 : Ref sig .tc := ⟨.hbm, 373, rfl⟩
abbrev main_v237 : Ref sig .tc := ⟨.hbm, 374, rfl⟩
abbrev main_cst_88 : Ref sig .tc := ⟨.hbm, 375, rfl⟩
abbrev main_v238 : Ref sig .tc := ⟨.hbm, 376, rfl⟩
abbrev main_v239 : Ref sig .tc := ⟨.hbm, 377, rfl⟩
abbrev main_cst_89 : Ref sig .tc := ⟨.hbm, 378, rfl⟩
abbrev main_v240 : Ref sig .tc := ⟨.hbm, 379, rfl⟩
abbrev main_v241 : Ref sig .tc := ⟨.hbm, 380, rfl⟩
abbrev main_cst_90 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_cst_91 : Ref sig .tc := ⟨.hbm, 385, rfl⟩
abbrev main_v245 : Ref sig .tc := ⟨.hbm, 386, rfl⟩
abbrev main_v246 : Ref sig .tc := ⟨.hbm, 387, rfl⟩
abbrev main_v247 : Ref sig .tc := ⟨.hbm, 388, rfl⟩
abbrev main_cst_92 : Ref sig .tc := ⟨.hbm, 389, rfl⟩
abbrev main_v248 : Ref sig .tc := ⟨.hbm, 390, rfl⟩
abbrev main_v249 : Ref sig .tc := ⟨.hbm, 391, rfl⟩
abbrev main_v250 : Ref sig .tc := ⟨.hbm, 392, rfl⟩
abbrev main_cst_93 : Ref sig .tc := ⟨.hbm, 393, rfl⟩
abbrev main_v251 : Ref sig .tc := ⟨.hbm, 394, rfl⟩
abbrev main_v252 : Ref sig .tc := ⟨.hbm, 395, rfl⟩
abbrev main_cst_94 : Ref sig .tc := ⟨.hbm, 396, rfl⟩
abbrev main_v253 : Ref sig .tc := ⟨.hbm, 397, rfl⟩
abbrev main_v254 : Ref sig .tc := ⟨.hbm, 398, rfl⟩
abbrev main_v255 : Ref sig .tc := ⟨.hbm, 399, rfl⟩
abbrev main_cst_95 : Ref sig .tc := ⟨.hbm, 400, rfl⟩
abbrev main_v256 : Ref sig .tc := ⟨.hbm, 401, rfl⟩
abbrev main_v257 : Ref sig .tc := ⟨.hbm, 402, rfl⟩
abbrev main_v258 : Ref sig .tc := ⟨.hbm, 403, rfl⟩
abbrev main_cst_96 : Ref sig .tc := ⟨.hbm, 404, rfl⟩
abbrev main_v259 : Ref sig .tc := ⟨.hbm, 405, rfl⟩
abbrev main_v260 : Ref sig .tc := ⟨.hbm, 406, rfl⟩
abbrev main_v261 : Ref sig .tc := ⟨.hbm, 407, rfl⟩
abbrev main_cst_97 : Ref sig .tc := ⟨.hbm, 408, rfl⟩
abbrev main_v262 : Ref sig .tc := ⟨.hbm, 409, rfl⟩
abbrev main_v263 : Ref sig .tc := ⟨.hbm, 410, rfl⟩
abbrev main_cst_98 : Ref sig .tc := ⟨.hbm, 411, rfl⟩
abbrev main_v264 : Ref sig .tc := ⟨.hbm, 412, rfl⟩
abbrev main_v265 : Ref sig .tc := ⟨.hbm, 413, rfl⟩
abbrev main_cst_99 : Ref sig .tc := ⟨.hbm, 414, rfl⟩
abbrev main_v266 : Ref sig .tc := ⟨.hbm, 415, rfl⟩
abbrev main_v267 : Ref sig .tc := ⟨.hbm, 416, rfl⟩
abbrev main_v268 : Ref sig .tc := ⟨.hbm, 417, rfl⟩
abbrev main_cst_100 : Ref sig .tc := ⟨.hbm, 418, rfl⟩
abbrev main_v269 : Ref sig .tc := ⟨.hbm, 419, rfl⟩
abbrev main_v270 : Ref sig .tc := ⟨.hbm, 420, rfl⟩
abbrev main_v271 : Ref sig .tc := ⟨.hbm, 421, rfl⟩
abbrev main_cst_101 : Ref sig .tc := ⟨.hbm, 422, rfl⟩
abbrev main_v272 : Ref sig .tc := ⟨.hbm, 423, rfl⟩
abbrev main_v273 : Ref sig .tc := ⟨.hbm, 424, rfl⟩
abbrev main_v274 : Ref sig .tc := ⟨.hbm, 425, rfl⟩
abbrev main_cst_102 : Ref sig .tc := ⟨.hbm, 426, rfl⟩
abbrev main_v275 : Ref sig .tc := ⟨.hbm, 427, rfl⟩
abbrev main_v276 : Ref sig .tc := ⟨.hbm, 428, rfl⟩
abbrev main_cst_103 : Ref sig .tc := ⟨.hbm, 429, rfl⟩
abbrev main_v277 : Ref sig .tc := ⟨.hbm, 430, rfl⟩
abbrev main_v278 : Ref sig .tc := ⟨.hbm, 431, rfl⟩
abbrev main_v279 : Ref sig .tc := ⟨.hbm, 432, rfl⟩
abbrev main_cst_104 : Ref sig .tc := ⟨.hbm, 433, rfl⟩
abbrev main_v280 : Ref sig .tc := ⟨.hbm, 434, rfl⟩
abbrev main_v281 : Ref sig .tc := ⟨.hbm, 435, rfl⟩
abbrev main_v282 : Ref sig .tc := ⟨.hbm, 436, rfl⟩
abbrev main_cst_105 : Ref sig .tc := ⟨.hbm, 437, rfl⟩
abbrev main_v283 : Ref sig .tc := ⟨.hbm, 438, rfl⟩
abbrev main_v284 : Ref sig .tc := ⟨.hbm, 439, rfl⟩
abbrev main_v285 : Ref sig .tc := ⟨.hbm, 440, rfl⟩
abbrev main_cst_106 : Ref sig .tc := ⟨.hbm, 441, rfl⟩
abbrev main_v286 : Ref sig .tc := ⟨.hbm, 442, rfl⟩
abbrev main_v287 : Ref sig .tc := ⟨.hbm, 443, rfl⟩
abbrev main_v288 : Ref sig .tc := ⟨.hbm, 444, rfl⟩
abbrev main_v289 : Ref sig .tc := ⟨.hbm, 445, rfl⟩
abbrev main_v290 : Ref sig .tc := ⟨.hbm, 446, rfl⟩
abbrev main_v291 : Ref sig .tc := ⟨.hbm, 447, rfl⟩
abbrev main_v292 : Ref sig .tc := ⟨.hbm, 448, rfl⟩
abbrev main_v293 : Ref sig .tc := ⟨.hbm, 449, rfl⟩
abbrev main_v294 : Ref sig .tc := ⟨.hbm, 450, rfl⟩
abbrev main_v295 : Ref sig .tc := ⟨.hbm, 451, rfl⟩
abbrev main_v296 : Ref sig .tc := ⟨.hbm, 452, rfl⟩
abbrev main_v297 : Ref sig .tc := ⟨.hbm, 453, rfl⟩
abbrev main_v298 : Ref sig .tc := ⟨.hbm, 454, rfl⟩
abbrev main_v299 : Ref sig .tc := ⟨.hbm, 455, rfl⟩
abbrev main_c : Ref sig .tc := ⟨.hbm, 456, rfl⟩
abbrev main_call0_v0 : Ref sig .tc := ⟨.hbm, 457, rfl⟩
abbrev main_v300 : Ref sig .tc := ⟨.hbm, 458, rfl⟩
abbrev main_v301 : Ref sig .tc := ⟨.hbm, 459, rfl⟩
abbrev main_v302 : Ref sig .tc := ⟨.hbm, 460, rfl⟩
abbrev main_v303 : Ref sig .tc := ⟨.hbm, 461, rfl⟩
abbrev main_v304 : Ref sig .tc := ⟨.hbm, 462, rfl⟩
abbrev main_v305 : Ref sig .tc := ⟨.hbm, 463, rfl⟩
abbrev main_v306 : Ref sig .tc := ⟨.hbm, 464, rfl⟩
abbrev main_v307 : Ref sig .tc := ⟨.hbm, 465, rfl⟩
abbrev main_v308 : Ref sig .tc := ⟨.hbm, 466, rfl⟩
abbrev main_v309 : Ref sig .tc := ⟨.hbm, 467, rfl⟩
abbrev main_v310 : Ref sig .tc := ⟨.hbm, 468, rfl⟩
abbrev main_v311 : Ref sig .tc := ⟨.hbm, 469, rfl⟩
abbrev main_v312 : Ref sig .tc := ⟨.hbm, 470, rfl⟩
abbrev main_v313 : Ref sig .tc := ⟨.hbm, 471, rfl⟩
abbrev main_c_107 : Ref sig .tc := ⟨.hbm, 472, rfl⟩
abbrev main_call1_v0 : Ref sig .tc := ⟨.hbm, 473, rfl⟩
abbrev main_v314 : Ref sig .tc := ⟨.hbm, 474, rfl⟩
abbrev main_v315 : Ref sig .tc := ⟨.hbm, 475, rfl⟩
abbrev main_v316 : Ref sig .tc := ⟨.hbm, 476, rfl⟩
abbrev main_v317 : Ref sig .tc := ⟨.hbm, 477, rfl⟩
abbrev main_v318 : Ref sig .tc := ⟨.hbm, 478, rfl⟩
abbrev main_v319 : Ref sig .tc := ⟨.hbm, 479, rfl⟩
abbrev main_v320 : Ref sig .tc := ⟨.hbm, 480, rfl⟩
abbrev main_v321 : Ref sig .tc := ⟨.hbm, 481, rfl⟩
abbrev main_v322 : Ref sig .tc := ⟨.hbm, 482, rfl⟩
abbrev main_v323 : Ref sig .tc := ⟨.hbm, 483, rfl⟩
abbrev main_v324 : Ref sig .tc := ⟨.hbm, 484, rfl⟩
abbrev main_v325 : Ref sig .tc := ⟨.hbm, 485, rfl⟩
abbrev main_v326 : Ref sig .tc := ⟨.hbm, 486, rfl⟩
abbrev main_v327 : Ref sig .tc := ⟨.hbm, 487, rfl⟩
abbrev main_c_108 : Ref sig .tc := ⟨.hbm, 488, rfl⟩
abbrev main_call2_v0 : Ref sig .tc := ⟨.hbm, 489, rfl⟩
abbrev main_v328 : Ref sig .tc := ⟨.hbm, 490, rfl⟩
abbrev main_v329 : Ref sig .tc := ⟨.hbm, 491, rfl⟩

abbrev nD : Nat := 1
abbrev τ : Topo := Topo.v7x

variable {F : FTy → Type} [FloatOps F]
-- ==== Norm1Bwd.lean ====
abbrev S2048x2048 : Shape := ⟨2, ![2048, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 10
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v51 : BitVec 1 := Scalar.cmpi .eq arg0 c0_i32
  let v53 : BitVec 32 := Scalar.extui v51
  let c0_i32_21 : BitVec 32 := 0#32
  let v54 : BitVec 1 := Scalar.cmpi .ne v53 c0_i32_21
  v54

def k0_cond2 (i : grid0.Coords) : BitVec 1 :=
  let arg0 : BitVec 32 := BitVec.ofNat 32 (i 0).val
  let c0_i32 : BitVec 32 := 0#32
  let v51 : BitVec 1 := Scalar.cmpi .eq arg0 c0_i32
  let v_true : BitVec 1 := 1#1
  let v55 : BitVec 1 := Scalar.xori v51 v_true
  let v56 : BitVec 32 := Scalar.extui v55
  let c0_i32_22 : BitVec 32 := 0#32
  let v57 : BitVec 1 := Scalar.cmpi .ne v56 c0_i32_22
  v57

def k0_cond3 (i : grid0.Coords) : BitVec 1 :=
  let arg0 : BitVec 32 := BitVec.ofNat 32 (i 0).val
  let c0_i32 : BitVec 32 := 0#32
  let v51 : BitVec 1 := Scalar.cmpi .eq arg0 c0_i32
  let v58 : BitVec 32 := Scalar.extui v51
  let c0_i32_23 : BitVec 32 := 0#32
  let v59 : BitVec 1 := Scalar.cmpi .ne v58 c0_i32_23
  v59

def k0_cond4 (i : grid0.Coords) : BitVec 1 :=
  let arg0 : BitVec 32 := BitVec.ofNat 32 (i 0).val
  let c0_i32 : BitVec 32 := 0#32
  let v51 : BitVec 1 := Scalar.cmpi .eq arg0 c0_i32
  let true_24 : BitVec 1 := 1#1
  let v60 : BitVec 1 := Scalar.xori v51 true_24
  let v61 : BitVec 32 := Scalar.extui v60
  let c0_i32_25 : BitVec 32 := 0#32
  let v62 : BitVec 1 := Scalar.cmpi .ne v61 c0_i32_25
  v62

def k0_cond5 (i : grid0.Coords) : BitVec 1 :=
  let arg0 : BitVec 32 := BitVec.ofNat 32 (i 0).val
  let c0_i32 : BitVec 32 := 0#32
  let v51 : BitVec 1 := Scalar.cmpi .eq arg0 c0_i32
  let v63 : BitVec 32 := Scalar.extui v51
  let c0_i32_26 : BitVec 32 := 0#32
  let v64 : BitVec 1 := Scalar.cmpi .ne v63 c0_i32_26
  v64

def k0_cond6 (i : grid0.Coords) : BitVec 1 :=
  let arg0 : BitVec 32 := BitVec.ofNat 32 (i 0).val
  let c0_i32 : BitVec 32 := 0#32
  let v51 : BitVec 1 := Scalar.cmpi .eq arg0 c0_i32
  let true_27 : BitVec 1 := 1#1
  let v65 : BitVec 1 := Scalar.xori v51 true_27
  let v66 : BitVec 32 := Scalar.extui v65
  let c0_i32_28 : BitVec 32 := 0#32
  let v67 : BitVec 1 := Scalar.cmpi .ne v66 c0_i32_28
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Norm1BwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 66
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S_, .f32⟩
  | .hbm, ⟨50, _⟩ => ⟨S2048, .f32⟩
  | .hbm, ⟨51, _⟩ => ⟨S2048x1, .f32⟩
  | .hbm, ⟨52, _⟩ => ⟨S2048x2048, .f32⟩
  | .hbm, ⟨53, _⟩ => ⟨S2048x2048, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S_, .f32⟩
  | .hbm, ⟨59, _⟩ => ⟨S2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Norm2Bwd.lean ====
abbrev S2048x2048 : Shape := ⟨2, ![2048, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 14
  | .vmem => 20
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .bf16⟩
  | .local _ .vmem, ⟨15, _⟩ => ⟨S128x2048, .bf16⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v62 : BitVec 1 := Scalar.cmpi .eq arg0 c0_i32
  let v66 : BitVec 32 := Scalar.extui v62
  let c0_i32_28 : BitVec 32 := 0#32
  let v67 : BitVec 1 := Scalar.cmpi .ne v66 c0_i32_28
  v67

def k0_cond2 (i : grid0.Coords) : BitVec 1 :=
  let arg0 : BitVec 32 := BitVec.ofNat 32 (i 0).val
  let c0_i32 : BitVec 32 := 0#32
  let v62 : BitVec 1 := Scalar.cmpi .eq arg0 c0_i32
  let v_true : BitVec 1 := 1#1
  let v68 : BitVec 1 := Scalar.xori v62 v_true
  let v69 : BitVec 32 := Scalar.extui v68
  let c0_i32_29 : BitVec 32 := 0#32
  let v70 : BitVec 1 := Scalar.cmpi .ne v69 c0_i32_29
  v70

def k0_cond3 (i : grid0.Coords) : BitVec 1 :=
  let arg0 : BitVec 32 := BitVec.ofNat 32 (i 0).val
  let c0_i32 : BitVec 32 := 0#32
  let v62 : BitVec 1 := Scalar.cmpi .eq arg0 c0_i32
  let v71 : BitVec 32 := Scalar.extui v62
  let c0_i32_30 : BitVec 32 := 0#32
  let v72 : BitVec 1 := Scalar.cmpi .ne v71 c0_i32_30
  v72

def k0_cond4 (i : grid0.Coords) : BitVec 1 :=
  let arg0 : BitVec 32 := BitVec.ofNat 32 (i 0).val
  let c0_i32 : BitVec 32 := 0#32
  let v62 : BitVec 1 := Scalar.cmpi .eq arg0 c0_i32
  let true_31 : BitVec 1 := 1#1
  let v73 : BitVec 1 := Scalar.xori v62 true_31
  let v74 : BitVec 32 := Scalar.extui v73
  let c0_i32_32 : BitVec 32 := 0#32
  let v75 : BitVec 1 := Scalar.cmpi .ne v74 c0_i32_32
  v75

def k0_cond5 (i : grid0.Coords) : BitVec 1 :=
  let arg0 : BitVec 32 := BitVec.ofNat 32 (i 0).val
  let c0_i32 : BitVec 32 := 0#32
  let v62 : BitVec 1 := Scalar.cmpi .eq arg0 c0_i32
  let v76 : BitVec 32 := Scalar.extui v62
  let c0_i32_33 : BitVec 32 := 0#32
  let v77 : BitVec 1 := Scalar.cmpi .ne v76 c0_i32_33
  v77

def k0_cond6 (i : grid0.Coords) : BitVec 1 :=
  let arg0 : BitVec 32 := BitVec.ofNat 32 (i 0).val
  let c0_i32 : BitVec 32 := 0#32
  let v62 : BitVec 1 := Scalar.cmpi .eq arg0 c0_i32
  let true_34 : BitVec 1 := 1#1
  let v78 : BitVec 1 := Scalar.xori v62 true_34
  let v79 : BitVec 32 := Scalar.extui v78
  let c0_i32_35 : BitVec 32 := 0#32
  let v80 : BitVec 1 := Scalar.cmpi .ne v79 c0_i32_35
  v80

def k0_cond7 (i : grid0.Coords) : BitVec 1 :=
  let arg0 : BitVec 32 := BitVec.ofNat 32 (i 0).val
  let c0_i32 : BitVec 32 := 0#32
  let v62 : BitVec 1 := Scalar.cmpi .eq arg0 c0_i32
  let v81 : BitVec 32 := Scalar.extui v62
  let c0_i32_36 : BitVec 32 := 0#32
  let v82 : BitVec 1 := Scalar.cmpi .ne v81 c0_i32_36
  v82

def k0_cond8 (i : grid0.Coords) : BitVec 1 :=
  let arg0 : BitVec 32 := BitVec.ofNat 32 (i 0).val
  let c0_i32 : BitVec 32 := 0#32
  let v62 : BitVec 1 := Scalar.cmpi .eq arg0 c0_i32
  let true_37 : BitVec 1 := 1#1
  let v83 : BitVec 1 := Scalar.xori v62 true_37
  let v84 : BitVec 32 := Scalar.extui v83
  let c0_i32_38 : BitVec 32 := 0#32
  let v85 : BitVec 1 := Scalar.cmpi .ne v84 c0_i32_38
  v85

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Norm2BwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 79
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S2048x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== LossBwd.lean ====
abbrev S2048x2048 : Shape := ⟨2, ![2048, 2048]⟩
abbrev S1x2048 : Shape := ⟨2, ![1, 2048]⟩
abbrev S1x128 : Shape := ⟨2, ![1, 128]⟩
abbrev S128x2048 : Shape := ⟨2, ![128, 2048]⟩
abbrev S128 : Shape := ⟨1, ![128]⟩
abbrev S128x1 : Shape := ⟨2, ![128, 1]⟩
abbrev S1 : Shape := ⟨1, ![1]⟩
abbrev S1x1 : Shape := ⟨2, ![1, 1]⟩
abbrev S2048 : Shape := ⟨1, ![2048]⟩

abbrev nBuf : Space → Nat
  | .hbm => 10
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S1x128, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .bf16⟩
  | .local _ .vmem, ⟨11, _⟩ => ⟨S128x2048, .bf16⟩
  | .local _ .vmem, ⟨12, _⟩ => ⟨S1x2048, .f32⟩
  | .local _ .vmem, ⟨13, _⟩ => ⟨S1x2048, .f32⟩
  | .local _ .vmem, ⟨14, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v70 : BitVec 1 := Scalar.cmpi .eq arg0 c0_i32
  let v74 : BitVec 32 := Scalar.extui v70
  let c0_i32_30 : BitVec 32 := 0#32
  let v75 : BitVec 1 := Scalar.cmpi .ne v74 c0_i32_30
  v75

def k0_cond2 (i : grid0.Coords) : BitVec 1 :=
  let arg0 : BitVec 32 := BitVec.ofNat 32 (i 0).val
  let c0_i32 : BitVec 32 := 0#32
  let v70 : BitVec 1 := Scalar.cmpi .eq arg0 c0_i32
  let v_true : BitVec 1 := 1#1
  let v76 : BitVec 1 := Scalar.xori v70 v_true
  let v77 : BitVec 32 := Scalar.extui v76
  let c0_i32_31 : BitVec 32 := 0#32
  let v78 : BitVec 1 := Scalar.cmpi .ne v77 c0_i32_31
  v78

def k0_cond3 (i : grid0.Coords) : BitVec 1 :=
  let arg0 : BitVec 32 := BitVec.ofNat 32 (i 0).val
  let c0_i32 : BitVec 32 := 0#32
  let v70 : BitVec 1 := Scalar.cmpi .eq arg0 c0_i32
  let v79 : BitVec 32 := Scalar.extui v70
  let c0_i32_32 : BitVec 32 := 0#32
  let v80 : BitVec 1 := Scalar.cmpi .ne v79 c0_i32_32
  v80

def k0_cond4 (i : grid0.Coords) : BitVec 1 :=
  let arg0 : BitVec 32 := BitVec.ofNat 32 (i 0).val
  let c0_i32 : BitVec 32 := 0#32
  let v70 : BitVec 1 := Scalar.cmpi .eq arg0 c0_i32
  let true_33 : BitVec 1 := 1#1
  let v81 : BitVec 1 := Scalar.xori v70 true_33
  let v82 : BitVec 32 := Scalar.extui v81
  let c0_i32_34 : BitVec 32 := 0#32
  let v83 : BitVec 1 := Scalar.cmpi .ne v82 c0_i32_34
  v83

def k0_cond5 (i : grid0.Coords) : BitVec 1 :=
  let arg0 : BitVec 32 := BitVec.ofNat 32 (i 0).val
  let c0_i32 : BitVec 32 := 0#32
  let v70 : BitVec 1 := Scalar.cmpi .eq arg0 c0_i32
  let v84 : BitVec 32 := Scalar.extui v70
  let c0_i32_35 : BitVec 32 := 0#32
  let v85 : BitVec 1 := Scalar.cmpi .ne v84 c0_i32_35
  v85

def k0_cond6 (i : grid0.Coords) : BitVec 1 :=
  let arg0 : BitVec 32 := BitVec.ofNat 32 (i 0).val
  let c0_i32 : BitVec 32 := 0#32
  let v70 : BitVec 1 := Scalar.cmpi .eq arg0 c0_i32
  let true_36 : BitVec 1 := 1#1
  let v86 : BitVec 1 := Scalar.xori v70 true_36
  let v87 : BitVec 32 := Scalar.extui v86
  let c0_i32_37 : BitVec 32 := 0#32
  let v88 : BitVec 1 := Scalar.cmpi .ne v87 c0_i32_37
  v88

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossBwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S2048x2048, .f32⟩
  | .hbm, ⟨61, _⟩ => ⟨S2048x2048, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S_, .f32⟩
  | .hbm, ⟨67, _⟩ => ⟨S2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S2048x2048, .bf16⟩
  | .hbm, ⟨80, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== CfLnBwd.lean ====
abbrev S2048x1024 : Shape := ⟨2, ![2048, 1024]⟩
abbrev S1x1024 : Shape := ⟨2, ![1, 1024]⟩
abbrev S128x1024 : Shape := ⟨2, ![128, 1024]⟩
abbrev S128 : Shape := ⟨1, ![128]⟩
abbrev S128x1 : Shape := ⟨2, ![128, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S1x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v67 : BitVec 1 := Scalar.cmpi .eq arg0 c0_i32
  let v69 : BitVec 32 := Scalar.extui v67
  let c0_i32_24 : BitVec 32 := 0#32
  let v70 : BitVec 1 := Scalar.cmpi .ne v69 c0_i32_24
  v70

def k0_cond2 (i : grid0.Coords) : BitVec 1 :=
  let arg0 : BitVec 32 := BitVec.ofNat 32 (i 0).val
  let c0_i32 : BitVec 32 := 0#32
  let v67 : BitVec 1 := Scalar.cmpi .eq arg0 c0_i32
  let v_true : BitVec 1 := 1#1
  let v71 : BitVec 1 := Scalar.xori v67 v_true
  let v72 : BitVec 32 := Scalar.extui v71
  let c0_i32_25 : BitVec 32 := 0#32
  let v73 : BitVec 1 := Scalar.cmpi .ne v72 c0_i32_25
  v73

def k0_cond3 (i : grid0.Coords) : BitVec 1 :=
  let arg0 : BitVec 32 := BitVec.ofNat 32 (i 0).val
  let c0_i32 : BitVec 32 := 0#32
  let v67 : BitVec 1 := Scalar.cmpi .eq arg0 c0_i32
  let v74 : BitVec 32 := Scalar.extui v67
  let c0_i32_26 : BitVec 32 := 0#32
  let v75 : BitVec 1 := Scalar.cmpi .ne v74 c0_i32_26
  v75

def k0_cond4 (i : grid0.Coords) : BitVec 1 :=
  let arg0 : BitVec 32 := BitVec.ofNat 32 (i 0).val
  let c0_i32 : BitVec 32 := 0#32
  let v67 : BitVec 1 := Scalar.cmpi .eq arg0 c0_i32
  let true_27 : BitVec 1 := 1#1
  let v76 : BitVec 1 := Scalar.xori v67 true_27
  let v77 : BitVec 32 := Scalar.extui v76
  let c0_i32_28 : BitVec 32 := 0#32
  let v78 : BitVec 1 := Scalar.cmpi .ne v77 c0_i32_28
  v78

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== CfLnBwdRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 87
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S_, .f32⟩
  | .hbm, ⟨70, _⟩ => ⟨S2048, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S_, .f32⟩
  | .hbm, ⟨78, _⟩ => ⟨S2048, .f32⟩
  | .hbm, ⟨79, _⟩ => ⟨S2048x1, .f32⟩
  | .hbm, ⟨80, _⟩ => ⟨S_, .f32⟩
  | .hbm, ⟨81, _⟩ => ⟨S2048x1, .f32⟩
  | .hbm, ⟨82, _⟩ => ⟨S2048x1, .f32⟩
  | .hbm, ⟨83, _⟩ => ⟨S_, .f32⟩
  | .hbm, ⟨84, _⟩ => ⟨S2048, .f32⟩
  | .hbm, ⟨85, _⟩ => ⟨S2048x1024, .f32⟩
  | .hbm, ⟨86, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v23_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v23_1 : Ref sig .tc := ⟨.hbm, 44, rfl⟩
abbrev main_v23_0 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v24 : Ref sig .tc := ⟨.hbm, 49, rfl⟩
abbrev main_cst_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_10 : Ref sig .tc := ⟨.hbm, 77, rfl⟩
abbrev main_v47 : Ref sig .tc := ⟨.hbm, 78, rfl⟩
abbrev main_v48 : Ref sig .tc := ⟨.hbm, 79, rfl⟩
abbrev main_cst_11 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩

abbrev nD : Nat := 1
abbrev τ : Topo := Topo.v7x

variable {F : FTy → Type} [FloatOps F]
-- ==== AdaDw.lean ====
abbrev S8x2048 : Shape := ⟨2, ![8, 2048]⟩
abbrev S8x3072 : Shape := ⟨2, ![8, 3072]⟩
abbrev S2048x3072 : Shape := ⟨2, ![2048, 3072]⟩
abbrev S8x512 : Shape := ⟨2, ![8, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S8x3072, .f32⟩
  | .hbm, ⟨2, _⟩ => ⟨S2048x3072, .f32⟩
  | .local _ .vmem, ⟨0, _⟩ => ⟨S8x2048, .f32⟩
  | .local _ .vmem, ⟨1, _⟩ => ⟨S8x512, .f32⟩
  | .local _ .vmem, ⟨2, _⟩ => ⟨S8x512, .f32⟩
  | .local _ .vmem, ⟨3, _⟩ => ⟨S2048x512, .f32⟩
  | .local _ .vmem, ⟨4, _⟩ => ⟨S2048x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaDwRefIdeal.lean ====
abbrev S8x2048 : Shape := ⟨2, ![8, 2048]⟩
abbrev S8x3072 : Shape := ⟨2, ![8, 3072]⟩
abbrev S_ : Shape := ⟨0, ![]⟩
abbrev S2048x3072 : Shape := ⟨2, ![2048, 3072]⟩
abbrev S3072x2048 : Shape := ⟨2, ![3072, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x3072, .f32⟩
  | .hbm, ⟨2, _⟩ => ⟨S_, .f32⟩
  | .hbm, ⟨3, _⟩ => ⟨S2048x3072, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x3072, .f32⟩
  | .hbm, ⟨14, _⟩ => ⟨S3072x2048, .f32⟩
  | .hbm, ⟨15, _⟩ => ⟨S2048x3072, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== SmallSum.lean ====
abbrev S8x640x128 : Shape := ⟨3, ![8, 640, 128]⟩
abbrev S640x128 : Shape := ⟨2, ![640, 128]⟩
abbrev S1x640x128 : Shape := ⟨3, ![1, 640, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x640x128, .f32⟩
  | .hbm, ⟨1, _⟩ => ⟨S640x128, .f32⟩
  | .local _ .vmem, ⟨0, _⟩ => ⟨S8x640x128, .f32⟩
  | .local _ .vmem, ⟨1, _⟩ => ⟨S640x128, .f32⟩
  | _, _ => ⟨S8x640x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x640x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S640x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SmallSumRefIdeal.lean ====
abbrev S8x640x128 : Shape := ⟨3, ![8, 640, 128]⟩
abbrev S_ : Shape := ⟨0, ![]⟩
abbrev S640x128 : Shape := ⟨2, ![640, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x640x128, .f32⟩
  | .hbm, ⟨1, _⟩ => ⟨S_, .f32⟩
  | .hbm, ⟨2, _⟩ => ⟨S640x128, .f32⟩
  | _, _ => ⟨S8x640x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Norm1Fwd.lean ====
abbrev S2048x2048 : Shape := ⟨2, ![2048, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .bf16⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S128x2048, .bf16⟩
  | .local _ .vmem, ⟨6, _⟩ => ⟨S128x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Norm1FwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Norm2Fwd.lean ====
abbrev S2048x2048 : Shape := ⟨2, ![2048, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .bf16⟩
  | .local _ .vmem, ⟨11, _⟩ => ⟨S128x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Norm2FwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== CfLnFwd.lean ====
abbrev S2048x1024 : Shape := ⟨2, ![2048, 1024]⟩
abbrev S1x1024 : Shape := ⟨2, ![1, 1024]⟩
abbrev S128x1024 : Shape := ⟨2, ![128, 1024]⟩
abbrev S128 : Shape := ⟨1, ![128]⟩
abbrev S128x1 : Shape := ⟨2, ![128, 1]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .bf16⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S1x1024, .f32⟩
  | .local _ .vmem, ⟨4, _⟩ => ⟨S128x1024, .bf16⟩
  | .local _ .vmem, ⟨5, _⟩ => ⟨S128x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CfLnFwdRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== MergeFwd.lean ====
abbrev S2048x2048 : Shape := ⟨2, ![2048, 2048]⟩
abbrev S2048x10368 : Shape := ⟨2, ![2048, 10368]⟩
abbrev S128x2048 : Shape := ⟨2, ![128, 2048]⟩

abbrev nBuf : Space → Nat
  | .hbm => 4
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x10368, .f32⟩
  | .hbm, ⟨3, _⟩ => ⟨S2048x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .bf16⟩
  | .local _ .vmem, ⟨9, _⟩ => ⟨S128x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeFwdRefIdeal.lean ====
abbrev S2048x2048 : Shape := ⟨2, ![2048, 2048]⟩
abbrev S2048x10368 : Shape := ⟨2, ![2048, 10368]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x10368, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== DnPostFwd.lean ====
abbrev S8x2048x128 : Shape := ⟨3, ![8, 2048, 128]⟩
abbrev S2048x10368 : Shape := ⟨2, ![2048, 10368]⟩
abbrev S1x128 : Shape := ⟨2, ![1, 128]⟩
abbrev S2048x1024 : Shape := ⟨2, ![2048, 1024]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S8x2048x128, .f32⟩
  | .hbm, ⟨1, _⟩ => ⟨S2048x10368, .f32⟩
  | .hbm, ⟨2, _⟩ => ⟨S1x128, .f32⟩
  | .hbm, ⟨3, _⟩ => ⟨S2048x1024, .bf16⟩
  | .local _ .vmem, ⟨0, _⟩ => ⟨S1x512x128, .f32⟩
  | .local _ .vmem, ⟨1, _⟩ => ⟨S1x512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S512x128, .bf16⟩
  | .local _ .vmem, ⟨6, _⟩ => ⟨S512x128, .bf16⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DnPostFwdRefIdeal.lean ====
abbrev S8x2048x128 : Shape := ⟨3, ![8, 2048, 128]⟩
abbrev S2048x10368 : Shape := ⟨2, ![2048, 10368]⟩
abbrev S1x128 : Shape := ⟨2, ![1, 128]⟩
abbrev S2048x1024 : Shape := ⟨2, ![2048, 1024]⟩
abbrev S2048x8x128 : Shape := ⟨3, ![2048, 8, 128]⟩
abbrev S128 : Shape := ⟨1, ![128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S2048x10368, .f32⟩
  | .hbm, ⟨2, _⟩ => ⟨S1x128, .f32⟩
  | .hbm, ⟨3, _⟩ => ⟨S2048x1024, .f32⟩
  | .hbm, ⟨4, _⟩ => ⟨S2048x8x128, .f32⟩
  | .hbm, ⟨5, _⟩ => ⟨S2048x8x128, .f32⟩
  | .hbm, ⟨6, _⟩ => ⟨S128, .f32⟩
  | .hbm, ⟨7, _⟩ => ⟨S2048x8x128, .f32⟩
  | .hbm, ⟨8, _⟩ => ⟨S_, .f32⟩
  | .hbm, ⟨9, _⟩ => ⟨S2048x8, .f32⟩
  | .hbm, ⟨10, _⟩ => ⟨S2048x8x1, .f32⟩
  | .hbm, ⟨11, _⟩ => ⟨S_, .f32⟩
  | .hbm, ⟨12, _⟩ => ⟨S2048x8x1, .f32⟩
  | .hbm, ⟨13, _⟩ => ⟨S2048x8x1, .f32⟩
  | .hbm, ⟨14, _⟩ => ⟨S_, .f32⟩
  | .hbm, ⟨15, _⟩ => ⟨S2048x8x1, .f32⟩
  | .hbm, ⟨16, _⟩ => ⟨S2048x8x1, .f32⟩
  | .hbm, ⟨17, _⟩ => ⟨S2048x8x1, .f32⟩
  | .hbm, ⟨18, _⟩ => ⟨S2048x8x128, .f32⟩
  | .hbm, ⟨19, _⟩ => ⟨S2048x8x128, .f32⟩
  | .hbm, ⟨20, _⟩ => ⟨S1x1x128, .f32⟩
  | .hbm, ⟨21, _⟩ => ⟨S2048x8x128, .f32⟩
  | .hbm, ⟨22, _⟩ => ⟨S2048x8x128, .f32⟩
  | .hbm, ⟨23, _⟩ => ⟨S2048x8x128, .f32⟩
  | .hbm, ⟨24, _⟩ => ⟨S2048x8x128, .f32⟩
  | .hbm, ⟨25, _⟩ => ⟨S_, .f32⟩
  | .hbm, ⟨26, _⟩ => ⟨S2048x8x128, .f32⟩
  | .hbm, ⟨27, _⟩ => ⟨S2048x8x128, .f32⟩
  | .hbm, ⟨28, _⟩ => ⟨S_, .f32⟩
  | .hbm, ⟨29, _⟩ => ⟨S2048x8x128, .f32⟩
  | .hbm, ⟨30, _⟩ => ⟨S2048x8x128, .f32⟩
  | .hbm, ⟨31, _⟩ => ⟨S2048x8x128, .f32⟩
  | .hbm, ⟨32, _⟩ => ⟨S2048x8x128, .f32⟩
  | .hbm, ⟨33, _⟩ => ⟨S2048x1024, .f32⟩
  | .hbm, ⟨34, _⟩ => ⟨S2048x1024, .bf16⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== AdaMod.lean ====
abbrev S8x2048 : Shape := ⟨2, ![8, 2048]⟩
abbrev S2048x3072 : Shape := ⟨2, ![2048, 3072]⟩
abbrev S1x3072 : Shape := ⟨2, ![1, 3072]⟩
abbrev S8x3072 : Shape := ⟨2, ![8, 3072]⟩
abbrev S2048x512 : Shape := ⟨2, ![2048, 512]⟩
abbrev S1x512 : Shape := ⟨2, ![1, 512]⟩
abbrev S8x512 : Shape := ⟨2, ![8, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x3072, .f32⟩
  | .hbm, ⟨2, _⟩ => ⟨S1x3072, .f32⟩
  | .hbm, ⟨3, _⟩ => ⟨S8x3072, .f32⟩
  | .local _ .vmem, ⟨0, _⟩ => ⟨S8x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaModRefIdeal.lean ====
abbrev S8x2048 : Shape := ⟨2, ![8, 2048]⟩
abbrev S2048x3072 : Shape := ⟨2, ![2048, 3072]⟩
abbrev S1x3072 : Shape := ⟨2, ![1, 3072]⟩
abbrev S_ : Shape := ⟨0, ![]⟩
abbrev S8x3072 : Shape := ⟨2, ![8, 3072]⟩

abbrev nBuf : Space → Nat
  | .hbm => 15
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x3072, .f32⟩
  | .hbm, ⟨2, _⟩ => ⟨S1x3072, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x3072, .f32⟩
  | .hbm, ⟨13, _⟩ => ⟨S8x3072, .f32⟩
  | .hbm, ⟨14, _⟩ => ⟨S8x3072, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Proof.Blocks.lean ====
/- What the products share: a sum over blocks is the sum over the whole axis. -/
module

public import Idealize.ShloMosaic.Lib.Pointwise

@[expose] public section

noncomputable section

namespace Cert.Blocks

open Idealize.ShloMosaic

theorem hz2 : (![0, 0] : Fin 2 → Nat) = fun _ => 0 := funext fun a => by fin_cases a <;> rfl
theorem hz3 : (![0, 0, 0] : Fin 3 → Nat) = fun _ => 0 := funext fun a => by fin_cases a <;> rfl

/-- Indices with equal coordinates are equal. -/
theorem ix3_congr {n0 n1 n2 : ℕ} {a a' : Fin n0} {b b' : Fin n1} {c c' : Fin n2} (ha : a.val = a'.val) (hb : b = b')
    (hc : c.val = c'.val) : ix3 a b c = ix3 a' b' c' := by
  rw [Fin.ext ha, hb, Fin.ext hc]

/-- A sum of block sums is the sum over the whole axis. -/
theorem sum_blocks {n t K : ℕ} (hK : n * t = K) (g : Fin n → Fin t → EReal) (f : Fin K → EReal)
    (h : ∀ (s : Fin n) (k : Fin t) (x : Fin K), x.val = t * s.val + k.val → g s k = f x) :
    ∑ s, ∑ k, g s k = ∑ x, f x := by
  subst hK
  rw [← Fintype.sum_prod_type', ← Equiv.sum_comp finProdFinEquiv]
  exact Finset.sum_congr rfl fun p _ => h p.1 p.2 _ (by simp [finProdFinEquiv]; omega)

end Cert.Blocks
-- ==== Proof.UpDx.lean ====
/- The gradient of the widening product in its input: every element of the result is the sum over the contracted axis of the products of the operands' elements,
   and the reference's result is the same sum. -/
module

public import proofs.«01_k».proof.Defs
public import proofs.«01_k».proof.Proof.Gen.UpDxIdeal.Value
public import proofs.«01_k».proof.Proof.Gen.UpDxRefIdeal.Run
public import proofs.«01_k».proof.Proof.Blocks

@[expose] public section

noncomputable section

namespace Cert.UpDxIdeal.Value

open Cert.UpDxIdeal Cert.UpDxIdeal.Gen Idealize.ShloMosaic Idealize.ShloMosaic.TcCoe Idealize.SL.Sem Cert.Blocks
open Idealize.ShloMosaic.Pipeline (Dat)

section

variable {F : FTy → Type} [FloatOps F]

/-- The first point of a run leaves the product of its blocks added to zero. -/
theorem first (c i a0 h0 a1 h1 a2 h2 a3 h3 c0 c1 x0 x1) :
    sout0_A_0 (F := F) c i a0 h0 a1 h1 a2 h2 a3 h3 c0 c1 x0 x1 = k0_pay2 k0_pay1 x0 x1 := by
  unfold sout0_A_0
  rw [View.read_writes_eq_canon _ _ _ (scover0_A_0 c i a0 h0 a1 h1 a2 h2 a3 h3 c0 c1 x0 x1)]
  unfold kernelRun0_A
  dsimp only
  sl_unfold_words
  rw [View.canon_cons_unit_zero (S := S1024x2048) hz2, View.readCov_unit_zero (S := S1024x2048) _ hz2]
  simp only [View.readAt_eq_ld, h0.read_unread, h1.read_unread, View.ld_unit_zero (S := S1x1024x1408) hz3, View.ld_unit_zero (S := S1x2048x1408) hz3]

/-- A point in the middle of a run adds the product of its blocks. -/
theorem middle (c i a0 h0 a1 h1 a2 h2 a3 h3 c0 c1 x0 x1 acc) :
    sout0_B_0 (F := F) c i a0 h0 a1 h1 a2 h2 a3 h3 c0 c1 x0 x1 acc = k0_pay2 acc x0 x1 := by
  unfold sout0_B_0
  rw [View.read_writes_eq_canon _ _ _ (scover0_B_0 c i a0 h0 a1 h1 a2 h2 a3 h3 c0 c1 x0 x1 acc)]
  unfold kernelRun0_B
  dsimp only
  sl_unfold_words
  rw [View.canon_unit_zero (S := S1024x2048) hz2]
  simp only [View.readAt_eq_ld, h0.read_unread, h1.read_unread, h3.read_unread, View.ld_unit_zero (S := S1x1024x1408) hz3, View.ld_unit_zero (S := S1x2048x1408) hz3, View.ld_unit_zero (S := S1024x2048) hz2]

/-- So does the last point of a run. -/
theorem last (c i a0 h0 a1 h1 a2 h2 a3 h3 c0 c1 x0 x1 acc) :
    sout0_C_0 (F := F) c i a0 h0 a1 h1 a2 h2 a3 h3 c0 c1 x0 x1 acc = k0_pay2 acc x0 x1 := by
  unfold sout0_C_0
  rw [View.read_writes_eq_canon _ _ _ (scover0_C_0 c i a0 h0 a1 h1 a2 h2 a3 h3 c0 c1 x0 x1 acc)]
  unfold kernelRun0_C
  dsimp only
  sl_unfold_words
  rw [View.canon_unit_zero (S := S1024x2048) hz2]
  simp only [View.readAt_eq_ld, h0.read_unread, h1.read_unread, h3.read_unread, View.ld_unit_zero (S := S1x1024x1408) hz3, View.ld_unit_zero (S := S1x2048x1408) hz3, View.ld_unit_zero (S := S1024x2048) hz2]

/-- What the last point writes out is what it leaves in the accumulator. -/
theorem written (c i a0 h0 a1 h1 a2 h2 a3 h3 c0 c1 x0 x1 acc) :
    out0_C_2 (F := F) c i a0 h0 a1 h1 a2 h2 a3 h3 c0 c1 x0 x1 acc
      = sout0_C_0 (F := F) c i a0 h0 a1 h1 a2 h2 a3 h3 c0 c1 x0 x1 acc := by
  rw [last]
  unfold out0_C_2
  rw [View.read_writes_eq_canon _ _ _ (cover0_C_2 c i a0 h0 a1 h1 a2 h2 a3 h3 c0 c1 x0 x1 acc)]
  unfold kernelRun0_C
  dsimp only
  sl_unfold_words
  rw [View.canon_unit_zero (S := S1024x2048) hz2, View.readCov_unit_zero (S := S1024x2048) _ hz2]
  simp only [View.readAt_eq_ld, h0.read_unread, h1.read_unread, h3.read_unread, View.ld_unit_zero (S := S1x1024x1408) hz3, View.ld_unit_zero (S := S1x2048x1408) hz3, View.ld_unit_zero (S := S1024x2048) hz2]

end

variable (m : (ℓ : Loc nD τ sig) → Buf (Elt Ideal) ℓ)

/-- The product, element by element. -/
def product (a : S2x2048x5632.Idx → EReal) (b : S4x2048x2816.Idx → EReal) : S2048x2048.Idx → EReal := fun i =>
  ∑ k : Fin 11264, a (ix3 ⟨k.val / 5632, by have hk := k.isLt; omega⟩ (i 0) ⟨k.val % 5632, Nat.mod_lt _ (by decide)⟩)
    * b (ix3 ⟨k.val / 2816, by have hk := k.isLt; omega⟩ (i 1) ⟨k.val % 2816, Nat.mod_lt _ (by decide)⟩)

/-- The blocks that a grid point reads, by the block that it writes. -/
theorem index_facts : ∀ t : Fin cfg0.N,
    win0_0.index t 0 = (t.val % 8) / 4 ∧ win0_0.index t 1 = win0_2.index t 0 ∧ win0_0.index t 2 = (t.val % 8) % 4
    ∧ win0_1.index t 0 = (t.val % 8) / 2 ∧ win0_1.index t 1 = win0_2.index t 1 ∧ win0_1.index t 2 = (t.val % 8) % 2
    ∧ win0_2.index t 0 < 2 ∧ win0_2.index t 1 < 1 :=
  (by decide +kernel : ∀ t : Fin grid0.N, _)

/-- The product of two blocks. -/
def tile (a : S1x1024x1408.Idx → EReal) (b : S1x2048x1408.Idx → EReal) : S1024x2048.Idx → EReal := fun y =>
  ∑ k : Fin 1408, a (ix3 0 (y 0) k) * b (ix3 0 (y 1) k)

/-- What a point adds to the accumulator. -/
def addend (c : Dev nD) (n : ℕ) : S1024x2048.Idx → EReal :=
  if h : n < cfg0.N then tile (iblk m c 0 ⟨n, h⟩) (iblk m c 1 ⟨n, h⟩) else 0

/-- The accumulator after a point: the sum of the addends of its run so far. -/
theorem scratch (c : Dev nD) (t : Fin cfg0.N) (y : S1024x2048.Idx) :
    (outsAt0 m c t.val t.isLt).2 y = ∑ s ∈ Finset.range (t.val % 8 + 1), addend m c (8 * (t.val / 8) + s) y := by
  have hN : cfg0.N = 16 := N_0
  have hlt := t.isLt
  rw [soutsAt0_0_eq, Pipeline.accAt_add_apply _ _ (fun _ => (0 : EReal)) (addend m c) _ 7, zero_add]
  · intro h i
    unfold scAt0_0
    rw [dif_pos (by omega), dif_neg (by omega), first]
    unfold addend
    rw [dif_pos (by omega)]
    unfold tile k0_pay2 k0_pay1
    pointwise
  · intro n h acc i h1 h2
    unfold scAt0_0
    rw [dif_neg (by omega)]
    split
    · rw [last]
      unfold addend
      rw [dif_pos h]
      unfold tile k0_pay2
      pointwise
    · rw [middle]
      unfold addend
      rw [dif_pos h]
      unfold tile k0_pay2
      pointwise
  · omega

/-- The points of a run write the same block. -/
theorem same_block : ∀ t u : Fin cfg0.N, t.val / 8 = u.val / 8 → win0_2.index u = win0_2.index t :=
  (by decide +kernel : ∀ t u : Fin grid0.N, t.val / 8 = u.val / 8 → win0_2.index u = win0_2.index t)

/-- An element of a block is the array's element at the block's place. -/
theorem read_block (t : Fin cfg0.N) (f : S2048x2048.Idx → EReal) (y) : ((cfg0.win 2).blk t).view.read (Elt Ideal) f y
    = f (((View.whole main_v0).slice ((win0 2).rect t)).emb y) := rfl

/-- What the last point of a run leaves to be written back. -/
theorem total (c : Dev nD) (t : Fin cfg0.N) (hm : t.val % 8 = 7) (hb : ∀ s : Fin 8, 8 * (t.val / 8) + s.val < cfg0.N) :
    (outsAt0 m c t.val t.isLt).1 = fun y => ∑ s : Fin 8, tile (iblk m c 0 ⟨8 * (t.val / 8) + s.val, hb s⟩)
      (iblk m c 1 ⟨8 * (t.val / 8) + s.val, hb s⟩) y := by
  have hC : ¬t.val % 8 = 0 := by omega
  have hw : (outsAt0 m c t.val t.isLt).1 = (outsAt0 m c t.val t.isLt).2 := by
    simp only [outsAt0_C m c t hC hm, written]
  rw [hw]
  funext y
  rw [scratch m c t y, hm, Finset.sum_range]
  refine Finset.sum_congr rfl fun s _ => ?_
  unfold addend
  rw [dif_pos (hb s)]

/-- What the last point of a run writes back is its block of the product. -/
theorem flushed_eq (c : Dev nD) (t : Fin cfg0.N) (hf : (cfg0.win 2).flush t = true) :
    (dats m 0 c).flushed 2 t = ((cfg0.win 2).blk t).view.read (Elt Ideal) (product (m (c.tc.loc main_arg0)) (m (c.tc.loc main_arg1))) := by
  have hN : cfg0.N = 16 := N_0
  have hlt := t.isLt
  have hm : t.val % 8 = 7 := (flush0_2 t).mp hf
  have hb : ∀ s : Fin 8, 8 * (t.val / 8) + s.val < cfg0.N := fun s => by omega
  rw [flushed2, total m c t hm hb]
  funext y
  have hy0 : (y 0).val < 1024 := (y 0).isLt
  have hy1 : (y 1).val < 2048 := (y 1).isLt
  refine Eq.trans ?_ (read_block t _ y).symm
  unfold product tile
  refine sum_blocks (by norm_num) _ _ fun s k x hx => ?_
  have hs' := s.isLt
  have hk' := k.isLt
  have hu : 8 * (t.val / 8) + s.val < cfg0.N := hb s
  have hr : (8 * (t.val / 8) + s.val) % 8 = s.val := by omega
  obtain ⟨a0, a1, a2, b0, b1, b2, o0, o1⟩ := index_facts ⟨8 * (t.val / 8) + s.val, hu⟩
  simp only [same_block t ⟨8 * (t.val / 8) + s.val, hu⟩ (by simp only []; omega), hr] at a0 a1 a2 b0 b1 b2 o0 o1
  generalize (⟨8 * (t.val / 8) + s.val, hu⟩ : Fin cfg0.N) = u at *
  refine congrArg₂ (fun u v : EReal => u * v) ?_ ?_
  · unfold iblk
    rw [View.read_apply]
    show m (c.tc.loc main_arg0) _ = m (c.tc.loc main_arg0) _
    refine congrArg _ (funext fun a => Fin.ext ?_)
    match a with
    | ⟨0, _⟩ => show win0_0.index u 0 * 1 + 1 * 0 = x.val / 5632; rw [a0] <;> omega
    | ⟨1, _⟩ => show win0_0.index u 1 * 1024 + 1 * (y 0).val = (win0_2.index t 0 * 1024 + 1 * (y 0).val); rw [a1] <;> omega
    | ⟨2, _⟩ => show win0_0.index u 2 * 1408 + 1 * k.val = x.val % 5632; rw [a2] <;> omega
  · unfold iblk
    rw [View.read_apply]
    show m (c.tc.loc main_arg1) _ = m (c.tc.loc main_arg1) _
    refine congrArg _ (funext fun a => Fin.ext ?_)
    match a with
    | ⟨0, _⟩ => show win0_1.index u 0 * 1 + 1 * 0 = x.val / 2816; rw [b0] <;> omega
    | ⟨1, _⟩ => show win0_1.index u 1 * 2048 + 1 * (y 1).val = (win0_2.index t 1 * 2048 + 1 * (y 1).val); rw [b1] <;> omega
    | ⟨2, _⟩ => show win0_1.index u 2 * 1408 + 1 * k.val = x.val % 2816; rw [b2] <;> omega

/-- Every index of the result lies in the block of some point. -/
theorem covered (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  obtain ⟨t, ht, e0, e1⟩ := (by decide +kernel : ∀ (p0 : Fin 2) (p1 : Fin 1), ∃ t : Fin grid0.N, win0_2.flush t = true
    ∧ win0_2.index t 0 = p0.val ∧ win0_2.index t 1 = p1.val)
    ⟨(i 0).val / 1024, by omega⟩ ⟨(i 1).val / 2048, by omega⟩
  refine ⟨t, ht, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; simp only [] <;> omega
  | ⟨1, _⟩ => show win0_2.index t 1 * 2048 ≤ (i 1).val ∧ (i 1).val < win0_2.index t 1 * 2048 + 2048; rw [e1]; simp only [] <;> omega

/-- The result array after the run is the product. -/
theorem final (c : Dev nD) : (dats m 0 c).arrAt 2 cfg0.N = product (m (c.tc.loc main_arg0)) (m (c.tc.loc main_arg1)) :=
  (dats m 0 c).arrAt_eq_of_cover 2 _ (flushed_eq m c) covered

/-- The call and its reference leave the same result. -/
theorem algebraic : Cert.algebraic_UpDxIdeal_UpDxRefIdeal (hUpDxIdeal := Cert.UpDxIdeal.Gen.facts)
    (hUpDxRefIdeal := Cert.UpDxRefIdeal.Gen.facts) := by
  intro m g m' g' _ hargs
  refine ⟨fun c => product (m (c.tc.loc main_arg0)) (m (c.tc.loc main_arg1)), ?_, ?_⟩
  · refine (θ_run (Cert.UpDxIdeal.defs (F := Ideal)) _ _).mono (fun r h c => ?_) (run_blocks m g)
    obtain ⟨hv, h0, h1⟩ := h c
    exact ⟨hv.trans (final m c), h0, h1⟩
  · refine (θ_run (Cert.UpDxRefIdeal.defs (F := Ideal)) _ _).mono (fun r h c => ?_) (Cert.UpDxRefIdeal.Value.run (F := Ideal) m' g')
    obtain ⟨hv, h0, h1⟩ := h c
    refine ⟨hv.trans ?_, h0, h1⟩
    funext i
    rw [(hargs c).1, (hargs c).2]
    unfold product
    pointwise
    have h0 : (i 0).val < 2048 := (i 0).isLt
    have h1 : (i 1).val < 2048 := (i 1).isLt
    refine Finset.sum_congr rfl fun k _ => (congrArg₂ (fun u v : EReal => u * v) ?_ ?_)
    · have hk := k.isLt
      split_ifs
      all_goals
        exact congrArg _ (ix3_congr (by simp only [Fin.coe_ofNat_eq_mod]; omega) rfl (by simp only []; omega))
    · have hk := k.isLt
      split_ifs
      all_goals
        exact congrArg _ (ix3_congr (by simp only [Fin.coe_ofNat_eq_mod]; omega) rfl (by simp only []; omega))

end Cert.UpDxIdeal.Value
-- ==== Proof.UpDw.lean ====
/- The gradient of the widening product in its weight: every element of the result is the sum over the contracted axis of the products of the operands' elements,
   and the reference's result is the same sum. -/
module

public import proofs.«01_k».proof.Defs
public import proofs.«01_k».proof.Proof.Gen.UpDwIdeal.Value
public import proofs.«01_k».proof.Proof.Gen.UpDwRefIdeal.Run
public import proofs.«01_k».proof.Proof.Blocks

@[expose] public section

noncomputable section

namespace Cert.UpDwIdeal.Value

open Cert.UpDwIdeal Cert.UpDwIdeal.Gen Idealize.ShloMosaic Idealize.ShloMosaic.TcCoe Idealize.SL.Sem Cert.Blocks
open Idealize.ShloMosaic.Pipeline (Dat)

variable (m : (ℓ : Loc nD τ sig) → Buf (Elt Ideal) ℓ)

/-- The product, element by element. -/
def product (a : S2048x2048.Idx → EReal) (b : S2x2048x5632.Idx → EReal) : S4x2048x2816.Idx → EReal := fun i =>
  ∑ k : Fin 2048, a (ix2 k (i 1))
    * b (ix3 ⟨(2816 * (i 0).val + (i 2).val) / 5632, by have h0 := (i 0).isLt; have h2 := (i 2).isLt; change (i 0).val < 4 at h0; change (i 2).val < 2816 at h2; omega⟩ k ⟨(2816 * (i 0).val + (i 2).val) % 5632, Nat.mod_lt _ (by decide)⟩)

/-- The blocks that a grid point reads, by the block that it writes. -/
theorem index_facts : ∀ t : Fin cfg0.N,
    win0_0.index t 0 = (t.val % 1) ∧ win0_0.index t 1 = win0_2.index t 1
    ∧ win0_1.index t 0 = (2 * win0_2.index t 0 + win0_2.index t 2) / 4 ∧ win0_1.index t 1 = (t.val % 1) ∧ win0_1.index t 2 = (2 * win0_2.index t 0 + win0_2.index t 2) % 4
    ∧ win0_2.index t 0 < 4 ∧ win0_2.index t 1 < 2 ∧ win0_2.index t 2 < 2 :=
  (by decide +kernel : ∀ t : Fin grid0.N, _)

/-- What a point writes back is its block of the product. -/
theorem flushed_eq (c : Dev nD) (t : Fin cfg0.N) :
    (dats m 0 c).flushed 2 t = ((cfg0.win 2).blk t).view.read (Elt Ideal) (product (m (c.tc.loc main_arg0)) (m (c.tc.loc main_arg1))) := by
  rw [flushed2]
  funext y
  obtain ⟨a0, a1, b0, b1, b2, o0, o1, o2⟩ := index_facts t
  have hy0 : (y 0).val < 1 := (y 0).isLt
  have hy1 : (y 1).val < 1024 := (y 1).isLt
  have hy2 : (y 2).val < 1408 := (y 2).isLt
  rw [View.read_apply]
  show out0_2 (iblk m c 0 t) (iblk m c 1 t) _ = _
  unfold out0_2
  rw [View.canon_unit_zero hz3, View.ld_unit_zero (S := S2048x1024) hz2, View.ld_unit_zero (S := S1x2048x1408) hz3]
  unfold k0_pay1
  pointwise
  show _ = product (m (c.tc.loc main_arg0)) (m (c.tc.loc main_arg1)) (((View.whole main_v0).slice ((win0 2).rect t)).emb y)
  unfold product
  refine Finset.sum_congr rfl fun k _ => congrArg₂ (fun u v : EReal => u * v) ?_ ?_
  · unfold iblk
    rw [View.read_apply]
    show m (c.tc.loc main_arg0) _ = m (c.tc.loc main_arg0) _
    refine congrArg _ (funext fun a => Fin.ext ?_)
    match a with
    | ⟨0, _⟩ => show win0_0.index t 0 * 2048 + 1 * k.val = k.val; rw [a0] <;> omega
    | ⟨1, _⟩ => show win0_0.index t 1 * 1024 + 1 * (y 1).val = (win0_2.index t 1 * 1024 + 1 * (y 1).val); rw [a1] <;> omega
  · unfold iblk
    rw [View.read_apply]
    show m (c.tc.loc main_arg1) _ = m (c.tc.loc main_arg1) _
    refine congrArg _ (funext fun a => Fin.ext ?_)
    match a with
    | ⟨0, _⟩ => show win0_1.index t 0 * 1 + 1 * 0 = (2816 * (win0_2.index t 0 * 1 + 1 * (y 0).val) + (win0_2.index t 2 * 1408 + 1 * (y 2).val)) / 5632; rw [b0] <;> omega
    | ⟨1, _⟩ => show win0_1.index t 1 * 2048 + 1 * k.val = k.val; rw [b1] <;> omega
    | ⟨2, _⟩ => show win0_1.index t 2 * 1408 + 1 * (y 2).val = (2816 * (win0_2.index t 0 * 1 + 1 * (y 0).val) + (win0_2.index t 2 * 1408 + 1 * (y 2).val)) % 5632; rw [b2] <;> omega

/-- Every index of the result lies in the block of some point. -/
theorem covered (i : S4x2048x2816.Idx) : ∃ t : Fin cfg0.N, (cfg0.win 2).flush t = true ∧ i ∈ ((cfg0.win 2).blk t).view.set := by
  have h0 : (i 0).val < 4 := (i 0).isLt
  have h1 : (i 1).val < 2048 := (i 1).isLt
  have h2 : (i 2).val < 2816 := (i 2).isLt
  obtain ⟨t, ht, e0, e1, e2⟩ := (by decide +kernel : ∀ (p0 : Fin 4) (p1 : Fin 2) (p2 : Fin 2), ∃ t : Fin grid0.N, win0_2.flush t = true
    ∧ win0_2.index t 0 = p0.val ∧ win0_2.index t 1 = p1.val ∧ win0_2.index t 2 = p2.val)
    ⟨(i 0).val / 1, by omega⟩ ⟨(i 1).val / 1024, by omega⟩ ⟨(i 2).val / 1408, by omega⟩
  refine ⟨t, ht, ?_⟩
  show i ∈ ((View.whole main_v0).slice (win0_2.rect t)).set
  rw [View.set_slice_whole, Rect.mem_set_unit]
  intro a
  match a with
  | ⟨0, _⟩ => show win0_2.index t 0 * 1 ≤ (i 0).val ∧ (i 0).val < win0_2.index t 0 * 1 + 1; rw [e0]; simp only [] <;> omega
  | ⟨1, _⟩ => show win0_2.index t 1 * 1024 ≤ (i 1).val ∧ (i 1).val < win0_2.index t 1 * 1024 + 1024; rw [e1]; simp only [] <;> omega
  | ⟨2, _⟩ => show win0_2.index t 2 * 1408 ≤ (i 2).val ∧ (i 2).val < win0_2.index t 2 * 1408 + 1408; rw [e2]; simp only [] <;> omega

/-- The result array after the run is the product. -/
theorem final (c : Dev nD) : (dats m 0 c).arrAt 2 cfg0.N = product (m (c.tc.loc main_arg0)) (m (c.tc.loc main_arg1)) :=
  (dats m 0 c).arrAt_eq_of_cover 2 _ (fun t _ => flushed_eq m c t) covered

/-- The call and its reference leave the same result. -/
theorem algebraic : Cert.algebraic_UpDwIdeal_UpDwRefIdeal (hUpDwIdeal := Cert.UpDwIdeal.Gen.facts)
    (hUpDwRefIdeal := Cert.UpDwRefIdeal.Gen.facts) := by
  intro m g m' g' _ hargs
  refine ⟨fun c => product (m (c.tc.loc main_arg0)) (m (c.tc.loc main_arg1)), ?_, ?_⟩
  · refine (θ_run (Cert.UpDwIdeal.defs (F := Ideal)) _ _).mono (fun r h c => ?_) (run_blocks m g)
    obtain ⟨hv, h0, h1⟩ := h c
    exact ⟨hv.trans (final m c), h0, h1⟩
  · refine (θ_run (Cert.UpDwRefIdeal.defs (F := Ideal)) _ _).mono (fun r h c => ?_) (Cert.UpDwRefIdeal.Value.run (F := Ideal) m' g')
    obtain ⟨hv, h0, h1⟩ := h c
    refine ⟨hv.trans ?_, h0, h1⟩
    funext i
    rw [(hargs c).1, (hargs c).2]
    unfold product
    pointwise
    have h0 : (i 0).val < 4 := (i 0).isLt
    have h1 : (i 1).val < 2048 := (i 1).isLt
    have h2 : (i 2).val < 2816 := (i 2).isLt
    refine Finset.sum_congr rfl fun k _ => (mul_comm _ _).trans (congrArg₂ (fun u v : EReal => u * v) ?_ ?_)
    · rfl
    · have hk := k.isLt
      split_ifs
      all_goals
        exact congrArg _ (ix3_congr (by simp only [Fin.coe_ofNat_eq_mod]; omega) rfl (by simp only []; omega))

end Cert.UpDwIdeal.Value
-- ==== Proof.InDx.lean ====
/- The gradient of the input projection in its input: every element of the result is the sum over the contracted axis of the products of the operands' elements,
   and the reference's result is the same sum. -/
module

public import proofs.«01_k».proof.Defs
public import proofs.«01_k».proof.Proof.Gen.InDxIdeal.Value
public import proofs.«01_k».proof.Proof.Gen.InDxRefIdeal.Run
public import proofs.«01_k».proof.Proof.Blocks

@[expose] public section

noncomputable section

namespace Cert.InDxIdeal.Value

open Cert.InDxIdeal Cert.InDxIdeal.Gen Idealize.ShloMosaic Idealize.ShloMosaic.TcCoe Idealize.SL.Sem Cert.Blocks
open Idealize.ShloMosaic.Pipeline (Dat)

section

variable {F : FTy → Type} [FloatOps F]

/-- The first point of a run leaves the product of its blocks added to zero. -/
theorem first (c i a0 h0 a1 h1 a2 h2 a3 h3 c0 c1 x0 x1) :
    sout0_A_0 (F := F) c i a0 h0 a1 h1 a2 h2 a3 h3 c0 c1 x0 x1 = k0_pay2 k0_pay1 x0 x1 := by
  unfold sout0_A_0
  rw [View.read_writes_eq_canon _ _ _ (scover0_A_0 c i a0 h0 a1 h1 a2 h2 a3 h3 c0 c1 x0 x1)]
  unfold kernelRun0_A
  dsimp only
  sl_unfold_words
  rw [View.canon_cons_unit_zero (S := S1024x2048) hz2, View.readCov_unit_zero (S := S1024x2048) _ hz2]
  simp only [View.readAt_eq_ld, h0.read_unread, h1.read_unread, View.ld_unit_zero (S := S1024x1152) hz2, View.ld_unit_zero (S := S2048x1152) hz2]

/-- A point in the middle of a run adds the product of its blocks. -/
theorem middle (c i a0 h0 a1 h1 a2 h2 a3 h3 c0 c1 x0 x1 acc) :
    sout0_B_0 (F := F) c i a0 h0 a1 h1 a2 h2 a3 h3 c0 c1 x0 x1 acc = k0_pay2 acc x0 x1 := by
  unfold sout0_B_0
  rw [View.read_writes_eq_canon _ _ _ (scover0_B_0 c i a0 h0 a1 h1 a2 h2 a3 h3 c0 c1 x0 x1 acc)]
  unfold kernelRun0_B
  dsimp only
  sl_unfold_words
  rw [View.canon_unit_zero (S := S1024x2048) hz2]
  simp only [View.readAt_eq_ld, h0.read_unread, h1.read_unread, h3.read_unread, View.ld_unit_zero (S := S1024x1152) hz2, View.ld_unit_zero (S := S2048x1152) hz2, View.ld_unit_zero (S := S1024x2048) hz2]

/-- So does the last point of a run. -/
theorem last (c i a0 h0 a1 h1 a2 h2 a3 h3 c0 c1 x0 x1 acc) :
    sout0_C_0 (F := F) c i a0 h0 a1 h1 a2 h2 a3 h3 c0 c1 x0 x1 acc = k0_pay2 acc x0 x1 := by
  unfold sout0_C_0
  rw [View.read_writes_eq_canon _ _ _ (scover0_C_0 c i a0 h0 a1 h1 a2 h2 a3 h3 c0 c1 x0 x1 acc)]
  unfold kernelRun0_C
  dsimp only
  sl_unfold_words
  rw [View.canon_unit_zero (S := S1024x2048) hz2]
  simp only [View.readAt_eq_ld, h0.read_unread, h1.read_unread, h3.read_unread, View.ld_unit_zero (S := S1024x1152) hz2, View.ld_unit_zero (S := S2048x1152) hz2, View.ld_unit_zero (S := S1024x2048) hz2]

/-- What the last point writes out is what it leaves in the accumulator. -/
theorem written (c i a0 h0 a1 h1 a2 h2 a3 h3 c0 c1 x0 x1 acc) :
    out0_C_2 (F := F) c i a0 h0 a1 h1 a2 h2 a3 h3 c0 c1 x0 x1 acc
      = sout0_C_0 (F := F) c i a0 h0 a1 h1 a2 h2 a3 h3 c0 c1 x0 x1 acc := by
  rw [last]
  unfold out0_C_2
  rw [View.read_writes_eq_canon _ _ _ (cover0_C_2 c i a0 h0 a1 h1 a2 h2 a3 h3 c0 c1 x0 x1 acc)]
  unfold kernelRun0_C
  dsimp only
  sl_unfold_words
  rw [View.canon_unit_zero (S := S1024x2048) hz2, View.readCov_unit_zero (S := S1024x2048) _ hz2]
  simp only [View.readAt_eq_ld, h0.read_unread, h1.read_unread, h3.read_unread, View.ld_unit_zero (S := S1024x1152) hz2, View.ld_unit_zero (S := S2048x1152) hz2, View.ld_unit_zero (S := S1024x2048) hz2]

end

variable (m : (ℓ : Loc nD τ sig) → Buf (Elt Ideal) ℓ)

/-- The product, element by element. -/
def product (a : S2048x10368.Idx → EReal) (b : S2048x10368.Idx → EReal) : S2048x2048.Idx → EReal := fun i =>
  ∑ k : Fin 10368, a (ix2 (i 0) k)
    * b (ix2 (i 1) k)

/-- The blocks that a grid point reads, by the block that it writes. -/
theorem index_facts : ∀ t : Fin cfg0.N,
    win0_0.index t 0 = win0_2.index t 0 ∧ win0_0.index t 1 = (t.val % 9)
    ∧ win0_1.index t 0 = win0_2.index t 1 ∧ win0_1.index t 1 = (t.val % 9)
    ∧ win0_2.index t 0 < 2 ∧ win0_2.index t 1 < 1 :=
  (by decide +kernel : ∀ t : Fin grid0.N, _)

/-- The product of two blocks. -/
def tile (a : S1024x1152.Idx → EReal) (b : S2048x1152.Idx → EReal) : S1024x2048.Idx → EReal := fun y =>
  ∑ k : Fin 1152, a (ix2 (y 0) k) * b (ix2 (y 1) k)

/-- What a point adds to the accumulator. -/
def addend (c : Dev nD) (n : ℕ) : S1024x2048.Idx → EReal :=
  if h : n < cfg0.N then tile (iblk m c 0 ⟨n, h⟩) (iblk m c 1 ⟨n, h⟩) else 0

/-- The accumulator after a point: the sum of the addends of its run so far. -/
theorem scratch (c : Dev nD) (t : Fin cfg0.N) (y : S1024x2048.Idx) :
    (outsAt0 m c t.val t.isLt).2 y = ∑ s ∈ Finset.range (t.val % 9 + 1), addend m c (9 * (t.val / 9) + s) y := by
  have hN : cfg0.N = 18 := N_0
  have hlt := t.isLt
  rw [soutsAt0_0_eq, Pipeline.accAt_add_apply _ _ (fun _ => (0 : EReal)) (addend m c) _ 8, zero_add]
  · intro h i
    unfold scAt0_0
    rw [dif_pos (by omega), dif_neg (by omega), first]
    unfold addend
    rw [dif_pos (by omega)]
    unfold tile k0_pay2 k0_pay1
    pointwise
  · intro n h acc i h1 h2
    unfold scAt0_0
    rw [dif_neg (by omega)]
    split
    · rw [last]
      unfold addend
      rw [dif_pos h]
      unfold tile k0_pay2
      pointwise
    · rw [middle]
      unfold addend
      rw [dif_pos h]
      unfold tile k0_pay2
      pointwise
  · omega

/-- The points of a run write the same block. -/
theorem same_block : ∀ t u : Fin cfg0.N, t.val / 9 = u.val / 9 → win0_2.index u = win0_2.index t :=
  (by decide +kernel : ∀ t u : Fin grid0.N, t.val / 9 = u.val / 9 → win0_2.index u = win0_2.index t)

/-- An element of a block is the array's element at the block's place. -/
theorem read_block (t : Fin cfg0.N) (f : S2048x2048.Idx → EReal) (y) : ((cfg0.win 2).blk t).view.read (Elt Ideal) f y
    = f (((View.whole main_v0).slice ((win0 2).rect t)).emb y) := rfl

/-- What the last point of a run leaves to be written back. -/
theorem total (c : Dev nD) (t : Fin cfg0.N) (hm : t.val % 9 = 8) (hb : ∀ s : Fin 9, 9 * (t.val / 9) + s.val < cfg0.N) :
    (outsAt0 m c t.val t.isLt).1 = fun y => ∑ s : Fin 9, tile (iblk m c 0 ⟨9 * (t.val / 9) + s.val, hb s⟩)
      (iblk m c 1 ⟨9 * (t.val / 9) + s.val, hb s⟩) y := by
  have hC : ¬t.val % 9 = 0 := by omega
  have hw : (outsAt0 m c t.val t.isLt).1 = (outsAt0 m c t.val t.isLt).2 := by
    simp only [outsAt0_C m c t hC hm, written]
  rw [hw]
  funext y
  rw [scratch m c t y, hm, Finset.sum_range]
  refine Finset.sum_congr rfl fun s _ => ?_
  unfold addend
  rw [dif_pos (hb s)]

/-- What the last point of a run writes back is its block of the product. -/
theorem flushed_eq (c : Dev nD) (t : Fin cfg0.N) (hf : (cfg0.win 2).flush t = true) :
    (dats m 0 c).flushed 2 t = ((cfg0.win 2).blk t).view.read (Elt Ideal) (product (m (c.tc.loc main_arg0)) (m (c.tc.loc main_arg1))) := by
  have hN : cfg0.N = 18 := N_0
  have hlt := t.isLt
  have hm : t.val % 9 = 8 := (flush0_2 t).mp hf
  have hb : ∀ s : Fin 9, 9 * (t.val / 9) + s.val < cfg0.N := fun s => by omega
  rw [flushed2, total m c t hm hb]
  funext y
  have hy0 : (y 0).val < 1024 := (y 0).isLt
  have hy1 : (y 1).val < 2048 := (y 1).isLt
  refine Eq.trans ?_ (read_block t _ y).symm
  unfold product tile
  refine sum_blocks (by norm_num) _ _ fun s k x hx => ?_
  have hs' := s.isLt
  have hk' := k.isLt
  have hu : 9 * (t.val / 9) + s.val < cfg0.N := hb s
  have hr : (9 * (t.val / 9) + s.val) % 9 = s.val := by omega
  obtain ⟨a0, a1, b0, b1, o0, o1⟩ := index_facts ⟨9 * (t.val / 9) + s.val, hu⟩
  simp only [same_block t ⟨9 * (t.val / 9) + s.val, hu⟩ (by simp only []; omega), hr] at a0 a1 b0 b1 o0 o1
  generalize (⟨9 * (t.val / 9) + s.val, hu⟩ : Fin cfg0.N) = u at *
  refine congrArg₂ (fun u v : EReal => u * v) ?_ ?_
  · unfold iblk
    rw [View.read_apply]
    show m (c.tc.loc main_arg0) _ = m (c.tc.loc main_arg0) _
    refine congrArg _ (funext fun a => Fin.ext ?_)
    match a with
    | ⟨0, _⟩ => show win0_0.index u 0 * 1024 + 1 * (y 0).val = (win0_2.index t 0 * 1024 + 1 * (y 0).val); rw [a0] <;> omega
    | ⟨1, _⟩ => show win0_0.index u 1 * 1152 + 1 * k.val = x.val; rw [a1] <;> omega
  · unfold iblk
    rw [View.read_apply]
    show m (c.tc.loc main_arg1) _ = m (c.tc.loc main_arg1) _
    refine congrArg _ (funext fun a => Fin.ext ?_)
    match a with
    | ⟨0, _⟩ => show win0_1.index u 0 * 2048 + 1 * (y 1).val = (win0_2.index t 1 * 2048 + 1 * (y 1).val); rw [b0] <;> omega
    | ⟨1, _⟩ => show win0_1.index u 1 * 1152 + 1 * k.val = x.val; rw [b1] <;> omega

/-- Every index of the result lies in the block of some point. -/
theorem covered (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  obtain ⟨t, ht, e0, e1⟩ := (by decide +kernel : ∀ (p0 : Fin 2) (p1 : Fin 1), ∃ t : Fin grid0.N, win0_2.flush t = true
    ∧ win0_2.index t 0 = p0.val ∧ win0_2.index t 1 = p1.val)
    ⟨(i 0).val / 1024, by omega⟩ ⟨(i 1).val / 2048, by omega⟩
  refine ⟨t, ht, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; simp only [] <;> omega
  | ⟨1, _⟩ => show win0_2.index t 1 * 2048 ≤ (i 1).val ∧ (i 1).val < win0_2.index t 1 * 2048 + 2048; rw [e1]; simp only [] <;> omega

/-- The result array after the run is the product. -/
theorem final (c : Dev nD) : (dats m 0 c).arrAt 2 cfg0.N = product (m (c.tc.loc main_arg0)) (m (c.tc.loc main_arg1)) :=
  (dats m 0 c).arrAt_eq_of_cover 2 _ (flushed_eq m c) covered

/-- The call and its reference leave the same result. -/
theorem algebraic : Cert.algebraic_InDxIdeal_InDxRefIdeal (hInDxIdeal := Cert.InDxIdeal.Gen.facts)
    (hInDxRefIdeal := Cert.InDxRefIdeal.Gen.facts) := by
  intro m g m' g' _ hargs
  refine ⟨fun c => product (m (c.tc.loc main_arg0)) (m (c.tc.loc main_arg1)), ?_, ?_⟩
  · refine (θ_run (Cert.InDxIdeal.defs (F := Ideal)) _ _).mono (fun r h c => ?_) (run_blocks m g)
    obtain ⟨hv, h0, h1⟩ := h c
    exact ⟨hv.trans (final m c), h0, h1⟩
  · refine (θ_run (Cert.InDxRefIdeal.defs (F := Ideal)) _ _).mono (fun r h c => ?_) (Cert.InDxRefIdeal.Value.run (F := Ideal) m' g')
    obtain ⟨hv, h0, h1⟩ := h c
    refine ⟨hv.trans ?_, h0, h1⟩
    funext i
    rw [(hargs c).1, (hargs c).2]
    unfold product
    pointwise

end Cert.InDxIdeal.Value
-- ==== Proof.InDw.lean ====
/- The gradient of the input projection in its weight: every element of the result is the sum over the contracted axis of the products of the operands' elements,
   and the reference's result is the same sum. -/
module

public import proofs.«01_k».proof.Defs
public import proofs.«01_k».proof.Proof.Gen.InDwIdeal.Value
public import proofs.«01_k».proof.Proof.Gen.InDwRefIdeal.Run
public import proofs.«01_k».proof.Proof.Blocks

@[expose] public section

noncomputable section

namespace Cert.InDwIdeal.Value

open Cert.InDwIdeal Cert.InDwIdeal.Gen Idealize.ShloMosaic Idealize.ShloMosaic.TcCoe Idealize.SL.Sem Cert.Blocks
open Idealize.ShloMosaic.Pipeline (Dat)

variable (m : (ℓ : Loc nD τ sig) → Buf (Elt Ideal) ℓ)

/-- The product, element by element. -/
def product (a : S2048x2048.Idx → EReal) (b : S2048x10368.Idx → EReal) : S2048x10368.Idx → EReal := fun i =>
  ∑ k : Fin 2048, a (ix2 k (i 0))
    * b (ix2 k (i 1))

/-- The blocks that a grid point reads, by the block that it writes. -/
theorem index_facts : ∀ t : Fin cfg0.N,
    win0_0.index t 0 = (t.val % 1) ∧ win0_0.index t 1 = win0_2.index t 0
    ∧ win0_1.index t 0 = (t.val % 1) ∧ win0_1.index t 1 = win0_2.index t 1
    ∧ win0_2.index t 0 < 2 ∧ win0_2.index t 1 < 9 :=
  (by decide +kernel : ∀ t : Fin grid0.N, _)

/-- What a point writes back is its block of the product. -/
theorem flushed_eq (c : Dev nD) (t : Fin cfg0.N) :
    (dats m 0 c).flushed 2 t = ((cfg0.win 2).blk t).view.read (Elt Ideal) (product (m (c.tc.loc main_arg0)) (m (c.tc.loc main_arg1))) := by
  rw [flushed2]
  funext y
  obtain ⟨a0, a1, b0, b1, o0, o1⟩ := index_facts t
  have hy0 : (y 0).val < 1024 := (y 0).isLt
  have hy1 : (y 1).val < 1152 := (y 1).isLt
  rw [View.read_apply]
  show out0_2 (iblk m c 0 t) (iblk m c 1 t) _ = _
  unfold out0_2
  rw [View.canon_unit_zero hz2, View.ld_unit_zero (S := S2048x1024) hz2, View.ld_unit_zero (S := S2048x1152) hz2]
  unfold k0_pay1
  pointwise
  show _ = product (m (c.tc.loc main_arg0)) (m (c.tc.loc main_arg1)) (((View.whole main_v0).slice ((win0 2).rect t)).emb y)
  unfold product
  refine Finset.sum_congr rfl fun k _ => congrArg₂ (fun u v : EReal => u * v) ?_ ?_
  · unfold iblk
    rw [View.read_apply]
    show m (c.tc.loc main_arg0) _ = m (c.tc.loc main_arg0) _
    refine congrArg _ (funext fun a => Fin.ext ?_)
    match a with
    | ⟨0, _⟩ => show win0_0.index t 0 * 2048 + 1 * k.val = k.val; rw [a0] <;> omega
    | ⟨1, _⟩ => show win0_0.index t 1 * 1024 + 1 * (y 0).val = (win0_2.index t 0 * 1024 + 1 * (y 0).val); rw [a1] <;> omega
  · unfold iblk
    rw [View.read_apply]
    show m (c.tc.loc main_arg1) _ = m (c.tc.loc main_arg1) _
    refine congrArg _ (funext fun a => Fin.ext ?_)
    match a with
    | ⟨0, _⟩ => show win0_1.index t 0 * 2048 + 1 * k.val = k.val; rw [b0] <;> omega
    | ⟨1, _⟩ => show win0_1.index t 1 * 1152 + 1 * (y 1).val = (win0_2.index t 1 * 1152 + 1 * (y 1).val); rw [b1] <;> omega

/-- Every index of the result lies in the block of some point. -/
theorem covered (i : S2048x10368.Idx) : ∃ t : Fin cfg0.N, (cfg0.win 2).flush t = true ∧ i ∈ ((cfg0.win 2).blk t).view.set := by
  have h0 : (i 0).val < 2048 := (i 0).isLt
  have h1 : (i 1).val < 10368 := (i 1).isLt
  obtain ⟨t, ht, e0, e1⟩ := (by decide +kernel : ∀ (p0 : Fin 2) (p1 : Fin 9), ∃ t : Fin grid0.N, win0_2.flush t = true
    ∧ win0_2.index t 0 = p0.val ∧ win0_2.index t 1 = p1.val)
    ⟨(i 0).val / 1024, by omega⟩ ⟨(i 1).val / 1152, by omega⟩
  refine ⟨t, ht, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; simp only [] <;> omega
  | ⟨1, _⟩ => show win0_2.index t 1 * 1152 ≤ (i 1).val ∧ (i 1).val < win0_2.index t 1 * 1152 + 1152; rw [e1]; simp only [] <;> omega

/-- The result array after the run is the product. -/
theorem final (c : Dev nD) : (dats m 0 c).arrAt 2 cfg0.N = product (m (c.tc.loc main_arg0)) (m (c.tc.loc main_arg1)) :=
  (dats m 0 c).arrAt_eq_of_cover 2 _ (fun t _ => flushed_eq m c t) covered

/-- The call and its reference leave the same result. -/
theorem algebraic : Cert.algebraic_InDwIdeal_InDwRefIdeal (hInDwIdeal := Cert.InDwIdeal.Gen.facts)
    (hInDwRefIdeal := Cert.InDwRefIdeal.Gen.facts) := by
  intro m g m' g' _ hargs
  refine ⟨fun c => product (m (c.tc.loc main_arg0)) (m (c.tc.loc main_arg1)), ?_, ?_⟩
  · refine (θ_run (Cert.InDwIdeal.defs (F := Ideal)) _ _).mono (fun r h c => ?_) (run_blocks m g)
    obtain ⟨hv, h0, h1⟩ := h c
    exact ⟨hv.trans (final m c), h0, h1⟩
  · refine (θ_run (Cert.InDwRefIdeal.defs (F := Ideal)) _ _).mono (fun r h c => ?_) (Cert.InDwRefIdeal.Value.run (F := Ideal) m' g')
    obtain ⟨hv, h0, h1⟩ := h c
    refine ⟨hv.trans ?_, h0, h1⟩
    funext i
    rw [(hargs c).1, (hargs c).2]
    unfold product
    pointwise
    exact Finset.sum_congr rfl fun k _ => mul_comm _ _

end Cert.InDwIdeal.Value
-- ==== Proof.DownDx.lean ====
/- The gradient of the narrowing product in its input: every element of the result is the sum over the contracted axis of the products of the operands' elements,
   and the reference's result is the same sum. -/
module

public import proofs.«01_k».proof.Defs
public import proofs.«01_k».proof.Proof.Gen.DownDxIdeal.Value
public import proofs.«01_k».proof.Proof.Gen.DownDxRefIdeal.Run
public import proofs.«01_k».proof.Proof.Blocks

@[expose] public section

noncomputable section

namespace Cert.DownDxIdeal.Value

open Cert.DownDxIdeal Cert.DownDxIdeal.Gen Idealize.ShloMosaic Idealize.ShloMosaic.TcCoe Idealize.SL.Sem Cert.Blocks
open Idealize.ShloMosaic.Pipeline (Dat)

variable (m : (ℓ : Loc nD τ sig) → Buf (Elt Ideal) ℓ)

/-- The product, element by element. -/
def product (a : S2048x2048.Idx → EReal) (b : S5632x2048.Idx → EReal) : S2048x5632.Idx → EReal := fun i =>
  ∑ k : Fin 2048, a (ix2 (i 0) k)
    * b (ix2 (i 1) k)

/-- The blocks that a grid point reads, by the block that it writes. -/
theorem index_facts : ∀ t : Fin cfg0.N,
    win0_0.index t 0 = win0_2.index t 0 ∧ win0_0.index t 1 = (t.val % 1)
    ∧ win0_1.index t 0 = win0_2.index t 1 ∧ win0_1.index t 1 = (t.val % 1)
    ∧ win0_2.index t 0 < 2 ∧ win0_2.index t 1 < 4 :=
  (by decide +kernel : ∀ t : Fin grid0.N, _)

/-- What a point writes back is its block of the product. -/
theorem flushed_eq (c : Dev nD) (t : Fin cfg0.N) :
    (dats m 0 c).flushed 2 t = ((cfg0.win 2).blk t).view.read (Elt Ideal) (product (m (c.tc.loc main_arg0)) (m (c.tc.loc main_arg1))) := by
  rw [flushed2]
  funext y
  obtain ⟨a0, a1, b0, b1, o0, o1⟩ := index_facts t
  have hy0 : (y 0).val < 1024 := (y 0).isLt
  have hy1 : (y 1).val < 1408 := (y 1).isLt
  rw [View.read_apply]
  show out0_2 (iblk m c 0 t) (iblk m c 1 t) _ = _
  unfold out0_2
  rw [View.canon_unit_zero hz2, View.ld_unit_zero (S := S1024x2048) hz2, View.ld_unit_zero (S := S1408x2048) hz2]
  unfold k0_pay1
  pointwise
  show _ = product (m (c.tc.loc main_arg0)) (m (c.tc.loc main_arg1)) (((View.whole main_v0).slice ((win0 2).rect t)).emb y)
  unfold product
  refine Finset.sum_congr rfl fun k _ => congrArg₂ (fun u v : EReal => u * v) ?_ ?_
  · unfold iblk
    rw [View.read_apply]
    show m (c.tc.loc main_arg0) _ = m (c.tc.loc main_arg0) _
    refine congrArg _ (funext fun a => Fin.ext ?_)
    match a with
    | ⟨0, _⟩ => show win0_0.index t 0 * 1024 + 1 * (y 0).val = (win0_2.index t 0 * 1024 + 1 * (y 0).val); rw [a0] <;> omega
    | ⟨1, _⟩ => show win0_0.index t 1 * 2048 + 1 * k.val = k.val; rw [a1] <;> omega
  · unfold iblk
    rw [View.read_apply]
    show m (c.tc.loc main_arg1) _ = m (c.tc.loc main_arg1) _
    refine congrArg _ (funext fun a => Fin.ext ?_)
    match a with
    | ⟨0, _⟩ => show win0_1.index t 0 * 1408 + 1 * (y 1).val = (win0_2.index t 1 * 1408 + 1 * (y 1).val); rw [b0] <;> omega
    | ⟨1, _⟩ => show win0_1.index t 1 * 2048 + 1 * k.val = k.val; rw [b1] <;> omega

/-- Every index of the result lies in the block of some point. -/
theorem covered (i : S2048x5632.Idx) : ∃ t : Fin cfg0.N, (cfg0.win 2).flush t = true ∧ i ∈ ((cfg0.win 2).blk t).view.set := by
  have h0 : (i 0).val < 2048 := (i 0).isLt
  have h1 : (i 1).val < 5632 := (i 1).isLt
  obtain ⟨t, ht, e0, e1⟩ := (by decide +kernel : ∀ (p0 : Fin 2) (p1 : Fin 4), ∃ t : Fin grid0.N, win0_2.flush t = true
    ∧ win0_2.index t 0 = p0.val ∧ win0_2.index t 1 = p1.val)
    ⟨(i 0).val / 1024, by omega⟩ ⟨(i 1).val / 1408, by omega⟩
  refine ⟨t, ht, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; simp only [] <;> omega
  | ⟨1, _⟩ => show win0_2.index t 1 * 1408 ≤ (i 1).val ∧ (i 1).val < win0_2.index t 1 * 1408 + 1408; rw [e1]; simp only [] <;> omega

/-- The result array after the run is the product. -/
theorem final (c : Dev nD) : (dats m 0 c).arrAt 2 cfg0.N = product (m (c.tc.loc main_arg0)) (m (c.tc.loc main_arg1)) :=
  (dats m 0 c).arrAt_eq_of_cover 2 _ (fun t _ => flushed_eq m c t) covered

/-- The call and its reference leave the same result. -/
theorem algebraic : Cert.algebraic_DownDxIdeal_DownDxRefIdeal (hDownDxIdeal := Cert.DownDxIdeal.Gen.facts)
    (hDownDxRefIdeal := Cert.DownDxRefIdeal.Gen.facts) := by
  intro m g m' g' _ hargs
  refine ⟨fun c => product (m (c.tc.loc main_arg0)) (m (c.tc.loc main_arg1)), ?_, ?_⟩
  · refine (θ_run (Cert.DownDxIdeal.defs (F := Ideal)) _ _).mono (fun r h c => ?_) (run_blocks m g)
    obtain ⟨hv, h0, h1⟩ := h c
    exact ⟨hv.trans (final m c), h0, h1⟩
  · refine (θ_run (Cert.DownDxRefIdeal.defs (F := Ideal)) _ _).mono (fun r h c => ?_) (Cert.DownDxRefIdeal.Value.run (F := Ideal) m' g')
    obtain ⟨hv, h0, h1⟩ := h c
    refine ⟨hv.trans ?_, h0, h1⟩
    funext i
    rw [(hargs c).1, (hargs c).2]
    unfold product
    pointwise

end Cert.DownDxIdeal.Value
-- ==== Proof.DownDw.lean ====
/- The gradient of the narrowing product in its weight: every element of the result is the sum over the contracted axis of the products of the operands' elements,
   and the reference's result is the same sum. -/
module

public import proofs.«01_k».proof.Defs
public import proofs.«01_k».proof.Proof.Gen.DownDwIdeal.Value
public import proofs.«01_k».proof.Proof.Gen.DownDwRefIdeal.Run
public import proofs.«01_k».proof.Proof.Blocks

@[expose] public section

noncomputable section

namespace Cert.DownDwIdeal.Value

open Cert.DownDwIdeal Cert.DownDwIdeal.Gen Idealize.ShloMosaic Idealize.ShloMosaic.TcCoe Idealize.SL.Sem Cert.Blocks
open Idealize.ShloMosaic.Pipeline (Dat)

variable (m : (ℓ : Loc nD τ sig) → Buf (Elt Ideal) ℓ)

/-- The product, element by element. -/
def product (a : S2048x5632.Idx → EReal) (b : S2048x2048.Idx → EReal) : S5632x2048.Idx → EReal := fun i =>
  ∑ k : Fin 2048, a (ix2 k (i 0))
    * b (ix2 k (i 1))

/-- The blocks that a grid point reads, by the block that it writes. -/
theorem index_facts : ∀ t : Fin cfg0.N,
    win0_0.index t 0 = (t.val % 1) ∧ win0_0.index t 1 = win0_2.index t 0
    ∧ win0_1.index t 0 = (t.val % 1) ∧ win0_1.index t 1 = win0_2.index t 1
    ∧ win0_2.index t 0 < 11 ∧ win0_2.index t 1 < 2 :=
  (by decide +kernel : ∀ t : Fin grid0.N, _)

/-- What a point writes back is its block of the product. -/
theorem flushed_eq (c : Dev nD) (t : Fin cfg0.N) :
    (dats m 0 c).flushed 2 t = ((cfg0.win 2).blk t).view.read (Elt Ideal) (product (m (c.tc.loc main_arg0)) (m (c.tc.loc main_arg1))) := by
  rw [flushed2]
  funext y
  obtain ⟨a0, a1, b0, b1, o0, o1⟩ := index_facts t
  have hy0 : (y 0).val < 512 := (y 0).isLt
  have hy1 : (y 1).val < 1024 := (y 1).isLt
  rw [View.read_apply]
  show out0_2 (iblk m c 0 t) (iblk m c 1 t) _ = _
  unfold out0_2
  rw [View.canon_unit_zero hz2, View.ld_unit_zero (S := S2048x512) hz2, View.ld_unit_zero (S := S2048x1024) hz2]
  unfold k0_pay1
  pointwise
  show _ = product (m (c.tc.loc main_arg0)) (m (c.tc.loc main_arg1)) (((View.whole main_v0).slice ((win0 2).rect t)).emb y)
  unfold product
  refine Finset.sum_congr rfl fun k _ => congrArg₂ (fun u v : EReal => u * v) ?_ ?_
  · unfold iblk
    rw [View.read_apply]
    show m (c.tc.loc main_arg0) _ = m (c.tc.loc main_arg0) _
    refine congrArg _ (funext fun a => Fin.ext ?_)
    match a with
    | ⟨0, _⟩ => show win0_0.index t 0 * 2048 + 1 * k.val = k.val; rw [a0] <;> omega
    | ⟨1, _⟩ => show win0_0.index t 1 * 512 + 1 * (y 0).val = (win0_2.index t 0 * 512 + 1 * (y 0).val); rw [a1] <;> omega
  · unfold iblk
    rw [View.read_apply]
    show m (c.tc.loc main_arg1) _ = m (c.tc.loc main_arg1) _
    refine congrArg _ (funext fun a => Fin.ext ?_)
    match a with
    | ⟨0, _⟩ => show win0_1.index t 0 * 2048 + 1 * k.val = k.val; rw [b0] <;> omega
    | ⟨1, _⟩ => show win0_1.index t 1 * 1024 + 1 * (y 1).val = (win0_2.index t 1 * 1024 + 1 * (y 1).val); rw [b1] <;> omega

/-- Every index of the result lies in the block of some point. -/
theorem covered (i : S5632x2048.Idx) : ∃ t : Fin cfg0.N, (cfg0.win 2).flush t = true ∧ i ∈ ((cfg0.win 2).blk t).view.set := by
  have h0 : (i 0).val < 5632 := (i 0).isLt
  have h1 : (i 1).val < 2048 := (i 1).isLt
  obtain ⟨t, ht, e0, e1⟩ := (by decide +kernel : ∀ (p0 : Fin 11) (p1 : Fin 2), ∃ t : Fin grid0.N, win0_2.flush t = true
    ∧ win0_2.index t 0 = p0.val ∧ win0_2.index t 1 = p1.val)
    ⟨(i 0).val / 512, by omega⟩ ⟨(i 1).val / 1024, by omega⟩
  refine ⟨t, ht, ?_⟩
  show i ∈ ((View.whole main_v0).slice (win0_2.rect t)).set
  rw [View.set_slice_whole, Rect.mem_set_unit]
  intro a
  match a with
  | ⟨0, _⟩ => show win0_2.index t 0 * 512 ≤ (i 0).val ∧ (i 0).val < win0_2.index t 0 * 512 + 512; rw [e0]; simp only [] <;> omega
  | ⟨1, _⟩ => show win0_2.index t 1 * 1024 ≤ (i 1).val ∧ (i 1).val < win0_2.index t 1 * 1024 + 1024; rw [e1]; simp only [] <;> omega

/-- The result array after the run is the product. -/
theorem final (c : Dev nD) : (dats m 0 c).arrAt 2 cfg0.N = product (m (c.tc.loc main_arg0)) (m (c.tc.loc main_arg1)) :=
  (dats m 0 c).arrAt_eq_of_cover 2 _ (fun t _ => flushed_eq m c t) covered

/-- The call and its reference leave the same result. -/
theorem algebraic : Cert.algebraic_DownDwIdeal_DownDwRefIdeal (hDownDwIdeal := Cert.DownDwIdeal.Gen.facts)
    (hDownDwRefIdeal := Cert.DownDwRefIdeal.Gen.facts) := by
  intro m g m' g' _ hargs
  refine ⟨fun c => product (m (c.tc.loc main_arg0)) (m (c.tc.loc main_arg1)), ?_, ?_⟩
  · refine (θ_run (Cert.DownDwIdeal.defs (F := Ideal)) _ _).mono (fun r h c => ?_) (run_blocks m g)
    obtain ⟨hv, h0, h1⟩ := h c
    exact ⟨hv.trans (final m c), h0, h1⟩
  · refine (θ_run (Cert.DownDwRefIdeal.defs (F := Ideal)) _ _).mono (fun r h c => ?_) (Cert.DownDwRefIdeal.Value.run (F := Ideal) m' g')
    obtain ⟨hv, h0, h1⟩ := h c
    refine ⟨hv.trans ?_, h0, h1⟩
    funext i
    rw [(hargs c).1, (hargs c).2]
    unfold product
    pointwise
    exact Finset.sum_congr rfl fun k _ => mul_comm _ _

end Cert.DownDwIdeal.Value
-- ==== Proof.OutDx.lean ====
/- The gradient of the output projection in its input: every element of the result is the sum over the contracted axis of the products of the operands' elements,
   and the reference's result is the same sum. -/
module

public import proofs.«01_k».proof.Defs
public import proofs.«01_k».proof.Proof.Gen.OutDxIdeal.Value
public import proofs.«01_k».proof.Proof.Gen.OutDxRefIdeal.Run
public import proofs.«01_k».proof.Proof.Blocks

@[expose] public section

noncomputable section

namespace Cert.OutDxIdeal.Value

open Cert.OutDxIdeal Cert.OutDxIdeal.Gen Idealize.ShloMosaic Idealize.ShloMosaic.TcCoe Idealize.SL.Sem Cert.Blocks
open Idealize.ShloMosaic.Pipeline (Dat)

variable (m : (ℓ : Loc nD τ sig) → Buf (Elt Ideal) ℓ)

/-- The product, element by element. -/
def product (a : S2048x2048.Idx → EReal) (b : S2048x2048.Idx → EReal) : S2048x2048.Idx → EReal := fun i =>
  ∑ k : Fin 2048, a (ix2 (i 0) k)
    * b (ix2 (i 1) k)

/-- The blocks that a grid point reads, by the block that it writes. -/
theorem index_facts : ∀ t : Fin cfg0.N,
    win0_0.index t 0 = win0_2.index t 0 ∧ win0_0.index t 1 = (t.val % 1)
    ∧ win0_1.index t 0 = win0_2.index t 1 ∧ win0_1.index t 1 = (t.val % 1)
    ∧ win0_2.index t 0 < 2 ∧ win0_2.index t 1 < 1 :=
  (by decide +kernel : ∀ t : Fin grid0.N, _)

/-- What a point writes back is its block of the product. -/
theorem flushed_eq (c : Dev nD) (t : Fin cfg0.N) :
    (dats m 0 c).flushed 2 t = ((cfg0.win 2).blk t).view.read (Elt Ideal) (product (m (c.tc.loc main_arg0)) (m (c.tc.loc main_arg1))) := by
  rw [flushed2]
  funext y
  obtain ⟨a0, a1, b0, b1, o0, o1⟩ := index_facts t
  have hy0 : (y 0).val < 1024 := (y 0).isLt
  have hy1 : (y 1).val < 2048 := (y 1).isLt
  rw [View.read_apply]
  show out0_2 (iblk m c 0 t) (iblk m c 1 t) _ = _
  unfold out0_2
  rw [View.canon_unit_zero hz2, View.ld_unit_zero (S := S1024x2048) hz2, View.ld_unit_zero (S := S2048x2048) hz2]
  unfold k0_pay1
  pointwise
  show _ = product (m (c.tc.loc main_arg0)) (m (c.tc.loc main_arg1)) (((View.whole main_v0).slice ((win0 2).rect t)).emb y)
  unfold product
  refine Finset.sum_congr rfl fun k _ => congrArg₂ (fun u v : EReal => u * v) ?_ ?_
  · unfold iblk
    rw [View.read_apply]
    show m (c.tc.loc main_arg0) _ = m (c.tc.loc main_arg0) _
    refine congrArg _ (funext fun a => Fin.ext ?_)
    match a with
    | ⟨0, _⟩ => show win0_0.index t 0 * 1024 + 1 * (y 0).val = (win0_2.index t 0 * 1024 + 1 * (y 0).val); rw [a0] <;> omega
    | ⟨1, _⟩ => show win0_0.index t 1 * 2048 + 1 * k.val = k.val; rw [a1] <;> omega
  · unfold iblk
    rw [View.read_apply]
    show m (c.tc.loc main_arg1) _ = m (c.tc.loc main_arg1) _
    refine congrArg _ (funext fun a => Fin.ext ?_)
    match a with
    | ⟨0, _⟩ => show win0_1.index t 0 * 2048 + 1 * (y 1).val = (win0_2.index t 1 * 2048 + 1 * (y 1).val); rw [b0] <;> omega
    | ⟨1, _⟩ => show win0_1.index t 1 * 2048 + 1 * k.val = k.val; rw [b1] <;> omega

/-- Every index of the result lies in the block of some point. -/
theorem covered (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  obtain ⟨t, ht, e0, e1⟩ := (by decide +kernel : ∀ (p0 : Fin 2) (p1 : Fin 1), ∃ t : Fin grid0.N, win0_2.flush t = true
    ∧ win0_2.index t 0 = p0.val ∧ win0_2.index t 1 = p1.val)
    ⟨(i 0).val / 1024, by omega⟩ ⟨(i 1).val / 2048, by omega⟩
  refine ⟨t, ht, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; simp only [] <;> omega
  | ⟨1, _⟩ => show win0_2.index t 1 * 2048 ≤ (i 1).val ∧ (i 1).val < win0_2.index t 1 * 2048 + 2048; rw [e1]; simp only [] <;> omega

/-- The result array after the run is the product. -/
theorem final (c : Dev nD) : (dats m 0 c).arrAt 2 cfg0.N = product (m (c.tc.loc main_arg0)) (m (c.tc.loc main_arg1)) :=
  (dats m 0 c).arrAt_eq_of_cover 2 _ (fun t _ => flushed_eq m c t) covered

/-- The call and its reference leave the same result. -/
theorem algebraic : Cert.algebraic_OutDxIdeal_OutDxRefIdeal (hOutDxIdeal := Cert.OutDxIdeal.Gen.facts)
    (hOutDxRefIdeal := Cert.OutDxRefIdeal.Gen.facts) := by
  intro m g m' g' _ hargs
  refine ⟨fun c => product (m (c.tc.loc main_arg0)) (m (c.tc.loc main_arg1)), ?_, ?_⟩
  · refine (θ_run (Cert.OutDxIdeal.defs (F := Ideal)) _ _).mono (fun r h c => ?_) (run_blocks m g)
    obtain ⟨hv, h0, h1⟩ := h c
    exact ⟨hv.trans (final m c), h0, h1⟩
  · refine (θ_run (Cert.OutDxRefIdeal.defs (F := Ideal)) _ _).mono (fun r h c => ?_) (Cert.OutDxRefIdeal.Value.run (F := Ideal) m' g')
    obtain ⟨hv, h0, h1⟩ := h c
    refine ⟨hv.trans ?_, h0, h1⟩
    funext i
    rw [(hargs c).1, (hargs c).2]
    unfold product
    pointwise

end Cert.OutDxIdeal.Value
-- ==== Proof.OutDw.lean ====
/- The gradient of the output projection in its weight: every element of the result is the sum over the contracted axis of the products of the operands' elements,
   and the reference's result is the same sum. -/
module

public import proofs.«01_k».proof.Defs
public import proofs.«01_k».proof.Proof.Gen.OutDwIdeal.Value
public import proofs.«01_k».proof.Proof.Gen.OutDwRefIdeal.Run
public import proofs.«01_k».proof.Proof.Blocks

@[expose] public section

noncomputable section

namespace Cert.OutDwIdeal.Value

open Cert.OutDwIdeal Cert.OutDwIdeal.Gen Idealize.ShloMosaic Idealize.ShloMosaic.TcCoe Idealize.SL.Sem Cert.Blocks
open Idealize.ShloMosaic.Pipeline (Dat)

variable (m : (ℓ : Loc nD τ sig) → Buf (Elt Ideal) ℓ)

/-- The product, element by element. -/
def product (a : S2048x2048.Idx → EReal) (b : S2048x2048.Idx → EReal) : S2048x2048.Idx → EReal := fun i =>
  ∑ k : Fin 2048, a (ix2 k (i 0))
    * b (ix2 k (i 1))

/-- The blocks that a grid point reads, by the block that it writes. -/
theorem index_facts : ∀ t : Fin cfg0.N,
    win0_0.index t 0 = (t.val % 1) ∧ win0_0.index t 1 = win0_2.index t 0
    ∧ win0_1.index t 0 = (t.val % 1) ∧ win0_1.index t 1 = win0_2.index t 1
    ∧ win0_2.index t 0 < 2 ∧ win0_2.index t 1 < 2 :=
  (by decide +kernel : ∀ t : Fin grid0.N, _)

/-- What a point writes back is its block of the product. -/
theorem flushed_eq (c : Dev nD) (t : Fin cfg0.N) :
    (dats m 0 c).flushed 2 t = ((cfg0.win 2).blk t).view.read (Elt Ideal) (product (m (c.tc.loc main_arg0)) (m (c.tc.loc main_arg1))) := by
  rw [flushed2]
  funext y
  obtain ⟨a0, a1, b0, b1, o0, o1⟩ := index_facts t
  have hy0 : (y 0).val < 1024 := (y 0).isLt
  have hy1 : (y 1).val < 1024 := (y 1).isLt
  rw [View.read_apply]
  show out0_2 (iblk m c 0 t) (iblk m c 1 t) _ = _
  unfold out0_2
  rw [View.canon_unit_zero hz2, View.ld_unit_zero (S := S2048x1024) hz2, View.ld_unit_zero (S := S2048x1024) hz2]
  unfold k0_pay1
  pointwise
  show _ = product (m (c.tc.loc main_arg0)) (m (c.tc.loc main_arg1)) (((View.whole main_v0).slice ((win0 2).rect t)).emb y)
  unfold product
  refine Finset.sum_congr rfl fun k _ => congrArg₂ (fun u v : EReal => u * v) ?_ ?_
  · unfold iblk
    rw [View.read_apply]
    show m (c.tc.loc main_arg0) _ = m (c.tc.loc main_arg0) _
    refine congrArg _ (funext fun a => Fin.ext ?_)
    match a with
    | ⟨0, _⟩ => show win0_0.index t 0 * 2048 + 1 * k.val = k.val; rw [a0] <;> omega
    | ⟨1, _⟩ => show win0_0.index t 1 * 1024 + 1 * (y 0).val = (win0_2.index t 0 * 1024 + 1 * (y 0).val); rw [a1] <;> omega
  · unfold iblk
    rw [View.read_apply]
    show m (c.tc.loc main_arg1) _ = m (c.tc.loc main_arg1) _
    refine congrArg _ (funext fun a => Fin.ext ?_)
    match a with
    | ⟨0, _⟩ => show win0_1.index t 0 * 2048 + 1 * k.val = k.val; rw [b0] <;> omega
    | ⟨1, _⟩ => show win0_1.index t 1 * 1024 + 1 * (y 1).val = (win0_2.index t 1 * 1024 + 1 * (y 1).val); rw [b1] <;> omega

/-- Every index of the result lies in the block of some point. -/
theorem covered (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  obtain ⟨t, ht, e0, e1⟩ := (by decide +kernel : ∀ (p0 : Fin 2) (p1 : Fin 2), ∃ t : Fin grid0.N, win0_2.flush t = true
    ∧ win0_2.index t 0 = p0.val ∧ win0_2.index t 1 = p1.val)
    ⟨(i 0).val / 1024, by omega⟩ ⟨(i 1).val / 1024, by omega⟩
  refine ⟨t, ht, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; simp only [] <;> omega
  | ⟨1, _⟩ => show win0_2.index t 1 * 1024 ≤ (i 1).val ∧ (i 1).val < win0_2.index t 1 * 1024 + 1024; rw [e1]; simp only [] <;> omega

/-- The result array after the run is the product. -/
theorem final (c : Dev nD) : (dats m 0 c).arrAt 2 cfg0.N = product (m (c.tc.loc main_arg0)) (m (c.tc.loc main_arg1)) :=
  (dats m 0 c).arrAt_eq_of_cover 2 _ (fun t _ => flushed_eq m c t) covered

/-- The call and its reference leave the same result. -/
theorem algebraic : Cert.algebraic_OutDwIdeal_OutDwRefIdeal (hOutDwIdeal := Cert.OutDwIdeal.Gen.facts)
    (hOutDwRefIdeal := Cert.OutDwRefIdeal.Gen.facts) := by
  intro m g m' g' _ hargs
  refine ⟨fun c => product (m (c.tc.loc main_arg0)) (m (c.tc.loc main_arg1)), ?_, ?_⟩
  · refine (θ_run (Cert.OutDwIdeal.defs (F := Ideal)) _ _).mono (fun r h c => ?_) (run_blocks m g)
    obtain ⟨hv, h0, h1⟩ := h c
    exact ⟨hv.trans (final m c), h0, h1⟩
  · refine (θ_run (Cert.OutDwRefIdeal.defs (F := Ideal)) _ _).mono (fun r h c => ?_) (Cert.OutDwRefIdeal.Value.run (F := Ideal) m' g')
    obtain ⟨hv, h0, h1⟩ := h c
    refine ⟨hv.trans ?_, h0, h1⟩
    funext i
    rw [(hargs c).1, (hargs c).2]
    unfold product
    pointwise
    exact Finset.sum_congr rfl fun k _ => mul_comm _ _

end Cert.OutDwIdeal.Value
-- ==== Proof.BranchDx.lean ====
/- The gradient of a branch's projection in its input: every element of the result is the sum over the contracted axis of the products of the operands' elements,
   and the reference's result is the same sum. -/
module

public import proofs.«01_k».proof.Defs
public import proofs.«01_k».proof.Proof.Gen.BranchDxIdeal.Value
public import proofs.«01_k».proof.Proof.Gen.BranchDxRefIdeal.Run
public import proofs.«01_k».proof.Proof.Blocks

@[expose] public section

noncomputable section

namespace Cert.BranchDxIdeal.Value

open Cert.BranchDxIdeal Cert.BranchDxIdeal.Gen Idealize.ShloMosaic Idealize.ShloMosaic.TcCoe Idealize.SL.Sem Cert.Blocks
open Idealize.ShloMosaic.Pipeline (Dat)

section

variable {F : FTy → Type} [FloatOps F]

/-- The first point of a run leaves the product of its blocks added to zero. -/
theorem first (c i a0 h0 a1 h1 a2 h2 a3 h3 c0 c1 x0 x1) :
    sout0_A_0 (F := F) c i a0 h0 a1 h1 a2 h2 a3 h3 c0 c1 x0 x1 = k0_pay2 k0_pay1 x0 x1 := by
  unfold sout0_A_0
  rw [View.read_writes_eq_canon _ _ _ (scover0_A_0 c i a0 h0 a1 h1 a2 h2 a3 h3 c0 c1 x0 x1)]
  unfold kernelRun0_A
  dsimp only
  sl_unfold_words
  rw [View.canon_cons_unit_zero (S := S1024x1024) hz2, View.readCov_unit_zero (S := S1024x1024) _ hz2]
  simp only [View.readAt_eq_ld, h0.read_unread, h1.read_unread, View.ld_unit_zero (S := S1024x512) hz2, View.ld_unit_zero (S := S1x1024x512) hz3]

/-- A point in the middle of a run adds the product of its blocks. -/
theorem middle (c i a0 h0 a1 h1 a2 h2 a3 h3 c0 c1 x0 x1 acc) :
    sout0_B_0 (F := F) c i a0 h0 a1 h1 a2 h2 a3 h3 c0 c1 x0 x1 acc = k0_pay2 acc x0 x1 := by
  unfold sout0_B_0
  rw [View.read_writes_eq_canon _ _ _ (scover0_B_0 c i a0 h0 a1 h1 a2 h2 a3 h3 c0 c1 x0 x1 acc)]
  unfold kernelRun0_B
  dsimp only
  sl_unfold_words
  rw [View.canon_unit_zero (S := S1024x1024) hz2]
  simp only [View.readAt_eq_ld, h0.read_unread, h1.read_unread, h3.read_unread, View.ld_unit_zero (S := S1024x512) hz2, View.ld_unit_zero (S := S1x1024x512) hz3, View.ld_unit_zero (S := S1024x1024) hz2]

/-- So does the last point of a run. -/
theorem last (c i a0 h0 a1 h1 a2 h2 a3 h3 c0 c1 x0 x1 acc) :
    sout0_C_0 (F := F) c i a0 h0 a1 h1 a2 h2 a3 h3 c0 c1 x0 x1 acc = k0_pay2 acc x0 x1 := by
  unfold sout0_C_0
  rw [View.read_writes_eq_canon _ _ _ (scover0_C_0 c i a0 h0 a1 h1 a2 h2 a3 h3 c0 c1 x0 x1 acc)]
  unfold kernelRun0_C
  dsimp only
  sl_unfold_words
  rw [View.canon_unit_zero (S := S1024x1024) hz2]
  simp only [View.readAt_eq_ld, h0.read_unread, h1.read_unread, h3.read_unread, View.ld_unit_zero (S := S1024x512) hz2, View.ld_unit_zero (S := S1x1024x512) hz3, View.ld_unit_zero (S := S1024x1024) hz2]

/-- What the last point writes out is what it leaves in the accumulator. -/
theorem written (c i a0 h0 a1 h1 a2 h2 a3 h3 c0 c1 x0 x1 acc) :
    out0_C_2 (F := F) c i a0 h0 a1 h1 a2 h2 a3 h3 c0 c1 x0 x1 acc
      = sout0_C_0 (F := F) c i a0 h0 a1 h1 a2 h2 a3 h3 c0 c1 x0 x1 acc := by
  rw [last]
  unfold out0_C_2
  rw [View.read_writes_eq_canon _ _ _ (cover0_C_2 c i a0 h0 a1 h1 a2 h2 a3 h3 c0 c1 x0 x1 acc)]
  unfold kernelRun0_C
  dsimp only
  sl_unfold_words
  rw [View.canon_unit_zero (S := S1024x1024) hz2, View.readCov_unit_zero (S := S1024x1024) _ hz2]
  simp only [View.readAt_eq_ld, h0.read_unread, h1.read_unread, h3.read_unread, View.ld_unit_zero (S := S1024x512) hz2, View.ld_unit_zero (S := S1x1024x512) hz3, View.ld_unit_zero (S := S1024x1024) hz2]

end

variable (m : (ℓ : Loc nD τ sig) → Buf (Elt Ideal) ℓ)

/-- The product, element by element. -/
def product (a : S2048x2048.Idx → EReal) (b : S4x1024x512.Idx → EReal) : S2048x1024.Idx → EReal := fun i =>
  ∑ k : Fin 2048, a (ix2 (i 0) k)
    * b (ix3 ⟨k.val / 512, by have hk := k.isLt; omega⟩ (i 1) ⟨k.val % 512, Nat.mod_lt _ (by decide)⟩)

/-- The blocks that a grid point reads, by the block that it writes. -/
theorem index_facts : ∀ t : Fin cfg0.N,
    win0_0.index t 0 = win0_2.index t 0 ∧ win0_0.index t 1 = (t.val % 4)
    ∧ win0_1.index t 0 = (t.val % 4) / 1 ∧ win0_1.index t 1 = win0_2.index t 1 ∧ win0_1.index t 2 = (t.val % 4) % 1
    ∧ win0_2.index t 0 < 2 ∧ win0_2.index t 1 < 1 :=
  (by decide +kernel : ∀ t : Fin grid0.N, _)

/-- The product of two blocks. -/
def tile (a : S1024x512.Idx → EReal) (b : S1x1024x512.Idx → EReal) : S1024x1024.Idx → EReal := fun y =>
  ∑ k : Fin 512, a (ix2 (y 0) k) * b (ix3 0 (y 1) k)

/-- What a point adds to the accumulator. -/
def addend (c : Dev nD) (n : ℕ) : S1024x1024.Idx → EReal :=
  if h : n < cfg0.N then tile (iblk m c 0 ⟨n, h⟩) (iblk m c 1 ⟨n, h⟩) else 0

/-- The accumulator after a point: the sum of the addends of its run so far. -/
theorem scratch (c : Dev nD) (t : Fin cfg0.N) (y : S1024x1024.Idx) :
    (outsAt0 m c t.val t.isLt).2 y = ∑ s ∈ Finset.range (t.val % 4 + 1), addend m c (4 * (t.val / 4) + s) y := by
  have hN : cfg0.N = 8 := N_0
  have hlt := t.isLt
  rw [soutsAt0_0_eq, Pipeline.accAt_add_apply _ _ (fun _ => (0 : EReal)) (addend m c) _ 3, zero_add]
  · intro h i
    unfold scAt0_0
    rw [dif_pos (by omega), dif_neg (by omega), first]
    unfold addend
    rw [dif_pos (by omega)]
    unfold tile k0_pay2 k0_pay1
    pointwise
  · intro n h acc i h1 h2
    unfold scAt0_0
    rw [dif_neg (by omega)]
    split
    · rw [last]
      unfold addend
      rw [dif_pos h]
      unfold tile k0_pay2
      pointwise
    · rw [middle]
      unfold addend
      rw [dif_pos h]
      unfold tile k0_pay2
      pointwise
  · omega

/-- The points of a run write the same block. -/
theorem same_block : ∀ t u : Fin cfg0.N, t.val / 4 = u.val / 4 → win0_2.index u = win0_2.index t :=
  (by decide +kernel : ∀ t u : Fin grid0.N, t.val / 4 = u.val / 4 → win0_2.index u = win0_2.index t)

/-- An element of a block is the array's element at the block's place. -/
theorem read_block (t : Fin cfg0.N) (f : S2048x1024.Idx → EReal) (y) : ((cfg0.win 2).blk t).view.read (Elt Ideal) f y
    = f (((View.whole main_v0).slice ((win0 2).rect t)).emb y) := rfl

/-- What the last point of a run leaves to be written back. -/
theorem total (c : Dev nD) (t : Fin cfg0.N) (hm : t.val % 4 = 3) (hb : ∀ s : Fin 4, 4 * (t.val / 4) + s.val < cfg0.N) :
    (outsAt0 m c t.val t.isLt).1 = fun y => ∑ s : Fin 4, tile (iblk m c 0 ⟨4 * (t.val / 4) + s.val, hb s⟩)
      (iblk m c 1 ⟨4 * (t.val / 4) + s.val, hb s⟩) y := by
  have hC : ¬t.val % 4 = 0 := by omega
  have hw : (outsAt0 m c t.val t.isLt).1 = (outsAt0 m c t.val t.isLt).2 := by
    simp only [outsAt0_C m c t hC hm, written]
  rw [hw]
  funext y
  rw [scratch m c t y, hm, Finset.sum_range]
  refine Finset.sum_congr rfl fun s _ => ?_
  unfold addend
  rw [dif_pos (hb s)]

/-- What the last point of a run writes back is its block of the product. -/
theorem flushed_eq (c : Dev nD) (t : Fin cfg0.N) (hf : (cfg0.win 2).flush t = true) :
    (dats m 0 c).flushed 2 t = ((cfg0.win 2).blk t).view.read (Elt Ideal) (product (m (c.tc.loc main_arg0)) (m (c.tc.loc main_arg1))) := by
  have hN : cfg0.N = 8 := N_0
  have hlt := t.isLt
  have hm : t.val % 4 = 3 := (flush0_2 t).mp hf
  have hb : ∀ s : Fin 4, 4 * (t.val / 4) + s.val < cfg0.N := fun s => by omega
  rw [flushed2, total m c t hm hb]
  funext y
  have hy0 : (y 0).val < 1024 := (y 0).isLt
  have hy1 : (y 1).val < 1024 := (y 1).isLt
  refine Eq.trans ?_ (read_block t _ y).symm
  unfold product tile
  refine sum_blocks (by norm_num) _ _ fun s k x hx => ?_
  have hs' := s.isLt
  have hk' := k.isLt
  have hu : 4 * (t.val / 4) + s.val < cfg0.N := hb s
  have hr : (4 * (t.val / 4) + s.val) % 4 = s.val := by omega
  obtain ⟨a0, a1, b0, b1, b2, o0, o1⟩ := index_facts ⟨4 * (t.val / 4) + s.val, hu⟩
  simp only [same_block t ⟨4 * (t.val / 4) + s.val, hu⟩ (by simp only []; omega), hr] at a0 a1 b0 b1 b2 o0 o1
  generalize (⟨4 * (t.val / 4) + s.val, hu⟩ : Fin cfg0.N) = u at *
  refine congrArg₂ (fun u v : EReal => u * v) ?_ ?_
  · unfold iblk
    rw [View.read_apply]
    show m (c.tc.loc main_arg0) _ = m (c.tc.loc main_arg0) _
    refine congrArg _ (funext fun a => Fin.ext ?_)
    match a with
    | ⟨0, _⟩ => show win0_0.index u 0 * 1024 + 1 * (y 0).val = (win0_2.index t 0 * 1024 + 1 * (y 0).val); rw [a0] <;> omega
    | ⟨1, _⟩ => show win0_0.index u 1 * 512 + 1 * k.val = x.val; rw [a1] <;> omega
  · unfold iblk
    rw [View.read_apply]
    show m (c.tc.loc main_arg1) _ = m (c.tc.loc main_arg1) _
    refine congrArg _ (funext fun a => Fin.ext ?_)
    match a with
    | ⟨0, _⟩ => show win0_1.index u 0 * 1 + 1 * 0 = x.val / 512; rw [b0] <;> omega
    | ⟨1, _⟩ => show win0_1.index u 1 * 1024 + 1 * (y 1).val = (win0_2.index t 1 * 1024 + 1 * (y 1).val); rw [b1] <;> omega
    | ⟨2, _⟩ => show win0_1.index u 2 * 512 + 1 * k.val = x.val % 512; rw [b2] <;> omega

/-- Every index of the result lies in the block of some point. -/
theorem covered (i : S2048x1024.Idx) : ∃ t : Fin cfg0.N, (cfg0.win 2).flush t = true ∧ i ∈ ((cfg0.win 2).blk t).view.set := by
  have h0 : (i 0).val < 2048 := (i 0).isLt
  have h1 : (i 1).val < 1024 := (i 1).isLt
  obtain ⟨t, ht, e0, e1⟩ := (by decide +kernel : ∀ (p0 : Fin 2) (p1 : Fin 1), ∃ t : Fin grid0.N, win0_2.flush t = true
    ∧ win0_2.index t 0 = p0.val ∧ win0_2.index t 1 = p1.val)
    ⟨(i 0).val / 1024, by omega⟩ ⟨(i 1).val / 1024, by omega⟩
  refine ⟨t, ht, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; simp only [] <;> omega
  | ⟨1, _⟩ => show win0_2.index t 1 * 1024 ≤ (i 1).val ∧ (i 1).val < win0_2.index t 1 * 1024 + 1024; rw [e1]; simp only [] <;> omega

/-- The result array after the run is the product. -/
theorem final (c : Dev nD) : (dats m 0 c).arrAt 2 cfg0.N = product (m (c.tc.loc main_arg0)) (m (c.tc.loc main_arg1)) :=
  (dats m 0 c).arrAt_eq_of_cover 2 _ (flushed_eq m c) covered

/-- The call and its reference leave the same result. -/
theorem algebraic : Cert.algebraic_BranchDxIdeal_BranchDxRefIdeal (hBranchDxIdeal := Cert.BranchDxIdeal.Gen.facts)
    (hBranchDxRefIdeal := Cert.BranchDxRefIdeal.Gen.facts) := by
  intro m g m' g' _ hargs
  refine ⟨fun c => product (m (c.tc.loc main_arg0)) (m (c.tc.loc main_arg1)), ?_, ?_⟩
  · refine (θ_run (Cert.BranchDxIdeal.defs (F := Ideal)) _ _).mono (fun r h c => ?_) (run_blocks m g)
    obtain ⟨hv, h0, h1⟩ := h c
    exact ⟨hv.trans (final m c), h0, h1⟩
  · refine (θ_run (Cert.BranchDxRefIdeal.defs (F := Ideal)) _ _).mono (fun r h c => ?_) (Cert.BranchDxRefIdeal.Value.run (F := Ideal) m' g')
    obtain ⟨hv, h0, h1⟩ := h c
    refine ⟨hv.trans ?_, h0, h1⟩
    funext i
    rw [(hargs c).1, (hargs c).2]
    unfold product
    pointwise
    have h0 : (i 0).val < 2048 := (i 0).isLt
    have h1 : (i 1).val < 1024 := (i 1).isLt
    refine Finset.sum_congr rfl fun k _ => (congrArg₂ (fun u v : EReal => u * v) ?_ ?_)
    · rfl
    · have hk := k.isLt
      split_ifs
      all_goals
        exact congrArg _ (ix3_congr (by simp only [Fin.coe_ofNat_eq_mod]; omega) rfl (by simp only []; omega))

end Cert.BranchDxIdeal.Value
-- ==== Proof.BranchDw.lean ====
/- The gradient of a branch's projection in its weight: every element of the result is the sum over the contracted axis of the products of the operands' elements,
   and the reference's result is the same sum. -/
module

public import proofs.«01_k».proof.Defs
public import proofs.«01_k».proof.Proof.Gen.BranchDwIdeal.Value
public import proofs.«01_k».proof.Proof.Gen.BranchDwRefIdeal.Run
public import proofs.«01_k».proof.Proof.Blocks

@[expose] public section

noncomputable section

namespace Cert.BranchDwIdeal.Value

open Cert.BranchDwIdeal Cert.BranchDwIdeal.Gen Idealize.ShloMosaic Idealize.ShloMosaic.TcCoe Idealize.SL.Sem Cert.Blocks
open Idealize.ShloMosaic.Pipeline (Dat)

variable (m : (ℓ : Loc nD τ sig) → Buf (Elt Ideal) ℓ)

/-- The product, element by element. -/
def product (a : S2048x1024.Idx → EReal) (b : S2048x2048.Idx → EReal) : S4x1024x512.Idx → EReal := fun i =>
  ∑ k : Fin 2048, a (ix2 k (i 1))
    * b (ix2 k ⟨(512 * (i 0).val + (i 2).val), by have h0 := (i 0).isLt; have h2 := (i 2).isLt; change (i 0).val < 4 at h0; change (i 2).val < 512 at h2; omega⟩)

/-- The blocks that a grid point reads, by the block that it writes. -/
theorem index_facts : ∀ t : Fin cfg0.N,
    win0_0.index t 0 = (t.val % 1) ∧ win0_0.index t 1 = win0_2.index t 1
    ∧ win0_1.index t 0 = (t.val % 1) ∧ win0_1.index t 1 = (1 * win0_2.index t 0 + win0_2.index t 2)
    ∧ win0_2.index t 0 < 4 ∧ win0_2.index t 1 < 1 ∧ win0_2.index t 2 < 1 :=
  (by decide +kernel : ∀ t : Fin grid0.N, _)

/-- What a point writes back is its block of the product. -/
theorem flushed_eq (c : Dev nD) (t : Fin cfg0.N) :
    (dats m 0 c).flushed 2 t = ((cfg0.win 2).blk t).view.read (Elt Ideal) (product (m (c.tc.loc main_arg0)) (m (c.tc.loc main_arg1))) := by
  rw [flushed2]
  funext y
  obtain ⟨a0, a1, b0, b1, o0, o1, o2⟩ := index_facts t
  have hy0 : (y 0).val < 1 := (y 0).isLt
  have hy1 : (y 1).val < 1024 := (y 1).isLt
  have hy2 : (y 2).val < 512 := (y 2).isLt
  rw [View.read_apply]
  show out0_2 (iblk m c 0 t) (iblk m c 1 t) _ = _
  unfold out0_2
  rw [View.canon_unit_zero hz3, View.ld_unit_zero (S := S2048x1024) hz2, View.ld_unit_zero (S := S2048x512) hz2]
  unfold k0_pay1
  pointwise
  show _ = product (m (c.tc.loc main_arg0)) (m (c.tc.loc main_arg1)) (((View.whole main_v0).slice ((win0 2).rect t)).emb y)
  unfold product
  refine Finset.sum_congr rfl fun k _ => congrArg₂ (fun u v : EReal => u * v) ?_ ?_
  · unfold iblk
    rw [View.read_apply]
    show m (c.tc.loc main_arg0) _ = m (c.tc.loc main_arg0) _
    refine congrArg _ (funext fun a => Fin.ext ?_)
    match a with
    | ⟨0, _⟩ => show win0_0.index t 0 * 2048 + 1 * k.val = k.val; rw [a0] <;> omega
    | ⟨1, _⟩ => show win0_0.index t 1 * 1024 + 1 * (y 1).val = (win0_2.index t 1 * 1024 + 1 * (y 1).val); rw [a1] <;> omega
  · unfold iblk
    rw [View.read_apply]
    show m (c.tc.loc main_arg1) _ = m (c.tc.loc main_arg1) _
    refine congrArg _ (funext fun a => Fin.ext ?_)
    match a with
    | ⟨0, _⟩ => show win0_1.index t 0 * 2048 + 1 * k.val = k.val; rw [b0] <;> omega
    | ⟨1, _⟩ => show win0_1.index t 1 * 512 + 1 * (y 2).val = (512 * (win0_2.index t 0 * 1 + 1 * (y 0).val) + (win0_2.index t 2 * 512 + 1 * (y 2).val)); rw [b1] <;> omega

/-- Every index of the result lies in the block of some point. -/
theorem covered (i : S4x1024x512.Idx) : ∃ t : Fin cfg0.N, (cfg0.win 2).flush t = true ∧ i ∈ ((cfg0.win 2).blk t).view.set := by
  have h0 : (i 0).val < 4 := (i 0).isLt
  have h1 : (i 1).val < 1024 := (i 1).isLt
  have h2 : (i 2).val < 512 := (i 2).isLt
  obtain ⟨t, ht, e0, e1, e2⟩ := (by decide +kernel : ∀ (p0 : Fin 4) (p1 : Fin 1) (p2 : Fin 1), ∃ t : Fin grid0.N, win0_2.flush t = true
    ∧ win0_2.index t 0 = p0.val ∧ win0_2.index t 1 = p1.val ∧ win0_2.index t 2 = p2.val)
    ⟨(i 0).val / 1, by omega⟩ ⟨(i 1).val / 1024, by omega⟩ ⟨(i 2).val / 512, by omega⟩
  refine ⟨t, ht, ?_⟩
  show i ∈ ((View.whole main_v0).slice (win0_2.rect t)).set
  rw [View.set_slice_whole, Rect.mem_set_unit]
  intro a
  match a with
  | ⟨0, _⟩ => show win0_2.index t 0 * 1 ≤ (i 0).val ∧ (i 0).val < win0_2.index t 0 * 1 + 1; rw [e0]; simp only [] <;> omega
  | ⟨1, _⟩ => show win0_2.index t 1 * 1024 ≤ (i 1).val ∧ (i 1).val < win0_2.index t 1 * 1024 + 1024; rw [e1]; simp only [] <;> omega
  | ⟨2, _⟩ => show win0_2.index t 2 * 512 ≤ (i 2).val ∧ (i 2).val < win0_2.index t 2 * 512 + 512; rw [e2]; simp only [] <;> omega

/-- The result array after the run is the product. -/
theorem final (c : Dev nD) : (dats m 0 c).arrAt 2 cfg0.N = product (m (c.tc.loc main_arg0)) (m (c.tc.loc main_arg1)) :=
  (dats m 0 c).arrAt_eq_of_cover 2 _ (fun t _ => flushed_eq m c t) covered

/-- The call and its reference leave the same result. -/
theorem algebraic : Cert.algebraic_BranchDwIdeal_BranchDwRefIdeal (hBranchDwIdeal := Cert.BranchDwIdeal.Gen.facts)
    (hBranchDwRefIdeal := Cert.BranchDwRefIdeal.Gen.facts) := by
  intro m g m' g' _ hargs
  refine ⟨fun c => product (m (c.tc.loc main_arg0)) (m (c.tc.loc main_arg1)), ?_, ?_⟩
  · refine (θ_run (Cert.BranchDwIdeal.defs (F := Ideal)) _ _).mono (fun r h c => ?_) (run_blocks m g)
    obtain ⟨hv, h0, h1⟩ := h c
    exact ⟨hv.trans (final m c), h0, h1⟩
  · refine (θ_run (Cert.BranchDwRefIdeal.defs (F := Ideal)) _ _).mono (fun r h c => ?_) (Cert.BranchDwRefIdeal.Value.run (F := Ideal) m' g')
    obtain ⟨hv, h0, h1⟩ := h c
    refine ⟨hv.trans ?_, h0, h1⟩
    funext i
    rw [(hargs c).1, (hargs c).2]
    unfold product
    pointwise
    have h0 : (i 0).val < 4 := (i 0).isLt
    have h1 : (i 1).val < 1024 := (i 1).isLt
    have h2 : (i 2).val < 512 := (i 2).isLt
    refine Finset.sum_congr rfl fun k _ => (mul_comm _ _).trans (congrArg₂ (fun u v : EReal => u * v) ?_ ?_)
    · rfl
    · refine congrArg _ (funext fun a => Fin.ext ?_)
      match a with
      | ⟨0, _⟩ => rfl
      | ⟨1, _⟩ => simp only [ix2]; omega

end Cert.BranchDwIdeal.Value
-- ==== Proof.In.lean ====
/- The input projection: every element of the result is the sum over the contracted axis of the products of the operands' elements,
   and the reference's result is the same sum. -/
module

public import proofs.«01_k».proof.Defs
public import proofs.«01_k».proof.Proof.Gen.InIdeal.Value
public import proofs.«01_k».proof.Proof.Gen.InRefIdeal.Run
public import proofs.«01_k».proof.Proof.Blocks

@[expose] public section

noncomputable section

namespace Cert.InIdeal.Value

open Cert.InIdeal Cert.InIdeal.Gen Idealize.ShloMosaic Idealize.ShloMosaic.TcCoe Idealize.SL.Sem Cert.Blocks
open Idealize.ShloMosaic.Pipeline (Dat)

variable (m : (ℓ : Loc nD τ sig) → Buf (Elt Ideal) ℓ)

/-- The product, element by element. -/
def product (a : S2048x2048.Idx → EReal) (b : S2048x10368.Idx → EReal) : S2048x10368.Idx → EReal := fun i =>
  ∑ k : Fin 2048, a (ix2 (i 0) k)
    * b (ix2 k (i 1))

/-- The blocks that a grid point reads, by the block that it writes. -/
theorem index_facts : ∀ t : Fin cfg0.N,
    win0_0.index t 0 = win0_2.index t 0 ∧ win0_0.index t 1 = (t.val % 1)
    ∧ win0_1.index t 0 = (t.val % 1) ∧ win0_1.index t 1 = win0_2.index t 1
    ∧ win0_2.index t 0 < 2 ∧ win0_2.index t 1 < 9 :=
  (by decide +kernel : ∀ t : Fin grid0.N, _)

/-- What a point writes back is its block of the product. -/
theorem flushed_eq (c : Dev nD) (t : Fin cfg0.N) :
    (dats m 0 c).flushed 2 t = ((cfg0.win 2).blk t).view.read (Elt Ideal) (product (m (c.tc.loc main_arg0)) (m (c.tc.loc main_arg1))) := by
  rw [flushed2]
  funext y
  obtain ⟨a0, a1, b0, b1, o0, o1⟩ := index_facts t
  have hy0 : (y 0).val < 1024 := (y 0).isLt
  have hy1 : (y 1).val < 1152 := (y 1).isLt
  rw [View.read_apply]
  show out0_2 (iblk m c 0 t) (iblk m c 1 t) _ = _
  unfold out0_2
  rw [View.canon_unit_zero hz2, View.ld_unit_zero (S := S1024x2048) hz2, View.ld_unit_zero (S := S2048x1152) hz2]
  unfold k0_pay1
  pointwise
  show _ = product (m (c.tc.loc main_arg0)) (m (c.tc.loc main_arg1)) (((View.whole main_v0).slice ((win0 2).rect t)).emb y)
  unfold product
  refine Finset.sum_congr rfl fun k _ => congrArg₂ (fun u v : EReal => u * v) ?_ ?_
  · unfold iblk
    rw [View.read_apply]
    show m (c.tc.loc main_arg0) _ = m (c.tc.loc main_arg0) _
    refine congrArg _ (funext fun a => Fin.ext ?_)
    match a with
    | ⟨0, _⟩ => show win0_0.index t 0 * 1024 + 1 * (y 0).val = (win0_2.index t 0 * 1024 + 1 * (y 0).val); rw [a0] <;> omega
    | ⟨1, _⟩ => show win0_0.index t 1 * 2048 + 1 * k.val = k.val; rw [a1] <;> omega
  · unfold iblk
    rw [View.read_apply]
    show m (c.tc.loc main_arg1) _ = m (c.tc.loc main_arg1) _
    refine congrArg _ (funext fun a => Fin.ext ?_)
    match a with
    | ⟨0, _⟩ => show win0_1.index t 0 * 2048 + 1 * k.val = k.val; rw [b0] <;> omega
    | ⟨1, _⟩ => show win0_1.index t 1 * 1152 + 1 * (y 1).val = (win0_2.index t 1 * 1152 + 1 * (y 1).val); rw [b1] <;> omega

/-- Every index of the result lies in the block of some point. -/
theorem covered (i : S2048x10368.Idx) : ∃ t : Fin cfg0.N, (cfg0.win 2).flush t = true ∧ i ∈ ((cfg0.win 2).blk t).view.set := by
  have h0 : (i 0).val < 2048 := (i 0).isLt
  have h1 : (i 1).val < 10368 := (i 1).isLt
  obtain ⟨t, ht, e0, e1⟩ := (by decide +kernel : ∀ (p0 : Fin 2) (p1 : Fin 9), ∃ t : Fin grid0.N, win0_2.flush t = true
    ∧ win0_2.index t 0 = p0.val ∧ win0_2.index t 1 = p1.val)
    ⟨(i 0).val / 1024, by omega⟩ ⟨(i 1).val / 1152, by omega⟩
  refine ⟨t, ht, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; simp only [] <;> omega
  | ⟨1, _⟩ => show win0_2.index t 1 * 1152 ≤ (i 1).val ∧ (i 1).val < win0_2.index t 1 * 1152 + 1152; rw [e1]; simp only [] <;> omega

/-- The result array after the run is the product. -/
theorem final (c : Dev nD) : (dats m 0 c).arrAt 2 cfg0.N = product (m (c.tc.loc main_arg0)) (m (c.tc.loc main_arg1)) :=
  (dats m 0 c).arrAt_eq_of_cover 2 _ (fun t _ => flushed_eq m c t) covered

/-- The call and its reference leave the same result. -/
theorem algebraic : Cert.algebraic_InIdeal_InRefIdeal (hInIdeal := Cert.InIdeal.Gen.facts)
    (hInRefIdeal := Cert.InRefIdeal.Gen.facts) := by
  intro m g m' g' _ hargs
  refine ⟨fun c => product (m (c.tc.loc main_arg0)) (m (c.tc.loc main_arg1)), ?_, ?_⟩
  · refine (θ_run (Cert.InIdeal.defs (F := Ideal)) _ _).mono (fun r h c => ?_) (run_blocks m g)
    obtain ⟨hv, h0, h1⟩ := h c
    exact ⟨hv.trans (final m c), h0, h1⟩
  · refine (θ_run (Cert.InRefIdeal.defs (F := Ideal)) _ _).mono (fun r h c => ?_) (Cert.InRefIdeal.Value.run (F := Ideal) m' g')
    obtain ⟨hv, h0, h1⟩ := h c
    refine ⟨hv.trans ?_, h0, h1⟩
    funext i
    rw [(hargs c).1, (hargs c).2]
    unfold product
    pointwise

end Cert.InIdeal.Value
-- ==== Proof.Up.lean ====
/- The widening product: every element of the result is the sum over the contracted axis of the products of the operands' elements,
   and the reference's result is the same sum. -/
module

public import proofs.«01_k».proof.Defs
public import proofs.«01_k».proof.Proof.Gen.UpIdeal.Value
public import proofs.«01_k».proof.Proof.Gen.UpRefIdeal.Run
public import proofs.«01_k».proof.Proof.Blocks

@[expose] public section

noncomputable section

namespace Cert.UpIdeal.Value

open Cert.UpIdeal Cert.UpIdeal.Gen Idealize.ShloMosaic Idealize.ShloMosaic.TcCoe Idealize.SL.Sem Cert.Blocks
open Idealize.ShloMosaic.Pipeline (Dat)

variable (m : (ℓ : Loc nD τ sig) → Buf (Elt Ideal) ℓ)

/-- The product, element by element. -/
def product (a : S2048x2048.Idx → EReal) (b : S4x2048x2816.Idx → EReal) : S2048x11264.Idx → EReal := fun i =>
  ∑ k : Fin 2048, a (ix2 (i 0) k)
    * b (ix3 ⟨(i 1).val / 2816, by have h1 := (i 1).isLt; change (i 1).val < 11264 at h1; omega⟩ k ⟨(i 1).val % 2816, Nat.mod_lt _ (by decide)⟩)

/-- The blocks that a grid point reads, by the block that it writes. -/
theorem index_facts : ∀ t : Fin cfg0.N,
    win0_0.index t 0 = win0_2.index t 0 ∧ win0_0.index t 1 = (t.val % 1)
    ∧ win0_1.index t 0 = win0_2.index t 1 / 2 ∧ win0_1.index t 1 = (t.val % 1) ∧ win0_1.index t 2 = win0_2.index t 1 % 2
    ∧ win0_2.index t 0 < 2 ∧ win0_2.index t 1 < 8 :=
  (by decide +kernel : ∀ t : Fin grid0.N, _)

/-- What a point writes back is its block of the product. -/
theorem flushed_eq (c : Dev nD) (t : Fin cfg0.N) :
    (dats m 0 c).flushed 2 t = ((cfg0.win 2).blk t).view.read (Elt Ideal) (product (m (c.tc.loc main_arg0)) (m (c.tc.loc main_arg1))) := by
  rw [flushed2]
  funext y
  obtain ⟨a0, a1, b0, b1, b2, o0, o1⟩ := index_facts t
  have hy0 : (y 0).val < 1024 := (y 0).isLt
  have hy1 : (y 1).val < 1408 := (y 1).isLt
  rw [View.read_apply]
  show out0_2 (iblk m c 0 t) (iblk m c 1 t) _ = _
  unfold out0_2
  rw [View.canon_unit_zero hz2, View.ld_unit_zero (S := S1024x2048) hz2, View.ld_unit_zero (S := S1x2048x1408) hz3]
  unfold k0_pay1
  pointwise
  show _ = product (m (c.tc.loc main_arg0)) (m (c.tc.loc main_arg1)) (((View.whole main_v0).slice ((win0 2).rect t)).emb y)
  unfold product
  refine Finset.sum_congr rfl fun k _ => congrArg₂ (fun u v : EReal => u * v) ?_ ?_
  · unfold iblk
    rw [View.read_apply]
    show m (c.tc.loc main_arg0) _ = m (c.tc.loc main_arg0) _
    refine congrArg _ (funext fun a => Fin.ext ?_)
    match a with
    | ⟨0, _⟩ => show win0_0.index t 0 * 1024 + 1 * (y 0).val = (win0_2.index t 0 * 1024 + 1 * (y 0).val); rw [a0] <;> omega
    | ⟨1, _⟩ => show win0_0.index t 1 * 2048 + 1 * k.val = k.val; rw [a1] <;> omega
  · unfold iblk
    rw [View.read_apply]
    show m (c.tc.loc main_arg1) _ = m (c.tc.loc main_arg1) _
    refine congrArg _ (funext fun a => Fin.ext ?_)
    match a with
    | ⟨0, _⟩ => show win0_1.index t 0 * 1 + 1 * 0 = (win0_2.index t 1 * 1408 + 1 * (y 1).val) / 2816; rw [b0] <;> omega
    | ⟨1, _⟩ => show win0_1.index t 1 * 2048 + 1 * k.val = k.val; rw [b1] <;> omega
    | ⟨2, _⟩ => show win0_1.index t 2 * 1408 + 1 * (y 1).val = (win0_2.index t 1 * 1408 + 1 * (y 1).val) % 2816; rw [b2] <;> omega

/-- Every index of the result lies in the block of some point. -/
theorem covered (i : S2048x11264.Idx) : ∃ t : Fin cfg0.N, (cfg0.win 2).flush t = true ∧ i ∈ ((cfg0.win 2).blk t).view.set := by
  have h0 : (i 0).val < 2048 := (i 0).isLt
  have h1 : (i 1).val < 11264 := (i 1).isLt
  obtain ⟨t, ht, e0, e1⟩ := (by decide +kernel : ∀ (p0 : Fin 2) (p1 : Fin 8), ∃ t : Fin grid0.N, win0_2.flush t = true
    ∧ win0_2.index t 0 = p0.val ∧ win0_2.index t 1 = p1.val)
    ⟨(i 0).val / 1024, by omega⟩ ⟨(i 1).val / 1408, by omega⟩
  refine ⟨t, ht, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; simp only [] <;> omega
  | ⟨1, _⟩ => show win0_2.index t 1 * 1408 ≤ (i 1).val ∧ (i 1).val < win0_2.index t 1 * 1408 + 1408; rw [e1]; simp only [] <;> omega

/-- The result array after the run is the product. -/
theorem final (c : Dev nD) : (dats m 0 c).arrAt 2 cfg0.N = product (m (c.tc.loc main_arg0)) (m (c.tc.loc main_arg1)) :=
  (dats m 0 c).arrAt_eq_of_cover 2 _ (fun t _ => flushed_eq m c t) covered

/-- The call and its reference leave the same result. -/
theorem algebraic : Cert.algebraic_UpIdeal_UpRefIdeal (hUpIdeal := Cert.UpIdeal.Gen.facts)
    (hUpRefIdeal := Cert.UpRefIdeal.Gen.facts) := by
  intro m g m' g' _ hargs
  refine ⟨fun c => product (m (c.tc.loc main_arg0)) (m (c.tc.loc main_arg1)), ?_, ?_⟩
  · refine (θ_run (Cert.UpIdeal.defs (F := Ideal)) _ _).mono (fun r h c => ?_) (run_blocks m g)
    obtain ⟨hv, h0, h1⟩ := h c
    exact ⟨hv.trans (final m c), h0, h1⟩
  · refine (θ_run (Cert.UpRefIdeal.defs (F := Ideal)) _ _).mono (fun r h c => ?_) (Cert.UpRefIdeal.Value.run (F := Ideal) m' g')
    obtain ⟨hv, h0, h1⟩ := h c
    refine ⟨hv.trans ?_, h0, h1⟩
    funext i
    rw [(hargs c).1, (hargs c).2]
    unfold product
    pointwise
    have h0 : (i 0).val < 2048 := (i 0).isLt
    have h1 : (i 1).val < 11264 := (i 1).isLt
    refine Finset.sum_congr rfl fun k _ => (congrArg₂ (fun u v : EReal => u * v) ?_ ?_)
    · rfl
    · have hk := k.isLt
      split_ifs
      all_goals
        exact congrArg _ (ix3_congr (by simp only [Fin.coe_ofNat_eq_mod]; omega) rfl (by simp only []; omega))

end Cert.UpIdeal.Value
-- ==== Proof.Down.lean ====
/- The narrowing product: every element of the result is the sum over the contracted axis of the products of the operands' elements,
   and the reference's result is the same sum. -/
module

public import proofs.«01_k».proof.Defs
public import proofs.«01_k».proof.Proof.Gen.DownIdeal.Value
public import proofs.«01_k».proof.Proof.Gen.DownRefIdeal.Run
public import proofs.«01_k».proof.Proof.Blocks

@[expose] public section

noncomputable section

namespace Cert.DownIdeal.Value

open Cert.DownIdeal Cert.DownIdeal.Gen Idealize.ShloMosaic Idealize.ShloMosaic.TcCoe Idealize.SL.Sem Cert.Blocks
open Idealize.ShloMosaic.Pipeline (Dat)

section

variable {F : FTy → Type} [FloatOps F]

/-- The first point of a run leaves the product of its blocks added to zero. -/
theorem first (c i a0 h0 a1 h1 a2 h2 a3 h3 c0 c1 x0 x1) :
    sout0_A_0 (F := F) c i a0 h0 a1 h1 a2 h2 a3 h3 c0 c1 x0 x1 = k0_pay2 k0_pay1 x0 x1 := by
  unfold sout0_A_0
  rw [View.read_writes_eq_canon _ _ _ (scover0_A_0 c i a0 h0 a1 h1 a2 h2 a3 h3 c0 c1 x0 x1)]
  unfold kernelRun0_A
  dsimp only
  sl_unfold_words
  rw [View.canon_cons_unit_zero (S := S1024x1024) hz2, View.readCov_unit_zero (S := S1024x1024) _ hz2]
  simp only [View.readAt_eq_ld, h0.read_unread, h1.read_unread, View.ld_unit_zero (S := S1024x1408) hz2, View.ld_unit_zero (S := S1408x1024) hz2]

/-- A point in the middle of a run adds the product of its blocks. -/
theorem middle (c i a0 h0 a1 h1 a2 h2 a3 h3 c0 c1 x0 x1 acc) :
    sout0_B_0 (F := F) c i a0 h0 a1 h1 a2 h2 a3 h3 c0 c1 x0 x1 acc = k0_pay2 acc x0 x1 := by
  unfold sout0_B_0
  rw [View.read_writes_eq_canon _ _ _ (scover0_B_0 c i a0 h0 a1 h1 a2 h2 a3 h3 c0 c1 x0 x1 acc)]
  unfold kernelRun0_B
  dsimp only
  sl_unfold_words
  rw [View.canon_unit_zero (S := S1024x1024) hz2]
  simp only [View.readAt_eq_ld, h0.read_unread, h1.read_unread, h3.read_unread, View.ld_unit_zero (S := S1024x1408) hz2, View.ld_unit_zero (S := S1408x1024) hz2, View.ld_unit_zero (S := S1024x1024) hz2]

/-- So does the last point of a run. -/
theorem last (c i a0 h0 a1 h1 a2 h2 a3 h3 c0 c1 x0 x1 acc) :
    sout0_C_0 (F := F) c i a0 h0 a1 h1 a2 h2 a3 h3 c0 c1 x0 x1 acc = k0_pay2 acc x0 x1 := by
  unfold sout0_C_0
  rw [View.read_writes_eq_canon _ _ _ (scover0_C_0 c i a0 h0 a1 h1 a2 h2 a3 h3 c0 c1 x0 x1 acc)]
  unfold kernelRun0_C
  dsimp only
  sl_unfold_words
  rw [View.canon_unit_zero (S := S1024x1024) hz2]
  simp only [View.readAt_eq_ld, h0.read_unread, h1.read_unread, h3.read_unread, View.ld_unit_zero (S := S1024x1408) hz2, View.ld_unit_zero (S := S1408x1024) hz2, View.ld_unit_zero (S := S1024x1024) hz2]

/-- What the last point writes out is what it leaves in the accumulator. -/
theorem written (c i a0 h0 a1 h1 a2 h2 a3 h3 c0 c1 x0 x1 acc) :
    out0_C_2 (F := F) c i a0 h0 a1 h1 a2 h2 a3 h3 c0 c1 x0 x1 acc
      = sout0_C_0 (F := F) c i a0 h0 a1 h1 a2 h2 a3 h3 c0 c1 x0 x1 acc := by
  rw [last]
  unfold out0_C_2
  rw [View.read_writes_eq_canon _ _ _ (cover0_C_2 c i a0 h0 a1 h1 a2 h2 a3 h3 c0 c1 x0 x1 acc)]
  unfold kernelRun0_C
  dsimp only
  sl_unfold_words
  rw [View.canon_unit_zero (S := S1024x1024) hz2, View.readCov_unit_zero (S := S1024x1024) _ hz2]
  simp only [View.readAt_eq_ld, h0.read_unread, h1.read_unread, h3.read_unread, View.ld_unit_zero (S := S1024x1408) hz2, View.ld_unit_zero (S := S1408x1024) hz2, View.ld_unit_zero (S := S1024x1024) hz2]

end

variable (m : (ℓ : Loc nD τ sig) → Buf (Elt Ideal) ℓ)

/-- The product, element by element. -/
def product (a : S2048x5632.Idx → EReal) (b : S5632x2048.Idx → EReal) : S2048x2048.Idx → EReal := fun i =>
  ∑ k : Fin 5632, a (ix2 (i 0) k)
    * b (ix2 k (i 1))

/-- The blocks that a grid point reads, by the block that it writes. -/
theorem index_facts : ∀ t : Fin cfg0.N,
    win0_0.index t 0 = win0_2.index t 0 ∧ win0_0.index t 1 = (t.val % 4)
    ∧ win0_1.index t 0 = (t.val % 4) ∧ win0_1.index t 1 = win0_2.index t 1
    ∧ win0_2.index t 0 < 2 ∧ win0_2.index t 1 < 2 :=
  (by decide +kernel : ∀ t : Fin grid0.N, _)

/-- The product of two blocks. -/
def tile (a : S1024x1408.Idx → EReal) (b : S1408x1024.Idx → EReal) : S1024x1024.Idx → EReal := fun y =>
  ∑ k : Fin 1408, a (ix2 (y 0) k) * b (ix2 k (y 1))

/-- What a point adds to the accumulator. -/
def addend (c : Dev nD) (n : ℕ) : S1024x1024.Idx → EReal :=
  if h : n < cfg0.N then tile (iblk m c 0 ⟨n, h⟩) (iblk m c 1 ⟨n, h⟩) else 0

/-- The accumulator after a point: the sum of the addends of its run so far. -/
theorem scratch (c : Dev nD) (t : Fin cfg0.N) (y : S1024x1024.Idx) :
    (outsAt0 m c t.val t.isLt).2 y = ∑ s ∈ Finset.range (t.val % 4 + 1), addend m c (4 * (t.val / 4) + s) y := by
  have hN : cfg0.N = 16 := N_0
  have hlt := t.isLt
  rw [soutsAt0_0_eq, Pipeline.accAt_add_apply _ _ (fun _ => (0 : EReal)) (addend m c) _ 3, zero_add]
  · intro h i
    unfold scAt0_0
    rw [dif_pos (by omega), dif_neg (by omega), first]
    unfold addend
    rw [dif_pos (by omega)]
    unfold tile k0_pay2 k0_pay1
    pointwise
  · intro n h acc i h1 h2
    unfold scAt0_0
    rw [dif_neg (by omega)]
    split
    · rw [last]
      unfold addend
      rw [dif_pos h]
      unfold tile k0_pay2
      pointwise
    · rw [middle]
      unfold addend
      rw [dif_pos h]
      unfold tile k0_pay2
      pointwise
  · omega

/-- The points of a run write the same block. -/
theorem same_block : ∀ t u : Fin cfg0.N, t.val / 4 = u.val / 4 → win0_2.index u = win0_2.index t :=
  (by decide +kernel : ∀ t u : Fin grid0.N, t.val / 4 = u.val / 4 → win0_2.index u = win0_2.index t)

/-- An element of a block is the array's element at the block's place. -/
theorem read_block (t : Fin cfg0.N) (f : S2048x2048.Idx → EReal) (y) : ((cfg0.win 2).blk t).view.read (Elt Ideal) f y
    = f (((View.whole main_v0).slice ((win0 2).rect t)).emb y) := rfl

/-- What the last point of a run leaves to be written back. -/
theorem total (c : Dev nD) (t : Fin cfg0.N) (hm : t.val % 4 = 3) (hb : ∀ s : Fin 4, 4 * (t.val / 4) + s.val < cfg0.N) :
    (outsAt0 m c t.val t.isLt).1 = fun y => ∑ s : Fin 4, tile (iblk m c 0 ⟨4 * (t.val / 4) + s.val, hb s⟩)
      (iblk m c 1 ⟨4 * (t.val / 4) + s.val, hb s⟩) y := by
  have hC : ¬t.val % 4 = 0 := by omega
  have hw : (outsAt0 m c t.val t.isLt).1 = (outsAt0 m c t.val t.isLt).2 := by
    simp only [outsAt0_C m c t hC hm, written]
  rw [hw]
  funext y
  rw [scratch m c t y, hm, Finset.sum_range]
  refine Finset.sum_congr rfl fun s _ => ?_
  unfold addend
  rw [dif_pos (hb s)]

/-- What the last point of a run writes back is its block of the product. -/
theorem flushed_eq (c : Dev nD) (t : Fin cfg0.N) (hf : (cfg0.win 2).flush t = true) :
    (dats m 0 c).flushed 2 t = ((cfg0.win 2).blk t).view.read (Elt Ideal) (product (m (c.tc.loc main_arg0)) (m (c.tc.loc main_arg1))) := by
  have hN : cfg0.N = 16 := N_0
  have hlt := t.isLt
  have hm : t.val % 4 = 3 := (flush0_2 t).mp hf
  have hb : ∀ s : Fin 4, 4 * (t.val / 4) + s.val < cfg0.N := fun s => by omega
  rw [flushed2, total m c t hm hb]
  funext y
  have hy0 : (y 0).val < 1024 := (y 0).isLt
  have hy1 : (y 1).val < 1024 := (y 1).isLt
  refine Eq.trans ?_ (read_block t _ y).symm
  unfold product tile
  refine sum_blocks (by norm_num) _ _ fun s k x hx => ?_
  have hs' := s.isLt
  have hk' := k.isLt
  have hu : 4 * (t.val / 4) + s.val < cfg0.N := hb s
  have hr : (4 * (t.val / 4) + s.val) % 4 = s.val := by omega
  obtain ⟨a0, a1, b0, b1, o0, o1⟩ := index_facts ⟨4 * (t.val / 4) + s.val, hu⟩
  simp only [same_block t ⟨4 * (t.val / 4) + s.val, hu⟩ (by simp only []; omega), hr] at a0 a1 b0 b1 o0 o1
  generalize (⟨4 * (t.val / 4) + s.val, hu⟩ : Fin cfg0.N) = u at *
  refine congrArg₂ (fun u v : EReal => u * v) ?_ ?_
  · unfold iblk
    rw [View.read_apply]
    show m (c.tc.loc main_arg0) _ = m (c.tc.loc main_arg0) _
    refine congrArg _ (funext fun a => Fin.ext ?_)
    match a with
    | ⟨0, _⟩ => show win0_0.index u 0 * 1024 + 1 * (y 0).val = (win0_2.index t 0 * 1024 + 1 * (y 0).val); rw [a0] <;> omega
    | ⟨1, _⟩ => show win0_0.index u 1 * 1408 + 1 * k.val = x.val; rw [a1] <;> omega
  · unfold iblk
    rw [View.read_apply]
    show m (c.tc.loc main_arg1) _ = m (c.tc.loc main_arg1) _
    refine congrArg _ (funext fun a => Fin.ext ?_)
    match a with
    | ⟨0, _⟩ => show win0_1.index u 0 * 1408 + 1 * k.val = x.val; rw [b0] <;> omega
    | ⟨1, _⟩ => show win0_1.index u 1 * 1024 + 1 * (y 1).val = (win0_2.index t 1 * 1024 + 1 * (y 1).val); rw [b1] <;> omega

/-- Every index of the result lies in the block of some point. -/
theorem covered (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  obtain ⟨t, ht, e0, e1⟩ := (by decide +kernel : ∀ (p0 : Fin 2) (p1 : Fin 2), ∃ t : Fin grid0.N, win0_2.flush t = true
    ∧ win0_2.index t 0 = p0.val ∧ win0_2.index t 1 = p1.val)
    ⟨(i 0).val / 1024, by omega⟩ ⟨(i 1).val / 1024, by omega⟩
  refine ⟨t, ht, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; simp only [] <;> omega
  | ⟨1, _⟩ => show win0_2.index t 1 * 1024 ≤ (i 1).val ∧ (i 1).val < win0_2.index t 1 * 1024 + 1024; rw [e1]; simp only [] <;> omega

/-- The result array after the run is the product. -/
theorem final (c : Dev nD) : (dats m 0 c).arrAt 2 cfg0.N = product (m (c.tc.loc main_arg0)) (m (c.tc.loc main_arg1)) :=
  (dats m 0 c).arrAt_eq_of_cover 2 _ (flushed_eq m c) covered

/-- The call and its reference leave the same result. -/
theorem algebraic : Cert.algebraic_DownIdeal_DownRefIdeal (hDownIdeal := Cert.DownIdeal.Gen.facts)
    (hDownRefIdeal := Cert.DownRefIdeal.Gen.facts) := by
  intro m g m' g' _ hargs
  refine ⟨fun c => product (m (c.tc.loc main_arg0)) (m (c.tc.loc main_arg1)), ?_, ?_⟩
  · refine (θ_run (Cert.DownIdeal.defs (F := Ideal)) _ _).mono (fun r h c => ?_) (run_blocks m g)
    obtain ⟨hv, h0, h1⟩ := h c
    exact ⟨hv.trans (final m c), h0, h1⟩
  · refine (θ_run (Cert.DownRefIdeal.defs (F := Ideal)) _ _).mono (fun r h c => ?_) (Cert.DownRefIdeal.Value.run (F := Ideal) m' g')
    obtain ⟨hv, h0, h1⟩ := h c
    refine ⟨hv.trans ?_, h0, h1⟩
    funext i
    rw [(hargs c).1, (hargs c).2]
    unfold product
    pointwise

end Cert.DownIdeal.Value
-- ==== Proof.Out.lean ====
/- The output projection: every element of the result is the sum over the contracted axis of the products of the operands' elements,
   and the reference's result is the same sum. -/
module

public import proofs.«01_k».proof.Defs
public import proofs.«01_k».proof.Proof.Gen.OutIdeal.Value
public import proofs.«01_k».proof.Proof.Gen.OutRefIdeal.Run
public import proofs.«01_k».proof.Proof.Blocks

@[expose] public section

noncomputable section

namespace Cert.OutIdeal.Value

open Cert.OutIdeal Cert.OutIdeal.Gen Idealize.ShloMosaic Idealize.ShloMosaic.TcCoe Idealize.SL.Sem Cert.Blocks
open Idealize.ShloMosaic.Pipeline (Dat)

variable (m : (ℓ : Loc nD τ sig) → Buf (Elt Ideal) ℓ)

/-- The product, element by element. -/
def product (a : S2048x2048.Idx → EReal) (b : S2048x2048.Idx → EReal) : S2048x2048.Idx → EReal := fun i =>
  ∑ k : Fin 2048, a (ix2 (i 0) k)
    * b (ix2 k (i 1))

/-- The blocks that a grid point reads, by the block that it writes. -/
theorem index_facts : ∀ t : Fin cfg0.N,
    win0_0.index t 0 = win0_2.index t 0 ∧ win0_0.index t 1 = (t.val % 1)
    ∧ win0_1.index t 0 = (t.val % 1) ∧ win0_1.index t 1 = win0_2.index t 1
    ∧ win0_2.index t 0 < 2 ∧ win0_2.index t 1 < 2 :=
  (by decide +kernel : ∀ t : Fin grid0.N, _)

/-- What a point writes back is its block of the product. -/
theorem flushed_eq (c : Dev nD) (t : Fin cfg0.N) :
    (dats m 0 c).flushed 2 t = ((cfg0.win 2).blk t).view.read (Elt Ideal) (product (m (c.tc.loc main_arg0)) (m (c.tc.loc main_arg1))) := by
  rw [flushed2]
  funext y
  obtain ⟨a0, a1, b0, b1, o0, o1⟩ := index_facts t
  have hy0 : (y 0).val < 1024 := (y 0).isLt
  have hy1 : (y 1).val < 1024 := (y 1).isLt
  rw [View.read_apply]
  show out0_2 (iblk m c 0 t) (iblk m c 1 t) _ = _
  unfold out0_2
  rw [View.canon_unit_zero hz2, View.ld_unit_zero (S := S1024x2048) hz2, View.ld_unit_zero (S := S2048x1024) hz2]
  unfold k0_pay1
  pointwise
  show _ = product (m (c.tc.loc main_arg0)) (m (c.tc.loc main_arg1)) (((View.whole main_v0).slice ((win0 2).rect t)).emb y)
  unfold product
  refine Finset.sum_congr rfl fun k _ => congrArg₂ (fun u v : EReal => u * v) ?_ ?_
  · unfold iblk
    rw [View.read_apply]
    show m (c.tc.loc main_arg0) _ = m (c.tc.loc main_arg0) _
    refine congrArg _ (funext fun a => Fin.ext ?_)
    match a with
    | ⟨0, _⟩ => show win0_0.index t 0 * 1024 + 1 * (y 0).val = (win0_2.index t 0 * 1024 + 1 * (y 0).val); rw [a0] <;> omega
    | ⟨1, _⟩ => show win0_0.index t 1 * 2048 + 1 * k.val = k.val; rw [a1] <;> omega
  · unfold iblk
    rw [View.read_apply]
    show m (c.tc.loc main_arg1) _ = m (c.tc.loc main_arg1) _
    refine congrArg _ (funext fun a => Fin.ext ?_)
    match a with
    | ⟨0, _⟩ => show win0_1.index t 0 * 2048 + 1 * k.val = k.val; rw [b0] <;> omega
    | ⟨1, _⟩ => show win0_1.index t 1 * 1024 + 1 * (y 1).val = (win0_2.index t 1 * 1024 + 1 * (y 1).val); rw [b1] <;> omega

/-- Every index of the result lies in the block of some point. -/
theorem covered (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  obtain ⟨t, ht, e0, e1⟩ := (by decide +kernel : ∀ (p0 : Fin 2) (p1 : Fin 2), ∃ t : Fin grid0.N, win0_2.flush t = true
    ∧ win0_2.index t 0 = p0.val ∧ win0_2.index t 1 = p1.val)
    ⟨(i 0).val / 1024, by omega⟩ ⟨(i 1).val / 1024, by omega⟩
  refine ⟨t, ht, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; simp only [] <;> omega
  | ⟨1, _⟩ => show win0_2.index t 1 * 1024 ≤ (i 1).val ∧ (i 1).val < win0_2.index t 1 * 1024 + 1024; rw [e1]; simp only [] <;> omega

/-- The result array after the run is the product. -/
theorem final (c : Dev nD) : (dats m 0 c).arrAt 2 cfg0.N = product (m (c.tc.loc main_arg0)) (m (c.tc.loc main_arg1)) :=
  (dats m 0 c).arrAt_eq_of_cover 2 _ (fun t _ => flushed_eq m c t) covered

/-- The call and its reference leave the same result. -/
theorem algebraic : Cert.algebraic_OutIdeal_OutRefIdeal (hOutIdeal := Cert.OutIdeal.Gen.facts)
    (hOutRefIdeal := Cert.OutRefIdeal.Gen.facts) := by
  intro m g m' g' _ hargs
  refine ⟨fun c => product (m (c.tc.loc main_arg0)) (m (c.tc.loc main_arg1)), ?_, ?_⟩
  · refine (θ_run (Cert.OutIdeal.defs (F := Ideal)) _ _).mono (fun r h c => ?_) (run_blocks m g)
    obtain ⟨hv, h0, h1⟩ := h c
    exact ⟨hv.trans (final m c), h0, h1⟩
  · refine (θ_run (Cert.OutRefIdeal.defs (F := Ideal)) _ _).mono (fun r h c => ?_) (Cert.OutRefIdeal.Value.run (F := Ideal) m' g')
    obtain ⟨hv, h0, h1⟩ := h c
    refine ⟨hv.trans ?_, h0, h1⟩
    funext i
    rw [(hargs c).1, (hargs c).2]
    unfold product
    pointwise

end Cert.OutIdeal.Value
-- ==== Proof.Branch.lean ====
/- A branch's projection: every element of the result is the sum over the contracted axis of the products of the operands' elements,
   and the reference's result is the same sum. -/
module

public import proofs.«01_k».proof.Defs
public import proofs.«01_k».proof.Proof.Gen.BranchIdeal.Value
public import proofs.«01_k».proof.Proof.Gen.BranchRefIdeal.Run
public import proofs.«01_k».proof.Proof.Blocks

@[expose] public section

noncomputable section

namespace Cert.BranchIdeal.Value

open Cert.BranchIdeal Cert.BranchIdeal.Gen Idealize.ShloMosaic Idealize.ShloMosaic.TcCoe Idealize.SL.Sem Cert.Blocks
open Idealize.ShloMosaic.Pipeline (Dat)

variable (m : (ℓ : Loc nD τ sig) → Buf (Elt Ideal) ℓ)

/-- The product, element by element. -/
def product (a : S2048x1024.Idx → EReal) (b : S4x1024x512.Idx → EReal) : S2048x2048.Idx → EReal := fun i =>
  ∑ k : Fin 1024, a (ix2 (i 0) k)
    * b (ix3 ⟨(i 1).val / 512, by have h1 := (i 1).isLt; change (i 1).val < 2048 at h1; omega⟩ k ⟨(i 1).val % 512, Nat.mod_lt _ (by decide)⟩)

/-- The blocks that a grid point reads, by the block that it writes. -/
theorem index_facts : ∀ t : Fin cfg0.N,
    win0_0.index t 0 = win0_2.index t 0 ∧ win0_0.index t 1 = (t.val % 1)
    ∧ win0_1.index t 0 = win0_2.index t 1 / 1 ∧ win0_1.index t 1 = (t.val % 1) ∧ win0_1.index t 2 = win0_2.index t 1 % 1
    ∧ win0_2.index t 0 < 2 ∧ win0_2.index t 1 < 4 :=
  (by decide +kernel : ∀ t : Fin grid0.N, _)

/-- What a point writes back is its block of the product. -/
theorem flushed_eq (c : Dev nD) (t : Fin cfg0.N) :
    (dats m 0 c).flushed 2 t = ((cfg0.win 2).blk t).view.read (Elt Ideal) (product (m (c.tc.loc main_arg0)) (m (c.tc.loc main_arg1))) := by
  rw [flushed2]
  funext y
  obtain ⟨a0, a1, b0, b1, b2, o0, o1⟩ := index_facts t
  have hy0 : (y 0).val < 1024 := (y 0).isLt
  have hy1 : (y 1).val < 512 := (y 1).isLt
  rw [View.read_apply]
  show out0_2 (iblk m c 0 t) (iblk m c 1 t) _ = _
  unfold out0_2
  rw [View.canon_unit_zero hz2, View.ld_unit_zero (S := S1024x1024) hz2, View.ld_unit_zero (S := S1x1024x512) hz3]
  unfold k0_pay1
  pointwise
  show _ = product (m (c.tc.loc main_arg0)) (m (c.tc.loc main_arg1)) (((View.whole main_v0).slice ((win0 2).rect t)).emb y)
  unfold product
  refine Finset.sum_congr rfl fun k _ => congrArg₂ (fun u v : EReal => u * v) ?_ ?_
  · unfold iblk
    rw [View.read_apply]
    show m (c.tc.loc main_arg0) _ = m (c.tc.loc main_arg0) _
    refine congrArg _ (funext fun a => Fin.ext ?_)
    match a with
    | ⟨0, _⟩ => show win0_0.index t 0 * 1024 + 1 * (y 0).val = (win0_2.index t 0 * 1024 + 1 * (y 0).val); rw [a0] <;> omega
    | ⟨1, _⟩ => show win0_0.index t 1 * 1024 + 1 * k.val = k.val; rw [a1] <;> omega
  · unfold iblk
    rw [View.read_apply]
    show m (c.tc.loc main_arg1) _ = m (c.tc.loc main_arg1) _
    refine congrArg _ (funext fun a => Fin.ext ?_)
    match a with
    | ⟨0, _⟩ => show win0_1.index t 0 * 1 + 1 * 0 = (win0_2.index t 1 * 512 + 1 * (y 1).val) / 512; rw [b0] <;> omega
    | ⟨1, _⟩ => show win0_1.index t 1 * 1024 + 1 * k.val = k.val; rw [b1] <;> omega
    | ⟨2, _⟩ => show win0_1.index t 2 * 512 + 1 * (y 1).val = (win0_2.index t 1 * 512 + 1 * (y 1).val) % 512; rw [b2] <;> omega

/-- Every index of the result lies in the block of some point. -/
theorem covered (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  obtain ⟨t, ht, e0, e1⟩ := (by decide +kernel : ∀ (p0 : Fin 2) (p1 : Fin 4), ∃ t : Fin grid0.N, win0_2.flush t = true
    ∧ win0_2.index t 0 = p0.val ∧ win0_2.index t 1 = p1.val)
    ⟨(i 0).val / 1024, by omega⟩ ⟨(i 1).val / 512, by omega⟩
  refine ⟨t, ht, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; simp only [] <;> omega
  | ⟨1, _⟩ => show win0_2.index t 1 * 512 ≤ (i 1).val ∧ (i 1).val < win0_2.index t 1 * 512 + 512; rw [e1]; simp only [] <;> omega

/-- The result array after the run is the product. -/
theorem final (c : Dev nD) : (dats m 0 c).arrAt 2 cfg0.N = product (m (c.tc.loc main_arg0)) (m (c.tc.loc main_arg1)) :=
  (dats m 0 c).arrAt_eq_of_cover 2 _ (fun t _ => flushed_eq m c t) covered

/-- The call and its reference leave the same result. -/
theorem algebraic : Cert.algebraic_BranchIdeal_BranchRefIdeal (hBranchIdeal := Cert.BranchIdeal.Gen.facts)
    (hBranchRefIdeal := Cert.BranchRefIdeal.Gen.facts) := by
  intro m g m' g' _ hargs
  refine ⟨fun c => product (m (c.tc.loc main_arg0)) (m (c.tc.loc main_arg1)), ?_, ?_⟩
  · refine (θ_run (Cert.BranchIdeal.defs (F := Ideal)) _ _).mono (fun r h c => ?_) (run_blocks m g)
    obtain ⟨hv, h0, h1⟩ := h c
    exact ⟨hv.trans (final m c), h0, h1⟩
  · refine (θ_run (Cert.BranchRefIdeal.defs (F := Ideal)) _ _).mono (fun r h c => ?_) (Cert.BranchRefIdeal.Value.run (F := Ideal) m' g')
    obtain ⟨hv, h0, h1⟩ := h c
    refine ⟨hv.trans ?_, h0, h1⟩
    funext i
    rw [(hargs c).1, (hargs c).2]
    unfold product
    pointwise
    have h0 : (i 0).val < 2048 := (i 0).isLt
    have h1 : (i 1).val < 2048 := (i 1).isLt
    refine Finset.sum_congr rfl fun k _ => (congrArg₂ (fun u v : EReal => u * v) ?_ ?_)
    · rfl
    · have hk := k.isLt
      split_ifs
      all_goals
        exact congrArg _ (ix3_congr (by simp only [Fin.coe_ofNat_eq_mod]; omega) rfl (by simp only []; omega))

end Cert.BranchIdeal.Value
-- ==== Proof.Half.lean ====
/- The value of the constant one half. -/
module

public import Idealize.ShloMosaic.Lib.Pointwise

@[expose] public section

namespace Cert.Rows

open Idealize.ShloMosaic

/-- The word that the programs write for one half. -/
theorem half_value : Ideal.ofBits .f32 0x3F000000#32 = (((1 : ℝ) / 2 : ℝ) : EReal) := by
  simp [Ideal.ofBits, Ideal.ieee, -EReal.coe_mul] <;> norm_num

end Cert.Rows
-- ==== Proof.Steps.lean ====
/- One number's step of the optimiser, as a function of the weight, its gradient and its two moments; a number that is
   zero throughout stays zero. -/
module

public import Idealize.ShloMosaic.Lib.Pointwise
public import proofs.«01_k».proof.Proof.Half

@[expose] public section

noncomputable section

namespace Cert.Steps

open Idealize.ShloMosaic

section

variable {F : FTy → Type} [FloatOps F]

/-- The optimiser's step of one number. -/
def stepD (w g m v : F .f32) : F .f32 := FloatOps.mulf (Scalar.ofBits .f32 0xBA83126F#32) (FloatOps.addf (FloatOps.divf (FloatOps.divf (FloatOps.addf (FloatOps.mulf (Scalar.ofBits .f32 0x3F666666#32) m) (FloatOps.mulf (Scalar.ofBits .f32 0x3DCCCCCD#32) g)) (Scalar.ofBits .f32 0x3F26BD02#32)) (FloatOps.addf (FloatOps.sqrt (FloatOps.divf (FloatOps.addf (FloatOps.mulf (Scalar.ofBits .f32 0x3F7FBE77#32) v) (FloatOps.mulf (Scalar.ofBits .f32 0x3A83126F#32) (FloatOps.mulf g g))) (Scalar.ofBits .f32 0x3C231ACC#32))) (Scalar.ofBits .f32 0x322BCC77#32))) (FloatOps.mulf (Scalar.ofBits .f32 0x3C23D70A#32) w))

/-- Its new first moment. -/
def stepM (_ g m _ : F .f32) : F .f32 := FloatOps.addf (FloatOps.mulf (Scalar.ofBits .f32 0x3F666666#32) m) (FloatOps.mulf (Scalar.ofBits .f32 0x3DCCCCCD#32) g)

/-- Its new second moment. -/
def stepV (_ g _ v : F .f32) : F .f32 := FloatOps.addf (FloatOps.mulf (Scalar.ofBits .f32 0x3F7FBE77#32) v) (FloatOps.mulf (Scalar.ofBits .f32 0x3A83126F#32) (FloatOps.mulf g g))

end

/-- The constants that the step divides by are not zero. -/
theorem c1 : Ideal.ofBits .f32 0x3F26BD02#32 ≠ (0 : EReal) := by simp [Ideal.ofBits, Ideal.ieee, -EReal.coe_mul] <;> norm_num
theorem c2 : Ideal.ofBits .f32 0x3C231ACC#32 ≠ (0 : EReal) := by simp [Ideal.ofBits, Ideal.ieee, -EReal.coe_mul] <;> norm_num
theorem c3 : Ideal.ofBits .f32 0x322BCC77#32 ≠ (0 : EReal) := by simp [Ideal.ofBits, Ideal.ieee, -EReal.coe_mul] <;> norm_num

theorem stepM_zero : stepM (F := Ideal) (0 : EReal) (0 : EReal) (0 : EReal) (0 : EReal) = (0 : EReal) := by
  show ((_ : EReal) * 0 + _ * 0) = 0
  simp only [mul_zero, add_zero]

theorem stepV_zero : stepV (F := Ideal) (0 : EReal) (0 : EReal) (0 : EReal) (0 : EReal) = (0 : EReal) := by
  show ((_ : EReal) * 0 + _ * (0 * 0)) = 0
  simp only [mul_zero, add_zero]

theorem stepD_zero : stepD (F := Ideal) (0 : EReal) (0 : EReal) (0 : EReal) (0 : EReal) = (0 : EReal) := by
  show (_ : EReal) * (Ideal.div (Ideal.div ((_ : EReal) * 0 + _ * 0) (Ideal.ofBits .f32 0x3F26BD02#32))
    (Ideal.sqrt (Ideal.div ((_ : EReal) * 0 + _ * (0 * 0)) (Ideal.ofBits .f32 0x3C231ACC#32)) + Ideal.ofBits .f32 0x322BCC77#32) + _ * 0) = 0
  simp only [mul_zero, add_zero]
  have hs : Ideal.sqrt ((0 : ℝ) : EReal) = 0 := by
    show (if (0 : ℝ) < 0 then (⊥ : EReal) else ((Real.sqrt 0 : ℝ) : EReal)) = 0
    simp
  have d : ∀ x : EReal, x ≠ 0 → Ideal.div 0 x = 0 := fun x hx => by rw [Ideal.div, if_neg hx, zero_mul]
  rw [d _ c1, d _ c2, show (0 : EReal) = ((0 : ℝ) : EReal) from rfl, hs, zero_add, show (((0 : ℝ) : EReal)) = 0 from rfl, d _ c3, mul_zero]

end Cert.Steps
-- ==== Proof.StepIn.lean ====
module

public import proofs.«01_k».proof.Defs
public import proofs.«01_k».proof.Proof.Steps
public import proofs.«01_k».proof.Proof.Gen.StepInIdeal.Value
public import proofs.«01_k».proof.Proof.Gen.StepInRefIdeal.Run

@[expose] public section

noncomputable section

namespace Cert.StepInIdeal.Value

open Cert.StepInIdeal Cert.StepInIdeal.Gen Cert.Steps Idealize.ShloMosaic Idealize.ShloMosaic.TcCoe Idealize.SL.Sem

variable (m : (ℓ : Loc nD τ sig) → Buf (Elt Ideal) ℓ)

/-- The gradient that the step took. -/
def taken (_ g _ _ : EReal) : EReal := g

theorem hz : (![0, 0] : Fin 2 → Nat) = fun _ => 0 := funext fun a => by fin_cases a <;> rfl

/-- Point `t` takes and leaves the rows of its block. -/
theorem points : ∀ t : Fin grid0.N, win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0 ∧ win0_4.index t 0 = t.val ∧ win0_4.index t 1 = 0 ∧ win0_5.index t 0 = t.val ∧ win0_5.index t 1 = 0 ∧ win0_6.index t 0 = t.val ∧ win0_6.index t 1 = 0 ∧ win0_7.index t 0 = t.val ∧ win0_7.index t 1 = 0 := by decide +kernel

/-- Where a number of point `t`'s block lies. -/
def at_ (t : Fin grid0.N) (y : S64x2564.Idx) : S2048x2564.Idx :=
  ix2 ⟨64 * t.val + (y 0).val, by
    have h0 : (y 0).val < 64 := (y 0).isLt
    have h1 : t.val < 32 := lt_of_lt_of_eq t.isLt (by decide)
    omega⟩ (y 1)

theorem block0 (c : Dev nD) (t : Fin cfg0.N) (y : S64x2564.Idx) : iblk m c 0 t y = m (c.tc.loc main_arg0) (at_ t y) := by
  unfold iblk
  rw [View.read_apply]
  show m (c.tc.loc main_arg0) _ = m (c.tc.loc main_arg0) _
  refine congrArg _ (funext fun a => Fin.ext ?_)
  match a with
  | ⟨0, _⟩ => show win0_0.index t 0 * 64 + 1 * (y 0).val = 64 * t.val + (y 0).val; rw [(points t).1]; omega
  | ⟨1, _⟩ => show win0_0.index t 1 * 2564 + 1 * (y 1).val = (y 1).val; rw [(points t).2.1]; omega

theorem block1 (c : Dev nD) (t : Fin cfg0.N) (y : S64x2564.Idx) : iblk m c 1 t y = m (c.tc.loc main_arg1) (at_ t y) := by
  unfold iblk
  rw [View.read_apply]
  show m (c.tc.loc main_arg1) _ = m (c.tc.loc main_arg1) _
  refine congrArg _ (funext fun a => Fin.ext ?_)
  match a with
  | ⟨0, _⟩ => show win0_1.index t 0 * 64 + 1 * (y 0).val = 64 * t.val + (y 0).val; rw [(points t).2.2.1]; omega
  | ⟨1, _⟩ => show win0_1.index t 1 * 2564 + 1 * (y 1).val = (y 1).val; rw [(points t).2.2.2.1]; omega

theorem block2 (c : Dev nD) (t : Fin cfg0.N) (y : S64x2564.Idx) : iblk m c 2 t y = m (c.tc.loc main_arg2) (at_ t y) := by
  unfold iblk
  rw [View.read_apply]
  show m (c.tc.loc main_arg2) _ = m (c.tc.loc main_arg2) _
  refine congrArg _ (funext fun a => Fin.ext ?_)
  match a with
  | ⟨0, _⟩ => show win0_2.index t 0 * 64 + 1 * (y 0).val = 64 * t.val + (y 0).val; rw [(points t).2.2.2.2.1]; omega
  | ⟨1, _⟩ => show win0_2.index t 1 * 2564 + 1 * (y 1).val = (y 1).val; rw [(points t).2.2.2.2.2.1]; omega

theorem block3 (c : Dev nD) (t : Fin cfg0.N) (y : S64x2564.Idx) : iblk m c 3 t y = m (c.tc.loc main_arg3) (at_ t y) := by
  unfold iblk
  rw [View.read_apply]
  show m (c.tc.loc main_arg3) _ = m (c.tc.loc main_arg3) _
  refine congrArg _ (funext fun a => Fin.ext ?_)
  match a with
  | ⟨0, _⟩ => show win0_3.index t 0 * 64 + 1 * (y 0).val = 64 * t.val + (y 0).val; rw [(points t).2.2.2.2.2.2.1]; omega
  | ⟨1, _⟩ => show win0_3.index t 1 * 2564 + 1 * (y 1).val = (y 1).val; rw [(points t).2.2.2.2.2.2.2.1]; omega

theorem covered4 (i : S2048x2564.Idx) : ∃ t : Fin cfg0.N, (cfg0.win 4).flush t = true ∧ i ∈ ((cfg0.win 4).blk t).view.set := by
  have h0 : (i 0).val < 2048 := (i 0).isLt
  have h1 : (i 1).val < 2564 := (i 1).isLt
  have hN : grid0.N = 32 := by decide
  let t : Fin grid0.N := ⟨(i 0).val / 64, by omega⟩
  refine ⟨t, flush0_4 t, ?_⟩
  show i ∈ ((View.whole main_v0_0).slice (win0_4.rect t)).set
  rw [View.set_slice_whole, Rect.mem_set_unit]
  intro a
  match a with
  | ⟨0, _⟩ => show win0_4.index t 0 * 64 ≤ (i 0).val ∧ (i 0).val < win0_4.index t 0 * 64 + 64; rw [(points t).2.2.2.2.2.2.2.2.1]; show (i 0).val / 64 * 64 ≤ (i 0).val ∧ (i 0).val < (i 0).val / 64 * 64 + 64; omega
  | ⟨1, _⟩ => show win0_4.index t 1 * 2564 ≤ (i 1).val ∧ (i 1).val < win0_4.index t 1 * 2564 + 2564; rw [(points t).2.2.2.2.2.2.2.2.2.1]; omega

/-- What the call leaves, index by index. -/
theorem final4 (c : Dev nD) : (dats m 0 c).arrAt 4 cfg0.N = fun i => stepD (F := Ideal) (m (c.tc.loc main_arg0) i) (m (c.tc.loc main_arg1) i) (m (c.tc.loc main_arg2) i) (m (c.tc.loc main_arg3) i) := by
  refine (dats m 0 c).arrAt_eq_of_cover 4 _ (fun t _ => ?_) covered4
  rw [flushed4]
  funext y
  rw [View.read_apply]
  show out0_4 (iblk m c 0 t) (iblk m c 1 t) (iblk m c 2 t) (iblk m c 3 t) y = _
  have hy : (((cfg0.win 4).blk t).view.emb y : S2048x2564.Idx) = at_ t y := by
    refine funext fun a => Fin.ext ?_
    match a with
    | ⟨0, _⟩ => show win0_4.index t 0 * 64 + 1 * (y 0).val = 64 * t.val + (y 0).val; rw [(points t).2.2.2.2.2.2.2.2.1]; omega
    | ⟨1, _⟩ => show win0_4.index t 1 * 2564 + 1 * (y 1).val = (y 1).val; rw [(points t).2.2.2.2.2.2.2.2.2.1]; omega
  rw [hy]
  unfold out0_4
  rw [View.canon_unit_zero hz]
  simp only [View.ld_unit_zero (S := S64x2564) hz]

  show stepD (F := Ideal) (iblk m c 0 t y) (iblk m c 1 t y) (iblk m c 2 t y) (iblk m c 3 t y) = _
  rw [block0, block1, block2, block3]
  rfl

theorem covered5 (i : S2048x2564.Idx) : ∃ t : Fin cfg0.N, (cfg0.win 5).flush t = true ∧ i ∈ ((cfg0.win 5).blk t).view.set := by
  have h0 : (i 0).val < 2048 := (i 0).isLt
  have h1 : (i 1).val < 2564 := (i 1).isLt
  have hN : grid0.N = 32 := by decide
  let t : Fin grid0.N := ⟨(i 0).val / 64, by omega⟩
  refine ⟨t, flush0_5 t, ?_⟩
  show i ∈ ((View.whole main_v0_1).slice (win0_5.rect t)).set
  rw [View.set_slice_whole, Rect.mem_set_unit]
  intro a
  match a with
  | ⟨0, _⟩ => show win0_5.index t 0 * 64 ≤ (i 0).val ∧ (i 0).val < win0_5.index t 0 * 64 + 64; rw [(points t).2.2.2.2.2.2.2.2.2.2.1]; show (i 0).val / 64 * 64 ≤ (i 0).val ∧ (i 0).val < (i 0).val / 64 * 64 + 64; omega
  | ⟨1, _⟩ => show win0_5.index t 1 * 2564 ≤ (i 1).val ∧ (i 1).val < win0_5.index t 1 * 2564 + 2564; rw [(points t).2.2.2.2.2.2.2.2.2.2.2.1]; omega

/-- What the call leaves, index by index. -/
theorem final5 (c : Dev nD) : (dats m 0 c).arrAt 5 cfg0.N = fun i => stepM (F := Ideal) (m (c.tc.loc main_arg0) i) (m (c.tc.loc main_arg1) i) (m (c.tc.loc main_arg2) i) (m (c.tc.loc main_arg3) i) := by
  refine (dats m 0 c).arrAt_eq_of_cover 5 _ (fun t _ => ?_) covered5
  rw [flushed5]
  funext y
  rw [View.read_apply]
  show out0_5 (iblk m c 0 t) (iblk m c 1 t) (iblk m c 2 t) (iblk m c 3 t) y = _
  have hy : (((cfg0.win 5).blk t).view.emb y : S2048x2564.Idx) = at_ t y := by
    refine funext fun a => Fin.ext ?_
    match a with
    | ⟨0, _⟩ => show win0_5.index t 0 * 64 + 1 * (y 0).val = 64 * t.val + (y 0).val; rw [(points t).2.2.2.2.2.2.2.2.2.2.1]; omega
    | ⟨1, _⟩ => show win0_5.index t 1 * 2564 + 1 * (y 1).val = (y 1).val; rw [(points t).2.2.2.2.2.2.2.2.2.2.2.1]; omega
  rw [hy]
  unfold out0_5
  rw [View.canon_unit_zero hz]
  simp only [View.ld_unit_zero (S := S64x2564) hz]

  show stepM (F := Ideal) (iblk m c 0 t y) (iblk m c 1 t y) (iblk m c 2 t y) (iblk m c 3 t y) = _
  rw [block0, block1, block2, block3]
  rfl

theorem covered6 (i : S2048x2564.Idx) : ∃ t : Fin cfg0.N, (cfg0.win 6).flush t = true ∧ i ∈ ((cfg0.win 6).blk t).view.set := by
  have h0 : (i 0).val < 2048 := (i 0).isLt
  have h1 : (i 1).val < 2564 := (i 1).isLt
  have hN : grid0.N = 32 := by decide
  let t : Fin grid0.N := ⟨(i 0).val / 64, by omega⟩
  refine ⟨t, flush0_6 t, ?_⟩
  show i ∈ ((View.whole main_v0_2).slice (win0_6.rect t)).set
  rw [View.set_slice_whole, Rect.mem_set_unit]
  intro a
  match a with
  | ⟨0, _⟩ => show win0_6.index t 0 * 64 ≤ (i 0).val ∧ (i 0).val < win0_6.index t 0 * 64 + 64; rw [(points t).2.2.2.2.2.2.2.2.2.2.2.2.1]; show (i 0).val / 64 * 64 ≤ (i 0).val ∧ (i 0).val < (i 0).val / 64 * 64 + 64; omega
  | ⟨1, _⟩ => show win0_6.index t 1 * 2564 ≤ (i 1).val ∧ (i 1).val < win0_6.index t 1 * 2564 + 2564; rw [(points t).2.2.2.2.2.2.2.2.2.2.2.2.2.1]; omega

/-- What the call leaves, index by index. -/
theorem final6 (c : Dev nD) : (dats m 0 c).arrAt 6 cfg0.N = fun i => stepV (F := Ideal) (m (c.tc.loc main_arg0) i) (m (c.tc.loc main_arg1) i) (m (c.tc.loc main_arg2) i) (m (c.tc.loc main_arg3) i) := by
  refine (dats m 0 c).arrAt_eq_of_cover 6 _ (fun t _ => ?_) covered6
  rw [flushed6]
  funext y
  rw [View.read_apply]
  show out0_6 (iblk m c 0 t) (iblk m c 1 t) (iblk m c 2 t) (iblk m c 3 t) y = _
  have hy : (((cfg0.win 6).blk t).view.emb y : S2048x2564.Idx) = at_ t y := by
    refine funext fun a => Fin.ext ?_
    match a with
    | ⟨0, _⟩ => show win0_6.index t 0 * 64 + 1 * (y 0).val = 64 * t.val + (y 0).val; rw [(points t).2.2.2.2.2.2.2.2.2.2.2.2.1]; omega
    | ⟨1, _⟩ => show win0_6.index t 1 * 2564 + 1 * (y 1).val = (y 1).val; rw [(points t).2.2.2.2.2.2.2.2.2.2.2.2.2.1]; omega
  rw [hy]
  unfold out0_6
  rw [View.canon_unit_zero hz]
  simp only [View.ld_unit_zero (S := S64x2564) hz]

  show stepV (F := Ideal) (iblk m c 0 t y) (iblk m c 1 t y) (iblk m c 2 t y) (iblk m c 3 t y) = _
  rw [block0, block1, block2, block3]
  rfl

theorem covered7 (i : S2048x2564.Idx) : ∃ t : Fin cfg0.N, (cfg0.win 7).flush t = true ∧ i ∈ ((cfg0.win 7).blk t).view.set := by
  have h0 : (i 0).val < 2048 := (i 0).isLt
  have h1 : (i 1).val < 2564 := (i 1).isLt
  have hN : grid0.N = 32 := by decide
  let t : Fin grid0.N := ⟨(i 0).val / 64, by omega⟩
  refine ⟨t, flush0_7 t, ?_⟩
  show i ∈ ((View.whole main_v0_3).slice (win0_7.rect t)).set
  rw [View.set_slice_whole, Rect.mem_set_unit]
  intro a
  match a with
  | ⟨0, _⟩ => show win0_7.index t 0 * 64 ≤ (i 0).val ∧ (i 0).val < win0_7.index t 0 * 64 + 64; rw [(points t).2.2.2.2.2.2.2.2.2.2.2.2.2.2.1]; show (i 0).val / 64 * 64 ≤ (i 0).val ∧ (i 0).val < (i 0).val / 64 * 64 + 64; omega
  | ⟨1, _⟩ => show win0_7.index t 1 * 2564 ≤ (i 1).val ∧ (i 1).val < win0_7.index t 1 * 2564 + 2564; rw [(points t).2.2.2.2.2.2.2.2.2.2.2.2.2.2.2]; omega

/-- What the call leaves, index by index. -/
theorem final7 (c : Dev nD) : (dats m 0 c).arrAt 7 cfg0.N = fun i => taken (m (c.tc.loc main_arg0) i) (m (c.tc.loc main_arg1) i) (m (c.tc.loc main_arg2) i) (m (c.tc.loc main_arg3) i) := by
  refine (dats m 0 c).arrAt_eq_of_cover 7 _ (fun t _ => ?_) covered7
  rw [flushed7]
  funext y
  rw [View.read_apply]
  show out0_7 (iblk m c 0 t) (iblk m c 1 t) (iblk m c 2 t) (iblk m c 3 t) y = _
  have hy : (((cfg0.win 7).blk t).view.emb y : S2048x2564.Idx) = at_ t y := by
    refine funext fun a => Fin.ext ?_
    match a with
    | ⟨0, _⟩ => show win0_7.index t 0 * 64 + 1 * (y 0).val = 64 * t.val + (y 0).val; rw [(points t).2.2.2.2.2.2.2.2.2.2.2.2.2.2.1]; omega
    | ⟨1, _⟩ => show win0_7.index t 1 * 2564 + 1 * (y 1).val = (y 1).val; rw [(points t).2.2.2.2.2.2.2.2.2.2.2.2.2.2.2]; omega
  rw [hy]
  unfold out0_7
  rw [View.canon_unit_zero hz]
  simp only [View.ld_unit_zero (S := S64x2564) hz]
  refine (congrFun (View.ld_unit_zero (S := S64x2564) hz _ _) y).trans ?_
  show taken (iblk m c 0 t y) (iblk m c 1 t y) (iblk m c 2 t y) (iblk m c 3 t y) = _
  rw [block0, block1, block2, block3]
  rfl

/-- The call and its reference leave the same results. -/
theorem algebraic : Cert.algebraic_StepInIdeal_StepInRefIdeal (hStepInIdeal := Cert.StepInIdeal.Gen.facts)
    (hStepInRefIdeal := Cert.StepInRefIdeal.Gen.facts) := by
  intro m g m' g' _ hargs
  refine ⟨_, _, _, _, run_blocks m g, ?_⟩
  refine (θ_run (Cert.StepInRefIdeal.defs (F := Ideal)) _ _).mono (fun r h c => ?_) (Cert.StepInRefIdeal.Value.run (F := Ideal) m' g')
  obtain ⟨h4, h5, h6, h7, k⟩ := h c
  obtain ⟨a0, a1, a2, a3⟩ := hargs c
  refine ⟨h4.trans ?_, h5.trans ?_, h6.trans ?_, h7.trans ?_, k⟩
  · rw [final4, ← a0, ← a1, ← a2, ← a3]; rfl
  · rw [final5, ← a0, ← a1, ← a2, ← a3]; rfl
  · rw [final6, ← a0, ← a1, ← a2, ← a3]; rfl
  · rw [final7, ← a1]; rfl

end Cert.StepInIdeal.Value
-- ==== Proof.StepAda.lean ====
module

public import proofs.«01_k».proof.Defs
public import proofs.«01_k».proof.Proof.Gen.StepAdaIdeal.Value
public import proofs.«01_k».proof.Proof.Gen.StepAdaRefIdeal.Run

@[expose] public section

noncomputable section

namespace Cert.StepAdaIdeal.Value

open Cert.StepAdaIdeal Cert.StepAdaIdeal.Gen Idealize.ShloMosaic Idealize.ShloMosaic.TcCoe Idealize.SL.Sem

/-- The call and its reference leave the same results. -/
theorem algebraic : Cert.algebraic_StepAdaIdeal_StepAdaRefIdeal (hStepAdaIdeal := Cert.StepAdaIdeal.Gen.facts)
    (hStepAdaRefIdeal := Cert.StepAdaRefIdeal.Gen.facts) := by
  intro m g m' g' _ hargs
  refine ⟨_, _, _, run m g, ?_⟩
  refine (θ_run (Cert.StepAdaRefIdeal.defs (F := Ideal)) _ _).mono (fun r h c => ?_) (Cert.StepAdaRefIdeal.Value.run (F := Ideal) m' g')
  obtain ⟨h4, h5, h6, k⟩ := h c
  obtain ⟨a0, a1, a2, a3⟩ := hargs c
  refine ⟨h4.trans ?_, h5.trans ?_, h6.trans ?_, k⟩ <;> (try rw [a0]) <;> (try rw [a1]) <;> (try rw [a2]) <;> (try rw [a3]) <;> rfl

end Cert.StepAdaIdeal.Value
-- ==== Proof.StepBranch.lean ====
module

public import proofs.«01_k».proof.Defs
public import proofs.«01_k».proof.Proof.Steps
public import proofs.«01_k».proof.Proof.Gen.StepBranchIdeal.Value
public import proofs.«01_k».proof.Proof.Gen.StepBranchRefIdeal.Run

@[expose] public section

noncomputable section

namespace Cert.StepBranchIdeal.Value

open Cert.StepBranchIdeal Cert.StepBranchIdeal.Gen Cert.Steps Idealize.ShloMosaic Idealize.ShloMosaic.TcCoe Idealize.SL.Sem

variable (m : (ℓ : Loc nD τ sig) → Buf (Elt Ideal) ℓ)

/-- The gradient that the step took. -/
def taken (_ g _ _ : EReal) : EReal := g

theorem hz : (![0, 0] : Fin 2 → Nat) = fun _ => 0 := funext fun a => by fin_cases a <;> rfl

/-- Point `t` takes and leaves the rows of its block. -/
theorem points : ∀ t : Fin grid0.N, win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0 ∧ win0_4.index t 0 = t.val ∧ win0_4.index t 1 = 0 ∧ win0_5.index t 0 = t.val ∧ win0_5.index t 1 = 0 ∧ win0_6.index t 0 = t.val ∧ win0_6.index t 1 = 0 ∧ win0_7.index t 0 = t.val ∧ win0_7.index t 1 = 0 := by decide +kernel

/-- Where a number of point `t`'s block lies. -/
def at_ (t : Fin grid0.N) (y : S512x512.Idx) : S1024x512.Idx :=
  ix2 ⟨512 * t.val + (y 0).val, by
    have h0 : (y 0).val < 512 := (y 0).isLt
    have h1 : t.val < 2 := lt_of_lt_of_eq t.isLt (by decide)
    omega⟩ (y 1)

theorem block0 (c : Dev nD) (t : Fin cfg0.N) (y : S512x512.Idx) : iblk m c 0 t y = m (c.tc.loc main_arg0) (at_ t y) := by
  unfold iblk
  rw [View.read_apply]
  show m (c.tc.loc main_arg0) _ = m (c.tc.loc main_arg0) _
  refine congrArg _ (funext fun a => Fin.ext ?_)
  match a with
  | ⟨0, _⟩ => show win0_0.index t 0 * 512 + 1 * (y 0).val = 512 * t.val + (y 0).val; rw [(points t).1]; omega
  | ⟨1, _⟩ => show win0_0.index t 1 * 512 + 1 * (y 1).val = (y 1).val; rw [(points t).2.1]; omega

theorem block1 (c : Dev nD) (t : Fin cfg0.N) (y : S512x512.Idx) : iblk m c 1 t y = m (c.tc.loc main_arg1) (at_ t y) := by
  unfold iblk
  rw [View.read_apply]
  show m (c.tc.loc main_arg1) _ = m (c.tc.loc main_arg1) _
  refine congrArg _ (funext fun a => Fin.ext ?_)
  match a with
  | ⟨0, _⟩ => show win0_1.index t 0 * 512 + 1 * (y 0).val = 512 * t.val + (y 0).val; rw [(points t).2.2.1]; omega
  | ⟨1, _⟩ => show win0_1.index t 1 * 512 + 1 * (y 1).val = (y 1).val; rw [(points t).2.2.2.1]; omega

theorem block2 (c : Dev nD) (t : Fin cfg0.N) (y : S512x512.Idx) : iblk m c 2 t y = m (c.tc.loc main_arg2) (at_ t y) := by
  unfold iblk
  rw [View.read_apply]
  show m (c.tc.loc main_arg2) _ = m (c.tc.loc main_arg2) _
  refine congrArg _ (funext fun a => Fin.ext ?_)
  match a with
  | ⟨0, _⟩ => show win0_2.index t 0 * 512 + 1 * (y 0).val = 512 * t.val + (y 0).val; rw [(points t).2.2.2.2.1]; omega
  | ⟨1, _⟩ => show win0_2.index t 1 * 512 + 1 * (y 1).val = (y 1).val; rw [(points t).2.2.2.2.2.1]; omega

theorem block3 (c : Dev nD) (t : Fin cfg0.N) (y : S512x512.Idx) : iblk m c 3 t y = m (c.tc.loc main_arg3) (at_ t y) := by
  unfold iblk
  rw [View.read_apply]
  show m (c.tc.loc main_arg3) _ = m (c.tc.loc main_arg3) _
  refine congrArg _ (funext fun a => Fin.ext ?_)
  match a with
  | ⟨0, _⟩ => show win0_3.index t 0 * 512 + 1 * (y 0).val = 512 * t.val + (y 0).val; rw [(points t).2.2.2.2.2.2.1]; omega
  | ⟨1, _⟩ => show win0_3.index t 1 * 512 + 1 * (y 1).val = (y 1).val; rw [(points t).2.2.2.2.2.2.2.1]; omega

theorem covered4 (i : S1024x512.Idx) : ∃ t : Fin cfg0.N, (cfg0.win 4).flush t = true ∧ i ∈ ((cfg0.win 4).blk t).view.set := by
  have h0 : (i 0).val < 1024 := (i 0).isLt
  have h1 : (i 1).val < 512 := (i 1).isLt
  have hN : grid0.N = 2 := by decide
  let t : Fin grid0.N := ⟨(i 0).val / 512, by omega⟩
  refine ⟨t, flush0_4 t, ?_⟩
  show i ∈ ((View.whole main_v0_0).slice (win0_4.rect t)).set
  rw [View.set_slice_whole, Rect.mem_set_unit]
  intro a
  match a with
  | ⟨0, _⟩ => show win0_4.index t 0 * 512 ≤ (i 0).val ∧ (i 0).val < win0_4.index t 0 * 512 + 512; rw [(points t).2.2.2.2.2.2.2.2.1]; show (i 0).val / 512 * 512 ≤ (i 0).val ∧ (i 0).val < (i 0).val / 512 * 512 + 512; omega
  | ⟨1, _⟩ => show win0_4.index t 1 * 512 ≤ (i 1).val ∧ (i 1).val < win0_4.index t 1 * 512 + 512; rw [(points t).2.2.2.2.2.2.2.2.2.1]; omega

/-- What the call leaves, index by index. -/
theorem final4 (c : Dev nD) : (dats m 0 c).arrAt 4 cfg0.N = fun i => stepD (F := Ideal) (m (c.tc.loc main_arg0) i) (m (c.tc.loc main_arg1) i) (m (c.tc.loc main_arg2) i) (m (c.tc.loc main_arg3) i) := by
  refine (dats m 0 c).arrAt_eq_of_cover 4 _ (fun t _ => ?_) covered4
  rw [flushed4]
  funext y
  rw [View.read_apply]
  show out0_4 (iblk m c 0 t) (iblk m c 1 t) (iblk m c 2 t) (iblk m c 3 t) y = _
  have hy : (((cfg0.win 4).blk t).view.emb y : S1024x512.Idx) = at_ t y := by
    refine funext fun a => Fin.ext ?_
    match a with
    | ⟨0, _⟩ => show win0_4.index t 0 * 512 + 1 * (y 0).val = 512 * t.val + (y 0).val; rw [(points t).2.2.2.2.2.2.2.2.1]; omega
    | ⟨1, _⟩ => show win0_4.index t 1 * 512 + 1 * (y 1).val = (y 1).val; rw [(points t).2.2.2.2.2.2.2.2.2.1]; omega
  rw [hy]
  unfold out0_4
  rw [View.canon_unit_zero hz]
  simp only [View.ld_unit_zero (S := S512x512) hz]

  show stepD (F := Ideal) (iblk m c 0 t y) (iblk m c 1 t y) (iblk m c 2 t y) (iblk m c 3 t y) = _
  rw [block0, block1, block2, block3]
  rfl

theorem covered5 (i : S1024x512.Idx) : ∃ t : Fin cfg0.N, (cfg0.win 5).flush t = true ∧ i ∈ ((cfg0.win 5).blk t).view.set := by
  have h0 : (i 0).val < 1024 := (i 0).isLt
  have h1 : (i 1).val < 512 := (i 1).isLt
  have hN : grid0.N = 2 := by decide
  let t : Fin grid0.N := ⟨(i 0).val / 512, by omega⟩
  refine ⟨t, flush0_5 t, ?_⟩
  show i ∈ ((View.whole main_v0_1).slice (win0_5.rect t)).set
  rw [View.set_slice_whole, Rect.mem_set_unit]
  intro a
  match a with
  | ⟨0, _⟩ => show win0_5.index t 0 * 512 ≤ (i 0).val ∧ (i 0).val < win0_5.index t 0 * 512 + 512; rw [(points t).2.2.2.2.2.2.2.2.2.2.1]; show (i 0).val / 512 * 512 ≤ (i 0).val ∧ (i 0).val < (i 0).val / 512 * 512 + 512; omega
  | ⟨1, _⟩ => show win0_5.index t 1 * 512 ≤ (i 1).val ∧ (i 1).val < win0_5.index t 1 * 512 + 512; rw [(points t).2.2.2.2.2.2.2.2.2.2.2.1]; omega

/-- What the call leaves, index by index. -/
theorem final5 (c : Dev nD) : (dats m 0 c).arrAt 5 cfg0.N = fun i => stepM (F := Ideal) (m (c.tc.loc main_arg0) i) (m (c.tc.loc main_arg1) i) (m (c.tc.loc main_arg2) i) (m (c.tc.loc main_arg3) i) := by
  refine (dats m 0 c).arrAt_eq_of_cover 5 _ (fun t _ => ?_) covered5
  rw [flushed5]
  funext y
  rw [View.read_apply]
  show out0_5 (iblk m c 0 t) (iblk m c 1 t) (iblk m c 2 t) (iblk m c 3 t) y = _
  have hy : (((cfg0.win 5).blk t).view.emb y : S1024x512.Idx) = at_ t y := by
    refine funext fun a => Fin.ext ?_
    match a with
    | ⟨0, _⟩ => show win0_5.index t 0 * 512 + 1 * (y 0).val = 512 * t.val + (y 0).val; rw [(points t).2.2.2.2.2.2.2.2.2.2.1]; omega
    | ⟨1, _⟩ => show win0_5.index t 1 * 512 + 1 * (y 1).val = (y 1).val; rw [(points t).2.2.2.2.2.2.2.2.2.2.2.1]; omega
  rw [hy]
  unfold out0_5
  rw [View.canon_unit_zero hz]
  simp only [View.ld_unit_zero (S := S512x512) hz]

  show stepM (F := Ideal) (iblk m c 0 t y) (iblk m c 1 t y) (iblk m c 2 t y) (iblk m c 3 t y) = _
  rw [block0, block1, block2, block3]
  rfl

theorem covered6 (i : S1024x512.Idx) : ∃ t : Fin cfg0.N, (cfg0.win 6).flush t = true ∧ i ∈ ((cfg0.win 6).blk t).view.set := by
  have h0 : (i 0).val < 1024 := (i 0).isLt
  have h1 : (i 1).val < 512 := (i 1).isLt
  have hN : grid0.N = 2 := by decide
  let t : Fin grid0.N := ⟨(i 0).val / 512, by omega⟩
  refine ⟨t, flush0_6 t, ?_⟩
  show i ∈ ((View.whole main_v0_2).slice (win0_6.rect t)).set
  rw [View.set_slice_whole, Rect.mem_set_unit]
  intro a
  match a with
  | ⟨0, _⟩ => show win0_6.index t 0 * 512 ≤ (i 0).val ∧ (i 0).val < win0_6.index t 0 * 512 + 512; rw [(points t).2.2.2.2.2.2.2.2.2.2.2.2.1]; show (i 0).val / 512 * 512 ≤ (i 0).val ∧ (i 0).val < (i 0).val / 512 * 512 + 512; omega
  | ⟨1, _⟩ => show win0_6.index t 1 * 512 ≤ (i 1).val ∧ (i 1).val < win0_6.index t 1 * 512 + 512; rw [(points t).2.2.2.2.2.2.2.2.2.2.2.2.2.1]; omega

/-- What the call leaves, index by index. -/
theorem final6 (c : Dev nD) : (dats m 0 c).arrAt 6 cfg0.N = fun i => stepV (F := Ideal) (m (c.tc.loc main_arg0) i) (m (c.tc.loc main_arg1) i) (m (c.tc.loc main_arg2) i) (m (c.tc.loc main_arg3) i) := by
  refine (dats m 0 c).arrAt_eq_of_cover 6 _ (fun t _ => ?_) covered6
  rw [flushed6]
  funext y
  rw [View.read_apply]
  show out0_6 (iblk m c 0 t) (iblk m c 1 t) (iblk m c 2 t) (iblk m c 3 t) y = _
  have hy : (((cfg0.win 6).blk t).view.emb y : S1024x512.Idx) = at_ t y := by
    refine funext fun a => Fin.ext ?_
    match a with
    | ⟨0, _⟩ => show win0_6.index t 0 * 512 + 1 * (y 0).val = 512 * t.val + (y 0).val; rw [(points t).2.2.2.2.2.2.2.2.2.2.2.2.1]; omega
    | ⟨1, _⟩ => show win0_6.index t 1 * 512 + 1 * (y 1).val = (y 1).val; rw [(points t).2.2.2.2.2.2.2.2.2.2.2.2.2.1]; omega
  rw [hy]
  unfold out0_6
  rw [View.canon_unit_zero hz]
  simp only [View.ld_unit_zero (S := S512x512) hz]

  show stepV (F := Ideal) (iblk m c 0 t y) (iblk m c 1 t y) (iblk m c 2 t y) (iblk m c 3 t y) = _
  rw [block0, block1, block2, block3]
  rfl

theorem covered7 (i : S1024x512.Idx) : ∃ t : Fin cfg0.N, (cfg0.win 7).flush t = true ∧ i ∈ ((cfg0.win 7).blk t).view.set := by
  have h0 : (i 0).val < 1024 := (i 0).isLt
  have h1 : (i 1).val < 512 := (i 1).isLt
  have hN : grid0.N = 2 := by decide
  let t : Fin grid0.N := ⟨(i 0).val / 512, by omega⟩
  refine ⟨t, flush0_7 t, ?_⟩
  show i ∈ ((View.whole main_v0_3).slice (win0_7.rect t)).set
  rw [View.set_slice_whole, Rect.mem_set_unit]
  intro a
  match a with
  | ⟨0, _⟩ => show win0_7.index t 0 * 512 ≤ (i 0).val ∧ (i 0).val < win0_7.index t 0 * 512 + 512; rw [(points t).2.2.2.2.2.2.2.2.2.2.2.2.2.2.1]; show (i 0).val / 512 * 512 ≤ (i 0).val ∧ (i 0).val < (i 0).val / 512 * 512 + 512; omega
  | ⟨1, _⟩ => show win0_7.index t 1 * 512 ≤ (i 1).val ∧ (i 1).val < win0_7.index t 1 * 512 + 512; rw [(points t).2.2.2.2.2.2.2.2.2.2.2.2.2.2.2]; omega

/-- What the call leaves, index by index. -/
theorem final7 (c : Dev nD) : (dats m 0 c).arrAt 7 cfg0.N = fun i => taken (m (c.tc.loc main_arg0) i) (m (c.tc.loc main_arg1) i) (m (c.tc.loc main_arg2) i) (m (c.tc.loc main_arg3) i) := by
  refine (dats m 0 c).arrAt_eq_of_cover 7 _ (fun t _ => ?_) covered7
  rw [flushed7]
  funext y
  rw [View.read_apply]
  show out0_7 (iblk m c 0 t) (iblk m c 1 t) (iblk m c 2 t) (iblk m c 3 t) y = _
  have hy : (((cfg0.win 7).blk t).view.emb y : S1024x512.Idx) = at_ t y := by
    refine funext fun a => Fin.ext ?_
    match a with
    | ⟨0, _⟩ => show win0_7.index t 0 * 512 + 1 * (y 0).val = 512 * t.val + (y 0).val; rw [(points t).2.2.2.2.2.2.2.2.2.2.2.2.2.2.1]; omega
    | ⟨1, _⟩ => show win0_7.index t 1 * 512 + 1 * (y 1).val = (y 1).val; rw [(points t).2.2.2.2.2.2.2.2.2.2.2.2.2.2.2]; omega
  rw [hy]
  unfold out0_7
  rw [View.canon_unit_zero hz]
  simp only [View.ld_unit_zero (S := S512x512) hz]
  refine (congrFun (View.ld_unit_zero (S := S512x512) hz _ _) y).trans ?_
  show taken (iblk m c 0 t y) (iblk m c 1 t y) (iblk m c 2 t y) (iblk m c 3 t y) = _
  rw [block0, block1, block2, block3]
  rfl

/-- The call and its reference leave the same results. -/
theorem algebraic : Cert.algebraic_StepBranchIdeal_StepBranchRefIdeal (hStepBranchIdeal := Cert.StepBranchIdeal.Gen.facts)
    (hStepBranchRefIdeal := Cert.StepBranchRefIdeal.Gen.facts) := by
  intro m g m' g' _ hargs
  refine ⟨_, _, _, _, run_blocks m g, ?_⟩
  refine (θ_run (Cert.StepBranchRefIdeal.defs (F := Ideal)) _ _).mono (fun r h c => ?_) (Cert.StepBranchRefIdeal.Value.run (F := Ideal) m' g')
  obtain ⟨h4, h5, h6, h7, k⟩ := h c
  obtain ⟨a0, a1, a2, a3⟩ := hargs c
  refine ⟨h4.trans ?_, h5.trans ?_, h6.trans ?_, h7.trans ?_, k⟩
  · rw [final4, ← a0, ← a1, ← a2, ← a3]; rfl
  · rw [final5, ← a0, ← a1, ← a2, ← a3]; rfl
  · rw [final6, ← a0, ← a1, ← a2, ← a3]; rfl
  · rw [final7, ← a1]; rfl

end Cert.StepBranchIdeal.Value
-- ==== Proof.StepOut.lean ====
module

public import proofs.«01_k».proof.Defs
public import proofs.«01_k».proof.Proof.Steps
public import proofs.«01_k».proof.Proof.Gen.StepOutIdeal.Value
public import proofs.«01_k».proof.Proof.Gen.StepOutRefIdeal.Run

@[expose] public section

noncomputable section

namespace Cert.StepOutIdeal.Value

open Cert.StepOutIdeal Cert.StepOutIdeal.Gen Cert.Steps Idealize.ShloMosaic Idealize.ShloMosaic.TcCoe Idealize.SL.Sem

variable (m : (ℓ : Loc nD τ sig) → Buf (Elt Ideal) ℓ)

/-- The gradient that the step took. -/
def taken (_ g _ _ : EReal) : EReal := g

theorem hz : (![0, 0] : Fin 2 → Nat) = fun _ => 0 := funext fun a => by fin_cases a <;> rfl

/-- Point `t` takes and leaves the rows of its block. -/
theorem points : ∀ t : Fin grid0.N, win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0 ∧ win0_4.index t 0 = t.val ∧ win0_4.index t 1 = 0 ∧ win0_5.index t 0 = t.val ∧ win0_5.index t 1 = 0 ∧ win0_6.index t 0 = t.val ∧ win0_6.index t 1 = 0 ∧ win0_7.index t 0 = t.val ∧ win0_7.index t 1 = 0 := by decide +kernel

/-- Where a number of point `t`'s block lies. -/
def at_ (t : Fin grid0.N) (y : S128x2048.Idx) : S512x2048.Idx :=
  ix2 ⟨128 * t.val + (y 0).val, by
    have h0 : (y 0).val < 128 := (y 0).isLt
    have h1 : t.val < 4 := lt_of_lt_of_eq t.isLt (by decide)
    omega⟩ (y 1)

theorem block0 (c : Dev nD) (t : Fin cfg0.N) (y : S128x2048.Idx) : iblk m c 0 t y = m (c.tc.loc main_arg0) (at_ t y) := by
  unfold iblk
  rw [View.read_apply]
  show m (c.tc.loc main_arg0) _ = m (c.tc.loc main_arg0) _
  refine congrArg _ (funext fun a => Fin.ext ?_)
  match a with
  | ⟨0, _⟩ => show win0_0.index t 0 * 128 + 1 * (y 0).val = 128 * t.val + (y 0).val; rw [(points t).1]; omega
  | ⟨1, _⟩ => show win0_0.index t 1 * 2048 + 1 * (y 1).val = (y 1).val; rw [(points t).2.1]; omega

theorem block1 (c : Dev nD) (t : Fin cfg0.N) (y : S128x2048.Idx) : iblk m c 1 t y = m (c.tc.loc main_arg1) (at_ t y) := by
  unfold iblk
  rw [View.read_apply]
  show m (c.tc.loc main_arg1) _ = m (c.tc.loc main_arg1) _
  refine congrArg _ (funext fun a => Fin.ext ?_)
  match a with
  | ⟨0, _⟩ => show win0_1.index t 0 * 128 + 1 * (y 0).val = 128 * t.val + (y 0).val; rw [(points t).2.2.1]; omega
  | ⟨1, _⟩ => show win0_1.index t 1 * 2048 + 1 * (y 1).val = (y 1).val; rw [(points t).2.2.2.1]; omega

theorem block2 (c : Dev nD) (t : Fin cfg0.N) (y : S128x2048.Idx) : iblk m c 2 t y = m (c.tc.loc main_arg2) (at_ t y) := by
  unfold iblk
  rw [View.read_apply]
  show m (c.tc.loc main_arg2) _ = m (c.tc.loc main_arg2) _
  refine congrArg _ (funext fun a => Fin.ext ?_)
  match a with
  | ⟨0, _⟩ => show win0_2.index t 0 * 128 + 1 * (y 0).val = 128 * t.val + (y 0).val; rw [(points t).2.2.2.2.1]; omega
  | ⟨1, _⟩ => show win0_2.index t 1 * 2048 + 1 * (y 1).val = (y 1).val; rw [(points t).2.2.2.2.2.1]; omega

theorem block3 (c : Dev nD) (t : Fin cfg0.N) (y : S128x2048.Idx) : iblk m c 3 t y = m (c.tc.loc main_arg3) (at_ t y) := by
  unfold iblk
  rw [View.read_apply]
  show m (c.tc.loc main_arg3) _ = m (c.tc.loc main_arg3) _
  refine congrArg _ (funext fun a => Fin.ext ?_)
  match a with
  | ⟨0, _⟩ => show win0_3.index t 0 * 128 + 1 * (y 0).val = 128 * t.val + (y 0).val; rw [(points t).2.2.2.2.2.2.1]; omega
  | ⟨1, _⟩ => show win0_3.index t 1 * 2048 + 1 * (y 1).val = (y 1).val; rw [(points t).2.2.2.2.2.2.2.1]; omega

theorem covered4 (i : S512x2048.Idx) : ∃ t : Fin cfg0.N, (cfg0.win 4).flush t = true ∧ i ∈ ((cfg0.win 4).blk t).view.set := by
  have h0 : (i 0).val < 512 := (i 0).isLt
  have h1 : (i 1).val < 2048 := (i 1).isLt
  have hN : grid0.N = 4 := by decide
  let t : Fin grid0.N := ⟨(i 0).val / 128, by omega⟩
  refine ⟨t, flush0_4 t, ?_⟩
  show i ∈ ((View.whole main_v0_0).slice (win0_4.rect t)).set
  rw [View.set_slice_whole, Rect.mem_set_unit]
  intro a
  match a with
  | ⟨0, _⟩ => show win0_4.index t 0 * 128 ≤ (i 0).val ∧ (i 0).val < win0_4.index t 0 * 128 + 128; rw [(points t).2.2.2.2.2.2.2.2.1]; show (i 0).val / 128 * 128 ≤ (i 0).val ∧ (i 0).val < (i 0).val / 128 * 128 + 128; omega
  | ⟨1, _⟩ => show win0_4.index t 1 * 2048 ≤ (i 1).val ∧ (i 1).val < win0_4.index t 1 * 2048 + 2048; rw [(points t).2.2.2.2.2.2.2.2.2.1]; omega

/-- What the call leaves, index by index. -/
theorem final4 (c : Dev nD) : (dats m 0 c).arrAt 4 cfg0.N = fun i => stepD (F := Ideal) (m (c.tc.loc main_arg0) i) (m (c.tc.loc main_arg1) i) (m (c.tc.loc main_arg2) i) (m (c.tc.loc main_arg3) i) := by
  refine (dats m 0 c).arrAt_eq_of_cover 4 _ (fun t _ => ?_) covered4
  rw [flushed4]
  funext y
  rw [View.read_apply]
  show out0_4 (iblk m c 0 t) (iblk m c 1 t) (iblk m c 2 t) (iblk m c 3 t) y = _
  have hy : (((cfg0.win 4).blk t).view.emb y : S512x2048.Idx) = at_ t y := by
    refine funext fun a => Fin.ext ?_
    match a with
    | ⟨0, _⟩ => show win0_4.index t 0 * 128 + 1 * (y 0).val = 128 * t.val + (y 0).val; rw [(points t).2.2.2.2.2.2.2.2.1]; omega
    | ⟨1, _⟩ => show win0_4.index t 1 * 2048 + 1 * (y 1).val = (y 1).val; rw [(points t).2.2.2.2.2.2.2.2.2.1]; omega
  rw [hy]
  unfold out0_4
  rw [View.canon_unit_zero hz]
  simp only [View.ld_unit_zero (S := S128x2048) hz]

  show stepD (F := Ideal) (iblk m c 0 t y) (iblk m c 1 t y) (iblk m c 2 t y) (iblk m c 3 t y) = _
  rw [block0, block1, block2, block3]
  rfl

theorem covered5 (i : S512x2048.Idx) : ∃ t : Fin cfg0.N, (cfg0.win 5).flush t = true ∧ i ∈ ((cfg0.win 5).blk t).view.set := by
  have h0 : (i 0).val < 512 := (i 0).isLt
  have h1 : (i 1).val < 2048 := (i 1).isLt
  have hN : grid0.N = 4 := by decide
  let t : Fin grid0.N := ⟨(i 0).val / 128, by omega⟩
  refine ⟨t, flush0_5 t, ?_⟩
  show i ∈ ((View.whole main_v0_1).slice (win0_5.rect t)).set
  rw [View.set_slice_whole, Rect.mem_set_unit]
  intro a
  match a with
  | ⟨0, _⟩ => show win0_5.index t 0 * 128 ≤ (i 0).val ∧ (i 0).val < win0_5.index t 0 * 128 + 128; rw [(points t).2.2.2.2.2.2.2.2.2.2.1]; show (i 0).val / 128 * 128 ≤ (i 0).val ∧ (i 0).val < (i 0).val / 128 * 128 + 128; omega
  | ⟨1, _⟩ => show win0_5.index t 1 * 2048 ≤ (i 1).val ∧ (i 1).val < win0_5.index t 1 * 2048 + 2048; rw [(points t).2.2.2.2.2.2.2.2.2.2.2.1]; omega

/-- What the call leaves, index by index. -/
theorem final5 (c : Dev nD) : (dats m 0 c).arrAt 5 cfg0.N = fun i => stepM (F := Ideal) (m (c.tc.loc main_arg0) i) (m (c.tc.loc main_arg1) i) (m (c.tc.loc main_arg2) i) (m (c.tc.loc main_arg3) i) := by
  refine (dats m 0 c).arrAt_eq_of_cover 5 _ (fun t _ => ?_) covered5
  rw [flushed5]
  funext y
  rw [View.read_apply]
  show out0_5 (iblk m c 0 t) (iblk m c 1 t) (iblk m c 2 t) (iblk m c 3 t) y = _
  have hy : (((cfg0.win 5).blk t).view.emb y : S512x2048.Idx) = at_ t y := by
    refine funext fun a => Fin.ext ?_
    match a with
    | ⟨0, _⟩ => show win0_5.index t 0 * 128 + 1 * (y 0).val = 128 * t.val + (y 0).val; rw [(points t).2.2.2.2.2.2.2.2.2.2.1]; omega
    | ⟨1, _⟩ => show win0_5.index t 1 * 2048 + 1 * (y 1).val = (y 1).val; rw [(points t).2.2.2.2.2.2.2.2.2.2.2.1]; omega
  rw [hy]
  unfold out0_5
  rw [View.canon_unit_zero hz]
  simp only [View.ld_unit_zero (S := S128x2048) hz]

  show stepM (F := Ideal) (iblk m c 0 t y) (iblk m c 1 t y) (iblk m c 2 t y) (iblk m c 3 t y) = _
  rw [block0, block1, block2, block3]
  rfl

theorem covered6 (i : S512x2048.Idx) : ∃ t : Fin cfg0.N, (cfg0.win 6).flush t = true ∧ i ∈ ((cfg0.win 6).blk t).view.set := by
  have h0 : (i 0).val < 512 := (i 0).isLt
  have h1 : (i 1).val < 2048 := (i 1).isLt
  have hN : grid0.N = 4 := by decide
  let t : Fin grid0.N := ⟨(i 0).val / 128, by omega⟩
  refine ⟨t, flush0_6 t, ?_⟩
  show i ∈ ((View.whole main_v0_2).slice (win0_6.rect t)).set
  rw [View.set_slice_whole, Rect.mem_set_unit]
  intro a
  match a with
  | ⟨0, _⟩ => show win0_6.index t 0 * 128 ≤ (i 0).val ∧ (i 0).val < win0_6.index t 0 * 128 + 128; rw [(points t).2.2.2.2.2.2.2.2.2.2.2.2.1]; show (i 0).val / 128 * 128 ≤ (i 0).val ∧ (i 0).val < (i 0).val / 128 * 128 + 128; omega
  | ⟨1, _⟩ => show win0_6.index t 1 * 2048 ≤ (i 1).val ∧ (i 1).val < win0_6.index t 1 * 2048 + 2048; rw [(points t).2.2.2.2.2.2.2.2.2.2.2.2.2.1]; omega

/-- What the call leaves, index by index. -/
theorem final6 (c : Dev nD) : (dats m 0 c).arrAt 6 cfg0.N = fun i => stepV (F := Ideal) (m (c.tc.loc main_arg0) i) (m (c.tc.loc main_arg1) i) (m (c.tc.loc main_arg2) i) (m (c.tc.loc main_arg3) i) := by
  refine (dats m 0 c).arrAt_eq_of_cover 6 _ (fun t _ => ?_) covered6
  rw [flushed6]
  funext y
  rw [View.read_apply]
  show out0_6 (iblk m c 0 t) (iblk m c 1 t) (iblk m c 2 t) (iblk m c 3 t) y = _
  have hy : (((cfg0.win 6).blk t).view.emb y : S512x2048.Idx) = at_ t y := by
    refine funext fun a => Fin.ext ?_
    match a with
    | ⟨0, _⟩ => show win0_6.index t 0 * 128 + 1 * (y 0).val = 128 * t.val + (y 0).val; rw [(points t).2.2.2.2.2.2.2.2.2.2.2.2.1]; omega
    | ⟨1, _⟩ => show win0_6.index t 1 * 2048 + 1 * (y 1).val = (y 1).val; rw [(points t).2.2.2.2.2.2.2.2.2.2.2.2.2.1]; omega
  rw [hy]
  unfold out0_6
  rw [View.canon_unit_zero hz]
  simp only [View.ld_unit_zero (S := S128x2048) hz]

  show stepV (F := Ideal) (iblk m c 0 t y) (iblk m c 1 t y) (iblk m c 2 t y) (iblk m c 3 t y) = _
  rw [block0, block1, block2, block3]
  rfl

theorem covered7 (i : S512x2048.Idx) : ∃ t : Fin cfg0.N, (cfg0.win 7).flush t = true ∧ i ∈ ((cfg0.win 7).blk t).view.set := by
  have h0 : (i 0).val < 512 := (i 0).isLt
  have h1 : (i 1).val < 2048 := (i 1).isLt
  have hN : grid0.N = 4 := by decide
  let t : Fin grid0.N := ⟨(i 0).val / 128, by omega⟩
  refine ⟨t, flush0_7 t, ?_⟩
  show i ∈ ((View.whole main_v0_3).slice (win0_7.rect t)).set
  rw [View.set_slice_whole, Rect.mem_set_unit]
  intro a
  match a with
  | ⟨0, _⟩ => show win0_7.index t 0 * 128 ≤ (i 0).val ∧ (i 0).val < win0_7.index t 0 * 128 + 128; rw [(points t).2.2.2.2.2.2.2.2.2.2.2.2.2.2.1]; show (i 0).val / 128 * 128 ≤ (i 0).val ∧ (i 0).val < (i 0).val / 128 * 128 + 128; omega
  | ⟨1, _⟩ => show win0_7.index t 1 * 2048 ≤ (i 1).val ∧ (i 1).val < win0_7.index t 1 * 2048 + 2048; rw [(points t).2.2.2.2.2.2.2.2.2.2.2.2.2.2.2]; omega

/-- What the call leaves, index by index. -/
theorem final7 (c : Dev nD) : (dats m 0 c).arrAt 7 cfg0.N = fun i => taken (m (c.tc.loc main_arg0) i) (m (c.tc.loc main_arg1) i) (m (c.tc.loc main_arg2) i) (m (c.tc.loc main_arg3) i) := by
  refine (dats m 0 c).arrAt_eq_of_cover 7 _ (fun t _ => ?_) covered7
  rw [flushed7]
  funext y
  rw [View.read_apply]
  show out0_7 (iblk m c 0 t) (iblk m c 1 t) (iblk m c 2 t) (iblk m c 3 t) y = _
  have hy : (((cfg0.win 7).blk t).view.emb y : S512x2048.Idx) = at_ t y := by
    refine funext fun a => Fin.ext ?_
    match a with
    | ⟨0, _⟩ => show win0_7.index t 0 * 128 + 1 * (y 0).val = 128 * t.val + (y 0).val; rw [(points t).2.2.2.2.2.2.2.2.2.2.2.2.2.2.1]; omega
    | ⟨1, _⟩ => show win0_7.index t 1 * 2048 + 1 * (y 1).val = (y 1).val; rw [(points t).2.2.2.2.2.2.2.2.2.2.2.2.2.2.2]; omega
  rw [hy]
  unfold out0_7
  rw [View.canon_unit_zero hz]
  simp only [View.ld_unit_zero (S := S128x2048) hz]
  refine (congrFun (View.ld_unit_zero (S := S128x2048) hz _ _) y).trans ?_
  show taken (iblk m c 0 t y) (iblk m c 1 t y) (iblk m c 2 t y) (iblk m c 3 t y) = _
  rw [block0, block1, block2, block3]
  rfl

/-- The call and its reference leave the same results. -/
theorem algebraic : Cert.algebraic_StepOutIdeal_StepOutRefIdeal (hStepOutIdeal := Cert.StepOutIdeal.Gen.facts)
    (hStepOutRefIdeal := Cert.StepOutRefIdeal.Gen.facts) := by
  intro m g m' g' _ hargs
  refine ⟨_, _, _, _, run_blocks m g, ?_⟩
  refine (θ_run (Cert.StepOutRefIdeal.defs (F := Ideal)) _ _).mono (fun r h c => ?_) (Cert.StepOutRefIdeal.Value.run (F := Ideal) m' g')
  obtain ⟨h4, h5, h6, h7, k⟩ := h c
  obtain ⟨a0, a1, a2, a3⟩ := hargs c
  refine ⟨h4.trans ?_, h5.trans ?_, h6.trans ?_, h7.trans ?_, k⟩
  · rw [final4, ← a0, ← a1, ← a2, ← a3]; rfl
  · rw [final5, ← a0, ← a1, ← a2, ← a3]; rfl
  · rw [final6, ← a0, ← a1, ← a2, ← a3]; rfl
  · rw [final7, ← a1]; rfl

end Cert.StepOutIdeal.Value
-- ==== Proof.StepUp.lean ====
module

public import proofs.«01_k».proof.Defs
public import proofs.«01_k».proof.Proof.Steps
public import proofs.«01_k».proof.Proof.Gen.StepUpIdeal.Value
public import proofs.«01_k».proof.Proof.Gen.StepUpRefIdeal.Run

@[expose] public section

noncomputable section

namespace Cert.StepUpIdeal.Value

open Cert.StepUpIdeal Cert.StepUpIdeal.Gen Cert.Steps Idealize.ShloMosaic Idealize.ShloMosaic.TcCoe Idealize.SL.Sem

variable (m : (ℓ : Loc nD τ sig) → Buf (Elt Ideal) ℓ)

/-- The gradient that the step took. -/
def taken (_ g _ _ : EReal) : EReal := g

theorem hz : (![0, 0] : Fin 2 → Nat) = fun _ => 0 := funext fun a => by fin_cases a <;> rfl

/-- Point `t` takes and leaves the rows of its block. -/
theorem points : ∀ t : Fin grid0.N, win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0 ∧ win0_4.index t 0 = t.val ∧ win0_4.index t 1 = 0 ∧ win0_5.index t 0 = t.val ∧ win0_5.index t 1 = 0 ∧ win0_6.index t 0 = t.val ∧ win0_6.index t 1 = 0 ∧ win0_7.index t 0 = t.val ∧ win0_7.index t 1 = 0 := by decide +kernel

/-- Where a number of point `t`'s block lies. -/
def at_ (t : Fin grid0.N) (y : S64x2816.Idx) : S2048x2816.Idx :=
  ix2 ⟨64 * t.val + (y 0).val, by
    have h0 : (y 0).val < 64 := (y 0).isLt
    have h1 : t.val < 32 := lt_of_lt_of_eq t.isLt (by decide)
    omega⟩ (y 1)

theorem block0 (c : Dev nD) (t : Fin cfg0.N) (y : S64x2816.Idx) : iblk m c 0 t y = m (c.tc.loc main_arg0) (at_ t y) := by
  unfold iblk
  rw [View.read_apply]
  show m (c.tc.loc main_arg0) _ = m (c.tc.loc main_arg0) _
  refine congrArg _ (funext fun a => Fin.ext ?_)
  match a with
  | ⟨0, _⟩ => show win0_0.index t 0 * 64 + 1 * (y 0).val = 64 * t.val + (y 0).val; rw [(points t).1]; omega
  | ⟨1, _⟩ => show win0_0.index t 1 * 2816 + 1 * (y 1).val = (y 1).val; rw [(points t).2.1]; omega

theorem block1 (c : Dev nD) (t : Fin cfg0.N) (y : S64x2816.Idx) : iblk m c 1 t y = m (c.tc.loc main_arg1) (at_ t y) := by
  unfold iblk
  rw [View.read_apply]
  show m (c.tc.loc main_arg1) _ = m (c.tc.loc main_arg1) _
  refine congrArg _ (funext fun a => Fin.ext ?_)
  match a with
  | ⟨0, _⟩ => show win0_1.index t 0 * 64 + 1 * (y 0).val = 64 * t.val + (y 0).val; rw [(points t).2.2.1]; omega
  | ⟨1, _⟩ => show win0_1.index t 1 * 2816 + 1 * (y 1).val = (y 1).val; rw [(points t).2.2.2.1]; omega

theorem block2 (c : Dev nD) (t : Fin cfg0.N) (y : S64x2816.Idx) : iblk m c 2 t y = m (c.tc.loc main_arg2) (at_ t y) := by
  unfold iblk
  rw [View.read_apply]
  show m (c.tc.loc main_arg2) _ = m (c.tc.loc main_arg2) _
  refine congrArg _ (funext fun a => Fin.ext ?_)
  match a with
  | ⟨0, _⟩ => show win0_2.index t 0 * 64 + 1 * (y 0).val = 64 * t.val + (y 0).val; rw [(points t).2.2.2.2.1]; omega
  | ⟨1, _⟩ => show win0_2.index t 1 * 2816 + 1 * (y 1).val = (y 1).val; rw [(points t).2.2.2.2.2.1]; omega

theorem block3 (c : Dev nD) (t : Fin cfg0.N) (y : S64x2816.Idx) : iblk m c 3 t y = m (c.tc.loc main_arg3) (at_ t y) := by
  unfold iblk
  rw [View.read_apply]
  show m (c.tc.loc main_arg3) _ = m (c.tc.loc main_arg3) _
  refine congrArg _ (funext fun a => Fin.ext ?_)
  match a with
  | ⟨0, _⟩ => show win0_3.index t 0 * 64 + 1 * (y 0).val = 64 * t.val + (y 0).val; rw [(points t).2.2.2.2.2.2.1]; omega
  | ⟨1, _⟩ => show win0_3.index t 1 * 2816 + 1 * (y 1).val = (y 1).val; rw [(points t).2.2.2.2.2.2.2.1]; omega

theorem covered4 (i : S2048x2816.Idx) : ∃ t : Fin cfg0.N, (cfg0.win 4).flush t = true ∧ i ∈ ((cfg0.win 4).blk t).view.set := by
  have h0 : (i 0).val < 2048 := (i 0).isLt
  have h1 : (i 1).val < 2816 := (i 1).isLt
  have hN : grid0.N = 32 := by decide
  let t : Fin grid0.N := ⟨(i 0).val / 64, by omega⟩
  refine ⟨t, flush0_4 t, ?_⟩
  show i ∈ ((View.whole main_v0_0).slice (win0_4.rect t)).set
  rw [View.set_slice_whole, Rect.mem_set_unit]
  intro a
  match a with
  | ⟨0, _⟩ => show win0_4.index t 0 * 64 ≤ (i 0).val ∧ (i 0).val < win0_4.index t 0 * 64 + 64; rw [(points t).2.2.2.2.2.2.2.2.1]; show (i 0).val / 64 * 64 ≤ (i 0).val ∧ (i 0).val < (i 0).val / 64 * 64 + 64; omega
  | ⟨1, _⟩ => show win0_4.index t 1 * 2816 ≤ (i 1).val ∧ (i 1).val < win0_4.index t 1 * 2816 + 2816; rw [(points t).2.2.2.2.2.2.2.2.2.1]; omega

/-- What the call leaves, index by index. -/
theorem final4 (c : Dev nD) : (dats m 0 c).arrAt 4 cfg0.N = fun i => stepD (F := Ideal) (m (c.tc.loc main_arg0) i) (m (c.tc.loc main_arg1) i) (m (c.tc.loc main_arg2) i) (m (c.tc.loc main_arg3) i) := by
  refine (dats m 0 c).arrAt_eq_of_cover 4 _ (fun t _ => ?_) covered4
  rw [flushed4]
  funext y
  rw [View.read_apply]
  show out0_4 (iblk m c 0 t) (iblk m c 1 t) (iblk m c 2 t) (iblk m c 3 t) y = _
  have hy : (((cfg0.win 4).blk t).view.emb y : S2048x2816.Idx) = at_ t y := by
    refine funext fun a => Fin.ext ?_
    match a with
    | ⟨0, _⟩ => show win0_4.index t 0 * 64 + 1 * (y 0).val = 64 * t.val + (y 0).val; rw [(points t).2.2.2.2.2.2.2.2.1]; omega
    | ⟨1, _⟩ => show win0_4.index t 1 * 2816 + 1 * (y 1).val = (y 1).val; rw [(points t).2.2.2.2.2.2.2.2.2.1]; omega
  rw [hy]
  unfold out0_4
  rw [View.canon_unit_zero hz]
  simp only [View.ld_unit_zero (S := S64x2816) hz]

  show stepD (F := Ideal) (iblk m c 0 t y) (iblk m c 1 t y) (iblk m c 2 t y) (iblk m c 3 t y) = _
  rw [block0, block1, block2, block3]
  rfl

theorem covered5 (i : S2048x2816.Idx) : ∃ t : Fin cfg0.N, (cfg0.win 5).flush t = true ∧ i ∈ ((cfg0.win 5).blk t).view.set := by
  have h0 : (i 0).val < 2048 := (i 0).isLt
  have h1 : (i 1).val < 2816 := (i 1).isLt
  have hN : grid0.N = 32 := by decide
  let t : Fin grid0.N := ⟨(i 0).val / 64, by omega⟩
  refine ⟨t, flush0_5 t, ?_⟩
  show i ∈ ((View.whole main_v0_1).slice (win0_5.rect t)).set
  rw [View.set_slice_whole, Rect.mem_set_unit]
  intro a
  match a with
  | ⟨0, _⟩ => show win0_5.index t 0 * 64 ≤ (i 0).val ∧ (i 0).val < win0_5.index t 0 * 64 + 64; rw [(points t).2.2.2.2.2.2.2.2.2.2.1]; show (i 0).val / 64 * 64 ≤ (i 0).val ∧ (i 0).val < (i 0).val / 64 * 64 + 64; omega
  | ⟨1, _⟩ => show win0_5.index t 1 * 2816 ≤ (i 1).val ∧ (i 1).val < win0_5.index t 1 * 2816 + 2816; rw [(points t).2.2.2.2.2.2.2.2.2.2.2.1]; omega

/-- What the call leaves, index by index. -/
theorem final5 (c : Dev nD) : (dats m 0 c).arrAt 5 cfg0.N = fun i => stepM (F := Ideal) (m (c.tc.loc main_arg0) i) (m (c.tc.loc main_arg1) i) (m (c.tc.loc main_arg2) i) (m (c.tc.loc main_arg3) i) := by
  refine (dats m 0 c).arrAt_eq_of_cover 5 _ (fun t _ => ?_) covered5
  rw [flushed5]
  funext y
  rw [View.read_apply]
  show out0_5 (iblk m c 0 t) (iblk m c 1 t) (iblk m c 2 t) (iblk m c 3 t) y = _
  have hy : (((cfg0.win 5).blk t).view.emb y : S2048x2816.Idx) = at_ t y := by
    refine funext fun a => Fin.ext ?_
    match a with
    | ⟨0, _⟩ => show win0_5.index t 0 * 64 + 1 * (y 0).val = 64 * t.val + (y 0).val; rw [(points t).2.2.2.2.2.2.2.2.2.2.1]; omega
    | ⟨1, _⟩ => show win0_5.index t 1 * 2816 + 1 * (y 1).val = (y 1).val; rw [(points t).2.2.2.2.2.2.2.2.2.2.2.1]; omega
  rw [hy]
  unfold out0_5
  rw [View.canon_unit_zero hz]
  simp only [View.ld_unit_zero (S := S64x2816) hz]

  show stepM (F := Ideal) (iblk m c 0 t y) (iblk m c 1 t y) (iblk m c 2 t y) (iblk m c 3 t y) = _
  rw [block0, block1, block2, block3]
  rfl

theorem covered6 (i : S2048x2816.Idx) : ∃ t : Fin cfg0.N, (cfg0.win 6).flush t = true ∧ i ∈ ((cfg0.win 6).blk t).view.set := by
  have h0 : (i 0).val < 2048 := (i 0).isLt
  have h1 : (i 1).val < 2816 := (i 1).isLt
  have hN : grid0.N = 32 := by decide
  let t : Fin grid0.N := ⟨(i 0).val / 64, by omega⟩
  refine ⟨t, flush0_6 t, ?_⟩
  show i ∈ ((View.whole main_v0_2).slice (win0_6.rect t)).set
  rw [View.set_slice_whole, Rect.mem_set_unit]
  intro a
  match a with
  | ⟨0, _⟩ => show win0_6.index t 0 * 64 ≤ (i 0).val ∧ (i 0).val < win0_6.index t 0 * 64 + 64; rw [(points t).2.2.2.2.2.2.2.2.2.2.2.2.1]; show (i 0).val / 64 * 64 ≤ (i 0).val ∧ (i 0).val < (i 0).val / 64 * 64 + 64; omega
  | ⟨1, _⟩ => show win0_6.index t 1 * 2816 ≤ (i 1).val ∧ (i 1).val < win0_6.index t 1 * 2816 + 2816; rw [(points t).2.2.2.2.2.2.2.2.2.2.2.2.2.1]; omega

/-- What the call leaves, index by index. -/
theorem final6 (c : Dev nD) : (dats m 0 c).arrAt 6 cfg0.N = fun i => stepV (F := Ideal) (m (c.tc.loc main_arg0) i) (m (c.tc.loc main_arg1) i) (m (c.tc.loc main_arg2) i) (m (c.tc.loc main_arg3) i) := by
  refine (dats m 0 c).arrAt_eq_of_cover 6 _ (fun t _ => ?_) covered6
  rw [flushed6]
  funext y
  rw [View.read_apply]
  show out0_6 (iblk m c 0 t) (iblk m c 1 t) (iblk m c 2 t) (iblk m c 3 t) y = _
  have hy : (((cfg0.win 6).blk t).view.emb y : S2048x2816.Idx) = at_ t y := by
    refine funext fun a => Fin.ext ?_
    match a with
    | ⟨0, _⟩ => show win0_6.index t 0 * 64 + 1 * (y 0).val = 64 * t.val + (y 0).val; rw [(points t).2.2.2.2.2.2.2.2.2.2.2.2.1]; omega
    | ⟨1, _⟩ => show win0_6.index t 1 * 2816 + 1 * (y 1).val = (y 1).val; rw [(points t).2.2.2.2.2.2.2.2.2.2.2.2.2.1]; omega
  rw [hy]
  unfold out0_6
  rw [View.canon_unit_zero hz]
  simp only [View.ld_unit_zero (S := S64x2816) hz]

  show stepV (F := Ideal) (iblk m c 0 t y) (iblk m c 1 t y) (iblk m c 2 t y) (iblk m c 3 t y) = _
  rw [block0, block1, block2, block3]
  rfl

theorem covered7 (i : S2048x2816.Idx) : ∃ t : Fin cfg0.N, (cfg0.win 7).flush t = true ∧ i ∈ ((cfg0.win 7).blk t).view.set := by
  have h0 : (i 0).val < 2048 := (i 0).isLt
  have h1 : (i 1).val < 2816 := (i 1).isLt
  have hN : grid0.N = 32 := by decide
  let t : Fin grid0.N := ⟨(i 0).val / 64, by omega⟩
  refine ⟨t, flush0_7 t, ?_⟩
  show i ∈ ((View.whole main_v0_3).slice (win0_7.rect t)).set
  rw [View.set_slice_whole, Rect.mem_set_unit]
  intro a
  match a with
  | ⟨0, _⟩ => show win0_7.index t 0 * 64 ≤ (i 0).val ∧ (i 0).val < win0_7.index t 0 * 64 + 64; rw [(points t).2.2.2.2.2.2.2.2.2.2.2.2.2.2.1]; show (i 0).val / 64 * 64 ≤ (i 0).val ∧ (i 0).val < (i 0).val / 64 * 64 + 64; omega
  | ⟨1, _⟩ => show win0_7.index t 1 * 2816 ≤ (i 1).val ∧ (i 1).val < win0_7.index t 1 * 2816 + 2816; rw [(points t).2.2.2.2.2.2.2.2.2.2.2.2.2.2.2]; omega

/-- What the call leaves, index by index. -/
theorem final7 (c : Dev nD) : (dats m 0 c).arrAt 7 cfg0.N = fun i => taken (m (c.tc.loc main_arg0) i) (m (c.tc.loc main_arg1) i) (m (c.tc.loc main_arg2) i) (m (c.tc.loc main_arg3) i) := by
  refine (dats m 0 c).arrAt_eq_of_cover 7 _ (fun t _ => ?_) covered7
  rw [flushed7]
  funext y
  rw [View.read_apply]
  show out0_7 (iblk m c 0 t) (iblk m c 1 t) (iblk m c 2 t) (iblk m c 3 t) y = _
  have hy : (((cfg0.win 7).blk t).view.emb y : S2048x2816.Idx) = at_ t y := by
    refine funext fun a => Fin.ext ?_
    match a with
    | ⟨0, _⟩ => show win0_7.index t 0 * 64 + 1 * (y 0).val = 64 * t.val + (y 0).val; rw [(points t).2.2.2.2.2.2.2.2.2.2.2.2.2.2.1]; omega
    | ⟨1, _⟩ => show win0_7.index t 1 * 2816 + 1 * (y 1).val = (y 1).val; rw [(points t).2.2.2.2.2.2.2.2.2.2.2.2.2.2.2]; omega
  rw [hy]
  unfold out0_7
  rw [View.canon_unit_zero hz]
  simp only [View.ld_unit_zero (S := S64x2816) hz]
  refine (congrFun (View.ld_unit_zero (S := S64x2816) hz _ _) y).trans ?_
  show taken (iblk m c 0 t y) (iblk m c 1 t y) (iblk m c 2 t y) (iblk m c 3 t y) = _
  rw [block0, block1, block2, block3]
  rfl

/-- The call and its reference leave the same results. -/
theorem algebraic : Cert.algebraic_StepUpIdeal_StepUpRefIdeal (hStepUpIdeal := Cert.StepUpIdeal.Gen.facts)
    (hStepUpRefIdeal := Cert.StepUpRefIdeal.Gen.facts) := by
  intro m g m' g' _ hargs
  refine ⟨_, _, _, _, run_blocks m g, ?_⟩
  refine (θ_run (Cert.StepUpRefIdeal.defs (F := Ideal)) _ _).mono (fun r h c => ?_) (Cert.StepUpRefIdeal.Value.run (F := Ideal) m' g')
  obtain ⟨h4, h5, h6, h7, k⟩ := h c
  obtain ⟨a0, a1, a2, a3⟩ := hargs c
  refine ⟨h4.trans ?_, h5.trans ?_, h6.trans ?_, h7.trans ?_, k⟩
  · rw [final4, ← a0, ← a1, ← a2, ← a3]; rfl
  · rw [final5, ← a0, ← a1, ← a2, ← a3]; rfl
  · rw [final6, ← a0, ← a1, ← a2, ← a3]; rfl
  · rw [final7, ← a1]; rfl

end Cert.StepUpIdeal.Value
-- ==== Proof.StepDown.lean ====
module

public import proofs.«01_k».proof.Defs
public import proofs.«01_k».proof.Proof.Steps
public import proofs.«01_k».proof.Proof.Gen.StepDownIdeal.Value
public import proofs.«01_k».proof.Proof.Gen.StepDownRefIdeal.Run

@[expose] public section

noncomputable section

namespace Cert.StepDownIdeal.Value

open Cert.StepDownIdeal Cert.StepDownIdeal.Gen Cert.Steps Idealize.ShloMosaic Idealize.ShloMosaic.TcCoe Idealize.SL.Sem

variable (m : (ℓ : Loc nD τ sig) → Buf (Elt Ideal) ℓ)

/-- The gradient that the step took. -/
def taken (_ g _ _ : EReal) : EReal := g

theorem hz : (![0, 0] : Fin 2 → Nat) = fun _ => 0 := funext fun a => by fin_cases a <;> rfl

/-- Point `t` takes and leaves the rows of its block. -/
theorem points : ∀ t : Fin grid0.N, win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0 ∧ win0_4.index t 0 = t.val ∧ win0_4.index t 1 = 0 ∧ win0_5.index t 0 = t.val ∧ win0_5.index t 1 = 0 ∧ win0_6.index t 0 = t.val ∧ win0_6.index t 1 = 0 ∧ win0_7.index t 0 = t.val ∧ win0_7.index t 1 = 0 := by decide +kernel

/-- Where a number of point `t`'s block lies. -/
def at_ (t : Fin grid0.N) (y : S128x2048.Idx) : S1408x2048.Idx :=
  ix2 ⟨128 * t.val + (y 0).val, by
    have h0 : (y 0).val < 128 := (y 0).isLt
    have h1 : t.val < 11 := lt_of_lt_of_eq t.isLt (by decide)
    omega⟩ (y 1)

theorem block0 (c : Dev nD) (t : Fin cfg0.N) (y : S128x2048.Idx) : iblk m c 0 t y = m (c.tc.loc main_arg0) (at_ t y) := by
  unfold iblk
  rw [View.read_apply]
  show m (c.tc.loc main_arg0) _ = m (c.tc.loc main_arg0) _
  refine congrArg _ (funext fun a => Fin.ext ?_)
  match a with
  | ⟨0, _⟩ => show win0_0.index t 0 * 128 + 1 * (y 0).val = 128 * t.val + (y 0).val; rw [(points t).1]; omega
  | ⟨1, _⟩ => show win0_0.index t 1 * 2048 + 1 * (y 1).val = (y 1).val; rw [(points t).2.1]; omega

theorem block1 (c : Dev nD) (t : Fin cfg0.N) (y : S128x2048.Idx) : iblk m c 1 t y = m (c.tc.loc main_arg1) (at_ t y) := by
  unfold iblk
  rw [View.read_apply]
  show m (c.tc.loc main_arg1) _ = m (c.tc.loc main_arg1) _
  refine congrArg _ (funext fun a => Fin.ext ?_)
  match a with
  | ⟨0, _⟩ => show win0_1.index t 0 * 128 + 1 * (y 0).val = 128 * t.val + (y 0).val; rw [(points t).2.2.1]; omega
  | ⟨1, _⟩ => show win0_1.index t 1 * 2048 + 1 * (y 1).val = (y 1).val; rw [(points t).2.2.2.1]; omega

theorem block2 (c : Dev nD) (t : Fin cfg0.N) (y : S128x2048.Idx) : iblk m c 2 t y = m (c.tc.loc main_arg2) (at_ t y) := by
  unfold iblk
  rw [View.read_apply]
  show m (c.tc.loc main_arg2) _ = m (c.tc.loc main_arg2) _
  refine congrArg _ (funext fun a => Fin.ext ?_)
  match a with
  | ⟨0, _⟩ => show win0_2.index t 0 * 128 + 1 * (y 0).val = 128 * t.val + (y 0).val; rw [(points t).2.2.2.2.1]; omega
  | ⟨1, _⟩ => show win0_2.index t 1 * 2048 + 1 * (y 1).val = (y 1).val; rw [(points t).2.2.2.2.2.1]; omega

theorem block3 (c : Dev nD) (t : Fin cfg0.N) (y : S128x2048.Idx) : iblk m c 3 t y = m (c.tc.loc main_arg3) (at_ t y) := by
  unfold iblk
  rw [View.read_apply]
  show m (c.tc.loc main_arg3) _ = m (c.tc.loc main_arg3) _
  refine congrArg _ (funext fun a => Fin.ext ?_)
  match a with
  | ⟨0, _⟩ => show win0_3.index t 0 * 128 + 1 * (y 0).val = 128 * t.val + (y 0).val; rw [(points t).2.2.2.2.2.2.1]; omega
  | ⟨1, _⟩ => show win0_3.index t 1 * 2048 + 1 * (y 1).val = (y 1).val; rw [(points t).2.2.2.2.2.2.2.1]; omega

theorem covered4 (i : S1408x2048.Idx) : ∃ t : Fin cfg0.N, (cfg0.win 4).flush t = true ∧ i ∈ ((cfg0.win 4).blk t).view.set := by
  have h0 : (i 0).val < 1408 := (i 0).isLt
  have h1 : (i 1).val < 2048 := (i 1).isLt
  have hN : grid0.N = 11 := by decide
  let t : Fin grid0.N := ⟨(i 0).val / 128, by omega⟩
  refine ⟨t, flush0_4 t, ?_⟩
  show i ∈ ((View.whole main_v0_0).slice (win0_4.rect t)).set
  rw [View.set_slice_whole, Rect.mem_set_unit]
  intro a
  match a with
  | ⟨0, _⟩ => show win0_4.index t 0 * 128 ≤ (i 0).val ∧ (i 0).val < win0_4.index t 0 * 128 + 128; rw [(points t).2.2.2.2.2.2.2.2.1]; show (i 0).val / 128 * 128 ≤ (i 0).val ∧ (i 0).val < (i 0).val / 128 * 128 + 128; omega
  | ⟨1, _⟩ => show win0_4.index t 1 * 2048 ≤ (i 1).val ∧ (i 1).val < win0_4.index t 1 * 2048 + 2048; rw [(points t).2.2.2.2.2.2.2.2.2.1]; omega

/-- What the call leaves, index by index. -/
theorem final4 (c : Dev nD) : (dats m 0 c).arrAt 4 cfg0.N = fun i => stepD (F := Ideal) (m (c.tc.loc main_arg0) i) (m (c.tc.loc main_arg1) i) (m (c.tc.loc main_arg2) i) (m (c.tc.loc main_arg3) i) := by
  refine (dats m 0 c).arrAt_eq_of_cover 4 _ (fun t _ => ?_) covered4
  rw [flushed4]
  funext y
  rw [View.read_apply]
  show out0_4 (iblk m c 0 t) (iblk m c 1 t) (iblk m c 2 t) (iblk m c 3 t) y = _
  have hy : (((cfg0.win 4).blk t).view.emb y : S1408x2048.Idx) = at_ t y := by
    refine funext fun a => Fin.ext ?_
    match a with
    | ⟨0, _⟩ => show win0_4.index t 0 * 128 + 1 * (y 0).val = 128 * t.val + (y 0).val; rw [(points t).2.2.2.2.2.2.2.2.1]; omega
    | ⟨1, _⟩ => show win0_4.index t 1 * 2048 + 1 * (y 1).val = (y 1).val; rw [(points t).2.2.2.2.2.2.2.2.2.1]; omega
  rw [hy]
  unfold out0_4
  rw [View.canon_unit_zero hz]
  simp only [View.ld_unit_zero (S := S128x2048) hz]

  show stepD (F := Ideal) (iblk m c 0 t y) (iblk m c 1 t y) (iblk m c 2 t y) (iblk m c 3 t y) = _
  rw [block0, block1, block2, block3]
  rfl

theorem covered5 (i : S1408x2048.Idx) : ∃ t : Fin cfg0.N, (cfg0.win 5).flush t = true ∧ i ∈ ((cfg0.win 5).blk t).view.set := by
  have h0 : (i 0).val < 1408 := (i 0).isLt
  have h1 : (i 1).val < 2048 := (i 1).isLt
  have hN : grid0.N = 11 := by decide
  let t : Fin grid0.N := ⟨(i 0).val / 128, by omega⟩
  refine ⟨t, flush0_5 t, ?_⟩
  show i ∈ ((View.whole main_v0_1).slice (win0_5.rect t)).set
  rw [View.set_slice_whole, Rect.mem_set_unit]
  intro a
  match a with
  | ⟨0, _⟩ => show win0_5.index t 0 * 128 ≤ (i 0).val ∧ (i 0).val < win0_5.index t 0 * 128 + 128; rw [(points t).2.2.2.2.2.2.2.2.2.2.1]; show (i 0).val / 128 * 128 ≤ (i 0).val ∧ (i 0).val < (i 0).val / 128 * 128 + 128; omega
  | ⟨1, _⟩ => show win0_5.index t 1 * 2048 ≤ (i 1).val ∧ (i 1).val < win0_5.index t 1 * 2048 + 2048; rw [(points t).2.2.2.2.2.2.2.2.2.2.2.1]; omega

/-- What the call leaves, index by index. -/
theorem final5 (c : Dev nD) : (dats m 0 c).arrAt 5 cfg0.N = fun i => stepM (F := Ideal) (m (c.tc.loc main_arg0) i) (m (c.tc.loc main_arg1) i) (m (c.tc.loc main_arg2) i) (m (c.tc.loc main_arg3) i) := by
  refine (dats m 0 c).arrAt_eq_of_cover 5 _ (fun t _ => ?_) covered5
  rw [flushed5]
  funext y
  rw [View.read_apply]
  show out0_5 (iblk m c 0 t) (iblk m c 1 t) (iblk m c 2 t) (iblk m c 3 t) y = _
  have hy : (((cfg0.win 5).blk t).view.emb y : S1408x2048.Idx) = at_ t y := by
    refine funext fun a => Fin.ext ?_
    match a with
    | ⟨0, _⟩ => show win0_5.index t 0 * 128 + 1 * (y 0).val = 128 * t.val + (y 0).val; rw [(points t).2.2.2.2.2.2.2.2.2.2.1]; omega
    | ⟨1, _⟩ => show win0_5.index t 1 * 2048 + 1 * (y 1).val = (y 1).val; rw [(points t).2.2.2.2.2.2.2.2.2.2.2.1]; omega
  rw [hy]
  unfold out0_5
  rw [View.canon_unit_zero hz]
  simp only [View.ld_unit_zero (S := S128x2048) hz]

  show stepM (F := Ideal) (iblk m c 0 t y) (iblk m c 1 t y) (iblk m c 2 t y) (iblk m c 3 t y) = _
  rw [block0, block1, block2, block3]
  rfl

theorem covered6 (i : S1408x2048.Idx) : ∃ t : Fin cfg0.N, (cfg0.win 6).flush t = true ∧ i ∈ ((cfg0.win 6).blk t).view.set := by
  have h0 : (i 0).val < 1408 := (i 0).isLt
  have h1 : (i 1).val < 2048 := (i 1).isLt
  have hN : grid0.N = 11 := by decide
  let t : Fin grid0.N := ⟨(i 0).val / 128, by omega⟩
  refine ⟨t, flush0_6 t, ?_⟩
  show i ∈ ((View.whole main_v0_2).slice (win0_6.rect t)).set
  rw [View.set_slice_whole, Rect.mem_set_unit]
  intro a
  match a with
  | ⟨0, _⟩ => show win0_6.index t 0 * 128 ≤ (i 0).val ∧ (i 0).val < win0_6.index t 0 * 128 + 128; rw [(points t).2.2.2.2.2.2.2.2.2.2.2.2.1]; show (i 0).val / 128 * 128 ≤ (i 0).val ∧ (i 0).val < (i 0).val / 128 * 128 + 128; omega
  | ⟨1, _⟩ => show win0_6.index t 1 * 2048 ≤ (i 1).val ∧ (i 1).val < win0_6.index t 1 * 2048 + 2048; rw [(points t).2.2.2.2.2.2.2.2.2.2.2.2.2.1]; omega

/-- What the call leaves, index by index. -/
theorem final6 (c : Dev nD) : (dats m 0 c).arrAt 6 cfg0.N = fun i => stepV (F := Ideal) (m (c.tc.loc main_arg0) i) (m (c.tc.loc main_arg1) i) (m (c.tc.loc main_arg2) i) (m (c.tc.loc main_arg3) i) := by
  refine (dats m 0 c).arrAt_eq_of_cover 6 _ (fun t _ => ?_) covered6
  rw [flushed6]
  funext y
  rw [View.read_apply]
  show out0_6 (iblk m c 0 t) (iblk m c 1 t) (iblk m c 2 t) (iblk m c 3 t) y = _
  have hy : (((cfg0.win 6).blk t).view.emb y : S1408x2048.Idx) = at_ t y := by
    refine funext fun a => Fin.ext ?_
    match a with
    | ⟨0, _⟩ => show win0_6.index t 0 * 128 + 1 * (y 0).val = 128 * t.val + (y 0).val; rw [(points t).2.2.2.2.2.2.2.2.2.2.2.2.1]; omega
    | ⟨1, _⟩ => show win0_6.index t 1 * 2048 + 1 * (y 1).val = (y 1).val; rw [(points t).2.2.2.2.2.2.2.2.2.2.2.2.2.1]; omega
  rw [hy]
  unfold out0_6
  rw [View.canon_unit_zero hz]
  simp only [View.ld_unit_zero (S := S128x2048) hz]

  show stepV (F := Ideal) (iblk m c 0 t y) (iblk m c 1 t y) (iblk m c 2 t y) (iblk m c 3 t y) = _
  rw [block0, block1, block2, block3]
  rfl

theorem covered7 (i : S1408x2048.Idx) : ∃ t : Fin cfg0.N, (cfg0.win 7).flush t = true ∧ i ∈ ((cfg0.win 7).blk t).view.set := by
  have h0 : (i 0).val < 1408 := (i 0).isLt
  have h1 : (i 1).val < 2048 := (i 1).isLt
  have hN : grid0.N = 11 := by decide
  let t : Fin grid0.N := ⟨(i 0).val / 128, by omega⟩
  refine ⟨t, flush0_7 t, ?_⟩
  show i ∈ ((View.whole main_v0_3).slice (win0_7.rect t)).set
  rw [View.set_slice_whole, Rect.mem_set_unit]
  intro a
  match a with
  | ⟨0, _⟩ => show win0_7.index t 0 * 128 ≤ (i 0).val ∧ (i 0).val < win0_7.index t 0 * 128 + 128; rw [(points t).2.2.2.2.2.2.2.2.2.2.2.2.2.2.1]; show (i 0).val / 128 * 128 ≤ (i 0).val ∧ (i 0).val < (i 0).val / 128 * 128 + 128; omega
  | ⟨1, _⟩ => show win0_7.index t 1 * 2048 ≤ (i 1).val ∧ (i 1).val < win0_7.index t 1 * 2048 + 2048; rw [(points t).2.2.2.2.2.2.2.2.2.2.2.2.2.2.2]; omega

/-- What the call leaves, index by index. -/
theorem final7 (c : Dev nD) : (dats m 0 c).arrAt 7 cfg0.N = fun i => taken (m (c.tc.loc main_arg0) i) (m (c.tc.loc main_arg1) i) (m (c.tc.loc main_arg2) i) (m (c.tc.loc main_arg3) i) := by
  refine (dats m 0 c).arrAt_eq_of_cover 7 _ (fun t _ => ?_) covered7
  rw [flushed7]
  funext y
  rw [View.read_apply]
  show out0_7 (iblk m c 0 t) (iblk m c 1 t) (iblk m c 2 t) (iblk m c 3 t) y = _
  have hy : (((cfg0.win 7).blk t).view.emb y : S1408x2048.Idx) = at_ t y := by
    refine funext fun a => Fin.ext ?_
    match a with
    | ⟨0, _⟩ => show win0_7.index t 0 * 128 + 1 * (y 0).val = 128 * t.val + (y 0).val; rw [(points t).2.2.2.2.2.2.2.2.2.2.2.2.2.2.1]; omega
    | ⟨1, _⟩ => show win0_7.index t 1 * 2048 + 1 * (y 1).val = (y 1).val; rw [(points t).2.2.2.2.2.2.2.2.2.2.2.2.2.2.2]; omega
  rw [hy]
  unfold out0_7
  rw [View.canon_unit_zero hz]
  simp only [View.ld_unit_zero (S := S128x2048) hz]
  refine (congrFun (View.ld_unit_zero (S := S128x2048) hz _ _) y).trans ?_
  show taken (iblk m c 0 t y) (iblk m c 1 t y) (iblk m c 2 t y) (iblk m c 3 t y) = _
  rw [block0, block1, block2, block3]
  rfl

/-- The call and its reference leave the same results. -/
theorem algebraic : Cert.algebraic_StepDownIdeal_StepDownRefIdeal (hStepDownIdeal := Cert.StepDownIdeal.Gen.facts)
    (hStepDownRefIdeal := Cert.StepDownRefIdeal.Gen.facts) := by
  intro m g m' g' _ hargs
  refine ⟨_, _, _, _, run_blocks m g, ?_⟩
  refine (θ_run (Cert.StepDownRefIdeal.defs (F := Ideal)) _ _).mono (fun r h c => ?_) (Cert.StepDownRefIdeal.Value.run (F := Ideal) m' g')
  obtain ⟨h4, h5, h6, h7, k⟩ := h c
  obtain ⟨a0, a1, a2, a3⟩ := hargs c
  refine ⟨h4.trans ?_, h5.trans ?_, h6.trans ?_, h7.trans ?_, k⟩
  · rw [final4, ← a0, ← a1, ← a2, ← a3]; rfl
  · rw [final5, ← a0, ← a1, ← a2, ← a3]; rfl
  · rw [final6, ← a0, ← a1, ← a2, ← a3]; rfl
  · rw [final7, ← a1]; rfl

end Cert.StepDownIdeal.Value
-- ==== Proof.StepSmall.lean ====
/- The optimiser's step of the twelve small weights, which the call takes packed into one array: packing each of the
   arrays that reference.py's lines leave gives what the call leaves of the packed arrays. -/
module

public import proofs.«01_k».proof.Defs
public import proofs.«01_k».proof.Proof.Gen.StepSmallIdeal.Value
public import proofs.«01_k».proof.Proof.Gen.StepSmallRefIdeal.Run
public import proofs.«01_k».proof.Proof.Steps
public import Idealize.ShloMosaic.Lib.Pointwise
public import Idealize.ShloMosaic.Lib.StableHlo.RunRead

@[expose] public section

set_option maxHeartbeats 2000000

noncomputable section

namespace Cert.StepSmallIdeal.Value

open Cert.Steps Cert.StepSmallIdeal Cert.StepSmallIdeal.Gen Idealize.ShloMosaic Idealize.ShloMosaic.TcCoe Idealize.SL.Sem

section

variable {F : FTy → Type} [FloatOps F]

/-- Twelve arrays packed into rows of 128, with zeros behind. -/
def packed (a0 : S1x12288.Idx → Elt F .f32) (a1 : S1x2048.Idx → Elt F .f32) (a2 : S1x4x768.Idx → Elt F .f32) (a3 : S1x8.Idx → Elt F .f32) (a4 : S1x8.Idx → Elt F .f32) (a5 : S1x128.Idx → Elt F .f32) (a6 : S1x31x256.Idx → Elt F .f32) (a7 : S1x1024.Idx → Elt F .f32) (a8 : S1x1024.Idx → Elt F .f32) (a9 : S1x2048.Idx → Elt F .f32) (a10 : S1x3x1408.Idx → Elt F .f32) (a11 : S2048.Idx → Elt F .f32) : S288x128.Idx → Elt F .f32 :=
  shapeCast _ (pad S36864 ![0] ![1008] ![0] (concatenate S35856 0 [⟨S12288, (shapeCast _ a0 shapeCasts_S1x12288_S12288 : (⟨S12288, .f32⟩ : BufTy).Contents (Elt F))⟩, ⟨S2048, (shapeCast _ a1 shapeCasts_S1x2048_S2048 : (⟨S2048, .f32⟩ : BufTy).Contents (Elt F))⟩, ⟨S3072, (shapeCast _ a2 shapeCasts_S1x4x768_S3072 : (⟨S3072, .f32⟩ : BufTy).Contents (Elt F))⟩, ⟨S8, (shapeCast _ a3 shapeCasts_S1x8_S8 : (⟨S8, .f32⟩ : BufTy).Contents (Elt F))⟩, ⟨S8, (shapeCast _ a4 shapeCasts_S1x8_S8 : (⟨S8, .f32⟩ : BufTy).Contents (Elt F))⟩, ⟨S128, (shapeCast _ a5 shapeCasts_S1x128_S128 : (⟨S128, .f32⟩ : BufTy).Contents (Elt F))⟩, ⟨S7936, (shapeCast _ a6 shapeCasts_S1x31x256_S7936 : (⟨S7936, .f32⟩ : BufTy).Contents (Elt F))⟩, ⟨S1024, (shapeCast _ a7 shapeCasts_S1x1024_S1024 : (⟨S1024, .f32⟩ : BufTy).Contents (Elt F))⟩, ⟨S1024, (shapeCast _ a8 shapeCasts_S1x1024_S1024 : (⟨S1024, .f32⟩ : BufTy).Contents (Elt F))⟩, ⟨S2048, (shapeCast _ a9 shapeCasts_S1x2048_S2048 : (⟨S2048, .f32⟩ : BufTy).Contents (Elt F))⟩, ⟨S4224, (shapeCast _ a10 shapeCasts_S1x3x1408_S4224 : (⟨S4224, .f32⟩ : BufTy).Contents (Elt F))⟩, ⟨S2048, (a11 : (⟨S2048, .f32⟩ : BufTy).Contents (Elt F))⟩]
    concatenates_S12288_S2048_S3072_S8_S8_S128_S7936_S1024_S1024_S2048_S4224_S2048_S35856_d0 : (⟨S35856, .f32⟩ : BufTy).Contents (Elt F))
    (sitofp .f32 (constantI S_ 32 0#32)) pads_S35856_S36864_010080 h_S_) shapeCasts_S36864_S288x128

theorem chunk0 (W : Valuation τ sig (Elt F)) :
    StableHlo.after hostOps0_2 (StableHlo.after hostOps0_1 (StableHlo.after hostOps0 W)) (Proc.devRef .tc main_v13) = packed (W (Proc.devRef .tc main_arg0)) (W (Proc.devRef .tc main_arg4)) (W (Proc.devRef .tc main_arg8)) (W (Proc.devRef .tc main_arg12)) (W (Proc.devRef .tc main_arg16)) (W (Proc.devRef .tc main_arg20)) (W (Proc.devRef .tc main_arg24)) (W (Proc.devRef .tc main_arg28)) (W (Proc.devRef .tc main_arg32)) (W (Proc.devRef .tc main_arg36)) (W (Proc.devRef .tc main_arg40)) (W (Proc.devRef .tc main_arg44)) := by
  simp only [hostOps0_2, hostOps0_1, hostOps0]
  after_results_simp
  rfl

theorem chunk1 (W : Valuation τ sig (Elt F)) :
    StableHlo.after hostOps0_4 (StableHlo.after hostOps0_3 (StableHlo.after hostOps0_2 W)) (Proc.devRef .tc main_v27) = packed (W (Proc.devRef .tc main_arg1)) (W (Proc.devRef .tc main_arg5)) (W (Proc.devRef .tc main_arg9)) (W (Proc.devRef .tc main_arg13)) (W (Proc.devRef .tc main_arg17)) (W (Proc.devRef .tc main_arg21)) (W (Proc.devRef .tc main_arg25)) (W (Proc.devRef .tc main_arg29)) (W (Proc.devRef .tc main_arg33)) (W (Proc.devRef .tc main_arg37)) (W (Proc.devRef .tc main_arg41)) (W (Proc.devRef .tc main_arg45)) := by
  simp only [hostOps0_4, hostOps0_3, hostOps0_2]
  after_results_simp
  rfl

theorem chunk2 (W : Valuation τ sig (Elt F)) :
    StableHlo.after hostOps0_6 (StableHlo.after hostOps0_5 (StableHlo.after hostOps0_4 W)) (Proc.devRef .tc main_v41) = packed (W (Proc.devRef .tc main_arg2)) (W (Proc.devRef .tc main_arg6)) (W (Proc.devRef .tc main_arg10)) (W (Proc.devRef .tc main_arg14)) (W (Proc.devRef .tc main_arg18)) (W (Proc.devRef .tc main_arg22)) (W (Proc.devRef .tc main_arg26)) (W (Proc.devRef .tc main_arg30)) (W (Proc.devRef .tc main_arg34)) (W (Proc.devRef .tc main_arg38)) (W (Proc.devRef .tc main_arg42)) (W (Proc.devRef .tc main_arg46)) := by
  simp only [hostOps0_6, hostOps0_5, hostOps0_4]
  after_results_simp
  rfl

theorem chunk3 (W : Valuation τ sig (Elt F)) :
    StableHlo.after hostOps0_8 (StableHlo.after hostOps0_7 (StableHlo.after hostOps0_6 W)) (Proc.devRef .tc main_v55) = packed (W (Proc.devRef .tc main_arg3)) (W (Proc.devRef .tc main_arg7)) (W (Proc.devRef .tc main_arg11)) (W (Proc.devRef .tc main_arg15)) (W (Proc.devRef .tc main_arg19)) (W (Proc.devRef .tc main_arg23)) (W (Proc.devRef .tc main_arg27)) (W (Proc.devRef .tc main_arg31)) (W (Proc.devRef .tc main_arg35)) (W (Proc.devRef .tc main_arg39)) (W (Proc.devRef .tc main_arg43)) (W (Proc.devRef .tc main_arg47)) := by
  simp only [hostOps0_8, hostOps0_7, hostOps0_6]
  after_results_simp
  rfl

theorem pass0 (W : Valuation τ sig (Elt F)) (r : Ref sig .tc) (hr : r ∉ [main_v0, main_v1, main_v2, main_v3, main_v4, main_v5, main_v6, main_v7, main_v8, main_v9, main_v10, main_v11, main_c]) :
    StableHlo.after hostOps0 W (Proc.devRef .tc r) = W (Proc.devRef .tc r) :=
  StableHlo.after_unwritten [main_v0, main_v1, main_v2, main_v3, main_v4, main_v5, main_v6, main_v7, main_v8, main_v9, main_v10, main_v11, main_c] rfl hr W

theorem pass1 (W : Valuation τ sig (Elt F)) (r : Ref sig .tc) (hr : r ∉ [main_call0_v0, main_v12]) :
    StableHlo.after hostOps0_1 W (Proc.devRef .tc r) = W (Proc.devRef .tc r) :=
  StableHlo.after_unwritten [main_call0_v0, main_v12] rfl hr W

theorem pass2 (W : Valuation τ sig (Elt F)) (r : Ref sig .tc) (hr : r ∉ [main_v13, main_v14, main_v15, main_v16, main_v17, main_v18, main_v19, main_v20, main_v21, main_v22, main_v23, main_v24, main_v25, main_c_0]) :
    StableHlo.after hostOps0_2 W (Proc.devRef .tc r) = W (Proc.devRef .tc r) :=
  StableHlo.after_unwritten [main_v13, main_v14, main_v15, main_v16, main_v17, main_v18, main_v19, main_v20, main_v21, main_v22, main_v23, main_v24, main_v25, main_c_0] rfl hr W

theorem pass3 (W : Valuation τ sig (Elt F)) (r : Ref sig .tc) (hr : r ∉ [main_call1_v0, main_v26]) :
    StableHlo.after hostOps0_3 W (Proc.devRef .tc r) = W (Proc.devRef .tc r) :=
  StableHlo.after_unwritten [main_call1_v0, main_v26] rfl hr W

theorem pass4 (W : Valuation τ sig (Elt F)) (r : Ref sig .tc) (hr : r ∉ [main_v27, main_v28, main_v29, main_v30, main_v31, main_v32, main_v33, main_v34, main_v35, main_v36, main_v37, main_v38, main_v39, main_c_1]) :
    StableHlo.after hostOps0_4 W (Proc.devRef .tc r) = W (Proc.devRef .tc r) :=
  StableHlo.after_unwritten [main_v27, main_v28, main_v29, main_v30, main_v31, main_v32, main_v33, main_v34, main_v35, main_v36, main_v37, main_v38, main_v39, main_c_1] rfl hr W

theorem pass5 (W : Valuation τ sig (Elt F)) (r : Ref sig .tc) (hr : r ∉ [main_call2_v0, main_v40]) :
    StableHlo.after hostOps0_5 W (Proc.devRef .tc r) = W (Proc.devRef .tc r) :=
  StableHlo.after_unwritten [main_call2_v0, main_v40] rfl hr W

theorem pass6 (W : Valuation τ sig (Elt F)) (r : Ref sig .tc) (hr : r ∉ [main_v41, main_v42, main_v43, main_v44, main_v45, main_v46, main_v47, main_v48, main_v49, main_v50, main_v51, main_v52, main_v53, main_c_2]) :
    StableHlo.after hostOps0_6 W (Proc.devRef .tc r) = W (Proc.devRef .tc r) :=
  StableHlo.after_unwritten [main_v41, main_v42, main_v43, main_v44, main_v45, main_v46, main_v47, main_v48, main_v49, main_v50, main_v51, main_v52, main_v53, main_c_2] rfl hr W

theorem pass7 (W : Valuation τ sig (Elt F)) (r : Ref sig .tc) (hr : r ∉ [main_call3_v0, main_v54]) :
    StableHlo.after hostOps0_7 W (Proc.devRef .tc r) = W (Proc.devRef .tc r) :=
  StableHlo.after_unwritten [main_call3_v0, main_v54] rfl hr W

theorem pass8 (W : Valuation τ sig (Elt F)) (r : Ref sig .tc) (hr : r ∉ [main_v55]) :
    StableHlo.after hostOps0_8 W (Proc.devRef .tc r) = W (Proc.devRef .tc r) :=
  StableHlo.after_unwritten [main_v55] rfl hr W

theorem entry0 (m : (ℓ : Loc nD τ sig) → Buf (Elt F) ℓ) (c : Dev nD) : V m c main_v13 = packed (m (c.tc.loc main_arg0)) (m (c.tc.loc main_arg4)) (m (c.tc.loc main_arg8)) (m (c.tc.loc main_arg12)) (m (c.tc.loc main_arg16)) (m (c.tc.loc main_arg20)) (m (c.tc.loc main_arg24)) (m (c.tc.loc main_arg28)) (m (c.tc.loc main_arg32)) (m (c.tc.loc main_arg36)) (m (c.tc.loc main_arg40)) (m (c.tc.loc main_arg44)) := by
  show StableHlo.after (List.flatten [hostOps0, hostOps0_1, hostOps0_2, hostOps0_3, hostOps0_4, hostOps0_5, hostOps0_6, hostOps0_7, hostOps0_8]) (fun b => m (c, b)) (Proc.devRef .tc main_v13) = _
  simp only [List.flatten_cons, List.flatten_nil, List.append_nil, StableHlo.after_append]
  rw [pass8 _ main_v13 (by decide), pass7 _ main_v13 (by decide), pass6 _ main_v13 (by decide), pass5 _ main_v13 (by decide), pass4 _ main_v13 (by decide), pass3 _ main_v13 (by decide), chunk0]

theorem before1 (W : Valuation τ sig (Elt F)) (r : Ref sig .tc) (hr : r ∉ [main_v0, main_v1, main_v2, main_v3, main_v4, main_v5, main_v6, main_v7, main_v8, main_v9, main_v10, main_v11, main_c, main_call0_v0, main_v12]) :
    StableHlo.after hostOps0_1 (StableHlo.after hostOps0 W) (Proc.devRef .tc r) = W (Proc.devRef .tc r) := by
  rw [pass1 _ r fun h => hr (by simp only [List.mem_cons, List.not_mem_nil, or_false] at h ⊢; tauto), pass0 _ r fun h => hr (by simp only [List.mem_cons, List.not_mem_nil, or_false] at h ⊢; tauto)]

theorem entry1 (m : (ℓ : Loc nD τ sig) → Buf (Elt F) ℓ) (c : Dev nD) : V m c main_v27 = packed (m (c.tc.loc main_arg1)) (m (c.tc.loc main_arg5)) (m (c.tc.loc main_arg9)) (m (c.tc.loc main_arg13)) (m (c.tc.loc main_arg17)) (m (c.tc.loc main_arg21)) (m (c.tc.loc main_arg25)) (m (c.tc.loc main_arg29)) (m (c.tc.loc main_arg33)) (m (c.tc.loc main_arg37)) (m (c.tc.loc main_arg41)) (m (c.tc.loc main_arg45)) := by
  show StableHlo.after (List.flatten [hostOps0, hostOps0_1, hostOps0_2, hostOps0_3, hostOps0_4, hostOps0_5, hostOps0_6, hostOps0_7, hostOps0_8]) (fun b => m (c, b)) (Proc.devRef .tc main_v27) = _
  simp only [List.flatten_cons, List.flatten_nil, List.append_nil, StableHlo.after_append]
  rw [pass8 _ main_v27 (by decide), pass7 _ main_v27 (by decide), pass6 _ main_v27 (by decide), pass5 _ main_v27 (by decide), chunk1]
  rw [before1 _ main_arg1 (by decide), before1 _ main_arg5 (by decide), before1 _ main_arg9 (by decide), before1 _ main_arg13 (by decide), before1 _ main_arg17 (by decide), before1 _ main_arg21 (by decide), before1 _ main_arg25 (by decide), before1 _ main_arg29 (by decide), before1 _ main_arg33 (by decide), before1 _ main_arg37 (by decide), before1 _ main_arg41 (by decide), before1 _ main_arg45 (by decide)]

theorem before2 (W : Valuation τ sig (Elt F)) (r : Ref sig .tc) (hr : r ∉ [main_v0, main_v1, main_v2, main_v3, main_v4, main_v5, main_v6, main_v7, main_v8, main_v9, main_v10, main_v11, main_c, main_call0_v0, main_v12, main_v13, main_v14, main_v15, main_v16, main_v17, main_v18, main_v19, main_v20, main_v21, main_v22, main_v23, main_v24, main_v25, main_c_0, main_call1_v0, main_v26]) :
    StableHlo.after hostOps0_3 (StableHlo.after hostOps0_2 (StableHlo.after hostOps0_1 (StableHlo.after hostOps0 W))) (Proc.devRef .tc r) = W (Proc.devRef .tc r) := by
  rw [pass3 _ r fun h => hr (by simp only [List.mem_cons, List.not_mem_nil, or_false] at h ⊢; tauto), pass2 _ r fun h => hr (by simp only [List.mem_cons, List.not_mem_nil, or_false] at h ⊢; tauto), pass1 _ r fun h => hr (by simp only [List.mem_cons, List.not_mem_nil, or_false] at h ⊢; tauto), pass0 _ r fun h => hr (by simp only [List.mem_cons, List.not_mem_nil, or_false] at h ⊢; tauto)]

theorem entry2 (m : (ℓ : Loc nD τ sig) → Buf (Elt F) ℓ) (c : Dev nD) : V m c main_v41 = packed (m (c.tc.loc main_arg2)) (m (c.tc.loc main_arg6)) (m (c.tc.loc main_arg10)) (m (c.tc.loc main_arg14)) (m (c.tc.loc main_arg18)) (m (c.tc.loc main_arg22)) (m (c.tc.loc main_arg26)) (m (c.tc.loc main_arg30)) (m (c.tc.loc main_arg34)) (m (c.tc.loc main_arg38)) (m (c.tc.loc main_arg42)) (m (c.tc.loc main_arg46)) := by
  show StableHlo.after (List.flatten [hostOps0, hostOps0_1, hostOps0_2, hostOps0_3, hostOps0_4, hostOps0_5, hostOps0_6, hostOps0_7, hostOps0_8]) (fun b => m (c, b)) (Proc.devRef .tc main_v41) = _
  simp only [List.flatten_cons, List.flatten_nil, List.append_nil, StableHlo.after_append]
  rw [pass8 _ main_v41 (by decide), pass7 _ main_v41 (by decide), chunk2]
  rw [before2 _ main_arg2 (by decide), before2 _ main_arg6 (by decide), before2 _ main_arg10 (by decide), before2 _ main_arg14 (by decide), before2 _ main_arg18 (by decide), before2 _ main_arg22 (by decide), before2 _ main_arg26 (by decide), before2 _ main_arg30 (by decide), before2 _ main_arg34 (by decide), before2 _ main_arg38 (by decide), before2 _ main_arg42 (by decide), before2 _ main_arg46 (by decide)]

theorem before3 (W : Valuation τ sig (Elt F)) (r : Ref sig .tc) (hr : r ∉ [main_v0, main_v1, main_v2, main_v3, main_v4, main_v5, main_v6, main_v7, main_v8, main_v9, main_v10, main_v11, main_c, main_call0_v0, main_v12, main_v13, main_v14, main_v15, main_v16, main_v17, main_v18, main_v19, main_v20, main_v21, main_v22, main_v23, main_v24, main_v25, main_c_0, main_call1_v0, main_v26, main_v27, main_v28, main_v29, main_v30, main_v31, main_v32, main_v33, main_v34, main_v35, main_v36, main_v37, main_v38, main_v39, main_c_1, main_call2_v0, main_v40]) :
    StableHlo.after hostOps0_5 (StableHlo.after hostOps0_4 (StableHlo.after hostOps0_3 (StableHlo.after hostOps0_2 (StableHlo.after hostOps0_1 (StableHlo.after hostOps0 W))))) (Proc.devRef .tc r) = W (Proc.devRef .tc r) := by
  rw [pass5 _ r fun h => hr (by simp only [List.mem_cons, List.not_mem_nil, or_false] at h ⊢; tauto), pass4 _ r fun h => hr (by simp only [List.mem_cons, List.not_mem_nil, or_false] at h ⊢; tauto), pass3 _ r fun h => hr (by simp only [List.mem_cons, List.not_mem_nil, or_false] at h ⊢; tauto), pass2 _ r fun h => hr (by simp only [List.mem_cons, List.not_mem_nil, or_false] at h ⊢; tauto), pass1 _ r fun h => hr (by simp only [List.mem_cons, List.not_mem_nil, or_false] at h ⊢; tauto), pass0 _ r fun h => hr (by simp only [List.mem_cons, List.not_mem_nil, or_false] at h ⊢; tauto)]

theorem entry3 (m : (ℓ : Loc nD τ sig) → Buf (Elt F) ℓ) (c : Dev nD) : V m c main_v55 = packed (m (c.tc.loc main_arg3)) (m (c.tc.loc main_arg7)) (m (c.tc.loc main_arg11)) (m (c.tc.loc main_arg15)) (m (c.tc.loc main_arg19)) (m (c.tc.loc main_arg23)) (m (c.tc.loc main_arg27)) (m (c.tc.loc main_arg31)) (m (c.tc.loc main_arg35)) (m (c.tc.loc main_arg39)) (m (c.tc.loc main_arg43)) (m (c.tc.loc main_arg47)) := by
  show StableHlo.after (List.flatten [hostOps0, hostOps0_1, hostOps0_2, hostOps0_3, hostOps0_4, hostOps0_5, hostOps0_6, hostOps0_7, hostOps0_8]) (fun b => m (c, b)) (Proc.devRef .tc main_v55) = _
  simp only [List.flatten_cons, List.flatten_nil, List.append_nil, StableHlo.after_append]
  rw [chunk3]
  rw [before3 _ main_arg3 (by decide), before3 _ main_arg7 (by decide), before3 _ main_arg11 (by decide), before3 _ main_arg15 (by decide), before3 _ main_arg19 (by decide), before3 _ main_arg23 (by decide), before3 _ main_arg27 (by decide), before3 _ main_arg31 (by decide), before3 _ main_arg35 (by decide), before3 _ main_arg39 (by decide), before3 _ main_arg43 (by decide), before3 _ main_arg47 (by decide)]

end

/-- The number at a place of the packed arrays. -/
def pick (n : ℕ) (a0 : S1x12288.Idx → EReal) (a1 : S1x2048.Idx → EReal) (a2 : S1x4x768.Idx → EReal) (a3 : S1x8.Idx → EReal) (a4 : S1x8.Idx → EReal) (a5 : S1x128.Idx → EReal) (a6 : S1x31x256.Idx → EReal) (a7 : S1x1024.Idx → EReal) (a8 : S1x1024.Idx → EReal) (a9 : S1x2048.Idx → EReal) (a10 : S1x3x1408.Idx → EReal) (a11 : S2048.Idx → EReal) : EReal :=
  if h : n < 35856 then
    if h0 : n < 12288 then a0 (ix2 0 ⟨n, h0⟩) else
    if h1 : n - 12288 < 2048 then a1 (ix2 0 ⟨n - 12288, h1⟩) else
    if h2 : n - 12288 - 2048 < 3072 then a2 (ix3 0 ⟨(n - 12288 - 2048) / 768, by omega⟩ ⟨(n - 12288 - 2048) % 768, by omega⟩) else
    if h3 : n - 12288 - 2048 - 3072 < 8 then a3 (ix2 0 ⟨n - 12288 - 2048 - 3072, h3⟩) else
    if h4 : n - 12288 - 2048 - 3072 - 8 < 8 then a4 (ix2 0 ⟨n - 12288 - 2048 - 3072 - 8, h4⟩) else
    if h5 : n - 12288 - 2048 - 3072 - 8 - 8 < 128 then a5 (ix2 0 ⟨n - 12288 - 2048 - 3072 - 8 - 8, h5⟩) else
    if h6 : n - 12288 - 2048 - 3072 - 8 - 8 - 128 < 7936 then a6 (ix3 0 ⟨(n - 12288 - 2048 - 3072 - 8 - 8 - 128) / 256, by omega⟩ ⟨(n - 12288 - 2048 - 3072 - 8 - 8 - 128) % 256, by omega⟩) else
    if h7 : n - 12288 - 2048 - 3072 - 8 - 8 - 128 - 7936 < 1024 then a7 (ix2 0 ⟨n - 12288 - 2048 - 3072 - 8 - 8 - 128 - 7936, h7⟩) else
    if h8 : n - 12288 - 2048 - 3072 - 8 - 8 - 128 - 7936 - 1024 < 1024 then a8 (ix2 0 ⟨n - 12288 - 2048 - 3072 - 8 - 8 - 128 - 7936 - 1024, h8⟩) else
    if h9 : n - 12288 - 2048 - 3072 - 8 - 8 - 128 - 7936 - 1024 - 1024 < 2048 then a9 (ix2 0 ⟨n - 12288 - 2048 - 3072 - 8 - 8 - 128 - 7936 - 1024 - 1024, h9⟩) else
    if h10 : n - 12288 - 2048 - 3072 - 8 - 8 - 128 - 7936 - 1024 - 1024 - 2048 < 4224 then a10 (ix3 0 ⟨(n - 12288 - 2048 - 3072 - 8 - 8 - 128 - 7936 - 1024 - 1024 - 2048) / 1408, by omega⟩ ⟨(n - 12288 - 2048 - 3072 - 8 - 8 - 128 - 7936 - 1024 - 1024 - 2048) % 1408, by omega⟩) else
    a11 (ix1 ⟨n - 12288 - 2048 - 3072 - 8 - 8 - 128 - 7936 - 1024 - 1024 - 2048 - 4224, by omega⟩)
  else 0

set_option maxHeartbeats 2000000 in
theorem packed_apply (a0 : S1x12288.Idx → EReal) (a1 : S1x2048.Idx → EReal) (a2 : S1x4x768.Idx → EReal) (a3 : S1x8.Idx → EReal) (a4 : S1x8.Idx → EReal) (a5 : S1x128.Idx → EReal) (a6 : S1x31x256.Idx → EReal) (a7 : S1x1024.Idx → EReal) (a8 : S1x1024.Idx → EReal) (a9 : S1x2048.Idx → EReal) (a10 : S1x3x1408.Idx → EReal) (a11 : S2048.Idx → EReal) (i : S288x128.Idx) : packed (F := Ideal) a0 a1 a2 a3 a4 a5 a6 a7 a8 a9 a10 a11 i = pick ((i 0).val * 128 + (i 1).val) a0 a1 a2 a3 a4 a5 a6 a7 a8 a9 a10 a11 := by
  unfold packed
  pointwise
  rw [show (FloatOps.sitofp (F := Ideal) FTy.f32 (0#32) : EReal) = 0 from by show (((0#32 : BitVec 32).toInt : ℝ) : EReal) = 0; simp]
  rfl

/-- A function of four numbers that keeps zero, taken element by element, goes through the packing. -/
theorem packed_map (f : EReal → EReal → EReal → EReal → EReal) (h : f 0 0 0 0 = 0) (w0 : S1x12288.Idx → EReal) (w1 : S1x2048.Idx → EReal) (w2 : S1x4x768.Idx → EReal) (w3 : S1x8.Idx → EReal) (w4 : S1x8.Idx → EReal) (w5 : S1x128.Idx → EReal) (w6 : S1x31x256.Idx → EReal) (w7 : S1x1024.Idx → EReal) (w8 : S1x1024.Idx → EReal) (w9 : S1x2048.Idx → EReal) (w10 : S1x3x1408.Idx → EReal) (w11 : S2048.Idx → EReal) (g0 : S1x12288.Idx → EReal) (g1 : S1x2048.Idx → EReal) (g2 : S1x4x768.Idx → EReal) (g3 : S1x8.Idx → EReal) (g4 : S1x8.Idx → EReal) (g5 : S1x128.Idx → EReal) (g6 : S1x31x256.Idx → EReal) (g7 : S1x1024.Idx → EReal) (g8 : S1x1024.Idx → EReal) (g9 : S1x2048.Idx → EReal) (g10 : S1x3x1408.Idx → EReal) (g11 : S2048.Idx → EReal) (m0 : S1x12288.Idx → EReal) (m1 : S1x2048.Idx → EReal) (m2 : S1x4x768.Idx → EReal) (m3 : S1x8.Idx → EReal) (m4 : S1x8.Idx → EReal) (m5 : S1x128.Idx → EReal) (m6 : S1x31x256.Idx → EReal) (m7 : S1x1024.Idx → EReal) (m8 : S1x1024.Idx → EReal) (m9 : S1x2048.Idx → EReal) (m10 : S1x3x1408.Idx → EReal) (m11 : S2048.Idx → EReal) (v0 : S1x12288.Idx → EReal) (v1 : S1x2048.Idx → EReal) (v2 : S1x4x768.Idx → EReal) (v3 : S1x8.Idx → EReal) (v4 : S1x8.Idx → EReal) (v5 : S1x128.Idx → EReal) (v6 : S1x31x256.Idx → EReal) (v7 : S1x1024.Idx → EReal) (v8 : S1x1024.Idx → EReal) (v9 : S1x2048.Idx → EReal) (v10 : S1x3x1408.Idx → EReal) (v11 : S2048.Idx → EReal) (i : S288x128.Idx) :
    f (packed (F := Ideal) w0 w1 w2 w3 w4 w5 w6 w7 w8 w9 w10 w11 i) (packed (F := Ideal) g0 g1 g2 g3 g4 g5 g6 g7 g8 g9 g10 g11 i) (packed (F := Ideal) m0 m1 m2 m3 m4 m5 m6 m7 m8 m9 m10 m11 i) (packed (F := Ideal) v0 v1 v2 v3 v4 v5 v6 v7 v8 v9 v10 v11 i)
      = packed (F := Ideal) (fun i => f (w0 i) (g0 i) (m0 i) (v0 i)) (fun i => f (w1 i) (g1 i) (m1 i) (v1 i)) (fun i => f (w2 i) (g2 i) (m2 i) (v2 i)) (fun i => f (w3 i) (g3 i) (m3 i) (v3 i)) (fun i => f (w4 i) (g4 i) (m4 i) (v4 i)) (fun i => f (w5 i) (g5 i) (m5 i) (v5 i)) (fun i => f (w6 i) (g6 i) (m6 i) (v6 i)) (fun i => f (w7 i) (g7 i) (m7 i) (v7 i)) (fun i => f (w8 i) (g8 i) (m8 i) (v8 i)) (fun i => f (w9 i) (g9 i) (m9 i) (v9 i)) (fun i => f (w10 i) (g10 i) (m10 i) (v10 i)) (fun i => f (w11 i) (g11 i) (m11 i) (v11 i)) i := by
  rw [packed_apply, packed_apply, packed_apply, packed_apply, packed_apply]
  generalize (i 0).val * 128 + (i 1).val = n
  unfold pick
  by_cases hn : n < 35856
  swap
  · simp only [dif_neg hn]; exact h
  simp only [dif_pos hn]
  by_cases h0 : n < 12288
  · simp only [dif_pos h0]
  simp only [dif_neg h0]
  by_cases h1 : n - 12288 < 2048
  · simp only [dif_pos h1]
  simp only [dif_neg h1]
  by_cases h2 : n - 12288 - 2048 < 3072
  · simp only [dif_pos h2]
  simp only [dif_neg h2]
  by_cases h3 : n - 12288 - 2048 - 3072 < 8
  · simp only [dif_pos h3]
  simp only [dif_neg h3]
  by_cases h4 : n - 12288 - 2048 - 3072 - 8 < 8
  · simp only [dif_pos h4]
  simp only [dif_neg h4]
  by_cases h5 : n - 12288 - 2048 - 3072 - 8 - 8 < 128
  · simp only [dif_pos h5]
  simp only [dif_neg h5]
  by_cases h6 : n - 12288 - 2048 - 3072 - 8 - 8 - 128 < 7936
  · simp only [dif_pos h6]
  simp only [dif_neg h6]
  by_cases h7 : n - 12288 - 2048 - 3072 - 8 - 8 - 128 - 7936 < 1024
  · simp only [dif_pos h7]
  simp only [dif_neg h7]
  by_cases h8 : n - 12288 - 2048 - 3072 - 8 - 8 - 128 - 7936 - 1024 < 1024
  · simp only [dif_pos h8]
  simp only [dif_neg h8]
  by_cases h9 : n - 12288 - 2048 - 3072 - 8 - 8 - 128 - 7936 - 1024 - 1024 < 2048
  · simp only [dif_pos h9]
  simp only [dif_neg h9]
  by_cases h10 : n - 12288 - 2048 - 3072 - 8 - 8 - 128 - 7936 - 1024 - 1024 - 2048 < 4224
  · simp only [dif_pos h10]
  simp only [dif_neg h10]

variable (m : (ℓ : Loc nD τ sig) → Buf (Elt Ideal) ℓ)

theorem hz : (![0, 0] : Fin 2 → Nat) = fun _ => 0 := funext fun a => by fin_cases a <;> rfl

/-- The only point's blocks are the whole arrays. -/
theorem whole : ∀ t : Fin cfg0.N, (∀ a, win0_0.index t a = 0) ∧ (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0) :=
  (by decide +kernel : ∀ t : Fin grid0.N, _)

theorem block0 (c : Dev nD) (t : Fin cfg0.N) : iblk m c 0 t = V m c main_v13 := by
  funext y
  unfold iblk
  rw [View.read_apply]
  show V m c main_v13 _ = V m c main_v13 _
  refine congrArg _ (funext fun a => Fin.ext ?_)
  show win0_0.index t a * _ + 1 * (y a).val = (y a).val
  rw [(whole t).1 a] <;> omega

theorem block1 (c : Dev nD) (t : Fin cfg0.N) : iblk m c 1 t = V m c main_v27 := by
  funext y
  unfold iblk
  rw [View.read_apply]
  show V m c main_v27 _ = V m c main_v27 _
  refine congrArg _ (funext fun a => Fin.ext ?_)
  show win0_1.index t a * _ + 1 * (y a).val = (y a).val
  rw [(whole t).2.1 a] <;> omega

theorem block2 (c : Dev nD) (t : Fin cfg0.N) : iblk m c 2 t = V m c main_v41 := by
  funext y
  unfold iblk
  rw [View.read_apply]
  show V m c main_v41 _ = V m c main_v41 _
  refine congrArg _ (funext fun a => Fin.ext ?_)
  show win0_2.index t a * _ + 1 * (y a).val = (y a).val
  rw [(whole t).2.2.1 a] <;> omega

theorem block3 (c : Dev nD) (t : Fin cfg0.N) : iblk m c 3 t = V m c main_v55 := by
  funext y
  unfold iblk
  rw [View.read_apply]
  show V m c main_v55 _ = V m c main_v55 _
  refine congrArg _ (funext fun a => Fin.ext ?_)
  show win0_3.index t a * _ + 1 * (y a).val = (y a).val
  rw [(whole t).2.2.2.1 a] <;> omega

theorem covered4 (i : S288x128.Idx) : ∃ t : Fin cfg0.N, (cfg0.win 4).flush t = true ∧ i ∈ ((cfg0.win 4).blk t).view.set := by
  have h0 : (i 0).val < 288 := (i 0).isLt
  have h1 : (i 1).val < 128 := (i 1).isLt
  have hN : 0 < grid0.N := by decide
  let t : Fin grid0.N := ⟨0, hN⟩
  refine ⟨t, (by decide +kernel : ∀ t : Fin grid0.N, win0_4.flush t = true) t, ?_⟩
  show i ∈ ((View.whole main_v56_0).slice (win0_4.rect t)).set
  rw [View.set_slice_whole, Rect.mem_set_unit]
  intro a
  match a with
  | ⟨0, _⟩ => show win0_4.index _ 0 * 288 ≤ (i 0).val ∧ (i 0).val < win0_4.index _ 0 * 288 + 288; rw [(whole _).2.2.2.2.1 0]; simp only [] <;> omega
  | ⟨1, _⟩ => show win0_4.index _ 1 * 128 ≤ (i 1).val ∧ (i 1).val < win0_4.index _ 1 * 128 + 128; rw [(whole _).2.2.2.2.1 1]; simp only [] <;> omega

/-- What the call leaves, by the packed arrays that it takes. -/
theorem final4 (c : Dev nD) : (dats m 0 c).arrAt 4 cfg0.N
    = fun i => stepD (F := Ideal) (V m c main_v13 i) (V m c main_v27 i) (V m c main_v41 i) (V m c main_v55 i) := by
  refine (dats m 0 c).arrAt_eq_of_cover 4 _ (fun t _ => ?_) (fun i => ?_)
  · rw [flushed4, block0, block1, block2, block3]
    funext y
    rw [View.read_apply]
    show out0_4 (V m c main_v13) (V m c main_v27) (V m c main_v41) (V m c main_v55) y = _
    unfold out0_4
    rw [View.canon_unit_zero hz]
    simp only [View.ld_unit_zero (S := S288x128) hz]
    have hy : (((cfg0.win 4).blk t).view.emb y : S288x128.Idx) = y := by
      refine funext fun a => Fin.ext ?_
      show win0_4.index t a * _ + 1 * (y a).val = (y a).val
      rw [(whole t).2.2.2.2.1 a] <;> omega
    rw [hy]
    unfold k0_pay4 k0_pay3 k0_pay2 k0_pay1
    pointwise
    rfl
  · exact covered4 i

theorem covered5 (i : S288x128.Idx) : ∃ t : Fin cfg0.N, (cfg0.win 5).flush t = true ∧ i ∈ ((cfg0.win 5).blk t).view.set := by
  have h0 : (i 0).val < 288 := (i 0).isLt
  have h1 : (i 1).val < 128 := (i 1).isLt
  have hN : 0 < grid0.N := by decide
  let t : Fin grid0.N := ⟨0, hN⟩
  refine ⟨t, (by decide +kernel : ∀ t : Fin grid0.N, win0_5.flush t = true) t, ?_⟩
  show i ∈ ((View.whole main_v56_1).slice (win0_5.rect t)).set
  rw [View.set_slice_whole, Rect.mem_set_unit]
  intro a
  match a with
  | ⟨0, _⟩ => show win0_5.index _ 0 * 288 ≤ (i 0).val ∧ (i 0).val < win0_5.index _ 0 * 288 + 288; rw [(whole _).2.2.2.2.2.1 0]; simp only [] <;> omega
  | ⟨1, _⟩ => show win0_5.index _ 1 * 128 ≤ (i 1).val ∧ (i 1).val < win0_5.index _ 1 * 128 + 128; rw [(whole _).2.2.2.2.2.1 1]; simp only [] <;> omega

/-- What the call leaves, by the packed arrays that it takes. -/
theorem final5 (c : Dev nD) : (dats m 0 c).arrAt 5 cfg0.N
    = fun i => stepM (F := Ideal) (V m c main_v13 i) (V m c main_v27 i) (V m c main_v41 i) (V m c main_v55 i) := by
  refine (dats m 0 c).arrAt_eq_of_cover 5 _ (fun t _ => ?_) (fun i => ?_)
  · rw [flushed5, block0, block1, block2, block3]
    funext y
    rw [View.read_apply]
    show out0_5 (V m c main_v13) (V m c main_v27) (V m c main_v41) (V m c main_v55) y = _
    unfold out0_5
    rw [View.canon_unit_zero hz]
    simp only [View.ld_unit_zero (S := S288x128) hz]
    have hy : (((cfg0.win 5).blk t).view.emb y : S288x128.Idx) = y := by
      refine funext fun a => Fin.ext ?_
      show win0_5.index t a * _ + 1 * (y a).val = (y a).val
      rw [(whole t).2.2.2.2.2.1 a] <;> omega
    rw [hy]
    unfold k0_pay2 k0_pay1
    pointwise
    rfl
  · exact covered5 i

theorem covered6 (i : S288x128.Idx) : ∃ t : Fin cfg0.N, (cfg0.win 6).flush t = true ∧ i ∈ ((cfg0.win 6).blk t).view.set := by
  have h0 : (i 0).val < 288 := (i 0).isLt
  have h1 : (i 1).val < 128 := (i 1).isLt
  have hN : 0 < grid0.N := by decide
  let t : Fin grid0.N := ⟨0, hN⟩
  refine ⟨t, (by decide +kernel : ∀ t : Fin grid0.N, win0_6.flush t = true) t, ?_⟩
  show i ∈ ((View.whole main_v56_2).slice (win0_6.rect t)).set
  rw [View.set_slice_whole, Rect.mem_set_unit]
  intro a
  match a with
  | ⟨0, _⟩ => show win0_6.index _ 0 * 288 ≤ (i 0).val ∧ (i 0).val < win0_6.index _ 0 * 288 + 288; rw [(whole _).2.2.2.2.2.2 0]; simp only [] <;> omega
  | ⟨1, _⟩ => show win0_6.index _ 1 * 128 ≤ (i 1).val ∧ (i 1).val < win0_6.index _ 1 * 128 + 128; rw [(whole _).2.2.2.2.2.2 1]; simp only [] <;> omega

/-- What the call leaves, by the packed arrays that it takes. -/
theorem final6 (c : Dev nD) : (dats m 0 c).arrAt 6 cfg0.N
    = fun i => stepV (F := Ideal) (V m c main_v13 i) (V m c main_v27 i) (V m c main_v41 i) (V m c main_v55 i) := by
  refine (dats m 0 c).arrAt_eq_of_cover 6 _ (fun t _ => ?_) (fun i => ?_)
  · rw [flushed6, block0, block1, block2, block3]
    funext y
    rw [View.read_apply]
    show out0_6 (V m c main_v13) (V m c main_v27) (V m c main_v41) (V m c main_v55) y = _
    unfold out0_6
    rw [View.canon_unit_zero hz]
    simp only [View.ld_unit_zero (S := S288x128) hz]
    have hy : (((cfg0.win 6).blk t).view.emb y : S288x128.Idx) = y := by
      refine funext fun a => Fin.ext ?_
      show win0_6.index t a * _ + 1 * (y a).val = (y a).val
      rw [(whole t).2.2.2.2.2.2 a] <;> omega
    rw [hy]
    unfold k0_pay3 k0_pay1
    pointwise
    rfl
  · exact covered6 i

/-- The call and its reference leave the same results. -/
theorem algebraic : Cert.algebraic_StepSmallIdeal_StepSmallRefIdeal (hStepSmallIdeal := Cert.StepSmallIdeal.Gen.facts)
    (hStepSmallRefIdeal := Cert.StepSmallRefIdeal.Gen.facts) := by
  intro m g m' g' _ hargs
  refine ⟨_, _, _, run_blocks m g, ?_⟩
  refine (θ_run (Cert.StepSmallRefIdeal.defs (F := Ideal)) _ _).mono (fun r h c => ?_) (Cert.StepSmallRefIdeal.Value.run (F := Ideal) m' g')
  obtain ⟨h4, h5, h6, k⟩ := h c
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47⟩ := hargs c
  refine ⟨h4.trans ?_, h5.trans ?_, h6.trans ?_, k⟩
  · rw [final4, entry0, entry1, entry2, entry3]
    simp only [packed_map _ stepD_zero]
    rw [← a0, ← a1, ← a2, ← a3, ← a4, ← a5, ← a6, ← a7, ← a8, ← a9, ← a10, ← a11, ← a12, ← a13, ← a14, ← a15, ← a16, ← a17, ← a18, ← a19, ← a20, ← a21, ← a22, ← a23, ← a24, ← a25, ← a26, ← a27, ← a28, ← a29, ← a30, ← a31, ← a32, ← a33, ← a34, ← a35, ← a36, ← a37, ← a38, ← a39, ← a40, ← a41, ← a42, ← a43, ← a44, ← a45, ← a46, ← a47]
    rfl
  · rw [final5, entry0, entry1, entry2, entry3]
    simp only [packed_map _ stepM_zero]
    rw [← a0, ← a1, ← a2, ← a3, ← a4, ← a5, ← a6, ← a7, ← a8, ← a9, ← a10, ← a11, ← a12, ← a13, ← a14, ← a15, ← a16, ← a17, ← a18, ← a19, ← a20, ← a21, ← a22, ← a23, ← a24, ← a25, ← a26, ← a27, ← a28, ← a29, ← a30, ← a31, ← a32, ← a33, ← a34, ← a35, ← a36, ← a37, ← a38, ← a39, ← a40, ← a41, ← a42, ← a43, ← a44, ← a45, ← a46, ← a47]
    rfl
  · rw [final6, entry0, entry1, entry2, entry3]
    simp only [packed_map _ stepV_zero]
    rw [← a0, ← a1, ← a2, ← a3, ← a4, ← a5, ← a6, ← a7, ← a8, ← a9, ← a10, ← a11, ← a12, ← a13, ← a14, ← a15, ← a16, ← a17, ← a18, ← a19, ← a20, ← a21, ← a22, ← a23, ← a24, ← a25, ← a26, ← a27, ← a28, ← a29, ← a30, ← a31, ← a32, ← a33, ← a34, ← a35, ← a36, ← a37, ← a38, ← a39, ← a40, ← a41, ← a42, ← a43, ← a44, ← a45, ← a46, ← a47]
    rfl

end Cert.StepSmallIdeal.Value
-- ==== Proof.Rows.lean ====
/- What the gradients of the norms share: the gradient of one row. -/
module

public import proofs.«01_k».proof.Proof.Blocks
public import proofs.«01_k».proof.Proof.Half

@[expose] public section

noncomputable section

namespace Cert.Rows

open Idealize.ShloMosaic

/-- The mean of the squares of a row, and the small constant. -/
def meanSq {n : ℕ} (count : EReal) (x : Fin n → EReal) : EReal := Ideal.div (∑ k, x k * x k) count + Ideal.ofBits .f32 0x358637BD#32

/-- The gradient of a row divided by the root of its mean square: `d` is the gradient of the quotient. -/
def quotGrad {n : ℕ} (count : EReal) (x d : Fin n → EReal) (j : Fin n) : EReal :=
  d j * Ideal.rsqrt (meanSq count x)
    + x j * ∑ _ : Fin 1, Ideal.div ((∑ k, x k * d k) * (Ideal.ofBits .f32 0xBF000000#32 * Ideal.div (Ideal.rsqrt (meanSq count x)) (meanSq count x))) count
    + (∑ _ : Fin 1, Ideal.div ((∑ k, x k * d k) * (Ideal.ofBits .f32 0xBF000000#32 * Ideal.div (Ideal.rsqrt (meanSq count x)) (meanSq count x))) count) * x j

/-- The same with another gradient added first. -/
def addQuotGrad {n : ℕ} (count : EReal) (x d r : Fin n → EReal) (j : Fin n) : EReal :=
  r j + d j * Ideal.rsqrt (meanSq count x)
    + x j * ∑ _ : Fin 1, Ideal.div ((∑ k, x k * d k) * (Ideal.ofBits .f32 0xBF000000#32 * Ideal.div (Ideal.rsqrt (meanSq count x)) (meanSq count x))) count
    + (∑ _ : Fin 1, Ideal.div ((∑ k, x k * d k) * (Ideal.ofBits .f32 0xBF000000#32 * Ideal.div (Ideal.rsqrt (meanSq count x)) (meanSq count x))) count) * x j

/-- The first of these, spelled out. -/
theorem meanSq_eq {n : ℕ} (count : EReal) (x : Fin n → EReal) :
    meanSq count x = Ideal.div (∑ k, x k * x k) count + Ideal.ofBits .f32 0x358637BD#32 := by
  unfold meanSq
  rfl

/-- The second, spelled out. -/
theorem quotGrad_eq {n : ℕ} (count : EReal) (x d : Fin n → EReal) (j : Fin n) :
    quotGrad count x d j = d j * Ideal.rsqrt (meanSq count x)
      + x j * ∑ _ : Fin 1, Ideal.div ((∑ k, x k * d k) * (Ideal.ofBits .f32 0xBF000000#32 * Ideal.div (Ideal.rsqrt (meanSq count x)) (meanSq count x))) count
      + (∑ _ : Fin 1, Ideal.div ((∑ k, x k * d k) * (Ideal.ofBits .f32 0xBF000000#32 * Ideal.div (Ideal.rsqrt (meanSq count x)) (meanSq count x))) count) * x j := by
  unfold quotGrad
  rfl

/-- The third, spelled out. -/
theorem addQuotGrad_eq {n : ℕ} (count : EReal) (x d r : Fin n → EReal) (j : Fin n) :
    addQuotGrad count x d r j = r j + d j * Ideal.rsqrt (meanSq count x)
      + x j * ∑ _ : Fin 1, Ideal.div ((∑ k, x k * d k) * (Ideal.ofBits .f32 0xBF000000#32 * Ideal.div (Ideal.rsqrt (meanSq count x)) (meanSq count x))) count
      + (∑ _ : Fin 1, Ideal.div ((∑ k, x k * d k) * (Ideal.ofBits .f32 0xBF000000#32 * Ideal.div (Ideal.rsqrt (meanSq count x)) (meanSq count x))) count) * x j := by
  unfold addQuotGrad
  rfl

/-- The logistic function, spelled out. -/
theorem logistic_eq (x : EReal) : Ideal.logistic x = Ideal.div 1 (1 + Ideal.exp (-x)) := rfl

/-- A finite factor that is not negative goes into a sum of extended reals. -/
theorem mul_sum_of_nonneg {ι : Type} (c : EReal) (h0 : 0 ≤ c) (h1 : c ≠ ⊤) (s : Finset ι) (f : ι → EReal) :
    c * ∑ x ∈ s, f x = ∑ x ∈ s, c * f x := by
  classical
  induction s using Finset.induction_on with
  | empty => simp only [Finset.sum_empty, mul_zero]
  | insert a s ha ih => rw [Finset.sum_insert ha, Finset.sum_insert ha, EReal.left_distrib_of_nonneg_of_ne_top h0 h1, ih]

/-- The factor one half goes into a sum. -/
theorem half_mul_sum {ι : Type} (s : Finset ι) (f : ι → EReal) :
    Ideal.ofBits .f32 0x3F000000#32 * ∑ x ∈ s, f x = ∑ x ∈ s, Ideal.ofBits .f32 0x3F000000#32 * f x := by
  rw [half_value]
  exact mul_sum_of_nonneg _ (EReal.coe_nonneg.mpr (by norm_num)) (EReal.coe_ne_top _) s f

end Cert.Rows
-- ==== Proof.Norm1Bwd.lean ====
/- The gradient of the first norm and its modulation: the gradient of every row, and the sums over the rows for the scale, the factor and the shift. -/
module

public import proofs.«01_k».proof.Defs
public import proofs.«01_k».proof.Proof.Gen.Norm1BwdIdeal.Value
public import proofs.«01_k».proof.Proof.Gen.Norm1BwdRefIdeal.Run
public import proofs.«01_k».proof.Proof.Rows

@[expose] public section

noncomputable section

namespace Cert.Norm1BwdIdeal.Value

open Cert.Norm1BwdIdeal Cert.Norm1BwdIdeal.Gen Idealize.ShloMosaic Idealize.ShloMosaic.TcCoe Idealize.SL.Sem Cert.Blocks Cert.Rows
open Idealize.ShloMosaic.Pipeline (Dat)

/-- The length of a row, as the programs write it. -/
def count : EReal := Ideal.ofBits .f32 0x45000000#32

/-- The gradient of the quotient, in one row. -/
def inner (g s d : Fin 2048 → EReal) (k : Fin 2048) : EReal := d k * (1 + s k) * g k

/-- The gradient of a row of the input. -/
def dx (x g s d r : Fin 2048 → EReal) (j : Fin 2048) : EReal := quotGrad count x (inner g s d) j + r j

/-- What a row adds to the gradient of the scale. -/
def dscale (x s d : Fin 2048 → EReal) (j : Fin 2048) : EReal := x j * Ideal.rsqrt (meanSq count x) * (d j * (1 + s j))

/-- What a row adds to the gradient of the factor. -/
def dfactor (x g d : Fin 2048 → EReal) (j : Fin 2048) : EReal := x j * Ideal.rsqrt (meanSq count x) * g j * d j

/-- What a row adds to the gradient of the shift. -/
def dshift (d : Fin 2048 → EReal) (j : Fin 2048) : EReal := d j

section

variable {F : FTy → Type} [FloatOps F]

/-- What the first point leaves in output 6's block. -/
theorem leftA_6 (c i a0 h0 a1 h1 a2 h2 a3 h3 a4 h4 a5 h5 a6 h6 a7 h7 a8 h8 a9 h9 k0 k1 k2 k3 k4 k5 x0 x1 x2 x3 x4 x5) :
    out0_A_6 (F := F) c i a0 h0 a1 h1 a2 h2 a3 h3 a4 h4 a5 h5 a6 h6 a7 h7 a8 h8 a9 h9 k0 k1 k2 k3 k4 k5 x0 x1 x2 x3 x4 x5 = k0_pay1 x0 x5 (k0_pay7 x0) (k0_pay15 x0 x1 x2 x4) (k0_pay16 x0 x1 x2 x4) := by
  unfold out0_A_6
  rw [View.read_writes_eq_canon _ _ _ (cover0_A_6 c i a0 h0 a1 h1 a2 h2 a3 h3 a4 h4 a5 h5 a6 h6 a7 h7 a8 h8 a9 h9 k0 k1 k2 k3 k4 k5 x0 x1 x2 x3 x4 x5)]
  unfold kernelRun0_A
  dsimp only
  sl_unfold_words
  rw [View.canon_unit_zero (S := S128x2048) hz2]
  simp only [View.readAt_eq_ld, h0.read_unread, h1.read_unread, h2.read_unread, h3.read_unread, h4.read_unread, h5.read_unread, h6.read_unread, h7.read_unread, h8.read_unread, h9.read_unread, View.ld_unit_zero (S := S128x2048) hz2, View.ld_unit_zero (S := S1x2048) hz2]

/-- What a later point leaves in output 6's block. -/
theorem leftB_6 (c i a0 h0 a1 h1 a2 h2 a3 h3 a4 h4 a5 h5 a6 h6 a7 h7 a8 h8 a9 h9 k0 k1 k2 k3 k4 k5 x0 x1 x2 x3 x4 x5 o7 o8 o9) :
    out0_B_6 (F := F) c i a0 h0 a1 h1 a2 h2 a3 h3 a4 h4 a5 h5 a6 h6 a7 h7 a8 h8 a9 h9 k0 k1 k2 k3 k4 k5 x0 x1 x2 x3 x4 x5 o7 o8 o9 = k0_pay1 x0 x5 (k0_pay7 x0) (k0_pay15 x0 x1 x2 x4) (k0_pay16 x0 x1 x2 x4) := by
  unfold out0_B_6
  rw [View.read_writes_eq_canon _ _ _ (cover0_B_6 c i a0 h0 a1 h1 a2 h2 a3 h3 a4 h4 a5 h5 a6 h6 a7 h7 a8 h8 a9 h9 k0 k1 k2 k3 k4 k5 x0 x1 x2 x3 x4 x5 o7 o8 o9)]
  unfold kernelRun0_B
  dsimp only
  sl_unfold_words
  rw [View.canon_unit_zero (S := S128x2048) hz2]
  simp only [View.readAt_eq_ld, h0.read_unread, h1.read_unread, h2.read_unread, h3.read_unread, h4.read_unread, h5.read_unread, h6.read_unread, h7.read_unread, h8.read_unread, h9.read_unread, View.ld_unit_zero (S := S128x2048) hz2, View.ld_unit_zero (S := S1x2048) hz2]

/-- What the first point leaves in output 7's block. -/
theorem leftA_7 (c i a0 h0 a1 h1 a2 h2 a3 h3 a4 h4 a5 h5 a6 h6 a7 h7 a8 h8 a9 h9 k0 k1 k2 k3 k4 k5 x0 x1 x2 x3 x4 x5) :
    out0_A_7 (F := F) c i a0 h0 a1 h1 a2 h2 a3 h3 a4 h4 a5 h5 a6 h6 a7 h7 a8 h8 a9 h9 k0 k1 k2 k3 k4 k5 x0 x1 x2 x3 x4 x5 = k0_pay13 x0 x2 x4 := by
  unfold out0_A_7
  rw [View.read_writes_eq_canon _ _ _ (cover0_A_7 c i a0 h0 a1 h1 a2 h2 a3 h3 a4 h4 a5 h5 a6 h6 a7 h7 a8 h8 a9 h9 k0 k1 k2 k3 k4 k5 x0 x1 x2 x3 x4 x5)]
  unfold kernelRun0_A
  dsimp only
  sl_unfold_words
  rw [View.canon_unit_zero (S := S1x2048) hz2]
  simp only [View.readAt_eq_ld, h0.read_unread, h1.read_unread, h2.read_unread, h3.read_unread, h4.read_unread, h5.read_unread, h6.read_unread, h7.read_unread, h8.read_unread, h9.read_unread, View.ld_unit_zero (S := S128x2048) hz2, View.ld_unit_zero (S := S1x2048) hz2]

/-- What a later point leaves in output 7's block. -/
theorem leftB_7 (c i a0 h0 a1 h1 a2 h2 a3 h3 a4 h4 a5 h5 a6 h6 a7 h7 a8 h8 a9 h9 k0 k1 k2 k3 k4 k5 x0 x1 x2 x3 x4 x5 o7 o8 o9) :
    out0_B_7 (F := F) c i a0 h0 a1 h1 a2 h2 a3 h3 a4 h4 a5 h5 a6 h6 a7 h7 a8 h8 a9 h9 k0 k1 k2 k3 k4 k5 x0 x1 x2 x3 x4 x5 o7 o8 o9 = k0_pay2 (k0_pay13 x0 x2 x4) o7 := by
  unfold out0_B_7
  rw [View.read_writes_eq_canon _ _ _ (cover0_B_7 c i a0 h0 a1 h1 a2 h2 a3 h3 a4 h4 a5 h5 a6 h6 a7 h7 a8 h8 a9 h9 k0 k1 k2 k3 k4 k5 x0 x1 x2 x3 x4 x5 o7 o8 o9)]
  unfold kernelRun0_B
  dsimp only
  sl_unfold_words
  rw [View.canon_unit_zero (S := S1x2048) hz2]
  simp only [View.readAt_eq_ld, h0.read_unread, h1.read_unread, h2.read_unread, h3.read_unread, h4.read_unread, h5.read_unread, h6.read_unread, h7.read_unread, h8.read_unread, h9.read_unread, View.ld_unit_zero (S := S128x2048) hz2, View.ld_unit_zero (S := S1x2048) hz2]

/-- What the first point leaves in output 8's block. -/
theorem leftA_8 (c i a0 h0 a1 h1 a2 h2 a3 h3 a4 h4 a5 h5 a6 h6 a7 h7 a8 h8 a9 h9 k0 k1 k2 k3 k4 k5 x0 x1 x2 x3 x4 x5) :
    out0_A_8 (F := F) c i a0 h0 a1 h1 a2 h2 a3 h3 a4 h4 a5 h5 a6 h6 a7 h7 a8 h8 a9 h9 k0 k1 k2 k3 k4 k5 x0 x1 x2 x3 x4 x5 = k0_pay11 x0 x1 x4 := by
  unfold out0_A_8
  rw [View.read_writes_eq_canon _ _ _ (cover0_A_8 c i a0 h0 a1 h1 a2 h2 a3 h3 a4 h4 a5 h5 a6 h6 a7 h7 a8 h8 a9 h9 k0 k1 k2 k3 k4 k5 x0 x1 x2 x3 x4 x5)]
  unfold kernelRun0_A
  dsimp only
  sl_unfold_words
  rw [View.canon_unit_zero (S := S1x2048) hz2]
  simp only [View.readAt_eq_ld, h0.read_unread, h1.read_unread, h2.read_unread, h3.read_unread, h4.read_unread, h5.read_unread, h6.read_unread, h7.read_unread, h8.read_unread, h9.read_unread, View.ld_unit_zero (S := S128x2048) hz2, View.ld_unit_zero (S := S1x2048) hz2]

/-- What a later point leaves in output 8's block. -/
theorem leftB_8 (c i a0 h0 a1 h1 a2 h2 a3 h3 a4 h4 a5 h5 a6 h6 a7 h7 a8 h8 a9 h9 k0 k1 k2 k3 k4 k5 x0 x1 x2 x3 x4 x5 o7 o8 o9) :
    out0_B_8 (F := F) c i a0 h0 a1 h1 a2 h2 a3 h3 a4 h4 a5 h5 a6 h6 a7 h7 a8 h8 a9 h9 k0 k1 k2 k3 k4 k5 x0 x1 x2 x3 x4 x5 o7 o8 o9 = k0_pay3 (k0_pay11 x0 x1 x4) o8 := by
  unfold out0_B_8
  rw [View.read_writes_eq_canon _ _ _ (cover0_B_8 c i a0 h0 a1 h1 a2 h2 a3 h3 a4 h4 a5 h5 a6 h6 a7 h7 a8 h8 a9 h9 k0 k1 k2 k3 k4 k5 x0 x1 x2 x3 x4 x5 o7 o8 o9)]
  unfold kernelRun0_B
  dsimp only
  sl_unfold_words
  rw [View.canon_unit_zero (S := S1x2048) hz2]
  simp only [View.readAt_eq_ld, h0.read_unread, h1.read_unread, h2.read_unread, h3.read_unread, h4.read_unread, h5.read_unread, h6.read_unread, h7.read_unread, h8.read_unread, h9.read_unread, View.ld_unit_zero (S := S128x2048) hz2, View.ld_unit_zero (S := S1x2048) hz2]

/-- What the first point leaves in output 9's block. -/
theorem leftA_9 (c i a0 h0 a1 h1 a2 h2 a3 h3 a4 h4 a5 h5 a6 h6 a7 h7 a8 h8 a9 h9 k0 k1 k2 k3 k4 k5 x0 x1 x2 x3 x4 x5) :
    out0_A_9 (F := F) c i a0 h0 a1 h1 a2 h2 a3 h3 a4 h4 a5 h5 a6 h6 a7 h7 a8 h8 a9 h9 k0 k1 k2 k3 k4 k5 x0 x1 x2 x3 x4 x5 = k0_pay10 x4 := by
  unfold out0_A_9
  rw [View.read_writes_eq_canon _ _ _ (cover0_A_9 c i a0 h0 a1 h1 a2 h2 a3 h3 a4 h4 a5 h5 a6 h6 a7 h7 a8 h8 a9 h9 k0 k1 k2 k3 k4 k5 x0 x1 x2 x3 x4 x5)]
  unfold kernelRun0_A
  dsimp only
  sl_unfold_words
  rw [View.canon_unit_zero (S := S1x2048) hz2]
  simp only [View.readAt_eq_ld, h0.read_unread, h1.read_unread, h2.read_unread, h3.read_unread, h4.read_unread, h5.read_unread, h6.read_unread, h7.read_unread, h8.read_unread, h9.read_unread, View.ld_unit_zero (S := S128x2048) hz2, View.ld_unit_zero (S := S1x2048) hz2]

/-- What a later point leaves in output 9's block. -/
theorem leftB_9 (c i a0 h0 a1 h1 a2 h2 a3 h3 a4 h4 a5 h5 a6 h6 a7 h7 a8 h8 a9 h9 k0 k1 k2 k3 k4 k5 x0 x1 x2 x3 x4 x5 o7 o8 o9) :
    out0_B_9 (F := F) c i a0 h0 a1 h1 a2 h2 a3 h3 a4 h4 a5 h5 a6 h6 a7 h7 a8 h8 a9 h9 k0 k1 k2 k3 k4 k5 x0 x1 x2 x3 x4 x5 o7 o8 o9 = k0_pay4 (k0_pay10 x4) o9 := by
  unfold out0_B_9
  rw [View.read_writes_eq_canon _ _ _ (cover0_B_9 c i a0 h0 a1 h1 a2 h2 a3 h3 a4 h4 a5 h5 a6 h6 a7 h7 a8 h8 a9 h9 k0 k1 k2 k3 k4 k5 x0 x1 x2 x3 x4 x5 o7 o8 o9)]
  unfold kernelRun0_B
  dsimp only
  sl_unfold_words
  rw [View.canon_unit_zero (S := S1x2048) hz2]
  simp only [View.readAt_eq_ld, h0.read_unread, h1.read_unread, h2.read_unread, h3.read_unread, h4.read_unread, h5.read_unread, h6.read_unread, h7.read_unread, h8.read_unread, h9.read_unread, View.ld_unit_zero (S := S128x2048) hz2, View.ld_unit_zero (S := S1x2048) hz2]

end

/-- Output 6's block, element by element. -/
theorem value_6 (x0 : S128x2048.Idx → EReal) (x1 : S1x2048.Idx → EReal) (x2 : S1x2048.Idx → EReal) (x3 : S1x2048.Idx → EReal) (x4 : S128x2048.Idx → EReal) (x5 : S128x2048.Idx → EReal) (y : S128x2048.Idx) :
    k0_pay1 (F := Ideal) x0 x5 (k0_pay7 x0) (k0_pay15 x0 x1 x2 x4) (k0_pay16 x0 x1 x2 x4) y = dx (fun k => x0 (ix2 (y 0) k)) (fun k => x1 (ix2 0 k)) (fun k => x2 (ix2 0 k)) (fun k => x4 (ix2 (y 0) k)) (fun k => x5 (ix2 (y 0) k)) (y 1) := by
  unfold k0_pay16 k0_pay15 k0_pay14 k0_pay12 k0_pay9 k0_pay7 k0_pay6 k0_pay5 k0_pay1 dx inner quotGrad meanSq count
  pointwise

/-- Output 7's block, element by element. -/
theorem value_7 (x0 : S128x2048.Idx → EReal) (x1 : S1x2048.Idx → EReal) (x2 : S1x2048.Idx → EReal) (x3 : S1x2048.Idx → EReal) (x4 : S128x2048.Idx → EReal) (x5 : S128x2048.Idx → EReal) (y : S1x2048.Idx) :
    k0_pay13 (F := Ideal) x0 x2 x4 y = ∑ p : Fin 128, dscale (fun k => x0 (ix2 p k)) (fun k => x2 (ix2 0 k)) (fun k => x4 (ix2 p k)) (y 1) := by
  unfold k0_pay13 k0_pay12 k0_pay9 k0_pay8 k0_pay6 k0_pay5 dscale meanSq count
  pointwise

/-- Output 8's block, element by element. -/
theorem value_8 (x0 : S128x2048.Idx → EReal) (x1 : S1x2048.Idx → EReal) (x2 : S1x2048.Idx → EReal) (x3 : S1x2048.Idx → EReal) (x4 : S128x2048.Idx → EReal) (x5 : S128x2048.Idx → EReal) (y : S1x2048.Idx) :
    k0_pay11 (F := Ideal) x0 x1 x4 y = ∑ p : Fin 128, dfactor (fun k => x0 (ix2 p k)) (fun k => x1 (ix2 0 k)) (fun k => x4 (ix2 p k)) (y 1) := by
  unfold k0_pay11 k0_pay9 k0_pay8 k0_pay6 k0_pay5 dfactor meanSq count
  pointwise

/-- Output 9's block, element by element. -/
theorem value_9 (x0 : S128x2048.Idx → EReal) (x1 : S1x2048.Idx → EReal) (x2 : S1x2048.Idx → EReal) (x3 : S1x2048.Idx → EReal) (x4 : S128x2048.Idx → EReal) (x5 : S128x2048.Idx → EReal) (y : S1x2048.Idx) :
    k0_pay10 (F := Ideal) x4 y = ∑ p : Fin 128, dshift (fun k => x4 (ix2 p k)) (y 1) := by
  unfold k0_pay10 dshift
  pointwise

variable (m : (ℓ : Loc nD τ sig) → Buf (Elt Ideal) ℓ)

/-- The row of the whole array that a row of a point's block is. -/
def place (t : Fin cfg0.N) (p : Fin 128) : Fin 2048 := ⟨128 * t.val + p.val, by have h := t.isLt; have hN : cfg0.N = 16 := N_0; omega⟩

theorem block_0 (c : Dev nD) (t : Fin cfg0.N) (p : Fin 128) :
    (fun k : Fin 2048 => (iblk m c 0 t (ix2 p k) : EReal)) = fun k => m (c.tc.loc main_arg0) (ix2 (place t p) k) := by
  funext k
  have hi := (by decide +kernel : ∀ t : Fin grid0.N, win0_0.index t 0 = t.val ∧ win0_0.index t 1 = 0) t
  unfold iblk
  rw [View.read_apply]
  show m (c.tc.loc main_arg0) _ = m (c.tc.loc main_arg0) _
  refine congrArg _ (funext fun a => Fin.ext ?_)
  match a with
  | ⟨0, _⟩ => show win0_0.index t 0 * 128 + 1 * p.val = 128 * t.val + p.val; rw [hi.1]; omega
  | ⟨1, _⟩ => show win0_0.index t 1 * 2048 + 1 * k.val = k.val; rw [hi.2]; omega

theorem block_1 (c : Dev nD) (t : Fin cfg0.N) :
    (fun k : Fin 2048 => (iblk m c 1 t (ix2 0 k) : EReal)) = fun k => m (c.tc.loc main_arg1) (ix2 0 k) := by
  funext k
  have hi := (by decide +kernel : ∀ t : Fin grid0.N, win0_1.index t 0 = 0 ∧ win0_1.index t 1 = 0) t
  unfold iblk
  rw [View.read_apply]
  show m (c.tc.loc main_arg1) _ = m (c.tc.loc main_arg1) _
  refine congrArg _ (funext fun a => Fin.ext ?_)
  match a with
  | ⟨0, _⟩ => show win0_1.index t 0 * 1 + 1 * 0 = 0; rw [hi.1]
  | ⟨1, _⟩ => show win0_1.index t 1 * 2048 + 1 * k.val = k.val; rw [hi.2]; omega

theorem block_2 (c : Dev nD) (t : Fin cfg0.N) :
    (fun k : Fin 2048 => (iblk m c 2 t (ix2 0 k) : EReal)) = fun k => m (c.tc.loc main_arg2) (ix2 0 k) := by
  funext k
  have hi := (by decide +kernel : ∀ t : Fin grid0.N, win0_2.index t 0 = 0 ∧ win0_2.index t 1 = 0) t
  unfold iblk
  rw [View.read_apply]
  show m (c.tc.loc main_arg2) _ = m (c.tc.loc main_arg2) _
  refine congrArg _ (funext fun a => Fin.ext ?_)
  match a with
  | ⟨0, _⟩ => show win0_2.index t 0 * 1 + 1 * 0 = 0; rw [hi.1]
  | ⟨1, _⟩ => show win0_2.index t 1 * 2048 + 1 * k.val = k.val; rw [hi.2]; omega

theorem block_3 (c : Dev nD) (t : Fin cfg0.N) :
    (fun k : Fin 2048 => (iblk m c 3 t (ix2 0 k) : EReal)) = fun k => m (c.tc.loc main_arg3) (ix2 0 k) := by
  funext k
  have hi := (by decide +kernel : ∀ t : Fin grid0.N, win0_3.index t 0 = 0 ∧ win0_3.index t 1 = 0) t
  unfold iblk
  rw [View.read_apply]
  show m (c.tc.loc main_arg3) _ = m (c.tc.loc main_arg3) _
  refine congrArg _ (funext fun a => Fin.ext ?_)
  match a with
  | ⟨0, _⟩ => show win0_3.index t 0 * 1 + 1 * 0 = 0; rw [hi.1]
  | ⟨1, _⟩ => show win0_3.index t 1 * 2048 + 1 * k.val = k.val; rw [hi.2]; omega

theorem block_4 (c : Dev nD) (t : Fin cfg0.N) (p : Fin 128) :
    (fun k : Fin 2048 => (iblk m c 4 t (ix2 p k) : EReal)) = fun k => m (c.tc.loc main_arg4) (ix2 (place t p) k) := by
  funext k
  have hi := (by decide +kernel : ∀ t : Fin grid0.N, win0_4.index t 0 = t.val ∧ win0_4.index t 1 = 0) t
  unfold iblk
  rw [View.read_apply]
  show m (c.tc.loc main_arg4) _ = m (c.tc.loc main_arg4) _
  refine congrArg _ (funext fun a => Fin.ext ?_)
  match a with
  | ⟨0, _⟩ => show win0_4.index t 0 * 128 + 1 * p.val = 128 * t.val + p.val; rw [hi.1]; omega
  | ⟨1, _⟩ => show win0_4.index t 1 * 2048 + 1 * k.val = k.val; rw [hi.2]; omega

theorem block_5 (c : Dev nD) (t : Fin cfg0.N) (p : Fin 128) :
    (fun k : Fin 2048 => (iblk m c 5 t (ix2 p k) : EReal)) = fun k => m (c.tc.loc main_arg5) (ix2 (place t p) k) := by
  funext k
  have hi := (by decide +kernel : ∀ t : Fin grid0.N, win0_5.index t 0 = t.val ∧ win0_5.index t 1 = 0) t
  unfold iblk
  rw [View.read_apply]
  show m (c.tc.loc main_arg5) _ = m (c.tc.loc main_arg5) _
  refine congrArg _ (funext fun a => Fin.ext ?_)
  match a with
  | ⟨0, _⟩ => show win0_5.index t 0 * 128 + 1 * p.val = 128 * t.val + p.val; rw [hi.1]; omega
  | ⟨1, _⟩ => show win0_5.index t 1 * 2048 + 1 * k.val = k.val; rw [hi.2]; omega

/-- Result 0 in whole. -/
def full_6 (x0 : S2048x2048.Idx → EReal) (x1 : S1x2048.Idx → EReal) (x2 : S1x2048.Idx → EReal) (x4 : S2048x2048.Idx → EReal) (x5 : S2048x2048.Idx → EReal) : S2048x2048.Idx → EReal := fun j => dx (fun k => x0 (ix2 (j 0) k)) (fun k => x1 (ix2 0 k)) (fun k => x2 (ix2 0 k)) (fun k => x4 (ix2 (j 0) k)) (fun k => x5 (ix2 (j 0) k)) (j 1)

theorem held_6 (c : Dev nD) (t : Fin cfg0.N) : (outsAt0 m c t.val t.isLt).1 = k0_pay1 (iblk m c 0 t) (iblk m c 5 t) (k0_pay7 (iblk m c 0 t)) (k0_pay15 (iblk m c 0 t) (iblk m c 1 t) (iblk m c 2 t) (iblk m c 4 t)) (k0_pay16 (iblk m c 0 t) (iblk m c 1 t) (iblk m c 2 t) (iblk m c 4 t)) := by
  have hN : cfg0.N = 16 := N_0
  have hlt := t.isLt
  by_cases h : t.val % 16 = 0
  · have g : ¬1 ≤ t.val := by omega
    simp only [outsAt0_A m c t h g h g h g, leftA_6]
  · have g : 1 ≤ t.val := by omega
    simp only [outsAt0_B m c t h g h g h g, leftB_6]

theorem flushed_eq_6 (c : Dev nD) (t : Fin cfg0.N) :
    (dats m 0 c).flushed 6 t = ((cfg0.win 6).blk t).view.read (Elt Ideal) (full_6 (m (c.tc.loc main_arg0)) (m (c.tc.loc main_arg1)) (m (c.tc.loc main_arg2)) (m (c.tc.loc main_arg4)) (m (c.tc.loc main_arg5))) := by
  rw [flushed6, held_6]
  funext y
  have hi := (by decide +kernel : ∀ t : Fin grid0.N, win0_6.index t 0 = t.val ∧ win0_6.index t 1 = 0) t
  have e : ((View.whole main_v0_0).slice ((win0 6).rect t)).emb y = ix2 (place t (y 0)) (y 1) := by
    funext a
    refine Fin.ext ?_
    match a with
    | ⟨0, _⟩ => show win0_6.index t 0 * 128 + 1 * (y 0).val = 128 * t.val + (y 0).val; rw [hi.1]; omega
    | ⟨1, _⟩ => show win0_6.index t 1 * 2048 + 1 * (y 1).val = (y 1).val; rw [hi.2]; omega
  refine (value_6 (iblk m c 0 t) (iblk m c 1 t) (iblk m c 2 t) (iblk m c 3 t) (iblk m c 4 t) (iblk m c 5 t) y).trans ?_
  rw [View.read_apply]
  show _ = full_6 (m (c.tc.loc main_arg0)) (m (c.tc.loc main_arg1)) (m (c.tc.loc main_arg2)) (m (c.tc.loc main_arg4)) (m (c.tc.loc main_arg5)) (((View.whole main_v0_0).slice ((win0 6).rect t)).emb y)
  rw [e]
  have q : ∀ (p : Fin 128) (j : Fin 2048), dx (fun k => iblk m c 0 t (ix2 p k)) (fun k => iblk m c 1 t (ix2 0 k)) (fun k => iblk m c 2 t (ix2 0 k)) (fun k => iblk m c 4 t (ix2 p k)) (fun k => iblk m c 5 t (ix2 p k)) j
      = dx (fun k => m (c.tc.loc main_arg0) (ix2 (place t p) k)) (fun k => m (c.tc.loc main_arg1) (ix2 0 k)) (fun k => m (c.tc.loc main_arg2) (ix2 0 k)) (fun k => m (c.tc.loc main_arg4) (ix2 (place t p) k)) (fun k => m (c.tc.loc main_arg5) (ix2 (place t p) k)) j := by
    intro p j
    rw [block_0, block_1, block_2, block_4, block_5]
  exact q (y 0) (y 1)

theorem covered_6 (i : S2048x2048.Idx) : ∃ t : Fin cfg0.N, (cfg0.win 6).flush t = true ∧ i ∈ ((cfg0.win 6).blk t).view.set := by
  have h0 : (i 0).val < 2048 := (i 0).isLt
  have h1 : (i 1).val < 2048 := (i 1).isLt
  obtain ⟨t, ht, e0, e1⟩ := (by decide +kernel : ∀ p0 : Fin 16, ∃ t : Fin grid0.N, win0_6.flush t = true
    ∧ win0_6.index t 0 = p0.val ∧ win0_6.index t 1 = 0) ⟨(i 0).val / 128, by omega⟩
  refine ⟨t, ht, ?_⟩
  show i ∈ ((View.whole main_v0_0).slice (win0_6.rect t)).set
  rw [View.set_slice_whole, Rect.mem_set_unit]
  intro a
  match a with
  | ⟨0, _⟩ => show win0_6.index t 0 * 128 ≤ (i 0).val ∧ (i 0).val < win0_6.index t 0 * 128 + 128; rw [e0]; simp only [] <;> omega
  | ⟨1, _⟩ => show win0_6.index t 1 * 2048 ≤ (i 1).val ∧ (i 1).val < win0_6.index t 1 * 2048 + 2048; rw [e1]; omega

/-- Result 0 after the run. -/
theorem final_6 (c : Dev nD) : (dats m 0 c).arrAt 6 cfg0.N = full_6 (m (c.tc.loc main_arg0)) (m (c.tc.loc main_arg1)) (m (c.tc.loc main_arg2)) (m (c.tc.loc main_arg4)) (m (c.tc.loc main_arg5)) :=
  (dats m 0 c).arrAt_eq_of_cover 6 _ (fun t _ => flushed_eq_6 m c t) covered_6

/-- Result 1 in whole: the sum over all rows. -/
def full_7 (x0 : S2048x2048.Idx → EReal) (x2 : S1x2048.Idx → EReal) (x4 : S2048x2048.Idx → EReal) : S1x2048.Idx → EReal := fun j => ∑ r : Fin 2048, dscale (fun k => x0 (ix2 r k)) (fun k => x2 (ix2 0 k)) (fun k => x4 (ix2 r k)) (j 1)

/-- What a point adds to result 1. -/
def add_7 (c : Dev nD) (n : ℕ) : S1x2048.Idx → EReal := fun y =>
  if h : n < cfg0.N then ∑ p : Fin 128, dscale (fun k => iblk m c 0 ⟨n, h⟩ (ix2 p k)) (fun k => iblk m c 2 ⟨n, h⟩ (ix2 0 k)) (fun k => iblk m c 4 ⟨n, h⟩ (ix2 p k)) (y 1) else 0

theorem begin_7 (c : Dev nD) (t : Fin cfg0.N) (h : t.val % 16 = 0) (y : S1x2048.Idx) :
    (outsAt0 m c t.val t.isLt).2.1 y = add_7 m c t.val y := by
  have hN : cfg0.N = 16 := N_0
  have hlt := t.isLt
  have g : ¬1 ≤ t.val := by omega
  simp only [outsAt0_A m c t h g h g h g, leftA_7]
  unfold add_7
  rw [dif_pos hlt]
  exact value_7 (iblk m c 0 t) (iblk m c 1 t) (iblk m c 2 t) (iblk m c 3 t) (iblk m c 4 t) (iblk m c 5 t) y

theorem step_7 (c : Dev nD) (t : Fin cfg0.N) (h : ¬t.val % 16 = 0) (y : S1x2048.Idx) :
    (outsAt0 m c t.val t.isLt).2.1 y
      = (outsAt0 m c (t.val - 1) (Nat.lt_of_le_of_lt (Nat.sub_le _ _) t.isLt)).2.1 y + add_7 m c t.val y := by
  have hN : cfg0.N = 16 := N_0
  have hlt := t.isLt
  have g : 1 ≤ t.val := by omega
  have v := value_7 (iblk m c 0 t) (iblk m c 1 t) (iblk m c 2 t) (iblk m c 3 t) (iblk m c 4 t) (iblk m c 5 t) y
  simp only [outsAt0_B m c t h g h g h g, leftB_7]
  unfold add_7
  rw [dif_pos hlt]
  generalize (outsAt0 m c (t.val - 1) (Nat.lt_of_le_of_lt (Nat.sub_le _ _) t.isLt)).2.1 = acc
  refine Eq.trans ?_ (congrArg (fun u : EReal => acc y + u) v)
  unfold k0_pay2
  rw [shapeCast_self]
  rfl

/-- Result 1's block after a point: the sum of what the points so far have added. -/
theorem running_7 (c : Dev nD) (y : S1x2048.Idx) : ∀ (n : ℕ) (hn : n < cfg0.N),
    (outsAt0 m c n hn).2.1 y = ∑ s ∈ Finset.range (n + 1), add_7 m c s y
  | 0, hn => by
    rw [Finset.sum_range_one]
    exact begin_7 m c ⟨0, hn⟩ rfl y
  | n + 1, hn => by
    have hN : cfg0.N = 16 := N_0
    rw [Finset.sum_range_succ, ← running_7 c y n (by omega)]
    exact step_7 m c ⟨n + 1, hn⟩ (by show ¬(n + 1) % 16 = 0; omega) y

theorem flushed_eq_7 (c : Dev nD) (t : Fin cfg0.N) (hf : (cfg0.win 7).flush t = true) :
    (dats m 0 c).flushed 7 t = ((cfg0.win 7).blk t).view.read (Elt Ideal) (full_7 (m (c.tc.loc main_arg0)) (m (c.tc.loc main_arg2)) (m (c.tc.loc main_arg4))) := by
  have hN : cfg0.N = 16 := N_0
  have hlt := t.isLt
  have hm : t.val % 16 = 15 := (flush0_7 t).mp hf
  rw [flushed7]
  funext y
  have hi := (by decide +kernel : ∀ t : Fin grid0.N, win0_7.index t 0 = 0 ∧ win0_7.index t 1 = 0) t
  have e : ((View.whole main_v0_1).slice ((win0 7).rect t)).emb y = y := by
    funext a
    refine Fin.ext ?_
    match a with
    | ⟨0, _⟩ => show win0_7.index t 0 * 1 + 1 * (y 0).val = (y 0).val; rw [hi.1]; omega
    | ⟨1, _⟩ => show win0_7.index t 1 * 2048 + 1 * (y 1).val = (y 1).val; rw [hi.2]; omega
  refine (running_7 m c y t.val t.isLt).trans ?_
  rw [View.read_apply]
  show _ = full_7 (m (c.tc.loc main_arg0)) (m (c.tc.loc main_arg2)) (m (c.tc.loc main_arg4)) (((View.whole main_v0_1).slice ((win0 7).rect t)).emb y)
  rw [e, show t.val + 1 = 16 by omega, Finset.sum_range]
  unfold full_7
  have e2 : ∀ s : Fin 16, add_7 m c s.val y = ∑ p : Fin 128, dscale (fun k => m (c.tc.loc main_arg0) (ix2 (place ⟨s.val, by omega⟩ p) k)) (fun k => m (c.tc.loc main_arg2) (ix2 0 k)) (fun k => m (c.tc.loc main_arg4) (ix2 (place ⟨s.val, by omega⟩ p) k)) (y 1) := by
    intro s
    unfold add_7
    rw [dif_pos (by omega)]
    refine Finset.sum_congr rfl fun p _ => ?_
    rw [block_0, block_2, block_4]
  rw [Finset.sum_congr rfl fun s _ => e2 s]
  refine sum_blocks (by norm_num) _ _ fun s p r hr => ?_
  rw [show place ⟨s.val, by omega⟩ p = r from Fin.ext hr.symm]

theorem covered_7 (i : S1x2048.Idx) : ∃ t : Fin cfg0.N, (cfg0.win 7).flush t = true ∧ i ∈ ((cfg0.win 7).blk t).view.set := by
  have h0 : (i 0).val < 1 := (i 0).isLt
  have h1 : (i 1).val < 2048 := (i 1).isLt
  obtain ⟨t, ht, e0, e1⟩ := (by decide +kernel : ∃ t : Fin grid0.N, win0_7.flush t = true
    ∧ win0_7.index t 0 = 0 ∧ win0_7.index t 1 = 0)
  refine ⟨t, ht, ?_⟩
  show i ∈ ((View.whole main_v0_1).slice (win0_7.rect t)).set
  rw [View.set_slice_whole, Rect.mem_set_unit]
  intro a
  match a with
  | ⟨0, _⟩ => show win0_7.index t 0 * 1 ≤ (i 0).val ∧ (i 0).val < win0_7.index t 0 * 1 + 1; rw [e0]; omega
  | ⟨1, _⟩ => show win0_7.index t 1 * 2048 ≤ (i 1).val ∧ (i 1).val < win0_7.index t 1 * 2048 + 2048; rw [e1]; omega

/-- Result 1 after the run. -/
theorem final_7 (c : Dev nD) : (dats m 0 c).arrAt 7 cfg0.N = full_7 (m (c.tc.loc main_arg0)) (m (c.tc.loc main_arg2)) (m (c.tc.loc main_arg4)) :=
  (dats m 0 c).arrAt_eq_of_cover 7 _ (flushed_eq_7 m c) covered_7

/-- Result 2 in whole: the sum over all rows. -/
def full_8 (x0 : S2048x2048.Idx → EReal) (x1 : S1x2048.Idx → EReal) (x4 : S2048x2048.Idx → EReal) : S1x2048.Idx → EReal := fun j => ∑ r : Fin 2048, dfactor (fun k => x0 (ix2 r k)) (fun k => x1 (ix2 0 k)) (fun k => x4 (ix2 r k)) (j 1)

/-- What a point adds to result 2. -/
def add_8 (c : Dev nD) (n : ℕ) : S1x2048.Idx → EReal := fun y =>
  if h : n < cfg0.N then ∑ p : Fin 128, dfactor (fun k => iblk m c 0 ⟨n, h⟩ (ix2 p k)) (fun k => iblk m c 1 ⟨n, h⟩ (ix2 0 k)) (fun k => iblk m c 4 ⟨n, h⟩ (ix2 p k)) (y 1) else 0

theorem begin_8 (c : Dev nD) (t : Fin cfg0.N) (h : t.val % 16 = 0) (y : S1x2048.Idx) :
    (outsAt0 m c t.val t.isLt).2.2.1 y = add_8 m c t.val y := by
  have hN : cfg0.N = 16 := N_0
  have hlt := t.isLt
  have g : ¬1 ≤ t.val := by omega
  simp only [outsAt0_A m c t h g h g h g, leftA_8]
  unfold add_8
  rw [dif_pos hlt]
  exact value_8 (iblk m c 0 t) (iblk m c 1 t) (iblk m c 2 t) (iblk m c 3 t) (iblk m c 4 t) (iblk m c 5 t) y

theorem step_8 (c : Dev nD) (t : Fin cfg0.N) (h : ¬t.val % 16 = 0) (y : S1x2048.Idx) :
    (outsAt0 m c t.val t.isLt).2.2.1 y
      = (outsAt0 m c (t.val - 1) (Nat.lt_of_le_of_lt (Nat.sub_le _ _) t.isLt)).2.2.1 y + add_8 m c t.val y := by
  have hN : cfg0.N = 16 := N_0
  have hlt := t.isLt
  have g : 1 ≤ t.val := by omega
  have v := value_8 (iblk m c 0 t) (iblk m c 1 t) (iblk m c 2 t) (iblk m c 3 t) (iblk m c 4 t) (iblk m c 5 t) y
  simp only [outsAt0_B m c t h g h g h g, leftB_8]
  unfold add_8
  rw [dif_pos hlt]
  generalize (outsAt0 m c (t.val - 1) (Nat.lt_of_le_of_lt (Nat.sub_le _ _) t.isLt)).2.2.1 = acc
  refine Eq.trans ?_ (congrArg (fun u : EReal => acc y + u) v)
  unfold k0_pay3
  rw [shapeCast_self]
  rfl

/-- Result 2's block after a point: the sum of what the points so far have added. -/
theorem running_8 (c : Dev nD) (y : S1x2048.Idx) : ∀ (n : ℕ) (hn : n < cfg0.N),
    (outsAt0 m c n hn).2.2.1 y = ∑ s ∈ Finset.range (n + 1), add_8 m c s y
  | 0, hn => by
    rw [Finset.sum_range_one]
    exact begin_8 m c ⟨0, hn⟩ rfl y
  | n + 1, hn => by
    have hN : cfg0.N = 16 := N_0
    rw [Finset.sum_range_succ, ← running_8 c y n (by omega)]
    exact step_8 m c ⟨n + 1, hn⟩ (by show ¬(n + 1) % 16 = 0; omega) y

theorem flushed_eq_8 (c : Dev nD) (t : Fin cfg0.N) (hf : (cfg0.win 8).flush t = true) :
    (dats m 0 c).flushed 8 t = ((cfg0.win 8).blk t).view.read (Elt Ideal) (full_8 (m (c.tc.loc main_arg0)) (m (c.tc.loc main_arg1)) (m (c.tc.loc main_arg4))) := by
  have hN : cfg0.N = 16 := N_0
  have hlt := t.isLt
  have hm : t.val % 16 = 15 := (flush0_8 t).mp hf
  rw [flushed8]
  funext y
  have hi := (by decide +kernel : ∀ t : Fin grid0.N, win0_8.index t 0 = 0 ∧ win0_8.index t 1 = 0) t
  have e : ((View.whole main_v0_2).slice ((win0 8).rect t)).emb y = y := by
    funext a
    refine Fin.ext ?_
    match a with
    | ⟨0, _⟩ => show win0_8.index t 0 * 1 + 1 * (y 0).val = (y 0).val; rw [hi.1]; omega
    | ⟨1, _⟩ => show win0_8.index t 1 * 2048 + 1 * (y 1).val = (y 1).val; rw [hi.2]; omega
  refine (running_8 m c y t.val t.isLt).trans ?_
  rw [View.read_apply]
  show _ = full_8 (m (c.tc.loc main_arg0)) (m (c.tc.loc main_arg1)) (m (c.tc.loc main_arg4)) (((View.whole main_v0_2).slice ((win0 8).rect t)).emb y)
  rw [e, show t.val + 1 = 16 by omega, Finset.sum_range]
  unfold full_8
  have e2 : ∀ s : Fin 16, add_8 m c s.val y = ∑ p : Fin 128, dfactor (fun k => m (c.tc.loc main_arg0) (ix2 (place ⟨s.val, by omega⟩ p) k)) (fun k => m (c.tc.loc main_arg1) (ix2 0 k)) (fun k => m (c.tc.loc main_arg4) (ix2 (place ⟨s.val, by omega⟩ p) k)) (y 1) := by
    intro s
    unfold add_8
    rw [dif_pos (by omega)]
    refine Finset.sum_congr rfl fun p _ => ?_
    rw [block_0, block_1, block_4]
  rw [Finset.sum_congr rfl fun s _ => e2 s]
  refine sum_blocks (by norm_num) _ _ fun s p r hr => ?_
  rw [show place ⟨s.val, by omega⟩ p = r from Fin.ext hr.symm]

theorem covered_8 (i : S1x2048.Idx) : ∃ t : Fin cfg0.N, (cfg0.win 8).flush t = true ∧ i ∈ ((cfg0.win 8).blk t).view.set := by
  have h0 : (i 0).val < 1 := (i 0).isLt
  have h1 : (i 1).val < 2048 := (i 1).isLt
  obtain ⟨t, ht, e0, e1⟩ := (by decide +kernel : ∃ t : Fin grid0.N, win0_8.flush t = true
    ∧ win0_8.index t 0 = 0 ∧ win0_8.index t 1 = 0)
  refine ⟨t, ht, ?_⟩
  show i ∈ ((View.whole main_v0_2).slice (win0_8.rect t)).set
  rw [View.set_slice_whole, Rect.mem_set_unit]
  intro a
  match a with
  | ⟨0, _⟩ => show win0_8.index t 0 * 1 ≤ (i 0).val ∧ (i 0).val < win0_8.index t 0 * 1 + 1; rw [e0]; omega
  | ⟨1, _⟩ => show win0_8.index t 1 * 2048 ≤ (i 1).val ∧ (i 1).val < win0_8.index t 1 * 2048 + 2048; rw [e1]; omega

/-- Result 2 after the run. -/
theorem final_8 (c : Dev nD) : (dats m 0 c).arrAt 8 cfg0.N = full_8 (m (c.tc.loc main_arg0)) (m (c.tc.loc main_arg1)) (m (c.tc.loc main_arg4)) :=
  (dats m 0 c).arrAt_eq_of_cover 8 _ (flushed_eq_8 m c) covered_8

/-- Result 3 in whole: the sum over all rows. -/
def full_9 (x4 : S2048x2048.Idx → EReal) : S1x2048.Idx → EReal := fun j => ∑ r : Fin 2048, dshift (fun k => x4 (ix2 r k)) (j 1)

/-- What a point adds to result 3. -/
def add_9 (c : Dev nD) (n : ℕ) : S1x2048.Idx → EReal := fun y =>
  if h : n < cfg0.N then ∑ p : Fin 128, dshift (fun k => iblk m c 4 ⟨n, h⟩ (ix2 p k)) (y 1) else 0

theorem begin_9 (c : Dev nD) (t : Fin cfg0.N) (h : t.val % 16 = 0) (y : S1x2048.Idx) :
    (outsAt0 m c t.val t.isLt).2.2.2 y = add_9 m c t.val y := by
  have hN : cfg0.N = 16 := N_0
  have hlt := t.isLt
  have g : ¬1 ≤ t.val := by omega
  simp only [outsAt0_A m c t h g h g h g, leftA_9]
  unfold add_9
  rw [dif_pos hlt]
  exact value_9 (iblk m c 0 t) (iblk m c 1 t) (iblk m c 2 t) (iblk m c 3 t) (iblk m c 4 t) (iblk m c 5 t) y

theorem step_9 (c : Dev nD) (t : Fin cfg0.N) (h : ¬t.val % 16 = 0) (y : S1x2048.Idx) :
    (outsAt0 m c t.val t.isLt).2.2.2 y
      = (outsAt0 m c (t.val - 1) (Nat.lt_of_le_of_lt (Nat.sub_le _ _) t.isLt)).2.2.2 y + add_9 m c t.val y := by
  have hN : cfg0.N = 16 := N_0
  have hlt := t.isLt
  have g : 1 ≤ t.val := by omega
  have v := value_9 (iblk m c 0 t) (iblk m c 1 t) (iblk m c 2 t) (iblk m c 3 t) (iblk m c 4 t) (iblk m c 5 t) y
  simp only [outsAt0_B m c t h g h g h g, leftB_9]
  unfold add_9
  rw [dif_pos hlt]
  generalize (outsAt0 m c (t.val - 1) (Nat.lt_of_le_of_lt (Nat.sub_le _ _) t.isLt)).2.2.2 = acc
  refine Eq.trans ?_ (congrArg (fun u : EReal => acc y + u) v)
  unfold k0_pay4
  rw [shapeCast_self]
  rfl

/-- Result 3's block after a point: the sum of what the points so far have added. -/
theorem running_9 (c : Dev nD) (y : S1x2048.Idx) : ∀ (n : ℕ) (hn : n < cfg0.N),
    (outsAt0 m c n hn).2.2.2 y = ∑ s ∈ Finset.range (n + 1), add_9 m c s y
  | 0, hn => by
    rw [Finset.sum_range_one]
    exact begin_9 m c ⟨0, hn⟩ rfl y
  | n + 1, hn => by
    have hN : cfg0.N = 16 := N_0
    rw [Finset.sum_range_succ, ← running_9 c y n (by omega)]
    exact step_9 m c ⟨n + 1, hn⟩ (by show ¬(n + 1) % 16 = 0; omega) y

theorem flushed_eq_9 (c : Dev nD) (t : Fin cfg0.N) (hf : (cfg0.win 9).flush t = true) :
    (dats m 0 c).flushed 9 t = ((cfg0.win 9).blk t).view.read (Elt Ideal) (full_9 (m (c.tc.loc main_arg4))) := by
  have hN : cfg0.N = 16 := N_0
  have hlt := t.isLt
  have hm : t.val % 16 = 15 := (flush0_9 t).mp hf
  rw [flushed9]
  funext y
  have hi := (by decide +kernel : ∀ t : Fin grid0.N, win0_9.index t 0 = 0 ∧ win0_9.index t 1 = 0) t
  have e : ((View.whole main_v0_3).slice ((win0 9).rect t)).emb y = y := by
    funext a
    refine Fin.ext ?_
    match a with
    | ⟨0, _⟩ => show win0_9.index t 0 * 1 + 1 * (y 0).val = (y 0).val; rw [hi.1]; omega
    | ⟨1, _⟩ => show win0_9.index t 1 * 2048 + 1 * (y 1).val = (y 1).val; rw [hi.2]; omega
  refine (running_9 m c y t.val t.isLt).trans ?_
  rw [View.read_apply]
  show _ = full_9 (m (c.tc.loc main_arg4)) (((View.whole main_v0_3).slice ((win0 9).rect t)).emb y)
  rw [e, show t.val + 1 = 16 by omega, Finset.sum_range]
  unfold full_9
  have e2 : ∀ s : Fin 16, add_9 m c s.val y = ∑ p : Fin 128, dshift (fun k => m (c.tc.loc main_arg4) (ix2 (place ⟨s.val, by omega⟩ p) k)) (y 1) := by
    intro s
    unfold add_9
    rw [dif_pos (by omega)]
    refine Finset.sum_congr rfl fun p _ => ?_
    rw [block_4]
  rw [Finset.sum_congr rfl fun s _ => e2 s]
  refine sum_blocks (by norm_num) _ _ fun s p r hr => ?_
  rw [show place ⟨s.val, by omega⟩ p = r from Fin.ext hr.symm]

theorem covered_9 (i : S1x2048.Idx) : ∃ t : Fin cfg0.N, (cfg0.win 9).flush t = true ∧ i ∈ ((cfg0.win 9).blk t).view.set := by
  have h0 : (i 0).val < 1 := (i 0).isLt
  have h1 : (i 1).val < 2048 := (i 1).isLt
  obtain ⟨t, ht, e0, e1⟩ := (by decide +kernel : ∃ t : Fin grid0.N, win0_9.flush t = true
    ∧ win0_9.index t 0 = 0 ∧ win0_9.index t 1 = 0)
  refine ⟨t, ht, ?_⟩
  show i ∈ ((View.whole main_v0_3).slice (win0_9.rect t)).set
  rw [View.set_slice_whole, Rect.mem_set_unit]
  intro a
  match a with
  | ⟨0, _⟩ => show win0_9.index t 0 * 1 ≤ (i 0).val ∧ (i 0).val < win0_9.index t 0 * 1 + 1; rw [e0]; omega
  | ⟨1, _⟩ => show win0_9.index t 1 * 2048 ≤ (i 1).val ∧ (i 1).val < win0_9.index t 1 * 2048 + 2048; rw [e1]; omega

/-- Result 3 after the run. -/
theorem final_9 (c : Dev nD) : (dats m 0 c).arrAt 9 cfg0.N = full_9 (m (c.tc.loc main_arg4)) :=
  (dats m 0 c).arrAt_eq_of_cover 9 _ (flushed_eq_9 m c) covered_9

set_option maxHeartbeats 2000000 in
/-- The call and its reference leave the same results. -/
theorem algebraic : Cert.algebraic_Norm1BwdIdeal_Norm1BwdRefIdeal (hNorm1BwdIdeal := Cert.Norm1BwdIdeal.Gen.facts)
    (hNorm1BwdRefIdeal := Cert.Norm1BwdRefIdeal.Gen.facts) := by
  intro m g m' g' _ hargs
  refine ⟨fun c => full_6 (m (c.tc.loc main_arg0)) (m (c.tc.loc main_arg1)) (m (c.tc.loc main_arg2)) (m (c.tc.loc main_arg4)) (m (c.tc.loc main_arg5)), fun c => full_7 (m (c.tc.loc main_arg0)) (m (c.tc.loc main_arg2)) (m (c.tc.loc main_arg4)), fun c => full_8 (m (c.tc.loc main_arg0)) (m (c.tc.loc main_arg1)) (m (c.tc.loc main_arg4)), fun c => full_9 (m (c.tc.loc main_arg4)), ?_, ?_⟩
  · refine (θ_run (Cert.Norm1BwdIdeal.defs (F := Ideal)) _ _).mono (fun r h c => ?_) (run_blocks m g)
    obtain ⟨v0, v1, v2, v3, k⟩ := h c
    exact ⟨v0.trans (final_6 m c), v1.trans (final_7 m c), v2.trans (final_8 m c), v3.trans (final_9 m c), k⟩
  · refine (θ_run (Cert.Norm1BwdRefIdeal.defs (F := Ideal)) _ _).mono (fun r h c => ?_) (Cert.Norm1BwdRefIdeal.Value.run (F := Ideal) m' g')
    obtain ⟨v0, v1, v2, v3, k⟩ := h c
    obtain ⟨e0, e1, e2, e3, e4, e5⟩ := hargs c
    refine ⟨v0.trans ?_, v1.trans ?_, v2.trans ?_, v3.trans ?_, k⟩
    · funext i
      try unfold Cert.Norm1BwdRefIdeal.Value.res_main_v48
      rw [e0, e1, e2, e4, e5]
      show _ = full_6 (m (c.tc.loc main_arg0)) (m (c.tc.loc main_arg1)) (m (c.tc.loc main_arg2)) (m (c.tc.loc main_arg4)) (m (c.tc.loc main_arg5)) i
      unfold full_6 dx inner quotGrad meanSq count
      pointwise
    · funext i
      try unfold Cert.Norm1BwdRefIdeal.Value.res_main_v48
      rw [e0, e2, e4]
      show _ = full_7 (m (c.tc.loc main_arg0)) (m (c.tc.loc main_arg2)) (m (c.tc.loc main_arg4)) i
      unfold full_7 dscale meanSq count
      pointwise
    · funext i
      try unfold Cert.Norm1BwdRefIdeal.Value.res_main_v48
      rw [e0, e1, e4]
      show _ = full_8 (m (c.tc.loc main_arg0)) (m (c.tc.loc main_arg1)) (m (c.tc.loc main_arg4)) i
      unfold full_8 dfactor meanSq count
      pointwise
    · funext i
      try unfold Cert.Norm1BwdRefIdeal.Value.res_main_v48
      rw [e4]
      show _ = full_9 (m (c.tc.loc main_arg4)) i
      unfold full_9 dshift
      pointwise

end Cert.Norm1BwdIdeal.Value
-- ==== Proof.Norm2Bwd.lean ====
/- The gradient of the residual, the second norm and its modulation: the gradients of every row, and the sums over the rows for the gate, the scale, the factor and the shift. -/
module

public import proofs.«01_k».proof.Defs
public import proofs.«01_k».proof.Proof.Gen.Norm2BwdIdeal.Value
public import proofs.«01_k».proof.Proof.Gen.Norm2BwdRefIdeal.Run
public import proofs.«01_k».proof.Proof.Rows

@[expose] public section

noncomputable section

namespace Cert.Norm2BwdIdeal.Value

open Cert.Norm2BwdIdeal Cert.Norm2BwdIdeal.Gen Idealize.ShloMosaic Idealize.ShloMosaic.TcCoe Idealize.SL.Sem Cert.Blocks Cert.Rows
open Idealize.ShloMosaic.Pipeline (Dat)

/-- The length of a row, as the programs write it. -/
def count : EReal := Ideal.ofBits .f32 0x45000000#32

/-- The sum of the residual, in one row. -/
def total (x w t : Fin 2048 → EReal) (k : Fin 2048) : EReal := x k + t k * w k

/-- The gradient of the quotient, in one row. -/
def inner (g s d : Fin 2048 → EReal) (k : Fin 2048) : EReal := d k * (1 + s k) * g k

/-- The gradient of a row of the residual's sum. -/
def dx (x w t g s r d : Fin 2048 → EReal) (j : Fin 2048) : EReal := addQuotGrad count (total x w t) (inner g s d) r j

/-- The gradient of a row of the mixer's output. -/
def dmix (x w t g s r d : Fin 2048 → EReal) (j : Fin 2048) : EReal := t j * dx x w t g s r d j

/-- What a row adds to the gradient of the gate. -/
def dgate (x w t g s r d : Fin 2048 → EReal) (j : Fin 2048) : EReal := dx x w t g s r d j * w j

/-- What a row adds to the gradient of the scale. -/
def dscale (x w t s d : Fin 2048 → EReal) (j : Fin 2048) : EReal :=
  total x w t j * Ideal.rsqrt (meanSq count (total x w t)) * (d j * (1 + s j))

/-- What a row adds to the gradient of the factor. -/
def dfactor (x w t g d : Fin 2048 → EReal) (j : Fin 2048) : EReal :=
  total x w t j * Ideal.rsqrt (meanSq count (total x w t)) * g j * d j

/-- What a row adds to the gradient of the shift. -/
def dshift (d : Fin 2048 → EReal) (j : Fin 2048) : EReal := d j

section

variable {F : FTy → Type} [FloatOps F]

/-- What the first point leaves in output 8's block. -/
theorem leftA_8 (c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7) :
    out0_A_8 (F := F) c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7 = k0_pay14 x3 x6 (k0_pay3 x0 x1 x2) (k0_pay5 x0 x1 x2) (k0_pay6 x0 x1 x2) (k0_pay11 x4 x7) := by
  unfold out0_A_8
  rw [View.read_writes_eq_canon _ _ _ (cover0_A_8 c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7)]
  unfold kernelRun0_A
  dsimp only
  sl_unfold_words
  rw [View.canon_unit_zero (S := S128x2048) hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S128x2048) hz2, View.ld_unit_zero (S := S1x2048) hz2]

/-- What a later point leaves in output 8's block. -/
theorem leftB_8 (c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7 o10 o11 o12 o13) :
    out0_B_8 (F := F) c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7 o10 o11 o12 o13 = k0_pay14 x3 x6 (k0_pay3 x0 x1 x2) (k0_pay5 x0 x1 x2) (k0_pay6 x0 x1 x2) (k0_pay11 x4 x7) := by
  unfold out0_B_8
  rw [View.read_writes_eq_canon _ _ _ (cover0_B_8 c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7 o10 o11 o12 o13)]
  unfold kernelRun0_B
  dsimp only
  sl_unfold_words
  rw [View.canon_unit_zero (S := S128x2048) hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S128x2048) hz2, View.ld_unit_zero (S := S1x2048) hz2]

/-- What the first point leaves in output 9's block. -/
theorem leftA_9 (c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7) :
    out0_A_9 (F := F) c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7 = k0_pay17 x2 x3 x6 (k0_pay3 x0 x1 x2) (k0_pay5 x0 x1 x2) (k0_pay6 x0 x1 x2) (k0_pay11 x4 x7) := by
  unfold out0_A_9
  rw [View.read_writes_eq_canon _ _ _ (cover0_A_9 c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7)]
  unfold kernelRun0_A
  dsimp only
  sl_unfold_words
  rw [View.canon_unit_zero (S := S128x2048) hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S128x2048) hz2, View.ld_unit_zero (S := S1x2048) hz2]

/-- What a later point leaves in output 9's block. -/
theorem leftB_9 (c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7 o10 o11 o12 o13) :
    out0_B_9 (F := F) c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7 o10 o11 o12 o13 = k0_pay17 x2 x3 x6 (k0_pay3 x0 x1 x2) (k0_pay5 x0 x1 x2) (k0_pay6 x0 x1 x2) (k0_pay11 x4 x7) := by
  unfold out0_B_9
  rw [View.read_writes_eq_canon _ _ _ (cover0_B_9 c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7 o10 o11 o12 o13)]
  unfold kernelRun0_B
  dsimp only
  sl_unfold_words
  rw [View.canon_unit_zero (S := S128x2048) hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S128x2048) hz2, View.ld_unit_zero (S := S1x2048) hz2]

/-- What the first point leaves in output 10's block. -/
theorem leftA_10 (c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7) :
    out0_A_10 (F := F) c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7 = k0_pay16 x1 x3 x6 (k0_pay3 x0 x1 x2) (k0_pay5 x0 x1 x2) (k0_pay6 x0 x1 x2) (k0_pay11 x4 x7) := by
  unfold out0_A_10
  rw [View.read_writes_eq_canon _ _ _ (cover0_A_10 c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7)]
  unfold kernelRun0_A
  dsimp only
  sl_unfold_words
  rw [View.canon_unit_zero (S := S1x2048) hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S128x2048) hz2, View.ld_unit_zero (S := S1x2048) hz2]

/-- What a later point leaves in output 10's block. -/
theorem leftB_10 (c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7 o10 o11 o12 o13) :
    out0_B_10 (F := F) c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7 o10 o11 o12 o13 = k0_pay18 x1 x3 x6 (k0_pay3 x0 x1 x2) (k0_pay5 x0 x1 x2) (k0_pay6 x0 x1 x2) (k0_pay11 x4 x7) o10 := by
  unfold out0_B_10
  rw [View.read_writes_eq_canon _ _ _ (cover0_B_10 c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7 o10 o11 o12 o13)]
  unfold kernelRun0_B
  dsimp only
  sl_unfold_words
  rw [View.canon_unit_zero (S := S1x2048) hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S128x2048) hz2, View.ld_unit_zero (S := S1x2048) hz2]

/-- What the first point leaves in output 11's block. -/
theorem leftA_11 (c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7) :
    out0_A_11 (F := F) c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7 = k0_pay13 (k0_pay12 x0 x1 x2 x4 x7) := by
  unfold out0_A_11
  rw [View.read_writes_eq_canon _ _ _ (cover0_A_11 c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7)]
  unfold kernelRun0_A
  dsimp only
  sl_unfold_words
  rw [View.canon_unit_zero (S := S1x2048) hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S128x2048) hz2, View.ld_unit_zero (S := S1x2048) hz2]

/-- What a later point leaves in output 11's block. -/
theorem leftB_11 (c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7 o10 o11 o12 o13) :
    out0_B_11 (F := F) c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7 o10 o11 o12 o13 = k0_pay19 (k0_pay12 x0 x1 x2 x4 x7) o11 := by
  unfold out0_B_11
  rw [View.read_writes_eq_canon _ _ _ (cover0_B_11 c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7 o10 o11 o12 o13)]
  unfold kernelRun0_B
  dsimp only
  sl_unfold_words
  rw [View.canon_unit_zero (S := S1x2048) hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S128x2048) hz2, View.ld_unit_zero (S := S1x2048) hz2]

/-- What the first point leaves in output 12's block. -/
theorem leftA_12 (c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7) :
    out0_A_12 (F := F) c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7 = k0_pay10 x0 x1 x2 x3 x7 := by
  unfold out0_A_12
  rw [View.read_writes_eq_canon _ _ _ (cover0_A_12 c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7)]
  unfold kernelRun0_A
  dsimp only
  sl_unfold_words
  rw [View.canon_unit_zero (S := S1x2048) hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S128x2048) hz2, View.ld_unit_zero (S := S1x2048) hz2]

/-- What a later point leaves in output 12's block. -/
theorem leftB_12 (c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7 o10 o11 o12 o13) :
    out0_B_12 (F := F) c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7 o10 o11 o12 o13 = k0_pay1 (k0_pay10 x0 x1 x2 x3 x7) o12 := by
  unfold out0_B_12
  rw [View.read_writes_eq_canon _ _ _ (cover0_B_12 c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7 o10 o11 o12 o13)]
  unfold kernelRun0_B
  dsimp only
  sl_unfold_words
  rw [View.canon_unit_zero (S := S1x2048) hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S128x2048) hz2, View.ld_unit_zero (S := S1x2048) hz2]

/-- What the first point leaves in output 13's block. -/
theorem leftA_13 (c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7) :
    out0_A_13 (F := F) c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7 = k0_pay9 x7 := by
  unfold out0_A_13
  rw [View.read_writes_eq_canon _ _ _ (cover0_A_13 c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7)]
  unfold kernelRun0_A
  dsimp only
  sl_unfold_words
  rw [View.canon_unit_zero (S := S1x2048) hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S128x2048) hz2, View.ld_unit_zero (S := S1x2048) hz2]

/-- What a later point leaves in output 13's block. -/
theorem leftB_13 (c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7 o10 o11 o12 o13) :
    out0_B_13 (F := F) c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7 o10 o11 o12 o13 = k0_pay2 (k0_pay9 x7) o13 := by
  unfold out0_B_13
  rw [View.read_writes_eq_canon _ _ _ (cover0_B_13 c i a0 h0 a1 h1 a2 h2 a3 h3 a4 h4 a5 h5 a6 h6 a7 h7 a8 h8 a9 h9 a10 h10 a11 h11 a12 h12 a13 h13 k0 k1 k2 k3 k4 k5 k6 k7 x0 x1 x2 x3 x4 x5 x6 x7 o10 o11 o12 o13)]
  unfold kernelRun0_B
  dsimp only
  sl_unfold_words
  rw [View.canon_unit_zero (S := S1x2048) hz2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S128x2048) hz2, View.ld_unit_zero (S := S1x2048) hz2]

end

/-- Output 8's block, element by element. -/
theorem value_8 (x0 : S128x2048.Idx → EReal) (x1 : S128x2048.Idx → EReal) (x2 : S1x2048.Idx → EReal) (x3 : S1x2048.Idx → EReal) (x4 : S1x2048.Idx → EReal) (x5 : S1x2048.Idx → EReal) (x6 : S128x2048.Idx → EReal) (x7 : S128x2048.Idx → EReal) (y : S128x2048.Idx) :
    k0_pay14 (F := Ideal) x3 x6 (k0_pay3 x0 x1 x2) (k0_pay5 x0 x1 x2) (k0_pay6 x0 x1 x2) (k0_pay11 x4 x7) y = dx (fun k => x0 (ix2 (y 0) k)) (fun k => x1 (ix2 (y 0) k)) (fun k => x2 (ix2 0 k)) (fun k => x3 (ix2 0 k)) (fun k => x4 (ix2 0 k)) (fun k => x6 (ix2 (y 0) k)) (fun k => x7 (ix2 (y 0) k)) (y 1) := by
  unfold k0_pay11 k0_pay8 k0_pay6 k0_pay5 k0_pay4 k0_pay3 k0_pay14 dx inner total addQuotGrad meanSq count
  pointwise

/-- Output 9's block, element by element. -/
theorem value_9 (x0 : S128x2048.Idx → EReal) (x1 : S128x2048.Idx → EReal) (x2 : S1x2048.Idx → EReal) (x3 : S1x2048.Idx → EReal) (x4 : S1x2048.Idx → EReal) (x5 : S1x2048.Idx → EReal) (x6 : S128x2048.Idx → EReal) (x7 : S128x2048.Idx → EReal) (y : S128x2048.Idx) :
    k0_pay17 (F := Ideal) x2 x3 x6 (k0_pay3 x0 x1 x2) (k0_pay5 x0 x1 x2) (k0_pay6 x0 x1 x2) (k0_pay11 x4 x7) y = dmix (fun k => x0 (ix2 (y 0) k)) (fun k => x1 (ix2 (y 0) k)) (fun k => x2 (ix2 0 k)) (fun k => x3 (ix2 0 k)) (fun k => x4 (ix2 0 k)) (fun k => x6 (ix2 (y 0) k)) (fun k => x7 (ix2 (y 0) k)) (y 1) := by
  unfold k0_pay11 k0_pay8 k0_pay6 k0_pay5 k0_pay4 k0_pay3 k0_pay17 k0_pay15 k0_pay14 dmix dx inner total addQuotGrad meanSq count
  pointwise

/-- Output 10's block, element by element. -/
theorem value_10 (x0 : S128x2048.Idx → EReal) (x1 : S128x2048.Idx → EReal) (x2 : S1x2048.Idx → EReal) (x3 : S1x2048.Idx → EReal) (x4 : S1x2048.Idx → EReal) (x5 : S1x2048.Idx → EReal) (x6 : S128x2048.Idx → EReal) (x7 : S128x2048.Idx → EReal) (y : S1x2048.Idx) :
    k0_pay16 (F := Ideal) x1 x3 x6 (k0_pay3 x0 x1 x2) (k0_pay5 x0 x1 x2) (k0_pay6 x0 x1 x2) (k0_pay11 x4 x7) y = ∑ p : Fin 128, dgate (fun k => x0 (ix2 p k)) (fun k => x1 (ix2 p k)) (fun k => x2 (ix2 0 k)) (fun k => x3 (ix2 0 k)) (fun k => x4 (ix2 0 k)) (fun k => x6 (ix2 p k)) (fun k => x7 (ix2 p k)) (y 1) := by
  unfold k0_pay11 k0_pay8 k0_pay6 k0_pay5 k0_pay4 k0_pay3 k0_pay16 k0_pay15 k0_pay14 dgate dx inner total addQuotGrad meanSq count
  pointwise

/-- Output 11's block, element by element. -/
theorem value_11 (x0 : S128x2048.Idx → EReal) (x1 : S128x2048.Idx → EReal) (x2 : S1x2048.Idx → EReal) (x3 : S1x2048.Idx → EReal) (x4 : S1x2048.Idx → EReal) (x5 : S1x2048.Idx → EReal) (x6 : S128x2048.Idx → EReal) (x7 : S128x2048.Idx → EReal) (y : S1x2048.Idx) :
    k0_pay13 (F := Ideal) (k0_pay12 x0 x1 x2 x4 x7) y = ∑ p : Fin 128, dscale (fun k => x0 (ix2 p k)) (fun k => x1 (ix2 p k)) (fun k => x2 (ix2 0 k)) (fun k => x4 (ix2 0 k)) (fun k => x7 (ix2 p k)) (y 1) := by
  unfold k0_pay12 k0_pay11 k0_pay8 k0_pay7 k0_pay5 k0_pay4 k0_pay3 k0_pay13 dscale meanSq count total
  pointwise

/-- Output 12's block, element by element. -/
theorem value_12 (x0 : S128x2048.Idx → EReal) (x1 : S128x2048.Idx → EReal) (x2 : S1x2048.Idx → EReal) (x3 : S1x2048.Idx → EReal) (x4 : S1x2048.Idx → EReal) (x5 : S1x2048.Idx → EReal) (x6 : S128x2048.Idx → EReal) (x7 : S128x2048.Idx → EReal) (y : S1x2048.Idx) :
    k0_pay10 (F := Ideal) x0 x1 x2 x3 x7 y = ∑ p : Fin 128, dfactor (fun k => x0 (ix2 p k)) (fun k => x1 (ix2 p k)) (fun k => x2 (ix2 0 k)) (fun k => x3 (ix2 0 k)) (fun k => x7 (ix2 p k)) (y 1) := by
  unfold k0_pay10 k0_pay8 k0_pay7 k0_pay5 k0_pay4 k0_pay3 dfactor meanSq count total
  pointwise

/-- Output 13's block, element by element. -/
theorem value_13 (x0 : S128x2048.Idx → EReal) (x1 : S128x2048.Idx → EReal) (x2 : S1x2048.Idx → EReal) (x3 : S1x2048.Idx → EReal) (x4 : S1x2048.Idx → EReal) (x5 : S1x2048.Idx → EReal) (x6 : S128x2048.Idx → EReal) (x7 : S128x2048.Idx → EReal) (y : S1x2048.Idx) :
    k0_pay9 (F := Ideal) x7 y = ∑ p : Fin 128, dshift (fun k => x7 (ix2 p k)) (y 1) := by
  unfold k0_pay9 dshift
  pointwise

variable (m : (ℓ : Loc nD τ sig) → Buf (Elt Ideal) ℓ)

/-- The row of the whole array that a row of a point's block is. -/
def place (t : Fin cfg0.N) (p : Fin 128) : Fin 2048 := ⟨128 * t.val + p.val, by have h := t.isLt; have hN : cfg0.N = 16 := N_0; omega⟩

theorem block_0 (c : Dev nD) (t : Fin cfg0.N) (p : Fin 128) :
    (fun k : Fin 2048 => (iblk m c 0 t (ix2 p k) : EReal)) = fun k => m (c.tc.loc main_arg0) (ix2 (place t p) k) := by
  funext k
  have hi := (by decide +kernel : ∀ t : Fin grid0.N, win0_0.index t 0 = t.val ∧ win0_0.index t 1 = 0) t
  unfold iblk
  rw [View.read_apply]
  show m (c.tc.loc main_arg0) _ = m (c.tc.loc main_arg0) _
  refine congrArg _ (funext fun a => Fin.ext ?_)
  match a with
  | ⟨0, _⟩ => show win0_0.index t 0 * 128 + 1 * p.val = 128 * t.val + p.val; rw [hi.1]; omega
  | ⟨1, _⟩ => show win0_0.index t 1 * 2048 + 1 * k.val = k.val; rw [hi.2]; omega

theorem block_1 (c : Dev nD) (t : Fin cfg0.N) (p : Fin 128) :
    (fun k : Fin 2048 => (iblk m c 1 t (ix2 p k) : EReal)) = fun k => m (c.tc.loc main_arg1) (ix2 (place t p) k) := by
  funext k
  have hi := (by decide +kernel : ∀ t : Fin grid0.N, win0_1.index t 0 = t.val ∧ win0_1.index t 1 = 0) t
  unfold iblk
  rw [View.read_apply]
  show m (c.tc.loc main_arg1) _ = m (c.tc.loc main_arg1) _
  refine congrArg _ (funext fun a => Fin.ext ?_)
  match a with
  | ⟨0, _⟩ => show win0_1.index t 0 * 128 + 1 * p.val = 128 * t.val + p.val; rw [hi.1]; omega
  | ⟨1, _⟩ => show win0_1.index t 1 * 2048 + 1 * k.val = k.val; rw [hi.2]; omega

theorem block_2 (c : Dev nD) (t : Fin cfg0.N) :
    (fun k : Fin 2048 => (iblk m c 2 t (ix2 0 k) : EReal)) = fun k => m (c.tc.loc main_arg2) (ix2 0 k) := by
  funext k
  have hi := (by decide +kernel : ∀ t : Fin grid0.N, win0_2.index t 0 = 0 ∧ win0_2.index t 1 = 0) t
  unfold iblk
  rw [View.read_apply]
  show m (c.tc.loc main_arg2) _ = m (c.tc.loc main_arg2) _
  refine congrArg _ (funext fun a => Fin.ext ?_)
  match a with
  | ⟨0, _⟩ => show win0_2.index t 0 * 1 + 1 * 0 = 0; rw [hi.1]
  | ⟨1, _⟩ => show win0_2.index t 1 * 2048 + 1 * k.val = k.val; rw [hi.2]; omega

theorem block_3 (c : Dev nD) (t : Fin cfg0.N) :
    (fun k : Fin 2048 => (iblk m c 3 t (ix2 0 k) : EReal)) = fun k => m (c.tc.loc main_arg3) (ix2 0 k) := by
  funext k
  have hi := (by decide +kernel : ∀ t : Fin grid0.N, win0_3.index t 0 = 0 ∧ win0_3.index t 1 = 0) t
  unfold iblk
  rw [View.read_apply]
  show m (c.tc.loc main_arg3) _ = m (c.tc.loc main_arg3) _
  refine congrArg _ (funext fun a => Fin.ext ?_)
  match a with
  | ⟨0, _⟩ => show win0_3.index t 0 * 1 + 1 * 0 = 0; rw [hi.1]
  | ⟨1, _⟩ => show win0_3.index t 1 * 2048 + 1 * k.val = k.val; rw [hi.2]; omega

theorem block_4 (c : Dev nD) (t : Fin cfg0.N) :
    (fun k : Fin 2048 => (iblk m c 4 t (ix2 0 k) : EReal)) = fun k => m (c.tc.loc main_arg4) (ix2 0 k) := by
  funext k
  have hi := (by decide +kernel : ∀ t : Fin grid0.N, win0_4.index t 0 = 0 ∧ win0_4.index t 1 = 0) t
  unfold iblk
  rw [View.read_apply]
  show m (c.tc.loc main_arg4) _ = m (c.tc.loc main_arg4) _
  refine congrArg _ (funext fun a => Fin.ext ?_)
  match a with
  | ⟨0, _⟩ => show win0_4.index t 0 * 1 + 1 * 0 = 0; rw [hi.1]
  | ⟨1, _⟩ => show win0_4.index t 1 * 2048 + 1 * k.val = k.val; rw [hi.2]; omega

theorem block_5 (c : Dev nD) (t : Fin cfg0.N) :
    (fun k : Fin 2048 => (iblk m c 5 t (ix2 0 k) : EReal)) = fun k => m (c.tc.loc main_arg5) (ix2 0 k) := by
  funext k
  have hi := (by decide +kernel : ∀ t : Fin grid0.N, win0_5.index t 0 = 0 ∧ win0_5.index t 1 = 0) t
  unfold iblk
  rw [View.read_apply]
  show m (c.tc.loc main_arg5) _ = m (c.tc.loc main_arg5) _
  refine congrArg _ (funext fun a => Fin.ext ?_)
  match a with
  | ⟨0, _⟩ => show win0_5.index t 0 * 1 + 1 * 0 = 0; rw [hi.1]
  | ⟨1, _⟩ => show win0_5.index t 1 * 2048 + 1 * k.val = k.val; rw [hi.2]; omega

theorem block_6 (c : Dev nD) (t : Fin cfg0.N) (p : Fin 128) :
    (fun k : Fin 2048 => (iblk m c 6 t (ix2 p k) : EReal)) = fun k => m (c.tc.loc main_arg6) (ix2 (place t p) k) := by
  funext k
  have hi := (by decide +kernel : ∀ t : Fin grid0.N, win0_6.index t 0 = t.val ∧ win0_6.index t 1 = 0) t
  unfold iblk
  rw [View.read_apply]
  show m (c.tc.loc main_arg6) _ = m (c.tc.loc main_arg6) _
  refine congrArg _ (funext fun a => Fin.ext ?_)
  match a with
  | ⟨0, _⟩ => show win0_6.index t 0 * 128 + 1 * p.val = 128 * t.val + p.val; rw [hi.1]; omega
  | ⟨1, _⟩ => show win0_6.index t 1 * 2048 + 1 * k.val = k.val; rw [hi.2]; omega

theorem block_7 (c : Dev nD) (t : Fin cfg0.N) (p : Fin 128) :
    (fun k : Fin 2048 => (iblk m c 7 t (ix2 p k) : EReal)) = fun k => m (c.tc.loc main_arg7) (ix2 (place t p) k) := by
  funext k
  have hi := (by decide +kernel : ∀ t : Fin grid0.N, win0_7.index t 0 = t.val ∧ win0_7.index t 1 = 0) t
  unfold iblk
  rw [View.read_apply]
  show m (c.tc.loc main_arg7) _ = m (c.tc.loc main_arg7) _
  refine congrArg _ (funext fun a => Fin.ext ?_)
  match a with
  | ⟨0, _⟩ => show win0_7.index t 0 * 128 + 1 * p.val = 128 * t.val + p.val; rw [hi.1]; omega
  | ⟨1, _⟩ => show win0_7.index t 1 * 2048 + 1 * k.val = k.val; rw [hi.2]; omega

/-- Result 0 in whole. -/
def full_8 (x0 : S2048x2048.Idx → EReal) (x1 : S2048x2048.Idx → EReal) (x2 : S1x2048.Idx → EReal) (x3 : S1x2048.Idx → EReal) (x4 : S1x2048.Idx → EReal) (x6 : S2048x2048.Idx → EReal) (x7 : S2048x2048.Idx → EReal) : S2048x2048.Idx → EReal := fun j => dx (fun k => x0 (ix2 (j 0) k)) (fun k => x1 (ix2 (j 0) k)) (fun k => x2 (ix2 0 k)) (fun k => x3 (ix2 0 k)) (fun k => x4 (ix2 0 k)) (fun k => x6 (ix2 (j 0) k)) (fun k => x7 (ix2 (j 0) k)) (j 1)

theorem held_8 (c : Dev nD) (t : Fin cfg0.N) : (outsAt0 m c t.val t.isLt).1 = k0_pay14 (iblk m c 3 t) (iblk m c 6 t) (k0_pay3 (iblk m c 0 t) (iblk m c 1 t) (iblk m c 2 t)) (k0_pay5 (iblk m c 0 t) (iblk m c 1 t) (iblk m c 2 t)) (k0_pay6 (iblk m c 0 t) (iblk m c 1 t) (iblk m c 2 t)) (k0_pay11 (iblk m c 4 t) (iblk m c 7 t)) := by
  have hN : cfg0.N = 16 := N_0
  have hlt := t.isLt
  by_cases h : t.val % 16 = 0
  · have g : ¬1 ≤ t.val := by omega
    simp only [outsAt0_A m c t h g h g h g h g, leftA_8]
  · have g : 1 ≤ t.val := by omega
    simp only [outsAt0_B m c t h g h g h g h g, leftB_8]

theorem flushed_eq_8 (c : Dev nD) (t : Fin cfg0.N) :
    (dats m 0 c).flushed 8 t = ((cfg0.win 8).blk t).view.read (Elt Ideal) (full_8 (m (c.tc.loc main_arg0)) (m (c.tc.loc main_arg1)) (m (c.tc.loc main_arg2)) (m (c.tc.loc main_arg3)) (m (c.tc.loc main_arg4)) (m (c.tc.loc main_arg6)) (m (c.tc.loc main_arg7))) := by
  rw [flushed8, held_8]
  funext y
  have hi := (by decide +kernel : ∀ t : Fin grid0.N, win0_8.index t 0 = t.val ∧ win0_8.index t 1 = 0) t
  have e : ((View.whole main_v0_0).slice ((win0 8).rect t)).emb y = ix2 (place t (y 0)) (y 1) := by
    funext a
    refine Fin.ext ?_
    match a with
    | ⟨0, _⟩ => show win0_8.index t 0 * 128 + 1 * (y 0).val = 128 * t.val + (y 0).val; rw [hi.1]; omega
    | ⟨1, _⟩ => show win0_8.index t 1 * 2048 + 1 * (y 1).val = (y 1).val; rw [hi.2]; omega
  refine (value_8 (iblk m c 0 t) (iblk m c 1 t) (iblk m c 2 t) (iblk m c 3 t) (iblk m c 4 t) (iblk m c 5 t) (iblk m c 6 t) (iblk m c 7 t) y).trans ?_
  rw [View.read_apply]
  show _ = full_8 (m (c.tc.loc main_arg0)) (m (c.tc.loc main_arg1)) (m (c.tc.loc main_arg2)) (m (c.tc.loc main_arg3)) (m (c.tc.loc main_arg4)) (m (c.tc.loc main_arg6)) (m (c.tc.loc main_arg7)) (((View.whole main_v0_0).slice ((win0 8).rect t)).emb y)
  rw [e]
  have q : ∀ (p : Fin 128) (j : Fin 2048), dx (fun k => iblk m c 0 t (ix2 p k)) (fun k => iblk m c 1 t (ix2 p k)) (fun k => iblk m c 2 t (ix2 0 k)) (fun k => iblk m c 3 t (ix2 0 k)) (fun k => iblk m c 4 t (ix2 0 k)) (fun k => iblk m c 6 t (ix2 p k)) (fun k => iblk m c 7 t (ix2 p k)) j
      = dx (fun k => m (c.tc.loc main_arg0) (ix2 (place t p) k)) (fun k => m (c.tc.loc main_arg1) (ix2 (place t p) k)) (fun k => m (c.tc.loc main_arg2) (ix2 0 k)) (fun k => m (c.tc.loc main_arg3) (ix2 0 k)) (fun k => m (c.tc.loc main_arg4) (ix2 0 k)) (fun k => m (c.tc.loc main_arg6) (ix2 (place t p) k)) (fun k => m (c.tc.loc main_arg7) (ix2 (place t p) k)) j := by
    intro p j
    rw [block_0, block_1, block_2, block_3, block_4, block_6, block_7]
  exact q (y 0) (y 1)

theorem covered_8 (i : S2048x2048.Idx) : ∃ t : Fin cfg0.N, (cfg0.win 8).flush t = true ∧ i ∈ ((cfg0.win 8).blk t).view.set := by
  have h0 : (i 0).val < 2048 := (i 0).isLt
  have h1 : (i 1).val < 2048 := (i 1).isLt
  obtain ⟨t, ht, e0, e1⟩ := (by decide +kernel : ∀ p0 : Fin 16, ∃ t : Fin grid0.N, win0_8.flush t = true
    ∧ win0_8.index t 0 = p0.val ∧ win0_8.index t 1 = 0) ⟨(i 0).val / 128, by omega⟩
  refine ⟨t, ht, ?_⟩
  show i ∈ ((View.whole main_v0_0).slice (win0_8.rect t)).set
  rw [View.set_slice_whole, Rect.mem_set_unit]
  intro a
  match a with
  | ⟨0, _⟩ => show win0_8.index t 0 * 128 ≤ (i 0).val ∧ (i 0).val < win0_8.index t 0 * 128 + 128; rw [e0]; simp only [] <;> omega
  | ⟨1, _⟩ => show win0_8.index t 1 * 2048 ≤ (i 1).val ∧ (i 1).val < win0_8.index t 1 * 2048 + 2048; rw [e1]; omega

/-- Result 0 after the run. -/
theorem final_8 (c : Dev nD) : (dats m 0 c).arrAt 8 cfg0.N = full_8 (m (c.tc.loc main_arg0)) (m (c.tc.loc main_arg1)) (m (c.tc.loc main_arg2)) (m (c.tc.loc main_arg3)) (m (c.tc.loc main_arg4)) (m (c.tc.loc main_arg6)) (m (c.tc.loc main_arg7)) :=
  (dats m 0 c).arrAt_eq_of_cover 8 _ (fun t _ => flushed_eq_8 m c t) covered_8

/-- Result 1 in whole. -/
def full_9 (x0 : S2048x2048.Idx → EReal) (x1 : S2048x2048.Idx → EReal) (x2 : S1x2048.Idx → EReal) (x3 : S1x2048.Idx → EReal) (x4 : S1x2048.Idx → EReal) (x6 : S2048x2048.Idx → EReal) (x7 : S2048x2048.Idx → EReal) : S2048x2048.Idx → EReal := fun j => dmix (fun k => x0 (ix2 (j 0) k)) (fun k => x1 (ix2 (j 0) k)) (fun k => x2 (ix2 0 k)) (fun k => x3 (ix2 0 k)) (fun k => x4 (ix2 0 k)) (fun k => x6 (ix2 (j 0) k)) (fun k => x7 (ix2 (j 0) k)) (j 1)

theorem held_9 (c : Dev nD) (t : Fin cfg0.N) : (outsAt0 m c t.val t.isLt).2.1 = k0_pay17 (iblk m c 2 t) (iblk m c 3 t) (iblk m c 6 t) (k0_pay3 (iblk m c 0 t) (iblk m c 1 t) (iblk m c 2 t)) (k0_pay5 (iblk m c 0 t) (iblk m c 1 t) (iblk m c 2 t)) (k0_pay6 (iblk m c 0 t) (iblk m c 1 t) (iblk m c 2 t)) (k0_pay11 (iblk m c 4 t) (iblk m c 7 t)) := by
  have hN : cfg0.N = 16 := N_0
  have hlt := t.isLt
  by_cases h : t.val % 16 = 0
  · have g : ¬1 ≤ t.val := by omega
    simp only [outsAt0_A m c t h g h g h g h g, leftA_9]
  · have g : 1 ≤ t.val := by omega
    simp only [outsAt0_B m c t h g h g h g h g, leftB_9]

theorem flushed_eq_9 (c : Dev nD) (t : Fin cfg0.N) :
    (dats m 0 c).flushed 9 t = ((cfg0.win 9).blk t).view.read (Elt Ideal) (full_9 (m (c.tc.loc main_arg0)) (m (c.tc.loc main_arg1)) (m (c.tc.loc main_arg2)) (m (c.tc.loc main_arg3)) (m (c.tc.loc main_arg4)) (m (c.tc.loc main_arg6)) (m (c.tc.loc main_arg7))) := by
  rw [flushed9, held_9]
  funext y
  have hi := (by decide +kernel : ∀ t : Fin grid0.N, win0_9.index t 0 = t.val ∧ win0_9.index t 1 = 0) t
  have e : ((View.whole main_v0_1).slice ((win0 9).rect t)).emb y = ix2 (place t (y 0)) (y 1) := by
    funext a
    refine Fin.ext ?_
    match a with
    | ⟨0, _⟩ => show win0_9.index t 0 * 128 + 1 * (y 0).val = 128 * t.val + (y 0).val; rw [hi.1]; omega
    | ⟨1, _⟩ => show win0_9.index t 1 * 2048 + 1 * (y 1).val = (y 1).val; rw [hi.2]; omega
  refine (value_9 (iblk m c 0 t) (iblk m c 1 t) (iblk m c 2 t) (iblk m c 3 t) (iblk m c 4 t) (iblk m c 5 t) (iblk m c 6 t) (iblk m c 7 t) y).trans ?_
  rw [View.read_apply]
  show _ = full_9 (m (c.tc.loc main_arg0)) (m (c.tc.loc main_arg1)) (m (c.tc.loc main_arg2)) (m (c.tc.loc main_arg3)) (m (c.tc.loc main_arg4)) (m (c.tc.loc main_arg6)) (m (c.tc.loc main_arg7)) (((View.whole main_v0_1).slice ((win0 9).rect t)).emb y)
  rw [e]
  have q : ∀ (p : Fin 128) (j : Fin 2048), dmix (fun k => iblk m c 0 t (ix2 p k)) (fun k => iblk m c 1 t (ix2 p k)) (fun k => iblk m c 2 t (ix2 0 k)) (fun k => iblk m c 3 t (ix2 0 k)) (fun k => iblk m c 4 t (ix2 0 k)) (fun k => iblk m c 6 t (ix2 p k)) (fun k => iblk m c 7 t (ix2 p k)) j
      = dmix (fun k => m (c.tc.loc main_arg0) (ix2 (place t p) k)) (fun k => m (c.tc.loc main_arg1) (ix2 (place t p) k)) (fun k => m (c.tc.loc main_arg2) (ix2 0 k)) (fun k => m (c.tc.loc main_arg3) (ix2 0 k)) (fun k => m (c.tc.loc main_arg4) (ix2 0 k)) (fun k => m (c.tc.loc main_arg6) (ix2 (place t p) k)) (fun k => m (c.tc.loc main_arg7) (ix2 (place t p) k)) j := by
    intro p j
    rw [block_0, block_1, block_2, block_3, block_4, block_6, block_7]
  exact q (y 0) (y 1)

theorem covered_9 (i : S2048x2048.Idx) : ∃ t : Fin cfg0.N, (cfg0.win 9).flush t = true ∧ i ∈ ((cfg0.win 9).blk t).view.set := by
  have h0 : (i 0).val < 2048 := (i 0).isLt
  have h1 : (i 1).val < 2048 := (i 1).isLt
  obtain ⟨t, ht, e0, e1⟩ := (by decide +kernel : ∀ p0 : Fin 16, ∃ t : Fin grid0.N, win0_9.flush t = true
    ∧ win0_9.index t 0 = p0.val ∧ win0_9.index t 1 = 0) ⟨(i 0).val / 128, by omega⟩
  refine ⟨t, ht, ?_⟩
  show i ∈ ((View.whole main_v0_1).slice (win0_9.rect t)).set
  rw [View.set_slice_whole, Rect.mem_set_unit]
  intro a
  match a with
  | ⟨0, _⟩ => show win0_9.index t 0 * 128 ≤ (i 0).val ∧ (i 0).val < win0_9.index t 0 * 128 + 128; rw [e0]; simp only [] <;> omega
  | ⟨1, _⟩ => show win0_9.index t 1 * 2048 ≤ (i 1).val ∧ (i 1).val < win0_9.index t 1 * 2048 + 2048; rw [e1]; omega

/-- Result 1 after the run. -/
theorem final_9 (c : Dev nD) : (dats m 0 c).arrAt 9 cfg0.N = full_9 (m (c.tc.loc main_arg0)) (m (c.tc.loc main_arg1)) (m (c.tc.loc main_arg2)) (m (c.tc.loc main_arg3)) (m (c.tc.loc main_arg4)) (m (c.tc.loc main_arg6)) (m (c.tc.loc main_arg7)) :=
  (dats m 0 c).arrAt_eq_of_cover 9 _ (fun t _ => flushed_eq_9 m c t) covered_9

/-- Result 2 in whole: the sum over all rows. -/
def full_10 (x0 : S2048x2048.Idx → EReal) (x1 : S2048x2048.Idx → EReal) (x2 : S1x2048.Idx → EReal) (x3 : S1x2048.Idx → EReal) (x4 : S1x2048.Idx → EReal) (x6 : S2048x2048.Idx → EReal) (x7 : S2048x2048.Idx → EReal) : S1x2048.Idx → EReal := fun j => ∑ r : Fin 2048, dgate (fun k => x0 (ix2 r k)) (fun k => x1 (ix2 r k)) (fun k => x2 (ix2 0 k)) (fun k => x3 (ix2 0 k)) (fun k => x4 (ix2 0 k)) (fun k => x6 (ix2 r k)) (fun k => x7 (ix2 r k)) (j 1)

/-- What a point adds to result 2. -/
def add_10 (c : Dev nD) (n : ℕ) : S1x2048.Idx → EReal := fun y =>
  if h : n < cfg0.N then ∑ p : Fin 128, dgate (fun k => iblk m c 0 ⟨n, h⟩ (ix2 p k)) (fun k => iblk m c 1 ⟨n, h⟩ (ix2 p k)) (fun k => iblk m c 2 ⟨n, h⟩ (ix2 0 k)) (fun k => iblk m c 3 ⟨n, h⟩ (ix2 0 k)) (fun k => iblk m c 4 ⟨n, h⟩ (ix2 0 k)) (fun k => iblk m c 6 ⟨n, h⟩ (ix2 p k)) (fun k => iblk m c 7 ⟨n, h⟩ (ix2 p k)) (y 1) else 0

theorem begin_10 (c : Dev nD) (t : Fin cfg0.N) (h : t.val % 16 = 0) (y : S1x2048.Idx) :
    (outsAt0 m c t.val t.isLt).2.2.1 y = add_10 m c t.val y := by
  have hN : cfg0.N = 16 := N_0
  have hlt := t.isLt
  have g : ¬1 ≤ t.val := by omega
  simp only [outsAt0_A m c t h g h g h g h g, leftA_10]
  unfold add_10
  rw [dif_pos hlt]
  exact value_10 (iblk m c 0 t) (iblk m c 1 t) (iblk m c 2 t) (iblk m c 3 t) (iblk m c 4 t) (iblk m c 5 t) (iblk m c 6 t) (iblk m c 7 t) y

theorem step_10 (c : Dev nD) (t : Fin cfg0.N) (h : ¬t.val % 16 = 0) (y : S1x2048.Idx) :
    (outsAt0 m c t.val t.isLt).2.2.1 y
      = (outsAt0 m c (t.val - 1) (Nat.lt_of_le_of_lt (Nat.sub_le _ _) t.isLt)).2.2.1 y + add_10 m c t.val y := by
  have hN : cfg0.N = 16 := N_0
  have hlt := t.isLt
  have g : 1 ≤ t.val := by omega
  have v := value_10 (iblk m c 0 t) (iblk m c 1 t) (iblk m c 2 t) (iblk m c 3 t) (iblk m c 4 t) (iblk m c 5 t) (iblk m c 6 t) (iblk m c 7 t) y
  simp only [outsAt0_B m c t h g h g h g h g, leftB_10]
  unfold add_10
  rw [dif_pos hlt]
  generalize (outsAt0 m c (t.val - 1) (Nat.lt_of_le_of_lt (Nat.sub_le _ _) t.isLt)).2.2.1 = acc
  refine Eq.trans ?_ (congrArg (fun u : EReal => acc y + u) v)
  unfold k0_pay18
  rw [shapeCast_self]
  rfl

/-- Result 2's block after a point: the sum of what the points so far have added. -/
theorem running_10 (c : Dev nD) (y : S1x2048.Idx) : ∀ (n : ℕ) (hn : n < cfg0.N),
    (outsAt0 m c n hn).2.2.1 y = ∑ s ∈ Finset.range (n + 1), add_10 m c s y
  | 0, hn => by
    rw [Finset.sum_range_one]
    exact begin_10 m c ⟨0, hn⟩ rfl y
  | n + 1, hn => by
    have hN : cfg0.N = 16 := N_0
    rw [Finset.sum_range_succ, ← running_10 c y n (by omega)]
    exact step_10 m c ⟨n + 1, hn⟩ (by show ¬(n + 1) % 16 = 0; omega) y

theorem flushed_eq_10 (c : Dev nD) (t : Fin cfg0.N) (hf : (cfg0.win 10).flush t = true) :
    (dats m 0 c).flushed 10 t = ((cfg0.win 10).blk t).view.read (Elt Ideal) (full_10 (m (c.tc.loc main_arg0)) (m (c.tc.loc main_arg1)) (m (c.tc.loc main_arg2)) (m (c.tc.loc main_arg3)) (m (c.tc.loc main_arg4)) (m (c.tc.loc main_arg6)) (m (c.tc.loc main_arg7))) := by
  have hN : cfg0.N = 16 := N_0
  have hlt := t.isLt
  have hm : t.val % 16 = 15 := (flush0_10 t).mp hf
  rw [flushed10]
  funext y
  have hi := (by decide +kernel : ∀ t : Fin grid0.N, win0_10.index t 0 = 0 ∧ win0_10.index t 1 = 0) t
  have e : ((View.whole main_v0_2).slice ((win0 10).rect t)).emb y = y := by
    funext a
    refine Fin.ext ?_
    match a with
    | ⟨0, _⟩ => show win0_10.index t 0 * 1 + 1 * (y 0).val = (y 0).val; rw [hi.1]; omega
    | ⟨1, _⟩ => show win0_10.index t 1 * 2048 + 1 * (y 1).val = (y 1).val; rw [hi.2]; omega
  refine (running_10 m c y t.val t.isLt).trans ?_
  rw [View.read_apply]
  show _ = full_10 (m (c.tc.loc main_arg0)) (m (c.tc.loc main_arg1)) (m (c.tc.loc main_arg2)) (m (c.tc.loc main_arg3)) (m (c.tc.loc main_arg4)) (m (c.tc.loc main_arg6)) (m (c.tc.loc main_arg7)) (((View.whole main_v0_2).slice ((win0 10).rect t)).emb y)
  rw [e, show t.val + 1 = 16 by omega, Finset.sum_range]
  unfold full_10
  have e2 : ∀ s : Fin 16, add_10 m c s.val y = ∑ p : Fin 128, dgate (fun k => m (c.tc.loc main_arg0) (ix2 (place ⟨s.val, by omega⟩ p) k)) (fun k => m (c.tc.loc main_arg1) (ix2 (place ⟨s.val, by omega⟩ p) k)) (fun k => m (c.tc.loc main_arg2) (ix2 0 k)) (fun k => m (c.tc.loc main_arg3) (ix2 0 k)) (fun k => m (c.tc.loc main_arg4) (ix2 0 k)) (fun k => m (c.tc.loc main_arg6) (ix2 (place ⟨s.val, by omega⟩ p) k)) (fun k => m (c.tc.loc main_arg7) (ix2 (place ⟨s.val, by omega⟩ p) k)) (y 1) := by
    intro s
    unfold add_10
    rw [dif_pos (by omega)]
    refine Finset.sum_congr rfl fun p _ => ?_
    rw [block_0, block_1, block_2, block_3, block_4, block_6, block_7]
  rw [Finset.sum_congr rfl fun s _ => e2 s]
  refine sum_blocks (by norm_num) _ _ fun s p r hr => ?_
  rw [show place ⟨s.val, by omega⟩ p = r from Fin.ext hr.symm]

theorem covered_10 (i : S1x2048.Idx) : ∃ t : Fin cfg0.N, (cfg0.win 10).flush t = true ∧ i ∈ ((cfg0.win 10).blk t).view.set := by
  have h0 : (i 0).val < 1 := (i 0).isLt
  have h1 : (i 1).val < 2048 := (i 1).isLt
  obtain ⟨t, ht, e0, e1⟩ := (by decide +kernel : ∃ t : Fin grid0.N, win0_10.flush t = true
    ∧ win0_10.index t 0 = 0 ∧ win0_10.index t 1 = 0)
  refine ⟨t, ht, ?_⟩
  show i ∈ ((View.whole main_v0_2).slice (win0_10.rect t)).set
  rw [View.set_slice_whole, Rect.mem_set_unit]
  intro a
  match a with
  | ⟨0, _⟩ => show win0_10.index t 0 * 1 ≤ (i 0).val ∧ (i 0).val < win0_10.index t 0 * 1 + 1; rw [e0]; omega
  | ⟨1, _⟩ => show win0_10.index t 1 * 2048 ≤ (i 1).val ∧ (i 1).val < win0_10.index t 1 * 2048 + 2048; rw [e1]; omega

/-- Result 2 after the run. -/
theorem final_10 (c : Dev nD) : (dats m 0 c).arrAt 10 cfg0.N = full_10 (m (c.tc.loc main_arg0)) (m (c.tc.loc main_arg1)) (m (c.tc.loc main_arg2)) (m (c.tc.loc main_arg3)) (m (c.tc.loc main_arg4)) (m (c.tc.loc main_arg6)) (m (c.tc.loc main_arg7)) :=
  (dats m 0 c).arrAt_eq_of_cover 10 _ (flushed_eq_10 m c) covered_10

/-- Result 3 in whole: the sum over all rows. -/
def full_11 (x0 : S2048x2048.Idx → EReal) (x1 : S2048x2048.Idx → EReal) (x2 : S1x2048.Idx → EReal) (x4 : S1x2048.Idx → EReal) (x7 : S2048x2048.Idx → EReal) : S1x2048.Idx → EReal := fun j => ∑ r : Fin 2048, dscale (fun k => x0 (ix2 r k)) (fun k => x1 (ix2 r k)) (fun k => x2 (ix2 0 k)) (fun k => x4 (ix2 0 k)) (fun k => x7 (ix2 r k)) (j 1)

/-- What a point adds to result 3. -/
def add_11 (c : Dev nD) (n : ℕ) : S1x2048.Idx → EReal := fun y =>
  if h : n < cfg0.N then ∑ p : Fin 128, dscale (fun k => iblk m c 0 ⟨n, h⟩ (ix2 p k)) (fun k => iblk m c 1 ⟨n, h⟩ (ix2 p k)) (fun k => iblk m c 2 ⟨n, h⟩ (ix2 0 k)) (fun k => iblk m c 4 ⟨n, h⟩ (ix2 0 k)) (fun k => iblk m c 7 ⟨n, h⟩ (ix2 p k)) (y 1) else 0

theorem begin_11 (c : Dev nD) (t : Fin cfg0.N) (h : t.val % 16 = 0) (y : S1x2048.Idx) :
    (outsAt0 m c t.val t.isLt).2.2.2.1 y = add_11 m c t.val y := by
  have hN : cfg0.N = 16 := N_0
  have hlt := t.isLt
  have g : ¬1 ≤ t.val := by omega
  simp only [outsAt0_A m c t h g h g h g h g, leftA_11]
  unfold add_11
  rw [dif_pos hlt]
  exact value_11 (iblk m c 0 t) (iblk m c 1 t) (iblk m c 2 t) (iblk m c 3 t) (iblk m c 4 t) (iblk m c 5 t) (iblk m c 6 t) (iblk m c 7 t) y

theorem step_11 (c : Dev nD) (t : Fin cfg0.N) (h : ¬t.val % 16 = 0) (y : S1x2048.Idx) :
    (outsAt0 m c t.val t.isLt).2.2.2.1 y
      = (outsAt0 m c (t.val - 1) (Nat.lt_of_le_of_lt (Nat.sub_le _ _) t.isLt)).2.2.2.1 y + add_11 m c t.val y := by
  have hN : cfg0.N = 16 := N_0
  have hlt := t.isLt
  have g : 1 ≤ t.val := by omega
  have v := value_11 (iblk m c 0 t) (iblk m c 1 t) (iblk m c 2 t) (iblk m c 3 t) (iblk m c 4 t) (iblk m c 5 t) (iblk m c 6 t) (iblk m c 7 t) y
  simp only [outsAt0_B m c t h g h g h g h g, leftB_11]
  unfold add_11
  rw [dif_pos hlt]
  generalize (outsAt0 m c (t.val - 1) (Nat.lt_of_le_of_lt (Nat.sub_le _ _) t.isLt)).2.2.2.1 = acc
  refine Eq.trans ?_ (congrArg (fun u : EReal => acc y + u) v)
  unfold k0_pay19
  rw [shapeCast_self]
  rfl

/-- Result 3's block after a point: the sum of what the points so far have added. -/
theorem running_11 (c : Dev nD) (y : S1x2048.Idx) : ∀ (n : ℕ) (hn : n < cfg0.N),
    (outsAt0 m c n hn).2.2.2.1 y = ∑ s ∈ Finset.range (n + 1), add_11 m c s y
  | 0, hn => by
    rw [Finset.sum_range_one]
    exact begin_11 m c ⟨0, hn⟩ rfl y
  | n + 1, hn => by
    have hN : cfg0.N = 16 := N_0
    rw [Finset.sum_range_succ, ← running_11 c y n (by omega)]
    exact step_11 m c ⟨n + 1, hn⟩ (by show ¬(n + 1) % 16 = 0; omega) y

theorem flushed_eq_11 (c : Dev nD) (t : Fin cfg0.N) (hf : (cfg0.win 11).flush t = true) :
    (dats m 0 c).flushed 11 t = ((cfg0.win 11).blk t).view.read (Elt Ideal) (full_11 (m (c.tc.loc main_arg0)) (m (c.tc.loc main_arg1)) (m (c.tc.loc main_arg2)) (m (c.tc.loc main_arg4)) (m (c.tc.loc main_arg7))) := by
  have hN : cfg0.N = 16 := N_0
  have hlt := t.isLt
  have hm : t.val % 16 = 15 := (flush0_11 t).mp hf
  rw [flushed11]
  funext y
  have hi := (by decide +kernel : ∀ t : Fin grid0.N, win0_11.index t 0 = 0 ∧ win0_11.index t 1 = 0) t
  have e : ((View.whole main_v0_3).slice ((win0 11).rect t)).emb y = y := by
    funext a
    refine Fin.ext ?_
    match a with
    | ⟨0, _⟩ => show win0_11.index t 0 * 1 + 1 * (y 0).val = (y 0).val; rw [hi.1]; omega
    | ⟨1, _⟩ => show win0_11.index t 1 * 2048 + 1 * (y 1).val = (y 1).val; rw [hi.2]; omega
  refine (running_11 m c y t.val t.isLt).trans ?_
  rw [View.read_apply]
  show _ = full_11 (m (c.tc.loc main_arg0)) (m (c.tc.loc main_arg1)) (m (c.tc.loc main_arg2)) (m (c.tc.loc main_arg4)) (m (c.tc.loc main_arg7)) (((View.whole main_v0_3).slice ((win0 11).rect t)).emb y)
  rw [e, show t.val + 1 = 16 by omega, Finset.sum_range]
  unfold full_11
  have e2 : ∀ s : Fin 16, add_11 m c s.val y = ∑ p : Fin 128, dscale (fun k => m (c.tc.loc main_arg0) (ix2 (place ⟨s.val, by omega⟩ p) k)) (fun k => m (c.tc.loc main_arg1) (ix2 (place ⟨s.val, by omega⟩ p) k)) (fun k => m (c.tc.loc main_arg2) (ix2 0 k)) (fun k => m (c.tc.loc main_arg4) (ix2 0 k)) (fun k => m (c.tc.loc main_arg7) (ix2 (place ⟨s.val, by omega⟩ p) k)) (y 1) := by
    intro s
    unfold add_11
    rw [dif_pos (by omega)]
    refine Finset.sum_congr rfl fun p _ => ?_
    rw [block_0, block_1, block_2, block_4, block_7]
  rw [Finset.sum_congr rfl fun s _ => e2 s]
  refine sum_blocks (by norm_num) _ _ fun s p r hr => ?_
  rw [show place ⟨s.val, by omega⟩ p = r from Fin.ext hr.symm]

theorem covered_11 (i : S1x2048.Idx) : ∃ t : Fin cfg0.N, (cfg0.win 11).flush t = true ∧ i ∈ ((cfg0.win 11).blk t).view.set := by
  have h0 : (i 0).val < 1 := (i 0).isLt
  have h1 : (i 1).val < 2048 := (i 1).isLt
  obtain ⟨t, ht, e0, e1⟩ := (by decide +kernel : ∃ t : Fin grid0.N, win0_11.flush t = true
    ∧ win0_11.index t 0 = 0 ∧ win0_11.index t 1 = 0)
  refine ⟨t, ht, ?_⟩
  show i ∈ ((View.whole main_v0_3).slice (win0_11.rect t)).set
  rw [View.set_slice_whole, Rect.mem_set_unit]
  intro a
  match a with
  | ⟨0, _⟩ => show win0_11.index t 0 * 1 ≤ (i 0).val ∧ (i 0).val < win0_11.index t 0 * 1 + 1; rw [e0]; omega
  | ⟨1, _⟩ => show win0_11.index t 1 * 2048 ≤ (i 1).val ∧ (i 1).val < win0_11.index t 1 * 2048 + 2048; rw [e1]; omega

/-- Result 3 after the run. -/
theorem final_11 (c : Dev nD) : (dats m 0 c).arrAt 11 cfg0.N = full_11 (m (c.tc.loc main_arg0)) (m (c.tc.loc main_arg1)) (m (c.tc.loc main_arg2)) (m (c.tc.loc main_arg4)) (m (c.tc.loc main_arg7)) :=
  (dats m 0 c).arrAt_eq_of_cover 11 _ (flushed_eq_11 m c) covered_11

/-- Result 4 in whole: the sum over all rows. -/
def full_12 (x0 : S2048x2048.Idx → EReal) (x1 : S2048x2048.Idx → EReal) (x2 : S1x2048.Idx → EReal) (x3 : S1x2048.Idx → EReal) (x7 : S2048x2048.Idx → EReal) : S1x2048.Idx → EReal := fun j => ∑ r : Fin 2048, dfactor (fun k => x0 (ix2 r k)) (fun k => x1 (ix2 r k)) (fun k => x2 (ix2 0 k)) (fun k => x3 (ix2 0 k)) (fun k => x7 (ix2 r k)) (j 1)

/-- What a point adds to result 4. -/
def add_12 (c : Dev nD) (n : ℕ) : S1x2048.Idx → EReal := fun y =>
  if h : n < cfg0.N then ∑ p : Fin 128, dfactor (fun k => iblk m c 0 ⟨n, h⟩ (ix2 p k)) (fun k => iblk m c 1 ⟨n, h⟩ (ix2 p k)) (fun k => iblk m c 2 ⟨n, h⟩ (ix2 0 k)) (fun k => iblk m c 3 ⟨n, h⟩ (ix2 0 k)) (fun k => iblk m c 7 ⟨n, h⟩ (ix2 p k)) (y 1) else 0

theorem begin_12 (c : Dev nD) (t : Fin cfg0.N) (h : t.val % 16 = 0) (y : S1x2048.Idx) :
    (outsAt0 m c t.val t.isLt).2.2.2.2.1 y = add_12 m c t.val y := by
  have hN : cfg0.N = 16 := N_0
  have hlt := t.isLt
  have g : ¬1 ≤ t.val := by omega
  simp only [outsAt0_A m c t h g h g h g h g, leftA_12]
  unfold add_12
  rw [dif_pos hlt]
  exact value_12 (iblk m c 0 t) (iblk m c 1 t) (iblk m c 2 t) (iblk m c 3 t) (iblk m c 4 t) (iblk m c 5 t) (iblk m c 6 t) (iblk m c 7 t) y

theorem step_12 (c : Dev nD) (t : Fin cfg0.N) (h : ¬t.val % 16 = 0) (y : S1x2048.Idx) :
    (outsAt0 m c t.val t.isLt).2.2.2.2.1 y
      = (outsAt0 m c (t.val - 1) (Nat.lt_of_le_of_lt (Nat.sub_le _ _) t.isLt)).2.2.2.2.1 y + add_12 m c t.val y := by
  have hN : cfg0.N = 16 := N_0
  have hlt := t.isLt
  have g : 1 ≤ t.val := by omega
  have v := value_12 (iblk m c 0 t) (iblk m c 1 t) (iblk m c 2 t) (iblk m c 3 t) (iblk m c 4 t) (iblk m c 5 t) (iblk m c 6 t) (iblk m c 7 t) y
  simp only [outsAt0_B m c t h g h g h g h g, leftB_12]
  unfold add_12
  rw [dif_pos hlt]
  generalize (outsAt0 m c (t.val - 1) (Nat.lt_of_le_of_lt (Nat.sub_le _ _) t.isLt)).2.2.2.2.1 = acc
  refine Eq.trans ?_ (congrArg (fun u : EReal => acc y + u) v)
  unfold k0_pay1
  rw [shapeCast_self]
  rfl

/-- Result 4's block after a point: the sum of what the points so far have added. -/
theorem running_12 (c : Dev nD) (y : S1x2048.Idx) : ∀ (n : ℕ) (hn : n < cfg0.N),
    (outsAt0 m c n hn).2.2.2.2.1 y = ∑ s ∈ Finset.range (n + 1), add_12 m c s y
  | 0, hn => by
    rw [Finset.sum_range_one]
    exact begin_12 m c ⟨0, hn⟩ rfl y
  | n + 1, hn => by
    have hN : cfg0.N = 16 := N_0
    rw [Finset.sum_range_succ, ← running_12 c y n (by omega)]
    exact step_12 m c ⟨n + 1, hn⟩ (by show ¬(n + 1) % 16 = 0; omega) y

theorem flushed_eq_12 (c : Dev nD) (t : Fin cfg0.N) (hf : (cfg0.win 12).flush t = true) :
    (dats m 0 c).flushed 12 t = ((cfg0.win 12).blk t).view.read (Elt Ideal) (full_12 (m (c.tc.loc main_arg0)) (m (c.tc.loc main_arg1)) (m (c.tc.loc main_arg2)) (m (c.tc.loc main_arg3)) (m (c.tc.loc main_arg7))) := by
  have hN : cfg0.N = 16 := N_0
  have hlt := t.isLt
  have hm : t.val % 16 = 15 := (flush0_12 t).mp hf
  rw [flushed12]
  funext y
  have hi := (by decide +kernel : ∀ t : Fin grid0.N, win0_12.index t 0 = 0 ∧ win0_12.index t 1 = 0) t
  have e : ((View.whole main_v0_4).slice ((win0 12).rect t)).emb y = y := by
    funext a
    refine Fin.ext ?_
    match a with
    | ⟨0, _⟩ => show win0_12.index t 0 * 1 + 1 * (y 0).val = (y 0).val; rw [hi.1]; omega
    | ⟨1, _⟩ => show win0_12.index t 1 * 2048 + 1 * (y 1).val = (y 1).val; rw [hi.2]; omega
  refine (running_12 m c y t.val t.isLt).trans ?_
  rw [View.read_apply]
  show _ = full_12 (m (c.tc.loc main_arg0)) (m (c.tc.loc main_arg1)) (m (c.tc.loc main_arg2)) (m (c.tc.loc main_arg3)) (m (c.tc.loc main_arg7)) (((View.whole main_v0_4).slice ((win0 12).rect t)).emb y)
  rw [e, show t.val + 1 = 16 by omega, Finset.sum_range]
  unfold full_12
  have e2 : ∀ s : Fin 16, add_12 m c s.val y = ∑ p : Fin 128, dfactor (fun k => m (c.tc.loc main_arg0) (ix2 (place ⟨s.val, by omega⟩ p) k)) (fun k => m (c.tc.loc main_arg1) (ix2 (place ⟨s.val, by omega⟩ p) k)) (fun k => m (c.tc.loc main_arg2) (ix2 0 k)) (fun k => m (c.tc.loc main_arg3) (ix2 0 k)) (fun k => m (c.tc.loc main_arg7) (ix2 (place ⟨s.val, by omega⟩ p) k)) (y 1) := by
    intro s
    unfold add_12
    rw [dif_pos (by omega)]
    refine Finset.sum_congr rfl fun p _ => ?_
    rw [block_0, block_1, block_2, block_3, block_7]
  rw [Finset.sum_congr rfl fun s _ => e2 s]
  refine sum_blocks (by norm_num) _ _ fun s p r hr => ?_
  rw [show place ⟨s.val, by omega⟩ p = r from Fin.ext hr.symm]

theorem covered_12 (i : S1x2048.Idx) : ∃ t : Fin cfg0.N, (cfg0.win 12).flush t = true ∧ i ∈ ((cfg0.win 12).blk t).view.set := by
  have h0 : (i 0).val < 1 := (i 0).isLt
  have h1 : (i 1).val < 2048 := (i 1).isLt
  obtain ⟨t, ht, e0, e1⟩ := (by decide +kernel : ∃ t : Fin grid0.N, win0_12.flush t = true
    ∧ win0_12.index t 0 = 0 ∧ win0_12.index t 1 = 0)
  refine ⟨t, ht, ?_⟩
  show i ∈ ((View.whole main_v0_4).slice (win0_12.rect t)).set
  rw [View.set_slice_whole, Rect.mem_set_unit]
  intro a
  match a with
  | ⟨0, _⟩ => show win0_12.index t 0 * 1 ≤ (i 0).val ∧ (i 0).val < win0_12.index t 0 * 1 + 1; rw [e0]; omega
  | ⟨1, _⟩ => show win0_12.index t 1 * 2048 ≤ (i 1).val ∧ (i 1).val < win0_12.index t 1 * 2048 + 2048; rw [e1]; omega

/-- Result 4 after the run. -/
theorem final_12 (c : Dev nD) : (dats m 0 c).arrAt 12 cfg0.N = full_12 (m (c.tc.loc main_arg0)) (m (c.tc.loc main_arg1)) (m (c.tc.loc main_arg2)) (m (c.tc.loc main_arg3)) (m (c.tc.loc main_arg7)) :=
  (dats m 0 c).arrAt_eq_of_cover 12 _ (flushed_eq_12 m c) covered_12

/-- Result 5 in whole: the sum over all rows. -/
def full_13 (x7 : S2048x2048.Idx → EReal) : S1x2048.Idx → EReal := fun j => ∑ r : Fin 2048, dshift (fun k => x7 (ix2 r k)) (j 1)

/-- What a point adds to result 5. -/
def add_13 (c : Dev nD) (n : ℕ) : S1x2048.Idx → EReal := fun y =>
  if h : n < cfg0.N then ∑ p : Fin 128, dshift (fun k => iblk m c 7 ⟨n, h⟩ (ix2 p k)) (y 1) else 0

theorem begin_13 (c : Dev nD) (t : Fin cfg0.N) (h : t.val % 16 = 0) (y : S1x2048.Idx) :
    (outsAt0 m c t.val t.isLt).2.2.2.2.2 y = add_13 m c t.val y := by
  have hN : cfg0.N = 16 := N_0
  have hlt := t.isLt
  have g : ¬1 ≤ t.val := by omega
  simp only [outsAt0_A m c t h g h g h g h g, leftA_13]
  unfold add_13
  rw [dif_pos hlt]
  exact value_13 (iblk m c 0 t) (iblk m c 1 t) (iblk m c 2 t) (iblk m c 3 t) (iblk m c 4 t) (iblk m c 5 t) (iblk m c 6 t) (iblk m c 7 t) y

theorem step_13 (c : Dev nD) (t : Fin cfg0.N) (h : ¬t.val % 16 = 0) (y : S1x2048.Idx) :
    (outsAt0 m c t.val t.isLt).2.2.2.2.2 y
      = (outsAt0 m c (t.val - 1) (Nat.lt_of_le_of_lt (Nat.sub_le _ _) t.isLt)).2.2.2.2.2 y + add_13 m c t.val y := by
  have hN : cfg0.N = 16 := N_0
  have hlt := t.isLt
  have g : 1 ≤ t.val := by omega
  have v := value_13 (iblk m c 0 t) (iblk m c 1 t) (iblk m c 2 t) (iblk m c 3 t) (iblk m c 4 t) (iblk m c 5 t) (iblk m c 6 t) (iblk m c 7 t) y
  simp only [outsAt0_B m c t h g h g h g h g, leftB_13]
  unfold add_13
  rw [dif_pos hlt]
  generalize (outsAt0 m c (t.val - 1) (Nat.lt_of_le_of_lt (Nat.sub_le _ _) t.isLt)).2.2.2.2.2 = acc
  refine Eq.trans ?_ (congrArg (fun u : EReal => acc y + u) v)
  unfold k0_pay2
  rw [shapeCast_self]
  rfl

/-- Result 5's block after a point: the sum of what the points so far have added. -/
theorem running_13 (c : Dev nD) (y : S1x2048.Idx) : ∀ (n : ℕ) (hn : n < cfg0.N),
    (outsAt0 m c n hn).2.2.2.2.2 y = ∑ s ∈ Finset.range (n + 1), add_13 m c s y
  | 0, hn => by
    rw [Finset.sum_range_one]
    exact begin_13 m c ⟨0, hn⟩ rfl y
  | n + 1, hn => by
    have hN : cfg0.N = 16 := N_0
    rw [Finset.sum_range_succ, ← running_13 c y n (by omega)]
    exact step_13 m c ⟨n + 1, hn⟩ (by show ¬(n + 1) % 16 = 0; omega) y

theorem flushed_eq_13 (c : Dev nD) (t : Fin cfg0.N) (hf : (cfg0.win 13).flush t = true) :
    (dats m 0 c).flushed 13 t = ((cfg0.win 13).blk t).view.read (Elt Ideal) (full_13 (m (c.tc.loc main_arg7))) := by
  have hN : cfg0.N = 16 := N_0
  have hlt := t.isLt
  have hm : t.val % 16 = 15 := (flush0_13 t).mp hf
  rw [flushed13]
  funext y
  have hi := (by decide +kernel : ∀ t : Fin grid0.N, win0_13.index t 0 = 0 ∧ win0_13.index t 1 = 0) t
  have e : ((View.whole main_v0_5).slice ((win0 13).rect t)).emb y = y := by
    funext a
    refine Fin.ext ?_
    match a with
    | ⟨0, _⟩ => show win0_13.index t 0 * 1 + 1 * (y 0).val = (y 0).val; rw [hi.1]; omega
    | ⟨1, _⟩ => show win0_13.index t 1 * 2048 + 1 * (y 1).val = (y 1).val; rw [hi.2]; omega
  refine (running_13 m c y t.val t.isLt).trans ?_
  rw [View.read_apply]
  show _ = full_13 (m (c.tc.loc main_arg7)) (((View.whole main_v0_5).slice ((win0 13).rect t)).emb y)
  rw [e, show t.val + 1 = 16 by omega, Finset.sum_range]
  unfold full_13
  have e2 : ∀ s : Fin 16, add_13 m c s.val y = ∑ p : Fin 128, dshift (fun k => m (c.tc.loc main_arg7) (ix2 (place ⟨s.val, by omega⟩ p) k)) (y 1) := by
    intro s
    unfold add_13
    rw [dif_pos (by omega)]
    refine Finset.sum_congr rfl fun p _ => ?_
    rw [block_7]
  rw [Finset.sum_congr rfl fun s _ => e2 s]
  refine sum_blocks (by norm_num) _ _ fun s p r hr => ?_
  rw [show place ⟨s.val, by omega⟩ p = r from Fin.ext hr.symm]

theorem covered_13 (i : S1x2048.Idx) : ∃ t : Fin cfg0.N, (cfg0.win 13).flush t = true ∧ i ∈ ((cfg0.win 13).blk t).view.set := by
  have h0 : (i 0).val < 1 := (i 0).isLt
  have h1 : (i 1).val < 2048 := (i 1).isLt
  obtain ⟨t, ht, e0, e1⟩ := (by decide +kernel : ∃ t : Fin grid0.N, win0_13.flush t = true
    ∧ win0_13.index t 0 = 0 ∧ win0_13.index t 1 = 0)
  refine ⟨t, ht, ?_⟩
  show i ∈ ((View.whole main_v0_5).slice (win0_13.rect t)).set
  rw [View.set_slice_whole, Rect.mem_set_unit]
  intro a
  match a with
  | ⟨0, _⟩ => show win0_13.index t 0 * 1 ≤ (i 0).val ∧ (i 0).val < win0_13.index t 0 * 1 + 1; rw [e0]; omega
  | ⟨1, _⟩ => show win0_13.index t 1 * 2048 ≤ (i 1).val ∧ (i 1).val < win0_13.index t 1 * 2048 + 2048; rw [e1]; omega

/-- Result 5 after the run. -/
theorem final_13 (c : Dev nD) : (dats m 0 c).arrAt 13 cfg0.N = full_13 (m (c.tc.loc main_arg7)) :=
  (dats m 0 c).arrAt_eq_of_cover 13 _ (flushed_eq_13 m c) covered_13

set_option maxHeartbeats 2000000 in
/-- The call and its reference leave the same results. -/
theorem algebraic : Cert.algebraic_Norm2BwdIdeal_Norm2BwdRefIdeal (hNorm2BwdIdeal := Cert.Norm2BwdIdeal.Gen.facts)
    (hNorm2BwdRefIdeal := Cert.Norm2BwdRefIdeal.Gen.facts) := by
  intro m g m' g' _ hargs
  refine ⟨fun c => full_8 (m (c.tc.loc main_arg0)) (m (c.tc.loc main_arg1)) (m (c.tc.loc main_arg2)) (m (c.tc.loc main_arg3)) (m (c.tc.loc main_arg4)) (m (c.tc.loc main_arg6)) (m (c.tc.loc main_arg7)), fun c => full_9 (m (c.tc.loc main_arg0)) (m (c.tc.loc main_arg1)) (m (c.tc.loc main_arg2)) (m (c.tc.loc main_arg3)) (m (c.tc.loc main_arg4)) (m (c.tc.loc main_arg6)) (m (c.tc.loc main_arg7)), fun c => full_10 (m (c.tc.loc main_arg0)) (m (c.tc.loc main_arg1)) (m (c.tc.loc main_arg2)) (m (c.tc.loc main_arg3)) (m (c.tc.loc main_arg4)) (m (c.tc.loc main_arg6)) (m (c.tc.loc main_arg7)), fun c => full_11 (m (c.tc.loc main_arg0)) (m (c.tc.loc main_arg1)) (m (c.tc.loc main_arg2)) (m (c.tc.loc main_arg4)) (m (c.tc.loc main_arg7)), fun c => full_12 (m (c.tc.loc main_arg0)) (m (c.tc.loc main_arg1)) (m (c.tc.loc main_arg2)) (m (c.tc.loc main_arg3)) (m (c.tc.loc main_arg7)), fun c => full_13 (m (c.tc.loc main_arg7)), ?_, ?_⟩
  · refine (θ_run (Cert.Norm2BwdIdeal.defs (F := Ideal)) _ _).mono (fun r h c => ?_) (run_blocks m g)
    obtain ⟨v0, v1, v2, v3, v4, v5, k⟩ := h c
    exact ⟨v0.trans (final_8 m c), v1.trans (final_9 m c), v2.trans (final_10 m c), v3.trans (final_11 m c), v4.trans (final_12 m c), v5.trans (final_13 m c), k⟩
  · refine (θ_run (Cert.Norm2BwdRefIdeal.defs (F := Ideal)) _ _).mono (fun r h c => ?_) (Cert.Norm2BwdRefIdeal.Value.run (F := Ideal) m' g')
    obtain ⟨v0, v1, v2, v3, v4, v5, k⟩ := h c
    obtain ⟨e0, e1, e2, e3, e4, e5, e6, e7⟩ := hargs c
    refine ⟨v0.trans ?_, v1.trans ?_, v2.trans ?_, v3.trans ?_, v4.trans ?_, v5.trans ?_, k⟩
    · funext i
      try unfold Cert.Norm2BwdRefIdeal.Value.res_main_v57
      try unfold Cert.Norm2BwdRefIdeal.Value.res_main_v58
      try unfold Cert.Norm2BwdRefIdeal.Value.res_main_v51
      rw [e0, e1, e2, e3, e4, e6, e7]
      show _ = full_8 (m (c.tc.loc main_arg0)) (m (c.tc.loc main_arg1)) (m (c.tc.loc main_arg2)) (m (c.tc.loc main_arg3)) (m (c.tc.loc main_arg4)) (m (c.tc.loc main_arg6)) (m (c.tc.loc main_arg7)) i
      unfold full_8 dx inner total addQuotGrad meanSq count
      pointwise
    · funext i
      try unfold Cert.Norm2BwdRefIdeal.Value.res_main_v57
      try unfold Cert.Norm2BwdRefIdeal.Value.res_main_v58
      try unfold Cert.Norm2BwdRefIdeal.Value.res_main_v51
      rw [e0, e1, e2, e3, e4, e6, e7]
      show _ = full_9 (m (c.tc.loc main_arg0)) (m (c.tc.loc main_arg1)) (m (c.tc.loc main_arg2)) (m (c.tc.loc main_arg3)) (m (c.tc.loc main_arg4)) (m (c.tc.loc main_arg6)) (m (c.tc.loc main_arg7)) i
      unfold full_9 dmix dx inner total addQuotGrad meanSq count
      pointwise
    · funext i
      try unfold Cert.Norm2BwdRefIdeal.Value.res_main_v57
      try unfold Cert.Norm2BwdRefIdeal.Value.res_main_v58
      try unfold Cert.Norm2BwdRefIdeal.Value.res_main_v51
      rw [e0, e1, e2, e3, e4, e6, e7]
      show _ = full_10 (m (c.tc.loc main_arg0)) (m (c.tc.loc main_arg1)) (m (c.tc.loc main_arg2)) (m (c.tc.loc main_arg3)) (m (c.tc.loc main_arg4)) (m (c.tc.loc main_arg6)) (m (c.tc.loc main_arg7)) i
      unfold full_10 dgate dx inner total addQuotGrad meanSq count
      pointwise
    · funext i
      try unfold Cert.Norm2BwdRefIdeal.Value.res_main_v57
      try unfold Cert.Norm2BwdRefIdeal.Value.res_main_v58
      try unfold Cert.Norm2BwdRefIdeal.Value.res_main_v51
      rw [e0, e1, e2, e4, e7]
      show _ = full_11 (m (c.tc.loc main_arg0)) (m (c.tc.loc main_arg1)) (m (c.tc.loc main_arg2)) (m (c.tc.loc main_arg4)) (m (c.tc.loc main_arg7)) i
      unfold full_11 dscale meanSq count total
      pointwise
    · funext i
      try unfold Cert.Norm2BwdRefIdeal.Value.res_main_v57
      try unfold Cert.Norm2BwdRefIdeal.Value.res_main_v58
      try unfold Cert.Norm2BwdRefIdeal.Value.res_main_v51
      rw [e0, e1, e2, e3, e7]
      show _ = full_12 (m (c.tc.loc main_arg0)) (m (c.tc.loc main_arg1)) (m (c.tc.loc main_arg2)) (m (c.tc.loc main_arg3)) (m (c.tc.loc main_arg7)) i
      unfold full_12 dfactor meanSq count total
      pointwise
    · funext i
      try unfold Cert.Norm2BwdRefIdeal.Value.res_main_v57
      try unfold Cert.Norm2BwdRefIdeal.Value.res_main_v58
      try unfold Cert.Norm2BwdRefIdeal.Value.res_main_v51
      rw [e7]
      show _ = full_13 (m (c.tc.loc main_arg7)) i
      unfold full_13 dshift
      pointwise

end Cert.Norm2BwdIdeal.Value
-- ==== Proof.LossBwd.lean ====
/- The gradient of the loss head: the gradients of every row, and the sums over the rows for the gate, the scale and the loss itself. -/
module

public import proofs.«01_k».proof.Defs
public import proofs.«01_k».proof.Proof.Gen.LossBwdIdeal.Value
public import proofs.«01_k».proof.Proof.Gen.LossBwdRefIdeal.Run
public import proofs.«01_k».proof.Proof.Rows

@[expose] public section

noncomputable section

namespace Cert.LossBwdIdeal.Value

open Cert.LossBwdIdeal Cert.LossBwdIdeal.Gen Idealize.ShloMosaic Idealize.ShloMosaic.TcCoe Idealize.SL.Sem Cert.Blocks Cert.Rows
open Idealize.ShloMosaic.Pipeline (Dat)

/-- The length of a row, as the programs write it. -/
def count : EReal := Ideal.ofBits .f32 0x45000000#32

/-- The sum of the residual, in one row. -/
def total (x w t : Fin 2048 → EReal) (k : Fin 2048) : EReal := x k + t k * w k

/-- The error of a row. -/
def err (x w t g y : Fin 2048 → EReal) (k : Fin 2048) : EReal :=
  total x w t k * Ideal.rsqrt (meanSq count (total x w t)) * g k - y k

/-- The gradient of the norm's output, in one row. -/
def outer (x w t g y : Fin 2048 → EReal) (k : Fin 2048) : EReal :=
  Ideal.div (Ideal.ofBits .f32 0x3F000000#32) count * (Ideal.ofBits .f32 0x40000000#32 * err x w t g y k)

/-- The gradient of the quotient, in one row. -/
def inner (x w t g y : Fin 2048 → EReal) (k : Fin 2048) : EReal := outer x w t g y k * g k

/-- The gradient of a row of the residual's sum. -/
def dx (x w t g y : Fin 2048 → EReal) (j : Fin 2048) : EReal := quotGrad count (total x w t) (inner x w t g y) j

/-- The gradient of a row of the last layer's output. -/
def dlast (x w t g y : Fin 2048 → EReal) (j : Fin 2048) : EReal := t j * dx x w t g y j

/-- What a row adds to the gradient of the gate. -/
def dgate (x w t g y : Fin 2048 → EReal) (j : Fin 2048) : EReal := dx x w t g y j * w j

/-- What a row adds to the gradient of the scale. -/
def dscale (x w t g y : Fin 2048 → EReal) (j : Fin 2048) : EReal :=
  total x w t j * Ideal.rsqrt (meanSq count (total x w t)) * outer x w t g y j

/-- What a row adds to the loss. -/
def rowLoss (x w t g y : Fin 2048 → EReal) (_ : Fin 128) : EReal :=
  Ideal.ofBits .f32 0x3F000000#32 * Ideal.div (∑ k, err x w t g y k * err x w t g y k) count

section

variable {F : FTy → Type} [FloatOps F]

/-- What the first point leaves in output 5's block. -/
theorem leftA_5 (c i a0 h0 a1 h1 a2 h2 a3 h3 a4 h4 a5 h5 a6 h6 a7 h7 a8 h8 a9 h9 k0 k1 k2 k3 k4 k5 x0 x1 x2 x3 x4) :
    out0_A_5 (F := F) c i a0 h0 a1 h1 a2 h2 a3 h3 a4 h4 a5 h5 a6 h6 a7 h7 a8 h8 a9 h9 k0 k1 k2 k3 k4 k5 x0 x1 x2 x3 x4 = k0_pay14 x3 (k0_pay3 x0 x1 x2) (k0_pay5 x0 x1 x2) (k0_pay6 x0 x1 x2) (k0_pay9 x0 x1 x2 x3 x4) k0_pay11 (Scalar.ofBits .f32 0x45000000#32) := by
  unfold out0_A_5
  rw [View.read_writes_eq_canon _ _ _ (cover0_A_5 c i a0 h0 a1 h1 a2 h2 a3 h3 a4 h4 a5 h5 a6 h6 a7 h7 a8 h8 a9 h9 k0 k1 k2 k3 k4 k5 x0 x1 x2 x3 x4)]
  unfold kernelRun0_A
  dsimp only
  sl_unfold_words
  rw [View.canon_unit_zero (S := S128x2048) hz2]
  simp only [View.readAt_eq_ld, h0.read_unread, h1.read_unread, h2.read_unread, h3.read_unread, h4.read_unread, h5.read_unread, h6.read_unread, h7.read_unread, h8.read_unread, h9.read_unread, View.ld_unit_zero (S := S128x2048) hz2, View.ld_unit_zero (S := S1x2048) hz2, View.ld_unit_zero (S := S1x128) hz2]

/-- What a later point leaves in output 5's block. -/
theorem leftB_5 (c i a0 h0 a1 h1 a2 h2 a3 h3 a4 h4 a5 h5 a6 h6 a7 h7 a8 h8 a9 h9 k0 k1 k2 k3 k4 k5 x0 x1 x2 x3 x4 o7 o8 o9) :
    out0_B_5 (F := F) c i a0 h0 a1 h1 a2 h2 a3 h3 a4 h4 a5 h5 a6 h6 a7 h7 a8 h8 a9 h9 k0 k1 k2 k3 k4 k5 x0 x1 x2 x3 x4 o7 o8 o9 = k0_pay14 x3 (k0_pay3 x0 x1 x2) (k0_pay5 x0 x1 x2) (k0_pay6 x0 x1 x2) (k0_pay9 x0 x1 x2 x3 x4) k0_pay11 (Scalar.ofBits .f32 0x45000000#32) := by
  unfold out0_B_5
  rw [View.read_writes_eq_canon _ _ _ (cover0_B_5 c i a0 h0 a1 h1 a2 h2 a3 h3 a4 h4 a5 h5 a6 h6 a7 h7 a8 h8 a9 h9 k0 k1 k2 k3 k4 k5 x0 x1 x2 x3 x4 o7 o8 o9)]
  unfold kernelRun0_B
  dsimp only
  sl_unfold_words
  rw [View.canon_unit_zero (S := S128x2048) hz2]
  simp only [View.readAt_eq_ld, h0.read_unread, h1.read_unread, h2.read_unread, h3.read_unread, h4.read_unread, h5.read_unread, h6.read_unread, h7.read_unread, h8.read_unread, h9.read_unread, View.ld_unit_zero (S := S128x2048) hz2, View.ld_unit_zero (S := S1x2048) hz2, View.ld_unit_zero (S := S1x128) hz2]

/-- What the first point leaves in output 6's block. -/
theorem leftA_6 (c i a0 h0 a1 h1 a2 h2 a3 h3 a4 h4 a5 h5 a6 h6 a7 h7 a8 h8 a9 h9 k0 k1 k2 k3 k4 k5 x0 x1 x2 x3 x4) :
    out0_A_6 (F := F) c i a0 h0 a1 h1 a2 h2 a3 h3 a4 h4 a5 h5 a6 h6 a7 h7 a8 h8 a9 h9 k0 k1 k2 k3 k4 k5 x0 x1 x2 x3 x4 = k0_pay17 x2 x3 (k0_pay3 x0 x1 x2) (k0_pay5 x0 x1 x2) (k0_pay6 x0 x1 x2) (k0_pay9 x0 x1 x2 x3 x4) k0_pay11 (Scalar.ofBits .f32 0x45000000#32) := by
  unfold out0_A_6
  rw [View.read_writes_eq_canon _ _ _ (cover0_A_6 c i a0 h0 a1 h1 a2 h2 a3 h3 a4 h4 a5 h5 a6 h6 a7 h7 a8 h8 a9 h9 k0 k1 k2 k3 k4 k5 x0 x1 x2 x3 x4)]
  unfold kernelRun0_A
  dsimp only
  sl_unfold_words
  rw [View.canon_unit_zero (S := S128x2048) hz2]
  simp only [View.readAt_eq_ld, h0.read_unread, h1.read_unread, h2.read_unread, h3.read_unread, h4.read_unread, h5.read_unread, h6.read_unread, h7.read_unread, h8.read_unread, h9.read_unread, View.ld_unit_zero (S := S128x2048) hz2, View.ld_unit_zero (S := S1x2048) hz2, View.ld_unit_zero (S := S1x128) hz2]

/-- What a later point leaves in output 6's block. -/
theorem leftB_6 (c i a0 h0 a1 h1 a2 h2 a3 h3 a4 h4 a5 h5 a6 h6 a7 h7 a8 h8 a9 h9 k0 k1 k2 k3 k4 k5 x0 x1 x2 x3 x4 o7 o8 o9) :
    out0_B_6 (F := F) c i a0 h0 a1 h1 a2 h2 a3 h3 a4 h4 a5 h5 a6 h6 a7 h7 a8 h8 a9 h9 k0 k1 k2 k3 k4 k5 x0 x1 x2 x3 x4 o7 o8 o9 = k0_pay17 x2 x3 (k0_pay3 x0 x1 x2) (k0_pay5 x0 x1 x2) (k0_pay6 x0 x1 x2) (k0_pay9 x0 x1 x2 x3 x4) k0_pay11 (Scalar.ofBits .f32 0x45000000#32) := by
  unfold out0_B_6
  rw [View.read_writes_eq_canon _ _ _ (cover0_B_6 c i a0 h0 a1 h1 a2 h2 a3 h3 a4 h4 a5 h5 a6 h6 a7 h7 a8 h8 a9 h9 k0 k1 k2 k3 k4 k5 x0 x1 x2 x3 x4 o7 o8 o9)]
  unfold kernelRun0_B
  dsimp only
  sl_unfold_words
  rw [View.canon_unit_zero (S := S128x2048) hz2]
  simp only [View.readAt_eq_ld, h0.read_unread, h1.read_unread, h2.read_unread, h3.read_unread, h4.read_unread, h5.read_unread, h6.read_unread, h7.read_unread, h8.read_unread, h9.read_unread, View.ld_unit_zero (S := S128x2048) hz2, View.ld_unit_zero (S := S1x2048) hz2, View.ld_unit_zero (S := S1x128) hz2]

/-- What the first point leaves in output 7's block. -/
theorem leftA_7 (c i a0 h0 a1 h1 a2 h2 a3 h3 a4 h4 a5 h5 a6 h6 a7 h7 a8 h8 a9 h9 k0 k1 k2 k3 k4 k5 x0 x1 x2 x3 x4) :
    out0_A_7 (F := F) c i a0 h0 a1 h1 a2 h2 a3 h3 a4 h4 a5 h5 a6 h6 a7 h7 a8 h8 a9 h9 k0 k1 k2 k3 k4 k5 x0 x1 x2 x3 x4 = k0_pay15 x1 x3 (k0_pay3 x0 x1 x2) (k0_pay5 x0 x1 x2) (k0_pay6 x0 x1 x2) (k0_pay9 x0 x1 x2 x3 x4) k0_pay11 (Scalar.ofBits .f32 0x45000000#32) := by
  unfold out0_A_7
  rw [View.read_writes_eq_canon _ _ _ (cover0_A_7 c i a0 h0 a1 h1 a2 h2 a3 h3 a4 h4 a5 h5 a6 h6 a7 h7 a8 h8 a9 h9 k0 k1 k2 k3 k4 k5 x0 x1 x2 x3 x4)]
  unfold kernelRun0_A
  dsimp only
  sl_unfold_words
  rw [View.canon_unit_zero (S := S1x2048) hz2]
  simp only [View.readAt_eq_ld, h0.read_unread, h1.read_unread, h2.read_unread, h3.read_unread, h4.read_unread, h5.read_unread, h6.read_unread, h7.read_unread, h8.read_unread, h9.read_unread, View.ld_unit_zero (S := S128x2048) hz2, View.ld_unit_zero (S := S1x2048) hz2, View.ld_unit_zero (S := S1x128) hz2]

/-- What a later point leaves in output 7's block. -/
theorem leftB_7 (c i a0 h0 a1 h1 a2 h2 a3 h3 a4 h4 a5 h5 a6 h6 a7 h7 a8 h8 a9 h9 k0 k1 k2 k3 k4 k5 x0 x1 x2 x3 x4 o7 o8 o9) :
    out0_B_7 (F := F) c i a0 h0 a1 h1 a2 h2 a3 h3 a4 h4 a5 h5 a6 h6 a7 h7 a8 h8 a9 h9 k0 k1 k2 k3 k4 k5 x0 x1 x2 x3 x4 o7 o8 o9 = k0_pay18 x1 x3 (k0_pay3 x0 x1 x2) (k0_pay5 x0 x1 x2) (k0_pay6 x0 x1 x2) (k0_pay9 x0 x1 x2 x3 x4) k0_pay11 (Scalar.ofBits .f32 0x45000000#32) o7 := by
  unfold out0_B_7
  rw [View.read_writes_eq_canon _ _ _ (cover0_B_7 c i a0 h0 a1 h1 a2 h2 a3 h3 a4 h4 a5 h5 a6 h6 a7 h7 a8 h8 a9 h9 k0 k1 k2 k3 k4 k5 x0 x1 x2 x3 x4 o7 o8 o9)]
  unfold kernelRun0_B
  dsimp only
  sl_unfold_words
  rw [View.canon_unit_zero (S := S1x2048) hz2]
  simp only [View.readAt_eq_ld, h0.read_unread, h1.read_unread, h2.read_unread, h3.read_unread, h4.read_unread, h5.read_unread, h6.read_unread, h7.read_unread, h8.read_unread, h9.read_unread, View.ld_unit_zero (S := S128x2048) hz2, View.ld_unit_zero (S := S1x2048) hz2, View.ld_unit_zero (S := S1x128) hz2]

/-- What the first point leaves in output 8's block. -/
theorem leftA_8 (c i a0 h0 a1 h1 a2 h2 a3 h3 a4 h4 a5 h5 a6 h6 a7 h7 a8 h8 a9 h9 k0 k1 k2 k3 k4 k5 x0 x1 x2 x3 x4) :
    out0_A_8 (F := F) c i a0 h0 a1 h1 a2 h2 a3 h3 a4 h4 a5 h5 a6 h6 a7 h7 a8 h8 a9 h9 k0 k1 k2 k3 k4 k5 x0 x1 x2 x3 x4 = k0_pay13 (k0_pay7 x0 x1 x2) (k0_pay9 x0 x1 x2 x3 x4) k0_pay11 (Scalar.ofBits .f32 0x45000000#32) := by
  unfold out0_A_8
  rw [View.read_writes_eq_canon _ _ _ (cover0_A_8 c i a0 h0 a1 h1 a2 h2 a3 h3 a4 h4 a5 h5 a6 h6 a7 h7 a8 h8 a9 h9 k0 k1 k2 k3 k4 k5 x0 x1 x2 x3 x4)]
  unfold kernelRun0_A
  dsimp only
  sl_unfold_words
  rw [View.canon_unit_zero (S := S1x2048) hz2]
  simp only [View.readAt_eq_ld, h0.read_unread, h1.read_unread, h2.read_unread, h3.read_unread, h4.read_unread, h5.read_unread, h6.read_unread, h7.read_unread, h8.read_unread, h9.read_unread, View.ld_unit_zero (S := S128x2048) hz2, View.ld_unit_zero (S := S1x2048) hz2, View.ld_unit_zero (S := S1x128) hz2]

/-- What a later point leaves in output 8's block. -/
theorem leftB_8 (c i a0 h0 a1 h1 a2 h2 a3 h3 a4 h4 a5 h5 a6 h6 a7 h7 a8 h8 a9 h9 k0 k1 k2 k3 k4 k5 x0 x1 x2 x3 x4 o7 o8 o9) :
    out0_B_8 (F := F) c i a0 h0 a1 h1 a2 h2 a3 h3 a4 h4 a5 h5 a6 h6 a7 h7 a8 h8 a9 h9 k0 k1 k2 k3 k4 k5 x0 x1 x2 x3 x4 o7 o8 o9 = k0_pay1 (k0_pay13 (k0_pay7 x0 x1 x2) (k0_pay9 x0 x1 x2 x3 x4) k0_pay11 (Scalar.ofBits .f32 0x45000000#32)) o8 := by
  unfold out0_B_8
  rw [View.read_writes_eq_canon _ _ _ (cover0_B_8 c i a0 h0 a1 h1 a2 h2 a3 h3 a4 h4 a5 h5 a6 h6 a7 h7 a8 h8 a9 h9 k0 k1 k2 k3 k4 k5 x0 x1 x2 x3 x4 o7 o8 o9)]
  unfold kernelRun0_B
  dsimp only
  sl_unfold_words
  rw [View.canon_unit_zero (S := S1x2048) hz2]
  simp only [View.readAt_eq_ld, h0.read_unread, h1.read_unread, h2.read_unread, h3.read_unread, h4.read_unread, h5.read_unread, h6.read_unread, h7.read_unread, h8.read_unread, h9.read_unread, View.ld_unit_zero (S := S128x2048) hz2, View.ld_unit_zero (S := S1x2048) hz2, View.ld_unit_zero (S := S1x128) hz2]

/-- What the first point leaves in output 9's block. -/
theorem leftA_9 (c i a0 h0 a1 h1 a2 h2 a3 h3 a4 h4 a5 h5 a6 h6 a7 h7 a8 h8 a9 h9 k0 k1 k2 k3 k4 k5 x0 x1 x2 x3 x4) :
    out0_A_9 (F := F) c i a0 h0 a1 h1 a2 h2 a3 h3 a4 h4 a5 h5 a6 h6 a7 h7 a8 h8 a9 h9 k0 k1 k2 k3 k4 k5 x0 x1 x2 x3 x4 = k0_pay16 (k0_pay10 x0 x1 x2 x3 x4) := by
  unfold out0_A_9
  rw [View.read_writes_eq_canon _ _ _ (cover0_A_9 c i a0 h0 a1 h1 a2 h2 a3 h3 a4 h4 a5 h5 a6 h6 a7 h7 a8 h8 a9 h9 k0 k1 k2 k3 k4 k5 x0 x1 x2 x3 x4)]
  unfold kernelRun0_A
  dsimp only
  sl_unfold_words
  rw [View.canon_unit_zero (S := S1x128) hz2]
  simp only [View.readAt_eq_ld, h0.read_unread, h1.read_unread, h2.read_unread, h3.read_unread, h4.read_unread, h5.read_unread, h6.read_unread, h7.read_unread, h8.read_unread, h9.read_unread, View.ld_unit_zero (S := S128x2048) hz2, View.ld_unit_zero (S := S1x2048) hz2, View.ld_unit_zero (S := S1x128) hz2]

/-- What a later point leaves in output 9's block. -/
theorem leftB_9 (c i a0 h0 a1 h1 a2 h2 a3 h3 a4 h4 a5 h5 a6 h6 a7 h7 a8 h8 a9 h9 k0 k1 k2 k3 k4 k5 x0 x1 x2 x3 x4 o7 o8 o9) :
    out0_B_9 (F := F) c i a0 h0 a1 h1 a2 h2 a3 h3 a4 h4 a5 h5 a6 h6 a7 h7 a8 h8 a9 h9 k0 k1 k2 k3 k4 k5 x0 x1 x2 x3 x4 o7 o8 o9 = k0_pay2 (k0_pay16 (k0_pay10 x0 x1 x2 x3 x4)) o9 := by
  unfold out0_B_9
  rw [View.read_writes_eq_canon _ _ _ (cover0_B_9 c i a0 h0 a1 h1 a2 h2 a3 h3 a4 h4 a5 h5 a6 h6 a7 h7 a8 h8 a9 h9 k0 k1 k2 k3 k4 k5 x0 x1 x2 x3 x4 o7 o8 o9)]
  unfold kernelRun0_B
  dsimp only
  sl_unfold_words
  rw [View.canon_unit_zero (S := S1x128) hz2]
  simp only [View.readAt_eq_ld, h0.read_unread, h1.read_unread, h2.read_unread, h3.read_unread, h4.read_unread, h5.read_unread, h6.read_unread, h7.read_unread, h8.read_unread, h9.read_unread, View.ld_unit_zero (S := S128x2048) hz2, View.ld_unit_zero (S := S1x2048) hz2, View.ld_unit_zero (S := S1x128) hz2]

end

/-- Output 5's block, element by element. -/
theorem value_5 (x0 : S128x2048.Idx → EReal) (x1 : S128x2048.Idx → EReal) (x2 : S1x2048.Idx → EReal) (x3 : S1x2048.Idx → EReal) (x4 : S128x2048.Idx → EReal) (y : S128x2048.Idx) :
    k0_pay14 (F := Ideal) x3 (k0_pay3 x0 x1 x2) (k0_pay5 x0 x1 x2) (k0_pay6 x0 x1 x2) (k0_pay9 x0 x1 x2 x3 x4) k0_pay11 (Scalar.ofBits .f32 0x45000000#32) y = dx (fun k => x0 (ix2 (y 0) k)) (fun k => x1 (ix2 (y 0) k)) (fun k => x2 (ix2 0 k)) (fun k => x3 (ix2 0 k)) (fun k => x4 (ix2 (y 0) k)) (y 1) := by
  unfold k0_pay11 k0_pay9 k0_pay8 k0_pay7 k0_pay6 k0_pay5 k0_pay4 k0_pay3 k0_pay14 k0_pay12 dx inner outer err total quotGrad meanSq count
  pointwise

/-- Output 6's block, element by element. -/
theorem value_6 (x0 : S128x2048.Idx → EReal) (x1 : S128x2048.Idx → EReal) (x2 : S1x2048.Idx → EReal) (x3 : S1x2048.Idx → EReal) (x4 : S128x2048.Idx → EReal) (y : S128x2048.Idx) :
    k0_pay17 (F := Ideal) x2 x3 (k0_pay3 x0 x1 x2) (k0_pay5 x0 x1 x2) (k0_pay6 x0 x1 x2) (k0_pay9 x0 x1 x2 x3 x4) k0_pay11 (Scalar.ofBits .f32 0x45000000#32) y = dlast (fun k => x0 (ix2 (y 0) k)) (fun k => x1 (ix2 (y 0) k)) (fun k => x2 (ix2 0 k)) (fun k => x3 (ix2 0 k)) (fun k => x4 (ix2 (y 0) k)) (y 1) := by
  unfold k0_pay11 k0_pay9 k0_pay8 k0_pay7 k0_pay6 k0_pay5 k0_pay4 k0_pay3 k0_pay17 k0_pay14 k0_pay12 dlast dx inner outer err total quotGrad meanSq count
  pointwise

/-- Output 7's block, element by element. -/
theorem value_7 (x0 : S128x2048.Idx → EReal) (x1 : S128x2048.Idx → EReal) (x2 : S1x2048.Idx → EReal) (x3 : S1x2048.Idx → EReal) (x4 : S128x2048.Idx → EReal) (y : S1x2048.Idx) :
    k0_pay15 (F := Ideal) x1 x3 (k0_pay3 x0 x1 x2) (k0_pay5 x0 x1 x2) (k0_pay6 x0 x1 x2) (k0_pay9 x0 x1 x2 x3 x4) k0_pay11 (Scalar.ofBits .f32 0x45000000#32) y = ∑ p : Fin 128, dgate (fun k => x0 (ix2 p k)) (fun k => x1 (ix2 p k)) (fun k => x2 (ix2 0 k)) (fun k => x3 (ix2 0 k)) (fun k => x4 (ix2 p k)) (y 1) := by
  unfold k0_pay11 k0_pay9 k0_pay8 k0_pay7 k0_pay6 k0_pay5 k0_pay4 k0_pay3 k0_pay15 k0_pay14 k0_pay12 dgate dx inner outer err total quotGrad meanSq count
  pointwise

/-- Output 8's block, element by element. -/
theorem value_8 (x0 : S128x2048.Idx → EReal) (x1 : S128x2048.Idx → EReal) (x2 : S1x2048.Idx → EReal) (x3 : S1x2048.Idx → EReal) (x4 : S128x2048.Idx → EReal) (y : S1x2048.Idx) :
    k0_pay13 (F := Ideal) (k0_pay7 x0 x1 x2) (k0_pay9 x0 x1 x2 x3 x4) k0_pay11 (Scalar.ofBits .f32 0x45000000#32) y = ∑ p : Fin 128, dscale (fun k => x0 (ix2 p k)) (fun k => x1 (ix2 p k)) (fun k => x2 (ix2 0 k)) (fun k => x3 (ix2 0 k)) (fun k => x4 (ix2 p k)) (y 1) := by
  unfold k0_pay11 k0_pay9 k0_pay8 k0_pay7 k0_pay5 k0_pay4 k0_pay3 k0_pay13 k0_pay12 dscale outer err meanSq count total
  pointwise

/-- Output 9's block, element by element. -/
theorem value_9 (x0 : S128x2048.Idx → EReal) (x1 : S128x2048.Idx → EReal) (x2 : S1x2048.Idx → EReal) (x3 : S1x2048.Idx → EReal) (x4 : S128x2048.Idx → EReal) (y : S1x128.Idx) :
    k0_pay16 (F := Ideal) (k0_pay10 x0 x1 x2 x3 x4) y = ∑ p : Fin 128, rowLoss (fun k => x0 (ix2 p k)) (fun k => x1 (ix2 p k)) (fun k => x2 (ix2 0 k)) (fun k => x3 (ix2 0 k)) (fun k => x4 (ix2 p k)) (y 1) := by
  unfold k0_pay10 k0_pay8 k0_pay7 k0_pay5 k0_pay4 k0_pay3 k0_pay16 rowLoss err meanSq count total
  pointwise
  exact half_mul_sum _ _

variable (m : (ℓ : Loc nD τ sig) → Buf (Elt Ideal) ℓ)

/-- The row of the whole array that a row of a point's block is. -/
def place (t : Fin cfg0.N) (p : Fin 128) : Fin 2048 := ⟨128 * t.val + p.val, by have h := t.isLt; have hN : cfg0.N = 16 := N_0; omega⟩

theorem block_0 (c : Dev nD) (t : Fin cfg0.N) (p : Fin 128) :
    (fun k : Fin 2048 => (iblk m c 0 t (ix2 p k) : EReal)) = fun k => m (c.tc.loc main_arg0) (ix2 (place t p) k) := by
  funext k
  have hi := (by decide +kernel : ∀ t : Fin grid0.N, win0_0.index t 0 = t.val ∧ win0_0.index t 1 = 0) t
  unfold iblk
  rw [View.read_apply]
  show m (c.tc.loc main_arg0) _ = m (c.tc.loc main_arg0) _
  refine congrArg _ (funext fun a => Fin.ext ?_)
  match a with
  | ⟨0, _⟩ => show win0_0.index t 0 * 128 + 1 * p.val = 128 * t.val + p.val; rw [hi.1]; omega
  | ⟨1, _⟩ => show win0_0.index t 1 * 2048 + 1 * k.val = k.val; rw [hi.2]; omega

theorem block_1 (c : Dev nD) (t : Fin cfg0.N) (p : Fin 128) :
    (fun k : Fin 2048 => (iblk m c 1 t (ix2 p k) : EReal)) = fun k => m (c.tc.loc main_arg1) (ix2 (place t p) k) := by
  funext k
  have hi := (by decide +kernel : ∀ t : Fin grid0.N, win0_1.index t 0 = t.val ∧ win0_1.index t 1 = 0) t
  unfold iblk
  rw [View.read_apply]
  show m (c.tc.loc main_arg1) _ = m (c.tc.loc main_arg1) _
  refine congrArg _ (funext fun a => Fin.ext ?_)
  match a with
  | ⟨0, _⟩ => show win0_1.index t 0 * 128 + 1 * p.val = 128 * t.val + p.val; rw [hi.1]; omega
  | ⟨1, _⟩ => show win0_1.index t 1 * 2048 + 1 * k.val = k.val; rw [hi.2]; omega

theorem block_2 (c : Dev nD) (t : Fin cfg0.N) :
    (fun k : Fin 2048 => (iblk m c 2 t (ix2 0 k) : EReal)) = fun k => m (c.tc.loc main_arg2) (ix2 0 k) := by
  funext k
  have hi := (by decide +kernel : ∀ t : Fin grid0.N, win0_2.index t 0 = 0 ∧ win0_2.index t 1 = 0) t
  unfold iblk
  rw [View.read_apply]
  show m (c.tc.loc main_arg2) _ = m (c.tc.loc main_arg2) _
  refine congrArg _ (funext fun a => Fin.ext ?_)
  match a with
  | ⟨0, _⟩ => show win0_2.index t 0 * 1 + 1 * 0 = 0; rw [hi.1]
  | ⟨1, _⟩ => show win0_2.index t 1 * 2048 + 1 * k.val = k.val; rw [hi.2]; omega

theorem block_3 (c : Dev nD) (t : Fin cfg0.N) :
    (fun k : Fin 2048 => (iblk m c 3 t (ix2 0 k) : EReal)) = fun k => m (c.tc.loc main_arg3) (ix2 0 k) := by
  funext k
  have hi := (by decide +kernel : ∀ t : Fin grid0.N, win0_3.index t 0 = 0 ∧ win0_3.index t 1 = 0) t
  unfold iblk
  rw [View.read_apply]
  show m (c.tc.loc main_arg3) _ = m (c.tc.loc main_arg3) _
  refine congrArg _ (funext fun a => Fin.ext ?_)
  match a with
  | ⟨0, _⟩ => show win0_3.index t 0 * 1 + 1 * 0 = 0; rw [hi.1]
  | ⟨1, _⟩ => show win0_3.index t 1 * 2048 + 1 * k.val = k.val; rw [hi.2]; omega

theorem block_4 (c : Dev nD) (t : Fin cfg0.N) (p : Fin 128) :
    (fun k : Fin 2048 => (iblk m c 4 t (ix2 p k) : EReal)) = fun k => m (c.tc.loc main_arg4) (ix2 (place t p) k) := by
  funext k
  have hi := (by decide +kernel : ∀ t : Fin grid0.N, win0_4.index t 0 = t.val ∧ win0_4.index t 1 = 0) t
  unfold iblk
  rw [View.read_apply]
  show m (c.tc.loc main_arg4) _ = m (c.tc.loc main_arg4) _
  refine congrArg _ (funext fun a => Fin.ext ?_)
  match a with
  | ⟨0, _⟩ => show win0_4.index t 0 * 128 + 1 * p.val = 128 * t.val + p.val; rw [hi.1]; omega
  | ⟨1, _⟩ => show win0_4.index t 1 * 2048 + 1 * k.val = k.val; rw [hi.2]; omega

/-- Result 0 in whole. -/
def full_5 (x0 : S2048x2048.Idx → EReal) (x1 : S2048x2048.Idx → EReal) (x2 : S1x2048.Idx → EReal) (x3 : S1x2048.Idx → EReal) (x4 : S2048x2048.Idx → EReal) : S2048x2048.Idx → EReal := fun j => dx (fun k => x0 (ix2 (j 0) k)) (fun k => x1 (ix2 (j 0) k)) (fun k => x2 (ix2 0 k)) (fun k => x3 (ix2 0 k)) (fun k => x4 (ix2 (j 0) k)) (j 1)

theorem held_5 (c : Dev nD) (t : Fin cfg0.N) : (outsAt0 m c t.val t.isLt).1 = k0_pay14 (iblk m c 3 t) (k0_pay3 (iblk m c 0 t) (iblk m c 1 t) (iblk m c 2 t)) (k0_pay5 (iblk m c 0 t) (iblk m c 1 t) (iblk m c 2 t)) (k0_pay6 (iblk m c 0 t) (iblk m c 1 t) (iblk m c 2 t)) (k0_pay9 (iblk m c 0 t) (iblk m c 1 t) (iblk m c 2 t) (iblk m c 3 t) (iblk m c 4 t)) k0_pay11 (Scalar.ofBits .f32 0x45000000#32) := by
  have hN : cfg0.N = 16 := N_0
  have hlt := t.isLt
  by_cases h : t.val % 16 = 0
  · have g : ¬1 ≤ t.val := by omega
    simp only [outsAt0_A m c t h g h g h g, leftA_5]
  · have g : 1 ≤ t.val := by omega
    simp only [outsAt0_B m c t h g h g h g, leftB_5]

theorem flushed_eq_5 (c : Dev nD) (t : Fin cfg0.N) :
    (dats m 0 c).flushed 5 t = ((cfg0.win 5).blk t).view.read (Elt Ideal) (full_5 (m (c.tc.loc main_arg0)) (m (c.tc.loc main_arg1)) (m (c.tc.loc main_arg2)) (m (c.tc.loc main_arg3)) (m (c.tc.loc main_arg4))) := by
  rw [flushed5, held_5]
  funext y
  have hi := (by decide +kernel : ∀ t : Fin grid0.N, win0_5.index t 0 = t.val ∧ win0_5.index t 1 = 0) t
  have e : ((View.whole main_v0_0).slice ((win0 5).rect t)).emb y = ix2 (place t (y 0)) (y 1) := by
    funext a
    refine Fin.ext ?_
    match a with
    | ⟨0, _⟩ => show win0_5.index t 0 * 128 + 1 * (y 0).val = 128 * t.val + (y 0).val; rw [hi.1]; omega
    | ⟨1, _⟩ => show win0_5.index t 1 * 2048 + 1 * (y 1).val = (y 1).val; rw [hi.2]; omega
  refine (value_5 (iblk m c 0 t) (iblk m c 1 t) (iblk m c 2 t) (iblk m c 3 t) (iblk m c 4 t) y).trans ?_
  rw [View.read_apply]
  show _ = full_5 (m (c.tc.loc main_arg0)) (m (c.tc.loc main_arg1)) (m (c.tc.loc main_arg2)) (m (c.tc.loc main_arg3)) (m (c.tc.loc main_arg4)) (((View.whole main_v0_0).slice ((win0 5).rect t)).emb y)
  rw [e]
  have q : ∀ (p : Fin 128) (j : Fin 2048), dx (fun k => iblk m c 0 t (ix2 p k)) (fun k => iblk m c 1 t (ix2 p k)) (fun k => iblk m c 2 t (ix2 0 k)) (fun k => iblk m c 3 t (ix2 0 k)) (fun k => iblk m c 4 t (ix2 p k)) j
      = dx (fun k => m (c.tc.loc main_arg0) (ix2 (place t p) k)) (fun k => m (c.tc.loc main_arg1) (ix2 (place t p) k)) (fun k => m (c.tc.loc main_arg2) (ix2 0 k)) (fun k => m (c.tc.loc main_arg3) (ix2 0 k)) (fun k => m (c.tc.loc main_arg4) (ix2 (place t p) k)) j := by
    intro p j
    rw [block_0, block_1, block_2, block_3, block_4]
  exact q (y 0) (y 1)

theorem covered_5 (i : S2048x2048.Idx) : ∃ t : Fin cfg0.N, (cfg0.win 5).flush t = true ∧ i ∈ ((cfg0.win 5).blk t).view.set := by
  have h0 : (i 0).val < 2048 := (i 0).isLt
  have h1 : (i 1).val < 2048 := (i 1).isLt
  obtain ⟨t, ht, e0, e1⟩ := (by decide +kernel : ∀ p0 : Fin 16, ∃ t : Fin grid0.N, win0_5.flush t = true
    ∧ win0_5.index t 0 = p0.val ∧ win0_5.index t 1 = 0) ⟨(i 0).val / 128, by omega⟩
  refine ⟨t, ht, ?_⟩
  show i ∈ ((View.whole main_v0_0).slice (win0_5.rect t)).set
  rw [View.set_slice_whole, Rect.mem_set_unit]
  intro a
  match a with
  | ⟨0, _⟩ => show win0_5.index t 0 * 128 ≤ (i 0).val ∧ (i 0).val < win0_5.index t 0 * 128 + 128; rw [e0]; simp only [] <;> omega
  | ⟨1, _⟩ => show win0_5.index t 1 * 2048 ≤ (i 1).val ∧ (i 1).val < win0_5.index t 1 * 2048 + 2048; rw [e1]; omega

/-- Result 0 after the run. -/
theorem final_5 (c : Dev nD) : (dats m 0 c).arrAt 5 cfg0.N = full_5 (m (c.tc.loc main_arg0)) (m (c.tc.loc main_arg1)) (m (c.tc.loc main_arg2)) (m (c.tc.loc main_arg3)) (m (c.tc.loc main_arg4)) :=
  (dats m 0 c).arrAt_eq_of_cover 5 _ (fun t _ => flushed_eq_5 m c t) covered_5

/-- Result 1 in whole. -/
def full_6 (x0 : S2048x2048.Idx → EReal) (x1 : S2048x2048.Idx → EReal) (x2 : S1x2048.Idx → EReal) (x3 : S1x2048.Idx → EReal) (x4 : S2048x2048.Idx → EReal) : S2048x2048.Idx → EReal := fun j => dlast (fun k => x0 (ix2 (j 0) k)) (fun k => x1 (ix2 (j 0) k)) (fun k => x2 (ix2 0 k)) (fun k => x3 (ix2 0 k)) (fun k => x4 (ix2 (j 0) k)) (j 1)

theorem held_6 (c : Dev nD) (t : Fin cfg0.N) : (outsAt0 m c t.val t.isLt).2.1 = k0_pay17 (iblk m c 2 t) (iblk m c 3 t) (k0_pay3 (iblk m c 0 t) (iblk m c 1 t) (iblk m c 2 t)) (k0_pay5 (iblk m c 0 t) (iblk m c 1 t) (iblk m c 2 t)) (k0_pay6 (iblk m c 0 t) (iblk m c 1 t) (iblk m c 2 t)) (k0_pay9 (iblk m c 0 t) (iblk m c 1 t) (iblk m c 2 t) (iblk m c 3 t) (iblk m c 4 t)) k0_pay11 (Scalar.ofBits .f32 0x45000000#32) := by
  have hN : cfg0.N = 16 := N_0
  have hlt := t.isLt
  by_cases h : t.val % 16 = 0
  · have g : ¬1 ≤ t.val := by omega
    simp only [outsAt0_A m c t h g h g h g, leftA_6]
  · have g : 1 ≤ t.val := by omega
    simp only [outsAt0_B m c t h g h g h g, leftB_6]

theorem flushed_eq_6 (c : Dev nD) (t : Fin cfg0.N) :
    (dats m 0 c).flushed 6 t = ((cfg0.win 6).blk t).view.read (Elt Ideal) (full_6 (m (c.tc.loc main_arg0)) (m (c.tc.loc main_arg1)) (m (c.tc.loc main_arg2)) (m (c.tc.loc main_arg3)) (m (c.tc.loc main_arg4))) := by
  rw [flushed6, held_6]
  funext y
  have hi := (by decide +kernel : ∀ t : Fin grid0.N, win0_6.index t 0 = t.val ∧ win0_6.index t 1 = 0) t
  have e : ((View.whole main_v0_1).slice ((win0 6).rect t)).emb y = ix2 (place t (y 0)) (y 1) := by
    funext a
    refine Fin.ext ?_
    match a with
    | ⟨0, _⟩ => show win0_6.index t 0 * 128 + 1 * (y 0).val = 128 * t.val + (y 0).val; rw [hi.1]; omega
    | ⟨1, _⟩ => show win0_6.index t 1 * 2048 + 1 * (y 1).val = (y 1).val; rw [hi.2]; omega
  refine (value_6 (iblk m c 0 t) (iblk m c 1 t) (iblk m c 2 t) (iblk m c 3 t) (iblk m c 4 t) y).trans ?_
  rw [View.read_apply]
  show _ = full_6 (m (c.tc.loc main_arg0)) (m (c.tc.loc main_arg1)) (m (c.tc.loc main_arg2)) (m (c.tc.loc main_arg3)) (m (c.tc.loc main_arg4)) (((View.whole main_v0_1).slice ((win0 6).rect t)).emb y)
  rw [e]
  have q : ∀ (p : Fin 128) (j : Fin 2048), dlast (fun k => iblk m c 0 t (ix2 p k)) (fun k => iblk m c 1 t (ix2 p k)) (fun k => iblk m c 2 t (ix2 0 k)) (fun k => iblk m c 3 t (ix2 0 k)) (fun k => iblk m c 4 t (ix2 p k)) j
      = dlast (fun k => m (c.tc.loc main_arg0) (ix2 (place t p) k)) (fun k => m (c.tc.loc main_arg1) (ix2 (place t p) k)) (fun k => m (c.tc.loc main_arg2) (ix2 0 k)) (fun k => m (c.tc.loc main_arg3) (ix2 0 k)) (fun k => m (c.tc.loc main_arg4) (ix2 (place t p) k)) j := by
    intro p j
    rw [block_0, block_1, block_2, block_3, block_4]
  exact q (y 0) (y 1)

theorem covered_6 (i : S2048x2048.Idx) : ∃ t : Fin cfg0.N, (cfg0.win 6).flush t = true ∧ i ∈ ((cfg0.win 6).blk t).view.set := by
  have h0 : (i 0).val < 2048 := (i 0).isLt
  have h1 : (i 1).val < 2048 := (i 1).isLt
  obtain ⟨t, ht, e0, e1⟩ := (by decide +kernel : ∀ p0 : Fin 16, ∃ t : Fin grid0.N, win0_6.flush t = true
    ∧ win0_6.index t 0 = p0.val ∧ win0_6.index t 1 = 0) ⟨(i 0).val / 128, by omega⟩
  refine ⟨t, ht, ?_⟩
  show i ∈ ((View.whole main_v0_1).slice (win0_6.rect t)).set
  rw [View.set_slice_whole, Rect.mem_set_unit]
  intro a
  match a with
  | ⟨0, _⟩ => show win0_6.index t 0 * 128 ≤ (i 0).val ∧ (i 0).val < win0_6.index t 0 * 128 + 128; rw [e0]; simp only [] <;> omega
  | ⟨1, _⟩ => show win0_6.index t 1 * 2048 ≤ (i 1).val ∧ (i 1).val < win0_6.index t 1 * 2048 + 2048; rw [e1]; omega

/-- Result 1 after the run. -/
theorem final_6 (c : Dev nD) : (dats m 0 c).arrAt 6 cfg0.N = full_6 (m (c.tc.loc main_arg0)) (m (c.tc.loc main_arg1)) (m (c.tc.loc main_arg2)) (m (c.tc.loc main_arg3)) (m (c.tc.loc main_arg4)) :=
  (dats m 0 c).arrAt_eq_of_cover 6 _ (fun t _ => flushed_eq_6 m c t) covered_6

/-- Result 2 in whole: the sum over all rows. -/
def full_7 (x0 : S2048x2048.Idx → EReal) (x1 : S2048x2048.Idx → EReal) (x2 : S1x2048.Idx → EReal) (x3 : S1x2048.Idx → EReal) (x4 : S2048x2048.Idx → EReal) : S1x2048.Idx → EReal := fun j => ∑ r : Fin 2048, dgate (fun k => x0 (ix2 r k)) (fun k => x1 (ix2 r k)) (fun k => x2 (ix2 0 k)) (fun k => x3 (ix2 0 k)) (fun k => x4 (ix2 r k)) (j 1)

/-- What a point adds to result 2. -/
def add_7 (c : Dev nD) (n : ℕ) : S1x2048.Idx → EReal := fun y =>
  if h : n < cfg0.N then ∑ p : Fin 128, dgate (fun k => iblk m c 0 ⟨n, h⟩ (ix2 p k)) (fun k => iblk m c 1 ⟨n, h⟩ (ix2 p k)) (fun k => iblk m c 2 ⟨n, h⟩ (ix2 0 k)) (fun k => iblk m c 3 ⟨n, h⟩ (ix2 0 k)) (fun k => iblk m c 4 ⟨n, h⟩ (ix2 p k)) (y 1) else 0

theorem begin_7 (c : Dev nD) (t : Fin cfg0.N) (h : t.val % 16 = 0) (y : S1x2048.Idx) :
    (outsAt0 m c t.val t.isLt).2.2.1 y = add_7 m c t.val y := by
  have hN : cfg0.N = 16 := N_0
  have hlt := t.isLt
  have g : ¬1 ≤ t.val := by omega
  simp only [outsAt0_A m c t h g h g h g, leftA_7]
  unfold add_7
  rw [dif_pos hlt]
  exact value_7 (iblk m c 0 t) (iblk m c 1 t) (iblk m c 2 t) (iblk m c 3 t) (iblk m c 4 t) y

theorem step_7 (c : Dev nD) (t : Fin cfg0.N) (h : ¬t.val % 16 = 0) (y : S1x2048.Idx) :
    (outsAt0 m c t.val t.isLt).2.2.1 y
      = (outsAt0 m c (t.val - 1) (Nat.lt_of_le_of_lt (Nat.sub_le _ _) t.isLt)).2.2.1 y + add_7 m c t.val y := by
  have hN : cfg0.N = 16 := N_0
  have hlt := t.isLt
  have g : 1 ≤ t.val := by omega
  have v := value_7 (iblk m c 0 t) (iblk m c 1 t) (iblk m c 2 t) (iblk m c 3 t) (iblk m c 4 t) y
  simp only [outsAt0_B m c t h g h g h g, leftB_7]
  unfold add_7
  rw [dif_pos hlt]
  generalize (outsAt0 m c (t.val - 1) (Nat.lt_of_le_of_lt (Nat.sub_le _ _) t.isLt)).2.2.1 = acc
  refine Eq.trans ?_ (congrArg (fun u : EReal => acc y + u) v)
  unfold k0_pay18
  rw [shapeCast_self]
  rfl

/-- Result 2's block after a point: the sum of what the points so far have added. -/
theorem running_7 (c : Dev nD) (y : S1x2048.Idx) : ∀ (n : ℕ) (hn : n < cfg0.N),
    (outsAt0 m c n hn).2.2.1 y = ∑ s ∈ Finset.range (n + 1), add_7 m c s y
  | 0, hn => by
    rw [Finset.sum_range_one]
    exact begin_7 m c ⟨0, hn⟩ rfl y
  | n + 1, hn => by
    have hN : cfg0.N = 16 := N_0
    rw [Finset.sum_range_succ, ← running_7 c y n (by omega)]
    exact step_7 m c ⟨n + 1, hn⟩ (by show ¬(n + 1) % 16 = 0; omega) y

theorem flushed_eq_7 (c : Dev nD) (t : Fin cfg0.N) (hf : (cfg0.win 7).flush t = true) :
    (dats m 0 c).flushed 7 t = ((cfg0.win 7).blk t).view.read (Elt Ideal) (full_7 (m (c.tc.loc main_arg0)) (m (c.tc.loc main_arg1)) (m (c.tc.loc main_arg2)) (m (c.tc.loc main_arg3)) (m (c.tc.loc main_arg4))) := by
  have hN : cfg0.N = 16 := N_0
  have hlt := t.isLt
  have hm : t.val % 16 = 15 := (flush0_7 t).mp hf
  rw [flushed7]
  funext y
  have hi := (by decide +kernel : ∀ t : Fin grid0.N, win0_7.index t 0 = 0 ∧ win0_7.index t 1 = 0) t
  have e : ((View.whole main_v0_2).slice ((win0 7).rect t)).emb y = y := by
    funext a
    refine Fin.ext ?_
    match a with
    | ⟨0, _⟩ => show win0_7.index t 0 * 1 + 1 * (y 0).val = (y 0).val; rw [hi.1]; omega
    | ⟨1, _⟩ => show win0_7.index t 1 * 2048 + 1 * (y 1).val = (y 1).val; rw [hi.2]; omega
  refine (running_7 m c y t.val t.isLt).trans ?_
  rw [View.read_apply]
  show _ = full_7 (m (c.tc.loc main_arg0)) (m (c.tc.loc main_arg1)) (m (c.tc.loc main_arg2)) (m (c.tc.loc main_arg3)) (m (c.tc.loc main_arg4)) (((View.whole main_v0_2).slice ((win0 7).rect t)).emb y)
  rw [e, show t.val + 1 = 16 by omega, Finset.sum_range]
  unfold full_7
  have e2 : ∀ s : Fin 16, add_7 m c s.val y = ∑ p : Fin 128, dgate (fun k => m (c.tc.loc main_arg0) (ix2 (place ⟨s.val, by omega⟩ p) k)) (fun k => m (c.tc.loc main_arg1) (ix2 (place ⟨s.val, by omega⟩ p) k)) (fun k => m (c.tc.loc main_arg2) (ix2 0 k)) (fun k => m (c.tc.loc main_arg3) (ix2 0 k)) (fun k => m (c.tc.loc main_arg4) (ix2 (place ⟨s.val, by omega⟩ p) k)) (y 1) := by
    intro s
    unfold add_7
    rw [dif_pos (by omega)]
    refine Finset.sum_congr rfl fun p _ => ?_
    rw [block_0, block_1, block_2, block_3, block_4]
  rw [Finset.sum_congr rfl fun s _ => e2 s]
  refine sum_blocks (by norm_num) _ _ fun s p r hr => ?_
  rw [show place ⟨s.val, by omega⟩ p = r from Fin.ext hr.symm]

theorem covered_7 (i : S1x2048.Idx) : ∃ t : Fin cfg0.N, (cfg0.win 7).flush t = true ∧ i ∈ ((cfg0.win 7).blk t).view.set := by
  have h0 : (i 0).val < 1 := (i 0).isLt
  have h1 : (i 1).val < 2048 := (i 1).isLt
  obtain ⟨t, ht, e0, e1⟩ := (by decide +kernel : ∃ t : Fin grid0.N, win0_7.flush t = true
    ∧ win0_7.index t 0 = 0 ∧ win0_7.index t 1 = 0)
  refine ⟨t, ht, ?_⟩
  show i ∈ ((View.whole main_v0_2).slice (win0_7.rect t)).set
  rw [View.set_slice_whole, Rect.mem_set_unit]
  intro a
  match a with
  | ⟨0, _⟩ => show win0_7.index t 0 * 1 ≤ (i 0).val ∧ (i 0).val < win0_7.index t 0 * 1 + 1; rw [e0]; omega
  | ⟨1, _⟩ => show win0_7.index t 1 * 2048 ≤ (i 1).val ∧ (i 1).val < win0_7.index t 1 * 2048 + 2048; rw [e1]; omega

/-- Result 2 after the run. -/
theorem final_7 (c : Dev nD) : (dats m 0 c).arrAt 7 cfg0.N = full_7 (m (c.tc.loc main_arg0)) (m (c.tc.loc main_arg1)) (m (c.tc.loc main_arg2)) (m (c.tc.loc main_arg3)) (m (c.tc.loc main_arg4)) :=
  (dats m 0 c).arrAt_eq_of_cover 7 _ (flushed_eq_7 m c) covered_7

/-- Result 3 in whole: the sum over all rows. -/
def full_8 (x0 : S2048x2048.Idx → EReal) (x1 : S2048x2048.Idx → EReal) (x2 : S1x2048.Idx → EReal) (x3 : S1x2048.Idx → EReal) (x4 : S2048x2048.Idx → EReal) : S1x2048.Idx → EReal := fun j => ∑ r : Fin 2048, dscale (fun k => x0 (ix2 r k)) (fun k => x1 (ix2 r k)) (fun k => x2 (ix2 0 k)) (fun k => x3 (ix2 0 k)) (fun k => x4 (ix2 r k)) (j 1)

/-- What a point adds to result 3. -/
def add_8 (c : Dev nD) (n : ℕ) : S1x2048.Idx → EReal := fun y =>
  if h : n < cfg0.N then ∑ p : Fin 128, dscale (fun k => iblk m c 0 ⟨n, h⟩ (ix2 p k)) (fun k => iblk m c 1 ⟨n, h⟩ (ix2 p k)) (fun k => iblk m c 2 ⟨n, h⟩ (ix2 0 k)) (fun k => iblk m c 3 ⟨n, h⟩ (ix2 0 k)) (fun k => iblk m c 4 ⟨n, h⟩ (ix2 p k)) (y 1) else 0

theorem begin_8 (c : Dev nD) (t : Fin cfg0.N) (h : t.val % 16 = 0) (y : S1x2048.Idx) :
    (outsAt0 m c t.val t.isLt).2.2.2.1 y = add_8 m c t.val y := by
  have hN : cfg0.N = 16 := N_0
  have hlt := t.isLt
  have g : ¬1 ≤ t.val := by omega
  simp only [outsAt0_A m c t h g h g h g, leftA_8]
  unfold add_8
  rw [dif_pos hlt]
  exact value_8 (iblk m c 0 t) (iblk m c 1 t) (iblk m c 2 t) (iblk m c 3 t) (iblk m c 4 t) y

theorem step_8 (c : Dev nD) (t : Fin cfg0.N) (h : ¬t.val % 16 = 0) (y : S1x2048.Idx) :
    (outsAt0 m c t.val t.isLt).2.2.2.1 y
      = (outsAt0 m c (t.val - 1) (Nat.lt_of_le_of_lt (Nat.sub_le _ _) t.isLt)).2.2.2.1 y + add_8 m c t.val y := by
  have hN : cfg0.N = 16 := N_0
  have hlt := t.isLt
  have g : 1 ≤ t.val := by omega
  have v := value_8 (iblk m c 0 t) (iblk m c 1 t) (iblk m c 2 t) (iblk m c 3 t) (iblk m c 4 t) y
  simp only [outsAt0_B m c t h g h g h g, leftB_8]
  unfold add_8
  rw [dif_pos hlt]
  generalize (outsAt0 m c (t.val - 1) (Nat.lt_of_le_of_lt (Nat.sub_le _ _) t.isLt)).2.2.2.1 = acc
  refine Eq.trans ?_ (congrArg (fun u : EReal => acc y + u) v)
  unfold k0_pay1
  rw [shapeCast_self]
  rfl

/-- Result 3's block after a point: the sum of what the points so far have added. -/
theorem running_8 (c : Dev nD) (y : S1x2048.Idx) : ∀ (n : ℕ) (hn : n < cfg0.N),
    (outsAt0 m c n hn).2.2.2.1 y = ∑ s ∈ Finset.range (n + 1), add_8 m c s y
  | 0, hn => by
    rw [Finset.sum_range_one]
    exact begin_8 m c ⟨0, hn⟩ rfl y
  | n + 1, hn => by
    have hN : cfg0.N = 16 := N_0
    rw [Finset.sum_range_succ, ← running_8 c y n (by omega)]
    exact step_8 m c ⟨n + 1, hn⟩ (by show ¬(n + 1) % 16 = 0; omega) y

theorem flushed_eq_8 (c : Dev nD) (t : Fin cfg0.N) (hf : (cfg0.win 8).flush t = true) :
    (dats m 0 c).flushed 8 t = ((cfg0.win 8).blk t).view.read (Elt Ideal) (full_8 (m (c.tc.loc main_arg0)) (m (c.tc.loc main_arg1)) (m (c.tc.loc main_arg2)) (m (c.tc.loc main_arg3)) (m (c.tc.loc main_arg4))) := by
  have hN : cfg0.N = 16 := N_0
  have hlt := t.isLt
  have hm : t.val % 16 = 15 := (flush0_8 t).mp hf
  rw [flushed8]
  funext y
  have hi := (by decide +kernel : ∀ t : Fin grid0.N, win0_8.index t 0 = 0 ∧ win0_8.index t 1 = 0) t
  have e : ((View.whole main_v0_3).slice ((win0 8).rect t)).emb y = y := by
    funext a
    refine Fin.ext ?_
    match a with
    | ⟨0, _⟩ => show win0_8.index t 0 * 1 + 1 * (y 0).val = (y 0).val; rw [hi.1]; omega
    | ⟨1, _⟩ => show win0_8.index t 1 * 2048 + 1 * (y 1).val = (y 1).val; rw [hi.2]; omega
  refine (running_8 m c y t.val t.isLt).trans ?_
  rw [View.read_apply]
  show _ = full_8 (m (c.tc.loc main_arg0)) (m (c.tc.loc main_arg1)) (m (c.tc.loc main_arg2)) (m (c.tc.loc main_arg3)) (m (c.tc.loc main_arg4)) (((View.whole main_v0_3).slice ((win0 8).rect t)).emb y)
  rw [e, show t.val + 1 = 16 by omega, Finset.sum_range]
  unfold full_8
  have e2 : ∀ s : Fin 16, add_8 m c s.val y = ∑ p : Fin 128, dscale (fun k => m (c.tc.loc main_arg0) (ix2 (place ⟨s.val, by omega⟩ p) k)) (fun k => m (c.tc.loc main_arg1) (ix2 (place ⟨s.val, by omega⟩ p) k)) (fun k => m (c.tc.loc main_arg2) (ix2 0 k)) (fun k => m (c.tc.loc main_arg3) (ix2 0 k)) (fun k => m (c.tc.loc main_arg4) (ix2 (place ⟨s.val, by omega⟩ p) k)) (y 1) := by
    intro s
    unfold add_8
    rw [dif_pos (by omega)]
    refine Finset.sum_congr rfl fun p _ => ?_
    rw [block_0, block_1, block_2, block_3, block_4]
  rw [Finset.sum_congr rfl fun s _ => e2 s]
  refine sum_blocks (by norm_num) _ _ fun s p r hr => ?_
  rw [show place ⟨s.val, by omega⟩ p = r from Fin.ext hr.symm]

theorem covered_8 (i : S1x2048.Idx) : ∃ t : Fin cfg0.N, (cfg0.win 8).flush t = true ∧ i ∈ ((cfg0.win 8).blk t).view.set := by
  have h0 : (i 0).val < 1 := (i 0).isLt
  have h1 : (i 1).val < 2048 := (i 1).isLt
  obtain ⟨t, ht, e0, e1⟩ := (by decide +kernel : ∃ t : Fin grid0.N, win0_8.flush t = true
    ∧ win0_8.index t 0 = 0 ∧ win0_8.index t 1 = 0)
  refine ⟨t, ht, ?_⟩
  show i ∈ ((View.whole main_v0_3).slice (win0_8.rect t)).set
  rw [View.set_slice_whole, Rect.mem_set_unit]
  intro a
  match a with
  | ⟨0, _⟩ => show win0_8.index t 0 * 1 ≤ (i 0).val ∧ (i 0).val < win0_8.index t 0 * 1 + 1; rw [e0]; omega
  | ⟨1, _⟩ => show win0_8.index t 1 * 2048 ≤ (i 1).val ∧ (i 1).val < win0_8.index t 1 * 2048 + 2048; rw [e1]; omega

/-- Result 3 after the run. -/
theorem final_8 (c : Dev nD) : (dats m 0 c).arrAt 8 cfg0.N = full_8 (m (c.tc.loc main_arg0)) (m (c.tc.loc main_arg1)) (m (c.tc.loc main_arg2)) (m (c.tc.loc main_arg3)) (m (c.tc.loc main_arg4)) :=
  (dats m 0 c).arrAt_eq_of_cover 8 _ (flushed_eq_8 m c) covered_8

/-- Result 4 in whole: the sum over all rows. -/
def full_9 (x0 : S2048x2048.Idx → EReal) (x1 : S2048x2048.Idx → EReal) (x2 : S1x2048.Idx → EReal) (x3 : S1x2048.Idx → EReal) (x4 : S2048x2048.Idx → EReal) : S1x128.Idx → EReal := fun j => ∑ r : Fin 2048, rowLoss (fun k => x0 (ix2 r k)) (fun k => x1 (ix2 r k)) (fun k => x2 (ix2 0 k)) (fun k => x3 (ix2 0 k)) (fun k => x4 (ix2 r k)) (j 1)

/-- What a point adds to result 4. -/
def add_9 (c : Dev nD) (n : ℕ) : S1x128.Idx → EReal := fun y =>
  if h : n < cfg0.N then ∑ p : Fin 128, rowLoss (fun k => iblk m c 0 ⟨n, h⟩ (ix2 p k)) (fun k => iblk m c 1 ⟨n, h⟩ (ix2 p k)) (fun k => iblk m c 2 ⟨n, h⟩ (ix2 0 k)) (fun k => iblk m c 3 ⟨n, h⟩ (ix2 0 k)) (fun k => iblk m c 4 ⟨n, h⟩ (ix2 p k)) (y 1) else 0

theorem begin_9 (c : Dev nD) (t : Fin cfg0.N) (h : t.val % 16 = 0) (y : S1x128.Idx) :
    (outsAt0 m c t.val t.isLt).2.2.2.2 y = add_9 m c t.val y := by
  have hN : cfg0.N = 16 := N_0
  have hlt := t.isLt
  have g : ¬1 ≤ t.val := by omega
  simp only [outsAt0_A m c t h g h g h g, leftA_9]
  unfold add_9
  rw [dif_pos hlt]
  exact value_9 (iblk m c 0 t) (iblk m c 1 t) (iblk m c 2 t) (iblk m c 3 t) (iblk m c 4 t) y

theorem step_9 (c : Dev nD) (t : Fin cfg0.N) (h : ¬t.val % 16 = 0) (y : S1x128.Idx) :
    (outsAt0 m c t.val t.isLt).2.2.2.2 y
      = (outsAt0 m c (t.val - 1) (Nat.lt_of_le_of_lt (Nat.sub_le _ _) t.isLt)).2.2.2.2 y + add_9 m c t.val y := by
  have hN : cfg0.N = 16 := N_0
  have hlt := t.isLt
  have g : 1 ≤ t.val := by omega
  have v := value_9 (iblk m c 0 t) (iblk m c 1 t) (iblk m c 2 t) (iblk m c 3 t) (iblk m c 4 t) y
  simp only [outsAt0_B m c t h g h g h g, leftB_9]
  unfold add_9
  rw [dif_pos hlt]
  generalize (outsAt0 m c (t.val - 1) (Nat.lt_of_le_of_lt (Nat.sub_le _ _) t.isLt)).2.2.2.2 = acc
  refine Eq.trans ?_ (congrArg (fun u : EReal => acc y + u) v)
  unfold k0_pay2
  rw [shapeCast_self]
  rfl

/-- Result 4's block after a point: the sum of what the points so far have added. -/
theorem running_9 (c : Dev nD) (y : S1x128.Idx) : ∀ (n : ℕ) (hn : n < cfg0.N),
    (outsAt0 m c n hn).2.2.2.2 y = ∑ s ∈ Finset.range (n + 1), add_9 m c s y
  | 0, hn => by
    rw [Finset.sum_range_one]
    exact begin_9 m c ⟨0, hn⟩ rfl y
  | n + 1, hn => by
    have hN : cfg0.N = 16 := N_0
    rw [Finset.sum_range_succ, ← running_9 c y n (by omega)]
    exact step_9 m c ⟨n + 1, hn⟩ (by show ¬(n + 1) % 16 = 0; omega) y

theorem flushed_eq_9 (c : Dev nD) (t : Fin cfg0.N) (hf : (cfg0.win 9).flush t = true) :
    (dats m 0 c).flushed 9 t = ((cfg0.win 9).blk t).view.read (Elt Ideal) (full_9 (m (c.tc.loc main_arg0)) (m (c.tc.loc main_arg1)) (m (c.tc.loc main_arg2)) (m (c.tc.loc main_arg3)) (m (c.tc.loc main_arg4))) := by
  have hN : cfg0.N = 16 := N_0
  have hlt := t.isLt
  have hm : t.val % 16 = 15 := (flush0_9 t).mp hf
  rw [flushed9]
  funext y
  have hi := (by decide +kernel : ∀ t : Fin grid0.N, win0_9.index t 0 = 0 ∧ win0_9.index t 1 = 0) t
  have e : ((View.whole main_v0_4).slice ((win0 9).rect t)).emb y = y := by
    funext a
    refine Fin.ext ?_
    match a with
    | ⟨0, _⟩ => show win0_9.index t 0 * 1 + 1 * (y 0).val = (y 0).val; rw [hi.1]; omega
    | ⟨1, _⟩ => show win0_9.index t 1 * 128 + 1 * (y 1).val = (y 1).val; rw [hi.2]; omega
  refine (running_9 m c y t.val t.isLt).trans ?_
  rw [View.read_apply]
  show _ = full_9 (m (c.tc.loc main_arg0)) (m (c.tc.loc main_arg1)) (m (c.tc.loc main_arg2)) (m (c.tc.loc main_arg3)) (m (c.tc.loc main_arg4)) (((View.whole main_v0_4).slice ((win0 9).rect t)).emb y)
  rw [e, show t.val + 1 = 16 by omega, Finset.sum_range]
  unfold full_9
  have e2 : ∀ s : Fin 16, add_9 m c s.val y = ∑ p : Fin 128, rowLoss (fun k => m (c.tc.loc main_arg0) (ix2 (place ⟨s.val, by omega⟩ p) k)) (fun k => m (c.tc.loc main_arg1) (ix2 (place ⟨s.val, by omega⟩ p) k)) (fun k => m (c.tc.loc main_arg2) (ix2 0 k)) (fun k => m (c.tc.loc main_arg3) (ix2 0 k)) (fun k => m (c.tc.loc main_arg4) (ix2 (place ⟨s.val, by omega⟩ p) k)) (y 1) := by
    intro s
    unfold add_9
    rw [dif_pos (by omega)]
    refine Finset.sum_congr rfl fun p _ => ?_
    rw [block_0, block_1, block_2, block_3, block_4]
  rw [Finset.sum_congr rfl fun s _ => e2 s]
  refine sum_blocks (by norm_num) _ _ fun s p r hr => ?_
  rw [show place ⟨s.val, by omega⟩ p = r from Fin.ext hr.symm]

theorem covered_9 (i : S1x128.Idx) : ∃ t : Fin cfg0.N, (cfg0.win 9).flush t = true ∧ i ∈ ((cfg0.win 9).blk t).view.set := by
  have h0 : (i 0).val < 1 := (i 0).isLt
  have h1 : (i 1).val < 128 := (i 1).isLt
  obtain ⟨t, ht, e0, e1⟩ := (by decide +kernel : ∃ t : Fin grid0.N, win0_9.flush t = true
    ∧ win0_9.index t 0 = 0 ∧ win0_9.index t 1 = 0)
  refine ⟨t, ht, ?_⟩
  show i ∈ ((View.whole main_v0_4).slice (win0_9.rect t)).set
  rw [View.set_slice_whole, Rect.mem_set_unit]
  intro a
  match a with
  | ⟨0, _⟩ => show win0_9.index t 0 * 1 ≤ (i 0).val ∧ (i 0).val < win0_9.index t 0 * 1 + 1; rw [e0]; omega
  | ⟨1, _⟩ => show win0_9.index t 1 * 128 ≤ (i 1).val ∧ (i 1).val < win0_9.index t 1 * 128 + 128; rw [e1]; omega

/-- Result 4 after the run. -/
theorem final_9 (c : Dev nD) : (dats m 0 c).arrAt 9 cfg0.N = full_9 (m (c.tc.loc main_arg0)) (m (c.tc.loc main_arg1)) (m (c.tc.loc main_arg2)) (m (c.tc.loc main_arg3)) (m (c.tc.loc main_arg4)) :=
  (dats m 0 c).arrAt_eq_of_cover 9 _ (flushed_eq_9 m c) covered_9

set_option maxHeartbeats 2000000 in
/-- The call and its reference leave the same results. -/
theorem algebraic : Cert.algebraic_LossBwdIdeal_LossBwdRefIdeal (hLossBwdIdeal := Cert.LossBwdIdeal.Gen.facts)
    (hLossBwdRefIdeal := Cert.LossBwdRefIdeal.Gen.facts) := by
  intro m g m' g' _ hargs
  refine ⟨fun c => full_5 (m (c.tc.loc main_arg0)) (m (c.tc.loc main_arg1)) (m (c.tc.loc main_arg2)) (m (c.tc.loc main_arg3)) (m (c.tc.loc main_arg4)), fun c => full_6 (m (c.tc.loc main_arg0)) (m (c.tc.loc main_arg1)) (m (c.tc.loc main_arg2)) (m (c.tc.loc main_arg3)) (m (c.tc.loc main_arg4)), fun c => full_7 (m (c.tc.loc main_arg0)) (m (c.tc.loc main_arg1)) (m (c.tc.loc main_arg2)) (m (c.tc.loc main_arg3)) (m (c.tc.loc main_arg4)), fun c => full_8 (m (c.tc.loc main_arg0)) (m (c.tc.loc main_arg1)) (m (c.tc.loc main_arg2)) (m (c.tc.loc main_arg3)) (m (c.tc.loc main_arg4)), fun c => full_9 (m (c.tc.loc main_arg0)) (m (c.tc.loc main_arg1)) (m (c.tc.loc main_arg2)) (m (c.tc.loc main_arg3)) (m (c.tc.loc main_arg4)), ?_, ?_⟩
  · refine (θ_run (Cert.LossBwdIdeal.defs (F := Ideal)) _ _).mono (fun r h c => ?_) (run_blocks m g)
    obtain ⟨v0, v1, v2, v3, v4, k⟩ := h c
    exact ⟨v0.trans (final_5 m c), v1.trans (final_6 m c), v2.trans (final_7 m c), v3.trans (final_8 m c), v4.trans (final_9 m c), k⟩
  · refine (θ_run (Cert.LossBwdRefIdeal.defs (F := Ideal)) _ _).mono (fun r h c => ?_) (Cert.LossBwdRefIdeal.Value.run (F := Ideal) m' g')
    obtain ⟨v0, v1, v2, v3, v4, k⟩ := h c
    obtain ⟨e0, e1, e2, e3, e4⟩ := hargs c
    refine ⟨v0.trans ?_, v1.trans ?_, v2.trans ?_, v3.trans ?_, v4.trans ?_, k⟩
    · funext i
      try unfold Cert.LossBwdRefIdeal.Value.res_main_v56
      try unfold Cert.LossBwdRefIdeal.Value.res_main_v57
      try unfold Cert.LossBwdRefIdeal.Value.res_main_v51
      rw [e0, e1, e2, e3, e4]
      show _ = full_5 (m (c.tc.loc main_arg0)) (m (c.tc.loc main_arg1)) (m (c.tc.loc main_arg2)) (m (c.tc.loc main_arg3)) (m (c.tc.loc main_arg4)) i
      unfold full_5 dx inner outer err total quotGrad meanSq count
      pointwise
    · funext i
      try unfold Cert.LossBwdRefIdeal.Value.res_main_v56
      try unfold Cert.LossBwdRefIdeal.Value.res_main_v57
      try unfold Cert.LossBwdRefIdeal.Value.res_main_v51
      rw [e0, e1, e2, e3, e4]
      show _ = full_6 (m (c.tc.loc main_arg0)) (m (c.tc.loc main_arg1)) (m (c.tc.loc main_arg2)) (m (c.tc.loc main_arg3)) (m (c.tc.loc main_arg4)) i
      unfold full_6 dlast dx inner outer err total quotGrad meanSq count
      pointwise
    · funext i
      try unfold Cert.LossBwdRefIdeal.Value.res_main_v56
      try unfold Cert.LossBwdRefIdeal.Value.res_main_v57
      try unfold Cert.LossBwdRefIdeal.Value.res_main_v51
      rw [e0, e1, e2, e3, e4]
      show _ = full_7 (m (c.tc.loc main_arg0)) (m (c.tc.loc main_arg1)) (m (c.tc.loc main_arg2)) (m (c.tc.loc main_arg3)) (m (c.tc.loc main_arg4)) i
      unfold full_7 dgate dx inner outer err total quotGrad meanSq count
      pointwise
    · funext i
      try unfold Cert.LossBwdRefIdeal.Value.res_main_v56
      try unfold Cert.LossBwdRefIdeal.Value.res_main_v57
      try unfold Cert.LossBwdRefIdeal.Value.res_main_v51
      rw [e0, e1, e2, e3, e4]
      show _ = full_8 (m (c.tc.loc main_arg0)) (m (c.tc.loc main_arg1)) (m (c.tc.loc main_arg2)) (m (c.tc.loc main_arg3)) (m (c.tc.loc main_arg4)) i
      unfold full_8 dscale outer err meanSq count total
      pointwise
    · funext i
      try unfold Cert.LossBwdRefIdeal.Value.res_main_v56
      try unfold Cert.LossBwdRefIdeal.Value.res_main_v57
      try unfold Cert.LossBwdRefIdeal.Value.res_main_v51
      rw [e0, e1, e2, e3, e4]
      show _ = full_9 (m (c.tc.loc main_arg0)) (m (c.tc.loc main_arg1)) (m (c.tc.loc main_arg2)) (m (c.tc.loc main_arg3)) (m (c.tc.loc main_arg4)) i
      unfold full_9 rowLoss err meanSq count total
      pointwise
      exact half_mul_sum _ _

end Cert.LossBwdIdeal.Value
-- ==== Proof.CfLnBwd.lean ====
/- The gradient of the layer norm and its activation: the gradient of every row, and the sums over the rows for the scale and the shift. -/
module

public import proofs.«01_k».proof.Defs
public import proofs.«01_k».proof.Proof.Gen.CfLnBwdIdeal.Value
public import proofs.«01_k».proof.Proof.Gen.CfLnBwdRefIdeal.Run
public import proofs.«01_k».proof.Proof.Rows

@[expose] public section

noncomputable section

namespace Cert.CfLnBwdIdeal.Value

open Cert.CfLnBwdIdeal Cert.CfLnBwdIdeal.Gen Idealize.ShloMosaic Idealize.ShloMosaic.TcCoe Idealize.SL.Sem Cert.Blocks Cert.Rows
open Idealize.ShloMosaic.Pipeline (Dat)

/-- The length of a row, as the programs write it. -/
def count : EReal := Ideal.ofBits .f32 0x44800000#32

/-- A row less its mean. -/
def centred (x : Fin 1024 → EReal) (k : Fin 1024) : EReal := x k - Ideal.div (∑ l, x l) count

/-- The normed row, scaled and shifted. -/
def normed (x g b : Fin 1024 → EReal) (k : Fin 1024) : EReal :=
  centred x k * Ideal.rsqrt (meanSq count (centred x)) * g k + b k

/-- The gradient of the activation, in one row. -/
def act (x g b d : Fin 1024 → EReal) (k : Fin 1024) : EReal :=
  d k * Ideal.logistic (normed x g b k)
    + normed x g b k * d k * (Ideal.logistic (normed x g b k) * (1 - Ideal.logistic (normed x g b k)))

/-- The gradient of the quotient, in one row. -/
def inner (x g b d : Fin 1024 → EReal) (k : Fin 1024) : EReal := act x g b d k * g k

/-- The gradient of a row of the input. -/
def dx (x g b d : Fin 1024 → EReal) (j : Fin 1024) : EReal :=
  quotGrad count (centred x) (inner x g b d) j
    + ∑ _ : Fin 1, Ideal.div (∑ k, (0 - quotGrad count (centred x) (inner x g b d) k)) count

/-- What a row adds to the gradient of the scale. -/
def dscale (x g b d : Fin 1024 → EReal) (j : Fin 1024) : EReal :=
  centred x j * Ideal.rsqrt (meanSq count (centred x)) * act x g b d j

/-- What a row adds to the gradient of the shift. -/
def dshift (x g b d : Fin 1024 → EReal) (j : Fin 1024) : EReal := act x g b d j

section

variable {F : FTy → Type} [FloatOps F]

/-- What the first point leaves in output 4's block. -/
theorem leftA_4 (c i a0 h0 a1 h1 a2 h2 a3 h3 a4 h4 a5 h5 a6 h6 k0 k1 k2 k3 x0 x1 x2 x3) :
    out0_A_4 (F := F) c i a0 h0 a1 h1 a2 h2 a3 h3 a4 h4 a5 h5 a6 h6 k0 k1 k2 k3 x0 x1 x2 x3 = k0_pay1 (k0_pay4 x0) (k0_pay6 x0) (k0_pay7 x0) (k0_pay12 x0 x1 x2 x3) := by
  unfold out0_A_4
  rw [View.read_writes_eq_canon _ _ _ (cover0_A_4 c i a0 h0 a1 h1 a2 h2 a3 h3 a4 h4 a5 h5 a6 h6 k0 k1 k2 k3 x0 x1 x2 x3)]
  unfold kernelRun0_A
  dsimp only
  sl_unfold_words
  rw [View.canon_unit_zero (S := S128x1024) hz2]
  simp only [View.readAt_eq_ld, h0.read_unread, h1.read_unread, h2.read_unread, h3.read_unread, h4.read_unread, h5.read_unread, h6.read_unread, View.ld_unit_zero (S := S128x1024) hz2, View.ld_unit_zero (S := S1x1024) hz2]

/-- What a later point leaves in output 4's block. -/
theorem leftB_4 (c i a0 h0 a1 h1 a2 h2 a3 h3 a4 h4 a5 h5 a6 h6 k0 k1 k2 k3 x0 x1 x2 x3 o5 o6) :
    out0_B_4 (F := F) c i a0 h0 a1 h1 a2 h2 a3 h3 a4 h4 a5 h5 a6 h6 k0 k1 k2 k3 x0 x1 x2 x3 o5 o6 = k0_pay1 (k0_pay4 x0) (k0_pay6 x0) (k0_pay7 x0) (k0_pay12 x0 x1 x2 x3) := by
  unfold out0_B_4
  rw [View.read_writes_eq_canon _ _ _ (cover0_B_4 c i a0 h0 a1 h1 a2 h2 a3 h3 a4 h4 a5 h5 a6 h6 k0 k1 k2 k3 x0 x1 x2 x3 o5 o6)]
  unfold kernelRun0_B
  dsimp only
  sl_unfold_words
  rw [View.canon_unit_zero (S := S128x1024) hz2]
  simp only [View.readAt_eq_ld, h0.read_unread, h1.read_unread, h2.read_unread, h3.read_unread, h4.read_unread, h5.read_unread, h6.read_unread, View.ld_unit_zero (S := S128x1024) hz2, View.ld_unit_zero (S := S1x1024) hz2]

/-- What the first point leaves in output 5's block. -/
theorem leftA_5 (c i a0 h0 a1 h1 a2 h2 a3 h3 a4 h4 a5 h5 a6 h6 k0 k1 k2 k3 x0 x1 x2 x3) :
    out0_A_5 (F := F) c i a0 h0 a1 h1 a2 h2 a3 h3 a4 h4 a5 h5 a6 h6 k0 k1 k2 k3 x0 x1 x2 x3 = k0_pay11 x0 x1 x2 x3 := by
  unfold out0_A_5
  rw [View.read_writes_eq_canon _ _ _ (cover0_A_5 c i a0 h0 a1 h1 a2 h2 a3 h3 a4 h4 a5 h5 a6 h6 k0 k1 k2 k3 x0 x1 x2 x3)]
  unfold kernelRun0_A
  dsimp only
  sl_unfold_words
  rw [View.canon_unit_zero (S := S1x1024) hz2]
  simp only [View.readAt_eq_ld, h0.read_unread, h1.read_unread, h2.read_unread, h3.read_unread, h4.read_unread, h5.read_unread, h6.read_unread, View.ld_unit_zero (S := S128x1024) hz2, View.ld_unit_zero (S := S1x1024) hz2]

/-- What a later point leaves in output 5's block. -/
theorem leftB_5 (c i a0 h0 a1 h1 a2 h2 a3 h3 a4 h4 a5 h5 a6 h6 k0 k1 k2 k3 x0 x1 x2 x3 o5 o6) :
    out0_B_5 (F := F) c i a0 h0 a1 h1 a2 h2 a3 h3 a4 h4 a5 h5 a6 h6 k0 k1 k2 k3 x0 x1 x2 x3 o5 o6 = k0_pay2 (k0_pay11 x0 x1 x2 x3) o5 := by
  unfold out0_B_5
  rw [View.read_writes_eq_canon _ _ _ (cover0_B_5 c i a0 h0 a1 h1 a2 h2 a3 h3 a4 h4 a5 h5 a6 h6 k0 k1 k2 k3 x0 x1 x2 x3 o5 o6)]
  unfold kernelRun0_B
  dsimp only
  sl_unfold_words
  rw [View.canon_unit_zero (S := S1x1024) hz2]
  simp only [View.readAt_eq_ld, h0.read_unread, h1.read_unread, h2.read_unread, h3.read_unread, h4.read_unread, h5.read_unread, h6.read_unread, View.ld_unit_zero (S := S128x1024) hz2, View.ld_unit_zero (S := S1x1024) hz2]

/-- What the first point leaves in output 6's block. -/
theorem leftA_6 (c i a0 h0 a1 h1 a2 h2 a3 h3 a4 h4 a5 h5 a6 h6 k0 k1 k2 k3 x0 x1 x2 x3) :
    out0_A_6 (F := F) c i a0 h0 a1 h1 a2 h2 a3 h3 a4 h4 a5 h5 a6 h6 k0 k1 k2 k3 x0 x1 x2 x3 = k0_pay10 x0 x1 x2 x3 := by
  unfold out0_A_6
  rw [View.read_writes_eq_canon _ _ _ (cover0_A_6 c i a0 h0 a1 h1 a2 h2 a3 h3 a4 h4 a5 h5 a6 h6 k0 k1 k2 k3 x0 x1 x2 x3)]
  unfold kernelRun0_A
  dsimp only
  sl_unfold_words
  rw [View.canon_unit_zero (S := S1x1024) hz2]
  simp only [View.readAt_eq_ld, h0.read_unread, h1.read_unread, h2.read_unread, h3.read_unread, h4.read_unread, h5.read_unread, h6.read_unread, View.ld_unit_zero (S := S128x1024) hz2, View.ld_unit_zero (S := S1x1024) hz2]

/-- What a later point leaves in output 6's block. -/
theorem leftB_6 (c i a0 h0 a1 h1 a2 h2 a3 h3 a4 h4 a5 h5 a6 h6 k0 k1 k2 k3 x0 x1 x2 x3 o5 o6) :
    out0_B_6 (F := F) c i a0 h0 a1 h1 a2 h2 a3 h3 a4 h4 a5 h5 a6 h6 k0 k1 k2 k3 x0 x1 x2 x3 o5 o6 = k0_pay3 (k0_pay10 x0 x1 x2 x3) o6 := by
  unfold out0_B_6
  rw [View.read_writes_eq_canon _ _ _ (cover0_B_6 c i a0 h0 a1 h1 a2 h2 a3 h3 a4 h4 a5 h5 a6 h6 k0 k1 k2 k3 x0 x1 x2 x3 o5 o6)]
  unfold kernelRun0_B
  dsimp only
  sl_unfold_words
  rw [View.canon_unit_zero (S := S1x1024) hz2]
  simp only [View.readAt_eq_ld, h0.read_unread, h1.read_unread, h2.read_unread, h3.read_unread, h4.read_unread, h5.read_unread, h6.read_unread, View.ld_unit_zero (S := S128x1024) hz2, View.ld_unit_zero (S := S1x1024) hz2]

end

/-- Output 4's block, element by element. -/
theorem value_4 (x0 : S128x1024.Idx → EReal) (x1 : S1x1024.Idx → EReal) (x2 : S1x1024.Idx → EReal) (x3 : S128x1024.Idx → EReal) (y : S128x1024.Idx) :
    k0_pay1 (F := Ideal) (k0_pay4 x0) (k0_pay6 x0) (k0_pay7 x0) (k0_pay12 x0 x1 x2 x3) y = dx (fun k => x0 (ix2 (y 0) k)) (fun k => x1 (ix2 0 k)) (fun k => x2 (ix2 0 k)) (fun k => x3 (ix2 (y 0) k)) (y 1) := by
  unfold k0_pay12 k0_pay9 k0_pay8 k0_pay7 k0_pay6 k0_pay5 k0_pay4 k0_pay1 dx inner act normed centred quotGrad meanSq count
  pointwise

/-- Output 5's block, element by element. -/
theorem value_5 (x0 : S128x1024.Idx → EReal) (x1 : S1x1024.Idx → EReal) (x2 : S1x1024.Idx → EReal) (x3 : S128x1024.Idx → EReal) (y : S1x1024.Idx) :
    k0_pay11 (F := Ideal) x0 x1 x2 x3 y = ∑ p : Fin 128, dscale (fun k => x0 (ix2 p k)) (fun k => x1 (ix2 0 k)) (fun k => x2 (ix2 0 k)) (fun k => x3 (ix2 p k)) (y 1) := by
  unfold k0_pay11 k0_pay9 k0_pay8 k0_pay6 k0_pay5 k0_pay4 dscale act normed meanSq centred count
  pointwise

/-- Output 6's block, element by element. -/
theorem value_6 (x0 : S128x1024.Idx → EReal) (x1 : S1x1024.Idx → EReal) (x2 : S1x1024.Idx → EReal) (x3 : S128x1024.Idx → EReal) (y : S1x1024.Idx) :
    k0_pay10 (F := Ideal) x0 x1 x2 x3 y = ∑ p : Fin 128, dshift (fun k => x0 (ix2 p k)) (fun k => x1 (ix2 0 k)) (fun k => x2 (ix2 0 k)) (fun k => x3 (ix2 p k)) (y 1) := by
  unfold k0_pay10 k0_pay9 k0_pay8 k0_pay6 k0_pay5 k0_pay4 dshift act normed meanSq centred count
  pointwise

variable (m : (ℓ : Loc nD τ sig) → Buf (Elt Ideal) ℓ)

/-- The row of the whole array that a row of a point's block is. -/
def place (t : Fin cfg0.N) (p : Fin 128) : Fin 2048 := ⟨128 * t.val + p.val, by have h := t.isLt; have hN : cfg0.N = 16 := N_0; omega⟩

theorem block_0 (c : Dev nD) (t : Fin cfg0.N) (p : Fin 128) :
    (fun k : Fin 1024 => (iblk m c 0 t (ix2 p k) : EReal)) = fun k => m (c.tc.loc main_arg0) (ix2 (place t p) k) := by
  funext k
  have hi := (by decide +kernel : ∀ t : Fin grid0.N, win0_0.index t 0 = t.val ∧ win0_0.index t 1 = 0) t
  unfold iblk
  rw [View.read_apply]
  show m (c.tc.loc main_arg0) _ = m (c.tc.loc main_arg0) _
  refine congrArg _ (funext fun a => Fin.ext ?_)
  match a with
  | ⟨0, _⟩ => show win0_0.index t 0 * 128 + 1 * p.val = 128 * t.val + p.val; rw [hi.1]; omega
  | ⟨1, _⟩ => show win0_0.index t 1 * 1024 + 1 * k.val = k.val; rw [hi.2]; omega

theorem block_1 (c : Dev nD) (t : Fin cfg0.N) :
    (fun k : Fin 1024 => (iblk m c 1 t (ix2 0 k) : EReal)) = fun k => m (c.tc.loc main_arg1) (ix2 0 k) := by
  funext k
  have hi := (by decide +kernel : ∀ t : Fin grid0.N, win0_1.index t 0 = 0 ∧ win0_1.index t 1 = 0) t
  unfold iblk
  rw [View.read_apply]
  show m (c.tc.loc main_arg1) _ = m (c.tc.loc main_arg1) _
  refine congrArg _ (funext fun a => Fin.ext ?_)
  match a with
  | ⟨0, _⟩ => show win0_1.index t 0 * 1 + 1 * 0 = 0; rw [hi.1]
  | ⟨1, _⟩ => show win0_1.index t 1 * 1024 + 1 * k.val = k.val; rw [hi.2]; omega

theorem block_2 (c : Dev nD) (t : Fin cfg0.N) :
    (fun k : Fin 1024 => (iblk m c 2 t (ix2 0 k) : EReal)) = fun k => m (c.tc.loc main_arg2) (ix2 0 k) := by
  funext k
  have hi := (by decide +kernel : ∀ t : Fin grid0.N, win0_2.index t 0 = 0 ∧ win0_2.index t 1 = 0) t
  unfold iblk
  rw [View.read_apply]
  show m (c.tc.loc main_arg2) _ = m (c.tc.loc main_arg2) _
  refine congrArg _ (funext fun a => Fin.ext ?_)
  match a with
  | ⟨0, _⟩ => show win0_2.index t 0 * 1 + 1 * 0 = 0; rw [hi.1]
  | ⟨1, _⟩ => show win0_2.index t 1 * 1024 + 1 * k.val = k.val; rw [hi.2]; omega

theorem block_3 (c : Dev nD) (t : Fin cfg0.N) (p : Fin 128) :
    (fun k : Fin 1024 => (iblk m c 3 t (ix2 p k) : EReal)) = fun k => m (c.tc.loc main_arg3) (ix2 (place t p) k) := by
  funext k
  have hi := (by decide +kernel : ∀ t : Fin grid0.N, win0_3.index t 0 = t.val ∧ win0_3.index t 1 = 0) t
  unfold iblk
  rw [View.read_apply]
  show m (c.tc.loc main_arg3) _ = m (c.tc.loc main_arg3) _
  refine congrArg _ (funext fun a => Fin.ext ?_)
  match a with
  | ⟨0, _⟩ => show win0_3.index t 0 * 128 + 1 * p.val = 128 * t.val + p.val; rw [hi.1]; omega
  | ⟨1, _⟩ => show win0_3.index t 1 * 1024 + 1 * k.val = k.val; rw [hi.2]; omega

/-- Result 0 in whole. -/
def full_4 (x0 : S2048x1024.Idx → EReal) (x1 : S1x1024.Idx → EReal) (x2 : S1x1024.Idx → EReal) (x3 : S2048x1024.Idx → EReal) : S2048x1024.Idx → EReal := fun j => dx (fun k => x0 (ix2 (j 0) k)) (fun k => x1 (ix2 0 k)) (fun k => x2 (ix2 0 k)) (fun k => x3 (ix2 (j 0) k)) (j 1)

theorem held_4 (c : Dev nD) (t : Fin cfg0.N) : (outsAt0 m c t.val t.isLt).1 = k0_pay1 (k0_pay4 (iblk m c 0 t)) (k0_pay6 (iblk m c 0 t)) (k0_pay7 (iblk m c 0 t)) (k0_pay12 (iblk m c 0 t) (iblk m c 1 t) (iblk m c 2 t) (iblk m c 3 t)) := by
  have hN : cfg0.N = 16 := N_0
  have hlt := t.isLt
  by_cases h : t.val % 16 = 0
  · have g : ¬1 ≤ t.val := by omega
    simp only [outsAt0_A m c t h g h g, leftA_4]
  · have g : 1 ≤ t.val := by omega
    simp only [outsAt0_B m c t h g h g, leftB_4]

theorem flushed_eq_4 (c : Dev nD) (t : Fin cfg0.N) :
    (dats m 0 c).flushed 4 t = ((cfg0.win 4).blk t).view.read (Elt Ideal) (full_4 (m (c.tc.loc main_arg0)) (m (c.tc.loc main_arg1)) (m (c.tc.loc main_arg2)) (m (c.tc.loc main_arg3))) := by
  rw [flushed4, held_4]
  funext y
  have hi := (by decide +kernel : ∀ t : Fin grid0.N, win0_4.index t 0 = t.val ∧ win0_4.index t 1 = 0) t
  have e : ((View.whole main_v0_0).slice ((win0 4).rect t)).emb y = ix2 (place t (y 0)) (y 1) := by
    funext a
    refine Fin.ext ?_
    match a with
    | ⟨0, _⟩ => show win0_4.index t 0 * 128 + 1 * (y 0).val = 128 * t.val + (y 0).val; rw [hi.1]; omega
    | ⟨1, _⟩ => show win0_4.index t 1 * 1024 + 1 * (y 1).val = (y 1).val; rw [hi.2]; omega
  refine (value_4 (iblk m c 0 t) (iblk m c 1 t) (iblk m c 2 t) (iblk m c 3 t) y).trans ?_
  rw [View.read_apply]
  show _ = full_4 (m (c.tc.loc main_arg0)) (m (c.tc.loc main_arg1)) (m (c.tc.loc main_arg2)) (m (c.tc.loc main_arg3)) (((View.whole main_v0_0).slice ((win0 4).rect t)).emb y)
  rw [e]
  have q : ∀ (p : Fin 128) (j : Fin 1024), dx (fun k => iblk m c 0 t (ix2 p k)) (fun k => iblk m c 1 t (ix2 0 k)) (fun k => iblk m c 2 t (ix2 0 k)) (fun k => iblk m c 3 t (ix2 p k)) j
      = dx (fun k => m (c.tc.loc main_arg0) (ix2 (place t p) k)) (fun k => m (c.tc.loc main_arg1) (ix2 0 k)) (fun k => m (c.tc.loc main_arg2) (ix2 0 k)) (fun k => m (c.tc.loc main_arg3) (ix2 (place t p) k)) j := by
    intro p j
    rw [block_0, block_1, block_2, block_3]
  exact q (y 0) (y 1)

theorem covered_4 (i : S2048x1024.Idx) : ∃ t : Fin cfg0.N, (cfg0.win 4).flush t = true ∧ i ∈ ((cfg0.win 4).blk t).view.set := by
  have h0 : (i 0).val < 2048 := (i 0).isLt
  have h1 : (i 1).val < 1024 := (i 1).isLt
  obtain ⟨t, ht, e0, e1⟩ := (by decide +kernel : ∀ p0 : Fin 16, ∃ t : Fin grid0.N, win0_4.flush t = true
    ∧ win0_4.index t 0 = p0.val ∧ win0_4.index t 1 = 0) ⟨(i 0).val / 128, by omega⟩
  refine ⟨t, ht, ?_⟩
  show i ∈ ((View.whole main_v0_0).slice (win0_4.rect t)).set
  rw [View.set_slice_whole, Rect.mem_set_unit]
  intro a
  match a with
  | ⟨0, _⟩ => show win0_4.index t 0 * 128 ≤ (i 0).val ∧ (i 0).val < win0_4.index t 0 * 128 + 128; rw [e0]; simp only [] <;> omega
  | ⟨1, _⟩ => show win0_4.index t 1 * 1024 ≤ (i 1).val ∧ (i 1).val < win0_4.index t 1 * 1024 + 1024; rw [e1]; omega

/-- Result 0 after the run. -/
theorem final_4 (c : Dev nD) : (dats m 0 c).arrAt 4 cfg0.N = full_4 (m (c.tc.loc main_arg0)) (m (c.tc.loc main_arg1)) (m (c.tc.loc main_arg2)) (m (c.tc.loc main_arg3)) :=
  (dats m 0 c).arrAt_eq_of_cover 4 _ (fun t _ => flushed_eq_4 m c t) covered_4

/-- Result 1 in whole: the sum over all rows. -/
def full_5 (x0 : S2048x1024.Idx → EReal) (x1 : S1x1024.Idx → EReal) (x2 : S1x1024.Idx → EReal) (x3 : S2048x1024.Idx → EReal) : S1x1024.Idx → EReal := fun j => ∑ r : Fin 2048, dscale (fun k => x0 (ix2 r k)) (fun k => x1 (ix2 0 k)) (fun k => x2 (ix2 0 k)) (fun k => x3 (ix2 r k)) (j 1)

/-- What a point adds to result 1. -/
def add_5 (c : Dev nD) (n : ℕ) : S1x1024.Idx → EReal := fun y =>
  if h : n < cfg0.N then ∑ p : Fin 128, dscale (fun k => iblk m c 0 ⟨n, h⟩ (ix2 p k)) (fun k => iblk m c 1 ⟨n, h⟩ (ix2 0 k)) (fun k => iblk m c 2 ⟨n, h⟩ (ix2 0 k)) (fun k => iblk m c 3 ⟨n, h⟩ (ix2 p k)) (y 1) else 0

theorem begin_5 (c : Dev nD) (t : Fin cfg0.N) (h : t.val % 16 = 0) (y : S1x1024.Idx) :
    (outsAt0 m c t.val t.isLt).2.1 y = add_5 m c t.val y := by
  have hN : cfg0.N = 16 := N_0
  have hlt := t.isLt
  have g : ¬1 ≤ t.val := by omega
  simp only [outsAt0_A m c t h g h g, leftA_5]
  unfold add_5
  rw [dif_pos hlt]
  exact value_5 (iblk m c 0 t) (iblk m c 1 t) (iblk m c 2 t) (iblk m c 3 t) y

theorem step_5 (c : Dev nD) (t : Fin cfg0.N) (h : ¬t.val % 16 = 0) (y : S1x1024.Idx) :
    (outsAt0 m c t.val t.isLt).2.1 y
      = (outsAt0 m c (t.val - 1) (Nat.lt_of_le_of_lt (Nat.sub_le _ _) t.isLt)).2.1 y + add_5 m c t.val y := by
  have hN : cfg0.N = 16 := N_0
  have hlt := t.isLt
  have g : 1 ≤ t.val := by omega
  have v := value_5 (iblk m c 0 t) (iblk m c 1 t) (iblk m c 2 t) (iblk m c 3 t) y
  simp only [outsAt0_B m c t h g h g, leftB_5]
  unfold add_5
  rw [dif_pos hlt]
  generalize (outsAt0 m c (t.val - 1) (Nat.lt_of_le_of_lt (Nat.sub_le _ _) t.isLt)).2.1 = acc
  refine Eq.trans ?_ (congrArg (fun u : EReal => acc y + u) v)
  unfold k0_pay2
  rw [shapeCast_self]
  rfl

/-- Result 1's block after a point: the sum of what the points so far have added. -/
theorem running_5 (c : Dev nD) (y : S1x1024.Idx) : ∀ (n : ℕ) (hn : n < cfg0.N),
    (outsAt0 m c n hn).2.1 y = ∑ s ∈ Finset.range (n + 1), add_5 m c s y
  | 0, hn => by
    rw [Finset.sum_range_one]
    exact begin_5 m c ⟨0, hn⟩ rfl y
  | n + 1, hn => by
    have hN : cfg0.N = 16 := N_0
    rw [Finset.sum_range_succ, ← running_5 c y n (by omega)]
    exact step_5 m c ⟨n + 1, hn⟩ (by show ¬(n + 1) % 16 = 0; omega) y

theorem flushed_eq_5 (c : Dev nD) (t : Fin cfg0.N) (hf : (cfg0.win 5).flush t = true) :
    (dats m 0 c).flushed 5 t = ((cfg0.win 5).blk t).view.read (Elt Ideal) (full_5 (m (c.tc.loc main_arg0)) (m (c.tc.loc main_arg1)) (m (c.tc.loc main_arg2)) (m (c.tc.loc main_arg3))) := by
  have hN : cfg0.N = 16 := N_0
  have hlt := t.isLt
  have hm : t.val % 16 = 15 := (flush0_5 t).mp hf
  rw [flushed5]
  funext y
  have hi := (by decide +kernel : ∀ t : Fin grid0.N, win0_5.index t 0 = 0 ∧ win0_5.index t 1 = 0) t
  have e : ((View.whole main_v0_1).slice ((win0 5).rect t)).emb y = y := by
    funext a
    refine Fin.ext ?_
    match a with
    | ⟨0, _⟩ => show win0_5.index t 0 * 1 + 1 * (y 0).val = (y 0).val; rw [hi.1]; omega
    | ⟨1, _⟩ => show win0_5.index t 1 * 1024 + 1 * (y 1).val = (y 1).val; rw [hi.2]; omega
  refine (running_5 m c y t.val t.isLt).trans ?_
  rw [View.read_apply]
  show _ = full_5 (m (c.tc.loc main_arg0)) (m (c.tc.loc main_arg1)) (m (c.tc.loc main_arg2)) (m (c.tc.loc main_arg3)) (((View.whole main_v0_1).slice ((win0 5).rect t)).emb y)
  rw [e, show t.val + 1 = 16 by omega, Finset.sum_range]
  unfold full_5
  have e2 : ∀ s : Fin 16, add_5 m c s.val y = ∑ p : Fin 128, dscale (fun k => m (c.tc.loc main_arg0) (ix2 (place ⟨s.val, by omega⟩ p) k)) (fun k => m (c.tc.loc main_arg1) (ix2 0 k)) (fun k => m (c.tc.loc main_arg2) (ix2 0 k)) (fun k => m (c.tc.loc main_arg3) (ix2 (place ⟨s.val, by omega⟩ p) k)) (y 1) := by
    intro s
    unfold add_5
    rw [dif_pos (by omega)]
    refine Finset.sum_congr rfl fun p _ => ?_
    rw [block_0, block_1, block_2, block_3]
  rw [Finset.sum_congr rfl fun s _ => e2 s]
  refine sum_blocks (by norm_num) _ _ fun s p r hr => ?_
  rw [show place ⟨s.val, by omega⟩ p = r from Fin.ext hr.symm]

theorem covered_5 (i : S1x1024.Idx) : ∃ t : Fin cfg0.N, (cfg0.win 5).flush t = true ∧ i ∈ ((cfg0.win 5).blk t).view.set := by
  have h0 : (i 0).val < 1 := (i 0).isLt
  have h1 : (i 1).val < 1024 := (i 1).isLt
  obtain ⟨t, ht, e0, e1⟩ := (by decide +kernel : ∃ t : Fin grid0.N, win0_5.flush t = true
    ∧ win0_5.index t 0 = 0 ∧ win0_5.index t 1 = 0)
  refine ⟨t, ht, ?_⟩
  show i ∈ ((View.whole main_v0_1).slice (win0_5.rect t)).set
  rw [View.set_slice_whole, Rect.mem_set_unit]
  intro a
  match a with
  | ⟨0, _⟩ => show win0_5.index t 0 * 1 ≤ (i 0).val ∧ (i 0).val < win0_5.index t 0 * 1 + 1; rw [e0]; omega
  | ⟨1, _⟩ => show win0_5.index t 1 * 1024 ≤ (i 1).val ∧ (i 1).val < win0_5.index t 1 * 1024 + 1024; rw [e1]; omega

/-- Result 1 after the run. -/
theorem final_5 (c : Dev nD) : (dats m 0 c).arrAt 5 cfg0.N = full_5 (m (c.tc.loc main_arg0)) (m (c.tc.loc main_arg1)) (m (c.tc.loc main_arg2)) (m (c.tc.loc main_arg3)) :=
  (dats m 0 c).arrAt_eq_of_cover 5 _ (flushed_eq_5 m c) covered_5

/-- Result 2 in whole: the sum over all rows. -/
def full_6 (x0 : S2048x1024.Idx → EReal) (x1 : S1x1024.Idx → EReal) (x2 : S1x1024.Idx → EReal) (x3 : S2048x1024.Idx → EReal) : S1x1024.Idx → EReal := fun j => ∑ r : Fin 2048, dshift (fun k => x0 (ix2 r k)) (fun k => x1 (ix2 0 k)) (fun k => x2 (ix2 0 k)) (fun k => x3 (ix2 r k)) (j 1)

/-- What a point adds to result 2. -/
def add_6 (c : Dev nD) (n : ℕ) : S1x1024.Idx → EReal := fun y =>
  if h : n < cfg0.N then ∑ p : Fin 128, dshift (fun k => iblk m c 0 ⟨n, h⟩ (ix2 p k)) (fun k => iblk m c 1 ⟨n, h⟩ (ix2 0 k)) (fun k => iblk m c 2 ⟨n, h⟩ (ix2 0 k)) (fun k => iblk m c 3 ⟨n, h⟩ (ix2 p k)) (y 1) else 0

theorem begin_6 (c : Dev nD) (t : Fin cfg0.N) (h : t.val % 16 = 0) (y : S1x1024.Idx) :
    (outsAt0 m c t.val t.isLt).2.2 y = add_6 m c t.val y := by
  have hN : cfg0.N = 16 := N_0
  have hlt := t.isLt
  have g : ¬1 ≤ t.val := by omega
  simp only [outsAt0_A m c t h g h g, leftA_6]
  unfold add_6
  rw [dif_pos hlt]
  exact value_6 (iblk m c 0 t) (iblk m c 1 t) (iblk m c 2 t) (iblk m c 3 t) y

theorem step_6 (c : Dev nD) (t : Fin cfg0.N) (h : ¬t.val % 16 = 0) (y : S1x1024.Idx) :
    (outsAt0 m c t.val t.isLt).2.2 y
      = (outsAt0 m c (t.val - 1) (Nat.lt_of_le_of_lt (Nat.sub_le _ _) t.isLt)).2.2 y + add_6 m c t.val y := by
  have hN : cfg0.N = 16 := N_0
  have hlt := t.isLt
  have g : 1 ≤ t.val := by omega
  have v := value_6 (iblk m c 0 t) (iblk m c 1 t) (iblk m c 2 t) (iblk m c 3 t) y
  simp only [outsAt0_B m c t h g h g, leftB_6]
  unfold add_6
  rw [dif_pos hlt]
  generalize (outsAt0 m c (t.val - 1) (Nat.lt_of_le_of_lt (Nat.sub_le _ _) t.isLt)).2.2 = acc
  refine Eq.trans ?_ (congrArg (fun u : EReal => acc y + u) v)
  unfold k0_pay3
  rw [shapeCast_self]
  rfl

/-- Result 2's block after a point: the sum of what the points so far have added. -/
theorem running_6 (c : Dev nD) (y : S1x1024.Idx) : ∀ (n : ℕ) (hn : n < cfg0.N),
    (outsAt0 m c n hn).2.2 y = ∑ s ∈ Finset.range (n + 1), add_6 m c s y
  | 0, hn => by
    rw [Finset.sum_range_one]
    exact begin_6 m c ⟨0, hn⟩ rfl y
  | n + 1, hn => by
    have hN : cfg0.N = 16 := N_0
    rw [Finset.sum_range_succ, ← running_6 c y n (by omega)]
    exact step_6 m c ⟨n + 1, hn⟩ (by show ¬(n + 1) % 16 = 0; omega) y

theorem flushed_eq_6 (c : Dev nD) (t : Fin cfg0.N) (hf : (cfg0.win 6).flush t = true) :
    (dats m 0 c).flushed 6 t = ((cfg0.win 6).blk t).view.read (Elt Ideal) (full_6 (m (c.tc.loc main_arg0)) (m (c.tc.loc main_arg1)) (m (c.tc.loc main_arg2)) (m (c.tc.loc main_arg3))) := by
  have hN : cfg0.N = 16 := N_0
  have hlt := t.isLt
  have hm : t.val % 16 = 15 := (flush0_6 t).mp hf
  rw [flushed6]
  funext y
  have hi := (by decide +kernel : ∀ t : Fin grid0.N, win0_6.index t 0 = 0 ∧ win0_6.index t 1 = 0) t
  have e : ((View.whole main_v0_2).slice ((win0 6).rect t)).emb y = y := by
    funext a
    refine Fin.ext ?_
    match a with
    | ⟨0, _⟩ => show win0_6.index t 0 * 1 + 1 * (y 0).val = (y 0).val; rw [hi.1]; omega
    | ⟨1, _⟩ => show win0_6.index t 1 * 1024 + 1 * (y 1).val = (y 1).val; rw [hi.2]; omega
  refine (running_6 m c y t.val t.isLt).trans ?_
  rw [View.read_apply]
  show _ = full_6 (m (c.tc.loc main_arg0)) (m (c.tc.loc main_arg1)) (m (c.tc.loc main_arg2)) (m (c.tc.loc main_arg3)) (((View.whole main_v0_2).slice ((win0 6).rect t)).emb y)
  rw [e, show t.val + 1 = 16 by omega, Finset.sum_range]
  unfold full_6
  have e2 : ∀ s : Fin 16, add_6 m c s.val y = ∑ p : Fin 128, dshift (fun k => m (c.tc.loc main_arg0) (ix2 (place ⟨s.val, by omega⟩ p) k)) (fun k => m (c.tc.loc main_arg1) (ix2 0 k)) (fun k => m (c.tc.loc main_arg2) (ix2 0 k)) (fun k => m (c.tc.loc main_arg3) (ix2 (place ⟨s.val, by omega⟩ p) k)) (y 1) := by
    intro s
    unfold add_6
    rw [dif_pos (by omega)]
    refine Finset.sum_congr rfl fun p _ => ?_
    rw [block_0, block_1, block_2, block_3]
  rw [Finset.sum_congr rfl fun s _ => e2 s]
  refine sum_blocks (by norm_num) _ _ fun s p r hr => ?_
  rw [show place ⟨s.val, by omega⟩ p = r from Fin.ext hr.symm]

theorem covered_6 (i : S1x1024.Idx) : ∃ t : Fin cfg0.N, (cfg0.win 6).flush t = true ∧ i ∈ ((cfg0.win 6).blk t).view.set := by
  have h0 : (i 0).val < 1 := (i 0).isLt
  have h1 : (i 1).val < 1024 := (i 1).isLt
  obtain ⟨t, ht, e0, e1⟩ := (by decide +kernel : ∃ t : Fin grid0.N, win0_6.flush t = true
    ∧ win0_6.index t 0 = 0 ∧ win0_6.index t 1 = 0)
  refine ⟨t, ht, ?_⟩
  show i ∈ ((View.whole main_v0_2).slice (win0_6.rect t)).set
  rw [View.set_slice_whole, Rect.mem_set_unit]
  intro a
  match a with
  | ⟨0, _⟩ => show win0_6.index t 0 * 1 ≤ (i 0).val ∧ (i 0).val < win0_6.index t 0 * 1 + 1; rw [e0]; omega
  | ⟨1, _⟩ => show win0_6.index t 1 * 1024 ≤ (i 1).val ∧ (i 1).val < win0_6.index t 1 * 1024 + 1024; rw [e1]; omega

/-- Result 2 after the run. -/
theorem final_6 (c : Dev nD) : (dats m 0 c).arrAt 6 cfg0.N = full_6 (m (c.tc.loc main_arg0)) (m (c.tc.loc main_arg1)) (m (c.tc.loc main_arg2)) (m (c.tc.loc main_arg3)) :=
  (dats m 0 c).arrAt_eq_of_cover 6 _ (flushed_eq_6 m c) covered_6

set_option maxHeartbeats 2000000 in
/-- The call and its reference leave the same results. -/
theorem algebraic : Cert.algebraic_CfLnBwdIdeal_CfLnBwdRefIdeal (hCfLnBwdIdeal := Cert.CfLnBwdIdeal.Gen.facts)
    (hCfLnBwdRefIdeal := Cert.CfLnBwdRefIdeal.Gen.facts) := by
  intro m g m' g' _ hargs
  refine ⟨fun c => full_4 (m (c.tc.loc main_arg0)) (m (c.tc.loc main_arg1)) (m (c.tc.loc main_arg2)) (m (c.tc.loc main_arg3)), fun c => full_5 (m (c.tc.loc main_arg0)) (m (c.tc.loc main_arg1)) (m (c.tc.loc main_arg2)) (m (c.tc.loc main_arg3)), fun c => full_6 (m (c.tc.loc main_arg0)) (m (c.tc.loc main_arg1)) (m (c.tc.loc main_arg2)) (m (c.tc.loc main_arg3)), ?_, ?_⟩
  · refine (θ_run (Cert.CfLnBwdIdeal.defs (F := Ideal)) _ _).mono (fun r h c => ?_) (run_blocks m g)
    obtain ⟨v0, v1, v2, k⟩ := h c
    exact ⟨v0.trans (final_4 m c), v1.trans (final_5 m c), v2.trans (final_6 m c), k⟩
  · refine (θ_run (Cert.CfLnBwdRefIdeal.defs (F := Ideal)) _ _).mono (fun r h c => ?_) (Cert.CfLnBwdRefIdeal.Value.run (F := Ideal) m' g')
    obtain ⟨v0, v1, v2, k⟩ := h c
    obtain ⟨e0, e1, e2, e3⟩ := hargs c
    refine ⟨v0.trans ?_, v1.trans ?_, v2.trans ?_, k⟩
    · funext i
      try unfold Cert.CfLnBwdRefIdeal.Value.res_main_v26
      try unfold Cert.CfLnBwdRefIdeal.Value.res_main_v29
      try unfold Cert.CfLnBwdRefIdeal.Value.res_main_v53
      rw [e0, e1, e2, e3]
      show _ = full_4 (m (c.tc.loc main_arg0)) (m (c.tc.loc main_arg1)) (m (c.tc.loc main_arg2)) (m (c.tc.loc main_arg3)) i
      unfold full_4 dx inner act normed centred quotGrad meanSq count
      pointwise
      simp only [logistic_eq, zero_sub]
      try rfl
    · funext i
      try unfold Cert.CfLnBwdRefIdeal.Value.res_main_v26
      try unfold Cert.CfLnBwdRefIdeal.Value.res_main_v29
      try unfold Cert.CfLnBwdRefIdeal.Value.res_main_v53
      rw [e0, e1, e2, e3]
      show _ = full_5 (m (c.tc.loc main_arg0)) (m (c.tc.loc main_arg1)) (m (c.tc.loc main_arg2)) (m (c.tc.loc main_arg3)) i
      unfold full_5 dscale act normed meanSq centred count
      pointwise
      simp only [logistic_eq]
      try rfl
    · funext i
      try unfold Cert.CfLnBwdRefIdeal.Value.res_main_v26
      try unfold Cert.CfLnBwdRefIdeal.Value.res_main_v29
      try unfold Cert.CfLnBwdRefIdeal.Value.res_main_v53
      rw [e0, e1, e2, e3]
      show _ = full_6 (m (c.tc.loc main_arg0)) (m (c.tc.loc main_arg1)) (m (c.tc.loc main_arg2)) (m (c.tc.loc main_arg3)) i
      unfold full_6 dshift act normed meanSq centred count
      pointwise
      simp only [logistic_eq]
      try rfl

end Cert.CfLnBwdIdeal.Value
-- ==== Proof.AdaDw.lean ====
/- The gradient of the conditioning weight: every element of the result is the sum over the eight examples of the activated
   condition times the gradient of what the weight gives, and the reference's result is the same sum. -/
module

public import proofs.«01_k».proof.Defs
public import proofs.«01_k».proof.Proof.Gen.AdaDwIdeal.Value
public import proofs.«01_k».proof.Proof.Gen.AdaDwRefIdeal.Run
public import proofs.«01_k».proof.Proof.Rows

@[expose] public section

noncomputable section

namespace Cert.AdaDwIdeal.Value

open Cert.AdaDwIdeal Cert.AdaDwIdeal.Gen Idealize.ShloMosaic Idealize.ShloMosaic.TcCoe Idealize.SL.Sem Cert.Blocks Cert.Rows
open Idealize.ShloMosaic.Pipeline (Dat)

variable (m : (ℓ : Loc nD τ sig) → Buf (Elt Ideal) ℓ)

/-- The gradient, element by element. -/
def product (a : S8x2048.Idx → EReal) (b : S8x3072.Idx → EReal) : S2048x3072.Idx → EReal := fun i =>
  ∑ k : Fin 8, a (ix2 k (i 0)) * Ideal.logistic (a (ix2 k (i 0)))
    * b (ix2 k (i 1))

/-- The blocks that a grid point reads, by the block that it writes. -/
theorem index_facts : ∀ t : Fin cfg0.N,
    win0_0.index t 0 = 0 ∧ win0_0.index t 1 = 0 ∧ win0_2.index t 0 = 0
    ∧ win0_1.index t 0 = 0 ∧ win0_1.index t 1 = win0_2.index t 1
    ∧ win0_2.index t 1 < 6 :=
  (by decide +kernel : ∀ t : Fin grid0.N, _)

/-- What a point writes back is its block of the product. -/
theorem flushed_eq (c : Dev nD) (t : Fin cfg0.N) :
    (dats m 0 c).flushed 2 t = ((cfg0.win 2).blk t).view.read (Elt Ideal) (product (m (c.tc.loc main_arg0)) (m (c.tc.loc main_arg1))) := by
  rw [flushed2]
  funext y
  obtain ⟨a0, a1, o0, b0, b1, o1⟩ := index_facts t
  have hy0 : (y 0).val < 2048 := (y 0).isLt
  have hy1 : (y 1).val < 512 := (y 1).isLt
  have ha : ∀ k : Fin 8, iblk m c 0 t (ix2 k (y 0)) = m (c.tc.loc main_arg0) (ix2 k ((((View.whole main_v0).slice ((win0 2).rect t)).emb y) 0)) := by
    intro k
    unfold iblk
    rw [View.read_apply]
    show m (c.tc.loc main_arg0) _ = m (c.tc.loc main_arg0) _
    refine congrArg _ (funext fun a => Fin.ext ?_)
    match a with
    | ⟨0, _⟩ => show win0_0.index t 0 * 8 + 1 * k.val = k.val; rw [a0] <;> omega
    | ⟨1, _⟩ => show win0_0.index t 1 * 2048 + 1 * (y 0).val = (win0_2.index t 0 * 2048 + 1 * (y 0).val); rw [a1, o0] <;> omega
  rw [View.read_apply]
  show out0_2 (iblk m c 0 t) (iblk m c 1 t) _ = _
  unfold out0_2
  rw [View.canon_unit_zero hz2, View.ld_unit_zero (S := S8x2048) hz2, View.ld_unit_zero (S := S8x512) hz2]
  unfold k0_pay1
  pointwise
  show _ = product (m (c.tc.loc main_arg0)) (m (c.tc.loc main_arg1)) (((View.whole main_v0).slice ((win0 2).rect t)).emb y)
  unfold product
  refine Finset.sum_congr rfl fun k _ => congrArg₂ (fun u v : EReal => u * v) ?_ ?_
  · exact congrArg (fun u : EReal => u * Ideal.logistic u) (ha k)
  · unfold iblk
    rw [View.read_apply]
    show m (c.tc.loc main_arg1) _ = m (c.tc.loc main_arg1) _
    refine congrArg _ (funext fun a => Fin.ext ?_)
    match a with
    | ⟨0, _⟩ => show win0_1.index t 0 * 8 + 1 * k.val = k.val; rw [b0] <;> omega
    | ⟨1, _⟩ => show win0_1.index t 1 * 512 + 1 * (y 1).val = (win0_2.index t 1 * 512 + 1 * (y 1).val); rw [b1] <;> omega

/-- Every index of the result lies in the block of some point. -/
theorem covered (i : S2048x3072.Idx) : ∃ t : Fin cfg0.N, (cfg0.win 2).flush t = true ∧ i ∈ ((cfg0.win 2).blk t).view.set := by
  have h0 : (i 0).val < 2048 := (i 0).isLt
  have h1 : (i 1).val < 3072 := (i 1).isLt
  obtain ⟨t, ht, e0, e1⟩ := (by decide +kernel : ∀ (p0 : Fin 1) (p1 : Fin 6), ∃ t : Fin grid0.N, win0_2.flush t = true
    ∧ win0_2.index t 0 = p0.val ∧ win0_2.index t 1 = p1.val)
    ⟨(i 0).val / 2048, by omega⟩ ⟨(i 1).val / 512, by omega⟩
  refine ⟨t, ht, ?_⟩
  show i ∈ ((View.whole main_v0).slice (win0_2.rect t)).set
  rw [View.set_slice_whole, Rect.mem_set_unit]
  intro a
  match a with
  | ⟨0, _⟩ => show win0_2.index t 0 * 2048 ≤ (i 0).val ∧ (i 0).val < win0_2.index t 0 * 2048 + 2048; rw [e0]; simp only [] <;> omega
  | ⟨1, _⟩ => show win0_2.index t 1 * 512 ≤ (i 1).val ∧ (i 1).val < win0_2.index t 1 * 512 + 512; rw [e1]; simp only [] <;> omega

/-- The result array after the run is the product. -/
theorem final (c : Dev nD) : (dats m 0 c).arrAt 2 cfg0.N = product (m (c.tc.loc main_arg0)) (m (c.tc.loc main_arg1)) :=
  (dats m 0 c).arrAt_eq_of_cover 2 _ (fun t _ => flushed_eq m c t) covered

/-- The call and its reference leave the same result. -/
theorem algebraic : Cert.algebraic_AdaDwIdeal_AdaDwRefIdeal (hAdaDwIdeal := Cert.AdaDwIdeal.Gen.facts)
    (hAdaDwRefIdeal := Cert.AdaDwRefIdeal.Gen.facts) := by
  intro m g m' g' _ hargs
  refine ⟨fun c => product (m (c.tc.loc main_arg0)) (m (c.tc.loc main_arg1)), ?_, ?_⟩
  · refine (θ_run (Cert.AdaDwIdeal.defs (F := Ideal)) _ _).mono (fun r h c => ?_) (run_blocks m g)
    obtain ⟨hv, h0, h1⟩ := h c
    exact ⟨hv.trans (final m c), h0, h1⟩
  · refine (θ_run (Cert.AdaDwRefIdeal.defs (F := Ideal)) _ _).mono (fun r h c => ?_) (Cert.AdaDwRefIdeal.Value.run (F := Ideal) m' g')
    obtain ⟨hv, h0, h1⟩ := h c
    refine ⟨hv.trans ?_, h0, h1⟩
    funext i
    rw [(hargs c).1, (hargs c).2]
    unfold product
    pointwise
    refine Finset.sum_congr rfl fun k _ => ?_
    rw [logistic_eq]
    exact mul_comm _ _

end Cert.AdaDwIdeal.Value
-- ==== Proof.SmallSum.lean ====
/- The sum of the eight devices' packed small gradients. -/
module

public import proofs.«01_k».proof.Defs
public import proofs.«01_k».proof.Proof.Gen.SmallSumIdeal.Value
public import proofs.«01_k».proof.Proof.Gen.SmallSumRefIdeal.Run
public import Idealize.ShloMosaic.Lib.Pointwise

@[expose] public section

noncomputable section

namespace Cert.SmallSumIdeal.Value

open Cert.SmallSumIdeal Cert.SmallSumIdeal.Gen Idealize.ShloMosaic Idealize.ShloMosaic.TcCoe Idealize.SL.Sem

/-- The call and its reference leave the same result. -/
theorem algebraic : Cert.algebraic_SmallSumIdeal_SmallSumRefIdeal (hSmallSumIdeal := Cert.SmallSumIdeal.Gen.facts)
    (hSmallSumRefIdeal := Cert.SmallSumRefIdeal.Gen.facts) := by
  intro m g m' g' _ hargs
  refine ⟨_, run m g, ?_⟩
  refine (θ_run (Cert.SmallSumRefIdeal.defs (F := Ideal)) _ _).mono (fun r h c => ?_) (Cert.SmallSumRefIdeal.Value.run (F := Ideal) m' g')
  obtain ⟨h1, k⟩ := h c
  refine ⟨h1.trans ?_, k⟩
  rw [hargs c]
  funext i
  unfold G1 k0_pay1
  pointwise
  rw [Fin.sum_univ_eight]

end Cert.SmallSumIdeal.Value
-- ==== Proof.Norm1Fwd.lean ====
/- The first norm and its modulation, row by row. -/
module

public import proofs.«01_k».proof.Defs
public import proofs.«01_k».proof.Proof.Gen.Norm1FwdIdeal.Value
public import proofs.«01_k».proof.Proof.Gen.Norm1FwdRefIdeal.Run
public import proofs.«01_k».proof.Proof.Rows

@[expose] public section

noncomputable section

namespace Cert.Norm1FwdIdeal.Value

open Cert.Norm1FwdIdeal Cert.Norm1FwdIdeal.Gen Idealize.ShloMosaic Idealize.ShloMosaic.TcCoe Idealize.SL.Sem Cert.Blocks Cert.Rows
open Idealize.ShloMosaic.Pipeline (Dat)

/-- The normed row, scaled and shifted by the modulation. -/
def normed (x g s h : Fin 2048 → EReal) (j : Fin 2048) : EReal :=
  x j * Ideal.rsqrt (meanSq (Ideal.ofBits .f32 0x45000000#32) x) * g j * (Ideal.ofBits .f32 0x3F800000#32 + s j) + h j

/-- Output 4's block, element by element. -/
theorem value_4 (x0 : S128x2048.Idx → EReal) (x1 : S1x2048.Idx → EReal) (x2 : S1x2048.Idx → EReal) (x3 : S1x2048.Idx → EReal) (y : S128x2048.Idx) :
    k0_pay1 (F := Ideal) x0 x1 x2 x3 y = normed (fun k => x0 (ix2 (y 0) k)) (fun k => x1 (ix2 0 k)) (fun k => x2 (ix2 0 k)) (fun k => x3 (ix2 0 k)) (y 1) := by
  unfold k0_pay1 normed meanSq
  pointwise

variable (m : (ℓ : Loc nD τ sig) → Buf (Elt Ideal) ℓ)

/-- The row of the whole array that a row of a point's block is. -/
def place (t : Fin cfg0.N) (p : Fin 128) : Fin 2048 := ⟨128 * t.val + p.val, by have h := t.isLt; have hN : cfg0.N = 16 := N_0; omega⟩

theorem block_0 (c : Dev nD) (t : Fin cfg0.N) (p : Fin 128) :
    (fun k : Fin 2048 => (iblk m c 0 t (ix2 p k) : EReal)) = fun k => m (c.tc.loc main_arg0) (ix2 (place t p) k) := by
  funext k
  have hi := (by decide +kernel : ∀ t : Fin grid0.N, win0_0.index t 0 = t.val ∧ win0_0.index t 1 = 0) t
  unfold iblk
  rw [View.read_apply]
  show m (c.tc.loc main_arg0) _ = m (c.tc.loc main_arg0) _
  refine congrArg _ (funext fun a => Fin.ext ?_)
  match a with
  | ⟨0, _⟩ => show win0_0.index t 0 * 128 + 1 * p.val = 128 * t.val + p.val; rw [hi.1]; omega
  | ⟨1, _⟩ => show win0_0.index t 1 * 2048 + 1 * k.val = k.val; rw [hi.2]; omega

theorem block_1 (c : Dev nD) (t : Fin cfg0.N) :
    (fun k : Fin 2048 => (iblk m c 1 t (ix2 0 k) : EReal)) = fun k => m (c.tc.loc main_arg1) (ix2 0 k) := by
  funext k
  have hi := (by decide +kernel : ∀ t : Fin grid0.N, win0_1.index t 0 = 0 ∧ win0_1.index t 1 = 0) t
  unfold iblk
  rw [View.read_apply]
  show m (c.tc.loc main_arg1) _ = m (c.tc.loc main_arg1) _
  refine congrArg _ (funext fun a => Fin.ext ?_)
  match a with
  | ⟨0, _⟩ => show win0_1.index t 0 * 1 + 1 * 0 = 0; rw [hi.1]
  | ⟨1, _⟩ => show win0_1.index t 1 * 2048 + 1 * k.val = k.val; rw [hi.2]; omega

theorem block_2 (c : Dev nD) (t : Fin cfg0.N) :
    (fun k : Fin 2048 => (iblk m c 2 t (ix2 0 k) : EReal)) = fun k => m (c.tc.loc main_arg2) (ix2 0 k) := by
  funext k
  have hi := (by decide +kernel : ∀ t : Fin grid0.N, win0_2.index t 0 = 0 ∧ win0_2.index t 1 = 0) t
  unfold iblk
  rw [View.read_apply]
  show m (c.tc.loc main_arg2) _ = m (c.tc.loc main_arg2) _
  refine congrArg _ (funext fun a => Fin.ext ?_)
  match a with
  | ⟨0, _⟩ => show win0_2.index t 0 * 1 + 1 * 0 = 0; rw [hi.1]
  | ⟨1, _⟩ => show win0_2.index t 1 * 2048 + 1 * k.val = k.val; rw [hi.2]; omega

theorem block_3 (c : Dev nD) (t : Fin cfg0.N) :
    (fun k : Fin 2048 => (iblk m c 3 t (ix2 0 k) : EReal)) = fun k => m (c.tc.loc main_arg3) (ix2 0 k) := by
  funext k
  have hi := (by decide +kernel : ∀ t : Fin grid0.N, win0_3.index t 0 = 0 ∧ win0_3.index t 1 = 0) t
  unfold iblk
  rw [View.read_apply]
  show m (c.tc.loc main_arg3) _ = m (c.tc.loc main_arg3) _
  refine congrArg _ (funext fun a => Fin.ext ?_)
  match a with
  | ⟨0, _⟩ => show win0_3.index t 0 * 1 + 1 * 0 = 0; rw [hi.1]
  | ⟨1, _⟩ => show win0_3.index t 1 * 2048 + 1 * k.val = k.val; rw [hi.2]; omega

/-- Result 0 in whole. -/
def full_4 (x0 : S2048x2048.Idx → EReal) (x1 : S1x2048.Idx → EReal) (x2 : S1x2048.Idx → EReal) (x3 : S1x2048.Idx → EReal) : S2048x2048.Idx → EReal := fun j => normed (fun k => x0 (ix2 (j 0) k)) (fun k => x1 (ix2 0 k)) (fun k => x2 (ix2 0 k)) (fun k => x3 (ix2 0 k)) (j 1)

theorem flushed_eq_4 (c : Dev nD) (t : Fin cfg0.N) :
    (dats m 0 c).flushed 4 t = ((cfg0.win 4).blk t).view.read (Elt Ideal) (full_4 (m (c.tc.loc main_arg0)) (m (c.tc.loc main_arg1)) (m (c.tc.loc main_arg2)) (m (c.tc.loc main_arg3))) := by
  rw [flushed4]
  unfold out0_4
  rw [View.canon_unit_zero hz2]
  simp only [View.ld_unit_zero (S := S128x2048) hz2, View.ld_unit_zero (S := S1x2048) hz2]
  funext y
  have hi := (by decide +kernel : ∀ t : Fin grid0.N, win0_4.index t 0 = t.val ∧ win0_4.index t 1 = 0) t
  have e : ((View.whole main_v0).slice ((win0 4).rect t)).emb y = ix2 (place t (y 0)) (y 1) := by
    funext a
    refine Fin.ext ?_
    match a with
    | ⟨0, _⟩ => show win0_4.index t 0 * 128 + 1 * (y 0).val = 128 * t.val + (y 0).val; rw [hi.1]; omega
    | ⟨1, _⟩ => show win0_4.index t 1 * 2048 + 1 * (y 1).val = (y 1).val; rw [hi.2]; omega
  refine (value_4 (iblk m c 0 t) (iblk m c 1 t) (iblk m c 2 t) (iblk m c 3 t) y).trans ?_
  rw [View.read_apply]
  show _ = full_4 (m (c.tc.loc main_arg0)) (m (c.tc.loc main_arg1)) (m (c.tc.loc main_arg2)) (m (c.tc.loc main_arg3)) (((View.whole main_v0).slice ((win0 4).rect t)).emb y)
  rw [e]
  have q : ∀ (p : Fin 128) (j : Fin 2048), normed (fun k => iblk m c 0 t (ix2 p k)) (fun k => iblk m c 1 t (ix2 0 k)) (fun k => iblk m c 2 t (ix2 0 k)) (fun k => iblk m c 3 t (ix2 0 k)) j
      = normed (fun k => m (c.tc.loc main_arg0) (ix2 (place t p) k)) (fun k => m (c.tc.loc main_arg1) (ix2 0 k)) (fun k => m (c.tc.loc main_arg2) (ix2 0 k)) (fun k => m (c.tc.loc main_arg3) (ix2 0 k)) j := by
    intro p j
    rw [block_0, block_1, block_2, block_3]
  exact q (y 0) (y 1)

theorem covered_4 (i : S2048x2048.Idx) : ∃ t : Fin cfg0.N, (cfg0.win 4).flush t = true ∧ i ∈ ((cfg0.win 4).blk t).view.set := by
  have h0 : (i 0).val < 2048 := (i 0).isLt
  have h1 : (i 1).val < 2048 := (i 1).isLt
  obtain ⟨t, ht, e0, e1⟩ := (by decide +kernel : ∀ p0 : Fin 16, ∃ t : Fin grid0.N, win0_4.flush t = true
    ∧ win0_4.index t 0 = p0.val ∧ win0_4.index t 1 = 0) ⟨(i 0).val / 128, by omega⟩
  refine ⟨t, ht, ?_⟩
  show i ∈ ((View.whole main_v0).slice (win0_4.rect t)).set
  rw [View.set_slice_whole, Rect.mem_set_unit]
  intro a
  match a with
  | ⟨0, _⟩ => show win0_4.index t 0 * 128 ≤ (i 0).val ∧ (i 0).val < win0_4.index t 0 * 128 + 128; rw [e0]; simp only [] <;> omega
  | ⟨1, _⟩ => show win0_4.index t 1 * 2048 ≤ (i 1).val ∧ (i 1).val < win0_4.index t 1 * 2048 + 2048; rw [e1]; omega

/-- Result 0 after the run. -/
theorem final_4 (c : Dev nD) : (dats m 0 c).arrAt 4 cfg0.N = full_4 (m (c.tc.loc main_arg0)) (m (c.tc.loc main_arg1)) (m (c.tc.loc main_arg2)) (m (c.tc.loc main_arg3)) :=
  (dats m 0 c).arrAt_eq_of_cover 4 _ (fun t _ => flushed_eq_4 m c t) covered_4

/-- The call and its reference leave the same result. -/
theorem algebraic : Cert.algebraic_Norm1FwdIdeal_Norm1FwdRefIdeal (hNorm1FwdIdeal := Cert.Norm1FwdIdeal.Gen.facts)
    (hNorm1FwdRefIdeal := Cert.Norm1FwdRefIdeal.Gen.facts) := by
  intro m g m' g' _ hargs
  refine ⟨fun c => full_4 (m (c.tc.loc main_arg0)) (m (c.tc.loc main_arg1)) (m (c.tc.loc main_arg2)) (m (c.tc.loc main_arg3)), ?_, ?_⟩
  · refine (θ_run (Cert.Norm1FwdIdeal.defs (F := Ideal)) _ _).mono (fun r h c => ?_) (run_blocks m g)
    obtain ⟨h0, k⟩ := h c
    exact ⟨h0.trans (final_4 m c), k⟩
  · refine (θ_run (Cert.Norm1FwdRefIdeal.defs (F := Ideal)) _ _).mono (fun r h c => ?_) (Cert.Norm1FwdRefIdeal.Value.run (F := Ideal) m' g')
    obtain ⟨h0, k⟩ := h c
    obtain ⟨a0, a1, a2, a3⟩ := hargs c
    refine ⟨h0.trans ?_, k⟩
    · funext j
      rw [a0, a1, a2, a3]
      unfold full_4 normed meanSq
      pointwise

end Cert.Norm1FwdIdeal.Value
-- ==== Proof.Norm2Fwd.lean ====
/- The residual, the second norm and its modulation, row by row. -/
module

public import proofs.«01_k».proof.Defs
public import proofs.«01_k».proof.Proof.Gen.Norm2FwdIdeal.Value
public import proofs.«01_k».proof.Proof.Gen.Norm2FwdRefIdeal.Run
public import proofs.«01_k».proof.Proof.Rows

@[expose] public section

noncomputable section

namespace Cert.Norm2FwdIdeal.Value

open Cert.Norm2FwdIdeal Cert.Norm2FwdIdeal.Gen Idealize.ShloMosaic Idealize.ShloMosaic.TcCoe Idealize.SL.Sem Cert.Blocks Cert.Rows
open Idealize.ShloMosaic.Pipeline (Dat)

/-- The normed row, scaled and shifted by the modulation. -/
def normed (x g s h : Fin 2048 → EReal) (j : Fin 2048) : EReal :=
  x j * Ideal.rsqrt (meanSq (Ideal.ofBits .f32 0x45000000#32) x) * g j * (Ideal.ofBits .f32 0x3F800000#32 + s j) + h j

/-- A row of the residual. -/
def added (x d t : Fin 2048 → EReal) (j : Fin 2048) : EReal := x j + t j * d j

/-- The normed row of the residual. -/
def both (x d t g s h : Fin 2048 → EReal) (j : Fin 2048) : EReal := normed (added x d t) g s h j

/-- Output 6's block, element by element. -/
theorem value_6 (x0 : S128x2048.Idx → EReal) (x1 : S128x2048.Idx → EReal) (x2 : S1x2048.Idx → EReal) (y : S128x2048.Idx) :
    k0_pay1 (F := Ideal) x0 x1 x2 y = added (fun k => x0 (ix2 (y 0) k)) (fun k => x1 (ix2 (y 0) k)) (fun k => x2 (ix2 0 k)) (y 1) := by
  unfold k0_pay1 added
  pointwise

/-- Output 7's block, element by element. -/
theorem value_7 (x0 : S128x2048.Idx → EReal) (x1 : S128x2048.Idx → EReal) (x2 : S1x2048.Idx → EReal) (x3 : S1x2048.Idx → EReal) (x4 : S1x2048.Idx → EReal) (x5 : S1x2048.Idx → EReal) (y : S128x2048.Idx) :
    k0_pay2 (F := Ideal) x0 x1 x2 x3 x4 x5 y = both (fun k => x0 (ix2 (y 0) k)) (fun k => x1 (ix2 (y 0) k)) (fun k => x2 (ix2 0 k)) (fun k => x3 (ix2 0 k)) (fun k => x4 (ix2 0 k)) (fun k => x5 (ix2 0 k)) (y 1) := by
  unfold k0_pay2 k0_pay1 both normed meanSq added
  pointwise

variable (m : (ℓ : Loc nD τ sig) → Buf (Elt Ideal) ℓ)

/-- The row of the whole array that a row of a point's block is. -/
def place (t : Fin cfg0.N) (p : Fin 128) : Fin 2048 := ⟨128 * t.val + p.val, by have h := t.isLt; have hN : cfg0.N = 16 := N_0; omega⟩

theorem block_0 (c : Dev nD) (t : Fin cfg0.N) (p : Fin 128) :
    (fun k : Fin 2048 => (iblk m c 0 t (ix2 p k) : EReal)) = fun k => m (c.tc.loc main_arg0) (ix2 (place t p) k) := by
  funext k
  have hi := (by decide +kernel : ∀ t : Fin grid0.N, win0_0.index t 0 = t.val ∧ win0_0.index t 1 = 0) t
  unfold iblk
  rw [View.read_apply]
  show m (c.tc.loc main_arg0) _ = m (c.tc.loc main_arg0) _
  refine congrArg _ (funext fun a => Fin.ext ?_)
  match a with
  | ⟨0, _⟩ => show win0_0.index t 0 * 128 + 1 * p.val = 128 * t.val + p.val; rw [hi.1]; omega
  | ⟨1, _⟩ => show win0_0.index t 1 * 2048 + 1 * k.val = k.val; rw [hi.2]; omega

theorem block_1 (c : Dev nD) (t : Fin cfg0.N) (p : Fin 128) :
    (fun k : Fin 2048 => (iblk m c 1 t (ix2 p k) : EReal)) = fun k => m (c.tc.loc main_arg1) (ix2 (place t p) k) := by
  funext k
  have hi := (by decide +kernel : ∀ t : Fin grid0.N, win0_1.index t 0 = t.val ∧ win0_1.index t 1 = 0) t
  unfold iblk
  rw [View.read_apply]
  show m (c.tc.loc main_arg1) _ = m (c.tc.loc main_arg1) _
  refine congrArg _ (funext fun a => Fin.ext ?_)
  match a with
  | ⟨0, _⟩ => show win0_1.index t 0 * 128 + 1 * p.val = 128 * t.val + p.val; rw [hi.1]; omega
  | ⟨1, _⟩ => show win0_1.index t 1 * 2048 + 1 * k.val = k.val; rw [hi.2]; omega

theorem block_2 (c : Dev nD) (t : Fin cfg0.N) :
    (fun k : Fin 2048 => (iblk m c 2 t (ix2 0 k) : EReal)) = fun k => m (c.tc.loc main_arg2) (ix2 0 k) := by
  funext k
  have hi := (by decide +kernel : ∀ t : Fin grid0.N, win0_2.index t 0 = 0 ∧ win0_2.index t 1 = 0) t
  unfold iblk
  rw [View.read_apply]
  show m (c.tc.loc main_arg2) _ = m (c.tc.loc main_arg2) _
  refine congrArg _ (funext fun a => Fin.ext ?_)
  match a with
  | ⟨0, _⟩ => show win0_2.index t 0 * 1 + 1 * 0 = 0; rw [hi.1]
  | ⟨1, _⟩ => show win0_2.index t 1 * 2048 + 1 * k.val = k.val; rw [hi.2]; omega

theorem block_3 (c : Dev nD) (t : Fin cfg0.N) :
    (fun k : Fin 2048 => (iblk m c 3 t (ix2 0 k) : EReal)) = fun k => m (c.tc.loc main_arg3) (ix2 0 k) := by
  funext k
  have hi := (by decide +kernel : ∀ t : Fin grid0.N, win0_3.index t 0 = 0 ∧ win0_3.index t 1 = 0) t
  unfold iblk
  rw [View.read_apply]
  show m (c.tc.loc main_arg3) _ = m (c.tc.loc main_arg3) _
  refine congrArg _ (funext fun a => Fin.ext ?_)
  match a with
  | ⟨0, _⟩ => show win0_3.index t 0 * 1 + 1 * 0 = 0; rw [hi.1]
  | ⟨1, _⟩ => show win0_3.index t 1 * 2048 + 1 * k.val = k.val; rw [hi.2]; omega

theorem block_4 (c : Dev nD) (t : Fin cfg0.N) :
    (fun k : Fin 2048 => (iblk m c 4 t (ix2 0 k) : EReal)) = fun k => m (c.tc.loc main_arg4) (ix2 0 k) := by
  funext k
  have hi := (by decide +kernel : ∀ t : Fin grid0.N, win0_4.index t 0 = 0 ∧ win0_4.index t 1 = 0) t
  unfold iblk
  rw [View.read_apply]
  show m (c.tc.loc main_arg4) _ = m (c.tc.loc main_arg4) _
  refine congrArg _ (funext fun a => Fin.ext ?_)
  match a with
  | ⟨0, _⟩ => show win0_4.index t 0 * 1 + 1 * 0 = 0; rw [hi.1]
  | ⟨1, _⟩ => show win0_4.index t 1 * 2048 + 1 * k.val = k.val; rw [hi.2]; omega

theorem block_5 (c : Dev nD) (t : Fin cfg0.N) :
    (fun k : Fin 2048 => (iblk m c 5 t (ix2 0 k) : EReal)) = fun k => m (c.tc.loc main_arg5) (ix2 0 k) := by
  funext k
  have hi := (by decide +kernel : ∀ t : Fin grid0.N, win0_5.index t 0 = 0 ∧ win0_5.index t 1 = 0) t
  unfold iblk
  rw [View.read_apply]
  show m (c.tc.loc main_arg5) _ = m (c.tc.loc main_arg5) _
  refine congrArg _ (funext fun a => Fin.ext ?_)
  match a with
  | ⟨0, _⟩ => show win0_5.index t 0 * 1 + 1 * 0 = 0; rw [hi.1]
  | ⟨1, _⟩ => show win0_5.index t 1 * 2048 + 1 * k.val = k.val; rw [hi.2]; omega

/-- Result 0 in whole. -/
def full_6 (x0 : S2048x2048.Idx → EReal) (x1 : S2048x2048.Idx → EReal) (x2 : S1x2048.Idx → EReal) : S2048x2048.Idx → EReal := fun j => added (fun k => x0 (ix2 (j 0) k)) (fun k => x1 (ix2 (j 0) k)) (fun k => x2 (ix2 0 k)) (j 1)

theorem flushed_eq_6 (c : Dev nD) (t : Fin cfg0.N) :
    (dats m 0 c).flushed 6 t = ((cfg0.win 6).blk t).view.read (Elt Ideal) (full_6 (m (c.tc.loc main_arg0)) (m (c.tc.loc main_arg1)) (m (c.tc.loc main_arg2))) := by
  rw [flushed6]
  unfold out0_6
  rw [View.canon_unit_zero hz2]
  simp only [View.ld_unit_zero (S := S128x2048) hz2, View.ld_unit_zero (S := S1x2048) hz2]
  funext y
  have hi := (by decide +kernel : ∀ t : Fin grid0.N, win0_6.index t 0 = t.val ∧ win0_6.index t 1 = 0) t
  have e : ((View.whole main_v0_0).slice ((win0 6).rect t)).emb y = ix2 (place t (y 0)) (y 1) := by
    funext a
    refine Fin.ext ?_
    match a with
    | ⟨0, _⟩ => show win0_6.index t 0 * 128 + 1 * (y 0).val = 128 * t.val + (y 0).val; rw [hi.1]; omega
    | ⟨1, _⟩ => show win0_6.index t 1 * 2048 + 1 * (y 1).val = (y 1).val; rw [hi.2]; omega
  refine (value_6 (iblk m c 0 t) (iblk m c 1 t) (iblk m c 2 t) y).trans ?_
  rw [View.read_apply]
  show _ = full_6 (m (c.tc.loc main_arg0)) (m (c.tc.loc main_arg1)) (m (c.tc.loc main_arg2)) (((View.whole main_v0_0).slice ((win0 6).rect t)).emb y)
  rw [e]
  have q : ∀ (p : Fin 128) (j : Fin 2048), added (fun k => iblk m c 0 t (ix2 p k)) (fun k => iblk m c 1 t (ix2 p k)) (fun k => iblk m c 2 t (ix2 0 k)) j
      = added (fun k => m (c.tc.loc main_arg0) (ix2 (place t p) k)) (fun k => m (c.tc.loc main_arg1) (ix2 (place t p) k)) (fun k => m (c.tc.loc main_arg2) (ix2 0 k)) j := by
    intro p j
    rw [block_0, block_1, block_2]
  exact q (y 0) (y 1)

theorem covered_6 (i : S2048x2048.Idx) : ∃ t : Fin cfg0.N, (cfg0.win 6).flush t = true ∧ i ∈ ((cfg0.win 6).blk t).view.set := by
  have h0 : (i 0).val < 2048 := (i 0).isLt
  have h1 : (i 1).val < 2048 := (i 1).isLt
  obtain ⟨t, ht, e0, e1⟩ := (by decide +kernel : ∀ p0 : Fin 16, ∃ t : Fin grid0.N, win0_6.flush t = true
    ∧ win0_6.index t 0 = p0.val ∧ win0_6.index t 1 = 0) ⟨(i 0).val / 128, by omega⟩
  refine ⟨t, ht, ?_⟩
  show i ∈ ((View.whole main_v0_0).slice (win0_6.rect t)).set
  rw [View.set_slice_whole, Rect.mem_set_unit]
  intro a
  match a with
  | ⟨0, _⟩ => show win0_6.index t 0 * 128 ≤ (i 0).val ∧ (i 0).val < win0_6.index t 0 * 128 + 128; rw [e0]; simp only [] <;> omega
  | ⟨1, _⟩ => show win0_6.index t 1 * 2048 ≤ (i 1).val ∧ (i 1).val < win0_6.index t 1 * 2048 + 2048; rw [e1]; omega

/-- Result 0 after the run. -/
theorem final_6 (c : Dev nD) : (dats m 0 c).arrAt 6 cfg0.N = full_6 (m (c.tc.loc main_arg0)) (m (c.tc.loc main_arg1)) (m (c.tc.loc main_arg2)) :=
  (dats m 0 c).arrAt_eq_of_cover 6 _ (fun t _ => flushed_eq_6 m c t) covered_6

/-- Result 1 in whole. -/
def full_7 (x0 : S2048x2048.Idx → EReal) (x1 : S2048x2048.Idx → EReal) (x2 : S1x2048.Idx → EReal) (x3 : S1x2048.Idx → EReal) (x4 : S1x2048.Idx → EReal) (x5 : S1x2048.Idx → EReal) : S2048x2048.Idx → EReal := fun j => both (fun k => x0 (ix2 (j 0) k)) (fun k => x1 (ix2 (j 0) k)) (fun k => x2 (ix2 0 k)) (fun k => x3 (ix2 0 k)) (fun k => x4 (ix2 0 k)) (fun k => x5 (ix2 0 k)) (j 1)

theorem flushed_eq_7 (c : Dev nD) (t : Fin cfg0.N) :
    (dats m 0 c).flushed 7 t = ((cfg0.win 7).blk t).view.read (Elt Ideal) (full_7 (m (c.tc.loc main_arg0)) (m (c.tc.loc main_arg1)) (m (c.tc.loc main_arg2)) (m (c.tc.loc main_arg3)) (m (c.tc.loc main_arg4)) (m (c.tc.loc main_arg5))) := by
  rw [flushed7]
  unfold out0_7
  rw [View.canon_unit_zero hz2]
  simp only [View.ld_unit_zero (S := S128x2048) hz2, View.ld_unit_zero (S := S1x2048) hz2]
  funext y
  have hi := (by decide +kernel : ∀ t : Fin grid0.N, win0_7.index t 0 = t.val ∧ win0_7.index t 1 = 0) t
  have e : ((View.whole main_v0_1).slice ((win0 7).rect t)).emb y = ix2 (place t (y 0)) (y 1) := by
    funext a
    refine Fin.ext ?_
    match a with
    | ⟨0, _⟩ => show win0_7.index t 0 * 128 + 1 * (y 0).val = 128 * t.val + (y 0).val; rw [hi.1]; omega
    | ⟨1, _⟩ => show win0_7.index t 1 * 2048 + 1 * (y 1).val = (y 1).val; rw [hi.2]; omega
  refine (value_7 (iblk m c 0 t) (iblk m c 1 t) (iblk m c 2 t) (iblk m c 3 t) (iblk m c 4 t) (iblk m c 5 t) y).trans ?_
  rw [View.read_apply]
  show _ = full_7 (m (c.tc.loc main_arg0)) (m (c.tc.loc main_arg1)) (m (c.tc.loc main_arg2)) (m (c.tc.loc main_arg3)) (m (c.tc.loc main_arg4)) (m (c.tc.loc main_arg5)) (((View.whole main_v0_1).slice ((win0 7).rect t)).emb y)
  rw [e]
  have q : ∀ (p : Fin 128) (j : Fin 2048), both (fun k => iblk m c 0 t (ix2 p k)) (fun k => iblk m c 1 t (ix2 p k)) (fun k => iblk m c 2 t (ix2 0 k)) (fun k => iblk m c 3 t (ix2 0 k)) (fun k => iblk m c 4 t (ix2 0 k)) (fun k => iblk m c 5 t (ix2 0 k)) j
      = both (fun k => m (c.tc.loc main_arg0) (ix2 (place t p) k)) (fun k => m (c.tc.loc main_arg1) (ix2 (place t p) k)) (fun k => m (c.tc.loc main_arg2) (ix2 0 k)) (fun k => m (c.tc.loc main_arg3) (ix2 0 k)) (fun k => m (c.tc.loc main_arg4) (ix2 0 k)) (fun k => m (c.tc.loc main_arg5) (ix2 0 k)) j := by
    intro p j
    rw [block_0, block_1, block_2, block_3, block_4, block_5]
  exact q (y 0) (y 1)

theorem covered_7 (i : S2048x2048.Idx) : ∃ t : Fin cfg0.N, (cfg0.win 7).flush t = true ∧ i ∈ ((cfg0.win 7).blk t).view.set := by
  have h0 : (i 0).val < 2048 := (i 0).isLt
  have h1 : (i 1).val < 2048 := (i 1).isLt
  obtain ⟨t, ht, e0, e1⟩ := (by decide +kernel : ∀ p0 : Fin 16, ∃ t : Fin grid0.N, win0_7.flush t = true
    ∧ win0_7.index t 0 = p0.val ∧ win0_7.index t 1 = 0) ⟨(i 0).val / 128, by omega⟩
  refine ⟨t, ht, ?_⟩
  show i ∈ ((View.whole main_v0_1).slice (win0_7.rect t)).set
  rw [View.set_slice_whole, Rect.mem_set_unit]
  intro a
  match a with
  | ⟨0, _⟩ => show win0_7.index t 0 * 128 ≤ (i 0).val ∧ (i 0).val < win0_7.index t 0 * 128 + 128; rw [e0]; simp only [] <;> omega
  | ⟨1, _⟩ => show win0_7.index t 1 * 2048 ≤ (i 1).val ∧ (i 1).val < win0_7.index t 1 * 2048 + 2048; rw [e1]; omega

/-- Result 1 after the run. -/
theorem final_7 (c : Dev nD) : (dats m 0 c).arrAt 7 cfg0.N = full_7 (m (c.tc.loc main_arg0)) (m (c.tc.loc main_arg1)) (m (c.tc.loc main_arg2)) (m (c.tc.loc main_arg3)) (m (c.tc.loc main_arg4)) (m (c.tc.loc main_arg5)) :=
  (dats m 0 c).arrAt_eq_of_cover 7 _ (fun t _ => flushed_eq_7 m c t) covered_7

/-- The call and its reference leave the same results. -/
theorem algebraic : Cert.algebraic_Norm2FwdIdeal_Norm2FwdRefIdeal (hNorm2FwdIdeal := Cert.Norm2FwdIdeal.Gen.facts)
    (hNorm2FwdRefIdeal := Cert.Norm2FwdRefIdeal.Gen.facts) := by
  intro m g m' g' _ hargs
  refine ⟨fun c => full_6 (m (c.tc.loc main_arg0)) (m (c.tc.loc main_arg1)) (m (c.tc.loc main_arg2)), fun c => full_7 (m (c.tc.loc main_arg0)) (m (c.tc.loc main_arg1)) (m (c.tc.loc main_arg2)) (m (c.tc.loc main_arg3)) (m (c.tc.loc main_arg4)) (m (c.tc.loc main_arg5)), ?_, ?_⟩
  · refine (θ_run (Cert.Norm2FwdIdeal.defs (F := Ideal)) _ _).mono (fun r h c => ?_) (run_blocks m g)
    obtain ⟨h0, h1, k⟩ := h c
    exact ⟨h0.trans (final_6 m c), h1.trans (final_7 m c), k⟩
  · refine (θ_run (Cert.Norm2FwdRefIdeal.defs (F := Ideal)) _ _).mono (fun r h c => ?_) (Cert.Norm2FwdRefIdeal.Value.run (F := Ideal) m' g')
    obtain ⟨h0, h1, k⟩ := h c
    obtain ⟨a0, a1, a2, a3, a4, a5⟩ := hargs c
    refine ⟨h0.trans ?_, h1.trans ?_, k⟩
    · funext j
      rw [a0, a1, a2]
      unfold full_6 added
      pointwise
    · funext j
      rw [a0, a1, a2, a3, a4, a5]
      unfold full_7 both normed meanSq added
      pointwise

end Cert.Norm2FwdIdeal.Value
-- ==== Proof.CfLnFwd.lean ====
/- The layer norm of the convolution branch and its activation, row by row. -/
module

public import proofs.«01_k».proof.Defs
public import proofs.«01_k».proof.Proof.Gen.CfLnFwdIdeal.Value
public import proofs.«01_k».proof.Proof.Gen.CfLnFwdRefIdeal.Run
public import proofs.«01_k».proof.Proof.Rows

@[expose] public section

noncomputable section

namespace Cert.CfLnFwdIdeal.Value

open Cert.CfLnFwdIdeal Cert.CfLnFwdIdeal.Gen Idealize.ShloMosaic Idealize.ShloMosaic.TcCoe Idealize.SL.Sem Cert.Blocks Cert.Rows
open Idealize.ShloMosaic.Pipeline (Dat)

/-- The length of a row, as the programs write it. -/
def count : EReal := Ideal.ofBits .f32 0x44800000#32

/-- A row less its mean. -/
def centred (x : Fin 1024 → EReal) (k : Fin 1024) : EReal := x k - Ideal.div (∑ l, x l) count

/-- The normed row, scaled and shifted. -/
def normed (x g b : Fin 1024 → EReal) (k : Fin 1024) : EReal :=
  centred x k * Ideal.rsqrt (meanSq count (centred x)) * g k + b k

/-- Its activation. -/
def act (x g b : Fin 1024 → EReal) (k : Fin 1024) : EReal := normed x g b k * Ideal.logistic (normed x g b k)

/-- Output 3's block, element by element. -/
theorem value_3 (x0 : S128x1024.Idx → EReal) (x1 : S1x1024.Idx → EReal) (x2 : S1x1024.Idx → EReal) (y : S128x1024.Idx) :
    k0_pay1 (F := Ideal) x0 x1 x2 y = act (fun k => x0 (ix2 (y 0) k)) (fun k => x1 (ix2 0 k)) (fun k => x2 (ix2 0 k)) (y 1) := by
  unfold k0_pay1 act normed meanSq centred count
  pointwise

variable (m : (ℓ : Loc nD τ sig) → Buf (Elt Ideal) ℓ)

/-- The row of the whole array that a row of a point's block is. -/
def place (t : Fin cfg0.N) (p : Fin 128) : Fin 2048 := ⟨128 * t.val + p.val, by have h := t.isLt; have hN : cfg0.N = 16 := N_0; omega⟩

theorem block_0 (c : Dev nD) (t : Fin cfg0.N) (p : Fin 128) :
    (fun k : Fin 1024 => (iblk m c 0 t (ix2 p k) : EReal)) = fun k => m (c.tc.loc main_arg0) (ix2 (place t p) k) := by
  funext k
  have hi := (by decide +kernel : ∀ t : Fin grid0.N, win0_0.index t 0 = t.val ∧ win0_0.index t 1 = 0) t
  unfold iblk
  rw [View.read_apply]
  show m (c.tc.loc main_arg0) _ = m (c.tc.loc main_arg0) _
  refine congrArg _ (funext fun a => Fin.ext ?_)
  match a with
  | ⟨0, _⟩ => show win0_0.index t 0 * 128 + 1 * p.val = 128 * t.val + p.val; rw [hi.1]; omega
  | ⟨1, _⟩ => show win0_0.index t 1 * 1024 + 1 * k.val = k.val; rw [hi.2]; omega

theorem block_1 (c : Dev nD) (t : Fin cfg0.N) :
    (fun k : Fin 1024 => (iblk m c 1 t (ix2 0 k) : EReal)) = fun k => m (c.tc.loc main_arg1) (ix2 0 k) := by
  funext k
  have hi := (by decide +kernel : ∀ t : Fin grid0.N, win0_1.index t 0 = 0 ∧ win0_1.index t 1 = 0) t
  unfold iblk
  rw [View.read_apply]
  show m (c.tc.loc main_arg1) _ = m (c.tc.loc main_arg1) _
  refine congrArg _ (funext fun a => Fin.ext ?_)
  match a with
  | ⟨0, _⟩ => show win0_1.index t 0 * 1 + 1 * 0 = 0; rw [hi.1]
  | ⟨1, _⟩ => show win0_1.index t 1 * 1024 + 1 * k.val = k.val; rw [hi.2]; omega

theorem block_2 (c : Dev nD) (t : Fin cfg0.N) :
    (fun k : Fin 1024 => (iblk m c 2 t (ix2 0 k) : EReal)) = fun k => m (c.tc.loc main_arg2) (ix2 0 k) := by
  funext k
  have hi := (by decide +kernel : ∀ t : Fin grid0.N, win0_2.index t 0 = 0 ∧ win0_2.index t 1 = 0) t
  unfold iblk
  rw [View.read_apply]
  show m (c.tc.loc main_arg2) _ = m (c.tc.loc main_arg2) _
  refine congrArg _ (funext fun a => Fin.ext ?_)
  match a with
  | ⟨0, _⟩ => show win0_2.index t 0 * 1 + 1 * 0 = 0; rw [hi.1]
  | ⟨1, _⟩ => show win0_2.index t 1 * 1024 + 1 * k.val = k.val; rw [hi.2]; omega

/-- Result 0 in whole. -/
def full_3 (x0 : S2048x1024.Idx → EReal) (x1 : S1x1024.Idx → EReal) (x2 : S1x1024.Idx → EReal) : S2048x1024.Idx → EReal := fun j => act (fun k => x0 (ix2 (j 0) k)) (fun k => x1 (ix2 0 k)) (fun k => x2 (ix2 0 k)) (j 1)

theorem flushed_eq_3 (c : Dev nD) (t : Fin cfg0.N) :
    (dats m 0 c).flushed 3 t = ((cfg0.win 3).blk t).view.read (Elt Ideal) (full_3 (m (c.tc.loc main_arg0)) (m (c.tc.loc main_arg1)) (m (c.tc.loc main_arg2))) := by
  rw [flushed3]
  unfold out0_3
  rw [View.canon_unit_zero hz2]
  simp only [View.ld_unit_zero (S := S128x1024) hz2, View.ld_unit_zero (S := S1x1024) hz2]
  funext y
  have hi := (by decide +kernel : ∀ t : Fin grid0.N, win0_3.index t 0 = t.val ∧ win0_3.index t 1 = 0) t
  have e : ((View.whole main_v0).slice ((win0 3).rect t)).emb y = ix2 (place t (y 0)) (y 1) := by
    funext a
    refine Fin.ext ?_
    match a with
    | ⟨0, _⟩ => show win0_3.index t 0 * 128 + 1 * (y 0).val = 128 * t.val + (y 0).val; rw [hi.1]; omega
    | ⟨1, _⟩ => show win0_3.index t 1 * 1024 + 1 * (y 1).val = (y 1).val; rw [hi.2]; omega
  refine (value_3 (iblk m c 0 t) (iblk m c 1 t) (iblk m c 2 t) y).trans ?_
  rw [View.read_apply]
  show _ = full_3 (m (c.tc.loc main_arg0)) (m (c.tc.loc main_arg1)) (m (c.tc.loc main_arg2)) (((View.whole main_v0).slice ((win0 3).rect t)).emb y)
  rw [e]
  have q : ∀ (p : Fin 128) (j : Fin 1024), act (fun k => iblk m c 0 t (ix2 p k)) (fun k => iblk m c 1 t (ix2 0 k)) (fun k => iblk m c 2 t (ix2 0 k)) j
      = act (fun k => m (c.tc.loc main_arg0) (ix2 (place t p) k)) (fun k => m (c.tc.loc main_arg1) (ix2 0 k)) (fun k => m (c.tc.loc main_arg2) (ix2 0 k)) j := by
    intro p j
    rw [block_0, block_1, block_2]
  exact q (y 0) (y 1)

theorem covered_3 (i : S2048x1024.Idx) : ∃ t : Fin cfg0.N, (cfg0.win 3).flush t = true ∧ i ∈ ((cfg0.win 3).blk t).view.set := by
  have h0 : (i 0).val < 2048 := (i 0).isLt
  have h1 : (i 1).val < 1024 := (i 1).isLt
  obtain ⟨t, ht, e0, e1⟩ := (by decide +kernel : ∀ p0 : Fin 16, ∃ t : Fin grid0.N, win0_3.flush t = true
    ∧ win0_3.index t 0 = p0.val ∧ win0_3.index t 1 = 0) ⟨(i 0).val / 128, by omega⟩
  refine ⟨t, ht, ?_⟩
  show i ∈ ((View.whole main_v0).slice (win0_3.rect t)).set
  rw [View.set_slice_whole, Rect.mem_set_unit]
  intro a
  match a with
  | ⟨0, _⟩ => show win0_3.index t 0 * 128 ≤ (i 0).val ∧ (i 0).val < win0_3.index t 0 * 128 + 128; rw [e0]; simp only [] <;> omega
  | ⟨1, _⟩ => show win0_3.index t 1 * 1024 ≤ (i 1).val ∧ (i 1).val < win0_3.index t 1 * 1024 + 1024; rw [e1]; omega

/-- Result 0 after the run. -/
theorem final_3 (c : Dev nD) : (dats m 0 c).arrAt 3 cfg0.N = full_3 (m (c.tc.loc main_arg0)) (m (c.tc.loc main_arg1)) (m (c.tc.loc main_arg2)) :=
  (dats m 0 c).arrAt_eq_of_cover 3 _ (fun t _ => flushed_eq_3 m c t) covered_3

/-- The call and its reference leave the same result. -/
theorem algebraic : Cert.algebraic_CfLnFwdIdeal_CfLnFwdRefIdeal (hCfLnFwdIdeal := Cert.CfLnFwdIdeal.Gen.facts)
    (hCfLnFwdRefIdeal := Cert.CfLnFwdRefIdeal.Gen.facts) := by
  intro m g m' g' _ hargs
  refine ⟨fun c => full_3 (m (c.tc.loc main_arg0)) (m (c.tc.loc main_arg1)) (m (c.tc.loc main_arg2)), ?_, ?_⟩
  · refine (θ_run (Cert.CfLnFwdIdeal.defs (F := Ideal)) _ _).mono (fun r h c => ?_) (run_blocks m g)
    obtain ⟨h0, k⟩ := h c
    exact ⟨h0.trans (final_3 m c), k⟩
  · refine (θ_run (Cert.CfLnFwdRefIdeal.defs (F := Ideal)) _ _).mono (fun r h c => ?_) (Cert.CfLnFwdRefIdeal.Value.run (F := Ideal) m' g')
    obtain ⟨h0, k⟩ := h c
    obtain ⟨a0, a1, a2⟩ := hargs c
    refine ⟨h0.trans ?_, k⟩
    · funext j
      rw [a0, a1, a2]
      unfold full_3 act normed meanSq centred count
      pointwise
      simp only [logistic_eq]
      try rfl

end Cert.CfLnFwdIdeal.Value
-- ==== Proof.MergeFwd.lean ====
/- The two branches, each times its gate, added, row by row. -/
module

public import proofs.«01_k».proof.Defs
public import proofs.«01_k».proof.Proof.Gen.MergeFwdIdeal.Value
public import proofs.«01_k».proof.Proof.Gen.MergeFwdRefIdeal.Run
public import proofs.«01_k».proof.Proof.Rows

@[expose] public section

noncomputable section

namespace Cert.MergeFwdIdeal.Value

open Cert.MergeFwdIdeal Cert.MergeFwdIdeal.Gen Idealize.ShloMosaic Idealize.ShloMosaic.TcCoe Idealize.SL.Sem Cert.Blocks Cert.Rows
open Idealize.ShloMosaic.Pipeline (Dat)

/-- A row of the sum of the two gated branches. -/
def merged (a b u w : Fin 2048 → EReal) (j : Fin 2048) : EReal := Ideal.logistic (u j) * a j + Ideal.logistic (w j) * b j

/-- A column of the projection, by the part of the projection that it lies in. -/
def col (q : Fin 5) (k : Fin 2048) : Fin 10368 := ⟨2048 * q.val + k.val, by omega⟩

/-- Output 4's block, element by element. -/
theorem value_4 (x0 : S128x2048.Idx → EReal) (x1 : S128x2048.Idx → EReal) (x2 : S128x2048.Idx → EReal) (x3 : S128x2048.Idx → EReal) (y : S128x2048.Idx) :
    k0_pay1 (F := Ideal) x0 x1 x2 x3 y = merged (fun k => x0 (ix2 (y 0) k)) (fun k => x1 (ix2 (y 0) k)) (fun k => x2 (ix2 (y 0) k)) (fun k => x3 (ix2 (y 0) k)) (y 1) := by
  unfold k0_pay1 merged
  pointwise

/-- What a point leaves in the output's block. -/
theorem left_4 {F : FTy → Type} [FloatOps F] (c i a0 h0 a1 h1 a2 h2 a3 h3 a4 h4 x0 x1 x2 x3) :
    out0_A_4 (F := F) c i a0 h0 a1 h1 a2 h2 a3 h3 a4 h4 x0 x1 x2 x3 = k0_pay1 x0 x1 x2 x3 := by
  unfold out0_A_4
  rw [View.read_writes_eq_canon _ _ _ (cover0_A_4 c i a0 h0 a1 h1 a2 h2 a3 h3 a4 h4 x0 x1 x2 x3)]
  unfold kernelRun0_A
  dsimp only
  sl_unfold_words
  rw [View.canon_unit_zero (S := S128x2048) hz2]
  simp only [View.readAt_eq_ld, h0.read_unread, h1.read_unread, h2.read_unread, h3.read_unread, h4.read_unread, View.ld_unit_zero (S := S128x2048) hz2]

variable (m : (ℓ : Loc nD τ sig) → Buf (Elt Ideal) ℓ)

/-- The row of the whole array that a row of a point's block is. -/
def place (t : Fin cfg0.N) (p : Fin 128) : Fin 2048 := ⟨128 * t.val + p.val, by have h := t.isLt; have hN : cfg0.N = 16 := N_0; omega⟩

theorem block_0 (c : Dev nD) (t : Fin cfg0.N) (p : Fin 128) :
    (fun k : Fin 2048 => (iblk m c 0 t (ix2 p k) : EReal)) = fun k => m (c.tc.loc main_arg0) (ix2 (place t p) k) := by
  funext k
  have hi := (by decide +kernel : ∀ t : Fin grid0.N, win0_0.index t 0 = t.val ∧ win0_0.index t 1 = 0) t
  unfold iblk
  rw [View.read_apply]
  show m (c.tc.loc main_arg0) _ = m (c.tc.loc main_arg0) _
  refine congrArg _ (funext fun a => Fin.ext ?_)
  match a with
  | ⟨0, _⟩ => show win0_0.index t 0 * 128 + 1 * p.val = 128 * t.val + p.val; rw [hi.1]; omega
  | ⟨1, _⟩ => show win0_0.index t 1 * 2048 + 1 * k.val = k.val; rw [hi.2]; omega

theorem block_1 (c : Dev nD) (t : Fin cfg0.N) (p : Fin 128) :
    (fun k : Fin 2048 => (iblk m c 1 t (ix2 p k) : EReal)) = fun k => m (c.tc.loc main_arg1) (ix2 (place t p) k) := by
  funext k
  have hi := (by decide +kernel : ∀ t : Fin grid0.N, win0_1.index t 0 = t.val ∧ win0_1.index t 1 = 0) t
  unfold iblk
  rw [View.read_apply]
  show m (c.tc.loc main_arg1) _ = m (c.tc.loc main_arg1) _
  refine congrArg _ (funext fun a => Fin.ext ?_)
  match a with
  | ⟨0, _⟩ => show win0_1.index t 0 * 128 + 1 * p.val = 128 * t.val + p.val; rw [hi.1]; omega
  | ⟨1, _⟩ => show win0_1.index t 1 * 2048 + 1 * k.val = k.val; rw [hi.2]; omega

theorem block_2 (c : Dev nD) (t : Fin cfg0.N) (p : Fin 128) :
    (fun k : Fin 2048 => (X0_2 m c t (ix2 p k) : EReal)) = fun k => m (c.tc.loc main_arg2) (ix2 (place t p) (col 2 k)) := by
  funext k
  unfold X0_2 Pipeline.Window.fill
  rw [dif_pos (moved0_2 t _)]
  have hi := (by decide +kernel : ∀ t : Fin grid0.N, win0_2.index t 0 = t.val ∧ win0_2.index t 1 = 2) t
  unfold iblk
  rw [View.read_apply]
  show m (c.tc.loc main_arg2) _ = m (c.tc.loc main_arg2) _
  refine congrArg _ (funext fun a => Fin.ext ?_)
  match a with
  | ⟨0, _⟩ => show win0_2.index t 0 * 128 + 1 * p.val = 128 * t.val + p.val; rw [hi.1]; omega
  | ⟨1, _⟩ => show win0_2.index t 1 * 2048 + 1 * k.val = 2048 * 2 + k.val; rw [hi.2]; omega

theorem block_3 (c : Dev nD) (t : Fin cfg0.N) (p : Fin 128) :
    (fun k : Fin 2048 => (X0_3 m c t (ix2 p k) : EReal)) = fun k => m (c.tc.loc main_arg2) (ix2 (place t p) (col 3 k)) := by
  funext k
  unfold X0_3 Pipeline.Window.fill
  rw [dif_pos (moved0_3 t _)]
  have hi := (by decide +kernel : ∀ t : Fin grid0.N, win0_3.index t 0 = t.val ∧ win0_3.index t 1 = 3) t
  unfold iblk
  rw [View.read_apply]
  show m (c.tc.loc main_arg2) _ = m (c.tc.loc main_arg2) _
  refine congrArg _ (funext fun a => Fin.ext ?_)
  match a with
  | ⟨0, _⟩ => show win0_3.index t 0 * 128 + 1 * p.val = 128 * t.val + p.val; rw [hi.1]; omega
  | ⟨1, _⟩ => show win0_3.index t 1 * 2048 + 1 * k.val = 2048 * 3 + k.val; rw [hi.2]; omega

/-- Result 0 in whole. -/
def full_4 (x0 : S2048x2048.Idx → EReal) (x1 : S2048x2048.Idx → EReal) (x2 : S2048x10368.Idx → EReal) : S2048x2048.Idx → EReal := fun j => merged (fun k => x0 (ix2 (j 0) k)) (fun k => x1 (ix2 (j 0) k)) (fun k => x2 (ix2 (j 0) (col 2 k))) (fun k => x2 (ix2 (j 0) (col 3 k))) (j 1)

theorem flushed_eq_4 (c : Dev nD) (t : Fin cfg0.N) :
    (dats m 0 c).flushed 4 t = ((cfg0.win 4).blk t).view.read (Elt Ideal) (full_4 (m (c.tc.loc main_arg0)) (m (c.tc.loc main_arg1)) (m (c.tc.loc main_arg2))) := by
  rw [flushed4_A, left_4]
  funext y
  have hi := (by decide +kernel : ∀ t : Fin grid0.N, win0_4.index t 0 = t.val ∧ win0_4.index t 1 = 0) t
  have e : ((View.whole main_v0).slice ((win0 4).rect t)).emb y = ix2 (place t (y 0)) (y 1) := by
    funext a
    refine Fin.ext ?_
    match a with
    | ⟨0, _⟩ => show win0_4.index t 0 * 128 + 1 * (y 0).val = 128 * t.val + (y 0).val; rw [hi.1]; omega
    | ⟨1, _⟩ => show win0_4.index t 1 * 2048 + 1 * (y 1).val = (y 1).val; rw [hi.2]; omega
  refine (value_4 (iblk m c 0 t) (iblk m c 1 t) (X0_2 m c t) (X0_3 m c t) y).trans ?_
  rw [View.read_apply]
  show _ = full_4 (m (c.tc.loc main_arg0)) (m (c.tc.loc main_arg1)) (m (c.tc.loc main_arg2)) (((View.whole main_v0).slice ((win0 4).rect t)).emb y)
  rw [e]
  have q : ∀ (p : Fin 128) (j : Fin 2048), merged (fun k => iblk m c 0 t (ix2 p k)) (fun k => iblk m c 1 t (ix2 p k)) (fun k => X0_2 m c t (ix2 p k)) (fun k => X0_3 m c t (ix2 p k)) j
      = merged (fun k => m (c.tc.loc main_arg0) (ix2 (place t p) k)) (fun k => m (c.tc.loc main_arg1) (ix2 (place t p) k)) (fun k => m (c.tc.loc main_arg2) (ix2 (place t p) (col 2 k))) (fun k => m (c.tc.loc main_arg2) (ix2 (place t p) (col 3 k))) j := by
    intro p j
    rw [block_0, block_1, block_2, block_3]
  exact q (y 0) (y 1)

theorem covered_4 (i : S2048x2048.Idx) : ∃ t : Fin cfg0.N, (cfg0.win 4).flush t = true ∧ i ∈ ((cfg0.win 4).blk t).view.set := by
  have h0 : (i 0).val < 2048 := (i 0).isLt
  have h1 : (i 1).val < 2048 := (i 1).isLt
  obtain ⟨t, ht, e0, e1⟩ := (by decide +kernel : ∀ p0 : Fin 16, ∃ t : Fin grid0.N, win0_4.flush t = true
    ∧ win0_4.index t 0 = p0.val ∧ win0_4.index t 1 = 0) ⟨(i 0).val / 128, by omega⟩
  refine ⟨t, ht, ?_⟩
  show i ∈ ((View.whole main_v0).slice (win0_4.rect t)).set
  rw [View.set_slice_whole, Rect.mem_set_unit]
  intro a
  match a with
  | ⟨0, _⟩ => show win0_4.index t 0 * 128 ≤ (i 0).val ∧ (i 0).val < win0_4.index t 0 * 128 + 128; rw [e0]; simp only [] <;> omega
  | ⟨1, _⟩ => show win0_4.index t 1 * 2048 ≤ (i 1).val ∧ (i 1).val < win0_4.index t 1 * 2048 + 2048; rw [e1]; omega

/-- Result 0 after the run. -/
theorem final_4 (c : Dev nD) : (dats m 0 c).arrAt 4 cfg0.N = full_4 (m (c.tc.loc main_arg0)) (m (c.tc.loc main_arg1)) (m (c.tc.loc main_arg2)) :=
  (dats m 0 c).arrAt_eq_of_cover 4 _ (fun t _ => flushed_eq_4 m c t) covered_4

/-- The call and its reference leave the same result. -/
theorem algebraic : Cert.algebraic_MergeFwdIdeal_MergeFwdRefIdeal (hMergeFwdIdeal := Cert.MergeFwdIdeal.Gen.facts)
    (hMergeFwdRefIdeal := Cert.MergeFwdRefIdeal.Gen.facts) := by
  intro m g m' g' _ hargs
  refine ⟨fun c => full_4 (m (c.tc.loc main_arg0)) (m (c.tc.loc main_arg1)) (m (c.tc.loc main_arg2)), ?_, ?_⟩
  · refine (θ_run (Cert.MergeFwdIdeal.defs (F := Ideal)) _ _).mono (fun r h c => ?_) (run_blocks m g)
    obtain ⟨h0, k⟩ := h c
    exact ⟨h0.trans (final_4 m c), k⟩
  · refine (θ_run (Cert.MergeFwdRefIdeal.defs (F := Ideal)) _ _).mono (fun r h c => ?_) (Cert.MergeFwdRefIdeal.Value.run (F := Ideal) m' g')
    obtain ⟨h0, k⟩ := h c
    obtain ⟨a0, a1, a2⟩ := hargs c
    refine ⟨h0.trans ?_, k⟩
    · funext j
      rw [a0, a1, a2]
      unfold full_4 merged
      pointwise
      simp only [logistic_eq]
      try rfl

end Cert.MergeFwdIdeal.Value
-- ==== Proof.DnPostFwd.lean ====
/- What follows the gated delta rule: every head's row divided by the root of its mean square, scaled and gated. -/
module

public import proofs.«01_k».proof.Defs
public import proofs.«01_k».proof.Proof.Gen.DnPostFwdIdeal.Value
public import proofs.«01_k».proof.Proof.Gen.DnPostFwdRefIdeal.Run
public import proofs.«01_k».proof.Proof.Rows

@[expose] public section

noncomputable section

namespace Cert.DnPostFwdIdeal.Value

open Cert.DnPostFwdIdeal Cert.DnPostFwdIdeal.Gen Idealize.ShloMosaic Idealize.ShloMosaic.TcCoe Idealize.SL.Sem Cert.Blocks Cert.Rows
open Idealize.ShloMosaic.Pipeline (Dat)

variable (m : (ℓ : Loc nD τ sig) → Buf (Elt Ideal) ℓ)

/-- One head's row, normed, scaled and gated. -/
def gated (o z g : Fin 128 → EReal) (j : Fin 128) : EReal :=
  o j * Ideal.rsqrt (meanSq (Ideal.ofBits .f32 0x43000000#32) o) * g j * (z j * Ideal.logistic (z j))

/-- The head of a column, and the column's place in it. -/
def head (q : Fin 1024) : Fin 8 := ⟨q.val / 128, by omega⟩
def lane (q : Fin 1024) : Fin 128 := ⟨q.val % 128, by omega⟩

/-- A head's column of the projection's gate. -/
def col (h : Fin 8) (k : Fin 128) : Fin 10368 := ⟨3072 + 128 * h.val + k.val, by omega⟩

theorem col_eq (q : Fin 1024) : col (head q) (lane q) = ⟨3072 + q.val, by omega⟩ :=
  Fin.ext (by show 3072 + 128 * (q.val / 128) + q.val % 128 = 3072 + q.val; omega)

/-- The result, element by element. -/
def whole (o : S8x2048x128.Idx → EReal) (p : S2048x10368.Idx → EReal) (g : S1x128.Idx → EReal) : S2048x1024.Idx → EReal := fun i =>
  gated (fun k => o (ix3 (head (i 1)) (i 0) k)) (fun k => p (ix2 (i 0) (col (head (i 1)) k))) (fun k => g (ix2 0 k)) (lane (i 1))

/-- A block of the result, element by element. -/
theorem value (x0 : S1x512x128.Idx → EReal) (x1 : S512x128.Idx → EReal) (x2 : S1x128.Idx → EReal) (y : S512x128.Idx) :
    k0_pay1 (F := Ideal) x0 x1 x2 y = gated (fun k => x0 (ix3 0 (y 0) k)) (fun k => x1 (ix2 (y 0) k)) (fun k => x2 (ix2 0 k)) (y 1) := by
  unfold k0_pay1 gated meanSq
  pointwise

/-- The blocks that a grid point reads and writes. -/
theorem points : ∀ t : Fin grid0.N, win0_0.index t 0 = t.val % 8 ∧ win0_0.index t 1 = t.val / 8 ∧ win0_0.index t 2 = 0
    ∧ win0_1.index t 0 = t.val / 8 ∧ win0_1.index t 1 = 24 + t.val % 8 ∧ win0_2.index t 0 = 0 ∧ win0_2.index t 1 = 0
    ∧ win0_3.index t 0 = t.val / 8 ∧ win0_3.index t 1 = t.val % 8 := by decide +kernel

/-- The row of the whole array that a row of a point's block is, and the point's head. -/
def place (t : Fin cfg0.N) (p : Fin 512) : Fin 2048 := ⟨512 * (t.val / 8) + p.val, by have h := t.isLt; have hN : cfg0.N = 32 := N_0; omega⟩
def headOf (t : Fin cfg0.N) : Fin 8 := ⟨t.val % 8, by omega⟩

theorem block_0 (c : Dev nD) (t : Fin cfg0.N) (p : Fin 512) :
    (fun k : Fin 128 => (iblk m c 0 t (ix3 0 p k) : EReal)) = fun k => m (c.tc.loc main_arg0) (ix3 (headOf t) (place t p) k) := by
  funext k
  obtain ⟨e0, e1, e2, -⟩ := points t
  unfold iblk
  rw [View.read_apply]
  show m (c.tc.loc main_arg0) _ = m (c.tc.loc main_arg0) _
  refine congrArg _ (funext fun a => Fin.ext ?_)
  match a with
  | ⟨0, _⟩ => show win0_0.index t 0 * 1 + 1 * 0 = t.val % 8; rw [e0]; omega
  | ⟨1, _⟩ => show win0_0.index t 1 * 512 + 1 * p.val = 512 * (t.val / 8) + p.val; rw [e1]; omega
  | ⟨2, _⟩ => show win0_0.index t 2 * 128 + 1 * k.val = k.val; rw [e2]; omega

theorem block_1 (c : Dev nD) (t : Fin cfg0.N) (p : Fin 512) :
    (fun k : Fin 128 => (iblk m c 1 t (ix2 p k) : EReal)) = fun k => m (c.tc.loc main_arg1) (ix2 (place t p) (col (headOf t) k)) := by
  funext k
  obtain ⟨-, -, -, e0, e1, -⟩ := points t
  unfold iblk
  rw [View.read_apply]
  show m (c.tc.loc main_arg1) _ = m (c.tc.loc main_arg1) _
  refine congrArg _ (funext fun a => Fin.ext ?_)
  match a with
  | ⟨0, _⟩ => show win0_1.index t 0 * 512 + 1 * p.val = 512 * (t.val / 8) + p.val; rw [e0]; omega
  | ⟨1, _⟩ => show win0_1.index t 1 * 128 + 1 * k.val = 3072 + 128 * (t.val % 8) + k.val; rw [e1]; omega

theorem block_2 (c : Dev nD) (t : Fin cfg0.N) :
    (fun k : Fin 128 => (iblk m c 2 t (ix2 0 k) : EReal)) = fun k => m (c.tc.loc main_arg2) (ix2 0 k) := by
  funext k
  obtain ⟨-, -, -, -, -, e0, e1, -⟩ := points t
  unfold iblk
  rw [View.read_apply]
  show m (c.tc.loc main_arg2) _ = m (c.tc.loc main_arg2) _
  refine congrArg _ (funext fun a => Fin.ext ?_)
  match a with
  | ⟨0, _⟩ => show win0_2.index t 0 * 1 + 1 * 0 = 0; rw [e0]
  | ⟨1, _⟩ => show win0_2.index t 1 * 128 + 1 * k.val = k.val; rw [e1]; omega

/-- What a point writes back is its block of the result. -/
theorem flushed_eq (c : Dev nD) (t : Fin cfg0.N) :
    (dats m 0 c).flushed 3 t = ((cfg0.win 3).blk t).view.read (Elt Ideal) (whole (m (c.tc.loc main_arg0)) (m (c.tc.loc main_arg1)) (m (c.tc.loc main_arg2))) := by
  rw [flushed3]
  unfold out0_3
  rw [View.canon_unit_zero hz2]
  simp only [View.ld_unit_zero (S := S1x512x128) hz3, View.ld_unit_zero (S := S512x128) hz2, View.ld_unit_zero (S := S1x128) hz2]
  funext y
  obtain ⟨-, -, -, -, -, -, -, e0, e1⟩ := points t
  have hy : (y 1).val < 128 := (y 1).isLt
  have e : ((View.whole main_v0).slice ((win0 3).rect t)).emb y = ix2 (place t (y 0)) (⟨128 * (t.val % 8) + (y 1).val, by omega⟩ : Fin 1024) := by
    funext a
    refine Fin.ext ?_
    match a with
    | ⟨0, _⟩ => show win0_3.index t 0 * 512 + 1 * (y 0).val = 512 * (t.val / 8) + (y 0).val; rw [e0]; omega
    | ⟨1, _⟩ => show win0_3.index t 1 * 128 + 1 * (y 1).val = 128 * (t.val % 8) + (y 1).val; rw [e1]; omega
  refine (value (iblk m c 0 t) (iblk m c 1 t) (iblk m c 2 t) y).trans ?_
  rw [View.read_apply]
  show _ = whole (m (c.tc.loc main_arg0)) (m (c.tc.loc main_arg1)) (m (c.tc.loc main_arg2)) (((View.whole main_v0).slice ((win0 3).rect t)).emb y)
  rw [e]
  have q : ∀ (p : Fin 512) (j : Fin 128), gated (fun k => iblk m c 0 t (ix3 0 p k)) (fun k => iblk m c 1 t (ix2 p k)) (fun k => iblk m c 2 t (ix2 0 k)) j
      = gated (fun k => m (c.tc.loc main_arg0) (ix3 (headOf t) (place t p) k)) (fun k => m (c.tc.loc main_arg1) (ix2 (place t p) (col (headOf t) k))) (fun k => m (c.tc.loc main_arg2) (ix2 0 k)) j := by
    intro p j
    rw [block_0, block_1, block_2]
  have r : ∀ (j : Fin 128) (h : 128 * (t.val % 8) + j.val < 1024), head ⟨128 * (t.val % 8) + j.val, h⟩ = headOf t ∧ lane ⟨128 * (t.val % 8) + j.val, h⟩ = j :=
    fun j h => ⟨Fin.ext (by show (128 * (t.val % 8) + j.val) / 128 = t.val % 8; omega), Fin.ext (by show (128 * (t.val % 8) + j.val) % 128 = j.val; omega)⟩
  have s : ∀ (p : Fin 2048) (j : Fin 128) (h : 128 * (t.val % 8) + j.val < 1024), whole (m (c.tc.loc main_arg0)) (m (c.tc.loc main_arg1)) (m (c.tc.loc main_arg2)) (ix2 p (⟨128 * (t.val % 8) + j.val, h⟩ : Fin 1024))
      = gated (fun k => m (c.tc.loc main_arg0) (ix3 (headOf t) p k)) (fun k => m (c.tc.loc main_arg1) (ix2 p (col (headOf t) k))) (fun k => m (c.tc.loc main_arg2) (ix2 0 k)) j := by
    intro p j h
    show gated (fun k => m (c.tc.loc main_arg0) (ix3 (head ⟨128 * (t.val % 8) + j.val, h⟩) p k)) (fun k => m (c.tc.loc main_arg1) (ix2 p (col (head ⟨128 * (t.val % 8) + j.val, h⟩) k))) (fun k => m (c.tc.loc main_arg2) (ix2 0 k)) (lane ⟨128 * (t.val % 8) + j.val, h⟩) = _
    rw [(r j h).1, (r j h).2]
  exact (q (y 0) (y 1)).trans (s _ (y 1) _).symm

theorem covered (i : S2048x1024.Idx) : ∃ t : Fin cfg0.N, (cfg0.win 3).flush t = true ∧ i ∈ ((cfg0.win 3).blk t).view.set := by
  have h0 : (i 0).val < 2048 := (i 0).isLt
  have h1 : (i 1).val < 1024 := (i 1).isLt
  obtain ⟨t, ht, e0, e1⟩ := (by decide +kernel : ∀ (p0 : Fin 4) (p1 : Fin 8), ∃ t : Fin grid0.N, win0_3.flush t = true
    ∧ win0_3.index t 0 = p0.val ∧ win0_3.index t 1 = p1.val) ⟨(i 0).val / 512, by omega⟩ ⟨(i 1).val / 128, by omega⟩
  refine ⟨t, ht, ?_⟩
  show i ∈ ((View.whole main_v0).slice (win0_3.rect t)).set
  rw [View.set_slice_whole, Rect.mem_set_unit]
  intro a
  match a with
  | ⟨0, _⟩ => show win0_3.index t 0 * 512 ≤ (i 0).val ∧ (i 0).val < win0_3.index t 0 * 512 + 512; rw [e0]; simp only [] <;> omega
  | ⟨1, _⟩ => show win0_3.index t 1 * 128 ≤ (i 1).val ∧ (i 1).val < win0_3.index t 1 * 128 + 128; rw [e1]; simp only [] <;> omega

/-- The result after the run. -/
theorem final (c : Dev nD) : (dats m 0 c).arrAt 3 cfg0.N = whole (m (c.tc.loc main_arg0)) (m (c.tc.loc main_arg1)) (m (c.tc.loc main_arg2)) :=
  (dats m 0 c).arrAt_eq_of_cover 3 _ (fun t _ => flushed_eq m c t) covered

/-- The call and its reference leave the same result. -/
theorem algebraic : Cert.algebraic_DnPostFwdIdeal_DnPostFwdRefIdeal (hDnPostFwdIdeal := Cert.DnPostFwdIdeal.Gen.facts)
    (hDnPostFwdRefIdeal := Cert.DnPostFwdRefIdeal.Gen.facts) := by
  intro m g m' g' _ hargs
  refine ⟨fun c => whole (m (c.tc.loc main_arg0)) (m (c.tc.loc main_arg1)) (m (c.tc.loc main_arg2)), ?_, ?_⟩
  · refine (θ_run (Cert.DnPostFwdIdeal.defs (F := Ideal)) _ _).mono (fun r h c => ?_) (run_blocks m g)
    obtain ⟨h0, k⟩ := h c
    exact ⟨h0.trans (final m c), k⟩
  · refine (θ_run (Cert.DnPostFwdRefIdeal.defs (F := Ideal)) _ _).mono (fun r h c => ?_) (Cert.DnPostFwdRefIdeal.Value.run (F := Ideal) m' g')
    obtain ⟨h0, k⟩ := h c
    obtain ⟨a0, a1, a2⟩ := hargs c
    refine ⟨h0.trans ?_, k⟩
    funext j
    rw [a0, a1, a2]
    unfold whole gated meanSq
    pointwise
    simp only [logistic_eq]
    have e := col_eq (j 1)
    rw [e]
    rfl

end Cert.DnPostFwdIdeal.Value
-- ==== Proof.AdaMod.lean ====
/- The conditioning product: every element of the result is the activated condition's row times the weight's column, and
   the bias. -/
module

public import proofs.«01_k».proof.Defs
public import proofs.«01_k».proof.Proof.Gen.AdaModIdeal.Value
public import proofs.«01_k».proof.Proof.Gen.AdaModRefIdeal.Run
public import proofs.«01_k».proof.Proof.Rows

@[expose] public section

noncomputable section

namespace Cert.AdaModIdeal.Value

open Cert.AdaModIdeal Cert.AdaModIdeal.Gen Idealize.ShloMosaic Idealize.ShloMosaic.TcCoe Idealize.SL.Sem Cert.Blocks Cert.Rows
open Idealize.ShloMosaic.Pipeline (Dat)

variable (m : (ℓ : Loc nD τ sig) → Buf (Elt Ideal) ℓ)

/-- One element: an activated row times a column, and the bias. -/
def element (a w : Fin 2048 → EReal) (b : EReal) : EReal := (∑ k, a k * Ideal.logistic (a k) * w k) + b

/-- The result, element by element. -/
def whole (a : S8x2048.Idx → EReal) (w : S2048x3072.Idx → EReal) (b : S1x3072.Idx → EReal) : S8x3072.Idx → EReal := fun i =>
  element (fun k => a (ix2 (i 0) k)) (fun k => w (ix2 k (i 1))) (b (ix2 0 (i 1)))

/-- A block of the result, element by element. -/
theorem value (x0 : S8x2048.Idx → EReal) (x1 : S2048x512.Idx → EReal) (x2 : S1x512.Idx → EReal) (y : S8x512.Idx) :
    k0_pay1 (F := Ideal) x0 x1 x2 y = element (fun k => x0 (ix2 (y 0) k)) (fun k => x1 (ix2 k (y 1))) (x2 (ix2 0 (y 1))) := by
  unfold k0_pay1 element
  pointwise

/-- The column of the whole result that a column of a point's block is. -/
def place (t : Fin cfg0.N) (p : Fin 512) : Fin 3072 := ⟨512 * t.val + p.val, by have h := t.isLt; have hN : cfg0.N = 6 := N_0; omega⟩

theorem points : ∀ t : Fin grid0.N, win0_0.index t 0 = 0 ∧ win0_0.index t 1 = 0 ∧ win0_1.index t 0 = 0 ∧ win0_1.index t 1 = t.val
    ∧ win0_2.index t 0 = 0 ∧ win0_2.index t 1 = t.val ∧ win0_3.index t 0 = 0 ∧ win0_3.index t 1 = t.val := by decide +kernel

theorem block_0 (c : Dev nD) (t : Fin cfg0.N) (p : Fin 8) :
    (fun k : Fin 2048 => (iblk m c 0 t (ix2 p k) : EReal)) = fun k => m (c.tc.loc main_arg0) (ix2 p k) := by
  funext k
  unfold iblk
  rw [View.read_apply]
  show m (c.tc.loc main_arg0) _ = m (c.tc.loc main_arg0) _
  refine congrArg _ (funext fun a => Fin.ext ?_)
  match a with
  | ⟨0, _⟩ => show win0_0.index t 0 * 8 + 1 * p.val = p.val; rw [(points t).1]; omega
  | ⟨1, _⟩ => show win0_0.index t 1 * 2048 + 1 * k.val = k.val; rw [(points t).2.1]; omega

theorem block_1 (c : Dev nD) (t : Fin cfg0.N) (p : Fin 512) :
    (fun k : Fin 2048 => (iblk m c 1 t (ix2 k p) : EReal)) = fun k => m (c.tc.loc main_arg1) (ix2 k (place t p)) := by
  funext k
  unfold iblk
  rw [View.read_apply]
  show m (c.tc.loc main_arg1) _ = m (c.tc.loc main_arg1) _
  refine congrArg _ (funext fun a => Fin.ext ?_)
  match a with
  | ⟨0, _⟩ => show win0_1.index t 0 * 2048 + 1 * k.val = k.val; rw [(points t).2.2.1]; omega
  | ⟨1, _⟩ => show win0_1.index t 1 * 512 + 1 * p.val = 512 * t.val + p.val; rw [(points t).2.2.2.1]; omega

theorem block_2 (c : Dev nD) (t : Fin cfg0.N) (p : Fin 512) :
    (iblk m c 2 t (ix2 0 p) : EReal) = m (c.tc.loc main_arg2) (ix2 0 (place t p)) := by
  unfold iblk
  rw [View.read_apply]
  show m (c.tc.loc main_arg2) _ = m (c.tc.loc main_arg2) _
  refine congrArg _ (funext fun a => Fin.ext ?_)
  match a with
  | ⟨0, _⟩ => show win0_2.index t 0 * 1 + 1 * 0 = 0; rw [(points t).2.2.2.2.1]
  | ⟨1, _⟩ => show win0_2.index t 1 * 512 + 1 * p.val = 512 * t.val + p.val; rw [(points t).2.2.2.2.2.1]; omega

/-- What a point writes back is its block of the result. -/
theorem flushed_eq (c : Dev nD) (t : Fin cfg0.N) :
    (dats m 0 c).flushed 3 t = ((cfg0.win 3).blk t).view.read (Elt Ideal) (whole (m (c.tc.loc main_arg0)) (m (c.tc.loc main_arg1)) (m (c.tc.loc main_arg2))) := by
  rw [flushed3]
  unfold out0_3
  rw [View.canon_unit_zero hz2]
  simp only [View.ld_unit_zero (S := S8x2048) hz2, View.ld_unit_zero (S := S2048x512) hz2, View.ld_unit_zero (S := S1x512) hz2]
  funext y
  have e : ((View.whole main_v0).slice ((win0 3).rect t)).emb y = ix2 (y 0) (place t (y 1)) := by
    funext a
    refine Fin.ext ?_
    match a with
    | ⟨0, _⟩ => show win0_3.index t 0 * 8 + 1 * (y 0).val = (y 0).val; rw [(points t).2.2.2.2.2.2.1]; omega
    | ⟨1, _⟩ => show win0_3.index t 1 * 512 + 1 * (y 1).val = 512 * t.val + (y 1).val; rw [(points t).2.2.2.2.2.2.2]; omega
  refine (value (iblk m c 0 t) (iblk m c 1 t) (iblk m c 2 t) y).trans ?_
  rw [View.read_apply]
  show _ = whole (m (c.tc.loc main_arg0)) (m (c.tc.loc main_arg1)) (m (c.tc.loc main_arg2)) (((View.whole main_v0).slice ((win0 3).rect t)).emb y)
  rw [e]
  have q : ∀ (p : Fin 8) (j : Fin 512), element (fun k => iblk m c 0 t (ix2 p k)) (fun k => iblk m c 1 t (ix2 k j)) (iblk m c 2 t (ix2 0 j))
      = element (fun k => m (c.tc.loc main_arg0) (ix2 p k)) (fun k => m (c.tc.loc main_arg1) (ix2 k (place t j))) (m (c.tc.loc main_arg2) (ix2 0 (place t j))) := by
    intro p j
    rw [block_0, block_1, block_2]
  exact q (y 0) (y 1)

theorem covered (i : S8x3072.Idx) : ∃ t : Fin cfg0.N, (cfg0.win 3).flush t = true ∧ i ∈ ((cfg0.win 3).blk t).view.set := by
  have h0 : (i 0).val < 8 := (i 0).isLt
  have h1 : (i 1).val < 3072 := (i 1).isLt
  obtain ⟨t, ht, e0, e1⟩ := (by decide +kernel : ∀ p0 : Fin 6, ∃ t : Fin grid0.N, win0_3.flush t = true
    ∧ win0_3.index t 0 = 0 ∧ win0_3.index t 1 = p0.val) ⟨(i 1).val / 512, by omega⟩
  refine ⟨t, ht, ?_⟩
  show i ∈ ((View.whole main_v0).slice (win0_3.rect t)).set
  rw [View.set_slice_whole, Rect.mem_set_unit]
  intro a
  match a with
  | ⟨0, _⟩ => show win0_3.index t 0 * 8 ≤ (i 0).val ∧ (i 0).val < win0_3.index t 0 * 8 + 8; rw [e0]; omega
  | ⟨1, _⟩ => show win0_3.index t 1 * 512 ≤ (i 1).val ∧ (i 1).val < win0_3.index t 1 * 512 + 512; rw [e1]; simp only [] <;> omega

/-- The result after the run. -/
theorem final (c : Dev nD) : (dats m 0 c).arrAt 3 cfg0.N = whole (m (c.tc.loc main_arg0)) (m (c.tc.loc main_arg1)) (m (c.tc.loc main_arg2)) :=
  (dats m 0 c).arrAt_eq_of_cover 3 _ (fun t _ => flushed_eq m c t) covered

/-- The call and its reference leave the same result. -/
theorem algebraic : Cert.algebraic_AdaModIdeal_AdaModRefIdeal (hAdaModIdeal := Cert.AdaModIdeal.Gen.facts)
    (hAdaModRefIdeal := Cert.AdaModRefIdeal.Gen.facts) := by
  intro m g m' g' _ hargs
  refine ⟨fun c => whole (m (c.tc.loc main_arg0)) (m (c.tc.loc main_arg1)) (m (c.tc.loc main_arg2)), ?_, ?_⟩
  · refine (θ_run (Cert.AdaModIdeal.defs (F := Ideal)) _ _).mono (fun r h c => ?_) (run_blocks m g)
    obtain ⟨h0, k⟩ := h c
    exact ⟨h0.trans (final m c), k⟩
  · refine (θ_run (Cert.AdaModRefIdeal.defs (F := Ideal)) _ _).mono (fun r h c => ?_) (Cert.AdaModRefIdeal.Value.run (F := Ideal) m' g')
    obtain ⟨h0, k⟩ := h c
    obtain ⟨a0, a1, a2⟩ := hargs c
    refine ⟨h0.trans ?_, k⟩
    funext j
    rw [a0, a1, a2]
    unfold whole element
    pointwise
    simp only [logistic_eq]
    try rfl

end Cert.AdaModIdeal.Value
-- ==== Proof.lean ====
/- The claims of this directory, put together: the frames of every program, the readings that preserve the
   programs' text, and the value claims, one module of proof/Proof/ for each. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.UpDx.Frame
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.UpDx
public import proofs.«01_k».proof.Proof.Gen.UpDw.Frame
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.UpDw
public import proofs.«01_k».proof.Proof.Gen.InDx.Frame
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Run
public import proofs.«01_k».proof.Proof.InDx
public import proofs.«01_k».proof.Proof.Gen.InDw.Frame
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Run
public import proofs.«01_k».proof.Proof.InDw
public import proofs.«01_k».proof.Proof.Gen.DownDx.Frame
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.DownDx
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.DownDw
public import proofs.«01_k».proof.Proof.Gen.OutDx.Frame
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.OutDx
public import proofs.«01_k».proof.Proof.Gen.OutDw.Frame
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.OutDw
public import proofs.«01_k».proof.Proof.Gen.BranchDx.Frame
public import proofs.«01_k».proof.Proof.Gen.BranchDxIdeal.Frame
public import proofs.«01_k».proof.Proof.Gen.BranchDxIdeal.Value
public import proofs.«01_k».proof.Proof.Gen.BranchDxRefIdeal
public import proofs.«01_k».proof.Proof.Gen.BranchDxRefIdeal.Run
public import proofs.«01_k».proof.Proof.BranchDx
public import proofs.«01_k».proof.Proof.Gen.BranchDw.Frame
public import proofs.«01_k».proof.Proof.Gen.BranchDwIdeal.Frame
public import proofs.«01_k».proof.Proof.Gen.BranchDwIdeal.Value
public import proofs.«01_k».proof.Proof.Gen.BranchDwRefIdeal
public import proofs.«01_k».proof.Proof.Gen.BranchDwRefIdeal.Run
public import proofs.«01_k».proof.Proof.BranchDw
public import proofs.«01_k».proof.Proof.Gen.In.Frame
public import proofs.«01_k».proof.Proof.Gen.InIdeal.Frame
public import proofs.«01_k».proof.Proof.Gen.InIdeal.Value
public import proofs.«01_k».proof.Proof.Gen.InRefIdeal
public import proofs.«01_k».proof.Proof.Gen.InRefIdeal.Run
public import proofs.«01_k».proof.Proof.In
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Up
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Down
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Out
public import proofs.«01_k».proof.Proof.Gen.Branch.Frame
public import proofs.«01_k».proof.Proof.Gen.BranchIdeal.Frame
public import proofs.«01_k».proof.Proof.Gen.BranchIdeal.Value
public import proofs.«01_k».proof.Proof.Gen.BranchRefIdeal
public import proofs.«01_k».proof.Proof.Gen.BranchRefIdeal.Run
public import proofs.«01_k».proof.Proof.Branch
public import proofs.«01_k».proof.Proof.Gen.StepIn.Frame
public import proofs.«01_k».proof.Proof.Gen.StepInIdeal.Frame
public import proofs.«01_k».proof.Proof.Gen.StepInIdeal.Value
public import proofs.«01_k».proof.Proof.Gen.StepInRefIdeal
public import proofs.«01_k».proof.Proof.Gen.StepInRefIdeal.Run
public import proofs.«01_k».proof.Proof.StepIn
public import proofs.«01_k».proof.Proof.Gen.StepAda.Frame
public import proofs.«01_k».proof.Proof.Gen.StepAdaIdeal.Frame
public import proofs.«01_k».proof.Proof.Gen.StepAdaIdeal.Value
public import proofs.«01_k».proof.Proof.Gen.StepAdaRefIdeal
public import proofs.«01_k».proof.Proof.Gen.StepAdaRefIdeal.Run
public import proofs.«01_k».proof.Proof.StepAda
public import proofs.«01_k».proof.Proof.Gen.StepBranch.Frame
public import proofs.«01_k».proof.Proof.Gen.StepBranchIdeal.Frame
public import proofs.«01_k».proof.Proof.Gen.StepBranchIdeal.Value
public import proofs.«01_k».proof.Proof.Gen.StepBranchRefIdeal
public import proofs.«01_k».proof.Proof.Gen.StepBranchRefIdeal.Run
public import proofs.«01_k».proof.Proof.StepBranch
public import proofs.«01_k».proof.Proof.Gen.StepOut.Frame
public import proofs.«01_k».proof.Proof.Gen.StepOutIdeal.Frame
public import proofs.«01_k».proof.Proof.Gen.StepOutIdeal.Value
public import proofs.«01_k».proof.Proof.Gen.StepOutRefIdeal
public import proofs.«01_k».proof.Proof.Gen.StepOutRefIdeal.Run
public import proofs.«01_k».proof.Proof.StepOut
public import proofs.«01_k».proof.Proof.Gen.StepUp.Frame
public import proofs.«01_k».proof.Proof.Gen.StepUpIdeal.Frame
public import proofs.«01_k».proof.Proof.Gen.StepUpIdeal.Value
public import proofs.«01_k».proof.Proof.Gen.StepUpRefIdeal
public import proofs.«01_k».proof.Proof.Gen.StepUpRefIdeal.Run
public import proofs.«01_k».proof.Proof.StepUp
public import proofs.«01_k».proof.Proof.Gen.StepDown.Frame
public import proofs.«01_k».proof.Proof.Gen.StepDownIdeal.Frame
public import proofs.«01_k».proof.Proof.Gen.StepDownIdeal.Value
public import proofs.«01_k».proof.Proof.Gen.StepDownRefIdeal
public import proofs.«01_k».proof.Proof.Gen.StepDownRefIdeal.Run
public import proofs.«01_k».proof.Proof.StepDown
public import proofs.«01_k».proof.Proof.Gen.StepSmall.Frame
public import proofs.«01_k».proof.Proof.Gen.StepSmallIdeal.Frame
public import proofs.«01_k».proof.Proof.Gen.StepSmallIdeal.Value
public import proofs.«01_k».proof.Proof.Gen.StepSmallRefIdeal
public import proofs.«01_k».proof.Proof.Gen.StepSmallRefIdeal.Run
public import proofs.«01_k».proof.Proof.StepSmall
public import proofs.«01_k».proof.Proof.Gen.Norm1Bwd.Frame
public import proofs.«01_k».proof.Proof.Gen.Norm1BwdIdeal.Frame
public import proofs.«01_k».proof.Proof.Gen.Norm1BwdIdeal.Value
public import proofs.«01_k».proof.Proof.Gen.Norm1BwdRefIdeal
public import proofs.«01_k».proof.Proof.Gen.Norm1BwdRefIdeal.Run
public import proofs.«01_k».proof.Proof.Norm1Bwd
public import proofs.«01_k».proof.Proof.Gen.Norm2Bwd.Frame
public import proofs.«01_k».proof.Proof.Gen.Norm2BwdIdeal.Frame
public import proofs.«01_k».proof.Proof.Gen.Norm2BwdIdeal.Value
public import proofs.«01_k».proof.Proof.Gen.Norm2BwdRefIdeal
public import proofs.«01_k».proof.Proof.Gen.Norm2BwdRefIdeal.Run
public import proofs.«01_k».proof.Proof.Norm2Bwd
public import proofs.«01_k».proof.Proof.Gen.LossBwd.Frame
public import proofs.«01_k».proof.Proof.Gen.LossBwdIdeal.Frame
public import proofs.«01_k».proof.Proof.Gen.LossBwdIdeal.Value
public import proofs.«01_k».proof.Proof.Gen.LossBwdRefIdeal
public import proofs.«01_k».proof.Proof.Gen.LossBwdRefIdeal.Run
public import proofs.«01_k».proof.Proof.LossBwd
public import proofs.«01_k».proof.Proof.Gen.CfLnBwd.Frame
public import proofs.«01_k».proof.Proof.Gen.CfLnBwdIdeal.Frame
public import proofs.«01_k».proof.Proof.Gen.CfLnBwdIdeal.Value
public import proofs.«01_k».proof.Proof.Gen.CfLnBwdRefIdeal
public import proofs.«01_k».proof.Proof.Gen.CfLnBwdRefIdeal.Run
public import proofs.«01_k».proof.Proof.CfLnBwd
public import proofs.«01_k».proof.Proof.Gen.AdaDw.Frame
public import proofs.«01_k».proof.Proof.Gen.AdaDwIdeal.Frame
public import proofs.«01_k».proof.Proof.Gen.AdaDwIdeal.Value
public import proofs.«01_k».proof.Proof.Gen.AdaDwRefIdeal
public import proofs.«01_k».proof.Proof.Gen.AdaDwRefIdeal.Run
public import proofs.«01_k».proof.Proof.AdaDw
public import proofs.«01_k».proof.Proof.Gen.SmallSum.Frame
public import proofs.«01_k».proof.Proof.Gen.SmallSumIdeal.Frame
public import proofs.«01_k».proof.Proof.Gen.SmallSumIdeal.Value
public import proofs.«01_k».proof.Proof.Gen.SmallSumRefIdeal
public import proofs.«01_k».proof.Proof.Gen.SmallSumRefIdeal.Run
public import proofs.«01_k».proof.Proof.SmallSum
public import proofs.«01_k».proof.Proof.Gen.Norm1Fwd.Frame
public import proofs.«01_k».proof.Proof.Gen.Norm1FwdIdeal.Frame
public import proofs.«01_k».proof.Proof.Gen.Norm1FwdIdeal.Value
public import proofs.«01_k».proof.Proof.Gen.Norm1FwdRefIdeal
public import proofs.«01_k».proof.Proof.Gen.Norm1FwdRefIdeal.Run
public import proofs.«01_k».proof.Proof.Norm1Fwd
public import proofs.«01_k».proof.Proof.Gen.Norm2Fwd.Frame
public import proofs.«01_k».proof.Proof.Gen.Norm2FwdIdeal.Frame
public import proofs.«01_k».proof.Proof.Gen.Norm2FwdIdeal.Value
public import proofs.«01_k».proof.Proof.Gen.Norm2FwdRefIdeal
public import proofs.«01_k».proof.Proof.Gen.Norm2FwdRefIdeal.Run
public import proofs.«01_k».proof.Proof.Norm2Fwd
public import proofs.«01_k».proof.Proof.Gen.CfLnFwd.Frame
public import proofs.«01_k».proof.Proof.Gen.CfLnFwdIdeal.Frame
public import proofs.«01_k».proof.Proof.Gen.CfLnFwdIdeal.Value
public import proofs.«01_k».proof.Proof.Gen.CfLnFwdRefIdeal
public import proofs.«01_k».proof.Proof.Gen.CfLnFwdRefIdeal.Run
public import proofs.«01_k».proof.Proof.CfLnFwd
public import proofs.«01_k».proof.Proof.Gen.MergeFwd.Frame
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.MergeFwd
public import proofs.«01_k».proof.Proof.Gen.DnPostFwd.Frame
public import proofs.«01_k».proof.Proof.Gen.DnPostFwdIdeal.Frame
public import proofs.«01_k».proof.Proof.Gen.DnPostFwdIdeal.Value
public import proofs.«01_k».proof.Proof.Gen.DnPostFwdRefIdeal
public import proofs.«01_k».proof.Proof.Gen.DnPostFwdRefIdeal.Run
public import proofs.«01_k».proof.Proof.DnPostFwd
public import proofs.«01_k».proof.Proof.Gen.AdaMod.Frame
public import proofs.«01_k».proof.Proof.Gen.AdaModIdeal.Frame
public import proofs.«01_k».proof.Proof.Gen.AdaModIdeal.Value
public import proofs.«01_k».proof.Proof.Gen.AdaModRefIdeal
public import proofs.«01_k».proof.Proof.Gen.AdaModRefIdeal.Run
public import proofs.«01_k».proof.Proof.AdaMod
public import Idealize.ShloMosaic.Adequacy
public import Idealize.ShloMosaic.Init

@[expose] public section

noncomputable section

namespace Cert.Proof

open Idealize.ShloMosaic Idealize.SL.Sem

theorem claim : Cert.Claim := ⟨Cert.Kernel.Gen.facts,
  Cert.KernelIdeal.Gen.facts,
  Cert.UpDx.Gen.facts,
  Cert.UpDxIdeal.Gen.facts,
  Cert.UpDxRefIdeal.Gen.facts,
  Cert.UpDw.Gen.facts,
  Cert.UpDwIdeal.Gen.facts,
  Cert.UpDwRefIdeal.Gen.facts,
  Cert.InDx.Gen.facts,
  Cert.InDxIdeal.Gen.facts,
  Cert.InDxRefIdeal.Gen.facts,
  Cert.InDw.Gen.facts,
  Cert.InDwIdeal.Gen.facts,
  Cert.InDwRefIdeal.Gen.facts,
  Cert.DownDx.Gen.facts,
  Cert.DownDxIdeal.Gen.facts,
  Cert.DownDxRefIdeal.Gen.facts,
  Cert.DownDw.Gen.facts,
  Cert.DownDwIdeal.Gen.facts,
  Cert.DownDwRefIdeal.Gen.facts,
  Cert.OutDx.Gen.facts,
  Cert.OutDxIdeal.Gen.facts,
  Cert.OutDxRefIdeal.Gen.facts,
  Cert.OutDw.Gen.facts,
  Cert.OutDwIdeal.Gen.facts,
  Cert.OutDwRefIdeal.Gen.facts,
  Cert.BranchDx.Gen.facts,
  Cert.BranchDxIdeal.Gen.facts,
  Cert.BranchDxRefIdeal.Gen.facts,
  Cert.BranchDw.Gen.facts,
  Cert.BranchDwIdeal.Gen.facts,
  Cert.BranchDwRefIdeal.Gen.facts,
  Cert.In.Gen.facts,
  Cert.InIdeal.Gen.facts,
  Cert.InRefIdeal.Gen.facts,
  Cert.Up.Gen.facts,
  Cert.UpIdeal.Gen.facts,
  Cert.UpRefIdeal.Gen.facts,
  Cert.Down.Gen.facts,
  Cert.DownIdeal.Gen.facts,
  Cert.DownRefIdeal.Gen.facts,
  Cert.Out.Gen.facts,
  Cert.OutIdeal.Gen.facts,
  Cert.OutRefIdeal.Gen.facts,
  Cert.Branch.Gen.facts,
  Cert.BranchIdeal.Gen.facts,
  Cert.BranchRefIdeal.Gen.facts,
  Cert.StepIn.Gen.facts,
  Cert.StepInIdeal.Gen.facts,
  Cert.StepInRefIdeal.Gen.facts,
  Cert.StepAda.Gen.facts,
  Cert.StepAdaIdeal.Gen.facts,
  Cert.StepAdaRefIdeal.Gen.facts,
  Cert.StepBranch.Gen.facts,
  Cert.StepBranchIdeal.Gen.facts,
  Cert.StepBranchRefIdeal.Gen.facts,
  Cert.StepOut.Gen.facts,
  Cert.StepOutIdeal.Gen.facts,
  Cert.StepOutRefIdeal.Gen.facts,
  Cert.StepUp.Gen.facts,
  Cert.StepUpIdeal.Gen.facts,
  Cert.StepUpRefIdeal.Gen.facts,
  Cert.StepDown.Gen.facts,
  Cert.StepDownIdeal.Gen.facts,
  Cert.StepDownRefIdeal.Gen.facts,
  Cert.StepSmall.Gen.facts,
  Cert.StepSmallIdeal.Gen.facts,
  Cert.StepSmallRefIdeal.Gen.facts,
  Cert.Norm1Bwd.Gen.facts,
  Cert.Norm1BwdIdeal.Gen.facts,
  Cert.Norm1BwdRefIdeal.Gen.facts,
  Cert.Norm2Bwd.Gen.facts,
  Cert.Norm2BwdIdeal.Gen.facts,
  Cert.Norm2BwdRefIdeal.Gen.facts,
  Cert.LossBwd.Gen.facts,
  Cert.LossBwdIdeal.Gen.facts,
  Cert.LossBwdRefIdeal.Gen.facts,
  Cert.CfLnBwd.Gen.facts,
  Cert.CfLnBwdIdeal.Gen.facts,
  Cert.CfLnBwdRefIdeal.Gen.facts,
  Cert.AdaDw.Gen.facts,
  Cert.AdaDwIdeal.Gen.facts,
  Cert.AdaDwRefIdeal.Gen.facts,
  Cert.SmallSum.Gen.facts,
  Cert.SmallSumIdeal.Gen.facts,
  Cert.SmallSumRefIdeal.Gen.facts,
  Cert.Norm1Fwd.Gen.facts,
  Cert.Norm1FwdIdeal.Gen.facts,
  Cert.Norm1FwdRefIdeal.Gen.facts,
  Cert.Norm2Fwd.Gen.facts,
  Cert.Norm2FwdIdeal.Gen.facts,
  Cert.Norm2FwdRefIdeal.Gen.facts,
  Cert.CfLnFwd.Gen.facts,
  Cert.CfLnFwdIdeal.Gen.facts,
  Cert.CfLnFwdRefIdeal.Gen.facts,
  Cert.MergeFwd.Gen.facts,
  Cert.MergeFwdIdeal.Gen.facts,
  Cert.MergeFwdRefIdeal.Gen.facts,
  Cert.DnPostFwd.Gen.facts,
  Cert.DnPostFwdIdeal.Gen.facts,
  Cert.DnPostFwdRefIdeal.Gen.facts,
  Cert.AdaMod.Gen.facts,
  Cert.AdaModIdeal.Gen.facts,
  Cert.AdaModRefIdeal.Gen.facts, by
  exact ⟨fun m ρ _ => Cert.Kernel.Gen.frame m ρ,
    fun m ρ _ => Cert.KernelIdeal.Gen.frame m ρ,
    fun m ρ _ => Cert.UpDx.Gen.frame m ρ,
    fun m ρ _ => Cert.UpDxIdeal.Gen.frame m ρ,
    fun m ρ _ => (θ_run _ _ _).mono (fun r h => ⟨fun c => (h c).2, sem_eq_zero_of_no_sems (by decide) r.2⟩) (Cert.UpDxRefIdeal.Value.run m ρ),
    fun m ρ _ => Cert.UpDw.Gen.frame m ρ,
    fun m ρ _ => Cert.UpDwIdeal.Gen.frame m ρ,
    fun m ρ _ => (θ_run _ _ _).mono (fun r h => ⟨fun c => (h c).2, sem_eq_zero_of_no_sems (by decide) r.2⟩) (Cert.UpDwRefIdeal.Value.run m ρ),
    fun m ρ _ => Cert.InDx.Gen.frame m ρ,
    fun m ρ _ => Cert.InDxIdeal.Gen.frame m ρ,
    fun m ρ _ => (θ_run _ _ _).mono (fun r h => ⟨fun c => (h c).2, sem_eq_zero_of_no_sems (by decide) r.2⟩) (Cert.InDxRefIdeal.Value.run m ρ),
    fun m ρ _ => Cert.InDw.Gen.frame m ρ,
    fun m ρ _ => Cert.InDwIdeal.Gen.frame m ρ,
    fun m ρ _ => (θ_run _ _ _).mono (fun r h => ⟨fun c => (h c).2, sem_eq_zero_of_no_sems (by decide) r.2⟩) (Cert.InDwRefIdeal.Value.run m ρ),
    fun m ρ _ => Cert.DownDx.Gen.frame m ρ,
    fun m ρ _ => Cert.DownDxIdeal.Gen.frame m ρ,
    fun m ρ _ => (θ_run _ _ _).mono (fun r h => ⟨fun c => (h c).2, sem_eq_zero_of_no_sems (by decide) r.2⟩) (Cert.DownDxRefIdeal.Value.run m ρ),
    fun m ρ _ => Cert.DownDw.Gen.frame m ρ,
    fun m ρ _ => Cert.DownDwIdeal.Gen.frame m ρ,
    fun m ρ _ => (θ_run _ _ _).mono (fun r h => ⟨fun c => (h c).2, sem_eq_zero_of_no_sems (by decide) r.2⟩) (Cert.DownDwRefIdeal.Value.run m ρ),
    fun m ρ _ => Cert.OutDx.Gen.frame m ρ,
    fun m ρ _ => Cert.OutDxIdeal.Gen.frame m ρ,
    fun m ρ _ => (θ_run _ _ _).mono (fun r h => ⟨fun c => (h c).2, sem_eq_zero_of_no_sems (by decide) r.2⟩) (Cert.OutDxRefIdeal.Value.run m ρ),
    fun m ρ _ => Cert.OutDw.Gen.frame m ρ,
    fun m ρ _ => Cert.OutDwIdeal.Gen.frame m ρ,
    fun m ρ _ => (θ_run _ _ _).mono (fun r h => ⟨fun c => (h c).2, sem_eq_zero_of_no_sems (by decide) r.2⟩) (Cert.OutDwRefIdeal.Value.run m ρ),
    fun m ρ _ => Cert.BranchDx.Gen.frame m ρ,
    fun m ρ _ => Cert.BranchDxIdeal.Gen.frame m ρ,
    fun m ρ _ => (θ_run _ _ _).mono (fun r h => ⟨fun c => (h c).2, sem_eq_zero_of_no_sems (by decide) r.2⟩) (Cert.BranchDxRefIdeal.Value.run m ρ),
    fun m ρ _ => Cert.BranchDw.Gen.frame m ρ,
    fun m ρ _ => Cert.BranchDwIdeal.Gen.frame m ρ,
    fun m ρ _ => (θ_run _ _ _).mono (fun r h => ⟨fun c => (h c).2, sem_eq_zero_of_no_sems (by decide) r.2⟩) (Cert.BranchDwRefIdeal.Value.run m ρ),
    fun m ρ _ => Cert.In.Gen.frame m ρ,
    fun m ρ _ => Cert.InIdeal.Gen.frame m ρ,
    fun m ρ _ => (θ_run _ _ _).mono (fun r h => ⟨fun c => (h c).2, sem_eq_zero_of_no_sems (by decide) r.2⟩) (Cert.InRefIdeal.Value.run m ρ),
    fun m ρ _ => Cert.Up.Gen.frame m ρ,
    fun m ρ _ => Cert.UpIdeal.Gen.frame m ρ,
    fun m ρ _ => (θ_run _ _ _).mono (fun r h => ⟨fun c => (h c).2, sem_eq_zero_of_no_sems (by decide) r.2⟩) (Cert.UpRefIdeal.Value.run m ρ),
    fun m ρ _ => Cert.Down.Gen.frame m ρ,
    fun m ρ _ => Cert.DownIdeal.Gen.frame m ρ,
    fun m ρ _ => (θ_run _ _ _).mono (fun r h => ⟨fun c => (h c).2, sem_eq_zero_of_no_sems (by decide) r.2⟩) (Cert.DownRefIdeal.Value.run m ρ),
    fun m ρ _ => Cert.Out.Gen.frame m ρ,
    fun m ρ _ => Cert.OutIdeal.Gen.frame m ρ,
    fun m ρ _ => (θ_run _ _ _).mono (fun r h => ⟨fun c => (h c).2, sem_eq_zero_of_no_sems (by decide) r.2⟩) (Cert.OutRefIdeal.Value.run m ρ),
    fun m ρ _ => Cert.Branch.Gen.frame m ρ,
    fun m ρ _ => Cert.BranchIdeal.Gen.frame m ρ,
    fun m ρ _ => (θ_run _ _ _).mono (fun r h => ⟨fun c => (h c).2, sem_eq_zero_of_no_sems (by decide) r.2⟩) (Cert.BranchRefIdeal.Value.run m ρ),
    fun m ρ _ => Cert.StepIn.Gen.frame m ρ,
    fun m ρ _ => Cert.StepInIdeal.Gen.frame m ρ,
    fun m ρ _ => (θ_run _ _ _).mono (fun r h => ⟨fun c => (h c).2.2.2.2, sem_eq_zero_of_no_sems (by decide) r.2⟩) (Cert.StepInRefIdeal.Value.run m ρ),
    fun m ρ _ => Cert.StepAda.Gen.frame m ρ,
    fun m ρ _ => Cert.StepAdaIdeal.Gen.frame m ρ,
    fun m ρ _ => (θ_run _ _ _).mono (fun r h => ⟨fun c => (h c).2.2.2, sem_eq_zero_of_no_sems (by decide) r.2⟩) (Cert.StepAdaRefIdeal.Value.run m ρ),
    fun m ρ _ => Cert.StepBranch.Gen.frame m ρ,
    fun m ρ _ => Cert.StepBranchIdeal.Gen.frame m ρ,
    fun m ρ _ => (θ_run _ _ _).mono (fun r h => ⟨fun c => (h c).2.2.2.2, sem_eq_zero_of_no_sems (by decide) r.2⟩) (Cert.StepBranchRefIdeal.Value.run m ρ),
    fun m ρ _ => Cert.StepOut.Gen.frame m ρ,
    fun m ρ _ => Cert.StepOutIdeal.Gen.frame m ρ,
    fun m ρ _ => (θ_run _ _ _).mono (fun r h => ⟨fun c => (h c).2.2.2.2, sem_eq_zero_of_no_sems (by decide) r.2⟩) (Cert.StepOutRefIdeal.Value.run m ρ),
    fun m ρ _ => Cert.StepUp.Gen.frame m ρ,
    fun m ρ _ => Cert.StepUpIdeal.Gen.frame m ρ,
    fun m ρ _ => (θ_run _ _ _).mono (fun r h => ⟨fun c => (h c).2.2.2.2, sem_eq_zero_of_no_sems (by decide) r.2⟩) (Cert.StepUpRefIdeal.Value.run m ρ),
    fun m ρ _ => Cert.StepDown.Gen.frame m ρ,
    fun m ρ _ => Cert.StepDownIdeal.Gen.frame m ρ,
    fun m ρ _ => (θ_run _ _ _).mono (fun r h => ⟨fun c => (h c).2.2.2.2, sem_eq_zero_of_no_sems (by decide) r.2⟩) (Cert.StepDownRefIdeal.Value.run m ρ),
    fun m ρ _ => Cert.StepSmall.Gen.frame m ρ,
    fun m ρ _ => Cert.StepSmallIdeal.Gen.frame m ρ,
    fun m ρ _ => (θ_run _ _ _).mono (fun r h => ⟨fun c => (h c).2.2.2, sem_eq_zero_of_no_sems (by decide) r.2⟩) (Cert.StepSmallRefIdeal.Value.run m ρ),
    fun m ρ _ => Cert.Norm1Bwd.Gen.frame m ρ,
    fun m ρ _ => Cert.Norm1BwdIdeal.Gen.frame m ρ,
    fun m ρ _ => (θ_run _ _ _).mono (fun r h => ⟨fun c => (h c).2.2.2.2, sem_eq_zero_of_no_sems (by decide) r.2⟩) (Cert.Norm1BwdRefIdeal.Value.run m ρ),
    fun m ρ _ => Cert.Norm2Bwd.Gen.frame m ρ,
    fun m ρ _ => Cert.Norm2BwdIdeal.Gen.frame m ρ,
    fun m ρ _ => (θ_run _ _ _).mono (fun r h => ⟨fun c => (h c).2.2.2.2.2.2, sem_eq_zero_of_no_sems (by decide) r.2⟩) (Cert.Norm2BwdRefIdeal.Value.run m ρ),
    fun m ρ _ => Cert.LossBwd.Gen.frame m ρ,
    fun m ρ _ => Cert.LossBwdIdeal.Gen.frame m ρ,
    fun m ρ _ => (θ_run _ _ _).mono (fun r h => ⟨fun c => (h c).2.2.2.2.2, sem_eq_zero_of_no_sems (by decide) r.2⟩) (Cert.LossBwdRefIdeal.Value.run m ρ),
    fun m ρ _ => Cert.CfLnBwd.Gen.frame m ρ,
    fun m ρ _ => Cert.CfLnBwdIdeal.Gen.frame m ρ,
    fun m ρ _ => (θ_run _ _ _).mono (fun r h => ⟨fun c => (h c).2.2.2, sem_eq_zero_of_no_sems (by decide) r.2⟩) (Cert.CfLnBwdRefIdeal.Value.run m ρ),
    fun m ρ _ => Cert.AdaDw.Gen.frame m ρ,
    fun m ρ _ => Cert.AdaDwIdeal.Gen.frame m ρ,
    fun m ρ _ => (θ_run _ _ _).mono (fun r h => ⟨fun c => (h c).2, sem_eq_zero_of_no_sems (by decide) r.2⟩) (Cert.AdaDwRefIdeal.Value.run m ρ),
    fun m ρ _ => Cert.SmallSum.Gen.frame m ρ,
    fun m ρ _ => Cert.SmallSumIdeal.Gen.frame m ρ,
    fun m ρ _ => (θ_run _ _ _).mono (fun r h => ⟨fun c => (h c).2, sem_eq_zero_of_no_sems (by decide) r.2⟩) (Cert.SmallSumRefIdeal.Value.run m ρ),
    fun m ρ _ => Cert.Norm1Fwd.Gen.frame m ρ,
    fun m ρ _ => Cert.Norm1FwdIdeal.Gen.frame m ρ,
    fun m ρ _ => (θ_run _ _ _).mono (fun r h => ⟨fun c => (h c).2, sem_eq_zero_of_no_sems (by decide) r.2⟩) (Cert.Norm1FwdRefIdeal.Value.run m ρ),
    fun m ρ _ => Cert.Norm2Fwd.Gen.frame m ρ,
    fun m ρ _ => Cert.Norm2FwdIdeal.Gen.frame m ρ,
    fun m ρ _ => (θ_run _ _ _).mono (fun r h => ⟨fun c => (h c).2.2, sem_eq_zero_of_no_sems (by decide) r.2⟩) (Cert.Norm2FwdRefIdeal.Value.run m ρ),
    fun m ρ _ => Cert.CfLnFwd.Gen.frame m ρ,
    fun m ρ _ => Cert.CfLnFwdIdeal.Gen.frame m ρ,
    fun m ρ _ => (θ_run _ _ _).mono (fun r h => ⟨fun c => (h c).2, sem_eq_zero_of_no_sems (by decide) r.2⟩) (Cert.CfLnFwdRefIdeal.Value.run m ρ),
    fun m ρ _ => Cert.MergeFwd.Gen.frame m ρ,
    fun m ρ _ => Cert.MergeFwdIdeal.Gen.frame m ρ,
    fun m ρ _ => (θ_run _ _ _).mono (fun r h => ⟨fun c => (h c).2, sem_eq_zero_of_no_sems (by decide) r.2⟩) (Cert.MergeFwdRefIdeal.Value.run m ρ),
    fun m ρ _ => Cert.DnPostFwd.Gen.frame m ρ,
    fun m ρ _ => Cert.DnPostFwdIdeal.Gen.frame m ρ,
    fun m ρ _ => (θ_run _ _ _).mono (fun r h => ⟨fun c => (h c).2, sem_eq_zero_of_no_sems (by decide) r.2⟩) (Cert.DnPostFwdRefIdeal.Value.run m ρ),
    fun m ρ _ => Cert.AdaMod.Gen.frame m ρ,
    fun m ρ _ => Cert.AdaModIdeal.Gen.frame m ρ,
    fun m ρ _ => (θ_run _ _ _).mono (fun r h => ⟨fun c => (h c).2, sem_eq_zero_of_no_sems (by decide) r.2⟩) (Cert.AdaModRefIdeal.Value.run m ρ),
    trivial,
    trivial,
    Cert.UpDxIdeal.Value.algebraic,
    trivial,
    Cert.UpDwIdeal.Value.algebraic,
    trivial,
    Cert.InDxIdeal.Value.algebraic,
    trivial,
    Cert.InDwIdeal.Value.algebraic,
    trivial,
    Cert.DownDxIdeal.Value.algebraic,
    trivial,
    Cert.DownDwIdeal.Value.algebraic,
    trivial,
    Cert.OutDxIdeal.Value.algebraic,
    trivial,
    Cert.OutDwIdeal.Value.algebraic,
    trivial,
    Cert.BranchDxIdeal.Value.algebraic,
    trivial,
    Cert.BranchDwIdeal.Value.algebraic,
    trivial,
    Cert.InIdeal.Value.algebraic,
    trivial,
    Cert.UpIdeal.Value.algebraic,
    trivial,
    Cert.DownIdeal.Value.algebraic,
    trivial,
    Cert.OutIdeal.Value.algebraic,
    trivial,
    Cert.BranchIdeal.Value.algebraic,
    trivial,
    Cert.StepInIdeal.Value.algebraic,
    trivial,
    Cert.StepAdaIdeal.Value.algebraic,
    trivial,
    Cert.StepBranchIdeal.Value.algebraic,
    trivial,
    Cert.StepOutIdeal.Value.algebraic,
    trivial,
    Cert.StepUpIdeal.Value.algebraic,
    trivial,
    Cert.StepDownIdeal.Value.algebraic,
    trivial,
    Cert.StepSmallIdeal.Value.algebraic,
    trivial,
    Cert.Norm1BwdIdeal.Value.algebraic,
    trivial,
    Cert.Norm2BwdIdeal.Value.algebraic,
    trivial,
    Cert.LossBwdIdeal.Value.algebraic,
    trivial,
    Cert.CfLnBwdIdeal.Value.algebraic,
    trivial,
    Cert.AdaDwIdeal.Value.algebraic,
    trivial,
    Cert.SmallSumIdeal.Value.algebraic,
    trivial,
    Cert.Norm1FwdIdeal.Value.algebraic,
    trivial,
    Cert.Norm2FwdIdeal.Value.algebraic,
    trivial,
    Cert.CfLnFwdIdeal.Value.algebraic,
    trivial,
    Cert.MergeFwdIdeal.Value.algebraic,
    trivial,
    Cert.DnPostFwdIdeal.Value.algebraic,
    trivial,
    Cert.AdaModIdeal.Value.algebraic⟩⟩

end Cert.Proof

end
